-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBRefIdeal (m : (ℓ : Loc Cert.AttnBRefIdeal.nD Cert.AttnBRefIdeal.τ Cert.AttnBRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFRefIdeal (m : (ℓ : Loc Cert.AttnFRefIdeal.nD Cert.AttnFRefIdeal.τ Cert.AttnFRefIdeal.sig) → Buf (Elt Ideal) ℓ) : Prop :=
  True

def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBRefIdeal (m : (ℓ : Loc Cert.PoolBRefIdeal.nD Cert.PoolBRefIdeal.τ Cert.PoolBRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFRefIdeal (m : (ℓ : Loc Cert.PoolFRefIdeal.nD Cert.PoolFRefIdeal.τ Cert.PoolFRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3)
      ∧ r.2.mem ((c.tc : Thread Cert.AttnB.nD Cert.AttnB.τ).loc Cert.AttnB.main_arg4) = m ((c.tc : Thread Cert.AttnB.nD Cert.AttnB.τ).loc Cert.AttnB.main_arg4)
      ∧ r.2.mem ((c.tc : Thread Cert.AttnB.nD Cert.AttnB.τ).loc Cert.AttnB.main_arg5) = m ((c.tc : Thread Cert.AttnB.nD Cert.AttnB.τ).loc Cert.AttnB.main_arg5))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3))
      ∧ r.2.sem = fun _ => 0)

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0)
      ∧ r.2.mem ((c.tc : Thread Cert.PoolB.nD Cert.PoolB.τ).loc Cert.PoolB.main_arg1) = m ((c.tc : Thread Cert.PoolB.nD Cert.PoolB.τ).loc Cert.PoolB.main_arg1)
      ∧ r.2.mem ((c.tc : Thread Cert.PoolB.nD Cert.PoolB.τ).loc Cert.PoolB.main_arg2) = m ((c.tc : Thread Cert.PoolB.nD Cert.PoolB.τ).loc Cert.PoolB.main_arg2)
      ∧ r.2.mem ((c.tc : Thread Cert.PoolB.nD Cert.PoolB.τ).loc Cert.PoolB.main_arg3) = m ((c.tc : Thread Cert.PoolB.nD Cert.PoolB.τ).loc Cert.PoolB.main_arg3))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1)
      ∧ r.2.mem ((c.tc : Thread Cert.PoolBIdeal.nD Cert.PoolBIdeal.τ).loc Cert.PoolBIdeal.main_arg2) = m ((c.tc : Thread Cert.PoolBIdeal.nD Cert.PoolBIdeal.τ).loc Cert.PoolBIdeal.main_arg2)
      ∧ r.2.mem ((c.tc : Thread Cert.PoolBIdeal.nD Cert.PoolBIdeal.τ).loc Cert.PoolBIdeal.main_arg3) = m ((c.tc : Thread Cert.PoolBIdeal.nD Cert.PoolBIdeal.τ).loc Cert.PoolBIdeal.main_arg3))
      ∧ r.2.sem = fun _ => 0)

def quiescent_PoolBRefIdeal [hPoolBRefIdeal : Cert.PoolBRefIdeal.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0)
      ∧ r.2.mem ((c.tc : Thread Cert.PoolBRefIdeal.nD Cert.PoolBRefIdeal.τ).loc Cert.PoolBRefIdeal.main_arg1) = m ((c.tc : Thread Cert.PoolBRefIdeal.nD Cert.PoolBRefIdeal.τ).loc Cert.PoolBRefIdeal.main_arg1)
      ∧ r.2.mem ((c.tc : Thread Cert.PoolBRefIdeal.nD Cert.PoolBRefIdeal.τ).loc Cert.PoolBRefIdeal.main_arg2) = m ((c.tc : Thread Cert.PoolBRefIdeal.nD Cert.PoolBRefIdeal.τ).loc Cert.PoolBRefIdeal.main_arg2)
      ∧ r.2.mem ((c.tc : Thread Cert.PoolBRefIdeal.nD Cert.PoolBRefIdeal.τ).loc Cert.PoolBRefIdeal.main_arg3) = m ((c.tc : Thread Cert.PoolBRefIdeal.nD Cert.PoolBRefIdeal.τ).loc Cert.PoolBRefIdeal.main_arg3))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4)
      ∧ r.2.mem ((c.tc : Thread Cert.Disc.nD Cert.Disc.τ).loc Cert.Disc.main_arg5) = m ((c.tc : Thread Cert.Disc.nD Cert.Disc.τ).loc Cert.Disc.main_arg5)
      ∧ r.2.mem ((c.tc : Thread Cert.Disc.nD Cert.Disc.τ).loc Cert.Disc.main_arg6) = m ((c.tc : Thread Cert.Disc.nD Cert.Disc.τ).loc Cert.Disc.main_arg6)
      ∧ r.2.mem ((c.tc : Thread Cert.Disc.nD Cert.Disc.τ).loc Cert.Disc.main_arg7) = m ((c.tc : Thread Cert.Disc.nD Cert.Disc.τ).loc Cert.Disc.main_arg7)
      ∧ r.2.mem ((c.tc : Thread Cert.Disc.nD Cert.Disc.τ).loc Cert.Disc.main_arg8) = m ((c.tc : Thread Cert.Disc.nD Cert.Disc.τ).loc Cert.Disc.main_arg8))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
      ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
      ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
      ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
      ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4)
      ∧ r.2.mem ((c.tc : Thread Cert.DiscRefIdeal.nD Cert.DiscRefIdeal.τ).loc Cert.DiscRefIdeal.main_arg5) = m ((c.tc : Thread Cert.DiscRefIdeal.nD Cert.DiscRefIdeal.τ).loc Cert.DiscRefIdeal.main_arg5)
      ∧ r.2.mem ((c.tc : Thread Cert.DiscRefIdeal.nD Cert.DiscRefIdeal.τ).loc Cert.DiscRefIdeal.main_arg6) = m ((c.tc : Thread Cert.DiscRefIdeal.nD Cert.DiscRefIdeal.τ).loc Cert.DiscRefIdeal.main_arg6)
      ∧ r.2.mem ((c.tc : Thread Cert.DiscRefIdeal.nD Cert.DiscRefIdeal.τ).loc Cert.DiscRefIdeal.main_arg7) = m ((c.tc : Thread Cert.DiscRefIdeal.nD Cert.DiscRefIdeal.τ).loc Cert.DiscRefIdeal.main_arg7)
      ∧ r.2.mem ((c.tc : Thread Cert.DiscRefIdeal.nD Cert.DiscRefIdeal.τ).loc Cert.DiscRefIdeal.main_arg8) = m ((c.tc : Thread Cert.DiscRefIdeal.nD Cert.DiscRefIdeal.τ).loc Cert.DiscRefIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![32, 1024, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![4, 192, 384]⟩ ⟨3, ![32, 192, 384]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 1024]⟩ ⟨3, ![32, 256, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![96, 128]⟩ ⟨2, ![768, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1056, 128]⟩ ⟨2, ![8448, 128]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v3)) (v2 : Buf (Elt Ideal) (((0 : Dev Cert.ReferenceIdeal.nD).tc : Thread Cert.ReferenceIdeal.nD Cert.ReferenceIdeal.τ).loc Cert.ReferenceIdeal.main_v5)) (v3 : Buf (Elt Ideal) (((0 : Dev Cert.ReferenceIdeal.nD).tc : Thread Cert.ReferenceIdeal.nD Cert.ReferenceIdeal.τ).loc Cert.ReferenceIdeal.main_v7)) (v4 : Buf (Elt Ideal) (((0 : Dev Cert.ReferenceIdeal.nD).tc : Thread Cert.ReferenceIdeal.nD Cert.ReferenceIdeal.τ).loc Cert.ReferenceIdeal.main_v9)) (v5 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![1024, 512]⟩ ⟨2, ![4096, 512]⟩ (Layout.meshBlock [2, 2, 2] ![[0, 1], []] c) v0
          ∧ r.2.mem ((c.tc : Thread Cert.KernelIdeal.nD Cert.KernelIdeal.τ).loc Cert.KernelIdeal.main_v1_1) = Layout.blockN ⟨2, ![192, 384]⟩ ⟨2, ![768, 384]⟩ (Layout.meshBlock [2, 2, 2] ![[0, 1], []] c) v1
          ∧ r.2.mem ((c.tc : Thread Cert.KernelIdeal.nD Cert.KernelIdeal.τ).loc Cert.KernelIdeal.main_v1_2) = Layout.blockN ⟨2, ![256, 512]⟩ ⟨2, ![1024, 512]⟩ (Layout.meshBlock [2, 2, 2] ![[0, 1], []] c) v2
          ∧ r.2.mem ((c.tc : Thread Cert.KernelIdeal.nD Cert.KernelIdeal.τ).loc Cert.KernelIdeal.main_v1_3) = Layout.blockN ⟨2, ![256, 1024]⟩ ⟨2, ![1024, 1024]⟩ (Layout.meshBlock [2, 2, 2] ![[0, 1], []] c) v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_v1_5) = v5
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v3) = v1
          ∧ r.2.mem (((0 : Dev Cert.ReferenceIdeal.nD).tc : Thread Cert.ReferenceIdeal.nD Cert.ReferenceIdeal.τ).loc Cert.ReferenceIdeal.main_v5) = v2
          ∧ r.2.mem (((0 : Dev Cert.ReferenceIdeal.nD).tc : Thread Cert.ReferenceIdeal.nD Cert.ReferenceIdeal.τ).loc Cert.ReferenceIdeal.main_v7) = v3
          ∧ r.2.mem (((0 : Dev Cert.ReferenceIdeal.nD).tc : Thread Cert.ReferenceIdeal.nD Cert.ReferenceIdeal.τ).loc Cert.ReferenceIdeal.main_v9) = v4
          ∧ r.2.mem (((0 : Dev Cert.ReferenceIdeal.nD).tc : Thread Cert.ReferenceIdeal.nD Cert.ReferenceIdeal.τ).loc Cert.ReferenceIdeal.main_v11) = v5
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)) (v2 : (c : Dev Cert.BackIdeal.nD) → Buf (Elt Ideal) ((c.tc : Thread Cert.BackIdeal.nD Cert.BackIdeal.τ).loc Cert.BackIdeal.main_v0_2)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_v0_2) = v2 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v40) = v0 c
          ∧ r.2.mem ((c.tc : Thread Cert.BackRefIdeal.nD Cert.BackRefIdeal.τ).loc Cert.BackRefIdeal.main_v42) = v1 c
          ∧ r.2.mem ((c.tc : Thread Cert.BackRefIdeal.nD Cert.BackRefIdeal.τ).loc Cert.BackRefIdeal.main_v26) = v2 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)) (v5 : (c : Dev Cert.TailIdeal.nD) → Buf (Elt Ideal) ((c.tc : Thread Cert.TailIdeal.nD Cert.TailIdeal.τ).loc Cert.TailIdeal.main_v0_5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_v0_5) = v5 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v67) = v0 c
          ∧ r.2.mem ((c.tc : Thread Cert.TailRefIdeal.nD Cert.TailRefIdeal.τ).loc Cert.TailRefIdeal.main_v68) = v1 c
          ∧ r.2.mem ((c.tc : Thread Cert.TailRefIdeal.nD Cert.TailRefIdeal.τ).loc Cert.TailRefIdeal.main_v69) = v2 c
          ∧ r.2.mem ((c.tc : Thread Cert.TailRefIdeal.nD Cert.TailRefIdeal.τ).loc Cert.TailRefIdeal.main_v54) = v3 c
          ∧ r.2.mem ((c.tc : Thread Cert.TailRefIdeal.nD Cert.TailRefIdeal.τ).loc Cert.TailRefIdeal.main_v40) = v4 c
          ∧ r.2.mem ((c.tc : Thread Cert.TailRefIdeal.nD Cert.TailRefIdeal.τ).loc Cert.TailRefIdeal.main_v70) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7))

def preserves_AttnB_AttnBIdeal : Prop :=
  True

def algebraic_AttnBIdeal_AttnBRefIdeal [hAttnBIdeal : Cert.AttnBIdeal.Facts] [hAttnBRefIdeal : Cert.AttnBRefIdeal.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)
      ∧ m' ((c.tc : Thread Cert.AttnBRefIdeal.nD Cert.AttnBRefIdeal.τ).loc Cert.AttnBRefIdeal.main_arg2) = m ((c.tc : Thread Cert.AttnBIdeal.nD Cert.AttnBIdeal.τ).loc Cert.AttnBIdeal.main_arg2)
      ∧ m' ((c.tc : Thread Cert.AttnBRefIdeal.nD Cert.AttnBRefIdeal.τ).loc Cert.AttnBRefIdeal.main_arg3) = m ((c.tc : Thread Cert.AttnBIdeal.nD Cert.AttnBIdeal.τ).loc Cert.AttnBIdeal.main_arg3)
      ∧ m' ((c.tc : Thread Cert.AttnBRefIdeal.nD Cert.AttnBRefIdeal.τ).loc Cert.AttnBRefIdeal.main_arg4) = m ((c.tc : Thread Cert.AttnBIdeal.nD Cert.AttnBIdeal.τ).loc Cert.AttnBIdeal.main_arg4)
      ∧ m' ((c.tc : Thread Cert.AttnBRefIdeal.nD Cert.AttnBRefIdeal.τ).loc Cert.AttnBRefIdeal.main_arg5) = m ((c.tc : Thread Cert.AttnBIdeal.nD Cert.AttnBIdeal.τ).loc Cert.AttnBIdeal.main_arg5)) →
    ∃ (v0 : (c : Dev Cert.AttnBIdeal.nD) → Buf (Elt Ideal) ((c.tc : Thread Cert.AttnBIdeal.nD Cert.AttnBIdeal.τ).loc Cert.AttnBIdeal.main_v0_0)) (v1 : (c : Dev Cert.AttnBIdeal.nD) → Buf (Elt Ideal) ((c.tc : Thread Cert.AttnBIdeal.nD Cert.AttnBIdeal.τ).loc Cert.AttnBIdeal.main_v0_1)) (v2 : (c : Dev Cert.AttnBIdeal.nD) → Buf (Elt Ideal) ((c.tc : Thread Cert.AttnBIdeal.nD Cert.AttnBIdeal.τ).loc Cert.AttnBIdeal.main_v0_2)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v0_0) = v0 c
          ∧ r.2.mem ((c.tc : Thread Cert.AttnBIdeal.nD Cert.AttnBIdeal.τ).loc Cert.AttnBIdeal.main_v0_1) = v1 c
          ∧ r.2.mem ((c.tc : Thread Cert.AttnBIdeal.nD Cert.AttnBIdeal.τ).loc Cert.AttnBIdeal.main_v0_2) = v2 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
          ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
          ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v53) = v0 c
          ∧ r.2.mem ((c.tc : Thread Cert.AttnBRefIdeal.nD Cert.AttnBRefIdeal.τ).loc Cert.AttnBRefIdeal.main_v46) = v1 c
          ∧ r.2.mem ((c.tc : Thread Cert.AttnBRefIdeal.nD Cert.AttnBRefIdeal.τ).loc Cert.AttnBRefIdeal.main_v51) = v2 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3)
          ∧ r.2.mem ((c.tc : Thread Cert.AttnBRefIdeal.nD Cert.AttnBRefIdeal.τ).loc Cert.AttnBRefIdeal.main_arg4) = m' ((c.tc : Thread Cert.AttnBRefIdeal.nD Cert.AttnBRefIdeal.τ).loc Cert.AttnBRefIdeal.main_arg4)
          ∧ r.2.mem ((c.tc : Thread Cert.AttnBRefIdeal.nD Cert.AttnBRefIdeal.τ).loc Cert.AttnBRefIdeal.main_arg5) = m' ((c.tc : Thread Cert.AttnBRefIdeal.nD Cert.AttnBRefIdeal.τ).loc Cert.AttnBRefIdeal.main_arg5))

def preserves_AttnF_AttnFIdeal : Prop :=
  True

def algebraic_AttnFIdeal_AttnFRefIdeal [hAttnFIdeal : Cert.AttnFIdeal.Facts] [hAttnFRefIdeal : Cert.AttnFRefIdeal.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)) →
    ∃ (v0 : (c : Dev Cert.AttnFIdeal.nD) → Buf (Elt Ideal) ((c.tc : Thread Cert.AttnFIdeal.nD Cert.AttnFIdeal.τ).loc Cert.AttnFIdeal.main_v0_0)) (v1 : (c : Dev Cert.AttnFIdeal.nD) → Buf (Elt Ideal) ((c.tc : Thread Cert.AttnFIdeal.nD Cert.AttnFIdeal.τ).loc Cert.AttnFIdeal.main_v0_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v0_0) = v0 c
          ∧ r.2.mem ((c.tc : Thread Cert.AttnFIdeal.nD Cert.AttnFIdeal.τ).loc Cert.AttnFIdeal.main_v0_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v40) = v0 c
          ∧ r.2.mem ((c.tc : Thread Cert.AttnFRefIdeal.nD Cert.AttnFRefIdeal.τ).loc Cert.AttnFRefIdeal.main_v42) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3))

def preserves_PoolB_PoolBIdeal : Prop :=
  True

def algebraic_PoolBIdeal_PoolBRefIdeal [hPoolBIdeal : Cert.PoolBIdeal.Facts] [hPoolBRefIdeal : Cert.PoolBRefIdeal.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBRefIdeal.nD Cert.PoolBRefIdeal.τ Cert.PoolBRefIdeal.sig) → Buf (Elt Ideal) ℓ) (g' : Dev Cert.PoolBRefIdeal.nD → PrngReg), Pre_PoolBIdeal m →
    (∀ c : Dev Cert.PoolBIdeal.nD,
      m' ((c.tc : Thread Cert.PoolBRefIdeal.nD Cert.PoolBRefIdeal.τ).loc Cert.PoolBRefIdeal.main_arg0) = m ((c.tc : Thread Cert.PoolBIdeal.nD Cert.PoolBIdeal.τ).loc Cert.PoolBIdeal.main_arg0)
      ∧ m' ((c.tc : Thread Cert.PoolBRefIdeal.nD Cert.PoolBRefIdeal.τ).loc Cert.PoolBRefIdeal.main_arg1) = m ((c.tc : Thread Cert.PoolBIdeal.nD Cert.PoolBIdeal.τ).loc Cert.PoolBIdeal.main_arg1)
      ∧ m' ((c.tc : Thread Cert.PoolBRefIdeal.nD Cert.PoolBRefIdeal.τ).loc Cert.PoolBRefIdeal.main_arg2) = m ((c.tc : Thread Cert.PoolBIdeal.nD Cert.PoolBIdeal.τ).loc Cert.PoolBIdeal.main_arg2)
      ∧ m' ((c.tc : Thread Cert.PoolBRefIdeal.nD Cert.PoolBRefIdeal.τ).loc Cert.PoolBRefIdeal.main_arg3) = m ((c.tc : Thread Cert.PoolBIdeal.nD Cert.PoolBIdeal.τ).loc Cert.PoolBIdeal.main_arg3)) →
    ∃ (v0 : (c : Dev Cert.PoolBIdeal.nD) → Buf (Elt Ideal) ((c.tc : Thread Cert.PoolBIdeal.nD Cert.PoolBIdeal.τ).loc Cert.PoolBIdeal.main_v0_0)) (v1 : (c : Dev Cert.PoolBIdeal.nD) → Buf (Elt Ideal) ((c.tc : Thread Cert.PoolBIdeal.nD Cert.PoolBIdeal.τ).loc Cert.PoolBIdeal.main_v0_1)) (v2 : (c : Dev Cert.PoolBIdeal.nD) → Buf (Elt Ideal) ((c.tc : Thread Cert.PoolBIdeal.nD Cert.PoolBIdeal.τ).loc Cert.PoolBIdeal.main_v0_2)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          r.2.mem ((c.tc : Thread Cert.PoolBIdeal.nD Cert.PoolBIdeal.τ).loc Cert.PoolBIdeal.main_v0_0) = v0 c
          ∧ r.2.mem ((c.tc : Thread Cert.PoolBIdeal.nD Cert.PoolBIdeal.τ).loc Cert.PoolBIdeal.main_v0_1) = v1 c
          ∧ r.2.mem ((c.tc : Thread Cert.PoolBIdeal.nD Cert.PoolBIdeal.τ).loc Cert.PoolBIdeal.main_v0_2) = v2 c
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
          ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1)
          ∧ r.2.mem ((c.tc : Thread Cert.PoolBIdeal.nD Cert.PoolBIdeal.τ).loc Cert.PoolBIdeal.main_arg2) = m ((c.tc : Thread Cert.PoolBIdeal.nD Cert.PoolBIdeal.τ).loc Cert.PoolBIdeal.main_arg2)
          ∧ r.2.mem ((c.tc : Thread Cert.PoolBIdeal.nD Cert.PoolBIdeal.τ).loc Cert.PoolBIdeal.main_arg3) = m ((c.tc : Thread Cert.PoolBIdeal.nD Cert.PoolBIdeal.τ).loc Cert.PoolBIdeal.main_arg3))
      ∧ θ_run (Cert.PoolBRefIdeal.defs (F := Ideal)) (onTc (τ := Cert.PoolBRefIdeal.τ) (Cert.PoolBRefIdeal.main (F := Ideal))) ⟨m', fun _ => 0, g'⟩ (fun r => ∀ c : Dev Cert.PoolBRefIdeal.nD,
          r.2.mem ((c.tc : Thread Cert.PoolBRefIdeal.nD Cert.PoolBRefIdeal.τ).loc Cert.PoolBRefIdeal.main_v117) = v0 c
          ∧ r.2.mem ((c.tc : Thread Cert.PoolBRefIdeal.nD Cert.PoolBRefIdeal.τ).loc Cert.PoolBRefIdeal.main_v11) = v1 c
          ∧ r.2.mem ((c.tc : Thread Cert.PoolBRefIdeal.nD Cert.PoolBRefIdeal.τ).loc Cert.PoolBRefIdeal.main_v7) = v2 c
          ∧ r.2.mem ((c.tc : Thread Cert.PoolBRefIdeal.nD Cert.PoolBRefIdeal.τ).loc Cert.PoolBRefIdeal.main_arg0) = m' ((c.tc : Thread Cert.PoolBRefIdeal.nD Cert.PoolBRefIdeal.τ).loc Cert.PoolBRefIdeal.main_arg0)
          ∧ r.2.mem ((c.tc : Thread Cert.PoolBRefIdeal.nD Cert.PoolBRefIdeal.τ).loc Cert.PoolBRefIdeal.main_arg1) = m' ((c.tc : Thread Cert.PoolBRefIdeal.nD Cert.PoolBRefIdeal.τ).loc Cert.PoolBRefIdeal.main_arg1)
          ∧ r.2.mem ((c.tc : Thread Cert.PoolBRefIdeal.nD Cert.PoolBRefIdeal.τ).loc Cert.PoolBRefIdeal.main_arg2) = m' ((c.tc : Thread Cert.PoolBRefIdeal.nD Cert.PoolBRefIdeal.τ).loc Cert.PoolBRefIdeal.main_arg2)
          ∧ r.2.mem ((c.tc : Thread Cert.PoolBRefIdeal.nD Cert.PoolBRefIdeal.τ).loc Cert.PoolBRefIdeal.main_arg3) = m' ((c.tc : Thread Cert.PoolBRefIdeal.nD Cert.PoolBRefIdeal.τ).loc Cert.PoolBRefIdeal.main_arg3))

def preserves_PoolF_PoolFIdeal : Prop :=
  True

def algebraic_PoolFIdeal_PoolFRefIdeal [hPoolFIdeal : Cert.PoolFIdeal.Facts] [hPoolFRefIdeal : Cert.PoolFRefIdeal.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v0_0)) (v1 : (c : Dev Cert.PoolFIdeal.nD) → Buf (Elt Ideal) ((c.tc : Thread Cert.PoolFIdeal.nD Cert.PoolFIdeal.τ).loc Cert.PoolFIdeal.main_v0_1)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v0_0) = v0 c
          ∧ r.2.mem ((c.tc : Thread Cert.PoolFIdeal.nD Cert.PoolFIdeal.τ).loc Cert.PoolFIdeal.main_v0_1) = v1 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v109) = v0 c
          ∧ r.2.mem ((c.tc : Thread Cert.PoolFRefIdeal.nD Cert.PoolFRefIdeal.τ).loc Cert.PoolFRefIdeal.main_v110) = v1 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)
      ∧ m' ((c.tc : Thread Cert.DiscRefIdeal.nD Cert.DiscRefIdeal.τ).loc Cert.DiscRefIdeal.main_arg5) = m ((c.tc : Thread Cert.DiscIdeal.nD Cert.DiscIdeal.τ).loc Cert.DiscIdeal.main_arg5)
      ∧ m' ((c.tc : Thread Cert.DiscRefIdeal.nD Cert.DiscRefIdeal.τ).loc Cert.DiscRefIdeal.main_arg6) = m ((c.tc : Thread Cert.DiscIdeal.nD Cert.DiscIdeal.τ).loc Cert.DiscIdeal.main_arg6)
      ∧ m' ((c.tc : Thread Cert.DiscRefIdeal.nD Cert.DiscRefIdeal.τ).loc Cert.DiscRefIdeal.main_arg7) = m ((c.tc : Thread Cert.DiscIdeal.nD Cert.DiscIdeal.τ).loc Cert.DiscIdeal.main_arg7)
      ∧ m' ((c.tc : Thread Cert.DiscRefIdeal.nD Cert.DiscRefIdeal.τ).loc Cert.DiscRefIdeal.main_arg8) = m ((c.tc : Thread Cert.DiscIdeal.nD Cert.DiscIdeal.τ).loc Cert.DiscIdeal.main_arg8)) →
    ∃ (v0 : (c : Dev Cert.DiscIdeal.nD) → Buf (Elt Ideal) ((c.tc : Thread Cert.DiscIdeal.nD Cert.DiscIdeal.τ).loc Cert.DiscIdeal.main_v0_0)) (v1 : (c : Dev Cert.DiscIdeal.nD) → Buf (Elt Ideal) ((c.tc : Thread Cert.DiscIdeal.nD Cert.DiscIdeal.τ).loc Cert.DiscIdeal.main_v0_1)) (v2 : (c : Dev Cert.DiscIdeal.nD) → Buf (Elt Ideal) ((c.tc : Thread Cert.DiscIdeal.nD Cert.DiscIdeal.τ).loc Cert.DiscIdeal.main_v0_2)) (v3 : (c : Dev Cert.DiscIdeal.nD) → Buf (Elt Ideal) ((c.tc : Thread Cert.DiscIdeal.nD Cert.DiscIdeal.τ).loc Cert.DiscIdeal.main_v0_3)) (v4 : (c : Dev Cert.DiscIdeal.nD) → Buf (Elt Ideal) ((c.tc : Thread Cert.DiscIdeal.nD Cert.DiscIdeal.τ).loc Cert.DiscIdeal.main_v0_4)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v0_0) = v0 c
          ∧ r.2.mem ((c.tc : Thread Cert.DiscIdeal.nD Cert.DiscIdeal.τ).loc Cert.DiscIdeal.main_v0_1) = v1 c
          ∧ r.2.mem ((c.tc : Thread Cert.DiscIdeal.nD Cert.DiscIdeal.τ).loc Cert.DiscIdeal.main_v0_2) = v2 c
          ∧ r.2.mem ((c.tc : Thread Cert.DiscIdeal.nD Cert.DiscIdeal.τ).loc Cert.DiscIdeal.main_v0_3) = v3 c
          ∧ r.2.mem ((c.tc : Thread Cert.DiscIdeal.nD Cert.DiscIdeal.τ).loc Cert.DiscIdeal.main_v0_4) = v4 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
          ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
          ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
          ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
          ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v115) = v0 c
          ∧ r.2.mem ((c.tc : Thread Cert.DiscRefIdeal.nD Cert.DiscRefIdeal.τ).loc Cert.DiscRefIdeal.main_v111) = v1 c
          ∧ r.2.mem ((c.tc : Thread Cert.DiscRefIdeal.nD Cert.DiscRefIdeal.τ).loc Cert.DiscRefIdeal.main_v121) = v2 c
          ∧ r.2.mem ((c.tc : Thread Cert.DiscRefIdeal.nD Cert.DiscRefIdeal.τ).loc Cert.DiscRefIdeal.main_v62) = v3 c
          ∧ r.2.mem ((c.tc : Thread Cert.DiscRefIdeal.nD Cert.DiscRefIdeal.τ).loc Cert.DiscRefIdeal.main_v55) = v4 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4)
          ∧ r.2.mem ((c.tc : Thread Cert.DiscRefIdeal.nD Cert.DiscRefIdeal.τ).loc Cert.DiscRefIdeal.main_arg5) = m' ((c.tc : Thread Cert.DiscRefIdeal.nD Cert.DiscRefIdeal.τ).loc Cert.DiscRefIdeal.main_arg5)
          ∧ r.2.mem ((c.tc : Thread Cert.DiscRefIdeal.nD Cert.DiscRefIdeal.τ).loc Cert.DiscRefIdeal.main_arg6) = m' ((c.tc : Thread Cert.DiscRefIdeal.nD Cert.DiscRefIdeal.τ).loc Cert.DiscRefIdeal.main_arg6)
          ∧ r.2.mem ((c.tc : Thread Cert.DiscRefIdeal.nD Cert.DiscRefIdeal.τ).loc Cert.DiscRefIdeal.main_arg7) = m' ((c.tc : Thread Cert.DiscRefIdeal.nD Cert.DiscRefIdeal.τ).loc Cert.DiscRefIdeal.main_arg7)
          ∧ r.2.mem ((c.tc : Thread Cert.DiscRefIdeal.nD Cert.DiscRefIdeal.τ).loc Cert.DiscRefIdeal.main_arg8) = m' ((c.tc : Thread Cert.DiscRefIdeal.nD Cert.DiscRefIdeal.τ).loc Cert.DiscRefIdeal.main_arg8))

def Claim : Prop :=
  ∃ (hKernel : Cert.Kernel.Facts) (hKernelIdeal : Cert.KernelIdeal.Facts) (hReferenceIdeal : Cert.ReferenceIdeal.Facts) (hBack : Cert.Back.Facts) (hBackIdeal : Cert.BackIdeal.Facts) (hBackRefIdeal : Cert.BackRefIdeal.Facts) (hTail : Cert.Tail.Facts) (hTailIdeal : Cert.TailIdeal.Facts) (hTailRefIdeal : Cert.TailRefIdeal.Facts) (hAttnB : Cert.AttnB.Facts) (hAttnBIdeal : Cert.AttnBIdeal.Facts) (hAttnBRefIdeal : Cert.AttnBRefIdeal.Facts) (hAttnF : Cert.AttnF.Facts) (hAttnFIdeal : Cert.AttnFIdeal.Facts) (hAttnFRefIdeal : Cert.AttnFRefIdeal.Facts) (hPoolB : Cert.PoolB.Facts) (hPoolBIdeal : Cert.PoolBIdeal.Facts) (hPoolBRefIdeal : Cert.PoolBRefIdeal.Facts) (hPoolF : Cert.PoolF.Facts) (hPoolFIdeal : Cert.PoolFIdeal.Facts) (hPoolFRefIdeal : Cert.PoolFRefIdeal.Facts) (hDisc : Cert.Disc.Facts) (hDiscIdeal : Cert.DiscIdeal.Facts) (hDiscRefIdeal : Cert.DiscRefIdeal.Facts),
    quiescent_Kernel (hKernel := hKernel)
    ∧ quiescent_KernelIdeal (hKernelIdeal := hKernelIdeal)
    ∧ quiescent_ReferenceIdeal (hReferenceIdeal := hReferenceIdeal)
    ∧ quiescent_Back (hBack := hBack)
    ∧ quiescent_BackIdeal (hBackIdeal := hBackIdeal)
    ∧ quiescent_BackRefIdeal (hBackRefIdeal := hBackRefIdeal)
    ∧ quiescent_Tail (hTail := hTail)
    ∧ quiescent_TailIdeal (hTailIdeal := hTailIdeal)
    ∧ quiescent_TailRefIdeal (hTailRefIdeal := hTailRefIdeal)
    ∧ quiescent_AttnB (hAttnB := hAttnB)
    ∧ quiescent_AttnBIdeal (hAttnBIdeal := hAttnBIdeal)
    ∧ quiescent_AttnBRefIdeal (hAttnBRefIdeal := hAttnBRefIdeal)
    ∧ quiescent_AttnF (hAttnF := hAttnF)
    ∧ quiescent_AttnFIdeal (hAttnFIdeal := hAttnFIdeal)
    ∧ quiescent_AttnFRefIdeal (hAttnFRefIdeal := hAttnFRefIdeal)
    ∧ quiescent_PoolB (hPoolB := hPoolB)
    ∧ quiescent_PoolBIdeal (hPoolBIdeal := hPoolBIdeal)
    ∧ quiescent_PoolBRefIdeal (hPoolBRefIdeal := hPoolBRefIdeal)
    ∧ quiescent_PoolF (hPoolF := hPoolF)
    ∧ quiescent_PoolFIdeal (hPoolFIdeal := hPoolFIdeal)
    ∧ quiescent_PoolFRefIdeal (hPoolFRefIdeal := hPoolFRefIdeal)
    ∧ quiescent_Disc (hDisc := hDisc)
    ∧ quiescent_DiscIdeal (hDiscIdeal := hDiscIdeal)
    ∧ quiescent_DiscRefIdeal (hDiscRefIdeal := hDiscRefIdeal)
    ∧ preserves_Kernel_KernelIdeal
    ∧ algebraic_KernelIdeal_ReferenceIdeal (hKernelIdeal := hKernelIdeal) (hReferenceIdeal := hReferenceIdeal)
    ∧ preserves_Back_BackIdeal
    ∧ algebraic_BackIdeal_BackRefIdeal (hBackIdeal := hBackIdeal) (hBackRefIdeal := hBackRefIdeal)
    ∧ preserves_Tail_TailIdeal
    ∧ algebraic_TailIdeal_TailRefIdeal (hTailIdeal := hTailIdeal) (hTailRefIdeal := hTailRefIdeal)
    ∧ preserves_AttnB_AttnBIdeal
    ∧ algebraic_AttnBIdeal_AttnBRefIdeal (hAttnBIdeal := hAttnBIdeal) (hAttnBRefIdeal := hAttnBRefIdeal)
    ∧ preserves_AttnF_AttnFIdeal
    ∧ algebraic_AttnFIdeal_AttnFRefIdeal (hAttnFIdeal := hAttnFIdeal) (hAttnFRefIdeal := hAttnFRefIdeal)
    ∧ preserves_PoolB_PoolBIdeal
    ∧ algebraic_PoolBIdeal_PoolBRefIdeal (hPoolBIdeal := hPoolBIdeal) (hPoolBRefIdeal := hPoolBRefIdeal)
    ∧ preserves_PoolF_PoolFIdeal
    ∧ algebraic_PoolFIdeal_PoolFRefIdeal (hPoolFIdeal := hPoolFIdeal) (hPoolFRefIdeal := hPoolFRefIdeal)
    ∧ preserves_Disc_DiscIdeal
    ∧ algebraic_DiscIdeal_DiscRefIdeal (hDiscIdeal := hDiscIdeal) (hDiscRefIdeal := hDiscRefIdeal)
-- ==== Kernel.lean ====
abbrev S4x1024x512 : Shape := ⟨3, ![4, 1024, 512]⟩
abbrev S4x192x384 : Shape := ⟨3, ![4, 192, 384]⟩
abbrev S4x256x512 : Shape := ⟨3, ![4, 256, 512]⟩
abbrev S4x256x1024 : Shape := ⟨3, ![4, 256, 1024]⟩
abbrev S96x128 : Shape := ⟨2, ![96, 128]⟩
abbrev S1056x128 : Shape := ⟨2, ![1056, 128]⟩
abbrev S1024x512 : Shape := ⟨2, ![1024, 512]⟩
abbrev S192x384 : Shape := ⟨2, ![192, 384]⟩
abbrev S256x512 : Shape := ⟨2, ![256, 512]⟩
abbrev S256x1024 : Shape := ⟨2, ![256, 1024]⟩
abbrev S4x512x512 : Shape := ⟨3, ![4, 512, 512]⟩
abbrev S4x96x384 : Shape := ⟨3, ![4, 96, 384]⟩
abbrev S4x128x512 : Shape := ⟨3, ![4, 128, 512]⟩
abbrev S4x128x1024 : Shape := ⟨3, ![4, 128, 1024]⟩
abbrev S3x512x512 : Shape := ⟨3, ![3, 512, 512]⟩
abbrev S3x96x384 : Shape := ⟨3, ![3, 96, 384]⟩
abbrev S3x128x512 : Shape := ⟨3, ![3, 128, 512]⟩
abbrev S3x128x1024 : Shape := ⟨3, ![3, 128, 1024]⟩
abbrev S48x128 : Shape := ⟨2, ![48, 128]⟩
abbrev S528x128 : Shape := ⟨2, ![528, 128]⟩
abbrev S4x48x128 : Shape := ⟨3, ![4, 48, 128]⟩
abbrev S4x528x128 : Shape := ⟨3, ![4, 528, 128]⟩
abbrev S4 : Shape := ⟨1, ![4]⟩
abbrev S30 : Shape := ⟨1, ![30]⟩
abbrev S_ : Shape := ⟨0, ![]⟩
abbrev S1 : Shape := ⟨1, ![1]⟩
abbrev S1x48x128 : Shape := ⟨3, ![1, 48, 128]⟩
abbrev S1x528x128 : Shape := ⟨3, ![1, 528, 128]⟩
abbrev S1x512x512 : Shape := ⟨3, ![1, 512, 512]⟩
abbrev S512x512 : Shape := ⟨2, ![512, 512]⟩
abbrev S1x96x384 : Shape := ⟨3, ![1, 96, 384]⟩
abbrev S96x384 : Shape := ⟨2, ![96, 384]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩

abbrev nBuf : Space → Nat
  | .hbm => 12
  | .vmem => 28
  | .smem => 0
  | _ => 0

abbrev bufTy : (tb : Table) → Fin (tcTables nBuf tb) → BufTy
  | .hbm, ⟨0, _⟩ => ⟨S4x1024x512, .f32⟩
  | .hbm, ⟨1, _⟩ => ⟨S4x192x384, .f32⟩
  | .hbm, ⟨2, _⟩ => ⟨S4x256x512, .f32⟩
  | .hbm, ⟨3, _⟩ => ⟨S4x256x1024, .f32⟩
  | .hbm, ⟨4, _⟩ => ⟨S96x128, .f32⟩
  | .hbm, ⟨5, _⟩ => ⟨S1056x128, .f32⟩
  | .hbm, ⟨6, _⟩ => ⟨S1024x512, .f32⟩
  | .hbm, ⟨7, _⟩ => ⟨S192x384, .f32⟩
  | .hbm, ⟨8, _⟩ => ⟨S256x512, .f32⟩
  | .hbm, ⟨9, _⟩ => ⟨S256x1024, .f32⟩
  | .hbm, ⟨10, _⟩ => ⟨S96x128, .f32⟩
  | .hbm, ⟨11, _⟩ => ⟨S1056x128, .f32⟩
  | .local _ .vmem, ⟨0, _⟩ => ⟨S96x128, .f32⟩
  | .local _ .vmem, ⟨1, _⟩ => ⟨S1056x128, .f32⟩
  | .local _ .vmem, ⟨2, _⟩ => ⟨S1024x512, .f32⟩
  | .local _ .vmem, ⟨3, _⟩ => ⟨S192x384, .f32⟩
  | .local _ .vmem, ⟨4, _⟩ => ⟨S256x512, .f32⟩
  | .local _ .vmem, ⟨5, _⟩ => ⟨S256x1024, .f32⟩
  | .local _ .vmem, ⟨6, _⟩ => ⟨S96x128, .f32⟩
  | .local _ .vmem, ⟨7, _⟩ => ⟨S1056x128, .f32⟩
  | .local _ .vmem, ⟨8, _⟩ => ⟨S4x512x512, .f32⟩
  | .local _ .vmem, ⟨9, _⟩ => ⟨S4x96x384, .f32⟩
  | .local _ .vmem, ⟨10, _⟩ => ⟨S4x128x512, .f32⟩
  | .local _ .vmem, ⟨11, _⟩ => ⟨S4x128x1024, .f32⟩
  | .local _ .vmem, ⟨12, _⟩ => ⟨S4x512x512, .f32⟩
  | .local _ .vmem, ⟨13, _⟩ => ⟨S4x96x384, .f32⟩
  | .local _ .vmem, ⟨14, _⟩ => ⟨S4x128x512, .f32⟩
  | .local _ .vmem, ⟨15, _⟩ => ⟨S4x128x1024, .f32⟩
  | .local _ .vmem, ⟨16, _⟩ => ⟨S3x512x512, .bf16⟩
  | .local _ .vmem, ⟨17, _⟩ => ⟨S3x96x384, .bf16⟩
  | .local _ .vmem, ⟨18, _⟩ => ⟨S3x128x512, .bf16⟩
  | .local _ .vmem, ⟨19, _⟩ => ⟨S3x128x1024, .bf16⟩
  | .local _ .vmem, ⟨20, _⟩ => ⟨S3x512x512, .bf16⟩
  | .local _ .vmem, ⟨21, _⟩ => ⟨S3x96x384, .bf16⟩
  | .local _ .vmem, ⟨22, _⟩ => ⟨S3x128x512, .bf16⟩
  | .local _ .vmem, ⟨23, _⟩ => ⟨S3x128x1024, .bf16⟩
  | .local _ .vmem, ⟨24, _⟩ => ⟨S48x128, .f32⟩
  | .local _ .vmem, ⟨25, _⟩ => ⟨S528x128, .f32⟩
  | .local _ .vmem, ⟨26, _⟩ => ⟨S4x48x128, .f32⟩
  | .local _ .vmem, ⟨27, _⟩ => ⟨S4x528x128, .bf16⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_scratch17 : Ref sig .tc := ⟨.vmem, 25, rfl⟩
abbrev cc0_scratch18 : Ref sig .tc := ⟨.vmem, 26, rfl⟩
abbrev cc0_scratch19 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v17 : BitVec 32 := Scalar.muli v2 c4_i32_10
  let v18 : BitVec 32 := Scalar.addi c0_i32 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v19 : BitVec 32 := Scalar.muli v5 c2_i32_11
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_12 : BitVec 32 := 1#32
  let v21 : BitVec 32 := Scalar.muli v15 c1_i32_12
  let v22 : BitVec 32 := Scalar.addi v20 v21
  v22.toNat
def k0_dev2 (d0 : Dev nD) : Nat :=
  let c0_i32_15 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_14 : BitVec 32 := 4#32
  let v23 : BitVec 32 := Scalar.muli v11 c4_i32_14
  let v24 : BitVec 32 := Scalar.addi c0_i32_15 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v25 : BitVec 32 := Scalar.muli v5 c2_i32_16
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v27 : BitVec 32 := Scalar.muli v8 c1_i32_17
  let v28 : BitVec 32 := Scalar.addi v26 v27
  v28.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_21 : BitVec 32 := 2#32
  let v31 : BitVec 32 := Scalar.muli v12 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
def k0_dev4 (d0 : Dev nD) : Nat :=
  let c0_i32_25 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_24 : BitVec 32 := 4#32
  let v35 : BitVec 32 := Scalar.muli v13 c4_i32_24
  let v36 : BitVec 32 := Scalar.addi c0_i32_25 v35
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_26 : BitVec 32 := 2#32
  let v37 : BitVec 32 := Scalar.muli v14 c2_i32_26
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v39 : BitVec 32 := Scalar.muli v8 c1_i32_27
  let v40 : BitVec 32 := Scalar.addi v38 v39
  v40.toNat
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v41 : BitVec 32 := Scalar.muli v8 c512_i32
  v41
def k0_mult2 (d0 : Dev nD) : BitVec 32 :=
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_29 v8
  let c512_i32_30 : BitVec 32 := 512#32
  let v44 : BitVec 32 := Scalar.muli v43 c512_i32_30
  v44
def k0_off1 (d0 : Dev nD) : Fin 3 → Nat :=
  let c0_i32_32 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v41 : BitVec 32 := Scalar.muli v8 c512_i32
  let v42 : BitVec 32 := v41
  let c0_i32_33 : BitVec 32 := 0#32
  ![0, v42.toNat, 0]
def k0_off2 (d0 : Dev nD) : Fin 3 → Nat :=
  let c0_i32_40 : BitVec 32 := 0#32
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_29 v8
  let c512_i32_30 : BitVec 32 := 512#32
  let v44 : BitVec 32 := Scalar.muli v43 c512_i32_30
  let v45 : BitVec 32 := v44
  let c0_i32_41 : BitVec 32 := 0#32
  ![0, v45.toNat, 0]
def k0_dev5 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v49 : BitVec 32 := Scalar.muli v2 c4_i32_36
  let v50 : BitVec 32 := Scalar.addi c0_i32_37 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v51 : BitVec 32 := Scalar.muli v5 c2_i32_38
  let v52 : BitVec 32 := Scalar.addi v50 v51
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_39 : BitVec 32 := 1#32
  let v53 : BitVec 32 := Scalar.muli v15 c1_i32_39
  let v54 : BitVec 32 := Scalar.addi v52 v53
  v54.toNat
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c96_i32 : BitVec 32 := 96#32
  let v60 : BitVec 32 := Scalar.muli v8 c96_i32
  v60
def k0_mult4 (d0 : Dev nD) : BitVec 32 :=
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.subi c1_i32_42 v8
  let c96_i32_43 : BitVec 32 := 96#32
  let v63 : BitVec 32 := Scalar.muli v62 c96_i32_43
  v63
def k0_off3 (d0 : Dev nD) : Fin 3 → Nat :=
  let c0_i32_45 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c96_i32 : BitVec 32 := 96#32
  let v60 : BitVec 32 := Scalar.muli v8 c96_i32
  let v61 : BitVec 32 := v60
  let c0_i32_46 : BitVec 32 := 0#32
  ![0, v61.toNat, 0]
def k0_off4 (d0 : Dev nD) : Fin 3 → Nat :=
  let c0_i32_52 : BitVec 32 := 0#32
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v62 : BitVec 32 := Scalar.subi c1_i32_42 v8
  let c96_i32_43 : BitVec 32 := 96#32
  let v63 : BitVec 32 := Scalar.muli v62 c96_i32_43
  let v64 : BitVec 32 := v63
  let c0_i32_53 : BitVec 32 := 0#32
  ![0, v64.toNat, 0]
def k0_dev6 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v68 : BitVec 32 := Scalar.muli v2 c4_i32_48
  let v69 : BitVec 32 := Scalar.addi c0_i32_49 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v70 : BitVec 32 := Scalar.muli v5 c2_i32_50
  let v71 : BitVec 32 := Scalar.addi v69 v70
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_51 : BitVec 32 := 1#32
  let v72 : BitVec 32 := Scalar.muli v15 c1_i32_51
  let v73 : BitVec 32 := Scalar.addi v71 v72
  v73.toNat
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v79 : BitVec 32 := Scalar.muli v8 c128_i32
  v79
def k0_mult6 (d0 : Dev nD) : BitVec 32 :=
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.subi c1_i32_54 v8
  let c128_i32_55 : BitVec 32 := 128#32
  let v82 : BitVec 32 := Scalar.muli v81 c128_i32_55
  v82
def k0_off5 (d0 : Dev nD) : Fin 3 → Nat :=
  let c0_i32_57 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v79 : BitVec 32 := Scalar.muli v8 c128_i32
  let v80 : BitVec 32 := v79
  let c0_i32_58 : BitVec 32 := 0#32
  ![0, v80.toNat, 0]
def k0_off6 (d0 : Dev nD) : Fin 3 → Nat :=
  let c0_i32_64 : BitVec 32 := 0#32
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.subi c1_i32_54 v8
  let c128_i32_55 : BitVec 32 := 128#32
  let v82 : BitVec 32 := Scalar.muli v81 c128_i32_55
  let v83 : BitVec 32 := v82
  let c0_i32_65 : BitVec 32 := 0#32
  ![0, v83.toNat, 0]
def k0_dev7 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v87 : BitVec 32 := Scalar.muli v2 c4_i32_60
  let v88 : BitVec 32 := Scalar.addi c0_i32_61 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v89 : BitVec 32 := Scalar.muli v5 c2_i32_62
  let v90 : BitVec 32 := Scalar.addi v88 v89
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_63 : BitVec 32 := 1#32
  let v91 : BitVec 32 := Scalar.muli v15 c1_i32_63
  let v92 : BitVec 32 := Scalar.addi v90 v91
  v92.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_66 : BitVec 32 := 128#32
  let v98 : BitVec 32 := Scalar.muli v8 c128_i32_66
  v98
def k0_mult8 (d0 : Dev nD) : BitVec 32 :=
  let c1_i32_67 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_67 v8
  let c128_i32_68 : BitVec 32 := 128#32
  let v101 : BitVec 32 := Scalar.muli v100 c128_i32_68
  v101
def k0_off7 (d0 : Dev nD) : Fin 3 → Nat :=
  let c0_i32_69 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_66 : BitVec 32 := 128#32
  let v98 : BitVec 32 := Scalar.muli v8 c128_i32_66
  let v99 : BitVec 32 := v98
  let c0_i32_70 : BitVec 32 := 0#32
  ![0, v99.toNat, 0]
def k0_off8 (d0 : Dev nD) : Fin 3 → Nat :=
  let c0_i32_76 : BitVec 32 := 0#32
  let c1_i32_67 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_67 v8
  let c128_i32_68 : BitVec 32 := 128#32
  let v101 : BitVec 32 := Scalar.muli v100 c128_i32_68
  let v102 : BitVec 32 := v101
  let c0_i32_77 : BitVec 32 := 0#32
  ![0, v102.toNat, 0]
def k0_dev8 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v106 : BitVec 32 := Scalar.muli v2 c4_i32_72
  let v107 : BitVec 32 := Scalar.addi c0_i32_73 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v108 : BitVec 32 := Scalar.muli v5 c2_i32_74
  let v109 : BitVec 32 := Scalar.addi v107 v108
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_75 : BitVec 32 := 1#32
  let v110 : BitVec 32 := Scalar.muli v15 c1_i32_75
  let v111 : BitVec 32 := Scalar.addi v109 v110
  v111.toNat
def k0_mult9 (d0 : Dev nD) : BitVec 32 :=
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.subi c1_i32_78 v8
  let c48_i32 : BitVec 32 := 48#32
  let v118 : BitVec 32 := Scalar.muli v117 c48_i32
  v118
def k0_off9 (d0 : Dev nD) : Fin 2 → Nat :=
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.subi c1_i32_78 v8
  let c48_i32 : BitVec 32 := 48#32
  let v118 : BitVec 32 := Scalar.muli v117 c48_i32
  let v119 : BitVec 32 := v118
  let c0_i32_84 : BitVec 32 := 0#32
  ![v119.toNat, 0]
def k0_dev9 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v120 : BitVec 32 := Scalar.muli v2 c4_i32_80
  let v121 : BitVec 32 := Scalar.addi c0_i32_81 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v122 : BitVec 32 := Scalar.muli v5 c2_i32_82
  let v123 : BitVec 32 := Scalar.addi v121 v122
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_83 : BitVec 32 := 1#32
  let v124 : BitVec 32 := Scalar.muli v15 c1_i32_83
  let v125 : BitVec 32 := Scalar.addi v123 v124
  v125.toNat
def k0_mult10 (d0 : Dev nD) : BitVec 32 :=
  let c1_i32_85 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.subi c1_i32_85 v8
  let c528_i32 : BitVec 32 := 528#32
  let v132 : BitVec 32 := Scalar.muli v131 c528_i32
  v132
def k0_off10 (d0 : Dev nD) : Fin 2 → Nat :=
  let c1_i32_85 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.subi c1_i32_85 v8
  let c528_i32 : BitVec 32 := 528#32
  let v132 : BitVec 32 := Scalar.muli v131 c528_i32
  let v133 : BitVec 32 := v132
  let c0_i32_91 : BitVec 32 := 0#32
  ![v133.toNat, 0]
def k0_dev10 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v134 : BitVec 32 := Scalar.muli v2 c4_i32_87
  let v135 : BitVec 32 := Scalar.addi c0_i32_88 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v136 : BitVec 32 := Scalar.muli v5 c2_i32_89
  let v137 : BitVec 32 := Scalar.addi v135 v136
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_90 : BitVec 32 := 1#32
  let v138 : BitVec 32 := Scalar.muli v15 c1_i32_90
  let v139 : BitVec 32 := Scalar.addi v137 v138
  v139.toNat
def k0_mult11 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c48_i32_92 : BitVec 32 := 48#32
  let v145 : BitVec 32 := Scalar.muli v8 c48_i32_92
  v145
def k0_off11 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c48_i32_92 : BitVec 32 := 48#32
  let v145 : BitVec 32 := Scalar.muli v8 c48_i32_92
  let v146 : BitVec 32 := v145
  let v156 : Index := Scalar.indexCast v146
  let c0 : Index := 0#32
  ![v156.toNat, 0]
def k0_off12 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v161 : Index := Scalar.indexCast v10
  let c0_102 : Index := 0#32
  let c0_103 : Index := 0#32
  ![v161.toNat, 0, 0]
def k0_off13 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_109 : BitVec 32 := 0#32
  let c0_i32_110 : BitVec 32 := 0#32
  ![v10.toNat, 0, 0]
def k0_dev11 (d0 : Dev nD) : Nat :=
  let c0_i32_106 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_105 : BitVec 32 := 4#32
  let v165 : BitVec 32 := Scalar.muli v11 c4_i32_105
  let v166 : BitVec 32 := Scalar.addi c0_i32_106 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v167 : BitVec 32 := Scalar.muli v5 c2_i32_107
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v169 : BitVec 32 := Scalar.muli v8 c1_i32_108
  let v170 : BitVec 32 := Scalar.addi v168 v169
  v170.toNat
def k0_dev12 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v179 : BitVec 32 := Scalar.muli v2 c4_i32_114
  let v180 : BitVec 32 := Scalar.addi c0_i32_115 v179
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_116 : BitVec 32 := 2#32
  let v181 : BitVec 32 := Scalar.muli v12 c2_i32_116
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v183 : BitVec 32 := Scalar.muli v8 c1_i32_117
  let v184 : BitVec 32 := Scalar.addi v182 v183
  v184.toNat
def k0_dev13 (d0 : Dev nD) : Nat :=
  let c0_i32_124 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_123 : BitVec 32 := 4#32
  let v193 : BitVec 32 := Scalar.muli v13 c4_i32_123
  let v194 : BitVec 32 := Scalar.addi c0_i32_124 v193
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_125 : BitVec 32 := 2#32
  let v195 : BitVec 32 := Scalar.muli v14 c2_i32_125
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v197 : BitVec 32 := Scalar.muli v8 c1_i32_126
  let v198 : BitVec 32 := Scalar.addi v196 v197
  v198.toNat
def k0_mult12 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c528_i32_131 : BitVec 32 := 528#32
  let v207 : BitVec 32 := Scalar.muli v8 c528_i32_131
  v207
def k0_off14 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c528_i32_131 : BitVec 32 := 528#32
  let v207 : BitVec 32 := Scalar.muli v8 c528_i32_131
  let v208 : BitVec 32 := v207
  let v218 : Index := Scalar.indexCast v208
  let c0_139 : Index := 0#32
  ![v218.toNat, 0]
def k0_off15 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v224 : Index := Scalar.indexCast v10
  let c0_142 : Index := 0#32
  let c0_143 : Index := 0#32
  ![v224.toNat, 0, 0]
def k0_off16 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_149 : BitVec 32 := 0#32
  let c0_i32_150 : BitVec 32 := 0#32
  ![v10.toNat, 0, 0]
def k0_dev14 (d0 : Dev nD) : Nat :=
  let c0_i32_146 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_145 : BitVec 32 := 4#32
  let v228 : BitVec 32 := Scalar.muli v11 c4_i32_145
  let v229 : BitVec 32 := Scalar.addi c0_i32_146 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v230 : BitVec 32 := Scalar.muli v5 c2_i32_147
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v232 : BitVec 32 := Scalar.muli v8 c1_i32_148
  let v233 : BitVec 32 := Scalar.addi v231 v232
  v233.toNat
def k0_dev15 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v242 : BitVec 32 := Scalar.muli v2 c4_i32_154
  let v243 : BitVec 32 := Scalar.addi c0_i32_155 v242
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_156 : BitVec 32 := 2#32
  let v244 : BitVec 32 := Scalar.muli v12 c2_i32_156
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v246 : BitVec 32 := Scalar.muli v8 c1_i32_157
  let v247 : BitVec 32 := Scalar.addi v245 v246
  v247.toNat
def k0_dev16 (d0 : Dev nD) : Nat :=
  let c0_i32_164 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_163 : BitVec 32 := 4#32
  let v256 : BitVec 32 := Scalar.muli v13 c4_i32_163
  let v257 : BitVec 32 := Scalar.addi c0_i32_164 v256
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_165 : BitVec 32 := 2#32
  let v258 : BitVec 32 := Scalar.muli v14 c2_i32_165
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v260 : BitVec 32 := Scalar.muli v8 c1_i32_166
  let v261 : BitVec 32 := Scalar.addi v259 v260
  v261.toNat
def k0_off17 (d0 : Dev nD) : Fin 3 → Nat :=
  let c2_i32_182 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v282 : BitVec 32 := Scalar.muli c2_i32_182 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v283 : BitVec 32 := Scalar.addi v282 v5
  let v284 : Index := Scalar.indexCast v283
  let c0_183 : Index := 0#32
  let c0_184 : Index := 0#32
  ![v284.toNat, 0, 0]
def k0_dev17 (d0 : Dev nD) : Nat :=
  let c0_i32_195 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_194 : BitVec 32 := 4#32
  let v295 : BitVec 32 := Scalar.muli v11 c4_i32_194
  let v296 : BitVec 32 := Scalar.addi c0_i32_195 v295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v297 : BitVec 32 := Scalar.muli v5 c2_i32_196
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v299 : BitVec 32 := Scalar.muli v8 c1_i32_197
  let v300 : BitVec 32 := Scalar.addi v298 v299
  v300.toNat
def k0_off18 (d0 : Dev nD) : Fin 3 → Nat :=
  let c2_i32_202 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v309 : BitVec 32 := Scalar.muli c2_i32_202 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v310 : BitVec 32 := Scalar.addi v309 v12
  let v311 : Index := Scalar.indexCast v310
  let c0_203 : Index := 0#32
  let c0_204 : Index := 0#32
  ![v311.toNat, 0, 0]
def k0_dev18 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v322 : BitVec 32 := Scalar.muli v2 c4_i32_213
  let v323 : BitVec 32 := Scalar.addi c0_i32_214 v322
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_215 : BitVec 32 := 2#32
  let v324 : BitVec 32 := Scalar.muli v12 c2_i32_215
  let v325 : BitVec 32 := Scalar.addi v323 v324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v326 : BitVec 32 := Scalar.muli v8 c1_i32_216
  let v327 : BitVec 32 := Scalar.addi v325 v326
  v327.toNat
def k0_off19 (d0 : Dev nD) : Fin 3 → Nat :=
  let c2_i32_221 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v336 : BitVec 32 := Scalar.muli c2_i32_221 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v337 : BitVec 32 := Scalar.addi v336 v14
  let v338 : Index := Scalar.indexCast v337
  let c0_222 : Index := 0#32
  let c0_223 : Index := 0#32
  ![v338.toNat, 0, 0]
def k0_dev19 (d0 : Dev nD) : Nat :=
  let c0_i32_233 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_232 : BitVec 32 := 4#32
  let v349 : BitVec 32 := Scalar.muli v13 c4_i32_232
  let v350 : BitVec 32 := Scalar.addi c0_i32_233 v349
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_234 : BitVec 32 := 2#32
  let v351 : BitVec 32 := Scalar.muli v14 c2_i32_234
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v353 : BitVec 32 := Scalar.muli v8 c1_i32_235
  let v354 : BitVec 32 := Scalar.addi v352 v353
  v354.toNat
def k0_off20 (d0 : Dev nD) : Fin 3 → Nat :=
  let c2_i32_251 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v375 : BitVec 32 := Scalar.muli c2_i32_251 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v376 : BitVec 32 := Scalar.addi v375 v5
  let v377 : Index := Scalar.indexCast v376
  let c0_252 : Index := 0#32
  let c0_253 : Index := 0#32
  ![v377.toNat, 0, 0]
def k0_dev20 (d0 : Dev nD) : Nat :=
  let c0_i32_263 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_262 : BitVec 32 := 4#32
  let v388 : BitVec 32 := Scalar.muli v11 c4_i32_262
  let v389 : BitVec 32 := Scalar.addi c0_i32_263 v388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v390 : BitVec 32 := Scalar.muli v5 c2_i32_264
  let v391 : BitVec 32 := Scalar.addi v389 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v392 : BitVec 32 := Scalar.muli v8 c1_i32_265
  let v393 : BitVec 32 := Scalar.addi v391 v392
  v393.toNat
def k0_off21 (d0 : Dev nD) : Fin 3 → Nat :=
  let c2_i32_270 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v402 : BitVec 32 := Scalar.muli c2_i32_270 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v403 : BitVec 32 := Scalar.addi v402 v12
  let v404 : Index := Scalar.indexCast v403
  let c0_271 : Index := 0#32
  let c0_272 : Index := 0#32
  ![v404.toNat, 0, 0]
def k0_dev21 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v415 : BitVec 32 := Scalar.muli v2 c4_i32_281
  let v416 : BitVec 32 := Scalar.addi c0_i32_282 v415
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_283 : BitVec 32 := 2#32
  let v417 : BitVec 32 := Scalar.muli v12 c2_i32_283
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v419 : BitVec 32 := Scalar.muli v8 c1_i32_284
  let v420 : BitVec 32 := Scalar.addi v418 v419
  v420.toNat
def k0_off22 (d0 : Dev nD) : Fin 3 → Nat :=
  let c2_i32_289 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v429 : BitVec 32 := Scalar.muli c2_i32_289 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v430 : BitVec 32 := Scalar.addi v429 v14
  let v431 : Index := Scalar.indexCast v430
  let c0_290 : Index := 0#32
  let c0_291 : Index := 0#32
  ![v431.toNat, 0, 0]
def k0_dev22 (d0 : Dev nD) : Nat :=
  let c0_i32_301 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_300 : BitVec 32 := 4#32
  let v442 : BitVec 32 := Scalar.muli v13 c4_i32_300
  let v443 : BitVec 32 := Scalar.addi c0_i32_301 v442
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_302 : BitVec 32 := 2#32
  let v444 : BitVec 32 := Scalar.muli v14 c2_i32_302
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v446 : BitVec 32 := Scalar.muli v8 c1_i32_303
  let v447 : BitVec 32 := Scalar.addi v445 v446
  v447.toNat
def k0_off23 (d0 : Dev nD) : Fin 3 → Nat :=
  let c2_i32_319 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v468 : BitVec 32 := Scalar.muli c2_i32_319 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v469 : BitVec 32 := Scalar.addi v468 v5
  let v470 : Index := Scalar.indexCast v469
  let c0_320 : Index := 0#32
  let c0_321 : Index := 0#32
  ![v470.toNat, 0, 0]
def k0_dev23 (d0 : Dev nD) : Nat :=
  let c0_i32_331 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_330 : BitVec 32 := 4#32
  let v481 : BitVec 32 := Scalar.muli v11 c4_i32_330
  let v482 : BitVec 32 := Scalar.addi c0_i32_331 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_332 : BitVec 32 := 2#32
  let v483 : BitVec 32 := Scalar.muli v5 c2_i32_332
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_333 : BitVec 32 := 1#32
  let v485 : BitVec 32 := Scalar.muli v8 c1_i32_333
  let v486 : BitVec 32 := Scalar.addi v484 v485
  v486.toNat
def k0_off24 (d0 : Dev nD) : Fin 3 → Nat :=
  let c2_i32_338 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v495 : BitVec 32 := Scalar.muli c2_i32_338 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v496 : BitVec 32 := Scalar.addi v495 v12
  let v497 : Index := Scalar.indexCast v496
  let c0_339 : Index := 0#32
  let c0_340 : Index := 0#32
  ![v497.toNat, 0, 0]
def k0_dev24 (d0 : Dev nD) : Nat :=
  let c0_i32_350 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_349 : BitVec 32 := 4#32
  let v508 : BitVec 32 := Scalar.muli v2 c4_i32_349
  let v509 : BitVec 32 := Scalar.addi c0_i32_350 v508
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_351 : BitVec 32 := 2#32
  let v510 : BitVec 32 := Scalar.muli v12 c2_i32_351
  let v511 : BitVec 32 := Scalar.addi v509 v510
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_352 : BitVec 32 := 1#32
  let v512 : BitVec 32 := Scalar.muli v8 c1_i32_352
  let v513 : BitVec 32 := Scalar.addi v511 v512
  v513.toNat
def k0_off25 (d0 : Dev nD) : Fin 3 → Nat :=
  let c2_i32_357 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v522 : BitVec 32 := Scalar.muli c2_i32_357 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v523 : BitVec 32 := Scalar.addi v522 v14
  let v524 : Index := Scalar.indexCast v523
  let c0_358 : Index := 0#32
  let c0_359 : Index := 0#32
  ![v524.toNat, 0, 0]
def k0_dev25 (d0 : Dev nD) : Nat :=
  let c0_i32_369 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_368 : BitVec 32 := 4#32
  let v535 : BitVec 32 := Scalar.muli v13 c4_i32_368
  let v536 : BitVec 32 := Scalar.addi c0_i32_369 v535
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_370 : BitVec 32 := 2#32
  let v537 : BitVec 32 := Scalar.muli v14 c2_i32_370
  let v538 : BitVec 32 := Scalar.addi v536 v537
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v539 : BitVec 32 := Scalar.muli v8 c1_i32_371
  let v540 : BitVec 32 := Scalar.addi v538 v539
  v540.toNat
def k0_off26 (d0 : Dev nD) : Fin 3 → Nat :=
  let c2_i32_387 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v561 : BitVec 32 := Scalar.muli c2_i32_387 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v562 : BitVec 32 := Scalar.addi v561 v5
  let v563 : Index := Scalar.indexCast v562
  let c0_388 : Index := 0#32
  let c0_389 : Index := 0#32
  ![v563.toNat, 0, 0]
def k0_dev26 (d0 : Dev nD) : Nat :=
  let c0_i32_399 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_398 : BitVec 32 := 4#32
  let v574 : BitVec 32 := Scalar.muli v11 c4_i32_398
  let v575 : BitVec 32 := Scalar.addi c0_i32_399 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_400 : BitVec 32 := 2#32
  let v576 : BitVec 32 := Scalar.muli v5 c2_i32_400
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_401 : BitVec 32 := 1#32
  let v578 : BitVec 32 := Scalar.muli v8 c1_i32_401
  let v579 : BitVec 32 := Scalar.addi v577 v578
  v579.toNat
def k0_off27 (d0 : Dev nD) : Fin 3 → Nat :=
  let c2_i32_406 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v588 : BitVec 32 := Scalar.muli c2_i32_406 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v589 : BitVec 32 := Scalar.addi v588 v12
  let v590 : Index := Scalar.indexCast v589
  let c0_407 : Index := 0#32
  let c0_408 : Index := 0#32
  ![v590.toNat, 0, 0]
def k0_dev27 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v601 : BitVec 32 := Scalar.muli v2 c4_i32_417
  let v602 : BitVec 32 := Scalar.addi c0_i32_418 v601
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_419 : BitVec 32 := 2#32
  let v603 : BitVec 32 := Scalar.muli v12 c2_i32_419
  let v604 : BitVec 32 := Scalar.addi v602 v603
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_420 : BitVec 32 := 1#32
  let v605 : BitVec 32 := Scalar.muli v8 c1_i32_420
  let v606 : BitVec 32 := Scalar.addi v604 v605
  v606.toNat
def k0_off28 (d0 : Dev nD) : Fin 3 → Nat :=
  let c2_i32_425 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v615 : BitVec 32 := Scalar.muli c2_i32_425 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v616 : BitVec 32 := Scalar.addi v615 v14
  let v617 : Index := Scalar.indexCast v616
  let c0_426 : Index := 0#32
  let c0_427 : Index := 0#32
  ![v617.toNat, 0, 0]
def k0_dev28 (d0 : Dev nD) : Nat :=
  let c0_i32_437 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_436 : BitVec 32 := 4#32
  let v628 : BitVec 32 := Scalar.muli v13 c4_i32_436
  let v629 : BitVec 32 := Scalar.addi c0_i32_437 v628
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_438 : BitVec 32 := 2#32
  let v630 : BitVec 32 := Scalar.muli v14 c2_i32_438
  let v631 : BitVec 32 := Scalar.addi v629 v630
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_439 : BitVec 32 := 1#32
  let v632 : BitVec 32 := Scalar.muli v8 c1_i32_439
  let v633 : BitVec 32 := Scalar.addi v631 v632
  v633.toNat
def k0_mult13 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c48_i32_444 : BitVec 32 := 48#32
  let v642 : BitVec 32 := Scalar.muli v8 c48_i32_444
  v642
def k0_off29 (d0 : Dev nD) : Fin 3 → Nat :=
  let c2_i32_445 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v644 : BitVec 32 := Scalar.muli c2_i32_445 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v645 : BitVec 32 := Scalar.addi v644 v5
  let c0_i32_452 : BitVec 32 := 0#32
  let c0_i32_453 : BitVec 32 := 0#32
  ![v645.toNat, 0, 0]
def k0_off30 (d0 : Dev nD) : Fin 3 → Nat :=
  let c2_i32_456 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v658 : BitVec 32 := Scalar.muli c2_i32_456 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v659 : BitVec 32 := Scalar.addi v658 v12
  let c0_i32_463 : BitVec 32 := 0#32
  let c0_i32_464 : BitVec 32 := 0#32
  ![v659.toNat, 0, 0]
def k0_off31 (d0 : Dev nD) : Fin 3 → Nat :=
  let c2_i32_467 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v672 : BitVec 32 := Scalar.muli c2_i32_467 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v673 : BitVec 32 := Scalar.addi v672 v14
  let c0_i32_474 : BitVec 32 := 0#32
  let c0_i32_475 : BitVec 32 := 0#32
  ![v673.toNat, 0, 0]
def k0_off32 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c48_i32_444 : BitVec 32 := 48#32
  let v642 : BitVec 32 := Scalar.muli v8 c48_i32_444
  let v643 : BitVec 32 := v642
  let c0_i32_495 : BitVec 32 := 0#32
  ![v643.toNat, 0]
def k0_dev29 (d0 : Dev nD) : Nat :=
  let c0_i32_492 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_491 : BitVec 32 := 4#32
  let v699 : BitVec 32 := Scalar.muli v2 c4_i32_491
  let v700 : BitVec 32 := Scalar.addi c0_i32_492 v699
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_493 : BitVec 32 := 2#32
  let v701 : BitVec 32 := Scalar.muli v5 c2_i32_493
  let v702 : BitVec 32 := Scalar.addi v700 v701
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_494 : BitVec 32 := 1#32
  let v703 : BitVec 32 := Scalar.muli v15 c1_i32_494
  let v704 : BitVec 32 := Scalar.addi v702 v703
  v704.toNat
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c528_i32_497 : BitVec 32 := 528#32
  let v711 : BitVec 32 := Scalar.muli v8 c528_i32_497
  v711
def k0_off33 (d0 : Dev nD) : Fin 3 → Nat :=
  let c2_i32_498 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v713 : BitVec 32 := Scalar.muli c2_i32_498 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v714 : BitVec 32 := Scalar.addi v713 v5
  let c0_i32_505 : BitVec 32 := 0#32
  let c0_i32_506 : BitVec 32 := 0#32
  ![v714.toNat, 0, 0]
def k0_off34 (d0 : Dev nD) : Fin 3 → Nat :=
  let c2_i32_509 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v727 : BitVec 32 := Scalar.muli c2_i32_509 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v728 : BitVec 32 := Scalar.addi v727 v12
  let c0_i32_516 : BitVec 32 := 0#32
  let c0_i32_517 : BitVec 32 := 0#32
  ![v728.toNat, 0, 0]
def k0_off35 (d0 : Dev nD) : Fin 3 → Nat :=
  let c2_i32_520 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v741 : BitVec 32 := Scalar.muli c2_i32_520 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v742 : BitVec 32 := Scalar.addi v741 v14
  let c0_i32_527 : BitVec 32 := 0#32
  let c0_i32_528 : BitVec 32 := 0#32
  ![v742.toNat, 0, 0]
def k0_off36 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c528_i32_497 : BitVec 32 := 528#32
  let v711 : BitVec 32 := Scalar.muli v8 c528_i32_497
  let v712 : BitVec 32 := v711
  let c0_i32_549 : BitVec 32 := 0#32
  ![v712.toNat, 0]
def k0_dev30 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v772 : BitVec 32 := Scalar.muli v2 c4_i32_545
  let v773 : BitVec 32 := Scalar.addi c0_i32_546 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v774 : BitVec 32 := Scalar.muli v5 c2_i32_547
  let v775 : BitVec 32 := Scalar.addi v773 v774
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_548 : BitVec 32 := 1#32
  let v776 : BitVec 32 := Scalar.muli v15 c1_i32_548
  let v777 : BitVec 32 := Scalar.addi v775 v776
  v777.toNat
def k0_mult15 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_551 : BitVec 32 := 512#32
  let v784 : BitVec 32 := Scalar.muli v8 c512_i32_551
  v784
def k0_off37 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v786 : Index := Scalar.indexCast v10
  let c0_552 : Index := 0#32
  let c0_553 : Index := 0#32
  ![v786.toNat, 0, 0]
def k0_off38 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_551 : BitVec 32 := 512#32
  let v784 : BitVec 32 := Scalar.muli v8 c512_i32_551
  let v785 : BitVec 32 := v784
  let v841 : Index := Scalar.indexCast v785
  let c0_601 : Index := 0#32
  ![v841.toNat, 0]
def k0_off39 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_551 : BitVec 32 := 512#32
  let v784 : BitVec 32 := Scalar.muli v8 c512_i32_551
  let v785 : BitVec 32 := v784
  let c0_i32_608 : BitVec 32 := 0#32
  ![v785.toNat, 0]
def k0_dev31 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v843 : BitVec 32 := Scalar.muli v2 c4_i32_604
  let v844 : BitVec 32 := Scalar.addi c0_i32_605 v843
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_606 : BitVec 32 := 2#32
  let v845 : BitVec 32 := Scalar.muli v5 c2_i32_606
  let v846 : BitVec 32 := Scalar.addi v844 v845
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_607 : BitVec 32 := 1#32
  let v847 : BitVec 32 := Scalar.muli v15 c1_i32_607
  let v848 : BitVec 32 := Scalar.addi v846 v847
  v848.toNat
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c96_i32_610 : BitVec 32 := 96#32
  let v855 : BitVec 32 := Scalar.muli v8 c96_i32_610
  v855
def k0_off40 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v857 : Index := Scalar.indexCast v10
  let c0_611 : Index := 0#32
  let c0_612 : Index := 0#32
  ![v857.toNat, 0, 0]
def k0_off41 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c96_i32_610 : BitVec 32 := 96#32
  let v855 : BitVec 32 := Scalar.muli v8 c96_i32_610
  let v856 : BitVec 32 := v855
  let v912 : Index := Scalar.indexCast v856
  let c0_660 : Index := 0#32
  ![v912.toNat, 0]
def k0_off42 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c96_i32_610 : BitVec 32 := 96#32
  let v855 : BitVec 32 := Scalar.muli v8 c96_i32_610
  let v856 : BitVec 32 := v855
  let c0_i32_666 : BitVec 32 := 0#32
  ![v856.toNat, 0]
def k0_dev32 (d0 : Dev nD) : Nat :=
  let c0_i32_663 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_662 : BitVec 32 := 4#32
  let v914 : BitVec 32 := Scalar.muli v2 c4_i32_662
  let v915 : BitVec 32 := Scalar.addi c0_i32_663 v914
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_664 : BitVec 32 := 2#32
  let v916 : BitVec 32 := Scalar.muli v5 c2_i32_664
  let v917 : BitVec 32 := Scalar.addi v915 v916
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_665 : BitVec 32 := 1#32
  let v918 : BitVec 32 := Scalar.muli v15 c1_i32_665
  let v919 : BitVec 32 := Scalar.addi v917 v918
  v919.toNat
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_668 : BitVec 32 := 128#32
  let v926 : BitVec 32 := Scalar.muli v8 c128_i32_668
  v926
def k0_off43 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v928 : Index := Scalar.indexCast v10
  let c0_669 : Index := 0#32
  let c0_670 : Index := 0#32
  ![v928.toNat, 0, 0]
def k0_off44 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_668 : BitVec 32 := 128#32
  let v926 : BitVec 32 := Scalar.muli v8 c128_i32_668
  let v927 : BitVec 32 := v926
  let v983 : Index := Scalar.indexCast v927
  let c0_718 : Index := 0#32
  ![v983.toNat, 0]
def k0_off45 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_668 : BitVec 32 := 128#32
  let v926 : BitVec 32 := Scalar.muli v8 c128_i32_668
  let v927 : BitVec 32 := v926
  let c0_i32_724 : BitVec 32 := 0#32
  ![v927.toNat, 0]
def k0_dev33 (d0 : Dev nD) : Nat :=
  let c0_i32_721 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_720 : BitVec 32 := 4#32
  let v985 : BitVec 32 := Scalar.muli v2 c4_i32_720
  let v986 : BitVec 32 := Scalar.addi c0_i32_721 v985
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_722 : BitVec 32 := 2#32
  let v987 : BitVec 32 := Scalar.muli v5 c2_i32_722
  let v988 : BitVec 32 := Scalar.addi v986 v987
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_723 : BitVec 32 := 1#32
  let v989 : BitVec 32 := Scalar.muli v15 c1_i32_723
  let v990 : BitVec 32 := Scalar.addi v988 v989
  v990.toNat
def k0_mult18 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_726 : BitVec 32 := 128#32
  let v997 : BitVec 32 := Scalar.muli v8 c128_i32_726
  v997
def k0_off46 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v999 : Index := Scalar.indexCast v10
  let c0_727 : Index := 0#32
  let c0_728 : Index := 0#32
  ![v999.toNat, 0, 0]
def k0_off47 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_726 : BitVec 32 := 128#32
  let v997 : BitVec 32 := Scalar.muli v8 c128_i32_726
  let v998 : BitVec 32 := v997
  let v1054 : Index := Scalar.indexCast v998
  let c0_776 : Index := 0#32
  ![v1054.toNat, 0]
def k0_off48 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_726 : BitVec 32 := 128#32
  let v997 : BitVec 32 := Scalar.muli v8 c128_i32_726
  let v998 : BitVec 32 := v997
  let c0_i32_782 : BitVec 32 := 0#32
  ![v998.toNat, 0]
def k0_dev34 (d0 : Dev nD) : Nat :=
  let c0_i32_779 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_778 : BitVec 32 := 4#32
  let v1056 : BitVec 32 := Scalar.muli v2 c4_i32_778
  let v1057 : BitVec 32 := Scalar.addi c0_i32_779 v1056
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_780 : BitVec 32 := 2#32
  let v1058 : BitVec 32 := Scalar.muli v5 c2_i32_780
  let v1059 : BitVec 32 := Scalar.addi v1057 v1058
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_781 : BitVec 32 := 1#32
  let v1060 : BitVec 32 := Scalar.muli v15 c1_i32_781
  let v1061 : BitVec 32 := Scalar.addi v1059 v1060
  v1061.toNat
def k0_mult19 (d0 : Dev nD) : BitVec 32 :=
  let c1_i32_784 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.subi c1_i32_784 v8
  let c48_i32_785 : BitVec 32 := 48#32
  let v1069 : BitVec 32 := Scalar.muli v1068 c48_i32_785
  v1069
def k0_mult20 (d0 : Dev nD) : BitVec 32 :=
  let c1_i32_794 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1081 : BitVec 32 := Scalar.subi c1_i32_794 v8
  let c528_i32_795 : BitVec 32 := 528#32
  let v1082 : BitVec 32 := Scalar.muli v1081 c528_i32_795
  v1082
def k0_mult21 (d0 : Dev nD) : BitVec 32 :=
  let c1_i32_804 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1094 : BitVec 32 := Scalar.subi c1_i32_804 v8
  let c512_i32_805 : BitVec 32 := 512#32
  let v1095 : BitVec 32 := Scalar.muli v1094 c512_i32_805
  v1095
def k0_off49 (d0 : Dev nD) : Fin 2 → Nat :=
  let c1_i32_804 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1094 : BitVec 32 := Scalar.subi c1_i32_804 v8
  let c512_i32_805 : BitVec 32 := 512#32
  let v1095 : BitVec 32 := Scalar.muli v1094 c512_i32_805
  let v1096 : BitVec 32 := v1095
  let c0_i32_812 : BitVec 32 := 0#32
  ![v1096.toNat, 0]
def k0_mult22 (d0 : Dev nD) : BitVec 32 :=
  let c1_i32_814 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1107 : BitVec 32 := Scalar.subi c1_i32_814 v8
  let c96_i32_815 : BitVec 32 := 96#32
  let v1108 : BitVec 32 := Scalar.muli v1107 c96_i32_815
  v1108
def k0_off50 (d0 : Dev nD) : Fin 2 → Nat :=
  let c1_i32_814 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1107 : BitVec 32 := Scalar.subi c1_i32_814 v8
  let c96_i32_815 : BitVec 32 := 96#32
  let v1108 : BitVec 32 := Scalar.muli v1107 c96_i32_815
  let v1109 : BitVec 32 := v1108
  let c0_i32_822 : BitVec 32 := 0#32
  ![v1109.toNat, 0]
def k0_mult23 (d0 : Dev nD) : BitVec 32 :=
  let c1_i32_824 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1120 : BitVec 32 := Scalar.subi c1_i32_824 v8
  let c128_i32_825 : BitVec 32 := 128#32
  let v1121 : BitVec 32 := Scalar.muli v1120 c128_i32_825
  v1121
def k0_off51 (d0 : Dev nD) : Fin 2 → Nat :=
  let c1_i32_824 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1120 : BitVec 32 := Scalar.subi c1_i32_824 v8
  let c128_i32_825 : BitVec 32 := 128#32
  let v1121 : BitVec 32 := Scalar.muli v1120 c128_i32_825
  let v1122 : BitVec 32 := v1121
  let c0_i32_832 : BitVec 32 := 0#32
  ![v1122.toNat, 0]
def k0_mult24 (d0 : Dev nD) : BitVec 32 :=
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1133 : BitVec 32 := Scalar.subi c1_i32_834 v8
  let c128_i32_835 : BitVec 32 := 128#32
  let v1134 : BitVec 32 := Scalar.muli v1133 c128_i32_835
  v1134
def k0_off52 (d0 : Dev nD) : Fin 2 → Nat :=
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1133 : BitVec 32 := Scalar.subi c1_i32_834 v8
  let c128_i32_835 : BitVec 32 := 128#32
  let v1134 : BitVec 32 := Scalar.muli v1133 c128_i32_835
  let v1135 : BitVec 32 := v1134
  let c0_i32_842 : BitVec 32 := 0#32
  ![v1135.toNat, 0]
abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1056x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1056x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S32x1024x512 : Shape := ⟨3, ![32, 1024, 512]⟩
abbrev S32x192x384 : Shape := ⟨3, ![32, 192, 384]⟩
abbrev S32x256x512 : Shape := ⟨3, ![32, 256, 512]⟩
abbrev S32x256x1024 : Shape := ⟨3, ![32, 256, 1024]⟩
abbrev S768x128 : Shape := ⟨2, ![768, 128]⟩
abbrev S8448x128 : Shape := ⟨2, ![8448, 128]⟩
abbrev S8x4096x512 : Shape := ⟨3, ![8, 4096, 512]⟩
abbrev S_ : Shape := ⟨0, ![]⟩
abbrev S4096x512 : Shape := ⟨2, ![4096, 512]⟩
abbrev S8x768x384 : Shape := ⟨3, ![8, 768, 384]⟩
abbrev S768x384 : Shape := ⟨2, ![768, 384]⟩
abbrev S8x1024x512 : Shape := ⟨3, ![8, 1024, 512]⟩
abbrev S1024x512 : Shape := ⟨2, ![1024, 512]⟩
abbrev S8x1024x1024 : Shape := ⟨3, ![8, 1024, 1024]⟩
abbrev S1024x1024 : Shape := ⟨2, ![1024, 1024]⟩
abbrev S8x96x128 : Shape := ⟨3, ![8, 96, 128]⟩
abbrev S96x128 : Shape := ⟨2, ![96, 128]⟩
abbrev S8x1056x128 : Shape := ⟨3, ![8, 1056, 128]⟩
abbrev S1056x128 : Shape := ⟨2, ![1056, 128]⟩

abbrev nBuf : Space → Nat
  | .hbm => 24
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x192x384, .f32⟩
  | .hbm, ⟨2, _⟩ => ⟨S32x256x512, .f32⟩
  | .hbm, ⟨3, _⟩ => ⟨S32x256x1024, .f32⟩
  | .hbm, ⟨4, _⟩ => ⟨S768x128, .f32⟩
  | .hbm, ⟨5, _⟩ => ⟨S8448x128, .f32⟩
  | .hbm, ⟨6, _⟩ => ⟨S8x4096x512, .f32⟩
  | .hbm, ⟨7, _⟩ => ⟨S_, .f32⟩
  | .hbm, ⟨8, _⟩ => ⟨S4096x512, .f32⟩
  | .hbm, ⟨9, _⟩ => ⟨S8x768x384, .f32⟩
  | .hbm, ⟨10, _⟩ => ⟨S_, .f32⟩
  | .hbm, ⟨11, _⟩ => ⟨S768x384, .f32⟩
  | .hbm, ⟨12, _⟩ => ⟨S8x1024x512, .f32⟩
  | .hbm, ⟨13, _⟩ => ⟨S_, .f32⟩
  | .hbm, ⟨14, _⟩ => ⟨S1024x512, .f32⟩
  | .hbm, ⟨15, _⟩ => ⟨S8x1024x1024, .f32⟩
  | .hbm, ⟨16, _⟩ => ⟨S_, .f32⟩
  | .hbm, ⟨17, _⟩ => ⟨S1024x1024, .f32⟩
  | .hbm, ⟨18, _⟩ => ⟨S8x96x128, .f32⟩
  | .hbm, ⟨19, _⟩ => ⟨S_, .f32⟩
  | .hbm, ⟨20, _⟩ => ⟨S96x128, .f32⟩
  | .hbm, ⟨21, _⟩ => ⟨S8x1056x128, .f32⟩
  | .hbm, ⟨22, _⟩ => ⟨S_, .f32⟩
  | .hbm, ⟨23, _⟩ => ⟨S1056x128, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Back.lean ====
abbrev S8192x384 : Shape := ⟨2, ![8192, 384]⟩
abbrev S8192x256 : Shape := ⟨2, ![8192, 256]⟩
abbrev S8192x1024 : Shape := ⟨2, ![8192, 1024]⟩
abbrev S1x1024 : Shape := ⟨2, ![1, 1024]⟩
abbrev S4x1024x512 : Shape := ⟨3, ![4, 1024, 512]⟩
abbrev S512x384 : Shape := ⟨2, ![512, 384]⟩
abbrev S512x256 : Shape := ⟨2, ![512, 256]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S4x1024x512, .bf16⟩
  | .hbm, ⟨8, _⟩ => ⟨S8192x1024, .f32⟩
  | .hbm, ⟨9, _⟩ => ⟨S4x1024x512, .f32⟩
  | .hbm, ⟨10, _⟩ => ⟨S1x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S4x1024x512, .bf16⟩
  | .local _ .vmem, ⟨14, _⟩ => ⟨S512x1024, .f32⟩
  | .local _ .vmem, ⟨15, _⟩ => ⟨S512x1024, .f32⟩
  | .local _ .vmem, ⟨16, _⟩ => ⟨S4x1024x512, .f32⟩
  | .local _ .vmem, ⟨17, _⟩ => ⟨S1x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BackRefIdeal.lean ====
abbrev S8192x384 : Shape := ⟨2, ![8192, 384]⟩
abbrev S8192x256 : Shape := ⟨2, ![8192, 256]⟩
abbrev S8192x1024 : Shape := ⟨2, ![8192, 1024]⟩
abbrev S1x1024 : Shape := ⟨2, ![1, 1024]⟩
abbrev S4x1024x512 : Shape := ⟨3, ![4, 1024, 512]⟩
abbrev S8192x2048 : Shape := ⟨2, ![8192, 2048]⟩
abbrev S1024x4x512 : Shape := ⟨3, ![1024, 4, 512]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S2048x1024 : Shape := ⟨2, ![2048, 1024]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S4x1024x512, .bf16⟩
  | .hbm, ⟨8, _⟩ => ⟨S8192x384, .f32⟩
  | .hbm, ⟨9, _⟩ => ⟨S8192x384, .f32⟩
  | .hbm, ⟨10, _⟩ => ⟨S8192x256, .f32⟩
  | .hbm, ⟨11, _⟩ => ⟨S8192x1024, .f32⟩
  | .hbm, ⟨12, _⟩ => ⟨S8192x2048, .f32⟩
  | .hbm, ⟨13, _⟩ => ⟨S4x1024x512, .f32⟩
  | .hbm, ⟨14, _⟩ => ⟨S1024x4x512, .f32⟩
  | .hbm, ⟨15, _⟩ => ⟨S1024x2048, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x8192, .f32⟩
  | .hbm, ⟨32, _⟩ => ⟨S1024x2048, .f32⟩
  | .hbm, ⟨33, _⟩ => ⟨S2048x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x4x512, .f32⟩
  | .hbm, ⟨56, _⟩ => ⟨S4x1024x512, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Tail.lean ====
abbrev S8192x384 : Shape := ⟨2, ![8192, 384]⟩
abbrev S8192x256 : Shape := ⟨2, ![8192, 256]⟩
abbrev S8192x2048 : Shape := ⟨2, ![8192, 2048]⟩
abbrev S8192x1024 : Shape := ⟨2, ![8192, 1024]⟩
abbrev S1024x1024 : Shape := ⟨2, ![1024, 1024]⟩
abbrev S1x1024 : Shape := ⟨2, ![1, 1024]⟩
abbrev S1x128 : Shape := ⟨2, ![1, 128]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x2048, .bf16⟩
  | .hbm, ⟨4, _⟩ => ⟨S8192x1024, .f32⟩
  | .hbm, ⟨5, _⟩ => ⟨S8192x1024, .f32⟩
  | .hbm, ⟨6, _⟩ => ⟨S1024x1024, .bf16⟩
  | .hbm, ⟨7, _⟩ => ⟨S1x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1024x1024, .f32⟩
  | .hbm, ⟨12, _⟩ => ⟨S1x1024, .f32⟩
  | .hbm, ⟨13, _⟩ => ⟨S1x128, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .f32⟩
  | .local _ .vmem, ⟨21, _⟩ => ⟨S1x1024, .f32⟩
  | .local _ .vmem, ⟨22, _⟩ => ⟨S1x128, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== TailRefIdeal.lean ====
abbrev S8192x384 : Shape := ⟨2, ![8192, 384]⟩
abbrev S8192x256 : Shape := ⟨2, ![8192, 256]⟩
abbrev S8192x2048 : Shape := ⟨2, ![8192, 2048]⟩
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x8192 : Shape := ⟨2, ![1024, 8192]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x384, .bf16⟩
  | .hbm, ⟨2, _⟩ => ⟨S8192x256, .bf16⟩
  | .hbm, ⟨3, _⟩ => ⟨S8192x2048, .bf16⟩
  | .hbm, ⟨4, _⟩ => ⟨S8192x1024, .f32⟩
  | .hbm, ⟨5, _⟩ => ⟨S8192x1024, .f32⟩
  | .hbm, ⟨6, _⟩ => ⟨S1024x1024, .bf16⟩
  | .hbm, ⟨7, _⟩ => ⟨S1x1024, .f32⟩
  | .hbm, ⟨8, _⟩ => ⟨S8192x384, .f32⟩
  | .hbm, ⟨9, _⟩ => ⟨S8192x384, .f32⟩
  | .hbm, ⟨10, _⟩ => ⟨S8192x256, .f32⟩
  | .hbm, ⟨11, _⟩ => ⟨S8192x1024, .f32⟩
  | .hbm, ⟨12, _⟩ => ⟨S8192x2048, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1024x8192, .f32⟩
  | .hbm, ⟨75, _⟩ => ⟨S1024x1024, .f32⟩
  | .hbm, ⟨76, _⟩ => ⟨S1024x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .bf16⟩
  | .hbm, ⟨91, _⟩ => ⟨S8192x1024, .bf16⟩
  | .hbm, ⟨92, _⟩ => ⟨S8192x1024, .bf16⟩
  | .hbm, ⟨93, _⟩ => ⟨S1x128, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== AttnB.lean ====
abbrev S8192x2048 : Shape := ⟨2, ![8192, 2048]⟩
abbrev S8192x1024 : Shape := ⟨2, ![8192, 1024]⟩
abbrev S4x256x1024 : Shape := ⟨3, ![4, 256, 1024]⟩
abbrev S1x1024 : Shape := ⟨2, ![1, 1024]⟩
abbrev S1024x512 : Shape := ⟨2, ![1024, 512]⟩
abbrev S8192x256 : Shape := ⟨2, ![8192, 256]⟩
abbrev S2048x256 : Shape := ⟨2, ![2048, 256]⟩
abbrev S2048x1024 : Shape := ⟨2, ![2048, 1024]⟩
abbrev S1x256x1024 : Shape := ⟨3, ![1, 256, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩
abbrev S1024 : Shape := ⟨1, ![1024]⟩

abbrev nBuf : Space → Nat
  | .hbm => 9
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S4x256x1024, .f32⟩
  | .hbm, ⟨4, _⟩ => ⟨S1x1024, .f32⟩
  | .hbm, ⟨5, _⟩ => ⟨S1024x512, .bf16⟩
  | .hbm, ⟨6, _⟩ => ⟨S8192x256, .bf16⟩
  | .hbm, ⟨7, _⟩ => ⟨S1024x512, .f32⟩
  | .hbm, ⟨8, _⟩ => ⟨S1x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S2048x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1024x512, .bf16⟩
  | .local _ .vmem, ⟨10, _⟩ => ⟨S2048x256, .bf16⟩
  | .local _ .vmem, ⟨11, _⟩ => ⟨S2048x256, .bf16⟩
  | .local _ .vmem, ⟨12, _⟩ => ⟨S1024x512, .f32⟩
  | .local _ .vmem, ⟨13, _⟩ => ⟨S1x1024, .f32⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .vmem, ⟨17, _⟩ => ⟨S1024x256, .f32⟩
  | .local _ .vmem, ⟨18, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c0_i32_34 : BitVec 32 := 0#32
  let v80 : BitVec 1 := Scalar.cmpi .eq arg1 c0_i32_34
  let v81 : BitVec 32 := Scalar.extui v80
  let c0_i32_35 : BitVec 32 := 0#32
  let v82 : BitVec 1 := Scalar.cmpi .ne v81 c0_i32_35
  v82

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== AttnBRefIdeal.lean ====
abbrev S8192x2048 : Shape := ⟨2, ![8192, 2048]⟩
abbrev S8192x1024 : Shape := ⟨2, ![8192, 1024]⟩
abbrev S4x256x1024 : Shape := ⟨3, ![4, 256, 1024]⟩
abbrev S1x1024 : Shape := ⟨2, ![1, 1024]⟩
abbrev S1024x512 : Shape := ⟨2, ![1024, 512]⟩
abbrev S8192x256 : Shape := ⟨2, ![8192, 256]⟩
abbrev S4x2048x4x64 : Shape := ⟨4, ![4, 2048, 4, 64]⟩
abbrev S4x2048x4x256 : Shape := ⟨4, ![4, 2048, 4, 256]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x4x256x2048 : Shape := ⟨4, ![4, 4, 256, 2048]⟩
abbrev S4x2048x4 : Shape := ⟨3, ![4, 2048, 4]⟩
abbrev S4x2048x4x1 : Shape := ⟨4, ![4, 2048, 4, 1]⟩
abbrev S4x4x64x2048 : Shape := ⟨4, ![4, 4, 64, 2048]⟩
abbrev S4x4x64x256 : Shape := ⟨4, ![4, 4, 64, 256]⟩
abbrev S512x1024 : Shape := ⟨2, ![512, 1024]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S4x256x1024, .f32⟩
  | .hbm, ⟨4, _⟩ => ⟨S1x1024, .f32⟩
  | .hbm, ⟨5, _⟩ => ⟨S1024x512, .bf16⟩
  | .hbm, ⟨6, _⟩ => ⟨S8192x2048, .f32⟩
  | .hbm, ⟨7, _⟩ => ⟨S8192x256, .f32⟩
  | .hbm, ⟨8, _⟩ => ⟨S4x2048x4x64, .f32⟩
  | .hbm, ⟨9, _⟩ => ⟨S8192x1024, .f32⟩
  | .hbm, ⟨10, _⟩ => ⟨S8192x256, .f32⟩
  | .hbm, ⟨11, _⟩ => ⟨S4x2048x4x64, .f32⟩
  | .hbm, ⟨12, _⟩ => ⟨S8192x1024, .f32⟩
  | .hbm, ⟨13, _⟩ => ⟨S4x2048x4x256, .f32⟩
  | .hbm, ⟨14, _⟩ => ⟨S1024x512, .f32⟩
  | .hbm, ⟨15, _⟩ => ⟨S4x256x1024, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S_, .f32⟩
  | .hbm, ⟨23, _⟩ => ⟨S4x256x1, .f32⟩
  | .hbm, ⟨24, _⟩ => ⟨S4x256x1, .f32⟩
  | .hbm, ⟨25, _⟩ => ⟨S4x256x1, .f32⟩
  | .hbm, ⟨26, _⟩ => ⟨S4x256x1024, .f32⟩
  | .hbm, ⟨27, _⟩ => ⟨S4x256x1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S4x256x512, .f32⟩
  | .hbm, ⟨32, _⟩ => ⟨S4x256x256, .f32⟩
  | .hbm, ⟨33, _⟩ => ⟨S4x256x4x64, .f32⟩
  | .hbm, ⟨34, _⟩ => ⟨S4x256x256, .f32⟩
  | .hbm, ⟨35, _⟩ => ⟨S4x256x4x64, .f32⟩
  | .hbm, ⟨36, _⟩ => ⟨S4x4x256x2048, .f32⟩
  | .hbm, ⟨37, _⟩ => ⟨S4x2048x4x256, .f32⟩
  | .hbm, ⟨38, _⟩ => ⟨S4x2048x4x256, .f32⟩
  | .hbm, ⟨39, _⟩ => ⟨S_, .f32⟩
  | .hbm, ⟨40, _⟩ => ⟨S4x2048x4, .f32⟩
  | .hbm, ⟨41, _⟩ => ⟨S4x2048x4x1, .f32⟩
  | .hbm, ⟨42, _⟩ => ⟨S4x2048x4x256, .f32⟩
  | .hbm, ⟨43, _⟩ => ⟨S4x2048x4x256, .f32⟩
  | .hbm, ⟨44, _⟩ => ⟨S4x2048x4x256, .f32⟩
  | .hbm, ⟨45, _⟩ => ⟨S_, .f32⟩
  | .hbm, ⟨46, _⟩ => ⟨S4x2048x4x256, .f32⟩
  | .hbm, ⟨47, _⟩ => ⟨S4x2048x4x256, .f32⟩
  | .hbm, ⟨48, _⟩ => ⟨S4x4x64x2048, .f32⟩
  | .hbm, ⟨49, _⟩ => ⟨S4x2048x4x64, .f32⟩
  | .hbm, ⟨50, _⟩ => ⟨S4x4x64x256, .f32⟩
  | .hbm, ⟨51, _⟩ => ⟨S4x256x4x64, .f32⟩
  | .hbm, ⟨52, _⟩ => ⟨S4x4x64x256, .f32⟩
  | .hbm, ⟨53, _⟩ => ⟨S4x256x4x64, .f32⟩
  | .hbm, ⟨54, _⟩ => ⟨S4x256x256, .f32⟩
  | .hbm, ⟨55, _⟩ => ⟨S4x256x256, .f32⟩
  | .hbm, ⟨56, _⟩ => ⟨S4x256x512, .f32⟩
  | .hbm, ⟨57, _⟩ => ⟨S1024x512, .f32⟩
  | .hbm, ⟨58, _⟩ => ⟨S512x1024, .f32⟩
  | .hbm, ⟨59, _⟩ => ⟨S4x256x1024, .f32⟩
  | .hbm, ⟨60, _⟩ => ⟨S4x256x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x256, .f32⟩
  | .hbm, ⟨65, _⟩ => ⟨S8192x256, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== AttnF.lean ====
abbrev S8192x2048 : Shape := ⟨2, ![8192, 2048]⟩
abbrev S4x256x1024 : Shape := ⟨3, ![4, 256, 1024]⟩
abbrev S1x1024 : Shape := ⟨2, ![1, 1024]⟩
abbrev S1024x512 : Shape := ⟨2, ![1024, 512]⟩
abbrev S8192x256 : Shape := ⟨2, ![8192, 256]⟩
abbrev S8192x1024 : Shape := ⟨2, ![8192, 1024]⟩
abbrev S2048x256 : Shape := ⟨2, ![2048, 256]⟩
abbrev S1x256x1024 : Shape := ⟨3, ![1, 256, 1024]⟩
abbrev S2048x1024 : Shape := ⟨2, ![2048, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x256x1024, .f32⟩
  | .hbm, ⟨2, _⟩ => ⟨S1x1024, .f32⟩
  | .hbm, ⟨3, _⟩ => ⟨S1024x512, .bf16⟩
  | .hbm, ⟨4, _⟩ => ⟨S8192x256, .bf16⟩
  | .hbm, ⟨5, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x512, .bf16⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S2048x1024, .bf16⟩
  | .local _ .vmem, ⟨10, _⟩ => ⟨S1024x256, .bf16⟩
  | .local _ .vmem, ⟨11, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFRefIdeal.lean ====
abbrev S8192x2048 : Shape := ⟨2, ![8192, 2048]⟩
abbrev S4x256x1024 : Shape := ⟨3, ![4, 256, 1024]⟩
abbrev S1x1024 : Shape := ⟨2, ![1, 1024]⟩
abbrev S1024x512 : Shape := ⟨2, ![1024, 512]⟩
abbrev S8192x256 : Shape := ⟨2, ![8192, 256]⟩
abbrev S4x2048x4x64 : Shape := ⟨4, ![4, 2048, 4, 64]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x4x256x2048 : Shape := ⟨4, ![4, 4, 256, 2048]⟩
abbrev S4x2048x4x256 : Shape := ⟨4, ![4, 2048, 4, 256]⟩
abbrev S4x2048x4 : Shape := ⟨3, ![4, 2048, 4]⟩
abbrev S4x2048x4x1 : Shape := ⟨4, ![4, 2048, 4, 1]⟩
abbrev S4x4x64x2048 : Shape := ⟨4, ![4, 4, 64, 2048]⟩
abbrev S8192x1024 : Shape := ⟨2, ![8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x256x1024, .f32⟩
  | .hbm, ⟨2, _⟩ => ⟨S1x1024, .f32⟩
  | .hbm, ⟨3, _⟩ => ⟨S1024x512, .bf16⟩
  | .hbm, ⟨4, _⟩ => ⟨S8192x2048, .f32⟩
  | .hbm, ⟨5, _⟩ => ⟨S8192x256, .f32⟩
  | .hbm, ⟨6, _⟩ => ⟨S4x2048x4x64, .f32⟩
  | .hbm, ⟨7, _⟩ => ⟨S1024x512, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S4x256x512, .f32⟩
  | .hbm, ⟨25, _⟩ => ⟨S4x256x256, .f32⟩
  | .hbm, ⟨26, _⟩ => ⟨S4x256x4x64, .f32⟩
  | .hbm, ⟨27, _⟩ => ⟨S4x256x256, .f32⟩
  | .hbm, ⟨28, _⟩ => ⟨S4x256x4x64, .f32⟩
  | .hbm, ⟨29, _⟩ => ⟨S4x4x256x2048, .f32⟩
  | .hbm, ⟨30, _⟩ => ⟨S4x2048x4x256, .f32⟩
  | .hbm, ⟨31, _⟩ => ⟨S_, .f32⟩
  | .hbm, ⟨32, _⟩ => ⟨S4x2048x4x256, .f32⟩
  | .hbm, ⟨33, _⟩ => ⟨S4x2048x4x256, .f32⟩
  | .hbm, ⟨34, _⟩ => ⟨S_, .f32⟩
  | .hbm, ⟨35, _⟩ => ⟨S4x2048x4, .f32⟩
  | .hbm, ⟨36, _⟩ => ⟨S_, .f32⟩
  | .hbm, ⟨37, _⟩ => ⟨S4x2048x4, .f32⟩
  | .hbm, ⟨38, _⟩ => ⟨S4x2048x4, .f32⟩
  | .hbm, ⟨39, _⟩ => ⟨S4x2048x4x1, .f32⟩
  | .hbm, ⟨40, _⟩ => ⟨S4x2048x4x256, .f32⟩
  | .hbm, ⟨41, _⟩ => ⟨S4x2048x4x256, .f32⟩
  | .hbm, ⟨42, _⟩ => ⟨S4x2048x4x256, .f32⟩
  | .hbm, ⟨43, _⟩ => ⟨S_, .f32⟩
  | .hbm, ⟨44, _⟩ => ⟨S4x2048x4, .f32⟩
  | .hbm, ⟨45, _⟩ => ⟨S4x2048x4x1, .f32⟩
  | .hbm, ⟨46, _⟩ => ⟨S4x2048x4x256, .f32⟩
  | .hbm, ⟨47, _⟩ => ⟨S4x2048x4x256, .f32⟩
  | .hbm, ⟨48, _⟩ => ⟨S4x4x64x2048, .f32⟩
  | .hbm, ⟨49, _⟩ => ⟨S4x2048x4x64, .f32⟩
  | .hbm, ⟨50, _⟩ => ⟨S8192x256, .f32⟩
  | .hbm, ⟨51, _⟩ => ⟨S8192x256, .bf16⟩
  | .hbm, ⟨52, _⟩ => ⟨S8192x1024, .f32⟩
  | .hbm, ⟨53, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== PoolB.lean ====
abbrev S8192x384 : Shape := ⟨2, ![8192, 384]⟩
abbrev S8192x1024 : Shape := ⟨2, ![8192, 1024]⟩
abbrev S384x384 : Shape := ⟨2, ![384, 384]⟩
abbrev S1x384 : Shape := ⟨2, ![1, 384]⟩
abbrev S2048x384 : Shape := ⟨2, ![2048, 384]⟩
abbrev S2064x384 : Shape := ⟨2, ![2064, 384]⟩
abbrev S16x384 : Shape := ⟨2, ![16, 384]⟩
abbrev S384 : Shape := ⟨1, ![384]⟩
abbrev S2032x384 : Shape := ⟨2, ![2032, 384]⟩

abbrev nBuf : Space → Nat
  | .hbm => 7
  | .vmem => 11
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S384x384, .bf16⟩
  | .hbm, ⟨3, _⟩ => ⟨S1x384, .f32⟩
  | .hbm, ⟨4, _⟩ => ⟨S8192x384, .bf16⟩
  | .hbm, ⟨5, _⟩ => ⟨S384x384, .f32⟩
  | .hbm, ⟨6, _⟩ => ⟨S1x384, .f32⟩
  | .local _ .vmem, ⟨0, _⟩ => ⟨S2048x384, .bf16⟩
  | .local _ .vmem, ⟨1, _⟩ => ⟨S2048x384, .bf16⟩
  | .local _ .vmem, ⟨2, _⟩ => ⟨S2048x384, .bf16⟩
  | .local _ .vmem, ⟨3, _⟩ => ⟨S2048x384, .bf16⟩
  | .local _ .vmem, ⟨4, _⟩ => ⟨S384x384, .bf16⟩
  | .local _ .vmem, ⟨5, _⟩ => ⟨S1x384, .f32⟩
  | .local _ .vmem, ⟨6, _⟩ => ⟨S2048x384, .bf16⟩
  | .local _ .vmem, ⟨7, _⟩ => ⟨S2048x384, .bf16⟩
  | .local _ .vmem, ⟨8, _⟩ => ⟨S384x384, .f32⟩
  | .local _ .vmem, ⟨9, _⟩ => ⟨S1x384, .f32⟩
  | .local _ .vmem, ⟨10, _⟩ => ⟨S2064x384, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolBRefIdeal.lean ====
abbrev S8192x384 : Shape := ⟨2, ![8192, 384]⟩
abbrev S8192x1024 : Shape := ⟨2, ![8192, 1024]⟩
abbrev S384x384 : Shape := ⟨2, ![384, 384]⟩
abbrev S1x384 : Shape := ⟨2, ![1, 384]⟩
abbrev S_ : Shape := ⟨0, ![]⟩
abbrev S384 : Shape := ⟨1, ![384]⟩
abbrev S384x8192 : Shape := ⟨2, ![384, 8192]⟩
abbrev S4x2048x384 : Shape := ⟨3, ![4, 2048, 384]⟩
abbrev S4x2048x96 : Shape := ⟨3, ![4, 2048, 96]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x96x2048 : Shape := ⟨3, ![4, 96, 2048]⟩

abbrev nBuf : Space → Nat
  | .hbm => 135
  | .vmem => 0
  | .smem => 0
  | _ => 0

abbrev hbmTy0_0 (i : Nat) : BufTy := match i % 128 with
  | 0 => ⟨S8192x384, .bf16⟩
  | 1 => ⟨S8192x1024, .bf16⟩
  | 2 => ⟨S384x384, .bf16⟩
  | 3 => ⟨S1x384, .f32⟩
  | 4 => ⟨S8192x384, .f32⟩
  | 5 => ⟨S384x384, .f32⟩
  | 6 => ⟨S8192x1024, .f32⟩
  | 7 => ⟨S8192x384, .f32⟩
  | 8 => ⟨S8192x384, .f32⟩
  | 9 => ⟨S8192x384, .f32⟩
  | 10 => ⟨S_, .f32⟩
  | 11 => ⟨S384, .f32⟩
  | 12 => ⟨S1x384, .f32⟩
  | 13 => ⟨S8192x384, .f32⟩
  | 14 => ⟨S8192x384, .f32⟩
  | 15 => ⟨S384x8192, .f32⟩
  | 16 => ⟨S384x384, .f32⟩
  | 17 => ⟨S384x384, .f32⟩
  | 18 => ⟨S8192x384, .f32⟩
  | 19 => ⟨S4x2048x384, .f32⟩
  | 20 => ⟨S4x2048x96, .f32⟩
  | 21 => ⟨S2048, .i32⟩
  | 22 => ⟨S2048x1, .i32⟩
  | 23 => ⟨S2048, .i32⟩
  | 24 => ⟨S1x2048, .i32⟩
  | 25 => ⟨S2048x2048, .i32⟩
  | 26 => ⟨S2048x2048, .i32⟩
  | 27 => ⟨S2048x2048, .i1⟩
  | 28 => ⟨S_, .i32⟩
  | 29 => ⟨S1x2048, .i32⟩
  | 30 => ⟨S1x2048, .i32⟩
  | 31 => ⟨S2048x2048, .i32⟩
  | 32 => ⟨S2048x2048, .i32⟩
  | 33 => ⟨S2048x2048, .i1⟩
  | 34 => ⟨S2048x2048, .i1⟩
  | 35 => ⟨S2048x2048, .f32⟩
  | 36 => ⟨S_, .i32⟩
  | 37 => ⟨S2048x1, .i32⟩
  | 38 => ⟨S2048x1, .i32⟩
  | 39 => ⟨S_, .i32⟩
  | 40 => ⟨S2048x1, .i32⟩
  | 41 => ⟨S2048x1, .i32⟩
  | 42 => ⟨S2048x1, .f32⟩
  | 43 => ⟨S2048x2048, .f32⟩
  | 44 => ⟨S2048x2048, .f32⟩
  | 45 => ⟨S4x96x2048, .f32⟩
  | 46 => ⟨S4x2048x96, .f32⟩
  | 47 => ⟨S4x2048x96, .f32⟩
  | 48 => ⟨S4x2048x96, .f32⟩
  | 49 => ⟨S2048, .i32⟩
  | 50 => ⟨S2048x1, .i32⟩
  | 51 => ⟨S2048, .i32⟩
  | 52 => ⟨S1x2048, .i32⟩
  | 53 => ⟨S2048x2048, .i32⟩
  | 54 => ⟨S2048x2048, .i32⟩
  | 55 => ⟨S2048x2048, .i1⟩
  | 56 => ⟨S_, .i32⟩
  | 57 => ⟨S1x2048, .i32⟩
  | 58 => ⟨S1x2048, .i32⟩
  | 59 => ⟨S2048x2048, .i32⟩
  | 60 => ⟨S2048x2048, .i32⟩
  | 61 => ⟨S2048x2048, .i1⟩
  | 62 => ⟨S2048x2048, .i1⟩
  | 63 => ⟨S2048x2048, .f32⟩
  | 64 => ⟨S_, .i32⟩
  | 65 => ⟨S2048x1, .i32⟩
  | 66 => ⟨S2048x1, .i32⟩
  | 67 => ⟨S_, .i32⟩
  | 68 => ⟨S2048x1, .i32⟩
  | 69 => ⟨S2048x1, .i32⟩
  | 70 => ⟨S2048x1, .f32⟩
  | 71 => ⟨S2048x2048, .f32⟩
  | 72 => ⟨S2048x2048, .f32⟩
  | 73 => ⟨S4x96x2048, .f32⟩
  | 74 => ⟨S4x2048x96, .f32⟩
  | 75 => ⟨S4x2048x96, .f32⟩
  | 76 => ⟨S4x2048x96, .f32⟩
  | 77 => ⟨S2048, .i32⟩
  | 78 => ⟨S2048x1, .i32⟩
  | 79 => ⟨S2048, .i32⟩
  | 80 => ⟨S1x2048, .i32⟩
  | 81 => ⟨S2048x2048, .i32⟩
  | 82 => ⟨S2048x2048, .i32⟩
  | 83 => ⟨S2048x2048, .i1⟩
  | 84 => ⟨S_, .i32⟩
  | 85 => ⟨S1x2048, .i32⟩
  | 86 => ⟨S1x2048, .i32⟩
  | 87 => ⟨S2048x2048, .i32⟩
  | 88 => ⟨S2048x2048, .i32⟩
  | 89 => ⟨S2048x2048, .i1⟩
  | 90 => ⟨S2048x2048, .i1⟩
  | 91 => ⟨S2048x2048, .f32⟩
  | 92 => ⟨S_, .i32⟩
  | 93 => ⟨S2048x1, .i32⟩
  | 94 => ⟨S2048x1, .i32⟩
  | 95 => ⟨S_, .i32⟩
  | 96 => ⟨S2048x1, .i32⟩
  | 97 => ⟨S2048x1, .i32⟩
  | 98 => ⟨S2048x1, .f32⟩
  | 99 => ⟨S2048x2048, .f32⟩
  | 100 => ⟨S2048x2048, .f32⟩
  | 101 => ⟨S4x96x2048, .f32⟩
  | 102 => ⟨S4x2048x96, .f32⟩
  | 103 => ⟨S4x2048x96, .f32⟩
  | 104 => ⟨S4x2048x96, .f32⟩
  | 105 => ⟨S2048, .i32⟩
  | 106 => ⟨S2048x1, .i32⟩
  | 107 => ⟨S2048, .i32⟩
  | 108 => ⟨S1x2048, .i32⟩
  | 109 => ⟨S2048x2048, .i32⟩
  | 110 => ⟨S2048x2048, .i32⟩
  | 111 => ⟨S2048x2048, .i1⟩
  | 112 => ⟨S_, .i32⟩
  | 113 => ⟨S1x2048, .i32⟩
  | 114 => ⟨S1x2048, .i32⟩
  | 115 => ⟨S2048x2048, .i32⟩
  | 116 => ⟨S2048x2048, .i32⟩
  | 117 => ⟨S2048x2048, .i1⟩
  | 118 => ⟨S2048x2048, .i1⟩
  | 119 => ⟨S2048x2048, .f32⟩
  | 120 => ⟨S_, .i32⟩
  | 121 => ⟨S2048x1, .i32⟩
  | 122 => ⟨S2048x1, .i32⟩
  | 123 => ⟨S_, .i32⟩
  | 124 => ⟨S2048x1, .i32⟩
  | 125 => ⟨S2048x1, .i32⟩
  | 126 => ⟨S2048x1, .f32⟩
  | 127 => ⟨S2048x2048, .f32⟩
  | _ => ⟨S8192x384, .bf16⟩

abbrev hbmTy0_1 (i : Nat) : BufTy := match i % 128 with
  | 0 => ⟨S2048x2048, .f32⟩
  | 1 => ⟨S4x96x2048, .f32⟩
  | 2 => ⟨S4x2048x96, .f32⟩
  | 3 => ⟨S4x2048x96, .f32⟩
  | 4 => ⟨S4x2048x384, .f32⟩
  | 5 => ⟨S8192x384, .f32⟩
  | 6 => ⟨S8192x384, .bf16⟩
  | _ => ⟨S8192x384, .bf16⟩

abbrev hbmTy (i : Nat) : BufTy := match i / 128 with
  | 0 => hbmTy0_0 i
  | 1 => hbmTy0_1 i
  | _ => ⟨S8192x384, .bf16⟩

abbrev bufTy : (tb : Table) → Fin (tcTables nBuf tb) → BufTy
  | .hbm, ⟨i, _⟩ => hbmTy i
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_0 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c_2 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_c_3 : Ref sig .tc := ⟨.hbm, 64, rfl⟩
abbrev main_v55 : Ref sig .tc := ⟨.hbm, 65, rfl⟩
abbrev main_v56 : Ref sig .tc := ⟨.hbm, 66, rfl⟩
abbrev main_c_4 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_c_5 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_c_6 : Ref sig .tc := ⟨.hbm, 92, rfl⟩
abbrev main_v80 : Ref sig .tc := ⟨.hbm, 93, rfl⟩
abbrev main_v81 : Ref sig .tc := ⟨.hbm, 94, rfl⟩
abbrev main_c_7 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_c_8 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_c_9 : Ref sig .tc := ⟨.hbm, 120, rfl⟩
abbrev main_v105 : Ref sig .tc := ⟨.hbm, 121, rfl⟩
abbrev main_v106 : Ref sig .tc := ⟨.hbm, 122, rfl⟩
abbrev main_c_10 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩

abbrev nD : Nat := 1
abbrev τ : Topo := Topo.v7x

variable {F : FTy → Type} [FloatOps F]
-- ==== PoolF.lean ====
abbrev S8192x2048 : Shape := ⟨2, ![8192, 2048]⟩
abbrev S384x384 : Shape := ⟨2, ![384, 384]⟩
abbrev S1x384 : Shape := ⟨2, ![1, 384]⟩
abbrev S8192x384 : Shape := ⟨2, ![8192, 384]⟩
abbrev S2048x384 : Shape := ⟨2, ![2048, 384]⟩
abbrev S2064x384 : Shape := ⟨2, ![2064, 384]⟩
abbrev S16x384 : Shape := ⟨2, ![16, 384]⟩
abbrev S2032x384 : Shape := ⟨2, ![2032, 384]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S384x384, .bf16⟩
  | .hbm, ⟨2, _⟩ => ⟨S1x384, .f32⟩
  | .hbm, ⟨3, _⟩ => ⟨S8192x384, .bf16⟩
  | .hbm, ⟨4, _⟩ => ⟨S8192x384, .bf16⟩
  | .local _ .vmem, ⟨0, _⟩ => ⟨S2048x384, .bf16⟩
  | .local _ .vmem, ⟨1, _⟩ => ⟨S2048x384, .bf16⟩
  | .local _ .vmem, ⟨2, _⟩ => ⟨S384x384, .bf16⟩
  | .local _ .vmem, ⟨3, _⟩ => ⟨S1x384, .f32⟩
  | .local _ .vmem, ⟨4, _⟩ => ⟨S2048x384, .bf16⟩
  | .local _ .vmem, ⟨5, _⟩ => ⟨S2048x384, .bf16⟩
  | .local _ .vmem, ⟨6, _⟩ => ⟨S2048x384, .bf16⟩
  | .local _ .vmem, ⟨7, _⟩ => ⟨S2048x384, .bf16⟩
  | .local _ .vmem, ⟨8, _⟩ => ⟨S2064x384, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFRefIdeal.lean ====
abbrev S8192x2048 : Shape := ⟨2, ![8192, 2048]⟩
abbrev S384x384 : Shape := ⟨2, ![384, 384]⟩
abbrev S1x384 : Shape := ⟨2, ![1, 384]⟩
abbrev S8192x384 : Shape := ⟨2, ![8192, 384]⟩
abbrev S4x2048x384 : Shape := ⟨3, ![4, 2048, 384]⟩
abbrev S4x2048x96 : Shape := ⟨3, ![4, 2048, 96]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x96x2048 : Shape := ⟨3, ![4, 96, 2048]⟩

abbrev nBuf : Space → Nat
  | .hbm => 126
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S384x384, .bf16⟩
  | .hbm, ⟨2, _⟩ => ⟨S1x384, .f32⟩
  | .hbm, ⟨3, _⟩ => ⟨S8192x2048, .f32⟩
  | .hbm, ⟨4, _⟩ => ⟨S8192x384, .f32⟩
  | .hbm, ⟨5, _⟩ => ⟨S4x2048x384, .f32⟩
  | .hbm, ⟨6, _⟩ => ⟨S4x2048x96, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .i32⟩
  | .hbm, ⟨15, _⟩ => ⟨S1x2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S2048x2048, .i1⟩
  | .hbm, ⟨21, _⟩ => ⟨S2048x2048, .f32⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S4x96x2048, .f32⟩
  | .hbm, ⟨32, _⟩ => ⟨S4x2048x96, .f32⟩
  | .hbm, ⟨33, _⟩ => ⟨S4x2048x96, .f32⟩
  | .hbm, ⟨34, _⟩ => ⟨S4x2048x96, .f32⟩
  | .hbm, ⟨35, _⟩ => ⟨S2048, .i32⟩
  | .hbm, ⟨36, _⟩ => ⟨S2048x1, .i32⟩
  | .hbm, ⟨37, _⟩ => ⟨S2048, .i32⟩
  | .hbm, ⟨38, _⟩ => ⟨S1x2048, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S_, .i32⟩
  | .hbm, ⟨43, _⟩ => ⟨S1x2048, .i32⟩
  | .hbm, ⟨44, _⟩ => ⟨S1x2048, .i32⟩
  | .hbm, ⟨45, _⟩ => ⟨S2048x2048, .i32⟩
  | .hbm, ⟨46, _⟩ => ⟨S2048x2048, .i32⟩
  | .hbm, ⟨47, _⟩ => ⟨S2048x2048, .i1⟩
  | .hbm, ⟨48, _⟩ => ⟨S2048x2048, .i1⟩
  | .hbm, ⟨49, _⟩ => ⟨S2048x2048, .f32⟩
  | .hbm, ⟨50, _⟩ => ⟨S_, .i32⟩
  | .hbm, ⟨51, _⟩ => ⟨S2048x1, .i32⟩
  | .hbm, ⟨52, _⟩ => ⟨S2048x1, .i32⟩
  | .hbm, ⟨53, _⟩ => ⟨S_, .i32⟩
  | .hbm, ⟨54, _⟩ => ⟨S2048x1, .i32⟩
  | .hbm, ⟨55, _⟩ => ⟨S2048x1, .i32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S4x96x2048, .f32⟩
  | .hbm, ⟨60, _⟩ => ⟨S4x2048x96, .f32⟩
  | .hbm, ⟨61, _⟩ => ⟨S4x2048x96, .f32⟩
  | .hbm, ⟨62, _⟩ => ⟨S4x2048x96, .f32⟩
  | .hbm, ⟨63, _⟩ => ⟨S2048, .i32⟩
  | .hbm, ⟨64, _⟩ => ⟨S2048x1, .i32⟩
  | .hbm, ⟨65, _⟩ => ⟨S2048, .i32⟩
  | .hbm, ⟨66, _⟩ => ⟨S1x2048, .i32⟩
  | .hbm, ⟨67, _⟩ => ⟨S2048x2048, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S1x2048, .i32⟩
  | .hbm, ⟨72, _⟩ => ⟨S1x2048, .i32⟩
  | .hbm, ⟨73, _⟩ => ⟨S2048x2048, .i32⟩
  | .hbm, ⟨74, _⟩ => ⟨S2048x2048, .i32⟩
  | .hbm, ⟨75, _⟩ => ⟨S2048x2048, .i1⟩
  | .hbm, ⟨76, _⟩ => ⟨S2048x2048, .i1⟩
  | .hbm, ⟨77, _⟩ => ⟨S2048x2048, .f32⟩
  | .hbm, ⟨78, _⟩ => ⟨S_, .i32⟩
  | .hbm, ⟨79, _⟩ => ⟨S2048x1, .i32⟩
  | .hbm, ⟨80, _⟩ => ⟨S2048x1, .i32⟩
  | .hbm, ⟨81, _⟩ => ⟨S_, .i32⟩
  | .hbm, ⟨82, _⟩ => ⟨S2048x1, .i32⟩
  | .hbm, ⟨83, _⟩ => ⟨S2048x1, .i32⟩
  | .hbm, ⟨84, _⟩ => ⟨S2048x1, .f32⟩
  | .hbm, ⟨85, _⟩ => ⟨S2048x2048, .f32⟩
  | .hbm, ⟨86, _⟩ => ⟨S2048x2048, .f32⟩
  | .hbm, ⟨87, _⟩ => ⟨S4x96x2048, .f32⟩
  | .hbm, ⟨88, _⟩ => ⟨S4x2048x96, .f32⟩
  | .hbm, ⟨89, _⟩ => ⟨S4x2048x96, .f32⟩
  | .hbm, ⟨90, _⟩ => ⟨S4x2048x96, .f32⟩
  | .hbm, ⟨91, _⟩ => ⟨S2048, .i32⟩
  | .hbm, ⟨92, _⟩ => ⟨S2048x1, .i32⟩
  | .hbm, ⟨93, _⟩ => ⟨S2048, .i32⟩
  | .hbm, ⟨94, _⟩ => ⟨S1x2048, .i32⟩
  | .hbm, ⟨95, _⟩ => ⟨S2048x2048, .i32⟩
  | .hbm, ⟨96, _⟩ => ⟨S2048x2048, .i32⟩
  | .hbm, ⟨97, _⟩ => ⟨S2048x2048, .i1⟩
  | .hbm, ⟨98, _⟩ => ⟨S_, .i32⟩
  | .hbm, ⟨99, _⟩ => ⟨S1x2048, .i32⟩
  | .hbm, ⟨100, _⟩ => ⟨S1x2048, .i32⟩
  | .hbm, ⟨101, _⟩ => ⟨S2048x2048, .i32⟩
  | .hbm, ⟨102, _⟩ => ⟨S2048x2048, .i32⟩
  | .hbm, ⟨103, _⟩ => ⟨S2048x2048, .i1⟩
  | .hbm, ⟨104, _⟩ => ⟨S2048x2048, .i1⟩
  | .hbm, ⟨105, _⟩ => ⟨S2048x2048, .f32⟩
  | .hbm, ⟨106, _⟩ => ⟨S_, .i32⟩
  | .hbm, ⟨107, _⟩ => ⟨S2048x1, .i32⟩
  | .hbm, ⟨108, _⟩ => ⟨S2048x1, .i32⟩
  | .hbm, ⟨109, _⟩ => ⟨S_, .i32⟩
  | .hbm, ⟨110, _⟩ => ⟨S2048x1, .i32⟩
  | .hbm, ⟨111, _⟩ => ⟨S2048x1, .i32⟩
  | .hbm, ⟨112, _⟩ => ⟨S2048x1, .f32⟩
  | .hbm, ⟨113, _⟩ => ⟨S2048x2048, .f32⟩
  | .hbm, ⟨114, _⟩ => ⟨S2048x2048, .f32⟩
  | .hbm, ⟨115, _⟩ => ⟨S4x96x2048, .f32⟩
  | .hbm, ⟨116, _⟩ => ⟨S4x2048x96, .f32⟩
  | .hbm, ⟨117, _⟩ => ⟨S4x2048x96, .f32⟩
  | .hbm, ⟨118, _⟩ => ⟨S4x2048x384, .f32⟩
  | .hbm, ⟨119, _⟩ => ⟨S8192x384, .f32⟩
  | .hbm, ⟨120, _⟩ => ⟨S384x384, .f32⟩
  | .hbm, ⟨121, _⟩ => ⟨S8192x384, .f32⟩
  | .hbm, ⟨122, _⟩ => ⟨S8192x384, .f32⟩
  | .hbm, ⟨123, _⟩ => ⟨S8192x384, .f32⟩
  | .hbm, ⟨124, _⟩ => ⟨S8192x384, .bf16⟩
  | .hbm, ⟨125, _⟩ => ⟨S8192x384, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c_3 : Ref sig .tc := ⟨.hbm, 50, rfl⟩
abbrev main_v43 : Ref sig .tc := ⟨.hbm, 51, rfl⟩
abbrev main_v44 : Ref sig .tc := ⟨.hbm, 52, rfl⟩
abbrev main_c_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_c_5 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_c_6 : Ref sig .tc := ⟨.hbm, 78, rfl⟩
abbrev main_v68 : Ref sig .tc := ⟨.hbm, 79, rfl⟩
abbrev main_v69 : Ref sig .tc := ⟨.hbm, 80, rfl⟩
abbrev main_c_7 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_c_8 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_c_9 : Ref sig .tc := ⟨.hbm, 106, rfl⟩
abbrev main_v93 : Ref sig .tc := ⟨.hbm, 107, rfl⟩
abbrev main_v94 : Ref sig .tc := ⟨.hbm, 108, rfl⟩
abbrev main_c_10 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩

abbrev nD : Nat := 1
abbrev τ : Topo := Topo.v7x

variable {F : FTy → Type} [FloatOps F]
-- ==== Disc.lean ====
abbrev S1x1536 : Shape := ⟨2, ![1, 1536]⟩
abbrev S16x1536 : Shape := ⟨2, ![16, 1536]⟩
abbrev S1x128 : Shape := ⟨2, ![1, 128]⟩
abbrev S1536 : Shape := ⟨1, ![1536]⟩
abbrev S1536x128 : Shape := ⟨2, ![1536, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S16x1536, .f32⟩
  | .hbm, ⟨4, _⟩ => ⟨S16x1536, .f32⟩
  | .hbm, ⟨5, _⟩ => ⟨S1x1536, .f32⟩
  | .hbm, ⟨6, _⟩ => ⟨S1x1536, .f32⟩
  | .hbm, ⟨7, _⟩ => ⟨S16x1536, .f32⟩
  | .hbm, ⟨8, _⟩ => ⟨S16x1536, .f32⟩
  | .hbm, ⟨9, _⟩ => ⟨S1x1536, .f32⟩
  | .hbm, ⟨10, _⟩ => ⟨S1x1536, .f32⟩
  | .hbm, ⟨11, _⟩ => ⟨S1x128, .f32⟩
  | .hbm, ⟨12, _⟩ => ⟨S16x1536, .f32⟩
  | .hbm, ⟨13, _⟩ => ⟨S16x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S16x1536, .f32⟩
  | .local _ .vmem, ⟨4, _⟩ => ⟨S16x1536, .f32⟩
  | .local _ .vmem, ⟨5, _⟩ => ⟨S1x1536, .f32⟩
  | .local _ .vmem, ⟨6, _⟩ => ⟨S1x1536, .f32⟩
  | .local _ .vmem, ⟨7, _⟩ => ⟨S16x1536, .f32⟩
  | .local _ .vmem, ⟨8, _⟩ => ⟨S16x1536, .f32⟩
  | .local _ .vmem, ⟨9, _⟩ => ⟨S1x1536, .f32⟩
  | .local _ .vmem, ⟨10, _⟩ => ⟨S1x1536, .f32⟩
  | .local _ .vmem, ⟨11, _⟩ => ⟨S1x128, .f32⟩
  | .local _ .vmem, ⟨12, _⟩ => ⟨S16x1536, .f32⟩
  | .local _ .vmem, ⟨13, _⟩ => ⟨S16x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== DiscRefIdeal.lean ====
abbrev S1x1536 : Shape := ⟨2, ![1, 1536]⟩
abbrev S16x1536 : Shape := ⟨2, ![16, 1536]⟩
abbrev S_ : Shape := ⟨0, ![]⟩
abbrev S1536 : Shape := ⟨1, ![1536]⟩
abbrev S24x64 : Shape := ⟨2, ![24, 64]⟩
abbrev S24 : Shape := ⟨1, ![24]⟩
abbrev S104 : Shape := ⟨1, ![104]⟩
abbrev S128 : Shape := ⟨1, ![128]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S1x1536, .f32⟩
  | 1 => ⟨S1x1536, .f32⟩
  | 2 => ⟨S1x1536, .f32⟩
  | 3 => ⟨S16x1536, .f32⟩
  | 4 => ⟨S16x1536, .f32⟩
  | 5 => ⟨S1x1536, .f32⟩
  | 6 => ⟨S1x1536, .f32⟩
  | 7 => ⟨S16x1536, .f32⟩
  | 8 => ⟨S16x1536, .f32⟩
  | 9 => ⟨S1x1536, .f32⟩
  | 10 => ⟨S1x1536, .f32⟩
  | 11 => ⟨S1x1536, .f32⟩
  | 12 => ⟨S1x1536, .f32⟩
  | 13 => ⟨S1x1536, .f32⟩
  | 14 => ⟨S1x1536, .f32⟩
  | 15 => ⟨S1x1536, .f32⟩
  | 16 => ⟨S1x1536, .f32⟩
  | 17 => ⟨S1x1536, .f32⟩
  | 18 => ⟨S1x1536, .f32⟩
  | 19 => ⟨S_, .f32⟩
  | 20 => ⟨S1x1536, .f32⟩
  | 21 => ⟨S1x1536, .f32⟩
  | 22 => ⟨S1x1536, .f32⟩
  | 23 => ⟨S1x1536, .f32⟩
  | 24 => ⟨S1x1536, .f32⟩
  | 25 => ⟨S1x1536, .f32⟩
  | 26 => ⟨S1x1536, .f32⟩
  | 27 => ⟨S1x1536, .f32⟩
  | 28 => ⟨S1x1536, .f32⟩
  | 29 => ⟨S1x1536, .f32⟩
  | 30 => ⟨S_, .f32⟩
  | 31 => ⟨S1x1536, .f32⟩
  | 32 => ⟨S1x1536, .f32⟩
  | 33 => ⟨S1x1536, .f32⟩
  | 34 => ⟨S1x1536, .f32⟩
  | 35 => ⟨S1x1536, .f32⟩
  | 36 => ⟨S1x1536, .f32⟩
  | 37 => ⟨S1x1536, .f32⟩
  | 38 => ⟨S_, .f32⟩
  | 39 => ⟨S1x1536, .f32⟩
  | 40 => ⟨S1x1536, .f32⟩
  | 41 => ⟨S16x1536, .f32⟩
  | 42 => ⟨S16x1536, .f32⟩
  | 43 => ⟨S16x1536, .f32⟩
  | 44 => ⟨S16x1536, .f32⟩
  | 45 => ⟨S16x1536, .f32⟩
  | 46 => ⟨S16x1536, .f32⟩
  | 47 => ⟨S16x1536, .f32⟩
  | 48 => ⟨S16x1536, .f32⟩
  | 49 => ⟨S16x1536, .f32⟩
  | 50 => ⟨S16x1536, .f32⟩
  | 51 => ⟨S16x1536, .f32⟩
  | 52 => ⟨S16x1536, .f32⟩
  | 53 => ⟨S16x1536, .f32⟩
  | 54 => ⟨S16x1536, .f32⟩
  | 55 => ⟨S16x1536, .f32⟩
  | 56 => ⟨S_, .f32⟩
  | 57 => ⟨S1536, .f32⟩
  | 58 => ⟨S1x1536, .f32⟩
  | 59 => ⟨S16x1536, .f32⟩
  | 60 => ⟨S16x1536, .f32⟩
  | 61 => ⟨S16x1536, .f32⟩
  | 62 => ⟨S_, .f32⟩
  | 63 => ⟨S1536, .f32⟩
  | 64 => ⟨S1x1536, .f32⟩
  | 65 => ⟨S16x1536, .f32⟩
  | 66 => ⟨S16x1536, .f32⟩
  | 67 => ⟨S16x1536, .f32⟩
  | 68 => ⟨S16x1536, .f32⟩
  | 69 => ⟨S16x1536, .f32⟩
  | 70 => ⟨S16x1536, .f32⟩
  | 71 => ⟨S_, .f32⟩
  | 72 => ⟨S1536, .f32⟩
  | 73 => ⟨S1x1536, .f32⟩
  | 74 => ⟨S1x1536, .f32⟩
  | 75 => ⟨S16x1536, .f32⟩
  | 76 => ⟨S16x1536, .f32⟩
  | 77 => ⟨S16x1536, .f32⟩
  | 78 => ⟨S16x1536, .f32⟩
  | 79 => ⟨S_, .f32⟩
  | 80 => ⟨S1536, .f32⟩
  | 81 => ⟨S1x1536, .f32⟩
  | 82 => ⟨S1x1536, .f32⟩
  | 83 => ⟨S1x1536, .f32⟩
  | 84 => ⟨S1x1536, .f32⟩
  | 85 => ⟨S1x1536, .f32⟩
  | 86 => ⟨S1x1536, .f32⟩
  | 87 => ⟨S1x1536, .f32⟩
  | 88 => ⟨S1x1536, .f32⟩
  | 89 => ⟨S1x1536, .f32⟩
  | 90 => ⟨S1x1536, .f32⟩
  | 91 => ⟨S1x1536, .f32⟩
  | 92 => ⟨S1x1536, .f32⟩
  | 93 => ⟨S1x1536, .f32⟩
  | 94 => ⟨S1x1536, .f32⟩
  | 95 => ⟨S1x1536, .f32⟩
  | 96 => ⟨S1x1536, .f32⟩
  | 97 => ⟨S1x1536, .f32⟩
  | 98 => ⟨S1x1536, .f32⟩
  | 99 => ⟨S1x1536, .f32⟩
  | 100 => ⟨S1x1536, .f32⟩
  | 101 => ⟨S1x1536, .f32⟩
  | 102 => ⟨S1x1536, .f32⟩
  | 103 => ⟨S1x1536, .f32⟩
  | 104 => ⟨S1x1536, .f32⟩
  | 105 => ⟨S1x1536, .f32⟩
  | 106 => ⟨S1x1536, .f32⟩
  | 107 => ⟨S1x1536, .f32⟩
  | 108 => ⟨S1x1536, .f32⟩
  | 109 => ⟨S1x1536, .f32⟩
  | 110 => ⟨S1x1536, .f32⟩
  | 111 => ⟨S1x1536, .f32⟩
  | 112 => ⟨S1x1536, .f32⟩
  | 113 => ⟨S1x1536, .f32⟩
  | 114 => ⟨S1x1536, .f32⟩
  | 115 => ⟨S1x1536, .f32⟩
  | 116 => ⟨S1x1536, .f32⟩
  | 117 => ⟨S1x1536, .f32⟩
  | 118 => ⟨S1x1536, .f32⟩
  | 119 => ⟨S1x1536, .f32⟩
  | 120 => ⟨S1x1536, .f32⟩
  | 121 => ⟨S1x1536, .f32⟩
  | 122 => ⟨S1x1536, .f32⟩
  | 123 => ⟨S1x1536, .f32⟩
  | 124 => ⟨S1x1536, .f32⟩
  | 125 => ⟨S1x1536, .f32⟩
  | 126 => ⟨S1x1536, .f32⟩
  | 127 => ⟨S1x1536, .f32⟩
  | _ => ⟨S1x1536, .f32⟩

abbrev hbmTy0_1 (i : Nat) : BufTy := match i % 128 with
  | 0 => ⟨S1x1536, .f32⟩
  | 1 => ⟨S1x1536, .f32⟩
  | 2 => ⟨S1x1536, .f32⟩
  | 3 => ⟨S1x1536, .f32⟩
  | 4 => ⟨S1x1536, .f32⟩
  | 5 => ⟨S24x64, .f32⟩
  | 6 => ⟨S_, .f32⟩
  | 7 => ⟨S24, .f32⟩
  | 8 => ⟨S_, .f32⟩
  | 9 => ⟨S104, .f32⟩
  | 10 => ⟨S128, .f32⟩
  | 11 => ⟨S1x128, .f32⟩
  | _ => ⟨S1x1536, .f32⟩

abbrev hbmTy (i : Nat) : BufTy := match i / 128 with
  | 0 => hbmTy0_0 i
  | 1 => hbmTy0_1 i
  | _ => ⟨S1x1536, .f32⟩

abbrev bufTy : (tb : Table) → Fin (tcTables nBuf tb) → BufTy
  | .hbm, ⟨i, _⟩ => hbmTy i
  | _, _ => ⟨S1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_6 : Ref sig .tc := ⟨.hbm, 134, rfl⟩
abbrev main_v118 : Ref sig .tc := ⟨.hbm, 135, rfl⟩
abbrev main_cst_7 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩

abbrev nD : Nat := 1
abbrev τ : Topo := Topo.v7x

variable {F : FTy → Type} [FloatOps F]
-- ==== Proof.Proto.lean ====
/-
The cross-device protocol of the gradient reduction, apart from what the transfers carry.

Eight devices, numbered `4x + 2y + c`. A device exchanges with four peers: the device beside it on its chip (peer 0)
and the devices of its own core number on the three other chips (peers 1, 2, 3). Each relation is its own inverse.

Per device there is one barrier cell, on which each of the four peers pays one unit (handing over the buffers the
device may then write on that peer), and one cell per transfer semaphore: four for the local copies, thirty from which
the sources come back, thirty on which the data of a peer lands. Every one of these cells is used exactly once. What a
device still has to do is written as a list of operations (`Op`), and `st` is what it holds while that list is left:
every operation of the program that touches a semaphore takes the head off the list.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers and cells -/

set_option backward.proofsInPublic true in
/-- Peer `d` of device `c`: 0 the device beside it, 1 the chip across `x`, 2 across `y`, 3 across both. -/
def peer (d : Fin 4) (c : Dev nD) : Dev nD := ⟨(c.val ^^^ (![1, 4, 2, 6] d)) % 8, Nat.mod_lt _ (by decide)⟩

theorem peer_peer (d : Fin 4) (c : Dev nD) : peer d (peer d c) = c := by revert d c; decide

/-- The peers of a kind, as a permutation of the devices. -/
def peerEquiv (d : Fin 4) : Dev nD ≃ Dev nD := ⟨peer d, peer d, peer_peer d, peer_peer d⟩

/-- Which peer transfer `i` goes to: of each item's five, 0 and 4 to the device beside, 1, 2, 3 to the other chips. -/
def dst (i : ℕ) : Fin 4 := if i % 5 = 4 then 0 else Fin.ofNat 4 (i % 5)

/-- The runtime's barrier semaphore and the transfer semaphores, by number. -/
abbrev barS : Sem sig := (SemArray.scalar (sig.barrier 0 rfl) : Sems sig S_).sem
abbrev dsem (n : ℕ) : DmaSem sig := (Fin.ofNat 72 n : Fin 72)

abbrev barCell (c : Dev nD) : GSem nD τ sig := ((c : Thread nD τ), .reg barS)
abbrev dcell (c : Dev nD) (n : ℕ) : GSem nD τ sig := ((c : Thread nD τ), .dma (dsem n))

/-! ## The schedule -/

variable (F) in
/-- What the transfers carry: for each semaphore number its amount and, per device, what a completed transfer hands the
    device that waits; and what each peer's barrier unit hands over. -/
structure Pay where
  amt : ℕ → ℕ
  amt_pos : ∀ n, 0 < amt n
  dma : Dev nD → ℕ → sProp (MT nD τ sig Unit (Elt F) ℕ UU ℕ)
  bar : Dev nD → Fin 4 → sProp (MT nD τ sig Unit (Elt F) ℕ UU ℕ)
  dma_st : ∀ c n, BI.Storable (upEmb : UEmb _ (MT nD τ sig Unit (Elt F) ℕ UU ℕ)) (dma c n)
  bar_st : ∀ c d, BI.Storable (upEmb : UEmb _ (MT nD τ sig Unit (Elt F) ℕ UU ℕ)) (bar c d)

variable (P : Pay F)

/-- One round. A barrier cell has four duties of one unit, the cell of transfer semaphore `n ≥ 8` the duty 0. -/
def rd : Rounds.Schedule (GSem nD τ sig) (Fin 4) 𝕄 where
  duties g r := if r = 0 ∧ g.1.2 = .tc then
      (match g.2 with
        | .reg s => if s = barS then Finset.univ else ∅
        | .dma q => if 8 ≤ q.val then {0} else ∅)
    else ∅
  unitless _ := False
  amount g _ _ := match g.2 with | .reg _ => 1 | .dma q => P.amt q.val
  payload g _ d := match g.2 with | .reg _ => P.bar g.1.1 d | .dma q => P.dma g.1.1 q.val
  amount_pos g _ _ _ := by
    rcases g with ⟨t, s | q⟩
    · exact Nat.one_pos
    · exact P.amt_pos _

instance rd_storable (g : GSem nD τ sig) (r : ℕ) (d : Fin 4) : BI.Storable (upEmb : UEmb _ 𝕄) ((rd P).payload g r d) := by
  rcases g with ⟨t, s | q⟩
  · exact P.bar_st _ _
  · exact P.dma_st _ _

theorem dsem_val {n : ℕ} (h : n < 72) : (dsem n).val = n := Nat.mod_eq_of_lt h

section Sched
variable (c : Dev nD)

theorem duties_bar : (rd P).duties (barCell c) 0 = Finset.univ := by
  dsimp only [rd]; rw [if_pos ⟨rfl, rfl⟩]; exact if_pos rfl
theorem duties_dma {n : ℕ} (h8 : 8 ≤ n) (h : n < 72) : (rd P).duties (dcell c n) 0 = {0} := by
  dsimp only [rd]; rw [if_pos ⟨rfl, rfl⟩, if_pos (by rw [dsem_val h]; exact h8)]
theorem duties_later (g : GSem nD τ sig) : ∀ r, 1 ≤ r → (rd P).duties g r = ∅ :=
  fun r hr => by dsimp only [rd]; rw [if_neg fun h => by omega]
theorem amount_bar (d : Fin 4) : (rd P).amount (barCell c) 0 d = 1 := rfl
theorem amount_dma {n : ℕ} (h : n < 72) (d : Fin 4) : (rd P).amount (dcell c n) 0 d = P.amt n := by
  show P.amt (dsem n).val = _; rw [dsem_val h]
theorem payload_bar (d : Fin 4) : (rd P).payload (barCell c) 0 d = P.bar c d := rfl
theorem payload_dma {n : ℕ} (h : n < 72) (d : Fin 4) : (rd P).payload (dcell c n) 0 d = P.dma c n := by
  show P.dma c (dsem n).val = _; rw [dsem_val h]
theorem expect_bar : (rd P).expect (barCell c) 0 = 4 := by
  unfold Schedule.expect Schedule.amountOf
  rw [duties_bar, Finset.sum_congr rfl fun d _ => amount_bar P c d, Finset.sum_const, Finset.card_univ, Fintype.card_fin, smul_eq_mul]
theorem expect_dma {n : ℕ} (h8 : 8 ≤ n) (h : n < 72) : (rd P).expect (dcell c n) 0 = P.amt n := by
  unfold Schedule.expect Schedule.amountOf; rw [duties_dma P c h8 h, Finset.sum_singleton, amount_dma P c h]

theorem rest_bar : bigSep ((rd P).duties (barCell c) 0 \ ∅) (fun d => (rd P).payload (barCell c) 0 d)
    = iprop(P.bar c 0 ∗ P.bar c 1 ∗ P.bar c 2 ∗ P.bar c 3) := by
  rw [Finset.sdiff_empty, duties_bar, bigSep_univ_eq_bigSepL [0, 1, 2, 3] (by decide) (by decide)]; rfl
theorem rest_dma {n : ℕ} (h8 : 8 ≤ n) (h : n < 72) :
    bigSep ((rd P).duties (dcell c n) 0 \ ∅) (fun d => (rd P).payload (dcell c n) 0 d) = P.dma c n := by
  rw [Finset.sdiff_empty, duties_dma P c h8 h, bigSep_singleton, payload_dma P c h]

end Sched

/-! ## Levels: a device may wait for what every peer can pay before anything the device still owes -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The landing cells by their stage: the swap 2, the exchange between chips 3, the last swap 4; sources and copies 0. -/
def lvn (n : ℕ) : ℕ := if 42 ≤ n then (if n % 5 = 2 then 2 else if n % 5 = 1 then 4 else 3) else 0
def lv (g : GSem nD τ sig) (_ : Unit) : ℕ := match g.2 with | .reg _ => 1 | .dma q => lvn q.val

/-! ## What is left to do -/

/-- An operation on semaphores: a unit to peer `d`'s barrier, the wait for four on the own barrier, local copy `i`,
    transfer `i` to its peer, a wait on transfer semaphore `n`. -/
inductive Op | sig (d : Fin 4) | bar | copy (i : ℕ) | send (i : ℕ) | wait (n : ℕ)
  deriving DecidableEq

/-- The landing numbers still owed, barrier units not counted. -/
def sends : List Op → List ℕ | [] => [] | .send i :: p => i :: sends p | _ :: p => sends p
/-- The numbers waited on. -/
def waits : List Op → List ℕ | [] => [] | .wait n :: p => n :: waits p | _ :: p => waits p
/-- The own cells that an operation still to come will credit. -/
def pend : List Op → List ℕ
  | [] => [] | .send i :: p => (12 + i) :: pend p | .copy i :: p => (8 + i) :: pend p | _ :: p => pend p
def nosig : List Op → Bool | [] => true | .sig _ :: _ => false | _ :: p => nosig p

/-- The list is in order: a wait comes after its own transfer and below everything still owed, nothing is used twice. -/
def good : List Op → Bool
  | [] => true
  | .sig _ :: p => good p
  | .bar :: p => nosig p && good p
  | .copy i :: p => (i < 4) && ((8 + i) ∉ pend p) && (waits p).Nodup && good p
  | .send i :: p => (i < 30) && ((12 + i) ∉ pend p) && (waits p).Nodup && good p
  | .wait n :: p => (8 ≤ n) && (n < 72) && nosig p && (n ∉ pend p) && (sends p).all (fun i => lvn n < lvn (42 + i)) && good p

/-- What device `c` owes its peers while `p` is left. -/
def owed (c : Dev nD) : List Op → CellTallies nD τ sig Unit
  | [] => 0
  | .sig d :: p => owed c p + tallyAt (barCell (peer d c)) () 1
  | .send i :: p => owed c p + tallyAt (dcell (peer (dst i) c) (42 + i)) () (P.amt (42 + i))
  | _ :: p => owed c p

theorem owed_pos {c : Dev nD} {p : List Op} {g : GSem nD τ sig} {u : Unit} (h : 0 < owed P c p g u) :
    (∃ d, g = barCell (peer d c) ∧ nosig p = false) ∨ ∃ i ∈ sends p, g = dcell (peer (dst i) c) (42 + i) := by
  induction p with
  | nil => exact absurd h (Nat.lt_irrefl 0)
  | cons o p ih =>
    cases o with
    | sig d =>
      unfold owed at h
      rw [Pi.add_apply, Finsupp.add_apply, tallyAt_apply] at h
      by_cases hg : g = barCell (peer d c) ∧ u = ()
      · exact Or.inl ⟨d, hg.1, rfl⟩
      · rw [if_neg hg, Nat.add_zero] at h
        rcases ih h with ⟨d', h1, h2⟩ | ⟨i, hi, h1⟩
        · exact Or.inl ⟨d', h1, rfl⟩
        · exact Or.inr ⟨i, hi, h1⟩
    | send i =>
      unfold owed at h
      rw [Pi.add_apply, Finsupp.add_apply, tallyAt_apply] at h
      by_cases hg : g = dcell (peer (dst i) c) (42 + i) ∧ u = ()
      · exact Or.inr ⟨i, List.mem_cons_self, hg.1⟩
      · rw [if_neg hg, Nat.add_zero] at h
        rcases ih h with ⟨d', h1, h2⟩ | ⟨i, hi, h1⟩
        · exact Or.inl ⟨d', h1, h2⟩
        · exact Or.inr ⟨i, List.mem_cons_of_mem _ hi, h1⟩
    | bar => exact ih h
    | copy i => exact ih h
    | wait n => exact ih h

theorem L_owed {c : Dev nD} {p : List Op} {g : GSem nD τ sig} {u : Unit} (h : 0 < owed P c p g u) : u ∈ L g := by
  rcases owed_pos P h with ⟨d, rfl, -⟩ | ⟨i, -, rfl⟩ <;> exact Finset.mem_singleton_self _

/-- A wait on a cell below everything owed is allowed. -/
theorem mayWait_below (c : Dev nD) (sm : SemLoc sig) (p : List Op) (cut : ℕ) (h : lv ((c : Thread nD τ), sm) () ≤ cut)
    (hs : nosig p = true ∨ cut < 1) (hc : ∀ i ∈ sends p, i < 30 ∧ cut < lvn (42 + i)) :
    (levAts L lv : sProp 𝕄) ⊢ MayWait (c : Thread nD τ) sm () (owed P c p) :=
  MayOwe.of_cut (L := L) (lev := lv) cut (fun q hq => by rw [Finset.mem_singleton.mp hq, L_tc]; exact Finset.mem_singleton_self _)
    (fun g u hg => L_owed P hg)
    (fun q hq => by rw [Finset.mem_singleton.mp hq]; exact h)
    (fun g u hg => by
      rcases owed_pos P hg with ⟨d, rfl, hd⟩ | ⟨i, hi, rfl⟩
      · rcases hs with hs | hs
        · rw [hs] at hd; exact absurd hd (by decide)
        · exact hs
      · show cut < lvn (dsem (42 + i)).val
        rw [dsem_val (by have := (hc i hi).1; omega)]; exact (hc i hi).2)

theorem good_sends : ∀ {p : List Op}, good p = true → ∀ i ∈ sends p, i < 30
  | [], _, i, hi => absurd hi List.not_mem_nil
  | .sig _ :: p, h, i, hi => good_sends (p := p) h i hi
  | .bar :: p, h, i, hi => good_sends (p := p) (by simp [good] at h; exact h.2) i hi
  | .copy j :: p, h, i, hi => good_sends (p := p) (by simp [good] at h; exact h.2) i hi
  | .send j :: p, h, i, hi => by
    simp [good] at h
    rcases List.mem_cons.mp hi with rfl | hi
    · exact h.1.1.1
    · exact good_sends (p := p) h.2 i hi
  | .wait n :: p, h, i, hi => good_sends (p := p) (by simp [good] at h; exact h.2) i hi

/-! ## What a device holds while a list is left -/

/-- `f` of every operation of the list, each apart from the others. -/
def all (f : Op → sProp 𝕄) : List Op → sProp 𝕄 | [] => iprop(emp) | o :: p => iprop(f o ∗ all f p)

/-- What device `c` holds for an operation still to come; `w` are the own cells not credited yet. -/
def opRes (c : Dev nD) (w : List ℕ) : Op → sProp 𝕄
  | .sig d => dutyTok ER (barCell (peer d c)) 0 d
  | .bar => iprop(atPos ER (barCell c) 0 ∅ 0 ∗ cred (tallyAt (barCell c) () 4))
  | .copy i => dutyTok ER (dcell c (8 + i)) 0 0
  | .send i => iprop(dutyTok ER (dcell c (12 + i)) 0 0 ∗ dutyTok ER (dcell (peer (dst i) c) (42 + i)) 0 0)
  | .wait n => iprop(atPos ER (dcell c n) 0 ∅ 0 ∗ if n ∈ w then iprop(emp) else cred (tallyAt (dcell c n) () (P.amt n)))

/-- What a wait leaves: its cell's counter at zero. -/
def opZ (c : Dev nD) : Op → sProp 𝕄
  | .bar => semVal (barCell c) 0
  | .wait n => semVal (dcell c n) 0
  | _ => iprop(emp)

/-- The cells of a device, by index: the barrier, then the transfer semaphores from number 8. -/
def csem (k : Fin 65) : SemLoc sig := if k.val = 0 then .reg barS else .dma (dsem (7 + k.val))
abbrev kcell (ck : Dev nD × Fin 65) : GSem nD τ sig := ((ck.1 : Thread nD τ), csem ck.2)

/-- The shared records: every cell's invariant, every cell at its round 0. -/
def records (K : Dev nD × Fin 65 → ℕ) : sProp 𝕄 :=
  iprop((bigSep Finset.univ fun ck : Dev nD × Fin 65 => cellInv ER (rd P) (K ck) (kcell ck))
    ∗ bigSep Finset.univ fun ck : Dev nD × Fin 65 => reached ER (kcell ck) 0)

instance records_persistent (K : Dev nD × Fin 65 → ℕ) : BI.Persistent (records P K) := by unfold records; infer_instance

/-- Device `c`'s protocol state with `p` left, `Z` being what all its closed cells will make. -/
def st (c : Dev nD) (Z : sProp 𝕄) (p : List Op) : sProp 𝕄 :=
  iprop((∃ K, records P K) ∗ levAts L lv ∗ ⌜good p = true⌝ ∗ (∃ W, owes (c : Thread nD τ) (owed P c p) W)
    ∗ all (opRes P c (pend p)) p ∗ (all (opZ c) p -∗ Z))

end Cert.ReduceProof

end
-- ==== Proof.Steps.lean ====
/-
One rule per operation of the protocol: each takes the head off the list `st` is at. A signal hands its payload to the
peer, the barrier wait hands over the four payloads the peers signalled, a copy or transfer gives away its source and
destination, and a wait on a transfer semaphore gives what that transfer hands back.
-/
module

public import proofs.«01_k».proof.Proof.Proto

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (P : Pay F)

/-! ## The records -/

theorem records_bar (K : Dev nD × Fin 65 → ℕ) (c : Dev nD) :
    records P K ⊢ iprop(cellInv ER (rd P) (K (c, 0)) (barCell c) ∗ reached ER (barCell c) 0) := by
  unfold records
  exact BIClass.sep_mono (bigSep_elim (Φ := fun ck : Dev nD × Fin 65 => cellInv ER (rd P) (K ck) (kcell ck)) (Finset.mem_univ (c, 0)))
    (bigSep_elim (Φ := fun ck : Dev nD × Fin 65 => (reached ER (kcell ck) 0 : sProp 𝕄)) (Finset.mem_univ (c, 0)))

theorem records_dma (K : Dev nD × Fin 65 → ℕ) (c : Dev nD) {n : ℕ} (h8 : 8 ≤ n) (h : n < 72) :
    ∃ κ, records P K ⊢ iprop(cellInv ER (rd P) κ (dcell c n) ∗ reached ER (dcell c n) 0) := by
  have e : kcell (c, ⟨n - 7, by omega⟩) = dcell c n := by
    show (((c : Thread nD τ), csem ⟨n - 7, _⟩) : GSem nD τ sig) = _
    unfold csem
    rw [if_neg (by show ¬ n - 7 = 0; omega), show 7 + (⟨n - 7, by omega⟩ : Fin 65).val = n from by show 7 + (n - 7) = n; omega]
  refine ⟨K (c, ⟨n - 7, by omega⟩), ?_⟩
  rw [← e]
  unfold records
  exact BIClass.sep_mono (bigSep_elim (Φ := fun ck : Dev nD × Fin 65 => cellInv ER (rd P) (K ck) (kcell ck)) (Finset.mem_univ _))
    (bigSep_elim (Φ := fun ck : Dev nD × Fin 65 => (reached ER (kcell ck) 0 : sProp 𝕄)) (Finset.mem_univ _))

/-! ## The credit of an own cell, kept with the wait it is for -/

theorem all_cons (f : Op → sProp 𝕄) (o : Op) (p : List Op) : all f (o :: p) = iprop(f o ∗ all f p) := rfl

theorem opRes_wait (c : Dev nD) (w : List ℕ) (n : ℕ) :
    opRes P c w (.wait n) = iprop(atPos ER (dcell c n) 0 ∅ 0 ∗ if n ∈ w then iprop(emp) else cred (tallyAt (dcell c n) () (P.amt n))) := rfl

section Heads
variable (c : Dev nD) (p : List Op)
theorem res_sig (d : Fin 4) : all (opRes P c (pend (.sig d :: p))) (.sig d :: p)
    = iprop(dutyTok ER (barCell (peer d c)) 0 d ∗ all (opRes P c (pend p)) p) := rfl
theorem res_bar : all (opRes P c (pend (.bar :: p))) (.bar :: p)
    = iprop((atPos ER (barCell c) 0 ∅ 0 ∗ cred (tallyAt (barCell c) () 4)) ∗ all (opRes P c (pend p)) p) := rfl
theorem res_copy (i : ℕ) : all (opRes P c (pend (.copy i :: p))) (.copy i :: p)
    = iprop(dutyTok ER (dcell c (8 + i)) 0 0 ∗ all (opRes P c ((8 + i) :: pend p)) p) := rfl
theorem res_send (i : ℕ) : all (opRes P c (pend (.send i :: p))) (.send i :: p)
    = iprop((dutyTok ER (dcell c (12 + i)) 0 0 ∗ dutyTok ER (dcell (peer (dst i) c) (42 + i)) 0 0)
        ∗ all (opRes P c ((12 + i) :: pend p)) p) := rfl
theorem res_wait (n : ℕ) : all (opRes P c (pend (.wait n :: p))) (.wait n :: p)
    = iprop((atPos ER (dcell c n) 0 ∅ 0 ∗ if n ∈ pend p then iprop(emp) else cred (tallyAt (dcell c n) () (P.amt n)))
        ∗ all (opRes P c (pend p)) p) := rfl
theorem z_sig (d : Fin 4) : all (opZ c) (.sig d :: p) = (iprop(emp ∗ all (opZ c) p) : sProp 𝕄) := rfl
theorem z_bar : all (opZ c) (.bar :: p) = (iprop(semVal (barCell c) 0 ∗ all (opZ c) p) : sProp 𝕄) := rfl
theorem z_copy (i : ℕ) : all (opZ c) (.copy i :: p) = (iprop(emp ∗ all (opZ c) p) : sProp 𝕄) := rfl
theorem z_send (i : ℕ) : all (opZ c) (.send i :: p) = (iprop(emp ∗ all (opZ c) p) : sProp 𝕄) := rfl
theorem z_wait (n : ℕ) : all (opZ c) (.wait n :: p) = (iprop(semVal (dcell c n) 0 ∗ all (opZ c) p) : sProp 𝕄) := rfl
theorem owed_sig (d : Fin 4) : owed P c (.sig d :: p) = owed P c p + tallyAt (barCell (peer d c)) () 1 := rfl
theorem owed_send (i : ℕ) : owed P c (.send i :: p) = owed P c p + tallyAt (dcell (peer (dst i) c) (42 + i)) () (P.amt (42 + i)) := rfl
theorem owed_bar : owed P c (.bar :: p) = owed P c p := rfl
theorem owed_copy (i : ℕ) : owed P c (.copy i :: p) = owed P c p := rfl
theorem owed_wait (n : ℕ) : owed P c (.wait n :: p) = owed P c p := rfl
end Heads

theorem all_mono {f g : Op → sProp 𝕄} : ∀ {p : List Op}, (∀ o ∈ p, f o ⊢ g o) → (all f p ⊢ all g p)
  | [], _ => BI.Entails.refl _
  | o :: p, h => BIClass.sep_mono (h o List.mem_cons_self) (all_mono fun o' ho => h o' (List.mem_cons_of_mem _ ho))

theorem mem_waits {n : ℕ} : ∀ {p : List Op}, Op.wait n ∈ p → n ∈ waits p
  | .wait m :: p, h => by
    rcases List.mem_cons.mp h with h | h
    · exact List.mem_cons.mpr (Or.inl (Op.wait.inj h))
    · exact List.mem_cons_of_mem _ (mem_waits h)
  | .sig _ :: p, h => mem_waits (p := p) ((List.mem_cons.mp h).resolve_left (fun e => by cases e))
  | .bar :: p, h => mem_waits (p := p) ((List.mem_cons.mp h).resolve_left (fun e => by cases e))
  | .copy _ :: p, h => mem_waits (p := p) ((List.mem_cons.mp h).resolve_left (fun e => by cases e))
  | .send _ :: p, h => mem_waits (p := p) ((List.mem_cons.mp h).resolve_left (fun e => by cases e))

/-- What an operation needs does not change when a number that it does not wait on is credited. -/
theorem opRes_other {c : Dev nD} {n : ℕ} {w : List ℕ} {o : Op} (h : o ≠ .wait n) : opRes P c (n :: w) o = opRes P c w o := by
  cases o with
  | wait m =>
    have hm : m ≠ n := fun e => h (by rw [e])
    rw [opRes_wait, opRes_wait]
    by_cases hw : m ∈ w
    · rw [if_pos hw, if_pos (List.mem_cons_of_mem _ hw)]
    · rw [if_neg hw, if_neg (fun hh => (List.mem_cons.mp hh).elim hm hw)]
  | _ => rfl

theorem all_other {c : Dev nD} {n : ℕ} {w : List ℕ} {p : List Op} (h : n ∉ waits p) :
    all (opRes P c (n :: w)) p ⊢ all (opRes P c w) p :=
  all_mono fun o ho => Entails.of_eq (opRes_other P fun e => h (mem_waits (e ▸ ho)))

theorem all_credit {c : Dev nD} {n : ℕ} {w : List ℕ} (hn : n ∉ w) : ∀ {p : List Op}, (waits p).Nodup →
    (iprop(cred (tallyAt (dcell c n) () (P.amt n)) ∗ all (opRes P c (n :: w)) p) ⊢ all (opRes P c w) p)
  | [], _ => by iintro ⟨-, H⟩; iexact H
  | o :: p, hp => by
    by_cases ho : o = .wait n
    · subst ho
      have hp' : n ∉ waits p := (List.nodup_cons.mp hp).1
      rw [all_cons, all_cons, opRes_wait, opRes_wait, if_pos List.mem_cons_self, if_neg hn]
      iintro ⟨Hc, ⟨Ha, -⟩, H⟩
      isplitl [Hc Ha]
      · isplitl [Ha] <;> iassumption
      iapply (all_other P hp'); iexact H
    · have hp' : (waits p).Nodup := by
        cases o with
        | wait m => exact (List.nodup_cons.mp hp).2
        | _ => exact hp
      rw [all_cons, all_cons, opRes_other P ho]
      iintro ⟨Hc, Ho, H⟩
      isplitl [Ho]; · iexact Ho
      iapply (all_credit hn hp')
      isplitl [Hc] <;> iassumption

/-! ## The rules -/

section Rules

variable [FloatOps F] (c : Dev nD) {Z : sProp (MT nD τ sig Unit (Elt F) ℕ UU ℕ)} {p : List Op} {α : Type} {Q : α → sProp (MT nD τ sig Unit (Elt F) ℕ UU ℕ)}
  {k : PUnit → Prog (TpuEff nD τ sig (Elt F) Λ₀ .tc) α}

abbrev 𝒱₀ : Variants := Variants.none

local notation "WP" q => wp frame (wpE (defs₀ (F := F)) 𝒱₀ (c : Thread nD τ) none) Set.univ q Q

/-- A unit to peer `d`'s barrier, with what it hands that peer. -/
theorem st_sig (d : Fin 4) {t : Thread nD τ} (ht : t = (peer d c : Thread nD τ)) {s : Sem sig} (hs : s = barS) {a : Int} (ha : a = ((1 : ℕ) : Int)) :
    iprop(st P c Z (.sig d :: p) ∗ P.bar (peer d c) d)
      ⊢ iprop((st P c Z p -∗ WP (k ⟨⟩)) -∗ WP (.op (.semSignal t s a) k)) := by
  subst ht hs ha
  unfold st
  rw [res_sig, z_sig, owed_sig]
  iintro ⟨⟨⟨%K, #HK⟩, #Hlev, %hg, ⟨%W, HO⟩, Hres, HZ⟩, Hpay⟩ Hk
  icases Hres with ⟨Htok, Hres⟩
  iapply (Rounds.wp_signal 𝒱₀ ER (rd P) (c : Thread nD τ) none (dst := (peer d c : Thread nD τ)) (κ := K (peer d c, 0))
      (d := d) (by rw [duties_bar]; exact Finset.mem_univ _) (amount_bar P (peer d c) d) () (owed P c p) rfl)
    $$ [HO Htok Hpay]
  · ihave Hr := (records_bar P K (peer d c)) $$ HK
    icases Hr with ⟨#HI, #HR⟩
    isplitr; · iexact HI
    isplitl [HO]; · iexact HO
    isplitl [Htok]; · iexact Htok
    isplitl [Hpay]; · rw [payload_bar]; iexact Hpay
    iexact HR
  iintro HO
  iapply Hk
  isplitr; · iexists K; iexact HK
  isplitr; · iexact Hlev
  isplitr; · ipureintro; exact hg
  isplitl [HO]; · iexists W; iexact HO
  isplitl [Hres]; · iexact Hres
  iintro Hz; iapply HZ
  isplitr; · iempintro
  iexact Hz

/-- The wait for the four peers: what each handed over. -/
theorem st_bar {s : Sem sig} (hs : s = barS) {a : Int} (ha : a = ((4 : ℕ) : Int)) :
    st P c Z (.bar :: p)
      ⊢ iprop(((st P c Z p ∗ P.bar c 0 ∗ P.bar c 1 ∗ P.bar c 2 ∗ P.bar c 3) -∗ WP (k ⟨⟩)) -∗ WP (.op (.semWait s a) k)) := by
  subst hs ha
  unfold st
  rw [res_bar, z_bar, owed_bar]
  iintro ⟨⟨%K, #HK⟩, #Hlev, %hg, ⟨%W, HO⟩, Hres, HZ⟩ Hk
  have hg' : nosig p = true ∧ good p = true := by simpa [good] using hg
  icases Hres with ⟨⟨Hat, Hc⟩, Hres⟩
  ihave Hr := (records_bar P K c) $$ HK
  icases Hr with ⟨#HI, #HR⟩
  iapply (Rounds.wp_wait_rest_token 𝒱₀ ER (rd P) (c : Thread nD τ) none (κ := K (c, 0))
      (wpE_semWait_eq 𝒱₀ (c : Thread nD τ) none Set.univ) (Set.mem_univ _) () (O := owed P c p) (W := W) (R := 0) (m := 0) (T := ∅)
      (by rw [expect_bar])) $$ [Hc HO Hat]
  · isplitr; · iexact HI
    isplitl [Hc]; · iexact Hc
    isplitl [HO]; · iexact HO
    isplitr
    · iapply (mayWait_below P c (.reg barS) p 1 le_rfl (Or.inl hg'.1) (fun i hi => ⟨good_sends hg'.2 i hi, by
        have := good_sends hg'.2 i hi
        unfold lvn; rw [if_pos (by omega)]; split_ifs <;> omega⟩))
      iexact Hlev
    iexact Hat
  iintro ⟨HO, Hat, -, Hpay⟩
  imod (Rounds.cell_close ER (rd P) (Set.mem_univ (K (c, 0))) (fun h => h) (R := 0 + 1) (duties_later P (barCell c))) $$ [Hat] with Hz
  · isplitr; · iexact HI
    iexact Hat
  ihave Hp := (Entails.of_eq (rest_bar P c)) $$ Hpay
  iapply Hk
  isplitr [Hp]
  · isplitr; · iexists K; iexact HK
    isplitr; · iexact Hlev
    isplitr; · ipureintro; exact hg'.2
    isplitl [HO]; · iexists _; iexact HO
    isplitl [Hres]; · iexact Hres
    iintro Hz'; iapply HZ
    isplitl [Hz]; · iexact Hz
    iexact Hz'
  iexact Hp

/-- A wait on transfer semaphore `n`: what that transfer hands over. -/
theorem st_wait (n : ℕ) {sm : DmaSem sig} (hs : sm = dsem n) {sp sp' : Space} {s s' : Shape} {e e' : EltTy}
    {src : Memref sig .tc sp' s' e'} {dst : Memref sig .tc sp s e} {hsrc : src.view.WordExact} {hdst : dst.view.WordExact}
    (ha : dst.view.dmaCredit = P.amt n) :
    st P c Z (.wait n :: p)
      ⊢ iprop(((st P c Z p ∗ P.dma c n) -∗ WP (k ⟨⟩)) -∗ WP (.op (.waitDma2 sm src dst hsrc hdst) k)) := by
  subst hs
  unfold st
  rw [res_wait, z_wait, owed_wait]
  iintro ⟨⟨%K, #HK⟩, #Hlev, %hg, ⟨%W, HO⟩, Hres, HZ⟩ Hk
  have hg' : ((((8 ≤ n ∧ n < 72) ∧ nosig p = true) ∧ n ∉ pend p) ∧ ∀ i ∈ sends p, lvn n < lvn (42 + i)) ∧ good p = true := by
    simpa [good] using hg
  obtain ⟨⟨⟨⟨⟨h8, h72⟩, hns⟩, hnp⟩, hlt⟩, hgp⟩ := hg'
  rw [if_neg hnp]
  icases Hres with ⟨⟨Hat, Hc⟩, Hres⟩
  obtain ⟨κ, hκ⟩ := records_dma P K c h8 h72
  ihave Hr := hκ $$ HK
  icases Hr with ⟨#HI, #HR⟩
  iapply (Rounds.wp_wait_rest_token 𝒱₀ ER (rd P) (c : Thread nD τ) none (κ := κ)
      (wpE_waitDma2_eq 𝒱₀ (c : Thread nD τ) none Set.univ) (Set.mem_univ _) () (O := owed P c p) (W := W) (R := 0) (m := 0) (T := ∅)
      (by rw [Nat.zero_add, expect_dma P c h8 h72, ha])) $$ [Hc HO Hat]
  · isplitr; · iexact HI
    isplitl [Hc]; · rw [ha]; iexact Hc
    isplitl [HO]; · iexact HO
    isplitr
    · iapply (mayWait_below P c (.dma (dsem n)) p (lvn n) (by show lvn (dsem n).val ≤ _; rw [dsem_val h72]) (Or.inl hns)
        (fun i hi => ⟨good_sends hgp i hi, hlt i hi⟩))
      iexact Hlev
    iexact Hat
  iintro ⟨HO, Hat, -, Hpay⟩
  imod (Rounds.cell_close ER (rd P) (Set.mem_univ κ) (fun h => h) (R := 0 + 1) (duties_later P (dcell c n))) $$ [Hat] with Hz
  · isplitr; · iexact HI
    iexact Hat
  ihave Hp := (Entails.of_eq (rest_dma P c h8 h72)) $$ Hpay
  iapply Hk
  isplitr [Hp]
  · isplitr; · iexists K; iexact HK
    isplitr; · iexact Hlev
    isplitr; · ipureintro; exact hgp
    isplitl [HO]; · iexists _; iexact HO
    isplitl [Hres]; · iexact Hres
    iintro Hz'; iapply HZ
    isplitl [Hz]; · iexact Hz
    iexact Hz'
  iexact Hp

/-- Local copy `i`, from a source at `X` into a buffer held whole. -/
theorem st_copy (i : ℕ) {sm : SemLoc sig} (hs : sm = .dma (dsem (8 + i))) {sp sp' : Space} {s : Shape} {e : EltTy}
    {src : Memref sig (c : Thread nD τ).2.kind sp s e} {dst : Memref sig (c : Thread nD τ).2.kind sp' s e}
    {hsrc : src.view.WordExact} {hdst : dst.view.WordExact} {hsem : DmaTarget.Typed (nD := nD) sp sm (.here dst)} {q : PosShare TreeShare} {X : s.Idx → Elt F e}
    (ha : dst.view.dmaCredit = P.amt (8 + i))
    (hpay : iprop(owns (c : Thread nD τ) dst fullShare X ∗ owns (c : Thread nD τ) src q X) ⊢ P.dma c (8 + i)) :
    iprop(st P c Z (.copy i :: p) ∗ owns (c : Thread nD τ) src q X ∗ (∃ Y, owns (c : Thread nD τ) dst fullShare Y))
      ⊢ iprop((st P c Z p -∗ WP (k ⟨⟩)) -∗ WP (.op (.enqueueDma src (.here dst) sm hsrc hdst hsem) k)) := by
  subst hs
  unfold st
  rw [res_copy, z_copy, owed_copy]
  iintro ⟨⟨⟨%K, #HK⟩, #Hlev, %hg, ⟨%W, HO⟩, Hres, HZ⟩, Hsrc, ⟨%Y, Hdst⟩⟩ Hk
  have hg' : ((i < 4 ∧ 8 + i ∉ pend p) ∧ (waits p).Nodup) ∧ good p = true := by simpa [good] using hg
  obtain ⟨⟨⟨hi, hnp⟩, hnd⟩, hgp⟩ := hg'
  icases Hres with ⟨Htok, Hres⟩
  obtain ⟨κ, hκ⟩ := records_dma P K c (n := 8 + i) (by omega) (by omega)
  ihave Hr := hκ $$ HK
  icases Hr with ⟨#HI, #HR⟩
  ihave Hsrc' := (show owns (c : Thread nD τ) src q X ⊢ iprop(∃ g, ⌜src.view.read (Elt F) g = X⌝ ∗ (src.view.loc (c : Thread nD τ) ↦[src.view.set]{q} g)) from .rfl) $$ Hsrc
  icases Hsrc' with ⟨%fs, %hfs, Hsrc⟩
  ihave Hdst' := (show owns (c : Thread nD τ) dst fullShare Y ⊢ iprop(∃ g, ⌜dst.view.read (Elt F) g = Y⌝ ∗ (dst.view.loc (c : Thread nD τ) ↦[dst.view.set]{fullShare} g)) from .rfl) $$ Hdst
  icases Hdst' with ⟨%fd, %hfd, Hdst⟩
  iapply (Rounds.wp_copy_pointsTo 𝒱₀ ER (rd P) (c : Thread nD τ) none (κ := κ) (r := 0) (d := 0) (fs := fs) (fd := fd) (q := q)
      (by rw [duties_dma P c (by omega) (by omega)]; exact Finset.mem_singleton_self _) () (P.amt (8 + i)) (show dst.view.amount (.dma (dsem (8 + i))) = _ from ha)
      (amount_dma P c (by omega) 0)
      (by
        rw [payload_dma P c (by omega)]
        refine (BIClass.sep_mono ?_ ?_).trans hpay
        · refine (owns_intro (c : Thread nD τ) dst fullShare _).trans (Entails.of_eq ?_)
          rw [View.read_write_univ, hfs]
        · refine (owns_intro (c : Thread nD τ) src q fs).trans (Entails.of_eq ?_)
          rw [hfs])) $$ [Hsrc Hdst Htok]
  · isplitr; · iexact HI
    isplitl [Hsrc]; · iexact Hsrc
    isplitl [Hdst]; · iexact Hdst
    isplitl [Htok]; · iexact Htok
    iexact HR
  iintro Hc
  iapply Hk
  isplitr; · iexists K; iexact HK
  isplitr; · iexact Hlev
  isplitr; · ipureintro; exact hgp
  isplitl [HO]; · iexists W; iexact HO
  isplitl [Hres Hc]
  · iapply (all_credit P hnp hnd)
    isplitl [Hc] <;> iassumption
  iintro Hz; iapply HZ
  isplitr; · iempintro
  iexact Hz

/-- Transfer `i` to its peer, from a source at `X` into a buffer of the peer held whole. -/
theorem st_send (i : ℕ) {n : Dev nD} (hn : n = peer (dst i) c) {sS sm : SemLoc sig} (hsS : sS = .dma (dsem (12 + i)))
    (hsm : sm = .dma (dsem (42 + i))) {sp sp' : Space} {s : Shape} {e : EltTy}
    {src : Memref sig .tc sp s e} {dstm : Memref sig (Dev.tc n : Thread nD τ).2.kind sp' s e}
    {hsc : dstm.view.ref.isScScratch = false} {hsrc : src.view.WordExact} {hdst : dstm.view.WordExact}
    {hsem : DmaTarget.Typed sp sm (.remote (Dev.tc n : Thread nD τ) dstm sS hsc)} {q : PosShare TreeShare} {X : s.Idx → Elt F e}
    (ha₁ : dstm.view.dmaCredit = P.amt (12 + i)) (ha₂ : dstm.view.dmaCredit = P.amt (42 + i))
    (hpay₁ : owns (c : Thread nD τ) src q X ⊢ P.dma c (12 + i))
    (hpay₂ : owns (n : Thread nD τ) dstm fullShare X ⊢ P.dma n (42 + i)) :
    iprop(st P c Z (.send i :: p) ∗ owns (c : Thread nD τ) src q X ∗ (∃ Y, owns (n : Thread nD τ) dstm fullShare Y))
      ⊢ iprop((st P c Z p -∗ WP (k ⟨⟩)) -∗ WP (.op (.enqueueDma src (.remote (Dev.tc n : Thread nD τ) dstm sS hsc) sm hsrc hdst hsem) k)) := by
  subst hn hsS hsm
  unfold st
  rw [res_send, z_send, owed_send]
  iintro ⟨⟨⟨%K, #HK⟩, #Hlev, %hg, ⟨%W, HO⟩, Hres, HZ⟩, Hsrc, ⟨%Y, Hdst⟩⟩ Hk
  have hg' : ((i < 30 ∧ 12 + i ∉ pend p) ∧ (waits p).Nodup) ∧ good p = true := by simpa [good] using hg
  obtain ⟨⟨⟨hi, hnp⟩, hnd⟩, hgp⟩ := hg'
  icases Hres with ⟨Htok, Hres⟩
  icases Htok with ⟨Ht₁, Ht₂⟩
  obtain ⟨κ₁, hκ₁⟩ := records_dma P K c (n := 12 + i) (by omega) (by omega)
  obtain ⟨κ₂, hκ₂⟩ := records_dma P K (peer (dst i) c) (n := 42 + i) (by omega) (by omega)
  ihave Hr₁ := hκ₁ $$ HK
  icases Hr₁ with ⟨#HI₁, #HR₁⟩
  ihave Hr₂ := hκ₂ $$ HK
  icases Hr₂ with ⟨#HI₂, #HR₂⟩
  ihave Hsrc' := (show owns (c : Thread nD τ) src q X ⊢ iprop(∃ g, ⌜src.view.read (Elt F) g = X⌝ ∗ (src.view.loc (c : Thread nD τ) ↦[src.view.set]{q} g)) from .rfl) $$ Hsrc
  icases Hsrc' with ⟨%fs, %hfs, Hsrc⟩
  ihave Hdst' := (show owns (peer (dst i) c : Thread nD τ) dstm fullShare Y ⊢ iprop(∃ g, ⌜dstm.view.read (Elt F) g = Y⌝ ∗ (dstm.view.loc (peer (dst i) c : Thread nD τ) ↦[dstm.view.set]{fullShare} g)) from .rfl) $$ Hdst
  icases Hdst' with ⟨%fd, %hfd, Hdst⟩
  iapply (Rounds.wp_send_pointsTo 𝒱₀ ER (rd P) (c : Thread nD τ) none (κ₁ := κ₁) (κ₂ := κ₂)
      (r₁ := 0) (r₂ := 0) (d₁ := 0) (d₂ := 0) (fs := fs) (fd := fd) (q := q)
      (by rw [duties_dma P c (by omega) (by omega)]; exact Finset.mem_singleton_self _)
      (by rw [duties_dma P (peer (dst i) c) (by omega) (by omega)]; exact Finset.mem_singleton_self _)
      () () (P.amt (42 + i)) (show dstm.view.amount (.dma (dsem (42 + i))) = _ from ha₂) ((amount_dma P c (by omega) 0).trans (ha₁.symm.trans ha₂)) (amount_dma P _ (by omega) 0)
      (owed P c p) rfl (W := W)
      (by
        rw [payload_dma P c (by omega)]
        refine BIBase.Entails.trans ?_ hpay₁
        refine (owns_intro (c : Thread nD τ) src q fs).trans (Entails.of_eq ?_)
        rw [hfs])
      (by
        rw [payload_dma P (peer (dst i) c) (by omega)]
        refine BIBase.Entails.trans ?_ hpay₂
        refine (owns_intro (peer (dst i) c : Thread nD τ) dstm fullShare _).trans (Entails.of_eq ?_)
        rw [View.read_write_univ, hfs])) $$ [Hsrc Hdst HO Ht₁ Ht₂]
  · isplitr; · iexact HI₁
    isplitr; · iexact HI₂
    isplitl [Hsrc]; · iexact Hsrc
    isplitl [Hdst]; · iexact Hdst
    isplitl [HO]; · iexact HO
    isplitl [Ht₁]; · iexact Ht₁
    isplitr; · iexact HR₁
    isplitl [Ht₂]; · iexact Ht₂
    iexact HR₂
  iintro ⟨Hc, HO⟩
  iapply Hk
  isplitr; · iexists K; iexact HK
  isplitr; · iexact Hlev
  isplitr; · ipureintro; exact hgp
  isplitl [HO]; · iexists W; iexact HO
  isplitl [Hres Hc]
  · iapply (all_credit P hnp hnd)
    isplitl [Hc]
    · rw [← ha₂.symm.trans ha₁]; iexact Hc
    iexact Hres
  iintro Hz; iapply HZ
  isplitr; · iempintro
  iexact Hz

end Rules

end Cert.ReduceProof

end
-- ==== Proof.Access.lean ====
/-
Loads, stores and transfers written over `owns`: the elements under a view, at what the view reads. A rectangle of a
memref is loaded and stored while only the slice there is owned; a squeezed slot is owned at its slice; two rectangles
that split a memref are given and taken back; and a share is split in four, as the source of three transfers that is
loaded while they run.
-/
module

public import proofs.«01_k».proof.Proof.Steps

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

/-- Every element type has a value. -/
theorem elt_nonempty : ∀ e, Nonempty (Elt F e)
  | .i1 => ⟨(0 : BitVec 1)⟩ | .i4 => ⟨(0 : BitVec 4)⟩ | .i8 => ⟨(0 : BitVec 8)⟩ | .i16 => ⟨(0 : BitVec 16)⟩ | .i32 => ⟨(0 : BitVec 32)⟩
  | .i64 => ⟨(0 : BitVec 64)⟩
  | .fp8e4m3 => ⟨FloatOps.ofBits .fp8e4m3 0⟩ | .fp8e5m2 => ⟨FloatOps.ofBits .fp8e5m2 0⟩ | .bf16 => ⟨FloatOps.ofBits .bf16 0⟩
  | .f16 => ⟨FloatOps.ofBits .f16 0⟩ | .f32 => ⟨FloatOps.ofBits .f32 0⟩

section
variable (c : Dev nD) {sp : Space} {s s' : Shape} {e : EltTy} (m : Memref sig (c : Thread nD τ).2.kind sp s e)

/-- Ownership at `X`, opened. -/
theorem owns_open (q : PosShare TreeShare) (X : s.Idx → Elt F e) :
    (owns (c : Thread nD τ) m q X : sProp 𝕄) ⊢ iprop(∃ g, ⌜m.view.read (Elt F) g = X⌝ ∗ (m.view.loc (c : Thread nD τ) ↦[m.view.set]{q} g)) := .rfl

/-- Ownership at what `g` reads is ownership of `g`'s elements. -/
theorem owns_at (q : PosShare TreeShare) (g : Buf (Elt F) (m.view.loc (c : Thread nD τ))) :
    (owns (c : Thread nD τ) m q (m.view.read (Elt F) g) : sProp 𝕄) ⊢ (m.view.loc (c : Thread nD τ) ↦[m.view.set]{q} g) := by
  refine (owns_open c m q _).trans ?_
  iintro ⟨%f, %hf, H⟩
  have : (m.view.loc (c : Thread nD τ) ↦[m.view.set]{q} f : sProp 𝕄) = (m.view.loc (c : Thread nD τ) ↦[m.view.set]{q} g) :=
    pointsTo_congr fun i hi => by
      obtain ⟨j, -, rfl⟩ := Finset.mem_map.mp hi
      have h := congrFun hf j
      rw [View.read_apply, View.read_apply] at h
      exact cast_inj _ |>.mp h
  iapply (Entails.of_eq this); iexact H

/-- A share at `X` is two at `X`. -/
theorem owns_share {q q₁ q₂ : PosShare TreeShare} (h : q ∈ q₁ ·? q₂) (X : s.Idx → Elt F e) :
    (owns (c : Thread nD τ) m q X : sProp 𝕄) ⊢ iprop(owns (c : Thread nD τ) m q₁ X ∗ owns (c : Thread nD τ) m q₂ X) := by
  refine (owns_open c m q X).trans ?_
  iintro ⟨%g, %hg, H⟩
  subst hg
  ihave H' := (pointsTo_share h).1 $$ H
  icases H' with ⟨H₁, H₂⟩
  isplitl [H₁]
  · iapply (owns_intro (c : Thread nD τ) m q₁ g); iexact H₁
  · iapply (owns_intro (c : Thread nD τ) m q₂ g); iexact H₂

/-- Two shares at `X` are one at `X`. -/
theorem owns_unshare {q q₁ q₂ : PosShare TreeShare} (h : q ∈ q₁ ·? q₂) (X : s.Idx → Elt F e) :
    iprop(owns (c : Thread nD τ) m q₁ X ∗ owns (c : Thread nD τ) m q₂ X) ⊢ (owns (c : Thread nD τ) m q X : sProp 𝕄) := by
  iintro ⟨H₁, H₂⟩
  ihave H' := (owns_open c m q₁ X) $$ H₁
  icases H' with ⟨%g, %hg, H₁⟩
  subst hg
  ihave H₂ := (owns_at c m q₂ g) $$ H₂
  iapply (owns_intro (c : Thread nD τ) m q g)
  iapply (pointsTo_share h).2
  isplitl [H₁] <;> iassumption

/-- A squeezed memref is owned as the memref is. -/
theorem owns_squeeze (h : s.Squeezes s') (q : PosShare TreeShare) (X : s.Idx → Elt F e) :
    (owns (c : Thread nD τ) m q X : sProp 𝕄) ⊢ owns (c : Thread nD τ) (m.squeeze s' h) q (fun i => X (Shape.reshapeEquiv h.numel_eq i)) := by
  refine (owns_open c m q X).trans ?_
  iintro ⟨%g, %hg, H⟩
  subst hg
  iapply (owns_intro (c : Thread nD τ) (m.squeeze s' h) q g)
  rw [show (m.squeeze s' h).view.set = m.view.set from View.set_reshape ..]
  iexact H

/-- And back. -/
theorem owns_unsqueeze (h : s.Squeezes s') (q : PosShare TreeShare) (X : s.Idx → Elt F e) :
    (owns (c : Thread nD τ) (m.squeeze s' h) q (fun i => X (Shape.reshapeEquiv h.numel_eq i)) : sProp 𝕄) ⊢ owns (c : Thread nD τ) m q X := by
  refine (owns_open c (m.squeeze s' h) q _).trans ?_
  iintro ⟨%g, %hg, H⟩
  have hX : m.view.read (Elt F) g = X := by
    funext i
    have := congrFun hg ((Shape.reshapeEquiv h.numel_eq).symm i)
    rw [Equiv.apply_symm_apply] at this
    rw [← this]
    show _ = m.view.read (Elt F) g (Shape.reshapeEquiv _ ((Shape.reshapeEquiv _).symm i))
    rw [Equiv.apply_symm_apply]
  rw [← hX]
  iapply (owns_intro (c : Thread nD τ) m q g)
  rw [show (m.squeeze s' h).view.set = m.view.set from View.set_reshape ..]
  iexact H

/-- At some contents, squeezed. -/
theorem some_squeeze (h : s.Squeezes s') :
    (iprop(∃ Y, owns (c : Thread nD τ) m fullShare Y) : sProp 𝕄) ⊢ iprop(∃ Y, owns (c : Thread nD τ) (m.squeeze s' h) fullShare Y) := by
  iintro ⟨%Y, H⟩
  iexists _
  iapply (owns_squeeze c m h fullShare Y); iexact H

/-! ## Two rectangles that split a memref -/

/-- The contents that two rectangles give. -/
def both (r₁ r₂ : Rect s) (X₁ : r₁.shape.Idx → Elt F e) (X₂ : r₂.shape.Idx → Elt F e) : s.Idx → Elt F e :=
  r₁.overlay (r₂.overlay (fun _ => (elt_nonempty (F := F) e).some) X₂) X₁

theorem both_one (r₁ r₂ : Rect s) (X₁ : r₁.shape.Idx → Elt F e) (X₂ : r₂.shape.Idx → Elt F e) (i : r₁.shape.Idx) :
    both r₁ r₂ X₁ X₂ (r₁.emb i) = X₁ i := Rect.overlay_emb ..

theorem both_two {r₁ r₂ : Rect s} (hd : Disjoint r₁.set r₂.set) (X₁ : r₁.shape.Idx → Elt F e) (X₂ : r₂.shape.Idx → Elt F e) (i : r₂.shape.Idx) :
    both r₁ r₂ X₁ X₂ (r₂.emb i) = X₂ i := by
  unfold both
  rw [Rect.overlay_of_not_mem, Rect.overlay_emb]
  intro h
  exact Finset.disjoint_left.mp hd h (r₂.map_emb_univ ▸ Finset.mem_map_of_mem _ (Finset.mem_univ i))

/-- The two of them, indexed. -/
def pick (r₁ r₂ : Rect s) (b : Bool) : Rect s := if b then r₂ else r₁

variable {r₁ r₂ : Rect s} (h₁ : ∀ a, r₁.stride a = 1) (h₂ : ∀ a, r₂.stride a = 1) (hd : Disjoint r₁.set r₂.set) (hc : r₁.set ∪ r₂.set = Finset.univ)

theorem pick_disj (hd : Disjoint r₁.set r₂.set) : ∀ b b' : Bool, b ≠ b' → Disjoint (pick r₁ r₂ b).set (pick r₁ r₂ b').set
  | false, false, h => absurd rfl h
  | true, true, h => absurd rfl h
  | false, true, _ => hd
  | true, false, _ => hd.symm

theorem pick_cover (hc : r₁.set ∪ r₂.set = Finset.univ) : (Finset.univ.biUnion fun b : Bool => (pick r₁ r₂ b).set) = Finset.univ := by
  rw [← hc]
  ext x
  simp only [Finset.mem_biUnion, Finset.mem_univ, true_and, Bool.exists_bool, Finset.mem_union]
  rfl

theorem bigSep_bool (Φ : Bool → sProp 𝕄) : BI.bigSep Finset.univ Φ = iprop(Φ false ∗ Φ true) := by
  rw [bigSep_univ_eq_bigSepL [false, true] (by decide) (by decide)]; rfl

include hd hc

theorem owns_split (q : PosShare TreeShare) (X : s.Idx → Elt F e) :
    (owns (c : Thread nD τ) m q X : sProp 𝕄)
      ⊢ iprop(owns (c : Thread nD τ) (m.slice r₁ h₁) q (fun i => X (r₁.emb i)) ∗ owns (c : Thread nD τ) (m.slice r₂ h₂) q (fun i => X (r₂.emb i))) := by
  refine (owns_rects (c : Thread nD τ) m q (pick r₁ r₂) (fun b => match b with | false => h₁ | true => h₂) (pick_disj hd) (pick_cover hc) X).trans ?_
  rw [bigSep_bool]
  exact .rfl

theorem owns_join (q : PosShare TreeShare) (X : s.Idx → Elt F e) :
    iprop(owns (c : Thread nD τ) (m.slice r₁ h₁) q (fun i => X (r₁.emb i)) ∗ owns (c : Thread nD τ) (m.slice r₂ h₂) q (fun i => X (r₂.emb i)))
      ⊢ (owns (c : Thread nD τ) m q X : sProp 𝕄) := by
  haveI : ∀ e, Nonempty (Elt F e) := elt_nonempty
  refine .trans ?_ (owns_of_rects (c : Thread nD τ) m q (pick r₁ r₂) (fun b => match b with | false => h₁ | true => h₂) (pick_disj hd) (pick_cover hc) X)
  rw [bigSep_bool]
  exact .rfl

theorem owns_both (q : PosShare TreeShare) (X₁ : r₁.shape.Idx → Elt F e) (X₂ : r₂.shape.Idx → Elt F e) :
    iprop(owns (c : Thread nD τ) (m.slice r₁ h₁) q X₁ ∗ owns (c : Thread nD τ) (m.slice r₂ h₂) q X₂)
      ⊢ (owns (c : Thread nD τ) m q (both r₁ r₂ X₁ X₂) : sProp 𝕄) := by
  refine .trans ?_ (owns_join c m h₁ h₂ hd hc q _)
  simp only [both_one, both_two hd]
  exact .rfl

/-- At some contents, split. -/
theorem some_split : (iprop(∃ Y, owns (c : Thread nD τ) m fullShare Y) : sProp 𝕄)
    ⊢ iprop((∃ Y, owns (c : Thread nD τ) (m.slice r₁ h₁) fullShare Y) ∗ (∃ Y, owns (c : Thread nD τ) (m.slice r₂ h₂) fullShare Y)) := by
  iintro ⟨%Y, H⟩
  ihave H' := (owns_split c m h₁ h₂ hd hc fullShare Y) $$ H
  icases H' with ⟨H₁, H₂⟩
  isplitl [H₁] <;> (iexists _; iassumption)

end

/-! ## Loads and stores -/

section
variable (c : Dev nD) {α : Type} {Q : α → sProp (MT nD τ sig Unit (Elt F) ℕ UU ℕ)} {sp : CoreSpace} {s : Shape} {e : EltTy}
  (m : Memref sig .tc sp s e) (r : Rect s)

local notation "WP" q => wp frame (wpE (defs₀ (F := F)) 𝒱₀ (c : Thread nD τ) none) Set.univ q Q

/-- A load at `r` with the memref owned whole. -/
theorem load_of {q : PosShare TreeShare} {X : s.Idx → Elt F e} {hl : m.view.LoadsAt r.toLoadRect} {k : (r.shape.Idx → Elt F e) → Prog (TpuEff nD τ sig (Elt F) Λ₀ .tc) α} :
    (owns (c : Thread nD τ) m q X : sProp 𝕄)
      ⊢ iprop((owns (c : Thread nD τ) m q X -∗ WP (k fun i => X (r.emb i))) -∗ WP (.op (.load m r.toLoadRect hl) k)) := by
  refine (owns_open c m q X).trans ?_
  iintro ⟨%g, %hg, H⟩ Hk
  subst hg
  iapply (wp_load_rect 𝒱₀ (c : Thread nD τ) none Set.univ (m := m) (r := r) (q := q) (f := g) (m.view.set_slice_subset r)) $$ H
  iintro H
  iapply Hk
  iapply (owns_intro (c : Thread nD τ) m q g); iexact H

variable (hr : ∀ a, r.stride a = 1)

/-- A load at `r` with only the slice there owned. -/
theorem load_at {q : PosShare TreeShare} {Y : r.shape.Idx → Elt F e} {hl : m.view.LoadsAt r.toLoadRect} {k : (r.shape.Idx → Elt F e) → Prog (TpuEff nD τ sig (Elt F) Λ₀ .tc) α} :
    (owns (c : Thread nD τ) (m.slice r hr) q Y : sProp 𝕄)
      ⊢ iprop((owns (c : Thread nD τ) (m.slice r hr) q Y -∗ WP (k Y)) -∗ WP (.op (.load m r.toLoadRect hl) k)) := by
  refine (owns_open c (m.slice r hr) q Y).trans ?_
  iintro ⟨%g, %hg, H⟩ Hk
  subst hg
  iapply (wp_load_rect 𝒱₀ (c : Thread nD τ) none Set.univ (m := m) (r := r) (q := q) (f := g) (Finset.Subset.refl _)) $$ H
  iintro H
  iapply Hk
  iapply (owns_intro (c : Thread nD τ) (m.slice r hr) q g); iexact H

/-- A load whose value is not used, with the slice there owned at some contents. -/
theorem load_some {hl : m.view.LoadsAt r.toLoadRect} {k : Prog (TpuEff nD τ sig (Elt F) Λ₀ .tc) α} :
    (iprop(∃ Y, owns (c : Thread nD τ) (m.slice r hr) fullShare Y) : sProp 𝕄)
      ⊢ iprop(((∃ Y, owns (c : Thread nD τ) (m.slice r hr) fullShare Y) -∗ WP k) -∗ WP (.op (.load m r.toLoadRect hl) fun _ => k)) := by
  iintro ⟨%Y, H⟩ Hk
  iapply (load_at c m r hr (k := fun _ => k)) $$ H
  iintro H
  iapply Hk
  iexists Y; iexact H

/-- A store of `w` at `r` with only the slice there owned. -/
theorem store_at {w : r.shape.Idx → Elt F e} {hx : (m.access r).Stores Finset.univ} {hm} {k : PUnit → Prog (TpuEff nD τ sig (Elt F) Λ₀ .tc) α} :
    (iprop(∃ Y, owns (c : Thread nD τ) (m.slice r hr) fullShare Y) : sProp 𝕄)
      ⊢ iprop((owns (c : Thread nD τ) (m.slice r hr) fullShare w -∗ WP (k ⟨⟩)) -∗ WP (.op (.store m r w Finset.univ hx hm) k)) := by
  iintro ⟨%Y, H⟩ Hk
  ihave H' := (owns_open c (m.slice r hr) fullShare Y) $$ H
  icases H' with ⟨%g, %hg, H⟩
  iapply (wp_store 𝒱₀ (c : Thread nD τ) none Set.univ (m := m) (r := r) (f := g) (S := (m.access r).set) (Finset.Subset.refl _)) $$ H
  iintro H
  iapply Hk
  have := owns_intro (c : Thread nD τ) (m.slice r hr) fullShare ((m.access r).write (Elt F) g w Finset.univ) (Ix := Unit) (U := UU) (Name := ℕ) (Lvl := ℕ)
  rw [show (m.slice r hr).view.read (Elt F) ((m.access r).write (Elt F) g w Finset.univ) = w from View.read_write_univ ..] at this
  iapply this; iexact H

end

end Cert.ReduceProof

end
-- ==== Proof.Items.lean ====
/-
What is reduced, item by item, and what every transfer carries.

Device d sits on chip `chip d`, of four, as its core `core d`, of two. A gradient item (`Big`) has four pieces, one per
chip, of R = 2H rows: the two devices of a chip first add each other's half of the rows of every piece (stage 0 swaps
the halves), then send each other chip its piece of the sum (stages 1 to 3, narrowed to bf16), add up what they receive
with their own piece, and swap the halves of the total (stage 4). A pack item (`Pk`) has no pieces: after the swap its
half sum goes to every other chip, and the four half sums are added in the order of the chips.
-/
module

public import proofs.«01_k».proof.Proof.Access

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Where a device is -/

/-- The core of its chip that device `c` is. -/
def core (c : Dev nD) : Fin 2 := ⟨c.val % 2, Nat.mod_lt _ (by decide)⟩
/-- The chip that device `c` is on. -/
def chip (c : Dev nD) : Fin 4 := ⟨c.val / 2, by have : c.val < 8 := c.isLt; show c.val / 2 < 4; omega⟩
/-- The device of chip `n` at the same core as `c`. -/
def at_ (n : Fin 4) (c : Dev nD) : Dev nD := ⟨2 * n.val + c.val % 2, by have := n.isLt; show 2 * n.val + c.val % 2 < 8; omega⟩

theorem at_chip (c : Dev nD) : at_ (chip c) c = c := by revert c; decide
theorem at_chip_peer (j : Fin 3) (c : Dev nD) : at_ (chip (peer j.succ c)) c = peer j.succ c := by revert j c; decide
theorem core_sib (c : Dev nD) : core (peer 0 c) = 1 - core c := by revert c; decide
theorem core_sib_ne (c : Dev nD) : core (peer 0 c) ≠ core c := by revert c; decide
theorem core_peer (j : Fin 3) (c : Dev nD) : core (peer j.succ c) = core c := by revert j c; decide

/-! ## The rectangles -/

section
variable (H C : ℕ)

/-- Piece `n` of four. -/
abbrev slot4 (n : Fin 4) : Rect ⟨3, ![4, H, C]⟩ := Rect.unit (s := ⟨3, ![4, H, C]⟩) ![n.val, 0, 0] (⟨3, ![1, H, C]⟩ : Shape).size (by
  have := n.isLt
  intro a; fin_cases a
  · show n.val + 1 ≤ 4; omega
  · show 0 + H ≤ H; omega
  · show 0 + C ≤ C; omega)

/-- Slot `j` of three. -/
abbrev slot3 (j : Fin 3) : Rect ⟨3, ![3, H, C]⟩ := Rect.unit (s := ⟨3, ![3, H, C]⟩) ![j.val, 0, 0] (⟨3, ![1, H, C]⟩ : Shape).size (by
  have := j.isLt
  intro a; fin_cases a
  · show j.val + 1 ≤ 3; omega
  · show 0 + H ≤ H; omega
  · show 0 + C ≤ C; omega)

/-- All of it. -/
abbrev full : Rect ⟨2, ![H, C]⟩ := Rect.unit (s := ⟨2, ![H, C]⟩) ![0, 0] (⟨2, ![H, C]⟩ : Shape).size (by
  intro a; fin_cases a
  · show 0 + H ≤ H; omega
  · show 0 + C ≤ C; omega)

variable {R : ℕ} (hR : R = 2 * H)

/-- Half `b` of the rows of all four pieces. -/
abbrev rows (b : Fin 2) : Rect ⟨3, ![4, R, C]⟩ := Rect.unit (s := ⟨3, ![4, R, C]⟩) ![0, H * b.val, 0] (⟨3, ![4, H, C]⟩ : Shape).size (by
  have := b.isLt
  intro a; fin_cases a
  · show 0 + 4 ≤ 4; omega
  · show H * b.val + H ≤ R; subst hR; rcases (show b.val = 0 ∨ b.val = 1 by omega) with h | h <;> rw [h] <;> omega
  · show 0 + C ≤ C; omega)

/-- Half `b` of the rows. -/
abbrev half (b : Fin 2) : Rect ⟨2, ![R, C]⟩ := Rect.unit (s := ⟨2, ![R, C]⟩) ![H * b.val, 0] (⟨2, ![H, C]⟩ : Shape).size (by
  have := b.isLt
  intro a; fin_cases a
  · show H * b.val + H ≤ R; subst hR; rcases (show b.val = 0 ∨ b.val = 1 by omega) with h | h <;> rw [h] <;> omega
  · show 0 + C ≤ C; omega)

end

theorem numel3_pos {a b c : ℕ} (ha : 0 < a) (hb : 0 < b) (hc : 0 < c) : 0 < (⟨3, ![a, b, c]⟩ : Shape).numel := by
  simp [Shape.numel, Fin.prod_univ_succ, ha, hb, hc]

theorem numel2_pos {b c : ℕ} (hb : 0 < b) (hc : 0 < c) : 0 < (⟨2, ![b, c]⟩ : Shape).numel := by
  simp [Shape.numel, Fin.prod_univ_succ, hb, hc]

/-- The four shares of a block that is the source of three transfers: 0 stays with the device, `s` goes with transfer `s`. -/
def quarter : ℕ → PosShare TreeShare
  | 0 => fullShare.left.left
  | 1 => fullShare.left.right
  | 2 => fullShare.right.left
  | _ => fullShare.right.right

variable {F : FTy → Type}

local notation "𝕄" => MT nD τ sig Unit (Elt F) ℕ UU ℕ

/-! ## A gradient item -/

variable (F) in
/-- A gradient item: its shape, its buffers, each device's partial gradient, and the sums that the kernel makes. -/
structure Big where
  R : ℕ
  H : ℕ
  C : ℕ
  hR : R = 2 * H
  hH : 0 < H
  hC : 0 < C
  hsq : (⟨3, ![1, H, C]⟩ : Shape).Squeezes ⟨2, ![H, C]⟩
  g : Memref sig .tc .hbm ⟨3, ![4, R, C]⟩ .f32
  mine : Memref sig .tc .vmem ⟨3, ![4, H, C]⟩ .f32
  theirs : Memref sig .tc .vmem ⟨3, ![4, H, C]⟩ .f32
  sendb : Memref sig .tc .vmem ⟨3, ![3, H, C]⟩ .bf16
  recvb : Memref sig .tc .vmem ⟨3, ![3, H, C]⟩ .bf16
  outs : Memref sig .tc .vmem ⟨2, ![R, C]⟩ .f32
  val : Dev nD → (⟨3, ![4, R, C]⟩ : Shape).Idx → Elt F .f32
  pay : ((⟨3, ![1, H, C]⟩ : Shape).Idx → Elt F .f32) → ((⟨3, ![1, H, C]⟩ : Shape).Idx → Elt F .f32) → (⟨3, ![1, H, C]⟩ : Shape).Idx → Elt F .bf16
  fin : ((⟨3, ![1, H, C]⟩ : Shape).Idx → Elt F .f32) → ((⟨3, ![1, H, C]⟩ : Shape).Idx → Elt F .f32)
    → ((⟨3, ![1, H, C]⟩ : Shape).Idx → Elt F .bf16) → ((⟨3, ![1, H, C]⟩ : Shape).Idx → Elt F .bf16) → ((⟨3, ![1, H, C]⟩ : Shape).Idx → Elt F .bf16)
    → (⟨2, ![H, C]⟩ : Shape).Idx → Elt F .f32

namespace Big

variable (B : Big F)

/-- Half `b` of the rows of the gradient, of the output; piece `n`; slot `j`. -/
abbrev grows (b : Fin 2) : Rect ⟨3, ![4, B.R, B.C]⟩ := rows B.H B.C B.hR b
abbrev ohalf (b : Fin 2) : Rect ⟨2, ![B.R, B.C]⟩ := half B.H B.C B.hR b
abbrev sl4 (n : Fin 4) : Rect ⟨3, ![4, B.H, B.C]⟩ := slot4 B.H B.C n
abbrev sl3 (j : Fin 3) : Rect ⟨3, ![3, B.H, B.C]⟩ := slot3 B.H B.C j

abbrev gS (b : Fin 2) := B.g.slice (B.grows b) (fun _ => rfl)
abbrev oS (b : Fin 2) := B.outs.slice (B.ohalf b) (fun _ => rfl)
abbrev sS (j : Fin 3) := B.sendb.slice (B.sl3 j) (fun _ => rfl)
abbrev rS (j : Fin 3) := B.recvb.slice (B.sl3 j) (fun _ => rfl)

/-- What device `c` holds of its half of the rows, -/
def M (c : Dev nD) : (⟨3, ![4, B.H, B.C]⟩ : Shape).Idx → Elt F .f32 := fun i => B.val c ((B.grows (core c)).emb i)
/-- what the device beside it sends for that half, -/
def T (c : Dev nD) : (⟨3, ![4, B.H, B.C]⟩ : Shape).Idx → Elt F .f32 := fun i => B.val (peer 0 c) ((B.grows (core c)).emb i)
/-- the sum for another chip, -/
def S (c : Dev nD) (j : Fin 3) : (⟨3, ![1, B.H, B.C]⟩ : Shape).Idx → Elt F .bf16 :=
  B.pay (fun i => B.M c ((B.sl4 (chip (peer j.succ c))).emb i)) (fun i => B.T c ((B.sl4 (chip (peer j.succ c))).emb i))
/-- and the total. -/
def O (c : Dev nD) : (⟨2, ![B.H, B.C]⟩ : Shape).Idx → Elt F .f32 :=
  B.fin (fun i => B.M c ((B.sl4 (chip c)).emb i)) (fun i => B.T c ((B.sl4 (chip c)).emb i)) (B.S (peer 1 c) 0) (B.S (peer 2 c) 1) (B.S (peer 3 c) 2)

/-- The amount of a transfer of each stage. -/
def cred : ℕ → ℕ
  | 0 => B.theirs.view.dmaCredit
  | 4 => (B.oS 0).view.dmaCredit
  | _ => ((B.rS 0).squeeze ⟨2, ![B.H, B.C]⟩ B.hsq).view.dmaCredit

theorem cred_pos (s : ℕ) : 0 < B.cred s := by
  unfold cred
  split
  · exact View.dmaCredit_pos _ (numel3_pos (by decide) B.hH B.hC)
  · exact View.dmaCredit_pos _ (numel2_pos B.hH B.hC)
  · exact View.dmaCredit_pos _ (numel2_pos B.hH B.hC)

/-- The local copy of its half: the copy and its source. -/
def load (c : Dev nD) : sProp 𝕄 :=
  iprop(owns (c : Thread nD τ) B.mine fullShare (B.M c) ∗ owns (c : Thread nD τ) (B.gS (core c)) fullShare (B.M c))

/-- The source of a transfer of each stage, given back, -/
def src (c : Dev nD) : ℕ → sProp 𝕄
  | 0 => owns (c : Thread nD τ) (B.gS (core (peer 0 c))) fullShare (fun i => B.val c ((B.grows (core (peer 0 c))).emb i))
  | 1 => owns (c : Thread nD τ) (B.sS 0) fullShare (B.S c 0)
  | 2 => owns (c : Thread nD τ) (B.sS 1) fullShare (B.S c 1)
  | 3 => owns (c : Thread nD τ) (B.sS 2) fullShare (B.S c 2)
  | _ => owns (c : Thread nD τ) (B.oS (core c)) fullShare (B.O c)

/-- and what has landed. -/
def land (c : Dev nD) : ℕ → sProp 𝕄
  | 0 => owns (c : Thread nD τ) B.theirs fullShare (B.T c)
  | 1 => owns (c : Thread nD τ) (B.rS 0) fullShare (B.S (peer 1 c) 0)
  | 2 => owns (c : Thread nD τ) (B.rS 1) fullShare (B.S (peer 2 c) 1)
  | 3 => owns (c : Thread nD τ) (B.rS 2) fullShare (B.S (peer 3 c) 2)
  | _ => owns (c : Thread nD τ) (B.oS (core (peer 0 c))) fullShare (B.O (peer 0 c))

/-- What device `c` may write on the device beside it, -/
def barSib (c : Dev nD) : sProp 𝕄 :=
  iprop((∃ Y, owns (peer 0 c : Thread nD τ) B.theirs fullShare Y) ∗ (∃ Y, owns (peer 0 c : Thread nD τ) (B.oS (core c)) fullShare Y))
/-- and on its peer of another chip. -/
def barChip (c : Dev nD) (j : Fin 3) : sProp 𝕄 := iprop(∃ Y, owns (peer j.succ c : Thread nD τ) (B.rS j) fullShare Y)

instance load_st (c : Dev nD) : BI.Storable (upEmb : UEmb _ 𝕄) (B.load c) := by unfold load; infer_instance
instance src_st (c : Dev nD) (s : ℕ) : BI.Storable (upEmb : UEmb _ 𝕄) (B.src c s) := by unfold src; split <;> infer_instance
instance land_st (c : Dev nD) (s : ℕ) : BI.Storable (upEmb : UEmb _ 𝕄) (B.land c s) := by unfold land; split <;> infer_instance
instance barSib_st (c : Dev nD) : BI.Storable (upEmb : UEmb _ 𝕄) (B.barSib c) := by unfold barSib; infer_instance
instance barChip_st (c : Dev nD) (j : Fin 3) : BI.Storable (upEmb : UEmb _ 𝕄) (B.barChip c j) := by unfold barChip; infer_instance

end Big

/-! ## A pack item -/

variable (F) in
/-- A pack item: its shape, the element type its half sums travel at, its buffers, each device's pack, and the sums. -/
structure Pk where
  R : ℕ
  H : ℕ
  e : EltTy
  hR : R = 2 * H
  hH : 0 < H
  hsq : (⟨3, ![1, H, 128]⟩ : Shape).Squeezes ⟨2, ![H, 128]⟩
  p : Memref sig .tc .vmem ⟨2, ![R, 128]⟩ .f32
  theirs : Memref sig .tc .vmem ⟨2, ![H, 128]⟩ .f32
  gat : Memref sig .tc .vmem ⟨3, ![4, H, 128]⟩ e
  outs : Memref sig .tc .vmem ⟨2, ![R, 128]⟩ .f32
  val : Dev nD → (⟨2, ![R, 128]⟩ : Shape).Idx → Elt F .f32
  pay : ((⟨2, ![H, 128]⟩ : Shape).Idx → Elt F .f32) → ((⟨2, ![H, 128]⟩ : Shape).Idx → Elt F .f32) → (⟨3, ![1, H, 128]⟩ : Shape).Idx → Elt F e
  fin : ((⟨3, ![1, H, 128]⟩ : Shape).Idx → Elt F e) → ((⟨3, ![1, H, 128]⟩ : Shape).Idx → Elt F e) → ((⟨3, ![1, H, 128]⟩ : Shape).Idx → Elt F e)
    → ((⟨3, ![1, H, 128]⟩ : Shape).Idx → Elt F e) → (⟨2, ![H, 128]⟩ : Shape).Idx → Elt F .f32

namespace Pk

variable (B : Pk F)

/-- Half `b` of the rows; piece `n`; the whole half. -/
abbrev ohalf (b : Fin 2) : Rect ⟨2, ![B.R, 128]⟩ := half B.H 128 B.hR b
abbrev sl4 (n : Fin 4) : Rect ⟨3, ![4, B.H, 128]⟩ := slot4 B.H 128 n
abbrev fl : Rect ⟨2, ![B.H, 128]⟩ := full B.H 128

abbrev pS (b : Fin 2) := B.p.slice (B.ohalf b) (fun _ => rfl)
abbrev oS (b : Fin 2) := B.outs.slice (B.ohalf b) (fun _ => rfl)
abbrev gS (n : Fin 4) := B.gat.slice (B.sl4 n) (fun _ => rfl)

/-- What the device beside device `c` sends for `c`'s half of the rows, -/
def T (c : Dev nD) : (⟨2, ![B.H, 128]⟩ : Shape).Idx → Elt F .f32 := fun i => B.val (peer 0 c) ((B.ohalf (core c)).emb i)
/-- the half sum of a chip, -/
def S (c : Dev nD) : (⟨3, ![1, B.H, 128]⟩ : Shape).Idx → Elt F B.e :=
  B.pay (fun i => B.val c ((B.ohalf (core c)).emb i)) (fun i => B.T c (B.fl.emb i))
/-- and the total. -/
def O (c : Dev nD) : (⟨2, ![B.H, 128]⟩ : Shape).Idx → Elt F .f32 :=
  B.fin (B.S (at_ 0 c)) (B.S (at_ 1 c)) (B.S (at_ 2 c)) (B.S (at_ 3 c))

/-- The amount of a transfer of each stage. -/
def cred : ℕ → ℕ
  | 0 => B.theirs.view.dmaCredit
  | 4 => (B.oS 0).view.dmaCredit
  | _ => ((B.gS 0).squeeze ⟨2, ![B.H, 128]⟩ B.hsq).view.dmaCredit

theorem cred_pos (s : ℕ) : 0 < B.cred s := by
  unfold cred
  split <;> exact View.dmaCredit_pos _ (numel2_pos B.hH (by decide))

/-- The source of a transfer of each stage, given back, -/
def src (c : Dev nD) : ℕ → sProp 𝕄
  | 0 => owns (c : Thread nD τ) (B.pS (core (peer 0 c))) fullShare (fun i => B.val c ((B.ohalf (core (peer 0 c))).emb i))
  | 4 => owns (c : Thread nD τ) (B.oS (core c)) fullShare (B.O c)
  | s => owns (c : Thread nD τ) (B.gS (chip c)) (quarter s) (B.S c)

/-- and what has landed. -/
def land (c : Dev nD) : ℕ → sProp 𝕄
  | 0 => owns (c : Thread nD τ) B.theirs fullShare (B.T c)
  | 1 => owns (c : Thread nD τ) (B.gS (chip (peer 1 c))) fullShare (B.S (peer 1 c))
  | 2 => owns (c : Thread nD τ) (B.gS (chip (peer 2 c))) fullShare (B.S (peer 2 c))
  | 3 => owns (c : Thread nD τ) (B.gS (chip (peer 3 c))) fullShare (B.S (peer 3 c))
  | _ => owns (c : Thread nD τ) (B.oS (core (peer 0 c))) fullShare (B.O (peer 0 c))

/-- What device `c` may write on the device beside it, -/
def barSib (c : Dev nD) : sProp 𝕄 :=
  iprop((∃ Y, owns (peer 0 c : Thread nD τ) B.theirs fullShare Y) ∗ (∃ Y, owns (peer 0 c : Thread nD τ) (B.oS (core c)) fullShare Y))
/-- and on its peer of another chip. -/
def barChip (c : Dev nD) (j : Fin 3) : sProp 𝕄 := iprop(∃ Y, owns (peer j.succ c : Thread nD τ) (B.gS (chip c)) fullShare Y)

instance src_st (c : Dev nD) (s : ℕ) : BI.Storable (upEmb : UEmb _ 𝕄) (B.src c s) := by unfold src; split <;> infer_instance
instance land_st (c : Dev nD) (s : ℕ) : BI.Storable (upEmb : UEmb _ 𝕄) (B.land c s) := by unfold land; split <;> infer_instance
instance barSib_st (c : Dev nD) : BI.Storable (upEmb : UEmb _ 𝕄) (B.barSib c) := by unfold barSib; infer_instance
instance barChip_st (c : Dev nD) (j : Fin 3) : BI.Storable (upEmb : UEmb _ 𝕄) (B.barChip c j) := by unfold barChip; infer_instance

end Pk

/-! ## The six items -/

variable (F) in
/-- Every device's six arrays. -/
structure Vals where
  g0 : Dev nD → S4x1024x512.Idx → Elt F .f32
  g1 : Dev nD → S4x192x384.Idx → Elt F .f32
  g2 : Dev nD → S4x256x512.Idx → Elt F .f32
  g3 : Dev nD → S4x256x1024.Idx → Elt F .f32
  p0 : Dev nD → S96x128.Idx → Elt F .f32
  p1 : Dev nD → S1056x128.Idx → Elt F .f32

variable [FloatOps F] (V : Vals F)

def big0 : Big F where
  R := 1024
  H := 512
  C := 512
  hR := rfl
  hH := by decide
  hC := by decide
  hsq := squeezes_S1x512x512_S512x512
  g := Memref.whole main_arg0
  mine := Memref.whole cc0_scratch0
  theirs := Memref.whole cc0_scratch4
  sendb := Memref.whole cc0_scratch8
  recvb := Memref.whole cc0_scratch12
  outs := Memref.whole cc0_stg2_0
  val := V.g0
  pay := k0_pay4
  fin m t r₀ r₁ r₂ := k0_pay20 (k0_pay19 m t r₀) r₁ r₂

def big1 : Big F where
  R := 192
  H := 96
  C := 384
  hR := rfl
  hH := by decide
  hC := by decide
  hsq := squeezes_S1x96x384_S96x384
  g := Memref.whole main_arg1
  mine := Memref.whole cc0_scratch1
  theirs := Memref.whole cc0_scratch5
  sendb := Memref.whole cc0_scratch9
  recvb := Memref.whole cc0_scratch13
  outs := Memref.whole cc0_stg3_0
  val := V.g1
  pay := k0_pay7
  fin m t r₀ r₁ r₂ := k0_pay24 (k0_pay23 (k0_pay21 m t) (k0_pay22 r₀) r₁) r₂

def big2 : Big F where
  R := 256
  H := 128
  C := 512
  hR := rfl
  hH := by decide
  hC := by decide
  hsq := squeezes_S1x128x512_S128x512
  g := Memref.whole main_arg2
  mine := Memref.whole cc0_scratch2
  theirs := Memref.whole cc0_scratch6
  sendb := Memref.whole cc0_scratch10
  recvb := Memref.whole cc0_scratch14
  outs := Memref.whole cc0_stg4_0
  val := V.g2
  pay := k0_pay10
  fin m t r₀ r₁ r₂ := k0_pay27 (k0_pay26 (k0_pay25 m t) r₀ r₁) r₂

def big3 : Big F where
  R := 256
  H := 128
  C := 1024
  hR := rfl
  hH := by decide
  hC := by decide
  hsq := squeezes_S1x128x1024_S128x1024
  g := Memref.whole main_arg3
  mine := Memref.whole cc0_scratch3
  theirs := Memref.whole cc0_scratch7
  sendb := Memref.whole cc0_scratch11
  recvb := Memref.whole cc0_scratch15
  outs := Memref.whole cc0_stg5_0
  val := V.g3
  pay := k0_pay13
  fin m t r₀ r₁ r₂ := k0_pay30 (k0_pay29 (k0_pay28 m t) r₀) r₁ r₂

def pk0 : Pk F where
  R := 96
  H := 48
  e := .f32
  hR := rfl
  hH := by decide
  hsq := squeezes_S1x48x128_S48x128
  p := Memref.whole cc0_stg0_0
  theirs := Memref.whole cc0_scratch16
  gat := Memref.whole cc0_scratch18
  outs := Memref.whole cc0_stg6_0
  val := V.p0
  pay x y := k0_pay2 (k0_pay1 x y)
  fin := k0_pay17

def pk1 : Pk F where
  R := 1056
  H := 528
  e := .bf16
  hR := rfl
  hH := by decide
  hsq := squeezes_S1x528x128_S528x128
  p := Memref.whole cc0_stg1_0
  theirs := Memref.whole cc0_scratch17
  gat := Memref.whole cc0_scratch19
  outs := Memref.whole cc0_stg7_0
  val := V.p1
  pay := k0_pay3
  fin := k0_pay18

/-- The items by number: 0 to 3 gradients, 4 and 5 packs. -/
def bigs : ℕ → Big F
  | 0 => big0 V
  | 1 => big1 V
  | 2 => big2 V
  | _ => big3 V

def pks : ℕ → Pk F
  | 4 => pk0 V
  | _ => pk1 V

/-- What transfer `i` gives back at its source, hands over at its target, and its amount. -/
def srcOf (c : Dev nD) (i : ℕ) : sProp 𝕄 := if i < 20 then (bigs V (i / 5)).src c (i % 5) else (pks V (i / 5)).src c (i % 5)
def landOf (c : Dev nD) (i : ℕ) : sProp 𝕄 := if i < 20 then (bigs V (i / 5)).land c (i % 5) else (pks V (i / 5)).land c (i % 5)
def credOf (i : ℕ) : ℕ := if i < 20 then (bigs V (i / 5)).cred (i % 5) else (pks V (i / 5)).cred (i % 5)

/-- What peer `d` may be written by device `c`: over all items. -/
def barOf (c : Dev nD) : Fin 4 → sProp 𝕄 :=
  Fin.cases (iprop((big0 V).barSib c ∗ (big1 V).barSib c ∗ (big2 V).barSib c ∗ (big3 V).barSib c ∗ (pk0 V).barSib c ∗ (pk1 V).barSib c))
    fun j => iprop((big0 V).barChip c j ∗ (big1 V).barChip c j ∗ (big2 V).barChip c j ∗ (big3 V).barChip c j ∗ (pk0 V).barChip c j ∗ (pk1 V).barChip c j)

/-- What all transfers carry. -/
def PV : Pay F where
  amt n := if n < 12 then (bigs V (n - 8)).mine.view.dmaCredit else if n < 42 then credOf V (n - 12) else credOf V (n - 42)
  amt_pos n := by
    have h (i : ℕ) : 0 < credOf V i := by unfold credOf; split; exacts [Big.cred_pos _ _, Pk.cred_pos _ _]
    split
    · exact View.dmaCredit_pos _ (numel3_pos (by decide) (Big.hH _) (Big.hC _))
    · split <;> exact h _
  dma c n := if n < 12 then (bigs V (n - 8)).load c else if n < 42 then srcOf V c (n - 12) else landOf V c (n - 42)
  bar := barOf V
  dma_st c n := by
    have h₁ (i : ℕ) : BI.Storable (upEmb : UEmb _ 𝕄) (srcOf V c i) := by unfold srcOf; split <;> infer_instance
    have h₂ (i : ℕ) : BI.Storable (upEmb : UEmb _ 𝕄) (landOf V c i) := by unfold landOf; split <;> infer_instance
    split
    · infer_instance
    · split
      · exact h₁ _
      · exact h₂ _
  bar_st c d := by
    refine Fin.cases ?_ (fun j => ?_) d
    · show BI.Storable (upEmb : UEmb _ 𝕄) iprop(_ ∗ _); infer_instance
    · show BI.Storable (upEmb : UEmb _ 𝕄) iprop(_ ∗ _); infer_instance

/-! ## An item among all -/

/-- `B` is gradient item `i` of what `P` carries. -/
structure BigAt (P : Pay F) (i : ℕ) (B : Big F) : Prop where
  load (c : Dev nD) : P.dma c (8 + i) = B.load c
  src (c : Dev nD) {s : ℕ} (h : s < 5) : P.dma c (12 + (5 * i + s)) = B.src c s
  land (c : Dev nD) {s : ℕ} (h : s < 5) : P.dma c (42 + (5 * i + s)) = B.land c s
  amt_load : P.amt (8 + i) = B.mine.view.dmaCredit
  amt_src {s : ℕ} (h : s < 5) : P.amt (12 + (5 * i + s)) = B.cred s
  amt_land {s : ℕ} (h : s < 5) : P.amt (42 + (5 * i + s)) = B.cred s

/-- `B` is pack item `i`. -/
structure PkAt (P : Pay F) (i : ℕ) (B : Pk F) : Prop where
  src (c : Dev nD) {s : ℕ} (h : s < 5) : P.dma c (12 + (5 * i + s)) = B.src c s
  land (c : Dev nD) {s : ℕ} (h : s < 5) : P.dma c (42 + (5 * i + s)) = B.land c s
  amt_src {s : ℕ} (h : s < 5) : P.amt (12 + (5 * i + s)) = B.cred s
  amt_land {s : ℕ} (h : s < 5) : P.amt (42 + (5 * i + s)) = B.cred s

theorem bigAt {i : ℕ} (hi : i < 4) : BigAt (PV V) i (bigs V i) where
  load c := by
    show (if 8 + i < 12 then _ else _) = _
    rw [if_pos (by omega), Nat.add_sub_cancel_left]
  src c s h := by
    show (if 12 + (5 * i + s) < 12 then _ else if 12 + (5 * i + s) < 42 then _ else _) = _
    rw [if_neg (by omega), if_pos (by omega), Nat.add_sub_cancel_left, srcOf, if_pos (by omega), show (5 * i + s) / 5 = i by omega, show (5 * i + s) % 5 = s by omega]
  land c s h := by
    show (if 42 + (5 * i + s) < 12 then _ else if 42 + (5 * i + s) < 42 then _ else _) = _
    rw [if_neg (by omega), if_neg (by omega), Nat.add_sub_cancel_left, landOf, if_pos (by omega), show (5 * i + s) / 5 = i by omega, show (5 * i + s) % 5 = s by omega]
  amt_load := by
    show (if 8 + i < 12 then _ else _) = _
    rw [if_pos (by omega), Nat.add_sub_cancel_left]
  amt_src {s} h := by
    show (if 12 + (5 * i + s) < 12 then _ else if 12 + (5 * i + s) < 42 then _ else _) = _
    rw [if_neg (by omega), if_pos (by omega), Nat.add_sub_cancel_left, credOf, if_pos (by omega), show (5 * i + s) / 5 = i by omega, show (5 * i + s) % 5 = s by omega]
  amt_land {s} h := by
    show (if 42 + (5 * i + s) < 12 then _ else if 42 + (5 * i + s) < 42 then _ else _) = _
    rw [if_neg (by omega), if_neg (by omega), Nat.add_sub_cancel_left, credOf, if_pos (by omega), show (5 * i + s) / 5 = i by omega, show (5 * i + s) % 5 = s by omega]

theorem pkAt {i : ℕ} (h4 : 4 ≤ i) (h6 : i < 6) : PkAt (PV V) i (pks V i) where
  src c s h := by
    show (if 12 + (5 * i + s) < 12 then _ else if 12 + (5 * i + s) < 42 then _ else _) = _
    rw [if_neg (by omega), if_pos (by omega), Nat.add_sub_cancel_left, srcOf, if_neg (by omega), show (5 * i + s) / 5 = i by omega, show (5 * i + s) % 5 = s by omega]
  land c s h := by
    show (if 42 + (5 * i + s) < 12 then _ else if 42 + (5 * i + s) < 42 then _ else _) = _
    rw [if_neg (by omega), if_neg (by omega), Nat.add_sub_cancel_left, landOf, if_neg (by omega), show (5 * i + s) / 5 = i by omega, show (5 * i + s) % 5 = s by omega]
  amt_src {s} h := by
    show (if 12 + (5 * i + s) < 12 then _ else if 12 + (5 * i + s) < 42 then _ else _) = _
    rw [if_neg (by omega), if_pos (by omega), Nat.add_sub_cancel_left, credOf, if_neg (by omega), show (5 * i + s) / 5 = i by omega, show (5 * i + s) % 5 = s by omega]
  amt_land {s} h := by
    show (if 42 + (5 * i + s) < 12 then _ else if 42 + (5 * i + s) < 42 then _ else _) = _
    rw [if_neg (by omega), if_neg (by omega), Nat.add_sub_cancel_left, credOf, if_neg (by omega), show (5 * i + s) / 5 = i by omega, show (5 * i + s) % 5 = s by omega]

theorem big0_at : BigAt (PV V) 0 (big0 V) := bigAt V (by decide)
theorem big1_at : BigAt (PV V) 1 (big1 V) := bigAt V (by decide)
theorem big2_at : BigAt (PV V) 2 (big2 V) := bigAt V (by decide)
theorem big3_at : BigAt (PV V) 3 (big3 V) := bigAt V (by decide)
theorem pk0_at : PkAt (PV V) 4 (pk0 V) := pkAt V (by decide) (by decide)
theorem pk1_at : PkAt (PV V) 5 (pk1 V) := pkAt V (by decide) (by decide)

end Cert.ReduceProof

end
-- ==== Proof.Chunks.lean ====
/-
The steps of one item, each for any gradient or pack item: the copy and the swap, the sum for another chip and its
transfer, the total and its transfer. Each takes what the step needs and gives what it leaves.
-/
module

public import proofs.«01_k».proof.Proof.Items

@[expose] public section

set_option maxHeartbeats 1000000

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

theorem dst_zero (i : ℕ) : dst (5 * i + 0) = 0 := by
  unfold dst; rw [show (5 * i + 0) % 5 = 0 by omega]; rfl
theorem dst_four (i : ℕ) : dst (5 * i + 4) = 0 := by
  unfold dst; rw [show (5 * i + 4) % 5 = 4 by omega]; rfl
theorem dst_chip (i : ℕ) (j : Fin 3) : dst (5 * i + (j.val + 1)) = j.succ := by
  have := j.isLt
  unfold dst; rw [show (5 * i + (j.val + 1)) % 5 = j.val + 1 by omega]; revert j; decide

section Chunks

variable {F : FTy → Type} [FloatOps F]

local notation "𝕄" => MT nD τ sig Unit (Elt F) ℕ UU ℕ

variable (P : Pay F) (c : Dev nD) {Z : sProp (MT nD τ sig Unit (Elt F) ℕ UU ℕ)} {p : List Op} {α : Type} {Q : α → sProp (MT nD τ sig Unit (Elt F) ℕ UU ℕ)}
  {k : PUnit → Prog (TpuEff nD τ sig (Elt F) Λ₀ .tc) α}

local notation "WP" q => wp frame (wpE (defs₀ (F := F)) 𝒱₀ (c : Thread nD τ) none) Set.univ q Q

/-! ## A gradient item -/

section Bigs
variable (B : Big F) {i : ℕ} (hB : BigAt P i B)

theorem Big.src_chip (j : Fin 3) : B.src c (j.val + 1) = (owns (c : Thread nD τ) (B.sS j) fullShare (B.S c j) : sProp 𝕄) := by
  fin_cases j <;> rfl
theorem Big.land_chip (j : Fin 3) : B.land c (j.val + 1) = (owns (c : Thread nD τ) (B.rS j) fullShare (B.S (peer j.succ c) j) : sProp 𝕄) := by
  fin_cases j <;> rfl
theorem Big.cred_chip (j j' : Fin 3) : ((B.rS j').squeeze ⟨2, ![B.H, B.C]⟩ B.hsq).view.dmaCredit = B.cred (j.val + 1) := by
  fin_cases j <;> rfl

include hB

/-- The local copy of the own half of the rows. -/
theorem big_copy {sm : SemLoc sig} (hs : sm = .dma (dsem (8 + i))) {o : Fin 3 → ℕ} (ho : o = ![0, B.H * (core c).val, 0]) {i₁ h₁ h₂ h₃} :
    iprop(st P c Z (.copy i :: p) ∗ owns (c : Thread nD τ) (B.gS (core c)) fullShare (B.M c) ∗ (∃ Y, owns (c : Thread nD τ) B.mine fullShare Y))
      ⊢ iprop((st P c Z p -∗ WP (k ⟨⟩)) -∗ WP (.op (.enqueueDma (B.g.slice (Rect.unit (s := ⟨3, ![4, B.R, B.C]⟩) o (⟨3, ![4, B.H, B.C]⟩ : Shape).size i₁) (fun _ => rfl)) (.here B.mine) sm h₁ h₂ h₃) k)) := by
  subst ho
  exact st_copy P c i hs hB.amt_load.symm (Entails.of_eq (hB.load c).symm)

/-- The other half goes to the device beside. -/
theorem big_swap {n : Dev nD} (hn : n = peer 0 c) {sS sm : SemLoc sig} (hsS : sS = .dma (dsem (12 + (5 * i + 0)))) (hsm : sm = .dma (dsem (42 + (5 * i + 0)))) {o : Fin 3 → ℕ} (ho : o = ![0, B.H * (core (peer 0 c)).val, 0]) {i₁ h₀ h₁ h₂ h₃} :
    iprop(st P c Z (.send (5 * i + 0) :: p)
        ∗ owns (c : Thread nD τ) (B.gS (core (peer 0 c))) fullShare (fun x => B.val c ((B.grows (core (peer 0 c))).emb x))
        ∗ (∃ Y, owns (peer 0 c : Thread nD τ) B.theirs fullShare Y))
      ⊢ iprop((st P c Z p -∗ WP (k ⟨⟩))
        -∗ WP (.op (.enqueueDma (B.g.slice (Rect.unit (s := ⟨3, ![4, B.R, B.C]⟩) o (⟨3, ![4, B.H, B.C]⟩ : Shape).size i₁) (fun _ => rfl)) (.remote (Dev.tc n : Thread nD τ) B.theirs sS h₀) sm h₁ h₂ h₃) k)) := by
  subst hn ho
  refine st_send P c (5 * i + 0) (src := B.gS (core (peer 0 c))) (by rw [dst_zero]) hsS hsm (hB.amt_src (s := 0) (by decide)).symm (hB.amt_land (s := 0) (by decide)).symm
    (Entails.of_eq (hB.src c (s := 0) (by decide)).symm) ?_
  rw [hB.land _ (by decide)]
  refine Entails.of_eq ?_
  show _ = owns (peer 0 c : Thread nD τ) B.theirs fullShare (B.T (peer 0 c))
  unfold Big.T
  rw [peer_peer]
  rfl

/-- The sum of a piece for another chip goes there. -/
theorem big_sum (j : Fin 3) {n : Dev nD} (hn : n = peer j.succ c) {sS sm : SemLoc sig} (hsS : sS = .dma (dsem (12 + (5 * i + (j.val + 1)))))
    (hsm : sm = .dma (dsem (42 + (5 * i + (j.val + 1))))) {o : Fin 3 → ℕ} (ho : o = ![(chip (peer j.succ c)).val, 0, 0])
    {i₁ i₂ h₀ h₁ h₂ h₃ l₁ l₂ l₃ x₁ x₂} :
    iprop(st P c Z (.send (5 * i + (j.val + 1)) :: p)
        ∗ owns (c : Thread nD τ) B.mine fullShare (B.M c) ∗ owns (c : Thread nD τ) B.theirs fullShare (B.T c)
        ∗ (∃ Y, owns (c : Thread nD τ) (B.sS j) fullShare Y) ∗ B.barChip c j)
      ⊢ iprop(((st P c Z p ∗ owns (c : Thread nD τ) B.mine fullShare (B.M c) ∗ owns (c : Thread nD τ) B.theirs fullShare (B.T c)) -∗ WP (k ⟨⟩))
        -∗ WP (.op (.load B.mine (Rect.unit (s := ⟨3, ![4, B.H, B.C]⟩) o (⟨3, ![1, B.H, B.C]⟩ : Shape).size i₁).toLoadRect l₁) fun x => .op (.load B.theirs (Rect.unit (s := ⟨3, ![4, B.H, B.C]⟩) o (⟨3, ![1, B.H, B.C]⟩ : Shape).size i₂).toLoadRect l₂) fun y =>
            .op (.load B.sendb (B.sl3 j).toLoadRect l₃) fun _ => .op (.store B.sendb (B.sl3 j) (B.pay x y) Finset.univ x₁ x₂) fun _ =>
            .op (.enqueueDma ((B.sS j).squeeze ⟨2, ![B.H, B.C]⟩ B.hsq)
              (.remote (Dev.tc n : Thread nD τ) ((B.rS j).squeeze ⟨2, ![B.H, B.C]⟩ B.hsq) sS h₀) sm h₁ h₂ h₃) k)) := by
  subst hn ho
  unfold Big.barChip
  iintro ⟨Hst, Hm, Ht, Hs, Hr⟩ Hk
  iapply (load_of c B.mine (B.sl4 (chip (peer j.succ c)))) $$ [Hm]
  · iexact Hm
  iintro Hm
  iapply (load_of c B.theirs (B.sl4 (chip (peer j.succ c)))) $$ [Ht]
  · iexact Ht
  iintro Ht
  iapply (load_some c B.sendb (B.sl3 j) (fun _ => rfl)) $$ [Hs]
  · iexact Hs
  iintro Hs
  iapply (store_at c B.sendb (B.sl3 j) (fun _ => rfl)) $$ [Hs]
  · iexact Hs
  iintro Hs
  ihave Hs := (owns_squeeze c (B.sS j) B.hsq fullShare (B.S c j)) $$ [Hs]
  · iexact Hs
  ihave Hr := (some_squeeze (peer j.succ c) (B.rS j) B.hsq) $$ [Hr]
  · iexact Hr
  iapply (st_send P c (5 * i + (j.val + 1)) (by rw [dst_chip]) hsS hsm
    ((B.cred_chip j j).trans (hB.amt_src (by have := j.isLt; omega)).symm) ((B.cred_chip j j).trans (hB.amt_land (by have := j.isLt; omega)).symm)
    (by rw [hB.src c (by have := j.isLt; omega), B.src_chip]; exact owns_unsqueeze c (B.sS j) B.hsq fullShare (B.S c j))
    (by
      rw [hB.land _ (by have := j.isLt; omega), B.land_chip, peer_peer]
      exact owns_unsqueeze (peer j.succ c) (B.rS j) B.hsq fullShare (B.S c j))) $$ [Hst Hs Hr]
  · isplitl [Hst]; · iexact Hst
    isplitl [Hs]; · iexact Hs
    iexact Hr
  iintro Hst
  iapply Hk
  isplitl [Hst]; · iexact Hst
  isplitl [Hm] <;> iassumption

/-- A wait for what a transfer of the item lands. -/
theorem big_land (s : ℕ) (h5 : s < 5) {sm : DmaSem sig} (hs : sm = dsem (42 + (5 * i + s))) {sp sp' : Space} {s₁ s₂ : Shape} {e e' : EltTy}
    {src : Memref sig .tc sp' s₂ e'} {dst : Memref sig .tc sp s₁ e} (ha : dst.view.dmaCredit = B.cred s) {h₁ h₂} :
    st P c Z (.wait (42 + (5 * i + s)) :: p)
      ⊢ iprop(((st P c Z p ∗ B.land c s) -∗ WP (k ⟨⟩)) -∗ WP (.op (.waitDma2 sm src dst h₁ h₂) k)) := by
  rw [← hB.land c h5]
  exact st_wait P c _ hs (ha.trans (hB.amt_land h5).symm)

/-- A wait for the source of a transfer of the item. -/
theorem big_src (s : ℕ) (h5 : s < 5) {sm : DmaSem sig} (hs : sm = dsem (12 + (5 * i + s))) {sp sp' : Space} {s₁ s₂ : Shape} {e e' : EltTy}
    {src : Memref sig .tc sp' s₂ e'} {dst : Memref sig .tc sp s₁ e} (ha : dst.view.dmaCredit = B.cred s) {h₁ h₂} :
    st P c Z (.wait (12 + (5 * i + s)) :: p)
      ⊢ iprop(((st P c Z p ∗ B.src c s) -∗ WP (k ⟨⟩)) -∗ WP (.op (.waitDma2 sm src dst h₁ h₂) k)) := by
  rw [← hB.src c h5]
  exact st_wait P c _ hs (ha.trans (hB.amt_src h5).symm)

/-- The wait for the local copy. -/
theorem big_loaded {sm : DmaSem sig} (hs : sm = dsem (8 + i)) {sp sp' : Space} {s₁ s₂ : Shape} {e e' : EltTy}
    {src : Memref sig .tc sp' s₂ e'} {dst : Memref sig .tc sp s₁ e} (ha : dst.view.dmaCredit = B.mine.view.dmaCredit) {h₁ h₂} :
    st P c Z (.wait (8 + i) :: p)
      ⊢ iprop(((st P c Z p ∗ B.load c) -∗ WP (k ⟨⟩)) -∗ WP (.op (.waitDma2 sm src dst h₁ h₂) k)) := by
  rw [← hB.load c]
  exact st_wait P c _ hs (ha.trans hB.amt_load.symm)

/-- The total of the own piece, which goes to the device beside. -/
theorem big_fin {n : Dev nD} (hn : n = peer 0 c) {sS sm : SemLoc sig} (hsS : sS = .dma (dsem (12 + (5 * i + 4)))) (hsm : sm = .dma (dsem (42 + (5 * i + 4))))
    {w₁ w₂ w₃ : DmaSem sig} (hw₁ : w₁ = dsem (42 + (5 * i + 1))) (hw₂ : w₂ = dsem (42 + (5 * i + 2))) (hw₃ : w₃ = dsem (42 + (5 * i + 3)))
    {sp : Space} {sh : Shape} {e : EltTy} {m₁ m₂ m₃ : Memref sig .tc sp sh e}
    {o : Fin 3 → ℕ} (ho : o = ![(chip c).val, 0, 0]) {o₁ o₂ : Fin 2 → ℕ} (ho₁ : o₁ = ![B.H * (core c).val, 0]) (ho₂ : o₂ = ![B.H * (core c).val, 0])
    {i₁ i₂ i₃ i₄ i₅ i₆ h₀ h₁ h₂ h₃ l₁ l₂ l₃ l₄ l₅ l₆ x₁ x₂ y₁ y₂ y₃ y₄ y₅ y₆} :
    iprop(st P c Z (.wait (42 + (5 * i + 1)) :: .wait (42 + (5 * i + 2)) :: .wait (42 + (5 * i + 3)) :: .send (5 * i + 4) :: p)
        ∗ owns (c : Thread nD τ) B.mine fullShare (B.M c) ∗ owns (c : Thread nD τ) B.theirs fullShare (B.T c)
        ∗ (∃ Y, owns (c : Thread nD τ) (B.oS (core c)) fullShare Y) ∗ (∃ Y, owns (peer 0 c : Thread nD τ) (B.oS (core c)) fullShare Y))
      ⊢ iprop(((st P c Z p ∗ owns (c : Thread nD τ) B.mine fullShare (B.M c) ∗ owns (c : Thread nD τ) B.theirs fullShare (B.T c)
            ∗ B.land c 1 ∗ B.land c 2 ∗ B.land c 3) -∗ WP (k ⟨⟩))
        -∗ WP (.op (.load B.mine (Rect.unit (s := ⟨3, ![4, B.H, B.C]⟩) o (⟨3, ![1, B.H, B.C]⟩ : Shape).size i₁).toLoadRect l₁) fun x => .op (.load B.theirs (Rect.unit (s := ⟨3, ![4, B.H, B.C]⟩) o (⟨3, ![1, B.H, B.C]⟩ : Shape).size i₂).toLoadRect l₂) fun y =>
            .op (.waitDma2 w₁ m₁ ((B.rS 0).squeeze ⟨2, ![B.H, B.C]⟩ B.hsq) y₁ y₂) fun _ => .op (.load B.recvb (B.sl3 0).toLoadRect l₃) fun r₀ =>
            .op (.waitDma2 w₂ m₂ ((B.rS 1).squeeze ⟨2, ![B.H, B.C]⟩ B.hsq) y₃ y₄) fun _ => .op (.load B.recvb (B.sl3 1).toLoadRect l₄) fun r₁ =>
            .op (.waitDma2 w₃ m₃ ((B.rS 2).squeeze ⟨2, ![B.H, B.C]⟩ B.hsq) y₅ y₆) fun _ => .op (.load B.recvb (B.sl3 2).toLoadRect l₅) fun r₂ =>
            .op (.load B.outs (Rect.unit (s := ⟨2, ![B.R, B.C]⟩) o₁ (⟨2, ![B.H, B.C]⟩ : Shape).size i₃).toLoadRect l₆) fun _ => .op (.store B.outs (Rect.unit (s := ⟨2, ![B.R, B.C]⟩) o₁ (⟨2, ![B.H, B.C]⟩ : Shape).size i₄) (B.fin x y r₀ r₁ r₂) Finset.univ x₁ x₂) fun _ =>
            .op (.enqueueDma (B.outs.slice (Rect.unit (s := ⟨2, ![B.R, B.C]⟩) o₂ (⟨2, ![B.H, B.C]⟩ : Shape).size i₅) (fun _ => rfl)) (.remote (Dev.tc n : Thread nD τ) (B.outs.slice (Rect.unit (s := ⟨2, ![B.R, B.C]⟩) o₂ (⟨2, ![B.H, B.C]⟩ : Shape).size i₆) (fun _ => rfl)) sS h₀) sm h₁ h₂ h₃) k)) := by
  subst hn ho ho₁ ho₂
  iintro ⟨Hst, Hm, Ht, Ho, Hp⟩ Hk
  iapply (load_of c B.mine (B.sl4 (chip c))) $$ [Hm]
  · iexact Hm
  iintro Hm
  iapply (load_of c B.theirs (B.sl4 (chip c))) $$ [Ht]
  · iexact Ht
  iintro Ht
  iapply (big_land P c B hB 1 (by decide) hw₁ (B.cred_chip 0 0)) $$ [Hst]
  · iexact Hst
  iintro ⟨Hst, H₁⟩
  ihave H₁ := (Entails.of_eq (B.land_chip c 0)) $$ [H₁]
  · iexact H₁
  iapply (load_at c B.recvb (B.sl3 0) (fun _ => rfl) (q := fullShare) (Y := B.S (peer 1 c) 0)) $$ [H₁]
  · iexact H₁
  iintro H₁
  iapply (big_land P c B hB 2 (by decide) hw₂ (B.cred_chip 1 1)) $$ [Hst]
  · iexact Hst
  iintro ⟨Hst, H₂⟩
  ihave H₂ := (Entails.of_eq (B.land_chip c 1)) $$ [H₂]
  · iexact H₂
  iapply (load_at c B.recvb (B.sl3 1) (fun _ => rfl) (q := fullShare) (Y := B.S (peer 2 c) 1)) $$ [H₂]
  · iexact H₂
  iintro H₂
  iapply (big_land P c B hB 3 (by decide) hw₃ (B.cred_chip 2 2)) $$ [Hst]
  · iexact Hst
  iintro ⟨Hst, H₃⟩
  ihave H₃ := (Entails.of_eq (B.land_chip c 2)) $$ [H₃]
  · iexact H₃
  iapply (load_at c B.recvb (B.sl3 2) (fun _ => rfl) (q := fullShare) (Y := B.S (peer 3 c) 2)) $$ [H₃]
  · iexact H₃
  iintro H₃
  iapply (load_some c B.outs (B.ohalf (core c)) (fun _ => rfl)) $$ [Ho]
  · iexact Ho
  iintro Ho
  iapply (store_at c B.outs (B.ohalf (core c)) (fun _ => rfl)) $$ [Ho]
  · iexact Ho
  iintro Ho
  iapply (st_send P c (5 * i + 4) (by rw [dst_four]) hsS hsm (hB.amt_src (s := 4) (by decide)).symm (hB.amt_land (s := 4) (by decide)).symm
    (src := B.oS (core c)) (dstm := B.oS (core c)) (X := B.O c) (Entails.of_eq (hB.src c (s := 4) (by decide)).symm)
    (by
      rw [hB.land _ (by decide)]
      show _ ⊢ owns (peer 0 c : Thread nD τ) (B.oS (core (peer 0 (peer 0 c)))) fullShare (B.O (peer 0 (peer 0 c)))
      rw [peer_peer])) $$ [Hst Ho Hp]
  · isplitl [Hst]; · iexact Hst
    isplitl [Ho]; · iexact Ho
    iexact Hp
  iintro Hst
  iapply Hk
  isplitl [Hst]; · iexact Hst
  isplitl [Hm]; · iexact Hm
  isplitl [Ht]; · iexact Ht
  isplitl [H₁]
  · iapply (Entails.of_eq (B.land_chip c 0).symm) $$ [H₁]
    iexact H₁
  isplitl [H₂]
  · iapply (Entails.of_eq (B.land_chip c 1).symm) $$ [H₂]
    iexact H₂
  iapply (Entails.of_eq (B.land_chip c 2).symm) $$ [H₃]
  iexact H₃

/-- The wait for the swap. -/
theorem big_land_swap {sm : DmaSem sig} (hs : sm = dsem (42 + (5 * i + 0))) {sp' : Space} {s₂ : Shape} {e' : EltTy} {src : Memref sig .tc sp' s₂ e'} {h₁ h₂} :
    st P c Z (.wait (42 + (5 * i + 0)) :: p)
      ⊢ iprop(((st P c Z p ∗ owns (c : Thread nD τ) B.theirs fullShare (B.T c)) -∗ WP (k ⟨⟩)) -∗ WP (.op (.waitDma2 sm src B.theirs h₁ h₂) k)) :=
  big_land P c B hB 0 (by decide) hs (by rfl)

/-- The wait for the other half of the total. -/
theorem big_land_last {sm : DmaSem sig} (hs : sm = dsem (42 + (5 * i + 4))) {sp' : Space} {s₂ : Shape} {e' : EltTy} {src : Memref sig .tc sp' s₂ e'} {o : Fin 2 → ℕ} {i₁} {h₁ h₂} :
    st P c Z (.wait (42 + (5 * i + 4)) :: p)
      ⊢ iprop(((st P c Z p ∗ owns (c : Thread nD τ) (B.oS (core (peer 0 c))) fullShare (B.O (peer 0 c))) -∗ WP (k ⟨⟩)) -∗ WP (.op (.waitDma2 sm src (B.outs.slice (Rect.unit (s := ⟨2, ![B.R, B.C]⟩) o (⟨2, ![B.H, B.C]⟩ : Shape).size i₁) (fun _ => rfl)) h₁ h₂) k)) :=
  big_land P c B hB 4 (by decide) hs (by rfl)

/-- The wait for the source of the total's transfer. -/
theorem big_src_last {sm : DmaSem sig} (hs : sm = dsem (12 + (5 * i + 4))) {sp' : Space} {s₂ : Shape} {e' : EltTy} {src : Memref sig .tc sp' s₂ e'} {o : Fin 2 → ℕ} {i₁} {h₁ h₂} :
    st P c Z (.wait (12 + (5 * i + 4)) :: p)
      ⊢ iprop(((st P c Z p ∗ owns (c : Thread nD τ) (B.oS (core c)) fullShare (B.O c)) -∗ WP (k ⟨⟩)) -∗ WP (.op (.waitDma2 sm src (B.outs.slice (Rect.unit (s := ⟨2, ![B.R, B.C]⟩) o (⟨2, ![B.H, B.C]⟩ : Shape).size i₁) (fun _ => rfl)) h₁ h₂) k)) :=
  big_src P c B hB 4 (by decide) hs (by rfl)

/-- The wait for the source of the swap. -/
theorem big_src_swap (hc : (B.gS 0).view.dmaCredit = B.theirs.view.dmaCredit) {sm : DmaSem sig} (hs : sm = dsem (12 + (5 * i + 0))) {sp' : Space} {s₂ : Shape} {e' : EltTy} {src : Memref sig .tc sp' s₂ e'} {o : Fin 3 → ℕ} {i₁} {h₁ h₂} :
    st P c Z (.wait (12 + (5 * i + 0)) :: p)
      ⊢ iprop(((st P c Z p ∗ owns (c : Thread nD τ) (B.gS (core (peer 0 c))) fullShare (fun x => B.val c ((B.grows (core (peer 0 c))).emb x))) -∗ WP (k ⟨⟩)) -∗ WP (.op (.waitDma2 sm src (B.g.slice (Rect.unit (s := ⟨3, ![4, B.R, B.C]⟩) o (⟨3, ![4, B.H, B.C]⟩ : Shape).size i₁) (fun _ => rfl)) h₁ h₂) k)) :=
  big_src P c B hB 0 (by decide) hs (by exact hc)

/-- The wait for the source of a sum's transfer. -/
theorem big_src_sum (j : Fin 3) (hc : ((B.sS 0).squeeze ⟨2, ![B.H, B.C]⟩ B.hsq).view.dmaCredit = ((B.rS 0).squeeze ⟨2, ![B.H, B.C]⟩ B.hsq).view.dmaCredit)
    {sm : DmaSem sig} (hs : sm = dsem (12 + (5 * i + (j.val + 1)))) {sp' : Space} {s₂ : Shape} {e' : EltTy} {src : Memref sig .tc sp' s₂ e'} {h₁ h₂} :
    st P c Z (.wait (12 + (5 * i + (j.val + 1))) :: p)
      ⊢ iprop(((st P c Z p ∗ owns (c : Thread nD τ) (B.sS j) fullShare (B.S c j)) -∗ WP (k ⟨⟩))
        -∗ WP (.op (.waitDma2 sm src ((B.sS j).squeeze ⟨2, ![B.H, B.C]⟩ B.hsq) h₁ h₂) k)) := by
  rw [← B.src_chip c j]
  exact big_src P c B hB (j.val + 1) (by have := j.isLt; omega) hs (by exact hc.trans (B.cred_chip j 0))

end Bigs

/-! ## A pack item -/

section Packs
variable (B : Pk F) {i : ℕ} (hB : PkAt P i B)

theorem Pk.src_chip (j : Fin 3) : B.src c (j.val + 1) = (owns (c : Thread nD τ) (B.gS (chip c)) (quarter (j.val + 1)) (B.S c) : sProp 𝕄) := by
  fin_cases j <;> rfl
theorem Pk.land_chip (j : Fin 3) : B.land c (j.val + 1) = (owns (c : Thread nD τ) (B.gS (chip (peer j.succ c))) fullShare (B.S (peer j.succ c)) : sProp 𝕄) := by
  fin_cases j <;> rfl
theorem Pk.land_zero : B.land c 0 = (owns (c : Thread nD τ) B.theirs fullShare (B.T c) : sProp 𝕄) := rfl
theorem Pk.cred_chip (j : Fin 3) (n : Fin 4) : ((B.gS n).squeeze ⟨2, ![B.H, 128]⟩ B.hsq).view.dmaCredit = B.cred (j.val + 1) := by
  fin_cases j <;> rfl

/-- The four quarters of a block. -/
theorem quarters {sp : Space} {s : Shape} {e : EltTy} (m : Memref sig (c : Thread nD τ).2.kind sp s e) (X : s.Idx → Elt F e) :
    (owns (c : Thread nD τ) m fullShare X : sProp 𝕄)
      ⊢ iprop(owns (c : Thread nD τ) m (quarter 0) X ∗ owns (c : Thread nD τ) m (quarter 1) X ∗ owns (c : Thread nD τ) m (quarter 2) X ∗ owns (c : Thread nD τ) m (quarter 3) X) := by
  iintro H
  ihave H' := (owns_share c m (PosShare.mem_left_op_right fullShare) X) $$ [H]
  · iexact H
  icases H' with ⟨Hl, Hr⟩
  ihave H' := (owns_share c m (PosShare.mem_left_op_right fullShare.left) X) $$ [Hl]
  · iexact Hl
  icases H' with ⟨H₀, H₁⟩
  ihave H' := (owns_share c m (PosShare.mem_left_op_right fullShare.right) X) $$ [Hr]
  · iexact Hr
  icases H' with ⟨H₂, H₃⟩
  isplitl [H₀]; · iexact H₀
  isplitl [H₁]; · iexact H₁
  isplitl [H₂]; · iexact H₂
  iexact H₃

/-- And the block again. -/
theorem unquarters {sp : Space} {s : Shape} {e : EltTy} (m : Memref sig (c : Thread nD τ).2.kind sp s e) (X : s.Idx → Elt F e) :
    iprop(owns (c : Thread nD τ) m (quarter 0) X ∗ owns (c : Thread nD τ) m (quarter 1) X ∗ owns (c : Thread nD τ) m (quarter 2) X ∗ owns (c : Thread nD τ) m (quarter 3) X)
      ⊢ (owns (c : Thread nD τ) m fullShare X : sProp 𝕄) := by
  iintro ⟨H₀, H₁, H₂, H₃⟩
  iapply (owns_unshare c m (PosShare.mem_left_op_right fullShare) X) $$ [H₀ H₁ H₂ H₃]
  isplitl [H₀ H₁]
  · iapply (owns_unshare c m (PosShare.mem_left_op_right fullShare.left) X)
    isplitl [H₀]; · iexact H₀
    iexact H₁
  · iapply (owns_unshare c m (PosShare.mem_left_op_right fullShare.right) X)
    isplitl [H₂]; · iexact H₂
    iexact H₃

/-- The four pieces, the own one first or in order. -/
theorem four_chips (Φ : Fin 4 → sProp 𝕄) :
    iprop(Φ (chip c) ∗ Φ (chip (peer 1 c)) ∗ Φ (chip (peer 2 c)) ∗ Φ (chip (peer 3 c))) = iprop(Φ 0 ∗ Φ 1 ∗ Φ 2 ∗ Φ 3) := by
  have h₁ := bigSep_univ_eq_bigSepL (M := 𝕄) [chip c, chip (peer 1 c), chip (peer 2 c), chip (peer 3 c)] (by revert c; decide) (by revert c; decide) Φ
  have h₂ := bigSep_univ_eq_bigSepL (M := 𝕄) [(0 : Fin 4), 1, 2, 3] (by decide) (by decide) Φ
  exact h₁.symm.trans h₂

theorem chip_peer_ne (j : Fin 3) : chip (peer j.succ c) ≠ chip c := by revert j c; decide

/-- The pieces of all the chips, the own one first or in order. -/
theorem Pk.gathered : iprop(owns (c : Thread nD τ) (B.gS (chip c)) (quarter 0) (B.S c) ∗ B.land c 1 ∗ B.land c 2 ∗ B.land c 3)
    = (iprop(owns (c : Thread nD τ) (B.gS 0) (if (0 : Fin 4) = chip c then quarter 0 else fullShare) (B.S (at_ 0 c))
      ∗ owns (c : Thread nD τ) (B.gS 1) (if (1 : Fin 4) = chip c then quarter 0 else fullShare) (B.S (at_ 1 c))
      ∗ owns (c : Thread nD τ) (B.gS 2) (if (2 : Fin 4) = chip c then quarter 0 else fullShare) (B.S (at_ 2 c))
      ∗ owns (c : Thread nD τ) (B.gS 3) (if (3 : Fin 4) = chip c then quarter 0 else fullShare) (B.S (at_ 3 c))) : sProp 𝕄) := by
  have h := four_chips c (fun n => (owns (c : Thread nD τ) (B.gS n) (if n = chip c then quarter 0 else fullShare) (B.S (at_ n c)) : sProp 𝕄))
  have n₁ : chip (peer 1 c) ≠ chip c := chip_peer_ne c 0
  have n₂ : chip (peer 2 c) ≠ chip c := chip_peer_ne c 1
  have n₃ : chip (peer 3 c) ≠ chip c := chip_peer_ne c 2
  have a₁ : at_ (chip (peer 1 c)) c = peer 1 c := at_chip_peer 0 c
  have a₂ : at_ (chip (peer 2 c)) c = peer 2 c := at_chip_peer 1 c
  have a₃ : at_ (chip (peer 3 c)) c = peer 3 c := at_chip_peer 2 c
  rw [if_pos rfl, if_neg n₁, if_neg n₂, if_neg n₃, at_chip, a₁, a₂, a₃] at h
  exact h

include hB

/-- A wait for what a transfer of the item lands. -/
theorem pk_land (s : ℕ) (h5 : s < 5) {sm : DmaSem sig} (hs : sm = dsem (42 + (5 * i + s))) {sp sp' : Space} {s₁ s₂ : Shape} {e e' : EltTy}
    {src : Memref sig .tc sp' s₂ e'} {dst : Memref sig .tc sp s₁ e} (ha : dst.view.dmaCredit = B.cred s) {h₁ h₂} :
    st P c Z (.wait (42 + (5 * i + s)) :: p)
      ⊢ iprop(((st P c Z p ∗ B.land c s) -∗ WP (k ⟨⟩)) -∗ WP (.op (.waitDma2 sm src dst h₁ h₂) k)) := by
  rw [← hB.land c h5]
  exact st_wait P c _ hs (ha.trans (hB.amt_land h5).symm)

/-- A wait for the source of a transfer of the item. -/
theorem pk_src (s : ℕ) (h5 : s < 5) {sm : DmaSem sig} (hs : sm = dsem (12 + (5 * i + s))) {sp sp' : Space} {s₁ s₂ : Shape} {e e' : EltTy}
    {src : Memref sig .tc sp' s₂ e'} {dst : Memref sig .tc sp s₁ e} (ha : dst.view.dmaCredit = B.cred s) {h₁ h₂} :
    st P c Z (.wait (12 + (5 * i + s)) :: p)
      ⊢ iprop(((st P c Z p ∗ B.src c s) -∗ WP (k ⟨⟩)) -∗ WP (.op (.waitDma2 sm src dst h₁ h₂) k)) := by
  rw [← hB.src c h5]
  exact st_wait P c _ hs (ha.trans (hB.amt_src h5).symm)

/-- The other half of the rows goes to the device beside. -/
theorem pk_swap {n : Dev nD} (hn : n = peer 0 c) {sS sm : SemLoc sig} (hsS : sS = .dma (dsem (12 + (5 * i + 0)))) (hsm : sm = .dma (dsem (42 + (5 * i + 0)))) {o : Fin 2 → ℕ} (ho : o = ![B.H * (core (peer 0 c)).val, 0]) {i₁ h₀ h₁ h₂ h₃} :
    iprop(st P c Z (.send (5 * i + 0) :: p)
        ∗ owns (c : Thread nD τ) (B.pS (core (peer 0 c))) fullShare (fun x => B.val c ((B.ohalf (core (peer 0 c))).emb x))
        ∗ (∃ Y, owns (peer 0 c : Thread nD τ) B.theirs fullShare Y))
      ⊢ iprop((st P c Z p -∗ WP (k ⟨⟩))
        -∗ WP (.op (.enqueueDma (B.p.slice (Rect.unit (s := ⟨2, ![B.R, 128]⟩) o (⟨2, ![B.H, 128]⟩ : Shape).size i₁) (fun _ => rfl)) (.remote (Dev.tc n : Thread nD τ) B.theirs sS h₀) sm h₁ h₂ h₃) k)) := by
  subst hn ho
  refine st_send P c (5 * i + 0) (src := B.pS (core (peer 0 c))) (by rw [dst_zero]) hsS hsm (hB.amt_src (s := 0) (by decide)).symm (hB.amt_land (s := 0) (by decide)).symm
    (Entails.of_eq (hB.src c (s := 0) (by decide)).symm) ?_
  rw [hB.land _ (by decide)]
  refine Entails.of_eq ?_
  show _ = owns (peer 0 c : Thread nD τ) B.theirs fullShare (B.T (peer 0 c))
  unfold Pk.T
  rw [peer_peer]
  rfl

/-- The half sum, into the own piece. -/
theorem pk_sum {w : DmaSem sig} (hw : w = dsem (42 + (5 * i + 0))) {sp : Space} {sh : Shape} {e : EltTy} {m : Memref sig .tc sp sh e} {o : Fin 2 → ℕ} (ho : o = ![B.H * (core c).val, 0])
    {o₁ : Fin 3 → ℕ} (ho₁ : o₁ = ![(chip c).val, 0, 0]) {i₁ i₂ i₃ l₁ l₂ l₃ x₁ x₂ y₁ y₂} :
    iprop(st P c Z (.wait (42 + (5 * i + 0)) :: p)
        ∗ owns (c : Thread nD τ) (B.pS (core c)) fullShare (fun x => B.val c ((B.ohalf (core c)).emb x)) ∗ (∃ Y, owns (c : Thread nD τ) (B.gS (chip c)) fullShare Y))
      ⊢ iprop(((st P c Z p ∗ owns (c : Thread nD τ) (B.pS (core c)) fullShare (fun x => B.val c ((B.ohalf (core c)).emb x)) ∗ B.land c 0
            ∗ owns (c : Thread nD τ) (B.gS (chip c)) (quarter 0) (B.S c) ∗ owns (c : Thread nD τ) (B.gS (chip c)) (quarter 1) (B.S c)
            ∗ owns (c : Thread nD τ) (B.gS (chip c)) (quarter 2) (B.S c) ∗ owns (c : Thread nD τ) (B.gS (chip c)) (quarter 3) (B.S c)) -∗ WP (k ⟨⟩))
        -∗ WP (.op (.waitDma2 w m B.theirs y₁ y₂) fun _ => .op (.load B.p (Rect.unit (s := ⟨2, ![B.R, 128]⟩) o (⟨2, ![B.H, 128]⟩ : Shape).size i₁).toLoadRect l₁) fun x =>
            .op (.load B.theirs B.fl.toLoadRect l₂) fun y => .op (.load B.gat (Rect.unit (s := ⟨3, ![4, B.H, 128]⟩) o₁ (⟨3, ![1, B.H, 128]⟩ : Shape).size i₂).toLoadRect l₃) fun _ =>
            .op (.store B.gat (Rect.unit (s := ⟨3, ![4, B.H, 128]⟩) o₁ (⟨3, ![1, B.H, 128]⟩ : Shape).size i₃) (B.pay x y) Finset.univ x₁ x₂) k)) := by
  subst ho ho₁
  iintro ⟨Hst, Hp, Hg⟩ Hk
  iapply (pk_land P c B hB 0 (by decide) hw rfl) $$ [Hst]
  · iexact Hst
  iintro ⟨Hst, Ht⟩
  iapply (load_at c B.p (B.ohalf (core c)) (fun _ => rfl)) $$ [Hp]
  · iexact Hp
  iintro Hp
  ihave Ht := (Entails.of_eq (B.land_zero c)) $$ [Ht]
  · iexact Ht
  iapply (load_of c B.theirs B.fl (q := fullShare) (X := B.T c)) $$ [Ht]
  · iexact Ht
  iintro Ht
  iapply (load_some c B.gat (B.sl4 (chip c)) (fun _ => rfl)) $$ [Hg]
  · iexact Hg
  iintro Hg
  iapply (store_at c B.gat (B.sl4 (chip c)) (fun _ => rfl)) $$ [Hg]
  · iexact Hg
  iintro Hg
  ihave H' := (quarters c (B.gS (chip c)) (B.S c)) $$ [Hg]
  · iexact Hg
  icases H' with ⟨H₀, H₁, H₂, H₃⟩
  iapply Hk
  isplitl [Hst]; · iexact Hst
  isplitl [Hp]; · iexact Hp
  isplitl [Ht]
  · iapply (Entails.of_eq (B.land_zero c).symm) $$ [Ht]
    iexact Ht
  isplitl [H₀]; · iexact H₀
  isplitl [H₁]; · iexact H₁
  isplitl [H₂]; · iexact H₂
  iexact H₃

/-- The half sum goes to another chip. -/
theorem pk_send (j : Fin 3) {n : Dev nD} (hn : n = peer j.succ c) {sS sm : SemLoc sig} (hsS : sS = .dma (dsem (12 + (5 * i + (j.val + 1)))))
    (hsm : sm = .dma (dsem (42 + (5 * i + (j.val + 1))))) {o : Fin 3 → ℕ} (ho : o = ![(chip c).val, 0, 0]) {i₁ i₂ h₀ h₁ h₂ h₃} :
    iprop(st P c Z (.send (5 * i + (j.val + 1)) :: p) ∗ owns (c : Thread nD τ) (B.gS (chip c)) (quarter (j.val + 1)) (B.S c) ∗ B.barChip c j)
      ⊢ iprop((st P c Z p -∗ WP (k ⟨⟩))
        -∗ WP (.op (.enqueueDma ((B.gat.slice (Rect.unit (s := ⟨3, ![4, B.H, 128]⟩) o (⟨3, ![1, B.H, 128]⟩ : Shape).size i₁) (fun _ => rfl)).squeeze ⟨2, ![B.H, 128]⟩ B.hsq)
              (.remote (Dev.tc n : Thread nD τ) ((B.gat.slice (Rect.unit (s := ⟨3, ![4, B.H, 128]⟩) o (⟨3, ![1, B.H, 128]⟩ : Shape).size i₂) (fun _ => rfl)).squeeze ⟨2, ![B.H, 128]⟩ B.hsq) sS h₀) sm h₁ h₂ h₃) k)) := by
  subst hn ho
  unfold Pk.barChip
  iintro ⟨Hst, Hs, Hr⟩ Hk
  ihave Hs := (owns_squeeze c (B.gS (chip c)) B.hsq (quarter (j.val + 1)) (B.S c)) $$ [Hs]
  · iexact Hs
  ihave Hr := (some_squeeze (peer j.succ c) (B.gS (chip c)) B.hsq) $$ [Hr]
  · iexact Hr
  iapply (st_send P c (5 * i + (j.val + 1)) (by rw [dst_chip]) hsS hsm
    ((B.cred_chip j (chip c)).trans (hB.amt_src (by have := j.isLt; omega)).symm) ((B.cred_chip j (chip c)).trans (hB.amt_land (by have := j.isLt; omega)).symm)
    (by rw [hB.src c (by have := j.isLt; omega), B.src_chip]; exact owns_unsqueeze c (B.gS (chip c)) B.hsq (quarter (j.val + 1)) (B.S c))
    (by
      rw [hB.land _ (by have := j.isLt; omega), B.land_chip, peer_peer]
      exact owns_unsqueeze (peer j.succ c) (B.gS (chip c)) B.hsq fullShare (B.S c))) $$ [Hst Hs Hr]
  · isplitl [Hst]; · iexact Hst
    isplitl [Hs]; · iexact Hs
    iexact Hr
  iexact Hk

/-- The wait for another chip's half sum. -/
theorem pk_land_sum (j : Fin 3) {sm : DmaSem sig} (hs : sm = dsem (42 + (5 * i + (j.val + 1)))) {sp' : Space} {s₂ : Shape} {e' : EltTy} {src : Memref sig .tc sp' s₂ e'}
    {o : Fin 3 → ℕ} {i₁ h₁ h₂} :
    st P c Z (.wait (42 + (5 * i + (j.val + 1))) :: p)
      ⊢ iprop(((st P c Z p ∗ B.land c (j.val + 1)) -∗ WP (k ⟨⟩))
        -∗ WP (.op (.waitDma2 sm src ((B.gat.slice (Rect.unit (s := ⟨3, ![4, B.H, 128]⟩) o (⟨3, ![1, B.H, 128]⟩ : Shape).size i₁) (fun _ => rfl)).squeeze ⟨2, ![B.H, 128]⟩ B.hsq) h₁ h₂) k)) :=
  pk_land P c B hB (j.val + 1) (by have := j.isLt; omega) hs (by exact B.cred_chip j 0)

/-- The total, which goes to the device beside. -/
theorem pk_fin {n : Dev nD} (hn : n = peer 0 c) {sS sm : SemLoc sig} (hsS : sS = .dma (dsem (12 + (5 * i + 4)))) (hsm : sm = .dma (dsem (42 + (5 * i + 4))))
    {w₁ w₂ w₃ : DmaSem sig} (hw₁ : w₁ = dsem (42 + (5 * i + 1))) (hw₂ : w₂ = dsem (42 + (5 * i + 2))) (hw₃ : w₃ = dsem (42 + (5 * i + 3)))
    {sp : Space} {sh : Shape} {e : EltTy} {m₁ m₂ m₃ : Memref sig .tc sp sh e} {q₁ q₂ q₃ : Fin 3 → ℕ}
    {o₁ o₂ : Fin 2 → ℕ} (ho₁ : o₁ = ![B.H * (core c).val, 0]) (ho₂ : o₂ = ![B.H * (core c).val, 0])
    {i₁ i₂ i₃ i₄ i₅ i₆ i₇ h₀ h₁ h₂ h₃ l₁ l₂ l₃ l₄ l₅ x₁ x₂ y₁ y₂ y₃ y₄ y₅ y₆} :
    iprop(st P c Z (.wait (42 + (5 * i + 1)) :: .wait (42 + (5 * i + 2)) :: .wait (42 + (5 * i + 3)) :: .send (5 * i + 4) :: p)
        ∗ owns (c : Thread nD τ) (B.gS (chip c)) (quarter 0) (B.S c)
        ∗ (∃ Y, owns (c : Thread nD τ) (B.oS (core c)) fullShare Y) ∗ (∃ Y, owns (peer 0 c : Thread nD τ) (B.oS (core c)) fullShare Y))
      ⊢ iprop(((st P c Z p ∗ owns (c : Thread nD τ) (B.gS (chip c)) (quarter 0) (B.S c) ∗ B.land c 1 ∗ B.land c 2 ∗ B.land c 3) -∗ WP (k ⟨⟩))
        -∗ WP (.op (.waitDma2 w₁ m₁ ((B.gat.slice (Rect.unit (s := ⟨3, ![4, B.H, 128]⟩) q₁ (⟨3, ![1, B.H, 128]⟩ : Shape).size i₅) (fun _ => rfl)).squeeze ⟨2, ![B.H, 128]⟩ B.hsq) y₁ y₂) fun _ =>
            .op (.waitDma2 w₂ m₂ ((B.gat.slice (Rect.unit (s := ⟨3, ![4, B.H, 128]⟩) q₂ (⟨3, ![1, B.H, 128]⟩ : Shape).size i₆) (fun _ => rfl)).squeeze ⟨2, ![B.H, 128]⟩ B.hsq) y₃ y₄) fun _ =>
            .op (.waitDma2 w₃ m₃ ((B.gat.slice (Rect.unit (s := ⟨3, ![4, B.H, 128]⟩) q₃ (⟨3, ![1, B.H, 128]⟩ : Shape).size i₇) (fun _ => rfl)).squeeze ⟨2, ![B.H, 128]⟩ B.hsq) y₅ y₆) fun _ =>
            .op (.load B.gat (B.sl4 0).toLoadRect l₁) fun r₀ => .op (.load B.gat (B.sl4 1).toLoadRect l₂) fun r₁ =>
            .op (.load B.gat (B.sl4 2).toLoadRect l₃) fun r₂ => .op (.load B.gat (B.sl4 3).toLoadRect l₄) fun r₃ =>
            .op (.load B.outs (Rect.unit (s := ⟨2, ![B.R, 128]⟩) o₁ (⟨2, ![B.H, 128]⟩ : Shape).size i₁).toLoadRect l₅) fun _ => .op (.store B.outs (Rect.unit (s := ⟨2, ![B.R, 128]⟩) o₁ (⟨2, ![B.H, 128]⟩ : Shape).size i₂) (B.fin r₀ r₁ r₂ r₃) Finset.univ x₁ x₂) fun _ =>
            .op (.enqueueDma (B.outs.slice (Rect.unit (s := ⟨2, ![B.R, 128]⟩) o₂ (⟨2, ![B.H, 128]⟩ : Shape).size i₃) (fun _ => rfl)) (.remote (Dev.tc n : Thread nD τ) (B.outs.slice (Rect.unit (s := ⟨2, ![B.R, 128]⟩) o₂ (⟨2, ![B.H, 128]⟩ : Shape).size i₄) (fun _ => rfl)) sS h₀) sm h₁ h₂ h₃) k)) := by
  subst hn ho₁ ho₂
  iintro ⟨Hst, Hg, Ho, Hp⟩ Hk
  iapply (pk_land_sum P c B hB 0 hw₁) $$ [Hst]
  · iexact Hst
  iintro ⟨Hst, H₁⟩
  iapply (pk_land_sum P c B hB 1 hw₂) $$ [Hst]
  · iexact Hst
  iintro ⟨Hst, H₂⟩
  iapply (pk_land_sum P c B hB 2 hw₃) $$ [Hst]
  · iexact Hst
  iintro ⟨Hst, H₃⟩
  have e := B.gathered c
  ihave Hall := (Entails.of_eq e) $$ [Hg H₁ H₂ H₃]
  · isplitl [Hg]; · iexact Hg
    isplitl [H₁]; · iexact H₁
    isplitl [H₂]; · iexact H₂
    iexact H₃
  icases Hall with ⟨G₀, G₁, G₂, G₃⟩
  iapply (load_at c B.gat (B.sl4 0) (fun _ => rfl) (q := if (0 : Fin 4) = chip c then quarter 0 else fullShare) (Y := B.S (at_ 0 c))) $$ [G₀]
  · iexact G₀
  iintro G₀
  iapply (load_at c B.gat (B.sl4 1) (fun _ => rfl) (q := if (1 : Fin 4) = chip c then quarter 0 else fullShare) (Y := B.S (at_ 1 c))) $$ [G₁]
  · iexact G₁
  iintro G₁
  iapply (load_at c B.gat (B.sl4 2) (fun _ => rfl) (q := if (2 : Fin 4) = chip c then quarter 0 else fullShare) (Y := B.S (at_ 2 c))) $$ [G₂]
  · iexact G₂
  iintro G₂
  iapply (load_at c B.gat (B.sl4 3) (fun _ => rfl) (q := if (3 : Fin 4) = chip c then quarter 0 else fullShare) (Y := B.S (at_ 3 c))) $$ [G₃]
  · iexact G₃
  iintro G₃
  ihave Hall := (Entails.of_eq e.symm) $$ [G₀ G₁ G₂ G₃]
  · isplitl [G₀]; · iexact G₀
    isplitl [G₁]; · iexact G₁
    isplitl [G₂]; · iexact G₂
    iexact G₃
  iapply (load_some c B.outs (B.ohalf (core c)) (fun _ => rfl)) $$ [Ho]
  · iexact Ho
  iintro Ho
  iapply (store_at c B.outs (B.ohalf (core c)) (fun _ => rfl)) $$ [Ho]
  · iexact Ho
  iintro Ho
  iapply (st_send P c (5 * i + 4) (by rw [dst_four]) hsS hsm (hB.amt_src (s := 4) (by decide)).symm (hB.amt_land (s := 4) (by decide)).symm
    (src := B.oS (core c)) (dstm := B.oS (core c)) (X := B.O c) (Entails.of_eq (hB.src c (s := 4) (by decide)).symm)
    (by
      rw [hB.land _ (by decide)]
      show _ ⊢ owns (peer 0 c : Thread nD τ) (B.oS (core (peer 0 (peer 0 c)))) fullShare (B.O (peer 0 (peer 0 c)))
      rw [peer_peer])) $$ [Hst Ho Hp]
  · isplitl [Hst]; · iexact Hst
    isplitl [Ho]; · iexact Ho
    iexact Hp
  iintro Hst
  iapply Hk
  isplitl [Hst]; · iexact Hst
  iexact Hall

/-- The wait for the swap. -/
theorem pk_land_swap {sm : DmaSem sig} (hs : sm = dsem (42 + (5 * i + 0))) {sp' : Space} {s₂ : Shape} {e' : EltTy} {src : Memref sig .tc sp' s₂ e'} {h₁ h₂} :
    st P c Z (.wait (42 + (5 * i + 0)) :: p)
      ⊢ iprop(((st P c Z p ∗ owns (c : Thread nD τ) B.theirs fullShare (B.T c)) -∗ WP (k ⟨⟩)) -∗ WP (.op (.waitDma2 sm src B.theirs h₁ h₂) k)) :=
  pk_land P c B hB 0 (by decide) hs (by rfl)

/-- The wait for the other half of the total. -/
theorem pk_land_last {sm : DmaSem sig} (hs : sm = dsem (42 + (5 * i + 4))) {sp' : Space} {s₂ : Shape} {e' : EltTy} {src : Memref sig .tc sp' s₂ e'} {o : Fin 2 → ℕ} {i₁} {h₁ h₂} :
    st P c Z (.wait (42 + (5 * i + 4)) :: p)
      ⊢ iprop(((st P c Z p ∗ owns (c : Thread nD τ) (B.oS (core (peer 0 c))) fullShare (B.O (peer 0 c))) -∗ WP (k ⟨⟩)) -∗ WP (.op (.waitDma2 sm src (B.outs.slice (Rect.unit (s := ⟨2, ![B.R, 128]⟩) o (⟨2, ![B.H, 128]⟩ : Shape).size i₁) (fun _ => rfl)) h₁ h₂) k)) :=
  pk_land P c B hB 4 (by decide) hs (by rfl)

/-- The wait for the source of the total's transfer. -/
theorem pk_src_last {sm : DmaSem sig} (hs : sm = dsem (12 + (5 * i + 4))) {sp' : Space} {s₂ : Shape} {e' : EltTy} {src : Memref sig .tc sp' s₂ e'} {o : Fin 2 → ℕ} {i₁} {h₁ h₂} :
    st P c Z (.wait (12 + (5 * i + 4)) :: p)
      ⊢ iprop(((st P c Z p ∗ owns (c : Thread nD τ) (B.oS (core c)) fullShare (B.O c)) -∗ WP (k ⟨⟩)) -∗ WP (.op (.waitDma2 sm src (B.outs.slice (Rect.unit (s := ⟨2, ![B.R, 128]⟩) o (⟨2, ![B.H, 128]⟩ : Shape).size i₁) (fun _ => rfl)) h₁ h₂) k)) :=
  pk_src P c B hB 4 (by decide) hs (by rfl)

/-- The wait for the source of the swap. -/
theorem pk_src_swap (hc : (B.pS 0).view.dmaCredit = B.theirs.view.dmaCredit) {sm : DmaSem sig} (hs : sm = dsem (12 + (5 * i + 0))) {sp' : Space} {s₂ : Shape} {e' : EltTy} {src : Memref sig .tc sp' s₂ e'} {o : Fin 2 → ℕ} {i₁} {h₁ h₂} :
    st P c Z (.wait (12 + (5 * i + 0)) :: p)
      ⊢ iprop(((st P c Z p ∗ owns (c : Thread nD τ) (B.pS (core (peer 0 c))) fullShare (fun x => B.val c ((B.ohalf (core (peer 0 c))).emb x))) -∗ WP (k ⟨⟩)) -∗ WP (.op (.waitDma2 sm src (B.p.slice (Rect.unit (s := ⟨2, ![B.R, 128]⟩) o (⟨2, ![B.H, 128]⟩ : Shape).size i₁) (fun _ => rfl)) h₁ h₂) k)) :=
  pk_src P c B hB 0 (by decide) hs (by exact hc)

/-- The wait for the source of a half sum's transfer. -/
theorem pk_src_sum (j : Fin 3) {sm : DmaSem sig} (hs : sm = dsem (12 + (5 * i + (j.val + 1)))) {sp' : Space} {s₂ : Shape} {e' : EltTy} {src : Memref sig .tc sp' s₂ e'}
    {o : Fin 3 → ℕ} {i₁ h₁ h₂} :
    st P c Z (.wait (12 + (5 * i + (j.val + 1))) :: p)
      ⊢ iprop(((st P c Z p ∗ owns (c : Thread nD τ) (B.gS (chip c)) (quarter (j.val + 1)) (B.S c)) -∗ WP (k ⟨⟩))
        -∗ WP (.op (.waitDma2 sm src ((B.gat.slice (Rect.unit (s := ⟨3, ![4, B.H, 128]⟩) o (⟨3, ![1, B.H, 128]⟩ : Shape).size i₁) (fun _ => rfl)).squeeze ⟨2, ![B.H, 128]⟩ B.hsq) h₁ h₂) k)) := by
  rw [← B.src_chip c j]
  exact pk_src P c B hB (j.val + 1) (by have := j.isLt; omega) hs (by exact B.cred_chip j 0)

end Packs

end Chunks

end Cert.ReduceProof

end
-- ==== Proof.Places.lean ====
/-
Where device `c` reads, writes and sends, in terms of its core, its chip and its peers.
-/
module

public import proofs.«01_k».proof.Proof.Chunks

@[expose] public section

namespace Cert.ReduceProof

open Cert.KernelIdeal Cert.KernelIdeal.Gen
open Idealize.ShloMosaic

/-! ## Offsets -/

theorem off1_eq (c : Dev nD) : k0_off1 c = ![0, 512 * (core c).val, 0] := by revert c; decide +kernel
theorem off2_eq (c : Dev nD) : k0_off2 c = ![0, 512 * (core (peer 0 c)).val, 0] := by revert c; decide +kernel
theorem off3_eq (c : Dev nD) : k0_off3 c = ![0, 96 * (core c).val, 0] := by revert c; decide +kernel
theorem off4_eq (c : Dev nD) : k0_off4 c = ![0, 96 * (core (peer 0 c)).val, 0] := by revert c; decide +kernel
theorem off5_eq (c : Dev nD) : k0_off5 c = ![0, 128 * (core c).val, 0] := by revert c; decide +kernel
theorem off6_eq (c : Dev nD) : k0_off6 c = ![0, 128 * (core (peer 0 c)).val, 0] := by revert c; decide +kernel
theorem off7_eq (c : Dev nD) : k0_off7 c = ![0, 128 * (core c).val, 0] := by revert c; decide +kernel
theorem off8_eq (c : Dev nD) : k0_off8 c = ![0, 128 * (core (peer 0 c)).val, 0] := by revert c; decide +kernel
theorem off9_eq (c : Dev nD) : k0_off9 c = ![48 * (core (peer 0 c)).val, 0] := by revert c; decide +kernel
theorem off10_eq (c : Dev nD) : k0_off10 c = ![528 * (core (peer 0 c)).val, 0] := by revert c; decide +kernel
theorem off11_eq (c : Dev nD) : k0_off11 c = ![48 * (core c).val, 0] := by revert c; decide +kernel
theorem off14_eq (c : Dev nD) : k0_off14 c = ![528 * (core c).val, 0] := by revert c; decide +kernel
theorem off12_eq (c : Dev nD) : k0_off12 c = ![(chip c).val, 0, 0] := by revert c; decide +kernel
theorem off13_eq (c : Dev nD) : k0_off13 c = ![(chip c).val, 0, 0] := by revert c; decide +kernel
theorem off15_eq (c : Dev nD) : k0_off15 c = ![(chip c).val, 0, 0] := by revert c; decide +kernel
theorem off16_eq (c : Dev nD) : k0_off16 c = ![(chip c).val, 0, 0] := by revert c; decide +kernel
theorem off37_eq (c : Dev nD) : k0_off37 c = ![(chip c).val, 0, 0] := by revert c; decide +kernel
theorem off40_eq (c : Dev nD) : k0_off40 c = ![(chip c).val, 0, 0] := by revert c; decide +kernel
theorem off43_eq (c : Dev nD) : k0_off43 c = ![(chip c).val, 0, 0] := by revert c; decide +kernel
theorem off46_eq (c : Dev nD) : k0_off46 c = ![(chip c).val, 0, 0] := by revert c; decide +kernel
theorem off17_eq (c : Dev nD) : k0_off17 c = ![(chip (peer 1 c)).val, 0, 0] := by revert c; decide +kernel
theorem off18_eq (c : Dev nD) : k0_off18 c = ![(chip (peer 2 c)).val, 0, 0] := by revert c; decide +kernel
theorem off19_eq (c : Dev nD) : k0_off19 c = ![(chip (peer 3 c)).val, 0, 0] := by revert c; decide +kernel
theorem off20_eq (c : Dev nD) : k0_off20 c = ![(chip (peer 1 c)).val, 0, 0] := by revert c; decide +kernel
theorem off21_eq (c : Dev nD) : k0_off21 c = ![(chip (peer 2 c)).val, 0, 0] := by revert c; decide +kernel
theorem off22_eq (c : Dev nD) : k0_off22 c = ![(chip (peer 3 c)).val, 0, 0] := by revert c; decide +kernel
theorem off23_eq (c : Dev nD) : k0_off23 c = ![(chip (peer 1 c)).val, 0, 0] := by revert c; decide +kernel
theorem off24_eq (c : Dev nD) : k0_off24 c = ![(chip (peer 2 c)).val, 0, 0] := by revert c; decide +kernel
theorem off25_eq (c : Dev nD) : k0_off25 c = ![(chip (peer 3 c)).val, 0, 0] := by revert c; decide +kernel
theorem off26_eq (c : Dev nD) : k0_off26 c = ![(chip (peer 1 c)).val, 0, 0] := by revert c; decide +kernel
theorem off27_eq (c : Dev nD) : k0_off27 c = ![(chip (peer 2 c)).val, 0, 0] := by revert c; decide +kernel
theorem off28_eq (c : Dev nD) : k0_off28 c = ![(chip (peer 3 c)).val, 0, 0] := by revert c; decide +kernel
theorem off32_eq (c : Dev nD) : k0_off32 c = ![48 * (core c).val, 0] := by revert c; decide +kernel
theorem off36_eq (c : Dev nD) : k0_off36 c = ![528 * (core c).val, 0] := by revert c; decide +kernel
theorem off38_eq (c : Dev nD) : k0_off38 c = ![512 * (core c).val, 0] := by revert c; decide +kernel
theorem off39_eq (c : Dev nD) : k0_off39 c = ![512 * (core c).val, 0] := by revert c; decide +kernel
theorem off41_eq (c : Dev nD) : k0_off41 c = ![96 * (core c).val, 0] := by revert c; decide +kernel
theorem off42_eq (c : Dev nD) : k0_off42 c = ![96 * (core c).val, 0] := by revert c; decide +kernel
theorem off44_eq (c : Dev nD) : k0_off44 c = ![128 * (core c).val, 0] := by revert c; decide +kernel
theorem off45_eq (c : Dev nD) : k0_off45 c = ![128 * (core c).val, 0] := by revert c; decide +kernel
theorem off47_eq (c : Dev nD) : k0_off47 c = ![128 * (core c).val, 0] := by revert c; decide +kernel
theorem off48_eq (c : Dev nD) : k0_off48 c = ![128 * (core c).val, 0] := by revert c; decide +kernel

/-! ## Targets -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 0 c := by revert c; decide +kernel
theorem dev10_eq (c : Dev nD) : (⟨k0_dev10 c, k0_dev10_lt c⟩ : Dev nD) = peer 0 c := by revert c; decide +kernel
theorem dev11_eq (c : Dev nD) : (⟨k0_dev11 c, k0_dev11_lt c⟩ : Dev nD) = peer 1 c := by revert c; decide +kernel
theorem dev12_eq (c : Dev nD) : (⟨k0_dev12 c, k0_dev12_lt c⟩ : Dev nD) = peer 2 c := by revert c; decide +kernel
theorem dev13_eq (c : Dev nD) : (⟨k0_dev13 c, k0_dev13_lt c⟩ : Dev nD) = peer 3 c := by revert c; decide +kernel
theorem dev14_eq (c : Dev nD) : (⟨k0_dev14 c, k0_dev14_lt c⟩ : Dev nD) = peer 1 c := by revert c; decide +kernel
theorem dev15_eq (c : Dev nD) : (⟨k0_dev15 c, k0_dev15_lt c⟩ : Dev nD) = peer 2 c := by revert c; decide +kernel
theorem dev16_eq (c : Dev nD) : (⟨k0_dev16 c, k0_dev16_lt c⟩ : Dev nD) = peer 3 c := by revert c; decide +kernel
theorem dev17_eq (c : Dev nD) : (⟨k0_dev17 c, k0_dev17_lt c⟩ : Dev nD) = peer 1 c := by revert c; decide +kernel
theorem dev18_eq (c : Dev nD) : (⟨k0_dev18 c, k0_dev18_lt c⟩ : Dev nD) = peer 2 c := by revert c; decide +kernel
theorem dev19_eq (c : Dev nD) : (⟨k0_dev19 c, k0_dev19_lt c⟩ : Dev nD) = peer 3 c := by revert c; decide +kernel
theorem dev20_eq (c : Dev nD) : (⟨k0_dev20 c, k0_dev20_lt c⟩ : Dev nD) = peer 1 c := by revert c; decide +kernel
theorem dev21_eq (c : Dev nD) : (⟨k0_dev21 c, k0_dev21_lt c⟩ : Dev nD) = peer 2 c := by revert c; decide +kernel
theorem dev22_eq (c : Dev nD) : (⟨k0_dev22 c, k0_dev22_lt c⟩ : Dev nD) = peer 3 c := by revert c; decide +kernel
theorem dev23_eq (c : Dev nD) : (⟨k0_dev23 c, k0_dev23_lt c⟩ : Dev nD) = peer 1 c := by revert c; decide +kernel
theorem dev24_eq (c : Dev nD) : (⟨k0_dev24 c, k0_dev24_lt c⟩ : Dev nD) = peer 2 c := by revert c; decide +kernel
theorem dev25_eq (c : Dev nD) : (⟨k0_dev25 c, k0_dev25_lt c⟩ : Dev nD) = peer 3 c := by revert c; decide +kernel
theorem dev26_eq (c : Dev nD) : (⟨k0_dev26 c, k0_dev26_lt c⟩ : Dev nD) = peer 1 c := by revert c; decide +kernel
theorem dev27_eq (c : Dev nD) : (⟨k0_dev27 c, k0_dev27_lt c⟩ : Dev nD) = peer 2 c := by revert c; decide +kernel
theorem dev28_eq (c : Dev nD) : (⟨k0_dev28 c, k0_dev28_lt c⟩ : Dev nD) = peer 3 c := by revert c; decide +kernel
theorem dev29_eq (c : Dev nD) : (⟨k0_dev29 c, k0_dev29_lt c⟩ : Dev nD) = peer 0 c := by revert c; decide +kernel
theorem dev30_eq (c : Dev nD) : (⟨k0_dev30 c, k0_dev30_lt c⟩ : Dev nD) = peer 0 c := by revert c; decide +kernel
theorem dev31_eq (c : Dev nD) : (⟨k0_dev31 c, k0_dev31_lt c⟩ : Dev nD) = peer 0 c := by revert c; decide +kernel
theorem dev32_eq (c : Dev nD) : (⟨k0_dev32 c, k0_dev32_lt c⟩ : Dev nD) = peer 0 c := by revert c; decide +kernel
theorem dev33_eq (c : Dev nD) : (⟨k0_dev33 c, k0_dev33_lt c⟩ : Dev nD) = peer 0 c := by revert c; decide +kernel
theorem dev34_eq (c : Dev nD) : (⟨k0_dev34 c, k0_dev34_lt c⟩ : Dev nD) = peer 0 c := by revert c; decide +kernel

end Cert.ReduceProof
-- ==== Proof.Pieces.lean ====
/-
An item's buffers, taken apart before the exchange and put together after it.
-/
module

public import proofs.«01_k».proof.Proof.Places

@[expose] public section

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

local notation "𝕄" => MT nD τ sig Unit (Elt F) ℕ UU ℕ

/-- Device `c` owns `m`, at some contents. -/
abbrev has (c : Dev nD) {sp : Space} {s : Shape} {e : EltTy} (m : Memref sig (c : Thread nD τ).2.kind sp s e) : sProp (MT nD τ sig Unit (Elt F) ℕ UU ℕ) :=
  iprop(∃ Y, owns (c : Thread nD τ) m fullShare Y)

theorem has_of (c : Dev nD) {sp : Space} {s : Shape} {e : EltTy} (m : Memref sig (c : Thread nD τ).2.kind sp s e) (X : s.Idx → Elt F e) :
    (owns (c : Thread nD τ) m fullShare X : sProp 𝕄) ⊢ has c m := by iintro H; iexists X; iexact H

/-! ## A family of rectangles that fill a memref -/

section
variable (c : Dev nD) {sp : Space} {s : Shape} {e : EltTy} (m : Memref sig (c : Thread nD τ).2.kind sp s e)
  {T : Type} [Fintype T] [DecidableEq T] (r : T → Rect s) (hr : ∀ t, ∀ a, (r t).stride a = 1)
  (hd : ∀ t t', t ≠ t' → Disjoint (r t).set (r t').set) (hc : (Finset.univ.biUnion fun t => (r t).set) = Finset.univ)

/-- Disjoint rectangles' contents are one array's. -/
theorem exists_glued (hd : ∀ t t', t ≠ t' → Disjoint (r t).set (r t').set) (X : ∀ t, (r t).shape.Idx → Elt F e) :
    ∃ Y : s.Idx → Elt F e, ∀ t i, Y ((r t).emb i) = X t i := by
  classical
  refine ⟨fun x => if h : ∃ t, ∃ i, (r t).emb i = x then X h.choose h.choose_spec.choose else (elt_nonempty (F := F) e).some, fun t i => ?_⟩
  have h : ∃ t', ∃ i', (r t').emb i' = (r t).emb i := ⟨t, i, rfl⟩
  have key (t' : T) (i' : (r t').shape.Idx) (hh : (r t').emb i' = (r t).emb i) : X t' i' = X t i := by
    by_cases ht : t' = t
    · subst ht
      rw [(r t').emb.injective hh]
    · have h₁ : (r t').emb i' ∈ (r t').set := (r t').map_emb_univ ▸ Finset.mem_map_of_mem _ (Finset.mem_univ _)
      have h₂ : (r t).emb i ∈ (r t).set := (r t).map_emb_univ ▸ Finset.mem_map_of_mem _ (Finset.mem_univ _)
      rw [hh] at h₁
      exact absurd h₂ (Finset.disjoint_left.mp (hd t' t ht) h₁)
  show (if h : ∃ t', ∃ i', (r t').emb i' = (r t).emb i then X h.choose h.choose_spec.choose else _) = X t i
  rw [dif_pos h]
  exact key _ _ h.choose_spec.choose_spec

include hd hc

theorem rects_of_some : (iprop(∃ Y, owns (c : Thread nD τ) m fullShare Y) : sProp 𝕄)
    ⊢ bigSep Finset.univ fun t => iprop(∃ Y, owns (c : Thread nD τ) (m.slice (r t) (hr t)) fullShare Y) := by
  have h (Y : s.Idx → Elt F e) : (owns (c : Thread nD τ) m fullShare Y : sProp 𝕄)
      ⊢ bigSep Finset.univ fun t => iprop(∃ Y, owns (c : Thread nD τ) (m.slice (r t) (hr t)) fullShare Y) :=
    (owns_rects (c : Thread nD τ) m fullShare r hr hd hc Y).trans (bigSep_mono fun t _ => has_of c (m.slice (r t) (hr t)) _)
  iintro ⟨%Y, H⟩
  iapply (h Y) $$ H

theorem some_of_rects : (bigSep Finset.univ fun t => iprop(∃ Y, owns (c : Thread nD τ) (m.slice (r t) (hr t)) fullShare Y) : sProp 𝕄)
    ⊢ iprop(∃ Y, owns (c : Thread nD τ) m fullShare Y) := by
  haveI : ∀ e, Nonempty (Elt F e) := elt_nonempty
  refine (bigSep_exists_pi Finset.univ _).trans ?_
  iintro ⟨%X, H⟩
  obtain ⟨Y, hY⟩ := exists_glued (F := F) (e := e) r hd X
  iexists Y
  iapply (owns_of_rects (c : Thread nD τ) m fullShare r hr hd hc Y)
  have e : (fun t => (owns (c : Thread nD τ) (m.slice (r t) (hr t)) fullShare (X t) : sProp 𝕄))
      = fun t => owns (c : Thread nD τ) (m.slice (r t) (hr t)) fullShare (fun j => Y ((r t).emb j)) :=
    funext fun t => congrArg _ (funext fun j => (hY t j).symm)
  iapply (Entails.of_eq (congrArg (bigSep Finset.univ) e)) $$ H

end

/-! ## Slots and halves -/

section
variable (H C : ℕ)

theorem slot4_disj (n n' : Fin 4) (h : n ≠ n') : Disjoint (slot4 H C n).set (slot4 H C n').set :=
  Rect.unit_disjoint 0 (by
    show n.val + 1 ≤ n'.val ∨ n'.val + 1 ≤ n.val
    have : n.val ≠ n'.val := fun e => h (Fin.ext e)
    omega)

theorem slot4_cover : (Finset.univ.biUnion fun n => (slot4 H C n).set) = Finset.univ := by
  refine Finset.eq_univ_of_forall fun i => Finset.mem_biUnion.mpr ⟨i 0, Finset.mem_univ _, Rect.mem_set_unit.mpr fun a => ?_⟩
  fin_cases a
  · exact ⟨le_refl _, Nat.lt_succ_self _⟩
  · exact ⟨Nat.zero_le _, (Nat.zero_add H).symm ▸ (i 1).isLt⟩
  · exact ⟨Nat.zero_le _, (Nat.zero_add C).symm ▸ (i 2).isLt⟩

theorem slot3_disj (n n' : Fin 3) (h : n ≠ n') : Disjoint (slot3 H C n).set (slot3 H C n').set :=
  Rect.unit_disjoint 0 (by
    show n.val + 1 ≤ n'.val ∨ n'.val + 1 ≤ n.val
    have : n.val ≠ n'.val := fun e => h (Fin.ext e)
    omega)

theorem slot3_cover : (Finset.univ.biUnion fun n => (slot3 H C n).set) = Finset.univ := by
  refine Finset.eq_univ_of_forall fun i => Finset.mem_biUnion.mpr ⟨i 0, Finset.mem_univ _, Rect.mem_set_unit.mpr fun a => ?_⟩
  fin_cases a
  · exact ⟨le_refl _, Nat.lt_succ_self _⟩
  · exact ⟨Nat.zero_le _, (Nat.zero_add H).symm ▸ (i 1).isLt⟩
  · exact ⟨Nat.zero_le _, (Nat.zero_add C).symm ▸ (i 2).isLt⟩

variable {R : ℕ} (hR : R = 2 * H)

theorem fin2_cases {b b' : Fin 2} (h : b ≠ b') : (b.val = 0 ∧ b'.val = 1) ∨ (b.val = 1 ∧ b'.val = 0) := by
  have : b.val ≠ b'.val := fun e => h (Fin.ext e)
  have := b.isLt; have := b'.isLt; omega

theorem half_disj {b b' : Fin 2} (h : b ≠ b') : Disjoint (half H C hR b).set (half H C hR b').set :=
  Rect.unit_disjoint 0 (by
    show H * b.val + H ≤ H * b'.val ∨ H * b'.val + H ≤ H * b.val
    rcases fin2_cases h with ⟨h, h'⟩ | ⟨h, h'⟩ <;> rw [h, h'] <;> omega)

theorem half_cover {b b' : Fin 2} (h : b ≠ b') : (half H C hR b).set ∪ (half H C hR b').set = Finset.univ := by
  refine Finset.eq_univ_of_forall fun i => Finset.mem_union.mpr ?_
  have h0 : (i 0).val < R := (i 0).isLt
  have h1 : (i 1).val < C := (i 1).isLt
  have key (b : Fin 2) (hb : H * b.val ≤ (i 0).val ∧ (i 0).val < H * b.val + H) : i ∈ (half H C hR b).set := by
    refine Rect.mem_set_unit.mpr fun a => ?_
    fin_cases a
    · exact hb
    · exact ⟨Nat.zero_le _, (Nat.zero_add C).symm ▸ h1⟩
  by_cases hlt : (i 0).val < H
  · rcases fin2_cases h with ⟨h, h'⟩ | ⟨h, h'⟩
    · exact Or.inl (key b (by rw [h]; omega))
    · exact Or.inr (key b' (by rw [h']; omega))
  · rcases fin2_cases h with ⟨h, h'⟩ | ⟨h, h'⟩
    · exact Or.inr (key b' (by rw [h']; omega))
    · exact Or.inl (key b (by rw [h]; omega))

theorem rows_disj {b b' : Fin 2} (h : b ≠ b') : Disjoint (rows H C hR b).set (rows H C hR b').set :=
  Rect.unit_disjoint 1 (by
    show H * b.val + H ≤ H * b'.val ∨ H * b'.val + H ≤ H * b.val
    rcases fin2_cases h with ⟨h, h'⟩ | ⟨h, h'⟩ <;> rw [h, h'] <;> omega)

theorem rows_cover {b b' : Fin 2} (h : b ≠ b') : (rows H C hR b).set ∪ (rows H C hR b').set = Finset.univ := by
  refine Finset.eq_univ_of_forall fun i => Finset.mem_union.mpr ?_
  have h0 : (i 1).val < R := (i 1).isLt
  have h1 : (i 2).val < C := (i 2).isLt
  have h2 : (i 0).val < 4 := (i 0).isLt
  have key (b : Fin 2) (hb : H * b.val ≤ (i 1).val ∧ (i 1).val < H * b.val + H) : i ∈ (rows H C hR b).set := by
    refine Rect.mem_set_unit.mpr fun a => ?_
    fin_cases a
    · exact ⟨Nat.zero_le _, (Nat.zero_add 4).symm ▸ h2⟩
    · exact hb
    · exact ⟨Nat.zero_le _, (Nat.zero_add C).symm ▸ h1⟩
  by_cases hlt : (i 1).val < H
  · rcases fin2_cases h with ⟨h, h'⟩ | ⟨h, h'⟩
    · exact Or.inl (key b (by rw [h]; omega))
    · exact Or.inr (key b' (by rw [h']; omega))
  · rcases fin2_cases h with ⟨h, h'⟩ | ⟨h, h'⟩
    · exact Or.inr (key b' (by rw [h']; omega))
    · exact Or.inl (key b (by rw [h]; omega))

end

variable (c : Dev nD)

theorem chips_all : Finset.univ = [chip c, chip (peer 1 c), chip (peer 2 c), chip (peer 3 c)].toFinset := by revert c; decide
theorem chips_nodup : [chip c, chip (peer 1 c), chip (peer 2 c), chip (peer 3 c)].Nodup := by revert c; decide

theorem three_slots {H C : ℕ} {sp : Space} {e : EltTy} (m : Memref sig (c : Thread nD τ).2.kind sp ⟨3, ![3, H, C]⟩ e) :
    (has (F := F) c m) ⊢ iprop(has c (m.slice (slot3 H C 0) (fun _ => rfl)) ∗ has c (m.slice (slot3 H C 1) (fun _ => rfl)) ∗ has c (m.slice (slot3 H C 2) (fun _ => rfl))) := by
  refine (rects_of_some c m (slot3 H C) (fun _ _ => rfl) (slot3_disj H C) (slot3_cover H C)).trans ?_
  rw [bigSep_univ_eq_bigSepL [(0 : Fin 3), 1, 2] (by decide) (by decide)]
  exact .rfl

theorem of_three_slots {H C : ℕ} {sp : Space} {e : EltTy} (m : Memref sig (c : Thread nD τ).2.kind sp ⟨3, ![3, H, C]⟩ e) :
    iprop(has (F := F) c (m.slice (slot3 H C 0) (fun _ => rfl)) ∗ has c (m.slice (slot3 H C 1) (fun _ => rfl)) ∗ has c (m.slice (slot3 H C 2) (fun _ => rfl))) ⊢ has c m := by
  refine .trans ?_ (some_of_rects c m (slot3 H C) (fun _ _ => rfl) (slot3_disj H C) (slot3_cover H C))
  rw [bigSep_univ_eq_bigSepL [(0 : Fin 3), 1, 2] (by decide) (by decide)]
  exact .rfl

theorem four_slots {H C : ℕ} {sp : Space} {e : EltTy} (m : Memref sig (c : Thread nD τ).2.kind sp ⟨3, ![4, H, C]⟩ e) :
    (has (F := F) c m) ⊢ iprop(has c (m.slice (slot4 H C (chip c)) (fun _ => rfl)) ∗ has c (m.slice (slot4 H C (chip (peer 1 c))) (fun _ => rfl))
      ∗ has c (m.slice (slot4 H C (chip (peer 2 c))) (fun _ => rfl)) ∗ has c (m.slice (slot4 H C (chip (peer 3 c))) (fun _ => rfl))) := by
  refine (rects_of_some c m (slot4 H C) (fun _ _ => rfl) (slot4_disj H C) (slot4_cover H C)).trans ?_
  rw [bigSep_univ_eq_bigSepL [chip c, chip (peer 1 c), chip (peer 2 c), chip (peer 3 c)] (chips_all c) (chips_nodup c)]
  exact .rfl

theorem of_four_slots {H C : ℕ} {sp : Space} {e : EltTy} (m : Memref sig (c : Thread nD τ).2.kind sp ⟨3, ![4, H, C]⟩ e) :
    iprop(has (F := F) c (m.slice (slot4 H C (chip c)) (fun _ => rfl)) ∗ has c (m.slice (slot4 H C (chip (peer 1 c))) (fun _ => rfl))
      ∗ has c (m.slice (slot4 H C (chip (peer 2 c))) (fun _ => rfl)) ∗ has c (m.slice (slot4 H C (chip (peer 3 c))) (fun _ => rfl))) ⊢ has c m := by
  refine .trans ?_ (some_of_rects c m (slot4 H C) (fun _ _ => rfl) (slot4_disj H C) (slot4_cover H C))
  rw [bigSep_univ_eq_bigSepL [chip c, chip (peer 1 c), chip (peer 2 c), chip (peer 3 c)] (chips_all c) (chips_nodup c)]
  exact .rfl

theorem own_ne_sib : core c ≠ core (peer 0 c) := (core_sib_ne c).symm

/-! ## A gradient item -/

section
variable (B : Big F)

/-- The total on device `c`: its own half of the rows and the half of the device beside it. -/
def Big.total : (⟨2, ![B.R, B.C]⟩ : Shape).Idx → Elt F .f32 :=
  both (B.ohalf (core c)) (B.ohalf (core (peer 0 c))) (B.O c) (B.O (peer 0 c))

/-- What device `c` starts with, -/
def Big.before : sProp 𝕄 :=
  iprop(owns (c : Thread nD τ) B.g fullShare (B.val c) ∗ has c B.mine ∗ has c B.theirs ∗ has c B.sendb ∗ has c B.recvb ∗ has c B.outs)
/-- what it ends with, -/
def Big.after : sProp 𝕄 :=
  iprop(owns (c : Thread nD τ) B.g fullShare (B.val c) ∗ has c B.mine ∗ has c B.theirs ∗ has c B.sendb ∗ has c B.recvb
    ∗ owns (c : Thread nD τ) B.outs fullShare (B.total c))

/-- Apart: what it keeps, and what its peers may write. -/
theorem Big.apart : B.before c ⊢ iprop(owns (c : Thread nD τ) (B.gS (core c)) fullShare (B.M c)
    ∗ owns (c : Thread nD τ) (B.gS (core (peer 0 c))) fullShare (fun x => B.val c ((B.grows (core (peer 0 c))).emb x))
    ∗ has c B.mine ∗ has c (B.sS 0) ∗ has c (B.sS 1) ∗ has c (B.sS 2) ∗ has c (B.oS (core c))
    ∗ B.barSib (peer 0 c) ∗ B.barChip (peer 1 c) 0 ∗ B.barChip (peer 2 c) 1 ∗ B.barChip (peer 3 c) 2) := by
  have e₀ : B.barSib (peer 0 c) = iprop(has (F := F) c B.theirs ∗ has c (B.oS (core (peer 0 c)))) := by
    unfold Big.barSib; rw [peer_peer]
  have e₁ (j : Fin 3) : B.barChip (peer j.succ c) j = has (F := F) c (B.rS j) := by
    unfold Big.barChip; rw [peer_peer]
  have h₁ : B.barChip (peer 1 c) 0 = has (F := F) c (B.rS 0) := e₁ 0
  have h₂ : B.barChip (peer 2 c) 1 = has (F := F) c (B.rS 1) := e₁ 1
  have h₃ : B.barChip (peer 3 c) 2 = has (F := F) c (B.rS 2) := e₁ 2
  rw [e₀, h₁, h₂, h₃]
  unfold Big.before
  iintro ⟨Hg, Hm, Ht, Hs, Hr, Ho⟩
  ihave Hg := (owns_split c B.g (r₁ := B.grows (core c)) (r₂ := B.grows (core (peer 0 c))) (fun _ => rfl) (fun _ => rfl)
    (rows_disj _ _ _ (own_ne_sib c)) (rows_cover _ _ _ (own_ne_sib c)) fullShare (B.val c)) $$ Hg
  icases Hg with ⟨Hg₁, Hg₂⟩
  ihave Hs := (three_slots c B.sendb) $$ Hs
  icases Hs with ⟨Hs₀, Hs₁, Hs₂⟩
  ihave Hr := (three_slots c B.recvb) $$ Hr
  icases Hr with ⟨Hr₀, Hr₁, Hr₂⟩
  ihave Ho := (some_split c B.outs (r₁ := B.ohalf (core c)) (r₂ := B.ohalf (core (peer 0 c))) (fun _ => rfl) (fun _ => rfl)
    (half_disj _ _ _ (own_ne_sib c)) (half_cover _ _ _ (own_ne_sib c))) $$ Ho
  icases Ho with ⟨Ho₁, Ho₂⟩
  isplitl [Hg₁]; · iexact Hg₁
  isplitl [Hg₂]; · iexact Hg₂
  isplitl [Hm]; · iexact Hm
  isplitl [Hs₀]; · iexact Hs₀
  isplitl [Hs₁]; · iexact Hs₁
  isplitl [Hs₂]; · iexact Hs₂
  isplitl [Ho₁]; · iexact Ho₁
  isplitl [Ht Ho₂]
  · isplitl [Ht]; · iexact Ht
    iexact Ho₂
  isplitl [Hr₀]; · iexact Hr₀
  isplitl [Hr₁]; · iexact Hr₁
  iexact Hr₂

/-- Together again. -/
theorem Big.together : iprop(owns (c : Thread nD τ) (B.gS (core c)) fullShare (B.M c)
    ∗ owns (c : Thread nD τ) (B.gS (core (peer 0 c))) fullShare (fun x => B.val c ((B.grows (core (peer 0 c))).emb x))
    ∗ has c B.mine ∗ has c B.theirs
    ∗ has c (B.sS 0) ∗ has c (B.sS 1) ∗ has c (B.sS 2) ∗ has c (B.rS 0) ∗ has c (B.rS 1) ∗ has c (B.rS 2)
    ∗ owns (c : Thread nD τ) (B.oS (core c)) fullShare (B.O c) ∗ owns (c : Thread nD τ) (B.oS (core (peer 0 c))) fullShare (B.O (peer 0 c)))
    ⊢ B.after c := by
  unfold Big.after
  iintro ⟨Hg₁, Hg₂, Hm, Ht, Hs₀, Hs₁, Hs₂, Hr₀, Hr₁, Hr₂, Ho₁, Ho₂⟩
  isplitl [Hg₁ Hg₂]
  · iapply (owns_join c B.g (r₁ := B.grows (core c)) (r₂ := B.grows (core (peer 0 c))) (fun _ => rfl) (fun _ => rfl)
      (rows_disj _ _ _ (own_ne_sib c)) (rows_cover _ _ _ (own_ne_sib c)) fullShare (B.val c))
    isplitl [Hg₁]; · iexact Hg₁
    iexact Hg₂
  isplitl [Hm]; · iexact Hm
  isplitl [Ht]; · iexact Ht
  isplitl [Hs₀ Hs₁ Hs₂]
  · iapply (of_three_slots c B.sendb)
    isplitl [Hs₀]; · iexact Hs₀
    isplitl [Hs₁]; · iexact Hs₁
    iexact Hs₂
  isplitl [Hr₀ Hr₁ Hr₂]
  · iapply (of_three_slots c B.recvb)
    isplitl [Hr₀]; · iexact Hr₀
    isplitl [Hr₁]; · iexact Hr₁
    iexact Hr₂
  iapply (owns_both c B.outs (r₁ := B.ohalf (core c)) (r₂ := B.ohalf (core (peer 0 c))) (fun _ => rfl) (fun _ => rfl)
    (half_disj _ _ _ (own_ne_sib c)) (half_cover _ _ _ (own_ne_sib c)) fullShare (B.O c) (B.O (peer 0 c)))
  isplitl [Ho₁]; · iexact Ho₁
  iexact Ho₂

end

/-! ## A pack item -/

section
variable (B : Pk F)

/-- The total on device `c`. -/
def Pk.total : (⟨2, ![B.R, 128]⟩ : Shape).Idx → Elt F .f32 :=
  both (B.ohalf (core c)) (B.ohalf (core (peer 0 c))) (B.O c) (B.O (peer 0 c))

/-- What device `c` starts with, -/
def Pk.before : sProp 𝕄 :=
  iprop(owns (c : Thread nD τ) B.p fullShare (B.val c) ∗ has c B.theirs ∗ has c B.gat ∗ has c B.outs)
/-- and what it ends with. -/
def Pk.after : sProp 𝕄 :=
  iprop(owns (c : Thread nD τ) B.p fullShare (B.val c) ∗ has c B.theirs ∗ has c B.gat ∗ owns (c : Thread nD τ) B.outs fullShare (B.total c))

/-- Apart: what it keeps, and what its peers may write. -/
theorem Pk.apart : B.before c ⊢ iprop(owns (c : Thread nD τ) (B.pS (core c)) fullShare (fun x => B.val c ((B.ohalf (core c)).emb x))
    ∗ owns (c : Thread nD τ) (B.pS (core (peer 0 c))) fullShare (fun x => B.val c ((B.ohalf (core (peer 0 c))).emb x))
    ∗ has c (B.gS (chip c)) ∗ has c (B.oS (core c))
    ∗ B.barSib (peer 0 c) ∗ B.barChip (peer 1 c) 0 ∗ B.barChip (peer 2 c) 1 ∗ B.barChip (peer 3 c) 2) := by
  have e₀ : B.barSib (peer 0 c) = iprop(has (F := F) c B.theirs ∗ has c (B.oS (core (peer 0 c)))) := by
    unfold Pk.barSib; rw [peer_peer]
  have e₁ (j : Fin 3) : B.barChip (peer j.succ c) j = has (F := F) c (B.gS (chip (peer j.succ c))) := by
    unfold Pk.barChip; rw [peer_peer]
  have h₁ : B.barChip (peer 1 c) 0 = has (F := F) c (B.gS (chip (peer 1 c))) := e₁ 0
  have h₂ : B.barChip (peer 2 c) 1 = has (F := F) c (B.gS (chip (peer 2 c))) := e₁ 1
  have h₃ : B.barChip (peer 3 c) 2 = has (F := F) c (B.gS (chip (peer 3 c))) := e₁ 2
  rw [e₀, h₁, h₂, h₃]
  unfold Pk.before
  iintro ⟨Hg, Ht, Hs, Ho⟩
  ihave Hg := (owns_split c B.p (r₁ := B.ohalf (core c)) (r₂ := B.ohalf (core (peer 0 c))) (fun _ => rfl) (fun _ => rfl)
    (half_disj _ _ _ (own_ne_sib c)) (half_cover _ _ _ (own_ne_sib c)) fullShare (B.val c)) $$ Hg
  icases Hg with ⟨Hg₁, Hg₂⟩
  ihave Hs := (four_slots c B.gat) $$ Hs
  icases Hs with ⟨Hs₀, Hs₁, Hs₂, Hs₃⟩
  ihave Ho := (some_split c B.outs (r₁ := B.ohalf (core c)) (r₂ := B.ohalf (core (peer 0 c))) (fun _ => rfl) (fun _ => rfl)
    (half_disj _ _ _ (own_ne_sib c)) (half_cover _ _ _ (own_ne_sib c))) $$ Ho
  icases Ho with ⟨Ho₁, Ho₂⟩
  isplitl [Hg₁]; · iexact Hg₁
  isplitl [Hg₂]; · iexact Hg₂
  isplitl [Hs₀]; · iexact Hs₀
  isplitl [Ho₁]; · iexact Ho₁
  isplitl [Ht Ho₂]
  · isplitl [Ht]; · iexact Ht
    iexact Ho₂
  isplitl [Hs₁]; · iexact Hs₁
  isplitl [Hs₂]; · iexact Hs₂
  iexact Hs₃

/-- Together again. -/
theorem Pk.together : iprop(owns (c : Thread nD τ) (B.pS (core c)) fullShare (fun x => B.val c ((B.ohalf (core c)).emb x))
    ∗ owns (c : Thread nD τ) (B.pS (core (peer 0 c))) fullShare (fun x => B.val c ((B.ohalf (core (peer 0 c))).emb x))
    ∗ has c B.theirs
    ∗ (owns (c : Thread nD τ) (B.gS (chip c)) (quarter 0) (B.S c) ∗ owns (c : Thread nD τ) (B.gS (chip c)) (quarter 1) (B.S c)
      ∗ owns (c : Thread nD τ) (B.gS (chip c)) (quarter 2) (B.S c) ∗ owns (c : Thread nD τ) (B.gS (chip c)) (quarter 3) (B.S c))
    ∗ has c (B.gS (chip (peer 1 c))) ∗ has c (B.gS (chip (peer 2 c))) ∗ has c (B.gS (chip (peer 3 c)))
    ∗ owns (c : Thread nD τ) (B.oS (core c)) fullShare (B.O c) ∗ owns (c : Thread nD τ) (B.oS (core (peer 0 c))) fullShare (B.O (peer 0 c)))
    ⊢ B.after c := by
  unfold Pk.after
  iintro ⟨Hg₁, Hg₂, Ht, Hs₀, Hs₁, Hs₂, Hs₃, Ho₁, Ho₂⟩
  isplitl [Hg₁ Hg₂]
  · iapply (owns_join c B.p (r₁ := B.ohalf (core c)) (r₂ := B.ohalf (core (peer 0 c))) (fun _ => rfl) (fun _ => rfl)
      (half_disj _ _ _ (own_ne_sib c)) (half_cover _ _ _ (own_ne_sib c)) fullShare (B.val c))
    isplitl [Hg₁]; · iexact Hg₁
    iexact Hg₂
  isplitl [Ht]; · iexact Ht
  isplitl [Hs₀ Hs₁ Hs₂ Hs₃]
  · iapply (of_four_slots c B.gat)
    isplitl [Hs₀]
    · ihave Hs₀ := (unquarters c (B.gS (chip c)) (B.S c)) $$ Hs₀
      iexists _; iexact Hs₀
    isplitl [Hs₁]; · iexact Hs₁
    isplitl [Hs₂]; · iexact Hs₂
    iexact Hs₃
  iapply (owns_both c B.outs (r₁ := B.ohalf (core c)) (r₂ := B.ohalf (core (peer 0 c))) (fun _ => rfl) (fun _ => rfl)
    (half_disj _ _ _ (own_ne_sib c)) (half_cover _ _ _ (own_ne_sib c)) fullShare (B.O c) (B.O (peer 0 c)))
  isplitl [Ho₁]; · iexact Ho₁
  iexact Ho₂

end

end Cert.ReduceProof

end
-- ==== Proof.Body.lean ====
/-
One device's part, run from its first signal to its last wait.
-/
module

public import proofs.«01_k».proof.Proof.Pieces

@[expose] public section

set_option maxRecDepth 65536
set_option maxHeartbeats 0

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The operations of a device that concern its peers, in the order of the program. -/
def prog0 : List Op :=
  [.sig 0, .sig 1, .sig 2, .sig 3, .bar, .copy 0, .send 0, .copy 1, .send 5, .copy 2, .send 10, .copy 3,
   .send 15, .send 20, .send 25, .wait 62, .send 21, .send 22, .send 23, .wait 67, .send 26, .send 27, .send 28, .wait 8,
   .wait 42, .send 1, .send 2, .send 3, .wait 9, .wait 47, .send 6, .send 7, .send 8, .wait 10, .wait 52, .send 11,
   .send 12, .send 13, .wait 11, .wait 57, .send 16, .send 17, .send 18, .wait 63, .wait 64, .wait 65, .send 24, .wait 68,
   .wait 69, .wait 70, .send 29, .wait 43, .wait 44, .wait 45, .send 4, .wait 48, .wait 49, .wait 50, .send 9, .wait 53,
   .wait 54, .wait 55, .send 14, .wait 58, .wait 59, .wait 60, .send 19, .wait 66, .wait 71, .wait 46, .wait 51, .wait 56,
   .wait 61, .wait 12, .wait 17, .wait 22, .wait 27, .wait 32, .wait 37, .wait 33, .wait 34, .wait 35, .wait 38, .wait 39,
   .wait 40, .wait 36, .wait 41, .wait 16, .wait 21, .wait 26, .wait 31, .wait 13, .wait 14, .wait 15, .wait 18, .wait 19,
   .wait 20, .wait 23, .wait 24, .wait 25, .wait 28, .wait 29, .wait 30]

theorem prog0_good : good prog0 = true := by decide +kernel

variable (V : Vals F)

theorem big0_swap : ((big0 V).gS 0).view.dmaCredit = (big0 V).theirs.view.dmaCredit := by dsimp only [big0, big1, big2, big3, pk0, pk1, Big.gS, Big.grows, Pk.pS, Pk.ohalf, View.dmaCredit, View.slice, rows, half]; rfl
theorem big1_swap : ((big1 V).gS 0).view.dmaCredit = (big1 V).theirs.view.dmaCredit := by dsimp only [big0, big1, big2, big3, pk0, pk1, Big.gS, Big.grows, Pk.pS, Pk.ohalf, View.dmaCredit, View.slice, rows, half]; rfl
theorem big2_swap : ((big2 V).gS 0).view.dmaCredit = (big2 V).theirs.view.dmaCredit := by dsimp only [big0, big1, big2, big3, pk0, pk1, Big.gS, Big.grows, Pk.pS, Pk.ohalf, View.dmaCredit, View.slice, rows, half]; rfl
theorem big3_swap : ((big3 V).gS 0).view.dmaCredit = (big3 V).theirs.view.dmaCredit := by dsimp only [big0, big1, big2, big3, pk0, pk1, Big.gS, Big.grows, Pk.pS, Pk.ohalf, View.dmaCredit, View.slice, rows, half]; rfl
theorem pk0_swap : ((pk0 V).pS 0).view.dmaCredit = (pk0 V).theirs.view.dmaCredit := by dsimp only [big0, big1, big2, big3, pk0, pk1, Big.gS, Big.grows, Pk.pS, Pk.ohalf, View.dmaCredit, View.slice, rows, half]; rfl
theorem pk1_swap : ((pk1 V).pS 0).view.dmaCredit = (pk1 V).theirs.view.dmaCredit := by dsimp only [big0, big1, big2, big3, pk0, pk1, Big.gS, Big.grows, Pk.pS, Pk.ohalf, View.dmaCredit, View.slice, rows, half]; rfl

theorem big0_narrow : (((big0 V).sS 0).squeeze ⟨2, ![(big0 V).H, (big0 V).C]⟩ (big0 V).hsq).view.dmaCredit
    = (((big0 V).rS 0).squeeze ⟨2, ![(big0 V).H, (big0 V).C]⟩ (big0 V).hsq).view.dmaCredit := by dsimp only [big0, big1, big2, big3]
theorem big1_narrow : (((big1 V).sS 0).squeeze ⟨2, ![(big1 V).H, (big1 V).C]⟩ (big1 V).hsq).view.dmaCredit
    = (((big1 V).rS 0).squeeze ⟨2, ![(big1 V).H, (big1 V).C]⟩ (big1 V).hsq).view.dmaCredit := by dsimp only [big0, big1, big2, big3]
theorem big2_narrow : (((big2 V).sS 0).squeeze ⟨2, ![(big2 V).H, (big2 V).C]⟩ (big2 V).hsq).view.dmaCredit
    = (((big2 V).rS 0).squeeze ⟨2, ![(big2 V).H, (big2 V).C]⟩ (big2 V).hsq).view.dmaCredit := by dsimp only [big0, big1, big2, big3]
theorem big3_narrow : (((big3 V).sS 0).squeeze ⟨2, ![(big3 V).H, (big3 V).C]⟩ (big3 V).hsq).view.dmaCredit
    = (((big3 V).rS 0).squeeze ⟨2, ![(big3 V).H, (big3 V).C]⟩ (big3 V).hsq).view.dmaCredit := by dsimp only [big0, big1, big2, big3]

/-- A gradient item, at the end of the run. -/
theorem Big.finished (B : Big F) (c : Dev nD) :
    iprop(owns (c : Thread nD τ) (B.gS (core c)) fullShare (B.M c)
      ∗ owns (c : Thread nD τ) (B.gS (core (peer 0 c))) fullShare (fun x => B.val c ((B.grows (core (peer 0 c))).emb x))
      ∗ owns (c : Thread nD τ) B.mine fullShare (B.M c) ∗ owns (c : Thread nD τ) B.theirs fullShare (B.T c)
      ∗ owns (c : Thread nD τ) (B.sS 0) fullShare (B.S c 0) ∗ owns (c : Thread nD τ) (B.sS 1) fullShare (B.S c 1) ∗ owns (c : Thread nD τ) (B.sS 2) fullShare (B.S c 2)
      ∗ B.land c 1 ∗ B.land c 2 ∗ B.land c 3
      ∗ owns (c : Thread nD τ) (B.oS (core c)) fullShare (B.O c) ∗ owns (c : Thread nD τ) (B.oS (core (peer 0 c))) fullShare (B.O (peer 0 c)))
    ⊢ B.after c :=
  BIBase.Entails.trans (BIClass.sep_mono .rfl (BIClass.sep_mono .rfl (BIClass.sep_mono (has_of c _ _) (BIClass.sep_mono (has_of c _ _)
    (BIClass.sep_mono (has_of c _ _) (BIClass.sep_mono (has_of c _ _) (BIClass.sep_mono (has_of c _ _)
      (BIClass.sep_mono ((Entails.of_eq (B.land_chip c 0)).trans (has_of c _ _)) (BIClass.sep_mono ((Entails.of_eq (B.land_chip c 1)).trans (has_of c _ _))
        (BIClass.sep_mono ((Entails.of_eq (B.land_chip c 2)).trans (has_of c _ _)) .rfl)))))))))) (B.together c)

/-- A pack item, at the end of the run. -/
theorem Pk.finished (B : Pk F) (c : Dev nD) :
    iprop(owns (c : Thread nD τ) (B.pS (core c)) fullShare (fun x => B.val c ((B.ohalf (core c)).emb x))
      ∗ owns (c : Thread nD τ) (B.pS (core (peer 0 c))) fullShare (fun x => B.val c ((B.ohalf (core (peer 0 c))).emb x))
      ∗ B.land c 0
      ∗ (owns (c : Thread nD τ) (B.gS (chip c)) (quarter 0) (B.S c) ∗ owns (c : Thread nD τ) (B.gS (chip c)) (quarter 1) (B.S c)
        ∗ owns (c : Thread nD τ) (B.gS (chip c)) (quarter 2) (B.S c) ∗ owns (c : Thread nD τ) (B.gS (chip c)) (quarter 3) (B.S c))
      ∗ B.land c 1 ∗ B.land c 2 ∗ B.land c 3
      ∗ owns (c : Thread nD τ) (B.oS (core c)) fullShare (B.O c) ∗ owns (c : Thread nD τ) (B.oS (core (peer 0 c))) fullShare (B.O (peer 0 c)))
    ⊢ B.after c :=
  BIBase.Entails.trans (BIClass.sep_mono .rfl (BIClass.sep_mono .rfl (BIClass.sep_mono ((Entails.of_eq (B.land_zero c)).trans (has_of c _ _)) (BIClass.sep_mono .rfl
      (BIClass.sep_mono ((Entails.of_eq (B.land_chip c 0)).trans (has_of c _ _)) (BIClass.sep_mono ((Entails.of_eq (B.land_chip c 1)).trans (has_of c _ _))
        (BIClass.sep_mono ((Entails.of_eq (B.land_chip c 2)).trans (has_of c _ _)) .rfl))))))) (B.together c)

/-- Nothing is left to do: nothing is owed, and what the run leaves is had. -/
theorem st_nil (P : Pay F) (c : Dev nD) (Z : sProp 𝕄) : st P c Z [] ⊢ iprop((∃ W, owes (c : Thread nD τ) (0 : CellTallies nD τ sig Unit) W) ∗ Z) := by
  unfold st
  iintro ⟨-, -, -, HO, -, HZ⟩
  isplitl [HO]; · iexact HO
  iapply HZ
  iempintro

/-- What passes at the barrier, item by item. -/
theorem PV_bar_sib (c : Dev nD) : (PV V).bar c 0
    = iprop((big0 V).barSib c ∗ (big1 V).barSib c ∗ (big2 V).barSib c ∗ (big3 V).barSib c ∗ (pk0 V).barSib c ∗ (pk1 V).barSib c) := rfl
theorem PV_bar_chip (c : Dev nD) (d : Fin 4) (j : Fin 3) (h : d = j.succ) : (PV V).bar c d
    = iprop((big0 V).barChip c j ∗ (big1 V).barChip c j ∗ (big2 V).barChip c j ∗ (big3 V).barChip c j ∗ (pk0 V).barChip c j ∗ (pk1 V).barChip c j) := by subst h; rfl
theorem Big.barSib_has (B : Big F) (c : Dev nD) : B.barSib c ⊢ iprop(has (peer 0 c) B.theirs ∗ has (peer 0 c) (B.oS (core c))) := .rfl
theorem Big.load_has (B : Big F) (c : Dev nD) : B.load c ⊢ iprop(owns (c : Thread nD τ) B.mine fullShare (B.M c) ∗ owns (c : Thread nD τ) (B.gS (core c)) fullShare (B.M c)) := .rfl
theorem Pk.barSib_has (B : Pk F) (c : Dev nD) : B.barSib c ⊢ iprop(has (peer 0 c) B.theirs ∗ has (peer 0 c) (B.oS (core c))) := .rfl

/-- What device `c` has of all items before the exchange, and after it. -/
def allBefore (c : Dev nD) : sProp 𝕄 :=
  iprop((big0 V).before c ∗ (big1 V).before c ∗ (big2 V).before c ∗ (big3 V).before c ∗ (pk0 V).before c ∗ (pk1 V).before c)
def allAfter (c : Dev nD) : sProp 𝕄 :=
  iprop((big0 V).after c ∗ (big1 V).after c ∗ (big2 V).after c ∗ (big3 V).after c ∗ (pk0 V).after c ∗ (pk1 V).after c)

/-- The body on device `c`. -/
theorem run_body (c : Dev nD) (Z : sProp 𝕄) :
    iprop(st (PV V) c Z prog0 ∗ allBefore V c)
      ⊢ wp frame (wpE (defs₀ (F := F)) 𝒱₀ (c : Thread nD τ) none) Set.univ
        (cc0_reduce_all (Memref.whole main_arg0) (Memref.isWhole_whole _) (Memref.whole main_arg1) (Memref.isWhole_whole _) (Memref.whole main_arg2) (Memref.isWhole_whole _) (Memref.whole main_arg3) (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22)
        fun _ => iprop((∃ W, owes (c : Thread nD τ) (0 : CellTallies nD τ sig Unit) W) ∗ Z ∗ allAfter V c) := by
  rw [cc0_reduce_all_eq_skeleton]; unfold cc0_reduce_all_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, semSignalWord, semWaitWord, Prog.lift, Prog.bind_op, Prog.bind_ret, Prog.pure_eq_ret, wp_deviceId]
  unfold allBefore prog0
  iintro ⟨Hst, HA0, HA1, HA2, HA3, HA4, HA5⟩
  ihave HA0 := ((big0 V).apart c) $$ HA0
  icases HA0 with ⟨Hg0, Hh0, Hm0, Hs00, Hs01, Hs02, Ho0, Hb0, Hc00, Hc01, Hc02⟩
  ihave HA1 := ((big1 V).apart c) $$ HA1
  icases HA1 with ⟨Hg1, Hh1, Hm1, Hs10, Hs11, Hs12, Ho1, Hb1, Hc10, Hc11, Hc12⟩
  ihave HA2 := ((big2 V).apart c) $$ HA2
  icases HA2 with ⟨Hg2, Hh2, Hm2, Hs20, Hs21, Hs22, Ho2, Hb2, Hc20, Hc21, Hc22⟩
  ihave HA3 := ((big3 V).apart c) $$ HA3
  icases HA3 with ⟨Hg3, Hh3, Hm3, Hs30, Hs31, Hs32, Ho3, Hb3, Hc30, Hc31, Hc32⟩
  ihave HA4 := ((pk0 V).apart c) $$ HA4
  icases HA4 with ⟨Hg4, Hh4, Hm4, Ho4, Hb4, Hc40, Hc41, Hc42⟩
  ihave HA5 := ((pk1 V).apart c) $$ HA5
  icases HA5 with ⟨Hg5, Hh5, Hm5, Ho5, Hb5, Hc50, Hc51, Hc52⟩
  -- the barrier
  iapply (st_sig (PV V) c 0 (congrArg Dev.tc (dev1_eq c)) rfl rfl) $$ [Hst Hb0 Hb1 Hb2 Hb3 Hb4 Hb5]
  · isplitl [Hst]; · iexact Hst
    iapply (Entails.of_eq (PV_bar_sib V (peer 0 c)).symm)
    iframe Hb0 Hb1 Hb2 Hb3 Hb4 Hb5
  iintro Hst
  iapply (st_sig (PV V) c 1 (congrArg Dev.tc (dev2_eq c)) rfl rfl) $$ [Hst Hc00 Hc10 Hc20 Hc30 Hc40 Hc50]
  · isplitl [Hst]; · iexact Hst
    iapply (Entails.of_eq (PV_bar_chip V (peer 1 c) 1 0 rfl).symm)
    iframe Hc00 Hc10 Hc20 Hc30 Hc40 Hc50
  iintro Hst
  iapply (st_sig (PV V) c 2 (congrArg Dev.tc (dev3_eq c)) rfl rfl) $$ [Hst Hc01 Hc11 Hc21 Hc31 Hc41 Hc51]
  · isplitl [Hst]; · iexact Hst
    iapply (Entails.of_eq (PV_bar_chip V (peer 2 c) 2 1 rfl).symm)
    iframe Hc01 Hc11 Hc21 Hc31 Hc41 Hc51
  iintro Hst
  iapply (st_sig (PV V) c 3 (congrArg Dev.tc (dev4_eq c)) rfl rfl) $$ [Hst Hc02 Hc12 Hc22 Hc32 Hc42 Hc52]
  · isplitl [Hst]; · iexact Hst
    iapply (Entails.of_eq (PV_bar_chip V (peer 3 c) 3 2 rfl).symm)
    iframe Hc02 Hc12 Hc22 Hc32 Hc42 Hc52
  iintro Hst
  iapply (st_bar (PV V) c rfl rfl) $$ Hst
  iintro ⟨Hst, HB, HC0, HC1, HC2⟩
  ihave HB := (Entails.of_eq (PV_bar_sib V c)) $$ HB
  icases HB with ⟨HB0, HB1, HB2, HB3, HB4, HB5⟩
  icases ((big0 V).barSib_has c) $$ HB0 with ⟨Ht0, Hq0⟩
  icases ((big1 V).barSib_has c) $$ HB1 with ⟨Ht1, Hq1⟩
  icases ((big2 V).barSib_has c) $$ HB2 with ⟨Ht2, Hq2⟩
  icases ((big3 V).barSib_has c) $$ HB3 with ⟨Ht3, Hq3⟩
  icases ((pk0 V).barSib_has c) $$ HB4 with ⟨Ht4, Hq4⟩
  icases ((pk1 V).barSib_has c) $$ HB5 with ⟨Ht5, Hq5⟩
  ihave HC0 := (Entails.of_eq (PV_bar_chip V c 1 0 rfl)) $$ HC0
  icases HC0 with ⟨Hc00, Hc10, Hc20, Hc30, Hc40, Hc50⟩
  ihave HC1 := (Entails.of_eq (PV_bar_chip V c 2 1 rfl)) $$ HC1
  icases HC1 with ⟨Hc01, Hc11, Hc21, Hc31, Hc41, Hc51⟩
  ihave HC2 := (Entails.of_eq (PV_bar_chip V c 3 2 rfl)) $$ HC2
  icases HC2 with ⟨Hc02, Hc12, Hc22, Hc32, Hc42, Hc52⟩
  -- the copies and the swaps
  iapply (big_copy (PV V) c (big0 V) (big0_at V) rfl (off1_eq c)) $$ [$Hst $Hg0 $Hm0]
  iintro Hst
  iapply (big_swap (PV V) c (big0 V) (big0_at V) (dev5_eq c) rfl rfl (off2_eq c)) $$ [$Hst $Hh0 $Ht0]
  iintro Hst
  iapply (big_copy (PV V) c (big1 V) (big1_at V) rfl (off3_eq c)) $$ [$Hst $Hg1 $Hm1]
  iintro Hst
  iapply (big_swap (PV V) c (big1 V) (big1_at V) (dev6_eq c) rfl rfl (off4_eq c)) $$ [$Hst $Hh1 $Ht1]
  iintro Hst
  iapply (big_copy (PV V) c (big2 V) (big2_at V) rfl (off5_eq c)) $$ [$Hst $Hg2 $Hm2]
  iintro Hst
  iapply (big_swap (PV V) c (big2 V) (big2_at V) (dev7_eq c) rfl rfl (off6_eq c)) $$ [$Hst $Hh2 $Ht2]
  iintro Hst
  iapply (big_copy (PV V) c (big3 V) (big3_at V) rfl (off7_eq c)) $$ [$Hst $Hg3 $Hm3]
  iintro Hst
  iapply (big_swap (PV V) c (big3 V) (big3_at V) (dev8_eq c) rfl rfl (off8_eq c)) $$ [$Hst $Hh3 $Ht3]
  iintro Hst
  iapply (pk_swap (PV V) c (pk0 V) (pk0_at V) (dev9_eq c) rfl rfl (off9_eq c)) $$ [$Hst $Hh4 $Ht4]
  iintro Hst
  iapply (pk_swap (PV V) c (pk1 V) (pk1_at V) (dev10_eq c) rfl rfl (off10_eq c)) $$ [$Hst $Hh5 $Ht5]
  iintro Hst
  -- the packs' half sums
  iapply (pk_sum (PV V) c (pk0 V) (pk0_at V) rfl (off11_eq c) (off12_eq c)) $$ [$Hst $Hg4 $Hm4]
  iintro ⟨Hst, Hg4, Ht4, Hm40, Hm41, Hm42, Hm43⟩
  iapply (pk_send (PV V) c (pk0 V) (pk0_at V) 0 (dev11_eq c) rfl rfl (off13_eq c)) $$ [$Hst $Hm41 $Hc40]
  iintro Hst
  iapply (pk_send (PV V) c (pk0 V) (pk0_at V) 1 (dev12_eq c) rfl rfl (off13_eq c)) $$ [$Hst $Hm42 $Hc41]
  iintro Hst
  iapply (pk_send (PV V) c (pk0 V) (pk0_at V) 2 (dev13_eq c) rfl rfl (off13_eq c)) $$ [$Hst $Hm43 $Hc42]
  iintro Hst
  iapply (pk_sum (PV V) c (pk1 V) (pk1_at V) rfl (off14_eq c) (off15_eq c)) $$ [$Hst $Hg5 $Hm5]
  iintro ⟨Hst, Hg5, Ht5, Hm50, Hm51, Hm52, Hm53⟩
  iapply (pk_send (PV V) c (pk1 V) (pk1_at V) 0 (dev14_eq c) rfl rfl (off16_eq c)) $$ [$Hst $Hm51 $Hc50]
  iintro Hst
  iapply (pk_send (PV V) c (pk1 V) (pk1_at V) 1 (dev15_eq c) rfl rfl (off16_eq c)) $$ [$Hst $Hm52 $Hc51]
  iintro Hst
  iapply (pk_send (PV V) c (pk1 V) (pk1_at V) 2 (dev16_eq c) rfl rfl (off16_eq c)) $$ [$Hst $Hm53 $Hc52]
  iintro Hst
  -- the sums for the other chips
  iapply (big_loaded (PV V) c (big0 V) (big0_at V) rfl rfl) $$ [$Hst]
  iintro ⟨Hst, Hl0⟩
  icases ((big0 V).load_has c) $$ Hl0 with ⟨Hm0, Hg0⟩
  iapply (big_land_swap (PV V) c (big0 V) (big0_at V) rfl) $$ [$Hst]
  iintro ⟨Hst, Ht0⟩
  iapply (big_sum (PV V) c (big0 V) (big0_at V) 0 (dev17_eq c) rfl rfl (off17_eq c)) $$ [$Hst $Hm0 $Ht0 $Hs00 $Hc00]
  iintro ⟨Hst, Hm0, Ht0⟩
  iapply (big_sum (PV V) c (big0 V) (big0_at V) 1 (dev18_eq c) rfl rfl (off18_eq c)) $$ [$Hst $Hm0 $Ht0 $Hs01 $Hc01]
  iintro ⟨Hst, Hm0, Ht0⟩
  iapply (big_sum (PV V) c (big0 V) (big0_at V) 2 (dev19_eq c) rfl rfl (off19_eq c)) $$ [$Hst $Hm0 $Ht0 $Hs02 $Hc02]
  iintro ⟨Hst, Hm0, Ht0⟩
  iapply (big_loaded (PV V) c (big1 V) (big1_at V) rfl rfl) $$ [$Hst]
  iintro ⟨Hst, Hl1⟩
  icases ((big1 V).load_has c) $$ Hl1 with ⟨Hm1, Hg1⟩
  iapply (big_land_swap (PV V) c (big1 V) (big1_at V) rfl) $$ [$Hst]
  iintro ⟨Hst, Ht1⟩
  iapply (big_sum (PV V) c (big1 V) (big1_at V) 0 (dev20_eq c) rfl rfl (off20_eq c)) $$ [$Hst $Hm1 $Ht1 $Hs10 $Hc10]
  iintro ⟨Hst, Hm1, Ht1⟩
  iapply (big_sum (PV V) c (big1 V) (big1_at V) 1 (dev21_eq c) rfl rfl (off21_eq c)) $$ [$Hst $Hm1 $Ht1 $Hs11 $Hc11]
  iintro ⟨Hst, Hm1, Ht1⟩
  iapply (big_sum (PV V) c (big1 V) (big1_at V) 2 (dev22_eq c) rfl rfl (off22_eq c)) $$ [$Hst $Hm1 $Ht1 $Hs12 $Hc12]
  iintro ⟨Hst, Hm1, Ht1⟩
  iapply (big_loaded (PV V) c (big2 V) (big2_at V) rfl rfl) $$ [$Hst]
  iintro ⟨Hst, Hl2⟩
  icases ((big2 V).load_has c) $$ Hl2 with ⟨Hm2, Hg2⟩
  iapply (big_land_swap (PV V) c (big2 V) (big2_at V) rfl) $$ [$Hst]
  iintro ⟨Hst, Ht2⟩
  iapply (big_sum (PV V) c (big2 V) (big2_at V) 0 (dev23_eq c) rfl rfl (off23_eq c)) $$ [$Hst $Hm2 $Ht2 $Hs20 $Hc20]
  iintro ⟨Hst, Hm2, Ht2⟩
  iapply (big_sum (PV V) c (big2 V) (big2_at V) 1 (dev24_eq c) rfl rfl (off24_eq c)) $$ [$Hst $Hm2 $Ht2 $Hs21 $Hc21]
  iintro ⟨Hst, Hm2, Ht2⟩
  iapply (big_sum (PV V) c (big2 V) (big2_at V) 2 (dev25_eq c) rfl rfl (off25_eq c)) $$ [$Hst $Hm2 $Ht2 $Hs22 $Hc22]
  iintro ⟨Hst, Hm2, Ht2⟩
  iapply (big_loaded (PV V) c (big3 V) (big3_at V) rfl rfl) $$ [$Hst]
  iintro ⟨Hst, Hl3⟩
  icases ((big3 V).load_has c) $$ Hl3 with ⟨Hm3, Hg3⟩
  iapply (big_land_swap (PV V) c (big3 V) (big3_at V) rfl) $$ [$Hst]
  iintro ⟨Hst, Ht3⟩
  iapply (big_sum (PV V) c (big3 V) (big3_at V) 0 (dev26_eq c) rfl rfl (off26_eq c)) $$ [$Hst $Hm3 $Ht3 $Hs30 $Hc30]
  iintro ⟨Hst, Hm3, Ht3⟩
  iapply (big_sum (PV V) c (big3 V) (big3_at V) 1 (dev27_eq c) rfl rfl (off27_eq c)) $$ [$Hst $Hm3 $Ht3 $Hs31 $Hc31]
  iintro ⟨Hst, Hm3, Ht3⟩
  iapply (big_sum (PV V) c (big3 V) (big3_at V) 2 (dev28_eq c) rfl rfl (off28_eq c)) $$ [$Hst $Hm3 $Ht3 $Hs32 $Hc32]
  iintro ⟨Hst, Hm3, Ht3⟩
  -- the totals
  iapply (pk_fin (PV V) c (pk0 V) (pk0_at V) (dev29_eq c) rfl rfl rfl rfl rfl (off11_eq c) (off32_eq c)) $$ [$Hst $Hm40 $Ho4 $Hq4]
  iintro ⟨Hst, Hm40, Hr40, Hr41, Hr42⟩
  iapply (pk_fin (PV V) c (pk1 V) (pk1_at V) (dev30_eq c) rfl rfl rfl rfl rfl (off14_eq c) (off36_eq c)) $$ [$Hst $Hm50 $Ho5 $Hq5]
  iintro ⟨Hst, Hm50, Hr50, Hr51, Hr52⟩
  iapply (big_fin (PV V) c (big0 V) (big0_at V) (dev31_eq c) rfl rfl rfl rfl rfl (off37_eq c) (off38_eq c) (off39_eq c)) $$ [$Hst $Hm0 $Ht0 $Ho0 $Hq0]
  iintro ⟨Hst, Hm0, Ht0, Hr00, Hr01, Hr02⟩
  iapply (big_fin (PV V) c (big1 V) (big1_at V) (dev32_eq c) rfl rfl rfl rfl rfl (off40_eq c) (off41_eq c) (off42_eq c)) $$ [$Hst $Hm1 $Ht1 $Ho1 $Hq1]
  iintro ⟨Hst, Hm1, Ht1, Hr10, Hr11, Hr12⟩
  iapply (big_fin (PV V) c (big2 V) (big2_at V) (dev33_eq c) rfl rfl rfl rfl rfl (off43_eq c) (off44_eq c) (off45_eq c)) $$ [$Hst $Hm2 $Ht2 $Ho2 $Hq2]
  iintro ⟨Hst, Hm2, Ht2, Hr20, Hr21, Hr22⟩
  iapply (big_fin (PV V) c (big3 V) (big3_at V) (dev34_eq c) rfl rfl rfl rfl rfl (off46_eq c) (off47_eq c) (off48_eq c)) $$ [$Hst $Hm3 $Ht3 $Ho3 $Hq3]
  iintro ⟨Hst, Hm3, Ht3, Hr30, Hr31, Hr32⟩
  -- the other halves of the totals
  iapply (pk_land_last (PV V) c (pk0 V) (pk0_at V) rfl) $$ [$Hst]
  iintro ⟨Hst, Hq4⟩
  iapply (pk_land_last (PV V) c (pk1 V) (pk1_at V) rfl) $$ [$Hst]
  iintro ⟨Hst, Hq5⟩
  iapply (big_land_last (PV V) c (big0 V) (big0_at V) rfl) $$ [$Hst]
  iintro ⟨Hst, Hq0⟩
  iapply (big_land_last (PV V) c (big1 V) (big1_at V) rfl) $$ [$Hst]
  iintro ⟨Hst, Hq1⟩
  iapply (big_land_last (PV V) c (big2 V) (big2_at V) rfl) $$ [$Hst]
  iintro ⟨Hst, Hq2⟩
  iapply (big_land_last (PV V) c (big3 V) (big3_at V) rfl) $$ [$Hst]
  iintro ⟨Hst, Hq3⟩
  -- the sources
  iapply (big_src_swap (PV V) c (big0 V) (big0_at V) (big0_swap V) rfl) $$ [$Hst]
  iintro ⟨Hst, Hh0⟩
  iapply (big_src_swap (PV V) c (big1 V) (big1_at V) (big1_swap V) rfl) $$ [$Hst]
  iintro ⟨Hst, Hh1⟩
  iapply (big_src_swap (PV V) c (big2 V) (big2_at V) (big2_swap V) rfl) $$ [$Hst]
  iintro ⟨Hst, Hh2⟩
  iapply (big_src_swap (PV V) c (big3 V) (big3_at V) (big3_swap V) rfl) $$ [$Hst]
  iintro ⟨Hst, Hh3⟩
  iapply (pk_src_swap (PV V) c (pk0 V) (pk0_at V) (pk0_swap V) rfl) $$ [$Hst]
  iintro ⟨Hst, Hh4⟩
  iapply (pk_src_swap (PV V) c (pk1 V) (pk1_at V) (pk1_swap V) rfl) $$ [$Hst]
  iintro ⟨Hst, Hh5⟩
  iapply (pk_src_sum (PV V) c (pk0 V) (pk0_at V) 0 rfl) $$ [$Hst]
  iintro ⟨Hst, Hm41⟩
  iapply (pk_src_sum (PV V) c (pk0 V) (pk0_at V) 1 rfl) $$ [$Hst]
  iintro ⟨Hst, Hm42⟩
  iapply (pk_src_sum (PV V) c (pk0 V) (pk0_at V) 2 rfl) $$ [$Hst]
  iintro ⟨Hst, Hm43⟩
  iapply (pk_src_sum (PV V) c (pk1 V) (pk1_at V) 0 rfl) $$ [$Hst]
  iintro ⟨Hst, Hm51⟩
  iapply (pk_src_sum (PV V) c (pk1 V) (pk1_at V) 1 rfl) $$ [$Hst]
  iintro ⟨Hst, Hm52⟩
  iapply (pk_src_sum (PV V) c (pk1 V) (pk1_at V) 2 rfl) $$ [$Hst]
  iintro ⟨Hst, Hm53⟩
  iapply (pk_src_last (PV V) c (pk0 V) (pk0_at V) rfl) $$ [$Hst]
  iintro ⟨Hst, Ho4⟩
  iapply (pk_src_last (PV V) c (pk1 V) (pk1_at V) rfl) $$ [$Hst]
  iintro ⟨Hst, Ho5⟩
  iapply (big_src_last (PV V) c (big0 V) (big0_at V) rfl) $$ [$Hst]
  iintro ⟨Hst, Ho0⟩
  iapply (big_src_last (PV V) c (big1 V) (big1_at V) rfl) $$ [$Hst]
  iintro ⟨Hst, Ho1⟩
  iapply (big_src_last (PV V) c (big2 V) (big2_at V) rfl) $$ [$Hst]
  iintro ⟨Hst, Ho2⟩
  iapply (big_src_last (PV V) c (big3 V) (big3_at V) rfl) $$ [$Hst]
  iintro ⟨Hst, Ho3⟩
  iapply (big_src_sum (PV V) c (big0 V) (big0_at V) 0 (big0_narrow V) rfl) $$ [$Hst]
  iintro ⟨Hst, Hs00⟩
  iapply (big_src_sum (PV V) c (big0 V) (big0_at V) 1 (big0_narrow V) rfl) $$ [$Hst]
  iintro ⟨Hst, Hs01⟩
  iapply (big_src_sum (PV V) c (big0 V) (big0_at V) 2 (big0_narrow V) rfl) $$ [$Hst]
  iintro ⟨Hst, Hs02⟩
  iapply (big_src_sum (PV V) c (big1 V) (big1_at V) 0 (big1_narrow V) rfl) $$ [$Hst]
  iintro ⟨Hst, Hs10⟩
  iapply (big_src_sum (PV V) c (big1 V) (big1_at V) 1 (big1_narrow V) rfl) $$ [$Hst]
  iintro ⟨Hst, Hs11⟩
  iapply (big_src_sum (PV V) c (big1 V) (big1_at V) 2 (big1_narrow V) rfl) $$ [$Hst]
  iintro ⟨Hst, Hs12⟩
  iapply (big_src_sum (PV V) c (big2 V) (big2_at V) 0 (big2_narrow V) rfl) $$ [$Hst]
  iintro ⟨Hst, Hs20⟩
  iapply (big_src_sum (PV V) c (big2 V) (big2_at V) 1 (big2_narrow V) rfl) $$ [$Hst]
  iintro ⟨Hst, Hs21⟩
  iapply (big_src_sum (PV V) c (big2 V) (big2_at V) 2 (big2_narrow V) rfl) $$ [$Hst]
  iintro ⟨Hst, Hs22⟩
  iapply (big_src_sum (PV V) c (big3 V) (big3_at V) 0 (big3_narrow V) rfl) $$ [$Hst]
  iintro ⟨Hst, Hs30⟩
  iapply (big_src_sum (PV V) c (big3 V) (big3_at V) 1 (big3_narrow V) rfl) $$ [$Hst]
  iintro ⟨Hst, Hs31⟩
  iapply (big_src_sum (PV V) c (big3 V) (big3_at V) 2 (big3_narrow V) rfl) $$ [$Hst]
  iintro ⟨Hst, Hs32⟩
  -- the end
  rw [wp_ret]; imodintro
  icases (st_nil (PV V) c Z) $$ Hst with ⟨HO, HZ⟩
  isplitl [HO]; · iexact HO
  isplitl [HZ]; · iexact HZ
  unfold allAfter
  isplitl [Hg0 Hh0 Hm0 Ht0 Hs00 Hs01 Hs02 Hr00 Hr01 Hr02 Ho0 Hq0]
  · iapply ((big0 V).finished c)
    iframe Hg0 Hh0 Hm0 Ht0 Hs00 Hs01 Hs02 Hr00 Hr01 Hr02 Ho0 Hq0
  isplitl [Hg1 Hh1 Hm1 Ht1 Hs10 Hs11 Hs12 Hr10 Hr11 Hr12 Ho1 Hq1]
  · iapply ((big1 V).finished c)
    iframe Hg1 Hh1 Hm1 Ht1 Hs10 Hs11 Hs12 Hr10 Hr11 Hr12 Ho1 Hq1
  isplitl [Hg2 Hh2 Hm2 Ht2 Hs20 Hs21 Hs22 Hr20 Hr21 Hr22 Ho2 Hq2]
  · iapply ((big2 V).finished c)
    iframe Hg2 Hh2 Hm2 Ht2 Hs20 Hs21 Hs22 Hr20 Hr21 Hr22 Ho2 Hq2
  isplitl [Hg3 Hh3 Hm3 Ht3 Hs30 Hs31 Hs32 Hr30 Hr31 Hr32 Ho3 Hq3]
  · iapply ((big3 V).finished c)
    iframe Hg3 Hh3 Hm3 Ht3 Hs30 Hs31 Hs32 Hr30 Hr31 Hr32 Ho3 Hq3
  isplitl [Hg4 Hh4 Ht4 Hm40 Hm41 Hm42 Hm43 Hr40 Hr41 Hr42 Ho4 Hq4]
  · iapply ((pk0 V).finished c)
    iframe Hg4 Hh4 Ht4 Hm40 Hm41 Hm42 Hm43 Hr40 Hr41 Hr42 Ho4 Hq4
  iapply ((pk1 V).finished c)
  iframe Hg5 Hh5 Ht5 Hm50 Hm51 Hm52 Hm53 Hr50 Hr51 Hr52 Ho5 Hq5

end Cert.ReduceProof

end
-- ==== Proof.Setup.lean ====
/-
The protocol's state dealt at launch: every cell's invariant, the duty tokens to the devices that pay, and what each
cell will be credited.
-/
module

public import proofs.«01_k».proof.Proof.Body

@[expose] public section

set_option maxRecDepth 16384

noncomputable section

namespace Cert.ReduceProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

/-! ## Products over the operations of a list -/

theorem all_append (f : Op → sProp 𝕄) : ∀ p q : List Op, all f (p ++ q) = iprop(all f p ∗ all f q)
  | [], q => (equiv_iff.mp emp_sep).symm
  | o :: p, q => by
    show iprop(f o ∗ all f (p ++ q)) = iprop((f o ∗ all f p) ∗ all f q)
    rw [all_append f p q]; exact Entails.antisymm BI.sep_assoc' BI.sep_assoc

theorem all_perm (f : Op → sProp 𝕄) {p q : List Op} (h : p.Perm q) : all f p = all f q := by
  induction h with
  | nil => rfl
  | cons o _ ih => exact congrArg (fun X => iprop(f o ∗ X)) ih
  | swap a b l => exact Entails.antisymm (Laws.sep_left_comm (P := f b) (Q := f a)).1 (Laws.sep_left_comm (P := f b) (Q := f a)).2
  | trans _ _ h₁ h₂ => exact h₁.trans h₂

theorem all_map {I : Type} [DecidableEq I] (f : Op → sProp 𝕄) (g : I → Op) :
    ∀ l : List I, l.Nodup → all f (l.map g) = bigSep l.toFinset fun i => f (g i)
  | [], _ => rfl
  | i :: l, h => by
    show iprop(f (g i) ∗ all f (l.map g)) = _
    rw [List.toFinset_cons, bigSep_insert (by rw [List.mem_toFinset]; exact (List.nodup_cons.mp h).1), all_map f g l (List.nodup_cons.mp h).2]; rfl

theorem all_fin (f : Op → sProp 𝕄) {n : ℕ} (g : Fin n → Op) : all f ((List.finRange n).map g) = bigSep Finset.univ fun i => f (g i) := by
  rw [all_map f g _ (List.nodup_finRange n)]; congr 1
  ext i; simp

theorem bigSep_fin_add (a b : ℕ) (Φ : Fin (a + b) → sProp 𝕄) : bigSep Finset.univ Φ
    = iprop(bigSep Finset.univ (fun i : Fin a => Φ (Fin.castAdd b i)) ∗ bigSep Finset.univ (fun i : Fin b => Φ (Fin.natAdd a i))) := by
  rw [bigSep_univ_equiv finSumFinEquiv Φ, bigSep_univ_sum]; rfl

/-- The operations by kind. -/
def kinds : List Op :=
  (List.finRange 4).map (fun d => .sig d) ++ ([.bar] ++ ((List.finRange 4).map (fun i => .copy i.val)
    ++ ((List.finRange 30).map (fun i => .send i.val) ++ (List.finRange (34 + 30)).map (fun i => .wait (8 + i.val)))))

theorem prog0_kinds : prog0.Perm kinds := by
  rw [← List.isPerm_iff]; decide +kernel

theorem pend_low : ∀ i : Fin 34, 8 + i.val ∈ pend prog0 := by decide +kernel
theorem pend_high : ∀ i : Fin 30, 42 + i.val ∉ pend prog0 := by decide +kernel

theorem all_kinds (f : Op → sProp 𝕄) : all f prog0
    = iprop((bigSep Finset.univ fun d : Fin 4 => f (.sig d)) ∗ (f .bar ∗ emp) ∗ (bigSep Finset.univ fun i : Fin 4 => f (.copy i.val))
      ∗ (bigSep Finset.univ fun i : Fin 30 => f (.send i.val)) ∗ bigSep Finset.univ fun i : Fin (34 + 30) => f (.wait (8 + i.val))) := by
  rw [all_perm f prog0_kinds, kinds, all_append, all_append, all_append, all_append, all_fin, all_fin, all_fin, all_fin]; rfl

/-! ## A device's cells and duty tokens -/

theorem kcell_zero (c : Dev nD) (i : Fin 1) : kcell (c, Fin.castAdd 64 i) = barCell c := by
  fin_cases i; rfl
theorem kcell_succ (c : Dev nD) (i : Fin 64) : kcell (c, Fin.natAdd 1 i) = dcell c (8 + i.val) := by
  have h : ∀ k : Fin 65, k.val = 1 + i.val → csem k = .dma (dsem (8 + i.val)) := fun k hk => by
    unfold csem; rw [if_neg (by omega), hk, show 7 + (1 + i.val) = 8 + i.val by omega]
  exact congrArg (Prod.mk (c : Thread nD τ)) (h _ rfl)

theorem bigSep_kcell (c : Dev nD) (Φ : GSem nD τ sig → sProp 𝕄) :
    (bigSep Finset.univ fun k : Fin 65 => Φ (kcell (c, k))) = iprop(Φ (barCell c) ∗ bigSep Finset.univ fun i : Fin 64 => Φ (dcell c (8 + i.val))) := by
  rw [bigSep_fin_add 1 64 fun k => Φ (kcell (c, k))]
  simp only [kcell_zero, kcell_succ]
  rw [Finset.univ_unique, bigSep_singleton]

theorem dcell_inj {c c' : Dev nD} {n n' : ℕ} (h : n < 72) (h' : n' < 72) (e : dcell c n = dcell c' n') : c = c' ∧ n = n' := by
  refine ⟨congrArg (fun g : GSem nD τ sig => g.1.1) e, ?_⟩
  have h2 : (SemLoc.dma (dsem n) : SemLoc sig) = .dma (dsem n') := congrArg Prod.snd e
  have h3 : dsem n = dsem n' := by injection h2
  rw [← dsem_val h, ← dsem_val h', h3]

theorem csem_injective : Function.Injective csem := by
  intro k k' h
  unfold csem at h
  split at h <;> split at h
  · exact Fin.ext (by omega)
  · cases h
  · cases h
  · have h3 : dsem (7 + k.val) = dsem (7 + k'.val) := by injection h
    have := congrArg Fin.val h3
    rw [dsem_val (by omega), dsem_val (by omega)] at this
    exact Fin.ext (by omega)

theorem kcell_injective : Function.Injective (kcell : Dev nD × Fin 65 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of a device's own cells: four of its barrier, one of each transfer cell. -/
def tokOf (ck : Dev nD × Fin (4 + 64)) : GSem nD τ sig × ℕ × Fin 4 :=
  if h : ck.2.val < 4 then (barCell ck.1, 0, ⟨ck.2.val, h⟩) else (dcell ck.1 (4 + ck.2.val), 0, 0)
theorem tokOf_bar (c : Dev nD) (d : Fin 4) : tokOf (c, Fin.castAdd 64 d) = (barCell c, 0, d) := by
  unfold tokOf; rw [dif_pos (show (Fin.castAdd 64 d).val < 4 from d.isLt)]; rfl
theorem tokOf_dma (c : Dev nD) (i : Fin 64) : tokOf (c, Fin.natAdd 4 i) = (dcell c (8 + i.val), 0, 0) := by
  have h : (Fin.natAdd 4 i : Fin (4 + 64)).val = 4 + i.val := rfl
  unfold tokOf; rw [dif_neg (by rw [h]; omega), show 4 + (Fin.natAdd 4 i : Fin (4 + 64)).val = 8 + i.val by omega]

theorem tokOf_injective : Function.Injective tokOf := by
  rintro ⟨c, j⟩ ⟨c', j'⟩ h
  unfold tokOf at h
  split at h <;> split at h
  · have h1 : c = c' := congrArg (fun x : GSem nD τ sig × ℕ × Fin 4 => x.1.1.1) h
    have h2 := congrArg (fun x : GSem nD τ sig × ℕ × Fin 4 => x.2.2.val) h
    rw [h1]; exact congrArg _ (Fin.ext h2)
  · have := congrArg (fun x : GSem nD τ sig × ℕ × Fin 4 => x.1.2) h
    cases this
  · have := congrArg (fun x : GSem nD τ sig × ℕ × Fin 4 => x.1.2) h
    cases this
  · have h1 := dcell_inj (by have := j.isLt; dsimp only; omega) (by have := j'.isLt; dsimp only; omega) (congrArg Prod.fst h)
    have h2 : c = c' := h1.1
    rw [h2]; exact congrArg _ (Fin.ext (by have := h1.2; dsimp only at this; omega))
def allToks : Finset (GSem nD τ sig × ℕ × Fin 4) := Finset.univ.map ⟨tokOf, tokOf_injective⟩

/-- The tokens of device `c`'s own cells, -/
def toks (c : Dev nD) : sProp 𝕄 :=
  iprop((bigSep Finset.univ fun d : Fin 4 => dutyTok ER (barCell c) 0 d) ∗ (bigSep Finset.univ fun i : Fin 4 => dutyTok ER (dcell c (8 + i.val)) 0 0)
    ∗ (bigSep Finset.univ fun i : Fin 30 => dutyTok ER (dcell c (12 + i.val)) 0 0) ∗ bigSep Finset.univ fun i : Fin 30 => dutyTok ER (dcell c (42 + i.val)) 0 0)
/-- and of the duties it pays. -/
def payToks (c : Dev nD) : sProp 𝕄 :=
  iprop((bigSep Finset.univ fun d : Fin 4 => dutyTok ER (barCell (peer d c)) 0 d) ∗ (bigSep Finset.univ fun i : Fin 4 => dutyTok ER (dcell c (8 + i.val)) 0 0)
    ∗ (bigSep Finset.univ fun i : Fin 30 => dutyTok ER (dcell c (12 + i.val)) 0 0) ∗ bigSep Finset.univ fun i : Fin 30 => dutyTok ER (dcell (peer (dst i.val) c) (42 + i.val)) 0 0)

theorem toks_eq (c : Dev nD) : (bigSep Finset.univ fun k : Fin (4 + 64) => (dutyTok ER (tokOf (c, k)).1 (tokOf (c, k)).2.1 (tokOf (c, k)).2.2 : sProp 𝕄)) = toks c := by
  rw [bigSep_fin_add 4 64]
  simp only [tokOf_bar, tokOf_dma]
  rw [bigSep_fin_add 4 60, bigSep_fin_add 30 30]
  unfold toks
  have e₁ (i : Fin 30) : 8 + (Fin.natAdd 4 (Fin.castAdd 30 i) : Fin (4 + 60)).val = 12 + i.val := by
    show 8 + (4 + i.val) = _; omega
  have e₂ (i : Fin 30) : 8 + (Fin.natAdd 4 (Fin.natAdd 30 i) : Fin (4 + 60)).val = 42 + i.val := by
    show 8 + (4 + (30 + i.val)) = _; omega
  simp only [e₁, e₂]
  rfl

/-- A product over devices and a second index, the devices moved along a permutation for each second index. -/
theorem deal {n : ℕ} (e : Fin n → Dev nD ≃ Dev nD) (Φ : Dev nD → Fin n → sProp 𝕄) :
    (bigSep Finset.univ fun c : Dev nD => bigSep Finset.univ fun i : Fin n => Φ c i)
      = bigSep Finset.univ fun c : Dev nD => bigSep Finset.univ fun i : Fin n => Φ (e i c) i := by
  have sw (Ψ : Dev nD → Fin n → sProp 𝕄) : (bigSep Finset.univ fun c : Dev nD => bigSep Finset.univ fun i : Fin n => Ψ c i)
      = bigSep Finset.univ fun i : Fin n => bigSep Finset.univ fun c : Dev nD => Ψ c i := by
    rw [← bigSep_univ_prod (fun x : Dev nD × Fin n => Ψ x.1 x.2), bigSep_univ_equiv (Equiv.prodComm (Fin n) (Dev nD)), bigSep_univ_prod]; rfl
  rw [sw, sw fun c i => Φ (e i c) i]
  exact bigSep_congr fun i _ => bigSep_univ_equiv (e i) fun c => Φ c i

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal peerEquiv fun c d => (dutyTok ER (barCell c) 0 d : sProp 𝕄),
    deal (fun i : Fin 30 => peerEquiv (dst i.val)) fun c i => (dutyTok ER (dcell c (42 + i.val)) 0 0 : sProp 𝕄)]
  exact .rfl

/-! ## What the cells are credited at launch -/

section Credit
variable (P : Pay F)

/-- A device's barrier is owed a unit by each of its peers, -/
theorem sum_owed_bar (c : Dev nD) : ∀ p : List Op, (∑ d : Dev nD, owed P d p (barCell c) ()) = p.countP fun o => match o with | .sig _ => true | _ => false
  | [] => Finset.sum_const_zero
  | .sig e :: p => by
    have ih := sum_owed_bar c p
    have h (d : Dev nD) : owed P d (.sig e :: p) (barCell c) () = owed P d p (barCell c) () + if d = peer e c then 1 else 0 := by
      show (owed P d p + tallyAt (barCell (peer e d)) () 1 : CellTallies nD τ sig Unit) (barCell c) () = _
      rw [Pi.add_apply, Finsupp.add_apply, tallyAt_apply]
      congr 1
      by_cases hd : d = peer e c
      · subst hd; rw [peer_peer, if_pos ⟨rfl, rfl⟩, if_pos rfl]
      · rw [if_neg hd, if_neg]
        rintro ⟨h1, -⟩
        have : c = peer e d := congrArg (fun g : GSem nD τ sig => g.1.1) h1
        exact hd (by rw [this, peer_peer])
    rw [Finset.sum_congr rfl fun d _ => h d, Finset.sum_add_distrib, ih, Finset.sum_ite_eq' Finset.univ (peer e c) fun _ => 1, if_pos (Finset.mem_univ _),
      List.countP_cons_of_pos (by rfl)]
  | .send i :: p => by
    have ih := sum_owed_bar c p
    have h (d : Dev nD) : owed P d (.send i :: p) (barCell c) () = owed P d p (barCell c) () := by
      show (owed P d p + tallyAt (dcell (peer (dst i) d) (42 + i)) () _ : CellTallies nD τ sig Unit) (barCell c) () = _
      rw [Pi.add_apply, Finsupp.add_apply, tallyAt_apply, if_neg (fun h => by cases congrArg Prod.snd h.1), Nat.add_zero]
    rw [Finset.sum_congr rfl fun d _ => h d, ih, List.countP_cons_of_neg (fun h => by cases h)]
  | .bar :: p => by rw [List.countP_cons_of_neg (fun h => by cases h)]; exact sum_owed_bar c p
  | .copy i :: p => by rw [List.countP_cons_of_neg (fun h => by cases h)]; exact sum_owed_bar c p
  | .wait n :: p => by rw [List.countP_cons_of_neg (fun h => by cases h)]; exact sum_owed_bar c p

/-- and a landing cell its transfer's amount by one of them. -/
theorem sum_owed_land (c : Dev nD) {j : ℕ} (hj : j < 30) : ∀ p : List Op, (∀ i ∈ sends p, i < 30) →
    (∑ d : Dev nD, owed P d p (dcell c (42 + j)) ()) = (sends p).count j * P.amt (42 + j)
  | [], _ => by rw [show sends [] = [] from rfl, List.count_nil, Nat.zero_mul]; exact Finset.sum_const_zero
  | .sig e :: p, hs => by
    have h (d : Dev nD) : owed P d (.sig e :: p) (dcell c (42 + j)) () = owed P d p (dcell c (42 + j)) () := by
      show (owed P d p + tallyAt (barCell (peer e d)) () 1 : CellTallies nD τ sig Unit) (dcell c (42 + j)) () = _
      rw [Pi.add_apply, Finsupp.add_apply, tallyAt_apply, if_neg (fun h => by cases congrArg Prod.snd h.1), Nat.add_zero]
    rw [Finset.sum_congr rfl fun d _ => h d]; exact sum_owed_land c hj p hs
  | .send i :: p, hs => by
    have hi : i < 30 := hs i List.mem_cons_self
    have ih := sum_owed_land c hj p fun k hk => hs k (List.mem_cons_of_mem _ hk)
    show _ = (i :: sends p).count j * _
    have h (d : Dev nD) : owed P d (.send i :: p) (dcell c (42 + j)) () = owed P d p (dcell c (42 + j)) () + if d = peer (dst i) c then (if i = j then P.amt (42 + j) else 0) else 0 := by
      show (owed P d p + tallyAt (dcell (peer (dst i) d) (42 + i)) () _ : CellTallies nD τ sig Unit) (dcell c (42 + j)) () = _
      rw [Pi.add_apply, Finsupp.add_apply, tallyAt_apply]
      congr 1
      by_cases hd : d = peer (dst i) c
      · subst hd
        rw [peer_peer, if_pos rfl]
        by_cases hij : i = j
        · subst hij; rw [if_pos ⟨rfl, rfl⟩, if_pos rfl]
        · rw [if_neg hij, if_neg]
          rintro ⟨h1, -⟩
          have := (dcell_inj (by omega) (by omega) h1).2
          omega
      · rw [if_neg hd, if_neg]
        rintro ⟨h1, -⟩
        have : c = peer (dst i) d := congrArg (fun g : GSem nD τ sig => g.1.1) h1
        exact hd (by rw [this, peer_peer])
    rw [Finset.sum_congr rfl fun d _ => h d, Finset.sum_add_distrib, ih, Finset.sum_ite_eq' Finset.univ (peer (dst i) c) fun _ => _, if_pos (Finset.mem_univ _)]
    by_cases hij : i = j
    · subst hij; rw [if_pos rfl, List.count_cons_self, Nat.succ_mul]
    · rw [if_neg hij, List.count_cons_of_ne hij, Nat.add_zero]
  | .bar :: p, hs => sum_owed_land c hj p hs
  | .copy i :: p, hs => sum_owed_land c hj p hs
  | .wait n :: p, hs => sum_owed_land c hj p hs

theorem count_sends : ∀ j : Fin 30, (sends prog0).count j.val = 1 := by decide +kernel

/-- What device `c` owes at launch. -/
abbrev owes0 (c : Dev nD) : CellTallies nD τ sig Unit := owed P c prog0

theorem launch_bar (c : Dev nD) :
    tallyOn (barCell c) (launchCredit (Pipeline.owing (owes0 P)) 0 (barCell c)) = (tallyAt (barCell c) () 4 : CellTallies nD τ sig Unit) := by
  unfold tallyAt; refine congrArg _ (Finsupp.ext fun u => ?_); cases u
  rw [Pipeline.launchCredit_owing, Finsupp.single_eq_same, sum_owed_bar]; decide +kernel
theorem launch_land (c : Dev nD) (j : Fin 30) :
    tallyOn (dcell c (42 + j.val)) (launchCredit (Pipeline.owing (owes0 P)) 0 (dcell c (42 + j.val))) = (tallyAt (dcell c (42 + j.val)) () (P.amt (42 + j.val)) : CellTallies nD τ sig Unit) := by
  unfold tallyAt; refine congrArg _ (Finsupp.ext fun u => ?_); cases u
  rw [Pipeline.launchCredit_owing, Finsupp.single_eq_same, sum_owed_land P c j.isLt prog0 (good_sends prog0_good), count_sends, Nat.one_mul]

/-- The semaphores credited by others. -/
def credSem (k : Fin (1 + 30)) : SemLoc sig := if k.val = 0 then .reg barS else .dma (dsem (41 + k.val))
theorem credSem_injective : Function.Injective credSem := by
  intro k k' h
  unfold credSem at h
  split at h <;> split at h
  · exact Fin.ext (by omega)
  · cases h
  · cases h
  · have h3 : dsem (41 + k.val) = dsem (41 + k'.val) := by injection h
    have := congrArg Fin.val h3
    rw [dsem_val (by omega), dsem_val (by omega)] at this
    exact Fin.ext (by omega)

theorem creds (c : Dev nD) : (Pipeline.launchCred (owes0 P) c : sProp 𝕄)
    ⊢ iprop(cred (tallyAt (barCell c) () 4) ∗ bigSep Finset.univ fun j : Fin 30 => cred (tallyAt (dcell c (42 + j.val)) () (P.amt (42 + j.val)))) := by
  unfold Pipeline.launchCred
  refine (bigSep_subset (t := Finset.univ.map ⟨credSem, credSem_injective⟩) (Finset.subset_univ _)).trans ?_
  rw [bigSep_map, bigSep_fin_add 1 30, Finset.univ_unique, bigSep_singleton]
  have hb (j : Fin 30) : iprop(cred (tallyOn ((c : Thread nD τ), credSem (Fin.natAdd 1 j)) (launchCredit (Pipeline.owing (owes0 P)) 0 ((c : Thread nD τ), credSem (Fin.natAdd 1 j)))))
      ⊢ (cred (tallyAt (dcell c (42 + j.val)) () (P.amt (42 + j.val))) : sProp 𝕄) := by
    have e : credSem (Fin.natAdd 1 j) = .dma (dsem (42 + j.val)) := by
      have h : (Fin.natAdd 1 j : Fin (1 + 30)).val = 1 + j.val := rfl
      unfold credSem; rw [if_neg (by omega), show 41 + (Fin.natAdd 1 j : Fin (1 + 30)).val = 42 + j.val by omega]
    rw [e]; exact Entails.of_eq (congrArg _ (launch_land P c j))
  exact BIClass.sep_mono (Entails.of_eq (congrArg (cred (nD := nD)) (launch_bar P c))) (bigSep_mono fun j _ => hb j)

/-! ## The state before the first operation, and after the last -/

theorem res_intro (c : Dev nD) :
    iprop((bigSep Finset.univ fun k : Fin 65 => atPos ER (kcell (c, k)) 0 ∅ 0) ∗ payToks c
        ∗ cred (tallyAt (barCell c) () 4) ∗ bigSep Finset.univ fun j : Fin 30 => cred (tallyAt (dcell c (42 + j.val)) () (P.amt (42 + j.val))))
      ⊢ all (opRes P c (pend prog0)) prog0 := by
  rw [all_kinds, bigSep_kcell c fun g => atPos ER g 0 ∅ 0]
  unfold payToks
  have hw : iprop((bigSep Finset.univ fun i : Fin 64 => (atPos ER (dcell c (8 + i.val)) 0 ∅ 0 : sProp 𝕄))
        ∗ bigSep Finset.univ fun j : Fin 30 => cred (tallyAt (dcell c (42 + j.val)) () (P.amt (42 + j.val))))
      ⊢ bigSep Finset.univ fun i : Fin (34 + 30) => opRes P c (pend prog0) (.wait (8 + i.val)) := by
    show _ ⊢ bigSep Finset.univ fun i : Fin (34 + 30) => iprop(atPos ER (dcell c (8 + i.val)) 0 ∅ 0
      ∗ if 8 + i.val ∈ pend prog0 then iprop(emp) else cred (tallyAt (dcell c (8 + i.val)) () (P.amt (8 + i.val))))
    rw [bigSep_sep']
    refine sep_mono_right ?_
    rw [bigSep_fin_add 34 30]
    have e₁ (i : Fin 34) : (if 8 + (Fin.castAdd 30 i).val ∈ pend prog0 then (iprop(emp) : sProp 𝕄) else cred (tallyAt (dcell c (8 + (Fin.castAdd 30 i).val)) () (P.amt (8 + (Fin.castAdd 30 i).val)))) = iprop(emp) :=
      if_pos (pend_low i)
    have e₂ (i : Fin 30) : (if 8 + (Fin.natAdd 34 i).val ∈ pend prog0 then (iprop(emp) : sProp 𝕄) else cred (tallyAt (dcell c (8 + (Fin.natAdd 34 i).val)) () (P.amt (8 + (Fin.natAdd 34 i).val))))
        = cred (tallyAt (dcell c (42 + i.val)) () (P.amt (42 + i.val))) := by
      rw [show 8 + (Fin.natAdd 34 i).val = 42 + i.val by show 8 + (34 + i.val) = _; omega, if_neg (pend_high i)]
    simp only [e₁, e₂]
    exact (Entails.of_eq (equiv_iff.mp emp_sep).symm).trans (sep_mono_left (BI.bigSep_of_persistent Finset.univ iprop(emp)))
  iintro ⟨⟨HaB, Ha⟩, ⟨HtB, HtC, HtS, HtL⟩, HcB, Hc⟩
  isplitl [HtB]; · iexact HtB
  isplitl [HaB HcB]
  · isplitl [HaB HcB]
    · iapply (show iprop(atPos ER (barCell c) 0 ∅ 0 ∗ cred (tallyAt (barCell c) () 4)) ⊢ opRes P c (pend prog0) .bar from .rfl)
      isplitl [HaB] <;> iassumption
    · iempintro
  isplitl [HtC]; · iexact HtC
  isplitl [HtS HtL]
  · iapply (show iprop((bigSep Finset.univ fun i : Fin 30 => (dutyTok ER (dcell c (12 + i.val)) 0 0 : sProp 𝕄))
        ∗ bigSep Finset.univ fun i : Fin 30 => dutyTok ER (dcell (peer (dst i.val) c) (42 + i.val)) 0 0)
      ⊢ bigSep Finset.univ fun i : Fin 30 => opRes P c (pend prog0) (.send i.val) from Entails.of_eq (bigSep_sep' _ _ _).symm)
    isplitl [HtS] <;> iassumption
  iapply hw
  isplitl [Ha] <;> iassumption

/-- The own scoped semaphores besides the staging ones: numbers 8 to 71. -/
abbrev osem : Fin 64 → SemLoc sig := fun k => .dma (dsem (8 + k.val))

theorem unscopedSems0_eq (c : Dev nD) : (unscopedSems0 c : sProp 𝕄) = semVal (barCell c) 0 := by
  unfold unscopedSems0; rw [bigSep_eq_bigSepL_of_eq [SemLoc.reg barS] (by decide) (by decide)]; rfl

/-- What a device's closed cells make: every counter at zero. -/
def closed (c : Dev nD) : sProp 𝕄 := iprop(unscopedSems0 c ∗ Pipeline.ownSems0 (Ix := Unit) (Name := ℕ) (U := UU) (Lvl := ℕ) (Val := Elt F) (τ := τ) osem c)

theorem closed_intro (c : Dev nD) : all (opZ c) prog0 ⊢ (closed c : sProp 𝕄) := by
  rw [all_kinds]; unfold closed; rw [unscopedSems0_eq]
  iintro ⟨-, ⟨HB, -⟩, -, -, Hw⟩
  isplitl [HB]; · iapply (show opZ c .bar ⊢ (semVal (barCell c) 0 : sProp 𝕄) from .rfl); iexact HB
  iapply (show (bigSep Finset.univ fun i : Fin (34 + 30) => opZ c (.wait (8 + i.val)))
    ⊢ (Pipeline.ownSems0 (Ix := Unit) (Name := ℕ) (U := UU) (Lvl := ℕ) (Val := Elt F) (τ := τ) osem c : sProp 𝕄) from .rfl)
  iexact Hw

theorem sems_kcell (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq, bigSep_kcell c fun g => semVal g 0]
  iintro ⟨HV, HB⟩
  isplitl [HB]; · iexact HB
  iapply (show (Pipeline.ownSems0 (Ix := Unit) (Name := ℕ) (U := UU) (Lvl := ℕ) (Val := Elt F) (τ := τ) osem c : sProp 𝕄)
    ⊢ (bigSep Finset.univ fun i : Fin 64 => semVal (dcell c (8 + i.val)) 0) from .rfl)
  iexact HV

/-! ## The launch -/

/-- What the launch element deals device `c`, -/
def dealt (c : Dev nD) : sProp 𝕄 :=
  iprop((bigSep Finset.univ fun k : Fin 65 => roundState ER (rd P) (kcell (c, k)) 0)
    ∗ (bigSep Finset.univ fun k : Fin 65 => iprop(atPos ER (kcell (c, k)) 0 ∅ 0 ∗ reached ER (kcell (c, k)) 0)) ∗ toks c)
/-- and what the devices make of it together. -/
def ghost (c : Dev nD) : sProp 𝕄 :=
  iprop((∃ K, records P K) ∗ (bigSep Finset.univ fun k : Fin 65 => atPos ER (kcell (c, k)) 0 ∅ 0) ∗ payToks c)

theorem fund_all : BI.own (ER (initOf allCells allToks)) ⊢ (|==> bigSep Finset.univ (dealt P) : sProp 𝕄) := by
  have hX (Φ : GSem nD τ sig → sProp 𝕄) : bigSep allCells Φ = bigSep Finset.univ fun c : Dev nD => bigSep Finset.univ fun k : Fin 65 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd P) allCells allToks) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ dealt P c)
      ⊢ |={Set.univ}=> iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems_kcell (F := F) c) $$ [Hos Hus]
  · isplitl [Hos] <;> iassumption
  imod (show iprop((bigSep Finset.univ fun k : Fin 65 => semVal (kcell (c, k)) 0) ∗ bigSep Finset.univ fun k : Fin 65 => roundState ER (rd P) (kcell (c, k)) 0)
      ⊢ (|={Set.univ}=> bigSep Finset.univ fun k => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ toks c) : sProp 𝕄)
      ⊢ bigSep Finset.univ (ghost P) := by
  rw [bigSep_sep', bigSep_sep', ← bigSep_univ_prod (fun ck : Dev nD × Fin 65 => iprop(∃ κ : ℕ, cellInv ER (rd P) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (rd P) κ (kcell ck) : sProp 𝕄))) $$ HI
  icases HK with ⟨%K, #HI⟩
  ihave Htk := (toks_around (F := F)) $$ Htok
  iapply (bigSep_with_persistent (R := records P K) (Φ := fun c => iprop((bigSep Finset.univ fun k : Fin 65 => atPos ER (kcell (c, k)) 0 ∅ 0) ∗ payToks c)) fun c _ => by
    unfold ghost
    iintro ⟨HR, H⟩
    isplitl [HR]; · iexists K; iexact HR
    iexact H)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt P c) : sProp 𝕄)
    ⊢ |={Set.univ}=> bigSep Finset.univ (ghost P) :=
  ((bigSep_mono fun c _ => core_alloc P c).trans (bigSep_fupd _ _)).trans (BI.fupd_mono (regroup P))

end Credit

end Cert.ReduceProof

end
-- ==== Proof.Launch.lean ====
/-
The launch: the pipeline's proof data, the body under the library's obligation, and the run of @main on the eight
devices, for any float values.
-/
module

public import proofs.«01_k».proof.Proof.Setup
public import proofs.«01_k».proof.Proof.Gen.KernelIdeal.Frame
public import Idealize.ShloMosaic.Lib.Pipeline.CollectiveSegs

@[expose] public section

set_option maxRecDepth 16384

noncomputable section

namespace Cert.ReduceProof

open Cert.KernelIdeal
open Cert.KernelIdeal.Gen hiding V
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole buffers as memrefs -/

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem whole_owns (c : Dev nD) (b : Ref sig .tc) (X : Buf (Elt F) ((c : Thread nD τ).loc b)) :
    (((c : Thread nD τ).loc b) ↦{fullShare} X : sProp 𝕄) ⊢ owns (c : Thread nD τ) (Memref.whole b) fullShare X := by
  rw [owns_whole_eq]; iintro H; iexists X; isplitr; · ipureintro; rfl
  iexact H

theorem owns_whole (c : Dev nD) (b : Ref sig .tc) (X : b.ty.Contents (Elt F)) :
    (owns (c : Thread nD τ) (Memref.whole b) fullShare X : sProp 𝕄) ⊢ (((c : Thread nD τ).loc b) ↦{fullShare} (X : Buf (Elt F) ((c : Thread nD τ).loc b))) := by
  rw [owns_whole_eq]; iintro ⟨%f, %h, H⟩; subst h; iexact H

theorem whole_has (c : Dev nD) (b : Ref sig .tc) :
    (iprop(∃ f : Buf (Elt F) ((c : Thread nD τ).loc b), (((c : Thread nD τ).loc b) ↦{fullShare} f)) : sProp 𝕄) ⊢ has c (Memref.whole b) := by
  iintro ⟨%f, H⟩; iexists f; iapply (whole_owns c b f); iexact H

theorem has_whole (c : Dev nD) (b : Ref sig .tc) :
    (has c (Memref.whole b) : sProp 𝕄) ⊢ iprop(∃ f : Buf (Elt F) ((c : Thread nD τ).loc b), (((c : Thread nD τ).loc b) ↦{fullShare} f)) := by
  iintro ⟨%X, H⟩; iexists X; iapply (owns_whole c b X); iexact H

theorem allBefore_eq (V : Vals F) (c : Dev nD) : allBefore V c
    = iprop((owns (c : Thread nD τ) (Memref.whole main_arg0) fullShare (V.g0 c) ∗ has c (Memref.whole cc0_scratch0) ∗ has c (Memref.whole cc0_scratch4) ∗ has c (Memref.whole cc0_scratch8) ∗ has c (Memref.whole cc0_scratch12) ∗ has c (Memref.whole cc0_stg2_0))
    ∗ (owns (c : Thread nD τ) (Memref.whole main_arg1) fullShare (V.g1 c) ∗ has c (Memref.whole cc0_scratch1) ∗ has c (Memref.whole cc0_scratch5) ∗ has c (Memref.whole cc0_scratch9) ∗ has c (Memref.whole cc0_scratch13) ∗ has c (Memref.whole cc0_stg3_0))
    ∗ (owns (c : Thread nD τ) (Memref.whole main_arg2) fullShare (V.g2 c) ∗ has c (Memref.whole cc0_scratch2) ∗ has c (Memref.whole cc0_scratch6) ∗ has c (Memref.whole cc0_scratch10) ∗ has c (Memref.whole cc0_scratch14) ∗ has c (Memref.whole cc0_stg4_0))
    ∗ (owns (c : Thread nD τ) (Memref.whole main_arg3) fullShare (V.g3 c) ∗ has c (Memref.whole cc0_scratch3) ∗ has c (Memref.whole cc0_scratch7) ∗ has c (Memref.whole cc0_scratch11) ∗ has c (Memref.whole cc0_scratch15) ∗ has c (Memref.whole cc0_stg5_0))
    ∗ (owns (c : Thread nD τ) (Memref.whole cc0_stg0_0) fullShare (V.p0 c) ∗ has c (Memref.whole cc0_scratch16) ∗ has c (Memref.whole cc0_scratch18) ∗ has c (Memref.whole cc0_stg6_0))
    ∗ (owns (c : Thread nD τ) (Memref.whole cc0_stg1_0) fullShare (V.p1 c) ∗ has c (Memref.whole cc0_scratch17) ∗ has c (Memref.whole cc0_scratch19) ∗ has c (Memref.whole cc0_stg7_0))) := rfl
theorem allAfter_eq (V : Vals F) (c : Dev nD) : allAfter V c
    = iprop((owns (c : Thread nD τ) (Memref.whole main_arg0) fullShare (V.g0 c) ∗ has c (Memref.whole cc0_scratch0) ∗ has c (Memref.whole cc0_scratch4) ∗ has c (Memref.whole cc0_scratch8) ∗ has c (Memref.whole cc0_scratch12) ∗ owns (c : Thread nD τ) (Memref.whole cc0_stg2_0) fullShare ((big0 V).total c))
    ∗ (owns (c : Thread nD τ) (Memref.whole main_arg1) fullShare (V.g1 c) ∗ has c (Memref.whole cc0_scratch1) ∗ has c (Memref.whole cc0_scratch5) ∗ has c (Memref.whole cc0_scratch9) ∗ has c (Memref.whole cc0_scratch13) ∗ owns (c : Thread nD τ) (Memref.whole cc0_stg3_0) fullShare ((big1 V).total c))
    ∗ (owns (c : Thread nD τ) (Memref.whole main_arg2) fullShare (V.g2 c) ∗ has c (Memref.whole cc0_scratch2) ∗ has c (Memref.whole cc0_scratch6) ∗ has c (Memref.whole cc0_scratch10) ∗ has c (Memref.whole cc0_scratch14) ∗ owns (c : Thread nD τ) (Memref.whole cc0_stg4_0) fullShare ((big2 V).total c))
    ∗ (owns (c : Thread nD τ) (Memref.whole main_arg3) fullShare (V.g3 c) ∗ has c (Memref.whole cc0_scratch3) ∗ has c (Memref.whole cc0_scratch7) ∗ has c (Memref.whole cc0_scratch11) ∗ has c (Memref.whole cc0_scratch15) ∗ owns (c : Thread nD τ) (Memref.whole cc0_stg5_0) fullShare ((big3 V).total c))
    ∗ (owns (c : Thread nD τ) (Memref.whole cc0_stg0_0) fullShare (V.p0 c) ∗ has c (Memref.whole cc0_scratch16) ∗ has c (Memref.whole cc0_scratch18) ∗ owns (c : Thread nD τ) (Memref.whole cc0_stg6_0) fullShare ((pk0 V).total c))
    ∗ (owns (c : Thread nD τ) (Memref.whole cc0_stg1_0) fullShare (V.p1 c) ∗ has c (Memref.whole cc0_scratch17) ∗ has c (Memref.whole cc0_scratch19) ∗ owns (c : Thread nD τ) (Memref.whole cc0_stg7_0) fullShare ((pk1 V).total c))) := rfl

/-! ## The pipeline's proof data -/

section Run
variable (m : (ℓ : Loc nD τ sig) → Buf (Elt F) ℓ) (ρ : Dev nD → PrngReg)

/-- The devices' arrays at launch. -/
def vals : Vals F where
  g0 c := m ((c : Thread nD τ).loc main_arg0)
  g1 c := m ((c : Thread nD τ).loc main_arg1)
  g2 c := m ((c : Thread nD τ).loc main_arg2)
  g3 c := m ((c : Thread nD τ).loc main_arg3)
  p0 c := iblk m c 0 t0_0
  p1 c := iblk m c 1 t0_0

/-- What a device takes into the body beside its buffers, -/
def start (c : Dev nD) : sProp 𝕄 :=
  iprop((∃ K, records (PV (vals m)) K) ∗ levAts L lv ∗ all (opRes (PV (vals m)) c (pend prog0)) prog0
    ∗ Pipeline.unscopedRest cfg0.spec c (fun b => m ((c : Thread nD τ).loc b)))
/-- before the grid's one point, -/
def Φ₀ (c : Dev nD) : sProp 𝕄 := iprop(start m c ∗ Pipeline.scopedRest cfg0.spec c)
/-- and after it. -/
def Φ₁ (c : Dev nD) : sProp 𝕄 :=
  iprop(closed c ∗ Pipeline.unscopedRest cfg0.spec c (fun b => m ((c : Thread nD τ).loc b)) ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => (vals m).p0 c
    | ⟨1, _⟩ => (vals m).p1 c
    | ⟨2, _⟩ => (big0 (vals m)).total c
    | ⟨3, _⟩ => (big1 (vals m)).total c
    | ⟨4, _⟩ => (big2 (vals m)).total c
    | ⟨5, _⟩ => (big3 (vals m)).total c
    | ⟨6, _⟩ => (pk0 (vals m)).total c
    | ⟨7, _⟩ => (pk1 (vals m)).total c
  Φ t := match t with
    | ⟨0, _⟩ => Φ₀ m c
    | ⟨_ + 1, _⟩ => Φ₁ m c
  q _ := fullShare
  owed t := match t with
    | ⟨0, _⟩ => owed (PV (vals m)) c prog0
    | ⟨_ + 1, _⟩ => 0

theorem before_0 (c : Dev nD) (d) : (dats m 0 c).before (0 : Fin 8) t0_0 d = (vals m).p0 c := by
  unfold Dat.before; rw [if_pos (by rfl)]; rfl
theorem before_1 (c : Dev nD) (d) : (dats m 0 c).before (1 : Fin 8) t0_0 d = (vals m).p1 c := by
  unfold Dat.before; rw [if_pos (by rfl)]; rfl

/-! ## The body -/

/-- The items' buffers, gathered. -/
theorem gather (c : Dev nD) :
    iprop(Pipeline.unscopedRest cfg0.spec c (fun b => m ((c : Thread nD τ).loc b)) ∗ Pipeline.scopedRest cfg0.spec c
        ∗ owns (c : Thread nD τ) (Memref.whole cc0_stg0_0) fullShare ((vals m).p0 c) ∗ owns (c : Thread nD τ) (Memref.whole cc0_stg1_0) fullShare ((vals m).p1 c) ∗ has c (Memref.whole cc0_stg2_0) ∗ has c (Memref.whole cc0_stg3_0) ∗ has c (Memref.whole cc0_stg4_0) ∗ has c (Memref.whole cc0_stg5_0) ∗ has c (Memref.whole cc0_stg6_0) ∗ has c (Memref.whole cc0_stg7_0))
      ⊢ (allBefore (vals m) c : sProp 𝕄) := by
  rw [unscopedRest0_eq, scopedRest0_eq, allBefore_eq]
  iintro ⟨⟨HB0g, HB1g, HB2g, HB3g⟩, ⟨HB0s0, HB1s0, HB2s0, HB3s0, HB0s1, HB1s1, HB2s1, HB3s1, HB0s2, HB1s2, HB2s2, HB3s2, HB0s3, HB1s3, HB2s3, HB3s3, HP0s0, HP1s0, HP0s1, HP1s1⟩, HP0g, HP1g, HB0o, HB1o, HB2o, HB3o, HP0o, HP1o⟩
  ihave HB0g := (whole_owns c main_arg0 (m ((c : Thread nD τ).loc main_arg0))) $$ HB0g
  ihave HB1g := (whole_owns c main_arg1 (m ((c : Thread nD τ).loc main_arg1))) $$ HB1g
  ihave HB2g := (whole_owns c main_arg2 (m ((c : Thread nD τ).loc main_arg2))) $$ HB2g
  ihave HB3g := (whole_owns c main_arg3 (m ((c : Thread nD τ).loc main_arg3))) $$ HB3g
  ihave HB0s0 := (whole_has c cc0_scratch0) $$ HB0s0
  ihave HB1s0 := (whole_has c cc0_scratch1) $$ HB1s0
  ihave HB2s0 := (whole_has c cc0_scratch2) $$ HB2s0
  ihave HB3s0 := (whole_has c cc0_scratch3) $$ HB3s0
  ihave HB0s1 := (whole_has c cc0_scratch4) $$ HB0s1
  ihave HB1s1 := (whole_has c cc0_scratch5) $$ HB1s1
  ihave HB2s1 := (whole_has c cc0_scratch6) $$ HB2s1
  ihave HB3s1 := (whole_has c cc0_scratch7) $$ HB3s1
  ihave HB0s2 := (whole_has c cc0_scratch8) $$ HB0s2
  ihave HB1s2 := (whole_has c cc0_scratch9) $$ HB1s2
  ihave HB2s2 := (whole_has c cc0_scratch10) $$ HB2s2
  ihave HB3s2 := (whole_has c cc0_scratch11) $$ HB3s2
  ihave HB0s3 := (whole_has c cc0_scratch12) $$ HB0s3
  ihave HB1s3 := (whole_has c cc0_scratch13) $$ HB1s3
  ihave HB2s3 := (whole_has c cc0_scratch14) $$ HB2s3
  ihave HB3s3 := (whole_has c cc0_scratch15) $$ HB3s3
  ihave HP0s0 := (whole_has c cc0_scratch16) $$ HP0s0
  ihave HP1s0 := (whole_has c cc0_scratch17) $$ HP1s0
  ihave HP0s1 := (whole_has c cc0_scratch18) $$ HP0s1
  ihave HP1s1 := (whole_has c cc0_scratch19) $$ HP1s1
  isplitl [HB0g HB0s0 HB0s1 HB0s2 HB0s3 HB0o]; · iframe HB0g HB0s0 HB0s1 HB0s2 HB0s3 HB0o
  isplitl [HB1g HB1s0 HB1s1 HB1s2 HB1s3 HB1o]; · iframe HB1g HB1s0 HB1s1 HB1s2 HB1s3 HB1o
  isplitl [HB2g HB2s0 HB2s1 HB2s2 HB2s3 HB2o]; · iframe HB2g HB2s0 HB2s1 HB2s2 HB2s3 HB2o
  isplitl [HB3g HB3s0 HB3s1 HB3s2 HB3s3 HB3o]; · iframe HB3g HB3s0 HB3s1 HB3s2 HB3s3 HB3o
  isplitl [HP0g HP0s0 HP0s1 HP0o]; · iframe HP0g HP0s0 HP0s1 HP0o
  iframe HP1g HP1s0 HP1s1 HP1o

/-- and dealt back. -/
theorem scatter (c : Dev nD) : (allAfter (vals m) c : sProp 𝕄) ⊢ iprop(Pipeline.unscopedRest cfg0.spec c (fun b => m ((c : Thread nD τ).loc b)) ∗ Pipeline.scopedRest cfg0.spec c
        ∗ owns (c : Thread nD τ) (Memref.whole cc0_stg0_0) fullShare ((vals m).p0 c) ∗ owns (c : Thread nD τ) (Memref.whole cc0_stg1_0) fullShare ((vals m).p1 c) ∗ owns (c : Thread nD τ) (Memref.whole cc0_stg2_0) fullShare ((big0 (vals m)).total c) ∗ owns (c : Thread nD τ) (Memref.whole cc0_stg3_0) fullShare ((big1 (vals m)).total c) ∗ owns (c : Thread nD τ) (Memref.whole cc0_stg4_0) fullShare ((big2 (vals m)).total c) ∗ owns (c : Thread nD τ) (Memref.whole cc0_stg5_0) fullShare ((big3 (vals m)).total c) ∗ owns (c : Thread nD τ) (Memref.whole cc0_stg6_0) fullShare ((pk0 (vals m)).total c) ∗ owns (c : Thread nD τ) (Memref.whole cc0_stg7_0) fullShare ((pk1 (vals m)).total c)) := by
  rw [unscopedRest0_eq, scopedRest0_eq, allAfter_eq]
  iintro ⟨⟨HB0g, HB0s0, HB0s1, HB0s2, HB0s3, HB0o⟩, ⟨HB1g, HB1s0, HB1s1, HB1s2, HB1s3, HB1o⟩, ⟨HB2g, HB2s0, HB2s1, HB2s2, HB2s3, HB2o⟩, ⟨HB3g, HB3s0, HB3s1, HB3s2, HB3s3, HB3o⟩, ⟨HP0g, HP0s0, HP0s1, HP0o⟩, ⟨HP1g, HP1s0, HP1s1, HP1o⟩⟩
  ihave HB0g := (owns_whole c main_arg0 (m ((c : Thread nD τ).loc main_arg0))) $$ [HB0g]
  · iexact HB0g
  ihave HB1g := (owns_whole c main_arg1 (m ((c : Thread nD τ).loc main_arg1))) $$ [HB1g]
  · iexact HB1g
  ihave HB2g := (owns_whole c main_arg2 (m ((c : Thread nD τ).loc main_arg2))) $$ [HB2g]
  · iexact HB2g
  ihave HB3g := (owns_whole c main_arg3 (m ((c : Thread nD τ).loc main_arg3))) $$ [HB3g]
  · iexact HB3g
  ihave HB0s0 := (has_whole c cc0_scratch0) $$ HB0s0
  ihave HB1s0 := (has_whole c cc0_scratch1) $$ HB1s0
  ihave HB2s0 := (has_whole c cc0_scratch2) $$ HB2s0
  ihave HB3s0 := (has_whole c cc0_scratch3) $$ HB3s0
  ihave HB0s1 := (has_whole c cc0_scratch4) $$ HB0s1
  ihave HB1s1 := (has_whole c cc0_scratch5) $$ HB1s1
  ihave HB2s1 := (has_whole c cc0_scratch6) $$ HB2s1
  ihave HB3s1 := (has_whole c cc0_scratch7) $$ HB3s1
  ihave HB0s2 := (has_whole c cc0_scratch8) $$ HB0s2
  ihave HB1s2 := (has_whole c cc0_scratch9) $$ HB1s2
  ihave HB2s2 := (has_whole c cc0_scratch10) $$ HB2s2
  ihave HB3s2 := (has_whole c cc0_scratch11) $$ HB3s2
  ihave HB0s3 := (has_whole c cc0_scratch12) $$ HB0s3
  ihave HB1s3 := (has_whole c cc0_scratch13) $$ HB1s3
  ihave HB2s3 := (has_whole c cc0_scratch14) $$ HB2s3
  ihave HB3s3 := (has_whole c cc0_scratch15) $$ HB3s3
  ihave HP0s0 := (has_whole c cc0_scratch16) $$ HP0s0
  ihave HP1s0 := (has_whole c cc0_scratch17) $$ HP1s0
  ihave HP0s1 := (has_whole c cc0_scratch18) $$ HP0s1
  ihave HP1s1 := (has_whole c cc0_scratch19) $$ HP1s1
  isplitl [HB0g HB1g HB2g HB3g]; · iframe HB0g HB1g HB2g HB3g
  isplitl [HB0s0 HB1s0 HB2s0 HB3s0 HB0s1 HB1s1 HB2s1 HB3s1 HB0s2 HB1s2 HB2s2 HB3s2 HB0s3 HB1s3 HB2s3 HB3s3 HP0s0 HP1s0 HP0s1 HP1s1]; · iframe HB0s0 HB1s0 HB2s0 HB3s0 HB0s1 HB1s1 HB2s1 HB3s1 HB0s2 HB1s2 HB2s2 HB3s2 HB0s3 HB1s3 HB2s3 HB3s3 HP0s0 HP1s0 HP0s1 HP1s1
  iframe HP0g HP1g HB0o HB1o HB2o HB3o HP0o HP1o

/-- What the obligation gives the body, -/
def bodyPre (c : Dev nD) : sProp 𝕄 :=
  iprop(Φ₀ m c ∗ (dats m 0 c).owesAt () t0_0.castSucc
    ∗ (∃ d, owns (c : Thread nD τ) (Memref.whole cc0_stg0_0) fullShare ((dats m 0 c).before (0 : Fin 8) t0_0 d))
    ∗ (∃ d, owns (c : Thread nD τ) (Memref.whole cc0_stg1_0) fullShare ((dats m 0 c).before (1 : Fin 8) t0_0 d))
    ∗ (∃ d, owns (c : Thread nD τ) (Memref.whole cc0_stg2_0) fullShare ((dats m 0 c).before (2 : Fin 8) t0_0 d))
    ∗ (∃ d, owns (c : Thread nD τ) (Memref.whole cc0_stg3_0) fullShare ((dats m 0 c).before (3 : Fin 8) t0_0 d))
    ∗ (∃ d, owns (c : Thread nD τ) (Memref.whole cc0_stg4_0) fullShare ((dats m 0 c).before (4 : Fin 8) t0_0 d))
    ∗ (∃ d, owns (c : Thread nD τ) (Memref.whole cc0_stg5_0) fullShare ((dats m 0 c).before (5 : Fin 8) t0_0 d))
    ∗ (∃ d, owns (c : Thread nD τ) (Memref.whole cc0_stg6_0) fullShare ((dats m 0 c).before (6 : Fin 8) t0_0 d))
    ∗ (∃ d, owns (c : Thread nD τ) (Memref.whole cc0_stg7_0) fullShare ((dats m 0 c).before (7 : Fin 8) t0_0 d)))
/-- and asks back. -/
def bodyPost (c : Dev nD) : sProp 𝕄 :=
  iprop(Φ₁ m c ∗ (dats m 0 c).owesAt () t0_0.succ
    ∗ owns (c : Thread nD τ) (Memref.whole cc0_stg0_0) fullShare ((dats m 0 c).after (0 : Fin 8) t0_0)
    ∗ owns (c : Thread nD τ) (Memref.whole cc0_stg1_0) fullShare ((dats m 0 c).after (1 : Fin 8) t0_0)
    ∗ owns (c : Thread nD τ) (Memref.whole cc0_stg2_0) fullShare ((dats m 0 c).after (2 : Fin 8) t0_0)
    ∗ owns (c : Thread nD τ) (Memref.whole cc0_stg3_0) fullShare ((dats m 0 c).after (3 : Fin 8) t0_0)
    ∗ owns (c : Thread nD τ) (Memref.whole cc0_stg4_0) fullShare ((dats m 0 c).after (4 : Fin 8) t0_0)
    ∗ owns (c : Thread nD τ) (Memref.whole cc0_stg5_0) fullShare ((dats m 0 c).after (5 : Fin 8) t0_0)
    ∗ owns (c : Thread nD τ) (Memref.whole cc0_stg6_0) fullShare ((dats m 0 c).after (6 : Fin 8) t0_0)
    ∗ owns (c : Thread nD τ) (Memref.whole cc0_stg7_0) fullShare ((dats m 0 c).after (7 : Fin 8) t0_0))

theorem bodyPre_open (c : Dev nD) : bodyPre m c ⊢ iprop(st (PV (vals m)) c (closed c) prog0 ∗ allBefore (vals m) c) := by
  unfold bodyPre Φ₀ start st
  iintro ⟨⟨⟨HK, HL, Hres, Hun⟩, Hsc⟩, Ho, ⟨%d0, HP0⟩, ⟨%d1, HP1⟩, ⟨%e0, HO0⟩, ⟨%e1, HO1⟩, ⟨%e2, HO2⟩, ⟨%e3, HO3⟩, ⟨%e4, HO4⟩, ⟨%e5, HO5⟩⟩
  rw [before_0, before_1]
  unfold Dat.owesAt Pipeline.owesWithin
  icases Ho with ⟨%W, %hW, HO⟩
  isplitl [HK HL Hres HO]
  · isplitl [HK]; · iexact HK
    isplitl [HL]; · iexact HL
    isplitr; · ipureintro; exact prog0_good
    isplitl [HO]; · iexists W; iexact HO
    isplitl [Hres]; · iexact Hres
    iintro HZ; iapply (closed_intro (F := F) c); iexact HZ
  iapply (gather m c)
  isplitl [Hun]; · iexact Hun
  isplitl [Hsc]; · iexact Hsc
  isplitl [HP0]; · iexact HP0
  isplitl [HP1]; · iexact HP1
  isplitl [HO0]; · iexists _; iexact HO0
  isplitl [HO1]; · iexists _; iexact HO1
  isplitl [HO2]; · iexists _; iexact HO2
  isplitl [HO3]; · iexists _; iexact HO3
  isplitl [HO4]; · iexists _; iexact HO4
  iexists _; iexact HO5

theorem after_0 (c : Dev nD) : (dats m 0 c).after (0 : Fin 8) t0_0 = (vals m).p0 c := by dsimp only [dats]
theorem after_1 (c : Dev nD) : (dats m 0 c).after (1 : Fin 8) t0_0 = (vals m).p1 c := by dsimp only [dats]
theorem after_2 (c : Dev nD) : (dats m 0 c).after (2 : Fin 8) t0_0 = (big0 (vals m)).total c := by dsimp only [dats]
theorem after_3 (c : Dev nD) : (dats m 0 c).after (3 : Fin 8) t0_0 = (big1 (vals m)).total c := by dsimp only [dats]
theorem after_4 (c : Dev nD) : (dats m 0 c).after (4 : Fin 8) t0_0 = (big2 (vals m)).total c := by dsimp only [dats]
theorem after_5 (c : Dev nD) : (dats m 0 c).after (5 : Fin 8) t0_0 = (big3 (vals m)).total c := by dsimp only [dats]
theorem after_6 (c : Dev nD) : (dats m 0 c).after (6 : Fin 8) t0_0 = (pk0 (vals m)).total c := by dsimp only [dats]
theorem after_7 (c : Dev nD) : (dats m 0 c).after (7 : Fin 8) t0_0 = (pk1 (vals m)).total c := by dsimp only [dats]

theorem bodyPost_close (c : Dev nD) :
    iprop((∃ W, owes (c : Thread nD τ) (0 : CellTallies nD τ sig Unit) W) ∗ closed c ∗ allAfter (vals m) c) ⊢ bodyPost m c := by
  unfold bodyPost Φ₁
  iintro ⟨⟨%W, HO⟩, HZ, HA⟩
  icases (scatter m c) $$ HA with ⟨Hun, Hsc, HP⟩
  isplitl [HZ Hun Hsc]
  · isplitl [HZ]; · iexact HZ
    isplitl [Hun] <;> iassumption
  isplitl [HO]
  · unfold Dat.owesAt Pipeline.owesWithin
    iexists W; isplitr; · ipureintro; exact fun _ _ => Or.inl trivial
    iexact HO
  rw [after_0, after_1, after_2, after_3, after_4, after_5, after_6, after_7]
  iexact HP

/-- The library's body obligation on device `c`. -/
theorem body_obligation (c : Dev nD) : BodyObligation (dats m 0 c) (defs₀ (F := F)) 𝒱₀ () Set.univ := fun t => by
  rw [fin_N0 t, bigSep_W0, bigSep_W0]
  refine (show bodyPre m c ⊢ _ from (bodyPre_open m c).trans ((run_body (vals m) c (closed c)).trans ?_))
  exact (wp _ _ _ _).mono fun _ => bodyPost_close m c

/-! ## The launch's side conditions -/

theorem ownSemFacts : Pipeline.OwnSemFacts cfg0.spec osem := by decide +kernel

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred (owes0 (PV (vals m))) c ∗ prngReg c (ρ c) ∗ ghost (PV (vals m)) c)
      ⊢ |={Set.univ}=> iprop(start m c ∗ emp) := by
  rw [Pipeline.unscopedRestP_none]; unfold ghost start
  iintro ⟨Hun, Hlev, Hcr, -, HK, Hat, Htok⟩
  icases (creds (PV (vals m)) c) $$ Hcr with ⟨H4, Hc⟩
  imodintro
  isplitl
  · isplitl [HK]; · iexact HK
    isplitl [Hlev]; · iexact Hlev
    isplitl [Hat Htok H4 Hc]
    · iapply (res_intro (PV (vals m)) c)
      isplitl [Hat]; · iexact Hat
      isplitl [Htok]; · iexact Htok
      isplitl [H4] <;> iassumption
    iexact Hun
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

/-- What is read at the end beside the windows' arrays: the barrier at zero, the four arrays no window stages. -/
def rest (c : Dev nD) : sProp 𝕄 := iprop(unscopedSems0 c ∗ Pipeline.unscopedRest cfg0.spec c (fun b => m ((c : Thread nD τ).loc b)))

theorem phi1_exit (c : Dev nD) :
    (dats m 0 c).Φ (Fin.last cfg0.N) ⊢ iprop(rest m c ∗ Pipeline.ownSems0 osem c ∗ Pipeline.scopedRest cfg0.spec c) := by
  rw [show (dats m 0 c).Φ (Fin.last cfg0.N) = Φ₁ m c from rfl]
  unfold Φ₁ closed rest
  iintro ⟨⟨Hu, Ho⟩, Hun, Hsc⟩
  isplitl [Hu Hun]
  · isplitl [Hu] <;> iassumption
  isplitl [Ho] <;> iassumption

theorem stage_level (c : Dev nD) (w : Fin 8) (s : Fin (cfg0.win w).nbuf) : lv ((c : Thread nD τ), .dma ((cfg0.win w).sem s)) () ≤ 0 := by
  fin_cases w <;> fin_cases s <;> exact le_of_eq rfl

theorem sends_above : ∀ i ∈ sends prog0, i < 30 ∧ 0 < lvn (42 + i) := by decide +kernel

theorem waits_ok (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_below (PV (vals m)) c _ prog0 0 (stage_level c w s) (Or.inr (by omega)) sends_above
    · exact mayWait_below (PV (vals m)) c _ [] 0 (stage_level c w s) (Or.inl rfl) (fun i hi => by cases hi)

/-! ## The run -/

/-- The contents the run leaves: every window's array, the four arrays no window stages as they were. -/
def Post (r : PUnit × MemSt nD τ sig (Elt F)) : Prop :=
  (∀ c : Dev nD, (∀ w : Fin cfg0.W, r.2.mem ((cfg0.win w).arr.view.loc (c : Thread nD τ)) = (dats m 0 c).arrAt w cfg0.N)
    ∧ ∀ b ∈ Pipeline.restRefs sig cfg0.spec, r.2.mem ((c : Thread nD τ).loc b) = m ((c : Thread nD τ).loc b))
  ∧ r.2.sem = fun _ => 0

/-- From any memory with counters at zero, every weakly fair execution of @main on the eight devices terminates, in such contents
    and with every counter at zero. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := owes0 (PV (vals m))) (howed₀ := fun _ => rfl) (howedN := fun _ => rfl)
    (L := L) (lv := lv) (hL := L_of_ne) (hwaits := waits_ok m)
    (G := dealt (PV (vals m))) (G' := ghost (PV (vals m))) (u₀ := u₀)
    (hu₀ := by
      unfold u₀
      iintro Hu
      ihave H := (ownU_pair _ _) $$ Hu
      icases H with ⟨HP, HX⟩
      imod (fund_all (PV (vals m))) $$ HX with HG
      imodintro
      isplitl [HP] <;> iassumption)
    (hglob := glob (PV (vals m)))
    (hA := fun _ _ => rfl) (hpf := fun _ k => k.elim0)
    (X := start m) (Y := rest m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ ∀ b ∈ Pipeline.restRefs sig cfg0.spec, s.mem ((c : Thread nD τ).loc b) = m ((c : Thread nD τ).loc b))
    (hY := fun c s' => by
      unfold rest Pipeline.unscopedRest
      iintro ⟨⟨Hu, Hun⟩, -, HSI⟩
      icases (pointsTo_read_all _ (fun b : Ref sig .tc => (c : Thread nD τ).loc b) (fun b => m ((c : Thread nD τ).loc b)) s') $$ [Hun HSI] with ⟨%hr, HSI⟩
      · isplitl [Hun] <;> iassumption
      imod (Pipeline.unscopedSems0_read (X := unscopedSems0 c) (c := c) fupd_intro s') $$ [Hu HSI] with ⟨%hz, HSI⟩
      · isplitl [Hu] <;> iassumption
      imodintro
      isplitr; · ipureintro; exact ⟨hz, hr⟩
      iexact HSI)
    (hQ := fun _ h hs => ⟨fun c => ⟨(h c).1, (h c).2.2.2⟩, sem_eq_zero hs fun c => (h c).2.2.1⟩)

end Run

end Cert.ReduceProof

end
-- ==== Proof.Frames.lean ====
/-
The frames: the kernel as printed and idealized, off the one run, and the reference, off its host operations' run.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.ReduceProof

open Cert.KernelIdeal
open Cert.KernelIdeal.Gen hiding V
open Idealize.ShloMosaic Idealize.ShloMosaic.TcCoe Idealize.SL.Sem

variable {F : FTy → Type} [FloatOps F] (m : (ℓ : Loc nD τ sig) → Buf (Elt F) ℓ)

/-- A run's end leaves the six argument arrays as they were. -/
theorem Post.args {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.1 c).2 main_arg0 (Pipeline.mem_restRefs_of main_arg0 (by decide) (by decide)),
    (h.1 c).2 main_arg1 (Pipeline.mem_restRefs_of main_arg1 (by decide) (by decide)),
    (h.1 c).2 main_arg2 (Pipeline.mem_restRefs_of main_arg2 (by decide) (by decide)),
    (h.1 c).2 main_arg3 (Pipeline.mem_restRefs_of main_arg3 (by decide) (by decide)),
    ((h.1 c).1 0).trans ((dats m 0 c).arrAt_in 0 rfl _),
    ((h.1 c).1 1).trans ((dats m 0 c).arrAt_in 1 rfl _)⟩

/-- The frame at any float values. -/
theorem frame_run (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨h.args m, h.2⟩) (run_main m ρ)

set_option smartUnfolding false in
/-- The kernel as printed. -/
theorem frame_kernel : Cert.quiescent_Kernel := fun m ρ _ => frame_run (F := Bits) m ρ

/-- The kernel idealized. -/
theorem frame_kernelIdeal : Cert.quiescent_KernelIdeal := fun m ρ _ => frame_run (F := Ideal) m ρ

/-- The reference, which declares no semaphore. -/
theorem frame_reference : Cert.quiescent_ReferenceIdeal := fun m ρ _ =>
  (θ_run Cert.ReferenceIdeal.defs _ _).mono
    (fun _ h => ⟨fun c => (h c).2.2.2.2.2.2, funext fun g => by rcases g with ⟨_, s⟩; rcases s with s | s <;> exact s.elim0⟩)
    (Cert.ReferenceIdeal.Value.run (F := Ideal) m ρ)

end Cert.ReduceProof

end
-- ==== Proof.Sums.lean ====
/-
What the six totals are at exact float values: the sum over all devices, whatever order the kernel adds in.
-/
module

public import proofs.«01_k».proof.Proof.Pieces
public import Idealize.ShloMosaic.Lib.Pointwise.Tactic
public import Idealize.ShloMosaic.Lib.Pipeline.Value

@[expose] public section

noncomputable section

namespace Cert.ReduceProof

open Cert.KernelIdeal Cert.KernelIdeal.Gen
open Idealize.ShloMosaic Idealize.ShloMosaic.TcCoe

/-! ## Adding over the devices -/

/-- The devices as seen from device `c`: itself, its three peers on the other chips, and the device beside each. -/
theorem devs_all (c : Dev nD) : (Finset.univ : Finset (Dev nD))
    = [c, peer 0 c, peer 1 c, peer 0 (peer 1 c), peer 2 c, peer 0 (peer 2 c), peer 3 c, peer 0 (peer 3 c)].toFinset := by revert c; decide
theorem devs_nodup (c : Dev nD) : [c, peer 0 c, peer 1 c, peer 0 (peer 1 c), peer 2 c, peer 0 (peer 2 c), peer 3 c, peer 0 (peer 3 c)].Nodup := by
  revert c; decide

/-- A sum over the devices, in the order in which device `c` comes by the terms. -/
theorem sum_from (f : Dev nD → EReal) (c : Dev nD) :
    f c + f (peer 0 c) + (f (peer 1 c) + f (peer 0 (peer 1 c))) + (f (peer 2 c) + f (peer 0 (peer 2 c))) + (f (peer 3 c) + f (peer 0 (peer 3 c)))
      = ∑ e, f e := by
  rw [devs_all c, List.sum_toFinset f (devs_nodup c)]
  simp only [List.map_cons, List.map_nil, List.sum_cons, List.sum_nil, add_zero, add_assoc]

/-- The devices by chip, at the cores that device `c` and the device beside it are. -/
theorem chips_devs (c : Dev nD) : (Finset.univ : Finset (Dev nD))
    = [at_ 0 c, peer 0 (at_ 0 c), at_ 1 c, peer 0 (at_ 1 c), at_ 2 c, peer 0 (at_ 2 c), at_ 3 c, peer 0 (at_ 3 c)].toFinset := by revert c; decide
theorem chips_devs_nodup (c : Dev nD) : [at_ 0 c, peer 0 (at_ 0 c), at_ 1 c, peer 0 (at_ 1 c), at_ 2 c, peer 0 (at_ 2 c), at_ 3 c, peer 0 (at_ 3 c)].Nodup := by
  revert c; decide

/-- A sum over the devices, chip by chip. -/
theorem sum_chips (f : Dev nD → EReal) (c : Dev nD) :
    f (at_ 0 c) + f (peer 0 (at_ 0 c)) + (f (at_ 1 c) + f (peer 0 (at_ 1 c))) + (f (at_ 2 c) + f (peer 0 (at_ 2 c)))
      + (f (at_ 3 c) + f (peer 0 (at_ 3 c))) = ∑ e, f e := by
  rw [chips_devs c, List.sum_toFinset f (chips_devs_nodup c)]
  simp only [List.map_cons, List.map_nil, List.sum_cons, List.sum_nil, add_zero, add_assoc]

theorem core_at (n : Fin 4) (c : Dev nD) : core (at_ n c) = core c := by revert n c; decide
theorem chip_sib (c : Dev nD) : chip (peer 0 c) = chip c := by revert c; decide

/-! ## A leading axis of one -/

/-- Index `i` of a piece, in the piece with its leading axis. -/
def lead {H C : ℕ} (i : (⟨2, ![H, C]⟩ : Shape).Idx) : (⟨3, ![1, H, C]⟩ : Shape).Idx := ix3 0 (i 0) (i 1)

theorem drop_at {α : Type} {H C : ℕ} (x : (⟨3, ![1, H, C]⟩ : Shape).Idx → α) (h : (⟨3, ![1, H, C]⟩ : Shape).ShapeCasts ⟨2, ![H, C]⟩)
    (i : (⟨2, ![H, C]⟩ : Shape).Idx) : shapeCast ⟨2, ![H, C]⟩ x h i = x (lead i) :=
  shapeCast_apply x h i (lead i) (by
    rw [Shape.rowMajor_val_three, Shape.rowMajor_val_two]
    show ((0 * H + (i 0).val) * C + (i 1).val) = (i 0).val * C + (i 1).val
    rw [Nat.zero_mul, Nat.zero_add])

theorem add_at {α : Type} {H C : ℕ} (x : (⟨2, ![H, C]⟩ : Shape).Idx → α) (h : (⟨2, ![H, C]⟩ : Shape).ShapeCasts ⟨3, ![1, H, C]⟩)
    (i : (⟨2, ![H, C]⟩ : Shape).Idx) : shapeCast ⟨3, ![1, H, C]⟩ x h (lead i) = x i :=
  shapeCast_apply x h (lead i) i (by
    rw [Shape.rowMajor_val_three, Shape.rowMajor_val_two]
    show (i 0).val * C + (i 1).val = ((0 * H + (i 0).val) * C + (i 1).val)
    rw [Nat.zero_mul, Nat.zero_add])

/-! ## A gradient item -/

/-- What the kernel's sums of an item come to: every term, added. -/
def Big.Adds (B : Big Ideal) : Prop :=
  ∀ (m t a₀ b₀ a₁ b₁ a₂ b₂ : (⟨3, ![1, B.H, B.C]⟩ : Shape).Idx → Elt Ideal .f32) (i : (⟨2, ![B.H, B.C]⟩ : Shape).Idx),
    (B.fin m t (B.pay a₀ b₀) (B.pay a₁ b₁) (B.pay a₂ b₂) i : EReal)
      = m (lead i) + t (lead i) + (a₀ (lead i) + b₀ (lead i)) + (a₁ (lead i) + b₁ (lead i)) + (a₂ (lead i) + b₂ (lead i))

section
variable (B : Big Ideal)

/-- Row `i` of half `b` of piece `n`, in the whole gradient. -/
theorem Big.emb_eq (b : Fin 2) (n : Fin 4) (i : (⟨2, ![B.H, B.C]⟩ : Shape).Idx) :
    (B.grows b).emb ((B.sl4 n).emb (lead i)) = ix3 n ((B.ohalf b).emb i 0) ((B.ohalf b).emb i 1) := by
  funext a
  apply Fin.ext
  match a with
  | ⟨0, _⟩ => show 0 + 1 * (n.val + 1 * 0) = n.val; omega
  | ⟨1, _⟩ => show B.H * b.val + 1 * (0 + 1 * (i 0).val) = B.H * b.val + 1 * (i 0).val; omega
  | ⟨2, _⟩ => show 0 + 1 * (0 + 1 * (i 1).val) = 0 + 1 * (i 1).val; omega

theorem Big.M_at (c : Dev nD) (n : Fin 4) (i : (⟨2, ![B.H, B.C]⟩ : Shape).Idx) :
    B.M c ((B.sl4 n).emb (lead i)) = B.val c (ix3 n ((B.ohalf (core c)).emb i 0) ((B.ohalf (core c)).emb i 1)) :=
  congrArg (B.val c) (B.emb_eq (core c) n i)

theorem Big.T_at (c : Dev nD) (n : Fin 4) (i : (⟨2, ![B.H, B.C]⟩ : Shape).Idx) :
    B.T c ((B.sl4 n).emb (lead i)) = B.val (peer 0 c) (ix3 n ((B.ohalf (core c)).emb i 0) ((B.ohalf (core c)).emb i 1)) :=
  congrArg (B.val (peer 0 c)) (B.emb_eq (core c) n i)

/-- The half of the total that device `c` adds up. -/
theorem Big.O_eq (hB : B.Adds) (c : Dev nD) (i : (⟨2, ![B.H, B.C]⟩ : Shape).Idx) :
    (B.O c i : EReal) = ∑ e : Dev nD, B.val e (ix3 (chip c) ((B.ohalf (core c)).emb i 0) ((B.ohalf (core c)).emb i 1)) := by
  have h₁ : chip (peer 1 (peer 1 c)) = chip c := by rw [peer_peer]
  have h₂ : chip (peer 2 (peer 2 c)) = chip c := by rw [peer_peer]
  have h₃ : chip (peer 3 (peer 3 c)) = chip c := by rw [peer_peer]
  have k₁ : core (peer 1 c) = core c := core_peer 0 c
  have k₂ : core (peer 2 c) = core c := core_peer 1 c
  have k₃ : core (peer 3 c) = core c := core_peer 2 c
  rw [← sum_from _ c]
  refine (hB _ _ _ _ _ _ _ _ i).trans ?_
  show (B.M c ((B.sl4 (chip c)).emb (lead i)) + B.T c ((B.sl4 (chip c)).emb (lead i))
    + (B.M (peer 1 c) ((B.sl4 (chip (peer 1 (peer 1 c)))).emb (lead i)) + B.T (peer 1 c) ((B.sl4 (chip (peer 1 (peer 1 c)))).emb (lead i)))
    + (B.M (peer 2 c) ((B.sl4 (chip (peer 2 (peer 2 c)))).emb (lead i)) + B.T (peer 2 c) ((B.sl4 (chip (peer 2 (peer 2 c)))).emb (lead i)))
    + (B.M (peer 3 c) ((B.sl4 (chip (peer 3 (peer 3 c)))).emb (lead i)) + B.T (peer 3 c) ((B.sl4 (chip (peer 3 (peer 3 c)))).emb (lead i))) : EReal) = _
  rw [h₁, h₂, h₃]
  simp only [Big.M_at, Big.T_at]
  rw [k₁, k₂, k₃]

/-- The total on device `c` is, at each place, the sum over the devices of what they hold there of the piece of `c`'s chip. -/
theorem Big.total_eq (hB : B.Adds) (c : Dev nD) (y : (⟨2, ![B.R, B.C]⟩ : Shape).Idx) :
    (B.total c y : EReal) = ∑ e : Dev nD, B.val e (ix3 (chip c) (y 0) (y 1)) := by
  have hy : y ∈ (B.ohalf (core c)).set ∪ (B.ohalf (core (peer 0 c))).set := by
    rw [half_cover _ _ _ (own_ne_sib c)]; exact Finset.mem_univ _
  unfold Big.total
  rcases Finset.mem_union.mp hy with h | h
  · obtain ⟨i, _, rfl⟩ := Finset.mem_map.mp ((B.ohalf (core c)).map_emb_univ.symm ▸ h)
    rw [both_one]
    exact B.O_eq hB c i
  · obtain ⟨i, _, rfl⟩ := Finset.mem_map.mp ((B.ohalf (core (peer 0 c))).map_emb_univ.symm ▸ h)
    rw [both_two (half_disj _ _ _ (own_ne_sib c))]
    refine (B.O_eq hB (peer 0 c) i).trans ?_
    rw [chip_sib]

end

/-! ## A pack item -/

/-- What the kernel's sums of a pack come to. -/
def Pk.Adds (B : Pk Ideal) : Prop :=
  ∀ (a₀ b₀ a₁ b₁ a₂ b₂ a₃ b₃ : (⟨2, ![B.H, 128]⟩ : Shape).Idx → Elt Ideal .f32) (i : (⟨2, ![B.H, 128]⟩ : Shape).Idx),
    (B.fin (B.pay a₀ b₀) (B.pay a₁ b₁) (B.pay a₂ b₂) (B.pay a₃ b₃) i : EReal)
      = a₀ i + b₀ i + (a₁ i + b₁ i) + (a₂ i + b₂ i) + (a₃ i + b₃ i)

section
variable (B : Pk Ideal)

theorem full_emb {H C : ℕ} (i : (⟨2, ![H, C]⟩ : Shape).Idx) : (full H C).emb i = i := by
  funext a
  apply Fin.ext
  match a with
  | ⟨0, _⟩ => show 0 + 1 * (i 0).val = (i 0).val; omega
  | ⟨1, _⟩ => show 0 + 1 * (i 1).val = (i 1).val; omega

/-- The half of the total that device `c` adds up. -/
theorem Pk.O_eq (hB : B.Adds) (c : Dev nD) (i : (⟨2, ![B.H, 128]⟩ : Shape).Idx) :
    (B.O c i : EReal) = ∑ e : Dev nD, B.val e ((B.ohalf (core c)).emb i) := by
  rw [← sum_chips _ c]
  refine (hB _ _ _ _ _ _ _ _ i).trans ?_
  have h (n : Fin 4) : B.T (at_ n c) (B.fl.emb i) = B.val (peer 0 (at_ n c)) ((B.ohalf (core c)).emb i) := by
    rw [full_emb, ← core_at n c]; rfl
  have h' (n : Fin 4) : B.val (at_ n c) ((B.ohalf (core (at_ n c))).emb i) = B.val (at_ n c) ((B.ohalf (core c)).emb i) := by
    rw [core_at]
  rw [h 0, h 1, h 2, h 3, h' 0, h' 1, h' 2, h' 3]

/-- The total is, on every device, the sum over the devices of what they hold. -/
theorem Pk.total_eq (hB : B.Adds) (c : Dev nD) (y : (⟨2, ![B.R, 128]⟩ : Shape).Idx) :
    (B.total c y : EReal) = ∑ e : Dev nD, B.val e y := by
  have hy : y ∈ (B.ohalf (core c)).set ∪ (B.ohalf (core (peer 0 c))).set := by
    rw [half_cover _ _ _ (own_ne_sib c)]; exact Finset.mem_univ _
  unfold Pk.total
  rcases Finset.mem_union.mp hy with h | h
  · obtain ⟨i, _, rfl⟩ := Finset.mem_map.mp ((B.ohalf (core c)).map_emb_univ.symm ▸ h)
    rw [both_one]
    exact B.O_eq hB c i
  · obtain ⟨i, _, rfl⟩ := Finset.mem_map.mp ((B.ohalf (core (peer 0 c))).map_emb_univ.symm ▸ h)
    rw [both_two (half_disj _ _ _ (own_ne_sib c))]
    exact B.O_eq hB (peer 0 c) i

end

/-! ## The six items -/

theorem big0_sum (m t a₀ b₀ a₁ b₁ a₂ b₂ : Vec Ideal S1x512x512 .f32) (i : S512x512.Idx) :
    (k0_pay20 (k0_pay19 m t (k0_pay4 a₀ b₀)) (k0_pay4 a₁ b₁) (k0_pay4 a₂ b₂) i : EReal)
      = m (lead i) + t (lead i) + (a₀ (lead i) + b₀ (lead i)) + (a₁ (lead i) + b₁ (lead i)) + (a₂ (lead i) + b₂ (lead i)) := by
  simp only [k0_pay20, k0_pay19, k0_pay4, addf_apply, extf_apply, truncf_apply, drop_at, add_at, Ideal.addf_def, Ideal.extf_def, Ideal.truncf_def]

theorem big1_sum (m t a₀ b₀ a₁ b₁ a₂ b₂ : Vec Ideal S1x96x384 .f32) (i : S96x384.Idx) :
    (k0_pay24 (k0_pay23 (k0_pay21 m t) (k0_pay22 (k0_pay7 a₀ b₀)) (k0_pay7 a₁ b₁)) (k0_pay7 a₂ b₂) i : EReal)
      = m (lead i) + t (lead i) + (a₀ (lead i) + b₀ (lead i)) + (a₁ (lead i) + b₁ (lead i)) + (a₂ (lead i) + b₂ (lead i)) := by
  simp only [k0_pay24, k0_pay23, k0_pay22, k0_pay21, k0_pay7, addf_apply, extf_apply, truncf_apply, drop_at, add_at, Ideal.addf_def, Ideal.extf_def, Ideal.truncf_def]

theorem big2_sum (m t a₀ b₀ a₁ b₁ a₂ b₂ : Vec Ideal S1x128x512 .f32) (i : S128x512.Idx) :
    (k0_pay27 (k0_pay26 (k0_pay25 m t) (k0_pay10 a₀ b₀) (k0_pay10 a₁ b₁)) (k0_pay10 a₂ b₂) i : EReal)
      = m (lead i) + t (lead i) + (a₀ (lead i) + b₀ (lead i)) + (a₁ (lead i) + b₁ (lead i)) + (a₂ (lead i) + b₂ (lead i)) := by
  simp only [k0_pay27, k0_pay26, k0_pay25, k0_pay10, addf_apply, extf_apply, truncf_apply, drop_at, add_at, Ideal.addf_def, Ideal.extf_def, Ideal.truncf_def]

theorem big3_sum (m t a₀ b₀ a₁ b₁ a₂ b₂ : Vec Ideal S1x128x1024 .f32) (i : S128x1024.Idx) :
    (k0_pay30 (k0_pay29 (k0_pay28 m t) (k0_pay13 a₀ b₀)) (k0_pay13 a₁ b₁) (k0_pay13 a₂ b₂) i : EReal)
      = m (lead i) + t (lead i) + (a₀ (lead i) + b₀ (lead i)) + (a₁ (lead i) + b₁ (lead i)) + (a₂ (lead i) + b₂ (lead i)) := by
  simp only [k0_pay30, k0_pay29, k0_pay28, k0_pay13, addf_apply, extf_apply, truncf_apply, drop_at, add_at, Ideal.addf_def, Ideal.extf_def, Ideal.truncf_def]

theorem pk0_sum (a₀ b₀ a₁ b₁ a₂ b₂ a₃ b₃ : Vec Ideal S48x128 .f32) (i : S48x128.Idx) :
    (k0_pay17 (k0_pay2 (k0_pay1 a₀ b₀)) (k0_pay2 (k0_pay1 a₁ b₁)) (k0_pay2 (k0_pay1 a₂ b₂)) (k0_pay2 (k0_pay1 a₃ b₃)) i : EReal)
      = a₀ i + b₀ i + (a₁ i + b₁ i) + (a₂ i + b₂ i) + (a₃ i + b₃ i) := by
  simp only [k0_pay17, k0_pay2, k0_pay1, addf_apply, extf_apply, truncf_apply, drop_at, add_at, shapeCast_self, Ideal.addf_def, Ideal.extf_def, Ideal.truncf_def]

theorem pk1_sum (a₀ b₀ a₁ b₁ a₂ b₂ a₃ b₃ : Vec Ideal S528x128 .f32) (i : S528x128.Idx) :
    (k0_pay18 (k0_pay3 a₀ b₀) (k0_pay3 a₁ b₁) (k0_pay3 a₂ b₂) (k0_pay3 a₃ b₃) i : EReal)
      = a₀ i + b₀ i + (a₁ i + b₁ i) + (a₂ i + b₂ i) + (a₃ i + b₃ i) := by
  simp only [k0_pay18, k0_pay3, addf_apply, extf_apply, truncf_apply, drop_at, add_at, shapeCast_self, Ideal.addf_def, Ideal.extf_def, Ideal.truncf_def]

variable (V : Vals Ideal)

theorem big0_adds : (big0 V).Adds := big0_sum
theorem big1_adds : (big1 V).Adds := big1_sum
theorem big2_adds : (big2 V).Adds := big2_sum
theorem big3_adds : (big3 V).Adds := big3_sum
theorem pk0_adds : (pk0 V).Adds := pk0_sum
theorem pk1_adds : (pk1 V).Adds := pk1_sum

end Cert.ReduceProof

end
-- ==== Proof.RefSum.lean ====
/-
The reference's sums at exact float values: each is the sum over the devices of their blocks of its argument.
-/
module

public import proofs.«01_k».proof.Proof.Items
public import Idealize.ShloMosaic.Lib.Layout
public import Idealize.ShloMosaic.Lib.Pointwise.Reduce
public import Idealize.ShloMosaic.Lib.Pointwise.Tactic
public import Idealize.ShloMosaic.Lib.Pipeline.Value

@[expose] public section

noncomputable section

namespace Cert.ReduceProof

open Cert.KernelIdeal
open Idealize.ShloMosaic Idealize.ShloMosaic.TcCoe

/-- Slab `k` of eight, at row `r`: the gradient's row `r % R` of piece `4 * k + r / R`. -/
theorem cast_rows {α : Type} {R C N : ℕ} (hN : N = 4 * R) (x : (⟨3, ![32, R, C]⟩ : Shape).Idx → α)
    (h : (⟨3, ![32, R, C]⟩ : Shape).ShapeCasts ⟨3, ![8, N, C]⟩) (k : Fin 8) (n : Fin 4) (i : Fin R) (j : Fin C) (r : Fin N) (hr : r.val = n.val * R + i.val) :
    shapeCast ⟨3, ![8, N, C]⟩ x h (ix3 k r j) = x (ix3 (⟨k.val * 4 + n.val, by omega⟩ : Fin 32) i j) :=
  shapeCast_apply x h _ _ (by
    rw [Shape.rowMajor_val_three, Shape.rowMajor_val_three]
    show ((k.val * 4 + n.val) * R + i.val) * C + j.val = (k.val * N + r.val) * C + j.val
    have e : (k.val * 4 + n.val) * R + i.val = k.val * N + r.val := by
      rw [hr, show k.val * N = k.val * (4 * R) from congrArg _ hN, Nat.add_mul, Nat.mul_assoc, Nat.add_assoc]
    rw [e])

/-- Slab `k` of eight of the packs, at row `r`: row `r` of pack `k`. -/
theorem cast_pack {α : Type} {R N : ℕ} (hN : N = 8 * R) (x : (⟨2, ![N, 128]⟩ : Shape).Idx → α)
    (h : (⟨2, ![N, 128]⟩ : Shape).ShapeCasts ⟨3, ![8, R, 128]⟩) (k : Fin 8) (i : Fin R) (j : Fin 128) (r : Fin N) (hr : r.val = k.val * R + i.val) :
    shapeCast ⟨3, ![8, R, 128]⟩ x h (ix3 k i j) = x (ix2 r j) :=
  shapeCast_apply x h _ _ (by
    rw [Shape.rowMajor_val_three, Shape.rowMajor_val_two]
    show r.val * 128 + j.val = (k.val * R + i.val) * 128 + j.val
    rw [hr])

/-- A host sum down the leading axis, from zero. -/
theorem host_sum {n₀ n₁ n₂ : ℕ} {u : Shape} (x : (⟨3, ![n₀, n₁, n₂]⟩ : Shape).Idx → EReal)
    (h : (⟨3, ![n₀, n₁, n₂]⟩ : Shape).ReducesTo [0] ⟨2, ![n₁, n₂]⟩) (hu : 0 < u.numel) (y : (⟨2, ![n₁, n₂]⟩ : Shape).Idx) :
    (Host.reduceAdd (F := Ideal) (φ := .f32) x (constant u .f32 0x00000000#32) h hu y : EReal) = ∑ k : Fin n₀, x (ix3 k (y 0) (y 1)) := by
  rw [Host.reduceAdd_apply, Ideal.hostReduceAdd_def, Ideal.hostReduceAdd_r3_a0, constant_apply]
  rw [show (FloatOps.ofBits .f32 0x00000000#32 : Ideal .f32) = 0 from Ideal.ofBits_zero_f32]
  exact zero_add _

/-- Which block of rows a device on a mesh of 2 × 2 × 2 has when the rows are cut along the first two axes: its chip's. -/
theorem rows_block (c : Dev nD) : Layout.meshLin [2, 2, 2] c.val [0, 1] = (chip c).val := by revert c; decide

/-- A gradient: device `c`'s block of rows of the reference's sum. -/
theorem ref_rows {R C N : ℕ} {u : Shape} (hN : N = 4 * R) (x : (⟨3, ![32, R, C]⟩ : Shape).Idx → EReal)
    (h : (⟨3, ![32, R, C]⟩ : Shape).ShapeCasts ⟨3, ![8, N, C]⟩) (hr : (⟨3, ![8, N, C]⟩ : Shape).ReducesTo [0] ⟨2, ![N, C]⟩) (hu : 0 < u.numel)
    (hT : Layout.TilesN ⟨2, ![R, C]⟩ ⟨2, ![N, C]⟩ fun b => Layout.cutSize [2, 2, 2] ((![[0, 1], []] : Fin 2 → List ℕ) b))
    (hB : Layout.Tiles ⟨3, ![4, R, C]⟩ ⟨3, ![32, R, C]⟩ 0 8) (c : Dev nD) (y : (⟨2, ![R, C]⟩ : Shape).Idx) :
    (Layout.blockN ⟨2, ![R, C]⟩ ⟨2, ![N, C]⟩ (Layout.meshBlock [2, 2, 2] ![[0, 1], []] c)
      (Host.reduceAdd (F := Ideal) (φ := .f32) (shapeCast ⟨3, ![8, N, C]⟩ x h) (constant u .f32 0x00000000#32) hr hu) hT y : EReal)
      = ∑ e : Dev nD, Layout.block ⟨3, ![4, R, C]⟩ ⟨3, ![32, R, C]⟩ 0 8 e x hB (ix3 (chip c) (y 0) (y 1)) := by
  have hj (k : Fin 8) : ix3 (n0 := 8) k (hT.idx (Layout.meshBlock [2, 2, 2] ![[0, 1], []] c) y 0) (hT.idx (Layout.meshBlock [2, 2, 2] ![[0, 1], []] c) y 1)
      = ix3 k (hT.idx (Layout.meshBlock [2, 2, 2] ![[0, 1], []] c) y 0) (y 1) :=
    congrArg (ix3 k _) (Fin.ext ((Layout.TilesN.idx_val _ _ _ _).trans (by
      show 0 * C + (y 1).val = (y 1).val
      rw [Nat.zero_mul, Nat.zero_add])))
  have hv : (hT.idx (Layout.meshBlock [2, 2, 2] ![[0, 1], []] c) y 0).val = (chip c).val * R + (y 0).val :=
    (Layout.TilesN.idx_val _ _ _ _).trans (congrArg (fun t => t * R + (y 0).val) (rows_block c))
  rw [Layout.blockN_apply]
  refine (host_sum _ hr hu _).trans (Finset.sum_congr rfl fun e _ => ?_)
  refine (congrArg (shapeCast ⟨3, ![8, N, C]⟩ x h) (hj e)).trans ?_
  rw [Layout.block_apply]
  refine (cast_rows hN x h e (chip c) (y 0) (y 1) _ hv).trans (congrArg x (funext fun a => Fin.ext ?_))
  match a with
  | ⟨0, _⟩ => rfl
  | ⟨1, _⟩ => rfl
  | ⟨2, _⟩ => rfl

/-- A pack: the reference's sum. -/
theorem ref_pack {R N : ℕ} {u : Shape} (hN : N = 8 * R) (x : (⟨2, ![N, 128]⟩ : Shape).Idx → EReal)
    (h : (⟨2, ![N, 128]⟩ : Shape).ShapeCasts ⟨3, ![8, R, 128]⟩) (hr : (⟨3, ![8, R, 128]⟩ : Shape).ReducesTo [0] ⟨2, ![R, 128]⟩) (hu : 0 < u.numel)
    (hB : Layout.Tiles ⟨2, ![R, 128]⟩ ⟨2, ![N, 128]⟩ 0 8) (y : (⟨2, ![R, 128]⟩ : Shape).Idx) :
    (Host.reduceAdd (F := Ideal) (φ := .f32) (shapeCast ⟨3, ![8, R, 128]⟩ x h) (constant u .f32 0x00000000#32) hr hu y : EReal)
      = ∑ e : Dev nD, Layout.block ⟨2, ![R, 128]⟩ ⟨2, ![N, 128]⟩ 0 8 e x hB y := by
  rw [host_sum]
  refine Finset.sum_congr rfl fun e _ => ?_
  rw [Layout.block_apply]
  have hlt : e.val * R + (y 0).val < N := by
    have h₀ : (y 0).val < R := (y 0).isLt
    have h₁ : e.val < 8 := e.isLt
    have h₂ : e.val * R ≤ 7 * R := Nat.mul_le_mul_right _ (by omega)
    omega
  refine (cast_pack hN x h e (y 0) (y 1) ⟨e.val * R + (y 0).val, hlt⟩ rfl).trans (congrArg x (funext fun a => Fin.ext ?_))
  match a with
  | ⟨0, _⟩ => rfl
  | ⟨1, _⟩ => rfl

end Cert.ReduceProof

end
-- ==== Proof.Values.lean ====
/-
The value claim: what the kernel's six outputs hold is each device's part of what the reference's hold.
-/
module

public import proofs.«01_k».proof.Proof.Frames
public import proofs.«01_k».proof.Proof.Sums
public import proofs.«01_k».proof.Proof.RefSum
public import Idealize.ShloMosaic.Lib.Pipeline.ValueKit.Geometry

@[expose] public section

set_option maxRecDepth 16384

noncomputable section

namespace Cert.ReduceProof

open Cert.KernelIdeal
open Cert.KernelIdeal.Gen hiding V
open Idealize.ShloMosaic Idealize.ShloMosaic.TcCoe Idealize.SL.Sem

section
variable {F : FTy → Type} [FloatOps F] (m : (ℓ : Loc nD τ sig) → Buf (Elt F) ℓ) (c : Dev nD)

/-! ## Each output array is written once, whole -/

section
variable {c} (dat : Pipeline.Dat τ (Elt F) Unit ℕ UU ℕ cfg0 c)

theorem once_2 (X : S1024x512.Idx → Elt F .f32) (h : dat.after (2 : Fin 8) t0_0 = X) : dat.arrAt (2 : Fin 8) cfg0.N = X :=
  dat.arrAt_eq_of_after_last (2 : Fin 8) t0_0 (by decide +kernel) X fun j => by rw [h]; rfl
theorem once_3 (X : S192x384.Idx → Elt F .f32) (h : dat.after (3 : Fin 8) t0_0 = X) : dat.arrAt (3 : Fin 8) cfg0.N = X :=
  dat.arrAt_eq_of_after_last (3 : Fin 8) t0_0 (by decide +kernel) X fun j => by rw [h]; rfl
theorem once_4 (X : S256x512.Idx → Elt F .f32) (h : dat.after (4 : Fin 8) t0_0 = X) : dat.arrAt (4 : Fin 8) cfg0.N = X :=
  dat.arrAt_eq_of_after_last (4 : Fin 8) t0_0 (by decide +kernel) X fun j => by rw [h]; rfl
theorem once_5 (X : S256x1024.Idx → Elt F .f32) (h : dat.after (5 : Fin 8) t0_0 = X) : dat.arrAt (5 : Fin 8) cfg0.N = X :=
  dat.arrAt_eq_of_after_last (5 : Fin 8) t0_0 (by decide +kernel) X fun j => by rw [h]; rfl
theorem once_6 (X : S96x128.Idx → Elt F .f32) (h : dat.after (6 : Fin 8) t0_0 = X) : dat.arrAt (6 : Fin 8) cfg0.N = X :=
  dat.arrAt_eq_of_after_last (6 : Fin 8) t0_0 (by decide +kernel) X fun j => by rw [h]; rfl
theorem once_7 (X : S1056x128.Idx → Elt F .f32) (h : dat.after (7 : Fin 8) t0_0 = X) : dat.arrAt (7 : Fin 8) cfg0.N = X :=
  dat.arrAt_eq_of_after_last (7 : Fin 8) t0_0 (by decide +kernel) X fun j => by rw [h]; rfl

end

theorem arr_2 : (dats m 0 c).arrAt (2 : Fin 8) cfg0.N = (big0 (vals m)).total c := once_2 (dats m 0 c) _ (after_2 m c)
theorem arr_3 : (dats m 0 c).arrAt (3 : Fin 8) cfg0.N = (big1 (vals m)).total c := once_3 (dats m 0 c) _ (after_3 m c)
theorem arr_4 : (dats m 0 c).arrAt (4 : Fin 8) cfg0.N = (big2 (vals m)).total c := once_4 (dats m 0 c) _ (after_4 m c)
theorem arr_5 : (dats m 0 c).arrAt (5 : Fin 8) cfg0.N = (big3 (vals m)).total c := once_5 (dats m 0 c) _ (after_5 m c)
theorem arr_6 : (dats m 0 c).arrAt (6 : Fin 8) cfg0.N = (pk0 (vals m)).total c := once_6 (dats m 0 c) _ (after_6 m c)
theorem arr_7 : (dats m 0 c).arrAt (7 : Fin 8) cfg0.N = (pk1 (vals m)).total c := once_7 (dats m 0 c) _ (after_7 m c)

/-! ## The packs come in whole -/

theorem block_0 (X : S96x128.Idx → Elt F .f32) : ((cfg0.win 0).blk t0_0).view.read (Elt F) X = X := by
  funext i
  refine congrArg X (funext fun a => Fin.ext ?_)
  match a with
  | ⟨0, _⟩ => exact Pipeline.Window.rect_emb_val_of_index_zero (cfg0.win 0) t0_0 (0 : Fin 2) rfl i
  | ⟨1, _⟩ => exact Pipeline.Window.rect_emb_val_of_index_zero (cfg0.win 0) t0_0 (1 : Fin 2) rfl i
theorem block_1 (X : S1056x128.Idx → Elt F .f32) : ((cfg0.win 1).blk t0_0).view.read (Elt F) X = X := by
  funext i
  refine congrArg X (funext fun a => Fin.ext ?_)
  match a with
  | ⟨0, _⟩ => exact Pipeline.Window.rect_emb_val_of_index_zero (cfg0.win 1) t0_0 (0 : Fin 2) rfl i
  | ⟨1, _⟩ => exact Pipeline.Window.rect_emb_val_of_index_zero (cfg0.win 1) t0_0 (1 : Fin 2) rfl i

theorem pack0 : (vals m).p0 c = m ((c.tc : Thread nD τ).loc main_arg4) := block_0 (m ((c.tc : Thread nD τ).loc main_arg4))
theorem pack1 : (vals m).p1 c = m ((c.tc : Thread nD τ).loc main_arg5) := block_1 (m ((c.tc : Thread nD τ).loc main_arg5))

end

/-! ## The totals are the reference's sums -/

/-- Of a stacked gradient: device c's rows, where every device's buffer is its part of the reference's argument. -/
theorem rows_eq {R C N : ℕ} {u : Shape} (hN : N = 4 * R) (x : (⟨3, ![32, R, C]⟩ : Shape).Idx → EReal)
    (h : (⟨3, ![32, R, C]⟩ : Shape).ShapeCasts ⟨3, ![8, N, C]⟩) (hr : (⟨3, ![8, N, C]⟩ : Shape).ReducesTo [0] ⟨2, ![N, C]⟩) (hu : 0 < u.numel)
    (hT : Layout.TilesN ⟨2, ![R, C]⟩ ⟨2, ![N, C]⟩ fun b => Layout.cutSize [2, 2, 2] ((![[0, 1], []] : Fin 2 → List ℕ) b))
    (hB : Layout.Tiles ⟨3, ![4, R, C]⟩ ⟨3, ![32, R, C]⟩ 0 8) (c : Dev nD)
    (v : Dev nD → (⟨3, ![4, R, C]⟩ : Shape).Idx → EReal) (hv : ∀ e, v e = Layout.block ⟨3, ![4, R, C]⟩ ⟨3, ![32, R, C]⟩ 0 8 e x hB)
    (T : (⟨2, ![R, C]⟩ : Shape).Idx → EReal) (hs : ∀ y, T y = ∑ e, v e (ix3 (chip c) (y 0) (y 1))) :
    T = Layout.blockN ⟨2, ![R, C]⟩ ⟨2, ![N, C]⟩ (Layout.meshBlock [2, 2, 2] ![[0, 1], []] c)
      (Host.reduceAdd (F := Ideal) (φ := .f32) (shapeCast ⟨3, ![8, N, C]⟩ x h) (constant u .f32 0x00000000#32) hr hu) hT :=
  funext fun y => (hs y).trans ((Finset.sum_congr rfl fun e _ => congrFun (hv e) _).trans (ref_rows hN x h hr hu hT hB c y).symm)

/-- Of a pack: every device ends with all of it. -/
theorem pack_eq {R N : ℕ} {u : Shape} (hN : N = 8 * R) (x : (⟨2, ![N, 128]⟩ : Shape).Idx → EReal)
    (h : (⟨2, ![N, 128]⟩ : Shape).ShapeCasts ⟨3, ![8, R, 128]⟩) (hr : (⟨3, ![8, R, 128]⟩ : Shape).ReducesTo [0] ⟨2, ![R, 128]⟩) (hu : 0 < u.numel)
    (hB : Layout.Tiles ⟨2, ![R, 128]⟩ ⟨2, ![N, 128]⟩ 0 8)
    (v : Dev nD → (⟨2, ![R, 128]⟩ : Shape).Idx → EReal) (hv : ∀ e, v e = Layout.block ⟨2, ![R, 128]⟩ ⟨2, ![N, 128]⟩ 0 8 e x hB)
    (T : (⟨2, ![R, 128]⟩ : Shape).Idx → EReal) (hs : ∀ y, T y = ∑ e, v e y) :
    T = Host.reduceAdd (F := Ideal) (φ := .f32) (shapeCast ⟨3, ![8, R, 128]⟩ x h) (constant u .f32 0x00000000#32) hr hu :=
  funext fun y => (hs y).trans ((Finset.sum_congr rfl fun e _ => congrFun (hv e) _).trans (ref_pack hN x h hr hu hB y).symm)

/-- The algebraic claim: from the reference's arguments cut over the eight devices, the kernel's first four outputs are each
    chip's rows of the reference's sums, and its last two the sums themselves. -/
theorem algebraic : Cert.algebraic_KernelIdeal_ReferenceIdeal := fun m g m' g' _ hin =>
  ⟨_, _, _, _, _, _,
    (θ_run defs _ _).mono (fun r h c =>
      ⟨(((h.1 c).1 2).trans (arr_2 m c)).trans
          (rows_eq rfl _ _ _ _ _ _ c _ (fun e => (hin e).1) _ fun y => Big.total_eq _ (big0_adds (vals m)) c y),
        (((h.1 c).1 3).trans (arr_3 m c)).trans
          (rows_eq rfl _ _ _ _ _ _ c _ (fun e => (hin e).2.1) _ fun y => Big.total_eq _ (big1_adds (vals m)) c y),
        (((h.1 c).1 4).trans (arr_4 m c)).trans
          (rows_eq rfl _ _ _ _ _ _ c _ (fun e => (hin e).2.2.1) _ fun y => Big.total_eq _ (big2_adds (vals m)) c y),
        (((h.1 c).1 5).trans (arr_5 m c)).trans
          (rows_eq rfl _ _ _ _ _ _ c _ (fun e => (hin e).2.2.2.1) _ fun y => Big.total_eq _ (big3_adds (vals m)) c y),
        (((h.1 c).1 6).trans (arr_6 m c)).trans
          (pack_eq rfl _ _ _ _ _ (vals m).p0 (fun e => (pack0 m e).trans (hin e).2.2.2.2.1) _ fun y => Pk.total_eq _ (pk0_adds (vals m)) c y),
        (((h.1 c).1 7).trans (arr_7 m c)).trans
          (pack_eq rfl _ _ _ _ _ (vals m).p1 (fun e => (pack1 m e).trans (hin e).2.2.2.2.2) _ fun y => Pk.total_eq _ (pk1_adds (vals m)) c y),
        h.args m c⟩) (run_main (F := Ideal) m g),
    (θ_run Cert.ReferenceIdeal.defs _ _).mono (fun _ h => h 0) (Cert.ReferenceIdeal.Value.run (F := Ideal) m' g')⟩

end Cert.ReduceProof

end
-- ==== Proof.BackRows.lean ====
/-
The input projection's backward pass, row by row at exact float values: what it makes of a row, and of many rows together.
-/
module

public import Idealize.ShloMosaic.Lib.Pointwise
public import Idealize.ShloMosaic.Lib.Pipeline.ValueKit

@[expose] public section

noncomputable section

namespace Cert.BackProof

open Idealize.ShloMosaic

/-- Row `r` of a matrix. -/
abbrev row {n k : ℕ} (x : (⟨2, ![n, k]⟩ : Shape).Idx → EReal) (r : Fin n) : Fin k → EReal := fun j => x (ix2 r j)

/-- The weights by block of columns, row, column. -/
abbrev slabs (w : (⟨3, ![4, 1024, 512]⟩ : Shape).Idx → EReal) : Fin 4 → Fin 1024 → Fin 512 → EReal := fun s k q => w (ix3 s k q)

/-- Column `q` of block `s`. -/
abbrev col (s : Fin 4) (q : Fin 512) : Fin 2048 := ⟨s.val * 512 + q.val, by omega⟩

/-- The gradient of a row of the projection: its four parts end to end. -/
def joined (a b : Fin 384 → EReal) (c : Fin 256 → EReal) (d : Fin 1024 → EReal) (q : Fin 2048) : EReal :=
  if h : q.val < 384 then a ⟨q.val, h⟩
  else if h : q.val - 384 < 384 then b ⟨q.val - 384, h⟩
  else if h : q.val - 384 - 384 < 256 then c ⟨q.val - 384 - 384, h⟩
  else d ⟨q.val - 384 - 384 - 256, by omega⟩

/-- One over the root mean square of a row. -/
def scale (x : Fin 1024 → EReal) : EReal :=
  Ideal.rsqrt (Ideal.div (∑ k, x k * x k) (Ideal.ofBits .f32 0x44800000#32) + Ideal.ofBits .f32 0x358637BD#32)

/-- The row so scaled. -/
def unitRow (x : Fin 1024 → EReal) (k : Fin 1024) : EReal := x k * scale x

/-- The gradient of the projection's input: that of its output through the weights. -/
def through (d : Fin 2048 → EReal) (w : Fin 4 → Fin 1024 → Fin 512 → EReal) (k : Fin 1024) : EReal :=
  ∑ s : Fin 4, ∑ q : Fin 512, d (col s q) * w s k q

/-- The gradient of a row, `z` having come back past the projection and `h` through it. -/
def backRow (x g z h : Fin 1024 → EReal) (k : Fin 1024) : EReal :=
  z k + scale x * (h k * g k - unitRow x k * Ideal.div (∑ l, h l * g l * unitRow x l) (Ideal.ofBits .f32 0x44800000#32))

section Many

variable {n : ℕ} (x0 x1 : (⟨2, ![n, 384]⟩ : Shape).Idx → EReal) (x2 : (⟨2, ![n, 256]⟩ : Shape).Idx → EReal)
  (x3 x4 x5 : (⟨2, ![n, 1024]⟩ : Shape).Idx → EReal) (x6 : (⟨2, ![1, 1024]⟩ : Shape).Idx → EReal) (x7 : (⟨3, ![4, 1024, 512]⟩ : Shape).Idx → EReal)

/-- The gradient of row `e` of the projection. -/
def projRow (e : Fin n) : Fin 2048 → EReal := joined (row x0 e) (row x1 e) (row x2 e) (row x3 e)

/-- The gradient of row `e` of the projection's input. -/
def inRow (e : Fin n) : Fin 1024 → EReal := through (projRow x0 x1 x2 x3 e) (slabs x7)

/-- Row `e` of the gradient of `x`. -/
def gradX (e : Fin n) : Fin 1024 → EReal := backRow (row x4 e) (row x6 0) (row x5 e) (inRow x0 x1 x2 x3 x7 e)

/-- What row `e` adds to the weights' gradient. -/
def termW (e : Fin n) (s : Fin 4) (k : Fin 1024) (q : Fin 512) : EReal :=
  unitRow (row x4 e) k * row x6 0 k * projRow x0 x1 x2 x3 e (col s q)

/-- What row `e` adds to the scale's gradient. -/
def termG (e : Fin n) (k : Fin 1024) : EReal := inRow x0 x1 x2 x3 x7 e k * unitRow (row x4 e) k

end Many

end Cert.BackProof

end
-- ==== Proof.BackPoint.lean ====
/-
One point of the input projection's backward pass at exact float values: what its body leaves in the three results' blocks.
-/
module

public import proofs.«01_k».proof.Proof.Gen.BackIdeal.Value
public import proofs.«01_k».proof.Proof.BackRows
public import Idealize.ShloMosaic.Lib.Pipeline.ReadBack

@[expose] public section

set_option maxRecDepth 16384

noncomputable section

namespace Cert.BackProof

open Idealize.ShloMosaic Idealize.SL.Sem
open Cert.BackIdeal Cert.BackIdeal.Gen

section Payloads

variable (x0 x1 : Vec Ideal S512x384 .bf16) (x2 : Vec Ideal S512x256 .bf16) (x3 : Vec Ideal S512x1024 .bf16) (x4 : Vec Ideal S512x1024 .f32)
  (x5 : Vec Ideal S512x1024 .bf16) (x6 : Vec Ideal S1x1024 .f32) (x7 : Vec Ideal S4x1024x512 .bf16)

theorem pay7_apply (e : Fin 512) (q : Fin 2048) : (k0_pay7 (F := Ideal) x0 x1 x2 x3 (ix2 e q) : EReal) = projRow x0 x1 x2 x3 e q := by
  unfold k0_pay7
  pointwise
  rfl

theorem pay8_apply (e : Fin 512) : (k0_pay8 (F := Ideal) x4 (ix2 e 0) : EReal) = scale (row x4 e) := by
  unfold k0_pay8
  pointwise
  rfl

theorem pay9_apply (e : Fin 512) (k : Fin 1024) : (k0_pay9 (F := Ideal) x4 (ix2 e k) : EReal) = unitRow (row x4 e) k := by
  unfold k0_pay9
  pointwise
  rw [pay8_apply]
  rfl

theorem pay10_apply (e : Fin 512) (k : Fin 1024) : (k0_pay10 (F := Ideal) x4 x6 (ix2 e k) : EReal) = unitRow (row x4 e) k * row x6 0 k := by
  unfold k0_pay10
  pointwise
  rw [pay9_apply]

/-- Slab `s` of the weights' block. -/
theorem ld_slab {e : EltTy} (x : Vec Ideal S4x1024x512 e) (off : Fin 3 → ℕ) (inb) (s : Fin 4) (h0 : off 0 = s.val) (h1 : off 1 = 0) (h2 : off 2 = 0)
    (k : Fin 1024) (q : Fin 512) : View.ld x (Rect.unit (s := S4x1024x512) off ![1, 1024, 512] inb) (ix3 0 k q) = x (ix3 s k q) := by
  rw [View.ld_apply]
  refine congrArg x (funext fun a => Fin.ext ?_)
  match a with
  | ⟨0, _⟩ => show off 0 + 1 * 0 = s.val; omega
  | ⟨1, _⟩ => show off 1 + 1 * k.val = k.val; omega
  | ⟨2, _⟩ => show off 2 + 1 * q.val = q.val; omega

/-- The gradient of the projection's input, as the body has it. -/
abbrev dh : FVec Ideal S512x1024 .f32 :=
  k0_pay2 (k0_pay18 (k0_pay7 x0 x1 x2 x3) k0_pay11 (k0_pay12 x0 x1 x2 x3)
      (View.ld x7 (Rect.unit ![0, 0, 0] ![1, 1024, 512] inb_S4x1024x512_S1x1024x512_0_0_0))
      (View.ld x7 (Rect.unit ![1, 0, 0] ![1, 1024, 512] inb_S4x1024x512_S1x1024x512_1_0_0))
      (View.ld x7 (Rect.unit ![2, 0, 0] ![1, 1024, 512] inb_S4x1024x512_S1x1024x512_2_0_0)))
    (k0_pay19 (k0_pay7 x0 x1 x2 x3))
    (View.ld x7 (Rect.unit ![3, 0, 0] ![1, 1024, 512] inb_S4x1024x512_S1x1024x512_3_0_0))

theorem dh_apply (e : Fin 512) (k : Fin 1024) : (dh x0 x1 x2 x3 x7 (ix2 e k) : EReal) = inRow x0 x1 x2 x3 x7 e k := by
  unfold dh k0_pay2 k0_pay18 k0_pay11 k0_pay19 k0_pay12 k0_pay14 k0_pay16
  pointwise
  simp only [pay7_apply]
  show _ = ∑ s : Fin 4, ∑ q : Fin 512, projRow x0 x1 x2 x3 e (col s q) * x7 (ix3 s k q)
  rw [Fin.sum_univ_four]
  refine congr (congrArg _ (congr (congrArg _ (congr (congrArg _ ?_) ?_)) ?_)) ?_ <;> refine Finset.sum_congr rfl fun q _ => ?_
  all_goals
    refine congrArg (· * _) (congrArg _ (Fin.ext ?_))
    simp

/-- The weights' gradient after the point, over what was there before. -/
def added (X : Vec Ideal S4x1024x512 .f32) : Vec Ideal S4x1024x512 .f32 := fun j =>
  (X j + ∑ e : Fin 512, termW x0 x1 x2 x3 x4 x6 e (j 0) (j 1) (j 2) : EReal)

/-- One block of columns: what the body stores there. -/
theorem slab_apply (X : Vec Ideal S4x1024x512 .f32) (off : Fin 3 → ℕ) (inb) (s : Fin 4) (h0 : off 0 = s.val) (h1 : off 1 = 0) (h2 : off 2 = 0)
    (v : FVec Ideal S1x1024x512 .f32)
    (hv : ∀ j : S1x1024x512.Idx, (v j : EReal) = View.ld X (Rect.unit (s := S4x1024x512) off ![1, 1024, 512] inb) j
      + ∑ e : Fin 512, k0_pay10 (F := Ideal) x4 x6 (ix2 e (j 1)) * k0_pay7 (F := Ideal) x0 x1 x2 x3 (ix2 e (col s (j 2))))
    (j : S1x1024x512.Idx) : v j = added x0 x1 x2 x3 x4 x6 X ((Rect.unit (s := S4x1024x512) off ![1, 1024, 512] inb).emb j) := by
  have hj : (Rect.unit (s := S4x1024x512) off ![1, 1024, 512] inb).emb j = ix3 s (j 1) (j 2) := by
    funext a
    refine Fin.ext ?_
    have : (j 0).val < 1 := (j 0).isLt
    match a with
    | ⟨0, _⟩ => show off 0 + 1 * (j 0).val = s.val; omega
    | ⟨1, _⟩ => show off 1 + 1 * (j 1).val = (j 1).val; omega
    | ⟨2, _⟩ => show off 2 + 1 * (j 2).val = (j 2).val; omega
  rw [hj]
  exact (hv j).trans (congrArg₂ (fun a b : EReal => a + b) (congrArg X hj)
    (Finset.sum_congr rfl fun e _ => congrArg₂ (fun a b : EReal => a * b) (pay10_apply x4 x6 e (j 1)) (pay7_apply x0 x1 x2 x3 e _)))

/-- The four stores into the weights' gradient, over what was there before. -/
abbrev stored (X : Vec Ideal S4x1024x512 .f32) : List (View.Piece (Elt Ideal) S4x1024x512 .f32) :=
  [⟨Rect.unit ![3, 0, 0] ![1, 1024, 512] inb_S4x1024x512_S1x1024x512_3_0_0,
      k0_pay1 (k0_pay10 x4 x6) (k0_pay19 (k0_pay7 x0 x1 x2 x3))
        (View.ld X (Rect.unit ![3, 0, 0] ![1, 1024, 512] inb_S4x1024x512_S1x1024x512_3_0_0))⟩,
    ⟨Rect.unit ![2, 0, 0] ![1, 1024, 512] inb_S4x1024x512_S1x1024x512_2_0_0,
      k0_pay17 (k0_pay7 x0 x1 x2 x3) (k0_pay10 x4 x6)
        (View.ld X (Rect.unit ![2, 0, 0] ![1, 1024, 512] inb_S4x1024x512_S1x1024x512_2_0_0))⟩,
    ⟨Rect.unit ![1, 0, 0] ![1, 1024, 512] inb_S4x1024x512_S1x1024x512_1_0_0,
      k0_pay15 (k0_pay7 x0 x1 x2 x3) (k0_pay10 x4 x6)
        (View.ld X (Rect.unit ![1, 0, 0] ![1, 1024, 512] inb_S4x1024x512_S1x1024x512_1_0_0))⟩,
    ⟨Rect.unit ![0, 0, 0] ![1, 1024, 512] inb_S4x1024x512_S1x1024x512_0_0_0,
      k0_pay13 x0 x1 x2 x3 x4 x6
        (View.ld X (Rect.unit ![0, 0, 0] ![1, 1024, 512] inb_S4x1024x512_S1x1024x512_0_0_0))⟩]

theorem stored_pieces (X : Vec Ideal S4x1024x512 .f32) : View.PiecesOf (added x0 x1 x2 x3 x4 x6 X) (stored x0 x1 x2 x3 x4 x6 X) := by
  refine And.intro ?_ (And.intro ?_ (And.intro ?_ (And.intro ?_ trivial)))
  · refine slab_apply x0 x1 x2 x3 x4 x6 X ![3, 0, 0] inb_S4x1024x512_S1x1024x512_3_0_0 3 rfl rfl rfl _ fun j => ?_
    unfold k0_pay1 k0_pay19
    pointwise
    refine congrArg (X _ + ·) (Finset.sum_congr rfl fun e _ => congrArg (_ * ·) (congrArg _ (congrArg (ix2 e) (Fin.ext ?_))))
    simp
  · refine slab_apply x0 x1 x2 x3 x4 x6 X ![2, 0, 0] inb_S4x1024x512_S1x1024x512_2_0_0 2 rfl rfl rfl _ fun j => ?_
    unfold k0_pay17 k0_pay16
    pointwise
    refine congrArg (X _ + ·) (Finset.sum_congr rfl fun e _ => congrArg (_ * ·) (congrArg _ (congrArg (ix2 e) (Fin.ext ?_))))
    simp
  · refine slab_apply x0 x1 x2 x3 x4 x6 X ![1, 0, 0] inb_S4x1024x512_S1x1024x512_1_0_0 1 rfl rfl rfl _ fun j => ?_
    unfold k0_pay15 k0_pay14
    pointwise
    refine congrArg (X _ + ·) (Finset.sum_congr rfl fun e _ => congrArg (_ * ·) (congrArg _ (congrArg (ix2 e) (Fin.ext ?_))))
    simp
  · refine slab_apply x0 x1 x2 x3 x4 x6 X ![0, 0, 0] inb_S4x1024x512_S1x1024x512_0_0_0 0 rfl rfl rfl _ fun j => ?_
    unfold k0_pay13 k0_pay12
    pointwise
    refine congrArg (X _ + ·) (Finset.sum_congr rfl fun e _ => congrArg (_ * ·) (congrArg _ (congrArg (ix2 e) (Fin.ext ?_))))
    simp

/-- The four stores together, whatever was stored before them. -/
theorem stored_canon (X : Vec Ideal S4x1024x512 .f32) (L : List (View.Piece (Elt Ideal) S4x1024x512 .f32)) (j : S4x1024x512.Idx) :
    View.canon (stored x0 x1 x2 x3 x4 x6 X ++ L) j = added x0 x1 x2 x3 x4 x6 X j :=
  View.canon_append_of_piecesOf _ L _ (stored_pieces x0 x1 x2 x3 x4 x6 X) j
    (View.cover_of_tiledBy (stored x0 x1 x2 x3 x4 x6 X) ![1, 1024, 512] (by sl_kernel_rfl) j)

theorem stored_alone (X : Vec Ideal S4x1024x512 .f32) (j : S4x1024x512.Idx) :
    View.canon (stored x0 x1 x2 x3 x4 x6 X) j = added x0 x1 x2 x3 x4 x6 X j :=
  (congrFun (congrArg View.canon (List.append_nil _).symm) j).trans (stored_canon x0 x1 x2 x3 x4 x6 X [] j)

end Payloads

section Outs

variable (c : Dev nD) (i : grid0.Coords) (arg1 : Memref sig .tc .vmem S512x384 .bf16) (harg1 : arg1.IsWhole) (arg2 : Memref sig .tc .vmem S512x384 .bf16) (harg2 : arg2.IsWhole) (arg3 : Memref sig .tc .vmem S512x256 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S4x1024x512 .bf16) (harg8 : arg8.IsWhole) (arg9 : Memref sig .tc .vmem S512x1024 .f32) (harg9 : arg9.IsWhole) (arg10 : Memref sig .tc .vmem S4x1024x512 .f32) (harg10 : arg10.IsWhole) (arg11 : Memref sig .tc .vmem S1x1024 .f32) (harg11 : arg11.IsWhole)
  (x0 x1 : Vec Ideal S512x384 .bf16) (x2 : Vec Ideal S512x256 .bf16) (x3 : Vec Ideal S512x1024 .bf16) (x4 : Vec Ideal S512x1024 .f32)
  (x5 : Vec Ideal S512x1024 .bf16) (x6 : Vec Ideal S1x1024 .f32) (x7 : Vec Ideal S4x1024x512 .bf16) (xo9 : Vec Ideal S4x1024x512 .f32) (xo10 : Vec Ideal S1x1024 .f32)

theorem pay4_apply (e : Fin 512) (k : Fin 1024) :
    (k0_pay4 (k0_pay8 x4) (k0_pay9 x4) x6 (k0_pay18 (k0_pay7 x0 x1 x2 x3) k0_pay11 (k0_pay12 x0 x1 x2 x3)
      (View.ld x7 (Rect.unit ![0, 0, 0] ![1, 1024, 512] inb_S4x1024x512_S1x1024x512_0_0_0))
      (View.ld x7 (Rect.unit ![1, 0, 0] ![1, 1024, 512] inb_S4x1024x512_S1x1024x512_1_0_0))
      (View.ld x7 (Rect.unit ![2, 0, 0] ![1, 1024, 512] inb_S4x1024x512_S1x1024x512_2_0_0)))
    (k0_pay19 (k0_pay7 x0 x1 x2 x3))
    (View.ld x7 (Rect.unit ![3, 0, 0] ![1, 1024, 512] inb_S4x1024x512_S1x1024x512_3_0_0)) x5 (ix2 e k) : EReal) = gradX x0 x1 x2 x3 x4 x5 x6 x7 e k := by
  unfold k0_pay4
  pointwise
  simp only [dh_apply, pay8_apply, pay9_apply]
  rfl

theorem pay3_apply (z : Vec Ideal S1x1024 .f32) (k : Fin 1024) :
    (k0_pay3 (k0_pay9 x4) (k0_pay18 (k0_pay7 x0 x1 x2 x3) k0_pay11 (k0_pay12 x0 x1 x2 x3)
      (View.ld x7 (Rect.unit ![0, 0, 0] ![1, 1024, 512] inb_S4x1024x512_S1x1024x512_0_0_0))
      (View.ld x7 (Rect.unit ![1, 0, 0] ![1, 1024, 512] inb_S4x1024x512_S1x1024x512_1_0_0))
      (View.ld x7 (Rect.unit ![2, 0, 0] ![1, 1024, 512] inb_S4x1024x512_S1x1024x512_2_0_0)))
    (k0_pay19 (k0_pay7 x0 x1 x2 x3))
    (View.ld x7 (Rect.unit ![3, 0, 0] ![1, 1024, 512] inb_S4x1024x512_S1x1024x512_3_0_0)) z (ix2 0 k) : EReal)
      = z (ix2 0 k) + ∑ e : Fin 512, termG x0 x1 x2 x3 x4 x7 e k := by
  unfold k0_pay3
  pointwise
  simp only [dh_apply, pay9_apply]
  rfl

theorem out8_A (hc0 : cond0_0 i) (e : Fin 512) (k : Fin 1024) :
    (out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 e k) : EReal) = gradX x0 x1 x2 x3 x4 x5 x6 x7 e k := by
  frame_out
  exact pay4_apply x0 x1 x2 x3 x4 x5 x6 x7 e k

theorem out8_B (hc0 : ¬cond0_0 i) (e : Fin 512) (k : Fin 1024) :
    (out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 (ix2 e k) : EReal) = gradX x0 x1 x2 x3 x4 x5 x6 x7 e k := by
  frame_out
  exact pay4_apply x0 x1 x2 x3 x4 x5 x6 x7 e k

theorem out10_A (hc0 : cond0_0 i) (k : Fin 1024) :
    (out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 0 k) : EReal) = ∑ e : Fin 512, termG x0 x1 x2 x3 x4 x7 e k := by
  frame_out
  refine (pay3_apply x0 x1 x2 x3 x4 x7 _ k).trans ?_
  unfold k0_pay6
  pointwise

theorem out10_B (hc0 : ¬cond0_0 i) (k : Fin 1024) :
    (out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 (ix2 0 k) : EReal)
      = xo10 (ix2 0 k) + ∑ e : Fin 512, termG x0 x1 x2 x3 x4 x7 e k := by
  frame_out
  exact pay3_apply x0 x1 x2 x3 x4 x7 _ k

theorem out9_A (hc0 : cond0_0 i) (s : Fin 4) (k : Fin 1024) (q : Fin 512) :
    (out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix3 s k q) : EReal)
      = ∑ e : Fin 512, termW x0 x1 x2 x3 x4 x6 e s k q := by
  frame_open
  simp (disch := decide) only [↓ View.readCov_skip, ↓ View.readCov_cons_toLoadRect, ↓ View.readCov_fill]
  frame_out
  refine (stored_canon x0 x1 x2 x3 x4 x6 (k0_pay5 (F := Ideal))
    [⟨Rect.unit ![0, 0, 0] ![4, 1024, 512] inb_S4x1024x512_S4x1024x512_0_0_0, k0_pay5 (F := Ideal)⟩] (ix3 s k q)).trans ?_
  unfold added k0_pay5
  pointwise

theorem out9_B (hc0 : ¬cond0_0 i) (s : Fin 4) (k : Fin 1024) (q : Fin 512) :
    (out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 (ix3 s k q) : EReal)
      = xo9 (ix3 s k q) + ∑ e : Fin 512, termW x0 x1 x2 x3 x4 x6 e s k q := by
  frame_open
  simp (disch := decide) only [↓ View.readCov_skip, ↓ View.readCov_cons_toLoadRect, ↓ View.readCov_fill]
  frame_out
  exact stored_alone x0 x1 x2 x3 x4 x6 xo9 (ix3 s k q)

end Outs

end Cert.BackProof

end
-- ==== Proof.BackBlocks.lean ====
/-
The input projection's backward pass over the whole grid at exact float values: its three result arrays.
-/
module

public import proofs.«01_k».proof.Proof.BackPoint

@[expose] public section

set_option maxRecDepth 16384

noncomputable section

namespace Cert.BackProof

open Idealize.ShloMosaic Idealize.ShloMosaic.TcCoe Idealize.SL.Sem
open Cert.BackIdeal Cert.BackIdeal.Gen

/-- Row `e` of the tile of point `t`. -/
abbrev at_ (t : Fin cfg0.N) (e : Fin 512) : Fin 8192 := ⟨t.val * 512 + e.val, by have : t.val < 16 := t.isLt; omega⟩

/-- The rows of point `t`. -/
abbrev tile {n : ℕ} (x : (⟨2, ![8192, n]⟩ : Shape).Idx → EReal) (t : Fin cfg0.N) : (⟨2, ![512, n]⟩ : Shape).Idx → EReal := fun j => x (ix2 (at_ t (j 0)) (j 1))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0, 0] ∧ win0_8.index t = ![t.val, 0] :=
  (by decide +kernel : ∀ t : Fin grid0.N, _)

variable (m : (ℓ : Loc nD τ sig) → Buf (Elt Ideal) ℓ) (c : Dev nD)

section Blocks

variable (t : Fin cfg0.N)

theorem block0 : (iblk m c 0 t : Vec Ideal S512x384 .bf16) = tile (m ((c : Thread nD τ).loc main_arg0)) t := by
  blk_ext! [iblk, V, idx t]

theorem block1 : (iblk m c 1 t : Vec Ideal S512x384 .bf16) = tile (m ((c : Thread nD τ).loc main_arg1)) t := by
  blk_ext! [iblk, V, idx t]

theorem block2 : (iblk m c 2 t : Vec Ideal S512x256 .bf16) = tile (m ((c : Thread nD τ).loc main_arg2)) t := by
  blk_ext! [iblk, V, idx t]

theorem block3 : (iblk m c 3 t : Vec Ideal S512x1024 .bf16) = tile (m ((c : Thread nD τ).loc main_arg3)) t := by
  blk_ext! [iblk, V, idx t]

theorem block4 : (iblk m c 4 t : Vec Ideal S512x1024 .f32) = tile (m ((c : Thread nD τ).loc main_arg4)) t := by
  blk_ext! [iblk, V, idx t]

theorem block5 : (iblk m c 5 t : Vec Ideal S512x1024 .bf16) = tile (m ((c : Thread nD τ).loc main_arg5)) t := by
  blk_ext! [iblk, V, idx t]

theorem block6 : (iblk m c 6 t : Vec Ideal S1x1024 .f32) = m ((c : Thread nD τ).loc main_arg6) := by
  blk_ext! [iblk, V, idx t]

theorem block7 : (iblk m c 7 t : Vec Ideal S4x1024x512 .bf16) = m ((c : Thread nD τ).loc main_arg7) := by
  blk_ext! [iblk, V, idx t]

end Blocks

/-- What the call computes. -/
abbrev resX : Vec Ideal S8192x1024 .f32 := fun j => gradX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0) (j 1)

abbrev resW : Vec Ideal S4x1024x512 .f32 := fun j => ∑ r : Fin 8192, termW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) r (j 0) (j 1) (j 2)

abbrev resG : Vec Ideal S1x1024 .f32 := fun j => ∑ r : Fin 8192, termG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) r (j 1)

section Many

variable (x0 x1 : (⟨2, ![8192, 384]⟩ : Shape).Idx → EReal) (x2 : (⟨2, ![8192, 256]⟩ : Shape).Idx → EReal)
  (x3 x4 x5 : (⟨2, ![8192, 1024]⟩ : Shape).Idx → EReal) (x6 : (⟨2, ![1, 1024]⟩ : Shape).Idx → EReal) (x7 : (⟨3, ![4, 1024, 512]⟩ : Shape).Idx → EReal)
  (t : Fin cfg0.N) (e : Fin 512)

theorem gradX_tile (k : Fin 1024) : gradX (tile x0 t) (tile x1 t) (tile x2 t) (tile x3 t) (tile x4 t) (tile x5 t) x6 x7 e k
    = gradX x0 x1 x2 x3 x4 x5 x6 x7 (at_ t e) k := rfl

theorem termW_tile (s : Fin 4) (k : Fin 1024) (q : Fin 512) : termW (tile x0 t) (tile x1 t) (tile x2 t) (tile x3 t) (tile x4 t) x6 e s k q
    = termW x0 x1 x2 x3 x4 x6 (at_ t e) s k q := rfl

theorem termG_tile (k : Fin 1024) : termG (tile x0 t) (tile x1 t) (tile x2 t) (tile x3 t) (tile x4 t) x7 e k
    = termG x0 x1 x2 x3 x4 x7 (at_ t e) k := rfl

end Many

/-- After point `t` the first result's block holds the gradient of the point's rows. -/
theorem point8 (t : Fin cfg0.N) (e : Fin 512) (k : Fin 1024) : ((outsAt0 m c t.val t.isLt).1 (ix2 e k) : EReal) = resX m c (ix2 (at_ t e) k) := by
  by_cases h : t.val % 16 = 0
  · rw [outsAt0_A m c t h]
    dsimp only
    rw [out8_A, block0, block1, block2, block3, block4, block5, block6, block7]
    exact gradX_tile _ _ _ _ _ _ _ _ t e k
  · rw [outsAt0_B m c t h]
    dsimp only
    rw [out8_B, block0, block1, block2, block3, block4, block5, block6, block7]
    exact gradX_tile _ _ _ _ _ _ _ _ t e k

theorem final8 : (dats m 0 c).arrAt 8 cfg0.N = resX m c := by
  refine (dats m 0 c).arrAt_eq_of_cover 8 (resX m c) (fun t _ => funext fun y => ?_) fun i =>
    ⟨⟨(i 0).val / 512, by have : (i 0).val < 8192 := (i 0).isLt; show _ < 16; omega⟩, flush0_8 _, ?_⟩
  · rw [Value.flushed8]
    blk_simp
    have hy : (fun a => ⟨(y a).val, (y a).isLt⟩ : S512x1024.Idx) = ix2 (n0 := 512) (n1 := 1024) (y 0) (y 1) := by
      funext a
      match a with
      | ⟨0, _⟩ => rfl
      | ⟨1, _⟩ => rfl
    refine (congrArg (outsAt0 m c t.val t.isLt).1 hy).trans ((point8 m c t (y 0) (y 1)).trans (congrArg (resX m c) (funext fun a => Fin.ext ?_)))
    match a with
    | ⟨0, _⟩ => exact ((Pipeline.Window.rect_emb_val win0_8 t y (0 : Fin 2)).trans (congrArg (· + _) (congrArg (· * 512) (congrFun (idx t).2.2.2.2.2.2.2.2 0)))).symm
    | ⟨1, _⟩ => exact (Pipeline.Window.rect_emb_val_of_index_zero win0_8 t (1 : Fin 2) (congrFun (idx t).2.2.2.2.2.2.2.2 1) y).symm
  · have : (i 1).val < 1024 := (i 1).isLt
    mem_blk [idx]
    refine ⟨⟨?_, ?_⟩, Nat.zero_le _, this⟩
    · show (i 0).val / 512 * 512 ≤ (i 0).val
      omega
    · show (i 0).val < (i 0).val / 512 * 512 + 512
      omega

theorem first9 (t : Fin cfg0.N) (h : t.val % 16 = 0) (j : Fin 4 × Fin 1024 × Fin 512) : ((outsAt0 m c t.val t.isLt).2.1 (ix3 j.1 j.2.1 j.2.2) : EReal)
    = 0 + ∑ e : Fin 512, termW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (at_ t e) j.1 j.2.1 j.2.2 := by
  rw [outsAt0_A m c t h]
  dsimp only
  rw [out9_A, block0, block1, block2, block3, block4, block6, zero_add]
  exact Finset.sum_congr rfl fun e _ => termW_tile _ _ _ _ _ _ t e _ _ _

theorem next9 (t : Fin cfg0.N) (h : ¬t.val % 16 = 0) (j : Fin 4 × Fin 1024 × Fin 512) : ((outsAt0 m c t.val t.isLt).2.1 (ix3 j.1 j.2.1 j.2.2) : EReal)
    = (outsAt0 m c (t.val - 1) (Nat.lt_of_le_of_lt (Nat.sub_le _ _) t.isLt)).2.1 (ix3 j.1 j.2.1 j.2.2)
      + ∑ e : Fin 512, termW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (at_ t e) j.1 j.2.1 j.2.2 := by
  rw [outsAt0_B m c t h]
  dsimp only
  rw [out9_B, block0, block1, block2, block3, block4, block6]
  exact congrArg₂ (fun a b : EReal => a + b) rfl (Finset.sum_congr rfl fun e _ => termW_tile _ _ _ _ _ _ t e _ _ _)

theorem first10 (t : Fin cfg0.N) (h : t.val % 16 = 0) (k : Fin 1024) : ((outsAt0 m c t.val t.isLt).2.2 (ix2 0 k) : EReal)
    = 0 + ∑ e : Fin 512, termG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (at_ t e) k := by
  rw [outsAt0_A m c t h]
  dsimp only
  rw [out10_A, block0, block1, block2, block3, block4, block7, zero_add]
  exact Finset.sum_congr rfl fun e _ => termG_tile _ _ _ _ _ _ t e k

theorem next10 (t : Fin cfg0.N) (h : ¬t.val % 16 = 0) (k : Fin 1024) : ((outsAt0 m c t.val t.isLt).2.2 (ix2 0 k) : EReal)
    = (outsAt0 m c (t.val - 1) (Nat.lt_of_le_of_lt (Nat.sub_le _ _) t.isLt)).2.2 (ix2 0 k)
      + ∑ e : Fin 512, termG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (at_ t e) k := by
  rw [outsAt0_B m c t h]
  dsimp only
  rw [out10_B, block0, block1, block2, block3, block4, block7]
  exact congrArg₂ (fun a b : EReal => a + b) rfl (Finset.sum_congr rfl fun e _ => termG_tile _ _ _ _ _ _ t e k)

theorem total9 (j : Fin 4 × Fin 1024 × Fin 512) : ((outsAt0 m c t0_15.val t0_15.isLt).2.1 (ix3 j.1 j.2.1 j.2.2) : EReal) = resW m c (ix3 j.1 j.2.1 j.2.2) := by
  refine (Pipeline.eq_sum_fin_of_reset_step_apply_last (fun n hn (j : Fin 4 × Fin 1024 × Fin 512) => ((outsAt0 m c n hn).2.1 (ix3 j.1 j.2.1 j.2.2) : EReal)) 16
    (fun _ => 0) _ (first9 m c) (next9 m c) (le_of_eq N_0) t0_15 N_0.symm j).trans ?_
  rw [zero_add]
  exact Fin.sum_mul_add_congr fun t e hl => rfl

theorem total10 (k : Fin 1024) : ((outsAt0 m c t0_15.val t0_15.isLt).2.2 (ix2 0 k) : EReal) = resG m c (ix2 0 k) := by
  refine (Pipeline.eq_sum_fin_of_reset_step_apply_last (fun n hn (k : Fin 1024) => ((outsAt0 m c n hn).2.2 (ix2 0 k) : EReal)) 16
    (fun _ => 0) _ (first10 m c) (next10 m c) (le_of_eq N_0) t0_15 N_0.symm k).trans ?_
  rw [zero_add]
  exact Fin.sum_mul_add_congr fun t e hl => rfl

theorem final9 : (dats m 0 c).arrAt 9 cfg0.N = resW m c := by
  refine (dats m 0 c).arrAt_eq_of_after_last 9 t0_15 (by decide +kernel) (resW m c) fun j => ?_
  rw [after0_9]
  blk_simp
  exact (congrArg (outsAt0 m c t0_15.val t0_15.isLt).2.1 (ix3_eta (n0 := 4) (n1 := 1024) (n2 := 512) j).symm).trans
    ((total9 m c (j 0, j 1, j 2)).trans (congrArg (resW m c) (ix3_eta (n0 := 4) (n1 := 1024) (n2 := 512) j)))

theorem final10 : (dats m 0 c).arrAt 10 cfg0.N = resG m c := by
  refine (dats m 0 c).arrAt_eq_of_after_last 10 t0_15 (by decide +kernel) (resG m c) fun j => ?_
  rw [after0_10]
  blk_simp
  have hj : ix2 (0 : Fin 1) (j 1 : Fin 1024) = j := by
    funext a
    match a with
    | ⟨0, _⟩ => exact Subsingleton.elim (α := Fin 1) _ _
    | ⟨1, _⟩ => rfl
  exact (congrArg (outsAt0 m c t0_15.val t0_15.isLt).2.2 hj.symm).trans ((total10 m c (j 1)).trans (congrArg (resG m c) hj))

end Cert.BackProof

end
-- ==== Proof.BackRef.lean ====
/-
The reference of the input projection's backward pass at exact float values: its three results.
-/
module

public import proofs.«01_k».proof.Proof.Gen.BackRefIdeal.Run
public import proofs.«01_k».proof.Proof.BackRows
public import Idealize.ShloMosaic.Lib.Pointwise.Reduce

@[expose] public section

set_option maxRecDepth 16384

noncomputable section

namespace Cert.BackProof.Ref

open Idealize.ShloMosaic Idealize.ShloMosaic.TcCoe Idealize.SL.Sem
open Cert.BackRefIdeal Cert.BackRefIdeal.Gen Cert.BackProof

variable (x0 x1 : FVec Ideal S8192x384 .bf16) (x2 : FVec Ideal S8192x256 .bf16) (x3 : FVec Ideal S8192x1024 .bf16) (x4 : FVec Ideal S8192x1024 .f32)
  (x5 : FVec Ideal S8192x1024 .bf16) (x6 : FVec Ideal S1x1024 .f32) (x7 : FVec Ideal S4x1024x512 .bf16)

/-- The rows scaled by one over their root mean square. -/
abbrev scales : FVec Ideal S8192x1 .f32 :=
  Host.rsqrt (addf (Host.divf (broadcastInDim S8192x1 ![0] bcast_S8192_S8192x1_0 (Host.reduceAdd (mulf x4 x4) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32)))

theorem scales_apply (e : Fin 8192) : (scales x4 (ix2 e 0) : EReal) = scale (row x4 e) := by
  unfold scales
  pointwise
  rfl

abbrev units : FVec Ideal S8192x1024 .f32 := mulf x4 (broadcastInDim S8192x1024 ![0, 1] bcast_S8192x1_S8192x1024_0_1 (scales x4))

theorem units_apply (e : Fin 8192) (k : Fin 1024) : (units x4 (ix2 e k) : EReal) = unitRow (row x4 e) k := by
  have h := scales_apply x4 e
  unfold units
  generalize scales x4 = s at h
  pointwise
  rw [h]
  rfl

abbrev joins : FVec Ideal S8192x2048 .f32 :=
  concatenate S8192x2048 1 [⟨S8192x384, ((extf .f32 x0 bitsLt_bf16_f32) : (⟨S8192x384, .f32⟩ : BufTy).Contents (Elt Ideal))⟩,
    ⟨S8192x384, ((extf .f32 x1 bitsLt_bf16_f32) : (⟨S8192x384, .f32⟩ : BufTy).Contents (Elt Ideal))⟩,
    ⟨S8192x256, ((extf .f32 x2 bitsLt_bf16_f32) : (⟨S8192x256, .f32⟩ : BufTy).Contents (Elt Ideal))⟩,
    ⟨S8192x1024, ((extf .f32 x3 bitsLt_bf16_f32) : (⟨S8192x1024, .f32⟩ : BufTy).Contents (Elt Ideal))⟩] concatenates_S8192x384_S8192x384_S8192x256_S8192x1024_S8192x2048_d1

theorem joins_apply (e : Fin 8192) (q : Fin 2048) : (joins x0 x1 x2 x3 (ix2 e q) : EReal) = projRow x0 x1 x2 x3 e q := by
  unfold joins
  pointwise
  rfl

abbrev weights : FVec Ideal S2048x1024 .f32 :=
  transpose S2048x1024 [1, 0] (shapeCast S1024x2048 (transpose S1024x4x512 [1, 0, 2] (extf .f32 x7 bitsLt_bf16_f32) transposes_S4x1024x512_S1024x4x512_1_0_2) shapeCasts_S1024x4x512_S1024x2048) transposes_S1024x2048_S2048x1024_1_0

theorem weights_apply (s : Fin 4) (q : Fin 512) (k : Fin 1024) : (weights x7 (ix2 (col s q) k) : EReal) = x7 (ix3 s k q) := by
  unfold weights
  pointwise

abbrev ins : FVec Ideal S8192x1024 .f32 := Host.dotGeneral dot_S8192x2048_S2048x1024_S8192x1024_1_0_0_1_n_n none (joins x0 x1 x2 x3) (weights x7)

theorem ins_apply (e : Fin 8192) (k : Fin 1024) : (ins x0 x1 x2 x3 x7 (ix2 e k) : EReal) = inRow x0 x1 x2 x3 x7 e k := by
  have h := joins_apply x0 x1 x2 x3 e
  have hw := weights_apply x7
  unfold ins
  generalize joins x0 x1 x2 x3 = j at h
  generalize weights x7 = w at hw
  pointwise
  refine (Fin.sum_mul_add_congr (S := 4) (n := 512) (F := fun s q => projRow x0 x1 x2 x3 e (col s q) * x7 (ix3 s k q)) fun s q hl => ?_).symm
  exact congrArg₂ (fun a b : EReal => a * b) (h (col s q)).symm (hw s q k).symm

/-- The gradient of the projection's output, scaled. -/
abbrev scaled : FVec Ideal S8192x1024 .f32 := mulf (ins x0 x1 x2 x3 x7) (broadcastInDim S8192x1024 ![0, 1] bcast_S1x1024_S8192x1024_0_1 x6)

abbrev outX : FVec Ideal S8192x1024 .f32 :=
  addf (extf .f32 x5 bitsLt_bf16_f32) (mulf (broadcastInDim S8192x1024 ![0, 1] bcast_S8192x1_S8192x1024_0_1 (scales x4))
    (subf (scaled x0 x1 x2 x3 x6 x7) (mulf (units x4) (broadcastInDim S8192x1024 ![0, 1] bcast_S8192x1_S8192x1024_0_1
      (Host.divf (broadcastInDim S8192x1 ![0] bcast_S8192_S8192x1_0 (Host.reduceAdd (mulf (scaled x0 x1 x2 x3 x6 x7) (units x4))
        (constant S_ .f32 0x00000000#32) reducesTo_S8192x1024_S8192_d1 h_S_)) (broadcastInDim S8192x1 ![] bcast_S_S8192x1 (constant S_ .f32 0x44800000#32)))))))

abbrev outW : FVec Ideal S4x1024x512 .f32 :=
  transpose S4x1024x512 [1, 0, 2] (shapeCast S1024x4x512 (Host.dotGeneral dot_S1024x8192_S8192x2048_S1024x2048_1_0_0_1_n_n none
    (transpose S1024x8192 [1, 0] (mulf (units x4) (broadcastInDim S8192x1024 ![0, 1] bcast_S1x1024_S8192x1024_0_1 x6)) transposes_S8192x1024_S1024x8192_1_0)
    (joins x0 x1 x2 x3)) shapeCasts_S1024x2048_S1024x4x512) transposes_S1024x4x512_S4x1024x512_1_0_2

abbrev outG : FVec Ideal S1x1024 .f32 :=
  broadcastInDim S1x1024 ![1] bcast_S1024_S1x1024_1 (Host.reduceAdd (mulf (ins x0 x1 x2 x3 x7) (units x4)) (constant S_ .f32 0x00000000#32) reducesTo_S8192x1024_S1024_d0 h_S_)

theorem outX_apply (e : Fin 8192) (k : Fin 1024) : (outX x0 x1 x2 x3 x4 x5 x6 x7 (ix2 e k) : EReal) = gradX x0 x1 x2 x3 x4 x5 x6 x7 e k := by
  have hs := scales_apply x4 e
  have hu := units_apply x4 e
  have hi := ins_apply x0 x1 x2 x3 x7 e
  unfold outX scaled
  generalize scales x4 = s at hs
  generalize units x4 = u at hu
  generalize ins x0 x1 x2 x3 x7 = i at hi
  pointwise
  simp only [hs, hu, hi]
  rfl

theorem outW_apply (s : Fin 4) (k : Fin 1024) (q : Fin 512) : (outW x0 x1 x2 x3 x4 x6 (ix3 s k q) : EReal) = ∑ r : Fin 8192, termW x0 x1 x2 x3 x4 x6 r s k q := by
  have hu := units_apply x4
  have hj := joins_apply x0 x1 x2 x3
  unfold outW
  generalize units x4 = u at hu
  generalize joins x0 x1 x2 x3 = j at hj
  pointwise
  simp only [hu, hj]
  rfl

theorem outG_apply (k : Fin 1024) : (outG x0 x1 x2 x3 x4 x7 (ix2 0 k) : EReal) = ∑ r : Fin 8192, termG x0 x1 x2 x3 x4 x7 r k := by
  have hu := units_apply x4
  have hi := ins_apply x0 x1 x2 x3 x7
  unfold outG
  generalize units x4 = u at hu
  generalize ins x0 x1 x2 x3 x7 = i at hi
  pointwise
  simp only [hu, hi]
  rfl

set_option maxHeartbeats 1000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v40) = outX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v42) = outW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_v26) = outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  Value.run m ρ

end Cert.BackProof.Ref

end
-- ==== Proof.BackValues.lean ====
/-
The input projection's backward pass: the frames, and at exact float values the kernel's results against the reference's.
-/
module

public import proofs.«01_k».proof.Defs
public import proofs.«01_k».proof.Proof.BackBlocks
public import proofs.«01_k».proof.Proof.BackRef

@[expose] public section

set_option maxRecDepth 16384

noncomputable section

namespace Cert.BackProof

open Idealize.ShloMosaic Idealize.ShloMosaic.TcCoe Idealize.SL.Sem

/-- The reference, which declares no semaphore. -/
theorem frame_reference : Cert.quiescent_BackRefIdeal := fun m ρ _ =>
  (θ_run Cert.BackRefIdeal.defs _ _).mono
    (fun _ h => ⟨fun c => (h c).2.2.2, funext fun g => by rcases g with ⟨_, s⟩; rcases s with s | s <;> exact s.elim0⟩)
    (Cert.BackRefIdeal.Value.run (F := Ideal) m ρ)

variable (x0 x1 : FVec Ideal BackRefIdeal.S8192x384 .bf16) (x2 : FVec Ideal BackRefIdeal.S8192x256 .bf16) (x3 : FVec Ideal BackRefIdeal.S8192x1024 .bf16)
  (x4 : FVec Ideal BackRefIdeal.S8192x1024 .f32) (x5 : FVec Ideal BackRefIdeal.S8192x1024 .bf16) (x6 : FVec Ideal BackRefIdeal.S1x1024 .f32)
  (x7 : FVec Ideal BackRefIdeal.S4x1024x512 .bf16)

theorem outX_eq : Ref.outX x0 x1 x2 x3 x4 x5 x6 x7 = fun j => gradX x0 x1 x2 x3 x4 x5 x6 x7 (j 0) (j 1) := funext fun j =>
  (congrArg _ (ix2_eta (n0 := 8192) (n1 := 1024) j).symm).trans (Ref.outX_apply x0 x1 x2 x3 x4 x5 x6 x7 (j 0) (j 1))

theorem outW_eq : Ref.outW x0 x1 x2 x3 x4 x6 = fun j => ∑ r : Fin 8192, termW x0 x1 x2 x3 x4 x6 r (j 0) (j 1) (j 2) := funext fun j =>
  (congrArg _ (ix3_eta (n0 := 4) (n1 := 1024) (n2 := 512) j).symm).trans (Ref.outW_apply x0 x1 x2 x3 x4 x6 (j 0) (j 1) (j 2))

theorem outG_eq : Ref.outG x0 x1 x2 x3 x4 x7 = fun j => ∑ r : Fin 8192, termG x0 x1 x2 x3 x4 x7 r (j 1) := funext fun j =>
  (congrArg _ ((ix2_eta (n0 := 1) (n1 := 1024) j).symm.trans (congrArg (fun a => ix2 a (j 1)) (Subsingleton.elim (α := Fin 1) (j 0) 0)))).trans
    (Ref.outG_apply x0 x1 x2 x3 x4 x7 (j 1))

theorem algebraic : Cert.algebraic_BackIdeal_BackRefIdeal := fun m g m' g' _ hin =>
  ⟨resX m, resW m, resG m,
    (θ_run Cert.BackIdeal.defs _ _).mono (fun _ h c => ⟨(h c).1.trans (final8 m c), (h c).2.1.trans (final9 m c), (h c).2.2.1.trans (final10 m c), (h c).2.2.2⟩)
      (Cert.BackIdeal.Value.run_blocks (F := Ideal) m g),
    (θ_run Cert.BackRefIdeal.defs _ _).mono (fun _ h c => by
      obtain ⟨e0, e1, e2, e3, e4, e5, e6, e7⟩ := hin c
      refine ⟨(h c).1.trans ?_, (h c).2.1.trans ?_, (h c).2.2.1.trans ?_, (h c).2.2.2⟩
      · rw [outX_eq, e0, e1, e2, e3, e4, e5, e6, e7]
      · rw [outW_eq, e0, e1, e2, e3, e4, e6]
      · rw [outG_eq, e0, e1, e2, e3, e4, e7]) (Ref.run m' g')⟩

end Cert.BackProof

end
-- ==== Proof.TailRows.lean ====
/-
The output projection, its normalisation and the loss, with their backward pass, row by row at exact float values.
-/
module

public import proofs.«01_k».proof.Proof.BackRows
public import Idealize.ShloMosaic.Lib.IdealHost

@[expose] public section

noncomputable section

namespace Cert.TailProof

open Idealize.ShloMosaic
open Cert.BackProof (row scale unitRow)

/-- The three mixers' rows end to end. -/
def joined (a b : Fin 384 → EReal) (c : Fin 256 → EReal) (k : Fin 1024) : EReal :=
  if h : k.val < 384 then a ⟨k.val, h⟩
  else if h : k.val - 384 < 384 then b ⟨k.val - 384, h⟩
  else c ⟨k.val - 384 - 384, by omega⟩

/-- The gate's value, and its slope. -/
def gated (g : EReal) : EReal := g * Ideal.logistic g

def slope (g : EReal) : EReal := Ideal.logistic g * (1 + g * (1 - Ideal.logistic g))

/-- The gradient of a row before its normalisation, `z` being that of the sum the row goes to. -/
def throughUnit (o z g : Fin 1024 → EReal) (k : Fin 1024) : EReal :=
  scale o * (z k * g k - unitRow o k * Ideal.div (∑ l, z l * g l * unitRow o l) (Ideal.ofBits .f32 0x44800000#32))

/-- The second half of the columns. -/
abbrev rightHalf {n : ℕ} (x : (⟨2, ![n, 2048]⟩ : Shape).Idx → EReal) : (⟨2, ![n, 1024]⟩ : Shape).Idx → EReal :=
  fun j => x (ix2 (j 0) ⟨1024 + (j 1).val, by have : (j 1).val < 1024 := (j 1).isLt; omega⟩)

section Many

variable {n : ℕ} (x0 x1 : (⟨2, ![n, 384]⟩ : Shape).Idx → EReal) (x2 : (⟨2, ![n, 256]⟩ : Shape).Idx → EReal)
  (x3 x4 x5 : (⟨2, ![n, 1024]⟩ : Shape).Idx → EReal) (x6 : (⟨2, ![1024, 1024]⟩ : Shape).Idx → EReal) (x7 : (⟨2, ![1, 1024]⟩ : Shape).Idx → EReal)
  (e : Fin n)

/-- The mixers' outputs in row `e`. -/
def mixRow : Fin 1024 → EReal := joined (row x0 e) (row x1 e) (row x2 e)

/-- … times the gates. -/
def gatedRow (l : Fin 1024) : EReal := mixRow x0 x1 x2 e l * gated (x3 (ix2 e l))

/-- … through the weights. -/
def outRow (k : Fin 1024) : EReal := ∑ l, gatedRow x0 x1 x2 x3 e l * x6 (ix2 l k)

/-- How far the row is from its target. -/
def errRow (k : Fin 1024) : EReal := x4 (ix2 e k) + unitRow (outRow x0 x1 x2 x3 x6 e) k * x7 (ix2 0 k) - x5 (ix2 e k)

/-- The mean square of that. -/
def lossRow : EReal := Ideal.div (∑ k, errRow x0 x1 x2 x3 x4 x5 x6 x7 e k * errRow x0 x1 x2 x3 x4 x5 x6 x7 e k) (Ideal.ofBits .f32 0x44800000#32)

/-- The gradient of the sum of the row and its residual. -/
def gradZ (k : Fin 1024) : EReal := errRow x0 x1 x2 x3 x4 x5 x6 x7 e k * Ideal.ofBits .f32 0x3A800000#32

/-- … of the projection's output. -/
def gradOut (k : Fin 1024) : EReal :=
  throughUnit (outRow x0 x1 x2 x3 x6 e) (gradZ x0 x1 x2 x3 x4 x5 x6 x7 e) (row x7 0) k

/-- … of its input. -/
def gradIn (l : Fin 1024) : EReal := ∑ k, gradOut x0 x1 x2 x3 x4 x5 x6 x7 e k * x6 (ix2 l k)

/-- … of the mixers' outputs. -/
def gradMix (l : Fin 1024) : EReal := gradIn x0 x1 x2 x3 x4 x5 x6 x7 e l * gated (x3 (ix2 e l))

/-- … of the gates. -/
def gradGate (l : Fin 1024) : EReal := gradIn x0 x1 x2 x3 x4 x5 x6 x7 e l * mixRow x0 x1 x2 e l * slope (x3 (ix2 e l))

/-- What row `e` adds to the weights' gradient. -/
def termW (l k : Fin 1024) : EReal := gatedRow x0 x1 x2 x3 e l * gradOut x0 x1 x2 x3 x4 x5 x6 x7 e k

/-- What row `e` adds to the scale's gradient. -/
def termG (k : Fin 1024) : EReal := gradZ x0 x1 x2 x3 x4 x5 x6 x7 e k * unitRow (outRow x0 x1 x2 x3 x6 e) k

end Many

theorem f32_1024 : Ideal.ofBits .f32 0x44800000#32 = ((1024 : ℝ) : EReal) := by
  simp [Ideal.ofBits, Ideal.ieee, -EReal.coe_mul]; norm_num

theorem f32_inv_1024 : Ideal.ofBits .f32 0x3A800000#32 = ((1 / 1024 : ℝ) : EReal) := by
  simp [Ideal.ofBits, Ideal.ieee, -EReal.coe_mul]; norm_num

theorem f32_half : Ideal.ofBits .f32 0x3F000000#32 = ((1 / 2 : ℝ) : EReal) := by
  simp [Ideal.ofBits, Ideal.ieee, -EReal.coe_mul]; norm_num

/-- Dividing by 1024 is multiplying by its inverse. -/
theorem div_1024 (x : EReal) : Ideal.div x (Ideal.ofBits .f32 0x44800000#32) = x * Ideal.ofBits .f32 0x3A800000#32 := by
  rw [f32_1024, f32_inv_1024]
  exact Ideal.div_coe (by norm_num) x

/-- Half a sum is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  rw [f32_half]
  classical
  induction s using Finset.induction_on with
  | empty => simp
  | insert a s ha ih =>
    rw [Finset.sum_insert ha, Finset.sum_insert ha, ← ih]
    exact EReal.left_distrib_of_nonneg_of_ne_top (EReal.coe_nonneg.mpr (by norm_num)) (EReal.coe_ne_top _) _ _

end Cert.TailProof

end
-- ==== Proof.TailPoint.lean ====
/-
One point of the output projection and loss at exact float values: what its body leaves in the six results' blocks.
-/
module

public import proofs.«01_k».proof.Proof.Gen.TailIdeal.Value
public import proofs.«01_k».proof.Proof.TailRows
public import Idealize.ShloMosaic.Lib.Pipeline.ReadBack

@[expose] public section

set_option maxRecDepth 16384

noncomputable section

namespace Cert.TailProof

open Idealize.ShloMosaic Idealize.SL.Sem
open Cert.TailIdeal Cert.TailIdeal.Gen
open Cert.BackProof (row scale unitRow)

section Payloads

variable (x0 x1 : Vec Ideal S512x384 .bf16) (x2 : Vec Ideal S512x256 .bf16) (x3 : Vec Ideal S512x1024 .bf16) (x4 x5 : Vec Ideal S512x1024 .f32)
  (x6 : Vec Ideal S1024x1024 .bf16) (x7 : Vec Ideal S1x1024 .f32)

theorem pay8_apply (e : Fin 512) (k : Fin 1024) : (k0_pay8 (F := Ideal) x0 x1 x2 (ix2 e k) : EReal) = mixRow x0 x1 x2 e k := by
  unfold k0_pay8
  pointwise
  rfl

theorem pay11_apply (e : Fin 512) (k : Fin 1024) : (k0_pay11 (F := Ideal) x3 (ix2 e k) : EReal) = gated (x3 (ix2 e k)) := by
  unfold k0_pay11 k0_pay10 k0_pay9
  pointwise
  rfl

theorem pay12_apply (e : Fin 512) (k : Fin 1024) : (k0_pay12 (F := Ideal) x0 x1 x2 x3 (ix2 e k) : EReal) = gatedRow x0 x1 x2 x3 e k := by
  unfold k0_pay12
  pointwise
  rw [pay8_apply, pay11_apply]
  rfl

theorem pay13_apply (e : Fin 512) (k : Fin 1024) : (k0_pay13 (F := Ideal) x0 x1 x2 x3 x6 (ix2 e k) : EReal) = outRow x0 x1 x2 x3 x6 e k := by
  unfold k0_pay13
  pointwise
  simp only [pay12_apply]
  rfl

theorem pay14_apply (e : Fin 512) : (k0_pay14 (F := Ideal) x0 x1 x2 x3 x6 (ix2 e 0) : EReal) = scale (outRow x0 x1 x2 x3 x6 e) := by
  unfold k0_pay14
  pointwise
  simp only [pay13_apply]
  rfl

theorem pay15_apply (e : Fin 512) (k : Fin 1024) : (k0_pay15 (F := Ideal) x0 x1 x2 x3 x6 (ix2 e k) : EReal) = unitRow (outRow x0 x1 x2 x3 x6 e) k := by
  unfold k0_pay15
  pointwise
  rw [pay13_apply, pay14_apply]
  rfl

/-- The rows' distances from their targets, as the body has them. -/
abbrev err : FVec Ideal S512x1024 .f32 := k0_pay16 x0 x1 x2 x3 x6 x7 x4 x5

theorem err_apply (e : Fin 512) (k : Fin 1024) : (err x0 x1 x2 x3 x4 x5 x6 x7 (ix2 e k) : EReal) = errRow x0 x1 x2 x3 x4 x5 x6 x7 e k := by
  unfold err k0_pay16
  pointwise
  rw [pay15_apply]
  rfl

theorem pay18_apply (e : Fin 512) (k : Fin 1024) : (k0_pay18 (err x0 x1 x2 x3 x4 x5 x6 x7) (ix2 e k) : EReal) = gradZ x0 x1 x2 x3 x4 x5 x6 x7 e k := by
  unfold k0_pay18
  pointwise
  rw [err_apply]
  rfl

theorem pay19_apply (e : Fin 512) (k : Fin 1024) : (k0_pay19 (err x0 x1 x2 x3 x4 x5 x6 x7) (ix2 e k) : EReal) = gradZ x0 x1 x2 x3 x4 x5 x6 x7 e k := by
  unfold k0_pay19
  pointwise
  rw [pay18_apply]

/-- The gradient of the projection's output, as the body has it. -/
abbrev dOut : FVec Ideal S512x1024 .bf16 :=
  k0_pay21 (k0_pay14 x0 x1 x2 x3 x6) (k0_pay15 x0 x1 x2 x3 x6) x7 (err x0 x1 x2 x3 x4 x5 x6 x7)

theorem dOut_apply (e : Fin 512) (k : Fin 1024) : (dOut x0 x1 x2 x3 x4 x5 x6 x7 (ix2 e k) : EReal) = gradOut x0 x1 x2 x3 x4 x5 x6 x7 e k := by
  unfold dOut k0_pay21
  pointwise
  simp only [pay14_apply, pay15_apply, pay18_apply]
  rfl

theorem pay2_apply (e : Fin 512) (l : Fin 1024) : (k0_pay2 x6 (dOut x0 x1 x2 x3 x4 x5 x6 x7) (ix2 e l) : EReal) = gradIn x0 x1 x2 x3 x4 x5 x6 x7 e l := by
  unfold k0_pay2
  pointwise
  simp only [dOut_apply]
  rfl

theorem pay3_apply (e : Fin 512) (l : Fin 1024) :
    (k0_pay3 (k0_pay11 x3) x6 (dOut x0 x1 x2 x3 x4 x5 x6 x7) (ix2 e l) : EReal) = gradMix x0 x1 x2 x3 x4 x5 x6 x7 e l := by
  unfold k0_pay3
  pointwise
  rw [pay2_apply, pay11_apply]
  rfl

theorem pay4_apply (e : Fin 512) (l : Fin 1024) :
    (k0_pay4 (k0_pay8 x0 x1 x2) (k0_pay9 x3) (k0_pay10 x3) x6 (dOut x0 x1 x2 x3 x4 x5 x6 x7) (ix2 e l) : EReal) = gradGate x0 x1 x2 x3 x4 x5 x6 x7 e l := by
  unfold k0_pay4 k0_pay10 k0_pay9
  pointwise
  rw [pay2_apply, pay8_apply]
  rfl

theorem pay1_apply (X : Vec Ideal S1024x1024 .f32) (l k : Fin 1024) :
    (k0_pay1 (k0_pay12 x0 x1 x2 x3) (dOut x0 x1 x2 x3 x4 x5 x6 x7) (k0_pay22 X) (ix2 l k) : EReal)
      = X (ix2 l k) + ∑ e : Fin 512, termW x0 x1 x2 x3 x4 x5 x6 x7 e l k := by
  unfold k0_pay1 k0_pay22
  pointwise
  simp only [pay12_apply, dOut_apply]
  rfl

theorem pay20_apply (X : Vec Ideal S1x1024 .f32) (k : Fin 1024) :
    (k0_pay20 (k0_pay15 x0 x1 x2 x3 x6) (err x0 x1 x2 x3 x4 x5 x6 x7) X (ix2 0 k) : EReal)
      = X (ix2 0 k) + ∑ e : Fin 512, termG x0 x1 x2 x3 x4 x5 x6 x7 e k := by
  unfold k0_pay20
  pointwise
  simp only [pay15_apply, pay18_apply]
  rfl

theorem pay17_apply (X : Vec Ideal S1x128 .f32) (q : Fin 128) :
    (k0_pay17 (err x0 x1 x2 x3 x4 x5 x6 x7) X (ix2 0 q) : EReal)
      = X (ix2 0 q) + ∑ e : Fin 512, Ideal.ofBits .f32 0x3F000000#32 * lossRow x0 x1 x2 x3 x4 x5 x6 x7 e := by
  unfold k0_pay17
  pointwise
  simp only [err_apply]
  rw [← half_sum]
  rfl

end Payloads

section Outs

variable (c : Dev nD) (i : grid0.Coords) (arg1 : Memref sig .tc .vmem S512x384 .bf16) (harg1 : arg1.IsWhole) (arg2 : Memref sig .tc .vmem S512x384 .bf16) (harg2 : arg2.IsWhole) (arg3 : Memref sig .tc .vmem S512x256 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .f32) (harg12 : arg12.IsWhole) (arg13 : Memref sig .tc .vmem S1x1024 .f32) (harg13 : arg13.IsWhole) (arg14 : Memref sig .tc .vmem S1x128 .f32) (harg14 : arg14.IsWhole)
  (x0 x1 : Vec Ideal S512x384 .bf16) (x2 : Vec Ideal S512x256 .bf16) (x3 : Vec Ideal S512x1024 .bf16) (x4 x5 : Vec Ideal S512x1024 .f32)
  (x6 : Vec Ideal S1024x1024 .bf16) (x7 : Vec Ideal S1x1024 .f32) (xo11 : Vec Ideal S1024x1024 .f32) (xo12 : Vec Ideal S1x1024 .f32) (xo13 : Vec Ideal S1x128 .f32)

theorem out8_A (hc0 : cond0_0 i) (e : Fin 512) (k : Fin 1024) :
    (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 e k) : EReal)
      = gradZ x0 x1 x2 x3 x4 x5 x6 x7 e k := by
  frame_out
  exact pay19_apply x0 x1 x2 x3 x4 x5 x6 x7 e k

theorem out8_B (hc0 : ¬cond0_0 i) (e : Fin 512) (k : Fin 1024) :
    (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xo12 xo13 (ix2 e k) : EReal)
      = gradZ x0 x1 x2 x3 x4 x5 x6 x7 e k := by
  frame_out
  exact pay19_apply x0 x1 x2 x3 x4 x5 x6 x7 e k

theorem out9_A (hc0 : cond0_0 i) (e : Fin 512) (k : Fin 1024) :
    (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 e k) : EReal)
      = gradMix x0 x1 x2 x3 x4 x5 x6 x7 e k := by
  frame_out
  exact pay3_apply x0 x1 x2 x3 x4 x5 x6 x7 e k

theorem out9_B (hc0 : ¬cond0_0 i) (e : Fin 512) (k : Fin 1024) :
    (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xo12 xo13 (ix2 e k) : EReal)
      = gradMix x0 x1 x2 x3 x4 x5 x6 x7 e k := by
  frame_out
  exact pay3_apply x0 x1 x2 x3 x4 x5 x6 x7 e k

theorem out10_A (hc0 : cond0_0 i) (e : Fin 512) (k : Fin 1024) :
    (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 e k) : EReal)
      = gradGate x0 x1 x2 x3 x4 x5 x6 x7 e k := by
  frame_out
  exact pay4_apply x0 x1 x2 x3 x4 x5 x6 x7 e k

theorem out10_B (hc0 : ¬cond0_0 i) (e : Fin 512) (k : Fin 1024) :
    (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xo12 xo13 (ix2 e k) : EReal)
      = gradGate x0 x1 x2 x3 x4 x5 x6 x7 e k := by
  frame_out
  exact pay4_apply x0 x1 x2 x3 x4 x5 x6 x7 e k

theorem out11_A (hc0 : cond0_0 i) (l k : Fin 1024) :
    (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 l k) : EReal)
      = ∑ e : Fin 512, termW x0 x1 x2 x3 x4 x5 x6 x7 e l k := by
  frame_out
  refine (pay1_apply x0 x1 x2 x3 x4 x5 x6 x7 _ l k).trans ?_
  unfold k0_pay5
  pointwise

theorem out11_B (hc0 : ¬cond0_0 i) (l k : Fin 1024) :
    (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xo12 xo13 (ix2 l k) : EReal)
      = xo11 (ix2 l k) + ∑ e : Fin 512, termW x0 x1 x2 x3 x4 x5 x6 x7 e l k := by
  frame_out
  exact pay1_apply x0 x1 x2 x3 x4 x5 x6 x7 _ l k

theorem out12_A (hc0 : cond0_0 i) (k : Fin 1024) :
    (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 k) : EReal)
      = ∑ e : Fin 512, termG x0 x1 x2 x3 x4 x5 x6 x7 e k := by
  frame_out
  refine (pay20_apply x0 x1 x2 x3 x4 x5 x6 x7 _ k).trans ?_
  unfold k0_pay6
  pointwise

theorem out12_B (hc0 : ¬cond0_0 i) (k : Fin 1024) :
    (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xo12 xo13 (ix2 0 k) : EReal)
      = xo12 (ix2 0 k) + ∑ e : Fin 512, termG x0 x1 x2 x3 x4 x5 x6 x7 e k := by
  frame_out
  exact pay20_apply x0 x1 x2 x3 x4 x5 x6 x7 _ k

theorem out13_A (hc0 : cond0_0 i) (q : Fin 128) :
    (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 q) : EReal)
      = ∑ e : Fin 512, Ideal.ofBits .f32 0x3F000000#32 * lossRow x0 x1 x2 x3 x4 x5 x6 x7 e := by
  frame_out
  refine (pay17_apply x0 x1 x2 x3 x4 x5 x6 x7 _ q).trans ?_
  unfold k0_pay7
  pointwise

theorem out13_B (hc0 : ¬cond0_0 i) (q : Fin 128) :
    (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xo12 xo13 (ix2 0 q) : EReal)
      = xo13 (ix2 0 q) + ∑ e : Fin 512, Ideal.ofBits .f32 0x3F000000#32 * lossRow x0 x1 x2 x3 x4 x5 x6 x7 e := by
  frame_out
  exact pay17_apply x0 x1 x2 x3 x4 x5 x6 x7 _ q

end Outs

end Cert.TailProof

end
-- ==== Proof.TailBlocks.lean ====
/-
The output projection and loss over the whole grid at exact float values: the call's six result arrays.
-/
module

public import proofs.«01_k».proof.Proof.TailPoint

@[expose] public section

set_option maxRecDepth 16384

noncomputable section

namespace Cert.TailProof

open Idealize.ShloMosaic Idealize.ShloMosaic.TcCoe Idealize.SL.Sem
open Cert.TailIdeal Cert.TailIdeal.Gen

/-- Row `e` of the tile of point `t`. -/
abbrev at_ (t : Fin cfg0.N) (e : Fin 512) : Fin 8192 := ⟨t.val * 512 + e.val, by have : t.val < 16 := t.isLt; omega⟩

/-- The rows of point `t`. -/
abbrev tile {n : ℕ} (x : (⟨2, ![8192, n]⟩ : Shape).Idx → EReal) (t : Fin cfg0.N) : (⟨2, ![512, n]⟩ : Shape).Idx → EReal := fun j => x (ix2 (at_ t (j 0)) (j 1))

theorem idx : ∀ t : Fin cfg0.N, win0_0.index t = ![t.val, 0] ∧ win0_1.index t = ![t.val, 0] ∧ win0_2.index t = ![t.val, 0] ∧ win0_3.index t = ![t.val, 1]
    ∧ win0_4.index t = ![t.val, 0] ∧ win0_5.index t = ![t.val, 0] ∧ win0_6.index t = ![0, 0] ∧ win0_7.index t = ![0, 0] :=
  (by decide +kernel : ∀ t : Fin grid0.N, _)

theorem idx_out : ∀ t : Fin cfg0.N, win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ) (c : Dev nD)

section Blocks

variable (t : Fin cfg0.N)

theorem block0 : (iblk m c 0 t : Vec Ideal S512x384 .bf16) = tile (m ((c : Thread nD τ).loc main_arg0)) t := by
  blk_ext! [iblk, V, idx t]

theorem block1 : (iblk m c 1 t : Vec Ideal S512x384 .bf16) = tile (m ((c : Thread nD τ).loc main_arg1)) t := by
  blk_ext! [iblk, V, idx t]

theorem block2 : (iblk m c 2 t : Vec Ideal S512x256 .bf16) = tile (m ((c : Thread nD τ).loc main_arg2)) t := by
  blk_ext! [iblk, V, idx t]

theorem block3 : (iblk m c 3 t : Vec Ideal S512x1024 .bf16) = tile (rightHalf (m ((c : Thread nD τ).loc main_arg3))) t := by
  blk_ext! [iblk, V, idx t]

theorem block4 : (iblk m c 4 t : Vec Ideal S512x1024 .f32) = tile (m ((c : Thread nD τ).loc main_arg4)) t := by
  blk_ext! [iblk, V, idx t]

theorem block5 : (iblk m c 5 t : Vec Ideal S512x1024 .f32) = tile (m ((c : Thread nD τ).loc main_arg5)) t := by
  blk_ext! [iblk, V, idx t]

theorem block6 : (iblk m c 6 t : Vec Ideal S1024x1024 .bf16) = m ((c : Thread nD τ).loc main_arg6) := by
  blk_ext! [iblk, V, idx t]

theorem block7 : (iblk m c 7 t : Vec Ideal S1x1024 .f32) = m ((c : Thread nD τ).loc main_arg7) := by
  blk_ext! [iblk, V, idx t]

end Blocks

/-- What the call computes. -/
abbrev resZ : Vec Ideal S8192x1024 .bf16 := fun j => gradZ (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (j 0) (j 1)

abbrev resMix : Vec Ideal S8192x1024 .bf16 := fun j => gradMix (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (j 0) (j 1)

abbrev resGate : Vec Ideal S8192x1024 .bf16 := fun j => gradGate (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (j 0) (j 1)

abbrev resW : Vec Ideal S1024x1024 .f32 := fun j => ∑ r : Fin 8192, termW (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) r (j 0) (j 1)

abbrev resG : Vec Ideal S1x1024 .f32 := fun j => ∑ r : Fin 8192, termG (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) r (j 1)

abbrev resLoss : Vec Ideal S1x128 .f32 := fun _ => ∑ r : Fin 8192, Ideal.ofBits .f32 0x3F000000#32 * lossRow (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) r

section Many

variable (x0 x1 : (⟨2, ![8192, 384]⟩ : Shape).Idx → EReal) (x2 : (⟨2, ![8192, 256]⟩ : Shape).Idx → EReal)
  (x3 x4 x5 : (⟨2, ![8192, 1024]⟩ : Shape).Idx → EReal) (x6 : (⟨2, ![1024, 1024]⟩ : Shape).Idx → EReal) (x7 : (⟨2, ![1, 1024]⟩ : Shape).Idx → EReal)
  (t : Fin cfg0.N) (e : Fin 512)

theorem gradZ_tile (k : Fin 1024) : gradZ (tile x0 t) (tile x1 t) (tile x2 t) (tile x3 t) (tile x4 t) (tile x5 t) x6 x7 e k
    = gradZ x0 x1 x2 x3 x4 x5 x6 x7 (at_ t e) k := rfl

theorem gradMix_tile (k : Fin 1024) : gradMix (tile x0 t) (tile x1 t) (tile x2 t) (tile x3 t) (tile x4 t) (tile x5 t) x6 x7 e k
    = gradMix x0 x1 x2 x3 x4 x5 x6 x7 (at_ t e) k := rfl

theorem gradGate_tile (k : Fin 1024) : gradGate (tile x0 t) (tile x1 t) (tile x2 t) (tile x3 t) (tile x4 t) (tile x5 t) x6 x7 e k
    = gradGate x0 x1 x2 x3 x4 x5 x6 x7 (at_ t e) k := rfl

theorem termW_tile (l k : Fin 1024) : termW (tile x0 t) (tile x1 t) (tile x2 t) (tile x3 t) (tile x4 t) (tile x5 t) x6 x7 e l k
    = termW x0 x1 x2 x3 x4 x5 x6 x7 (at_ t e) l k := rfl

theorem termG_tile (k : Fin 1024) : termG (tile x0 t) (tile x1 t) (tile x2 t) (tile x3 t) (tile x4 t) (tile x5 t) x6 x7 e k
    = termG x0 x1 x2 x3 x4 x5 x6 x7 (at_ t e) k := rfl

theorem lossRow_tile : lossRow (tile x0 t) (tile x1 t) (tile x2 t) (tile x3 t) (tile x4 t) (tile x5 t) x6 x7 e
    = lossRow x0 x1 x2 x3 x4 x5 x6 x7 (at_ t e) := rfl

end Many

/-- After point `t` the row results' blocks hold what is theirs of the point's rows. -/
theorem point (t : Fin cfg0.N) (e : Fin 512) (k : Fin 1024) :
    ((outsAt0 m c t.val t.isLt).1 (ix2 e k) : EReal) = resZ m c (ix2 (at_ t e) k)
    ∧ ((outsAt0 m c t.val t.isLt).2.1 (ix2 e k) : EReal) = resMix m c (ix2 (at_ t e) k)
    ∧ ((outsAt0 m c t.val t.isLt).2.2.1 (ix2 e k) : EReal) = resGate m c (ix2 (at_ t e) k) := by
  by_cases h : t.val % 16 = 0
  · rw [outsAt0_A m c t h]
    dsimp only
    rw [out8_A, out9_A, out10_A, block0, block1, block2, block3, block4, block5, block6, block7]
    exact ⟨gradZ_tile _ _ _ _ _ _ _ _ t e k, gradMix_tile _ _ _ _ _ _ _ _ t e k, gradGate_tile _ _ _ _ _ _ _ _ t e k⟩
  · rw [outsAt0_B m c t h]
    dsimp only
    rw [out8_B, out9_B, out10_B, block0, block1, block2, block3, block4, block5, block6, block7]
    exact ⟨gradZ_tile _ _ _ _ _ _ _ _ t e k, gradMix_tile _ _ _ _ _ _ _ _ t e k, gradGate_tile _ _ _ _ _ _ _ _ t e k⟩

/-- A block of the rows' results, entry by entry: `f` what the block holds, `g` the whole array, `v` where the entry lies in it. -/
theorem entry_eq (f : S512x1024.Idx → EReal) (g : S8192x1024.Idx → EReal) (t : Fin cfg0.N) (h : ∀ (e : Fin 512) (k : Fin 1024), f (ix2 e k) = g (ix2 (at_ t e) k))
    (y y' : S512x1024.Idx) (v : S8192x1024.Idx) (hy : ∀ a, (y' a).val = (y a).val) (h0 : (v 0).val = t.val * 512 + (y 0).val) (h1 : (v 1).val = (y 1).val) :
    f y' = g v := by
  have hy' : y' = ix2 (n0 := 512) (n1 := 1024) (y 0) (y 1) := by
    funext a
    match a with
    | ⟨0, _⟩ => exact Fin.ext (hy 0)
    | ⟨1, _⟩ => exact Fin.ext (hy 1)
  have hv : v = ix2 (n0 := 8192) (n1 := 1024) (at_ t (y 0)) (y 1) := by
    funext a
    match a with
    | ⟨0, _⟩ => exact Fin.ext h0
    | ⟨1, _⟩ => exact Fin.ext h1
  rw [hy', hv]
  exact h _ _

/-- The point whose block holds a row. -/
abbrev pointOf (i : S8192x1024.Idx) : Fin cfg0.N := ⟨(i 0).val / 512, by have : (i 0).val < 8192 := (i 0).isLt; show _ < 16; omega⟩

theorem pointOf_le (i : S8192x1024.Idx) : (pointOf i).val * 512 ≤ (i 0).val ∧ (i 0).val < (pointOf i).val * 512 + 512 := by
  show (i 0).val / 512 * 512 ≤ (i 0).val ∧ (i 0).val < (i 0).val / 512 * 512 + 512
  omega

theorem final8 : (dats m 0 c).arrAt 8 cfg0.N = resZ m c := by
  refine (dats m 0 c).arrAt_eq_of_cover 8 (resZ m c) (fun t _ => funext fun y => ?_) fun i => ⟨pointOf i, flush0_8 _, ?_⟩
  · rw [Value.flushed8]
    blk_simp
    exact entry_eq _ (resZ m c) t (fun e k => (point m c t e k).1) y _ _ (fun _ => rfl)
      ((Pipeline.Window.rect_emb_val win0_8 t y (0 : Fin 2)).trans (congrArg (· + _) (congrArg (· * 512) (congrFun (idx_out t).1 0))))
      (Pipeline.Window.rect_emb_val_of_index_zero win0_8 t (1 : Fin 2) (congrFun (idx_out t).1 1) y)
  · have : (i 1).val < 1024 := (i 1).isLt
    mem_blk [idx_out]
    exact ⟨pointOf_le i, Nat.zero_le _, this⟩

theorem final9 : (dats m 0 c).arrAt 9 cfg0.N = resMix m c := by
  refine (dats m 0 c).arrAt_eq_of_cover 9 (resMix m c) (fun t _ => funext fun y => ?_) fun i => ⟨pointOf i, flush0_9 _, ?_⟩
  · rw [Value.flushed9]
    blk_simp
    exact entry_eq _ (resMix m c) t (fun e k => (point m c t e k).2.1) y _ _ (fun _ => rfl)
      ((Pipeline.Window.rect_emb_val win0_9 t y (0 : Fin 2)).trans (congrArg (· + _) (congrArg (· * 512) (congrFun (idx_out t).2.1 0))))
      (Pipeline.Window.rect_emb_val_of_index_zero win0_9 t (1 : Fin 2) (congrFun (idx_out t).2.1 1) y)
  · have : (i 1).val < 1024 := (i 1).isLt
    mem_blk [idx_out]
    exact ⟨pointOf_le i, Nat.zero_le _, this⟩

theorem final10 : (dats m 0 c).arrAt 10 cfg0.N = resGate m c := by
  refine (dats m 0 c).arrAt_eq_of_cover 10 (resGate m c) (fun t _ => funext fun y => ?_) fun i => ⟨pointOf i, flush0_10 _, ?_⟩
  · rw [Value.flushed10]
    blk_simp
    exact entry_eq _ (resGate m c) t (fun e k => (point m c t e k).2.2) y _ _ (fun _ => rfl)
      ((Pipeline.Window.rect_emb_val win0_10 t y (0 : Fin 2)).trans (congrArg (· + _) (congrArg (· * 512) (congrFun (idx_out t).2.2 0))))
      (Pipeline.Window.rect_emb_val_of_index_zero win0_10 t (1 : Fin 2) (congrFun (idx_out t).2.2 1) y)
  · have : (i 1).val < 1024 := (i 1).isLt
    mem_blk [idx_out]
    exact ⟨pointOf_le i, Nat.zero_le _, this⟩

theorem first11 (t : Fin cfg0.N) (h : t.val % 16 = 0) (j : Fin 1024 × Fin 1024) : ((outsAt0 m c t.val t.isLt).2.2.2.1 (ix2 j.1 j.2) : EReal)
    = 0 + ∑ e : Fin 512, termW (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (at_ t e) j.1 j.2 := by
  rw [outsAt0_A m c t h]
  dsimp only
  rw [out11_A, block0, block1, block2, block3, block4, block5, block6, block7, zero_add]
  exact Finset.sum_congr rfl fun e _ => termW_tile _ _ _ _ _ _ _ _ t e _ _

theorem next11 (t : Fin cfg0.N) (h : ¬t.val % 16 = 0) (j : Fin 1024 × Fin 1024) : ((outsAt0 m c t.val t.isLt).2.2.2.1 (ix2 j.1 j.2) : EReal)
    = (outsAt0 m c (t.val - 1) (Nat.lt_of_le_of_lt (Nat.sub_le _ _) t.isLt)).2.2.2.1 (ix2 j.1 j.2)
      + ∑ e : Fin 512, termW (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (at_ t e) j.1 j.2 := by
  rw [outsAt0_B m c t h]
  dsimp only
  rw [out11_B, block0, block1, block2, block3, block4, block5, block6, block7]
  exact congrArg₂ (fun a b : EReal => a + b) rfl (Finset.sum_congr rfl fun e _ => termW_tile _ _ _ _ _ _ _ _ t e _ _)

theorem first12 (t : Fin cfg0.N) (h : t.val % 16 = 0) (k : Fin 1024) : ((outsAt0 m c t.val t.isLt).2.2.2.2.1 (ix2 0 k) : EReal)
    = 0 + ∑ e : Fin 512, termG (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (at_ t e) k := by
  rw [outsAt0_A m c t h]
  dsimp only
  rw [out12_A, block0, block1, block2, block3, block4, block5, block6, block7, zero_add]
  exact Finset.sum_congr rfl fun e _ => termG_tile _ _ _ _ _ _ _ _ t e _

theorem next12 (t : Fin cfg0.N) (h : ¬t.val % 16 = 0) (k : Fin 1024) : ((outsAt0 m c t.val t.isLt).2.2.2.2.1 (ix2 0 k) : EReal)
    = (outsAt0 m c (t.val - 1) (Nat.lt_of_le_of_lt (Nat.sub_le _ _) t.isLt)).2.2.2.2.1 (ix2 0 k)
      + ∑ e : Fin 512, termG (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (at_ t e) k := by
  rw [outsAt0_B m c t h]
  dsimp only
  rw [out12_B, block0, block1, block2, block3, block4, block5, block6, block7]
  exact congrArg₂ (fun a b : EReal => a + b) rfl (Finset.sum_congr rfl fun e _ => termG_tile _ _ _ _ _ _ _ _ t e _)

theorem first13 (t : Fin cfg0.N) (h : t.val % 16 = 0) (q : Fin 128) : ((outsAt0 m c t.val t.isLt).2.2.2.2.2 (ix2 0 q) : EReal)
    = 0 + ∑ e : Fin 512, Ideal.ofBits .f32 0x3F000000#32 * lossRow (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (at_ t e) := by
  rw [outsAt0_A m c t h]
  dsimp only
  rw [out13_A, block0, block1, block2, block3, block4, block5, block6, block7, zero_add]
  exact Finset.sum_congr rfl fun e _ => congrArg _ (lossRow_tile _ _ _ _ _ _ _ _ t e)

theorem next13 (t : Fin cfg0.N) (h : ¬t.val % 16 = 0) (q : Fin 128) : ((outsAt0 m c t.val t.isLt).2.2.2.2.2 (ix2 0 q) : EReal)
    = (outsAt0 m c (t.val - 1) (Nat.lt_of_le_of_lt (Nat.sub_le _ _) t.isLt)).2.2.2.2.2 (ix2 0 q)
      + ∑ e : Fin 512, Ideal.ofBits .f32 0x3F000000#32 * lossRow (m ((c : Thread nD τ).loc main_arg0)) (m ((c : Thread nD τ).loc main_arg1)) (m ((c : Thread nD τ).loc main_arg2)) (rightHalf (m ((c : Thread nD τ).loc main_arg3))) (m ((c : Thread nD τ).loc main_arg4)) (m ((c : Thread nD τ).loc main_arg5)) (m ((c : Thread nD τ).loc main_arg6)) (m ((c : Thread nD τ).loc main_arg7)) (at_ t e) := by
  rw [outsAt0_B m c t h]
  dsimp only
  rw [out13_B, block0, block1, block2, block3, block4, block5, block6, block7]
  exact congrArg₂ (fun a b : EReal => a + b) rfl (Finset.sum_congr rfl fun e _ => congrArg _ (lossRow_tile _ _ _ _ _ _ _ _ t e))

theorem total11 (j : Fin 1024 × Fin 1024) : ((outsAt0 m c t0_15.val t0_15.isLt).2.2.2.1 (ix2 j.1 j.2) : EReal) = resW m c (ix2 j.1 j.2) := by
  refine (Pipeline.eq_sum_fin_of_reset_step_apply_last (fun n hn (j : Fin 1024 × Fin 1024) => ((outsAt0 m c n hn).2.2.2.1 (ix2 j.1 j.2) : EReal)) 16
    (fun _ => 0) _ (first11 m c) (next11 m c) (le_of_eq N_0) t0_15 N_0.symm j).trans ?_
  rw [zero_add]
  exact Fin.sum_mul_add_congr fun t e hl => rfl

theorem total12 (k : Fin 1024) : ((outsAt0 m c t0_15.val t0_15.isLt).2.2.2.2.1 (ix2 0 k) : EReal) = resG m c (ix2 0 k) := by
  refine (Pipeline.eq_sum_fin_of_reset_step_apply_last (fun n hn (k : Fin 1024) => ((outsAt0 m c n hn).2.2.2.2.1 (ix2 0 k) : EReal)) 16
    (fun _ => 0) _ (first12 m c) (next12 m c) (le_of_eq N_0) t0_15 N_0.symm k).trans ?_
  rw [zero_add]
  exact Fin.sum_mul_add_congr fun t e hl => rfl

theorem total13 (q : Fin 128) : ((outsAt0 m c t0_15.val t0_15.isLt).2.2.2.2.2 (ix2 0 q) : EReal) = resLoss m c (ix2 0 q) := by
  refine (Pipeline.eq_sum_fin_of_reset_step_apply_last (fun n hn (q : Fin 128) => ((outsAt0 m c n hn).2.2.2.2.2 (ix2 0 q) : EReal)) 16
    (fun _ => 0) _ (first13 m c) (next13 m c) (le_of_eq N_0) t0_15 N_0.symm q).trans ?_
  rw [zero_add]
  exact Fin.sum_mul_add_congr fun t e hl => rfl

/-- A row of a matrix that has one. -/
theorem only_row {n : ℕ} (j : (⟨2, ![1, n]⟩ : Shape).Idx) : ix2 (0 : Fin 1) (j 1 : Fin n) = j := by
  funext a
  match a with
  | ⟨0, _⟩ => exact Subsingleton.elim (α := Fin 1) _ _
  | ⟨1, _⟩ => rfl

theorem final11 : (dats m 0 c).arrAt 11 cfg0.N = resW m c := by
  refine (dats m 0 c).arrAt_eq_of_after_last 11 t0_15 (by decide +kernel) (resW m c) fun j => ?_
  rw [after0_11]
  blk_simp
  exact (congrArg (outsAt0 m c t0_15.val t0_15.isLt).2.2.2.1 (ix2_eta (n0 := 1024) (n1 := 1024) j).symm).trans
    ((total11 m c (j 0, j 1)).trans (congrArg (resW m c) (ix2_eta (n0 := 1024) (n1 := 1024) j)))

theorem final12 : (dats m 0 c).arrAt 12 cfg0.N = resG m c := by
  refine (dats m 0 c).arrAt_eq_of_after_last 12 t0_15 (by decide +kernel) (resG m c) fun j => ?_
  rw [after0_12]
  blk_simp
  exact (congrArg (outsAt0 m c t0_15.val t0_15.isLt).2.2.2.2.1 (only_row (n := 1024) j).symm).trans ((total12 m c (j 1)).trans (congrArg (resG m c) (only_row (n := 1024) j)))

theorem final13 : (dats m 0 c).arrAt 13 cfg0.N = resLoss m c := by
  refine (dats m 0 c).arrAt_eq_of_after_last 13 t0_15 (by decide +kernel) (resLoss m c) fun j => ?_
  rw [after0_13]
  blk_simp
  exact (congrArg (outsAt0 m c t0_15.val t0_15.isLt).2.2.2.2.2 (only_row (n := 128) j).symm).trans ((total13 m c (j 1)).trans (congrArg (resLoss m c) (only_row (n := 128) j)))

end Cert.TailProof

end
-- ==== Proof.TailRef.lean ====
/-
The reference of the output projection and loss at exact float values: its six results.
-/
module

public import proofs.«01_k».proof.Proof.Gen.TailRefIdeal.Run
public import proofs.«01_k».proof.Proof.TailRows
public import Idealize.ShloMosaic.Lib.Pointwise.Reduce

@[expose] public section

set_option maxRecDepth 16384

noncomputable section

namespace Cert.TailProof.Ref

open Idealize.ShloMosaic Idealize.ShloMosaic.TcCoe Idealize.SL.Sem
open Cert.TailRefIdeal Cert.TailRefIdeal.Gen Cert.TailProof
open Cert.BackProof (row scale unitRow)

variable (x0 x1 : FVec Ideal S8192x384 .bf16) (x2 : FVec Ideal S8192x256 .bf16) (x3 : FVec Ideal S8192x2048 .bf16) (x4 x5 : FVec Ideal S8192x1024 .f32)
  (x6 : FVec Ideal S1024x1024 .bf16) (x7 : FVec Ideal S1x1024 .f32)

abbrev mixes : FVec Ideal S8192x1024 .f32 :=
  concatenate S8192x1024 1 [⟨S8192x384, ((extf .f32 x0 bitsLt_bf16_f32) : (⟨S8192x384, .f32⟩ : BufTy).Contents (Elt Ideal))⟩,
    ⟨S8192x384, ((extf .f32 x1 bitsLt_bf16_f32) : (⟨S8192x384, .f32⟩ : BufTy).Contents (Elt Ideal))⟩,
    ⟨S8192x256, ((extf .f32 x2 bitsLt_bf16_f32) : (⟨S8192x256, .f32⟩ : BufTy).Contents (Elt Ideal))⟩] concatenates_S8192x384_S8192x384_S8192x256_S8192x1024_d1

theorem mixes_apply (e : Fin 8192) (k : Fin 1024) : (mixes x0 x1 x2 (ix2 e k) : EReal) = mixRow x0 x1 x2 e k := by
  unfold mixes
  pointwise
  rfl

abbrev gates : FVec Ideal S8192x1024 .f32 := extractStridedSlice S8192x1024 ![0, 1024] (extf .f32 x3 bitsLt_bf16_f32) slices_S8192x2048_S8192x1024_0_1024

theorem gates_apply (e : Fin 8192) (k : Fin 1024) : (gates x3 (ix2 e k) : EReal) = rightHalf x3 (ix2 e k) := by
  unfold gates
  pointwise
  rfl

abbrev ones : FVec Ideal S8192x1024 .f32 := broadcastInDim S8192x1024 ![] bcast_S_S8192x1024 (constant S_ .f32 0x3F800000#32)

abbrev sigmoids : FVec Ideal S8192x1024 .f32 := Host.divf ones (addf ones (Host.exp (Host.negf (gates x3))))

theorem sigmoids_apply (e : Fin 8192) (k : Fin 1024) : (sigmoids x3 (ix2 e k) : EReal) = Ideal.logistic (rightHalf x3 (ix2 e k)) := by
  have h := gates_apply x3 e k
  unfold sigmoids ones
  generalize gates x3 = g at h
  pointwise
  rw [h]
  rfl

abbrev gateds : FVec Ideal S8192x1024 .f32 := mulf (gates x3) (sigmoids x3)

theorem gateds_apply (e : Fin 8192) (k : Fin 1024) : (gateds x3 (ix2 e k) : EReal) = gated (rightHalf x3 (ix2 e k)) := by
  have h := gates_apply x3 e k
  have hs := sigmoids_apply x3 e k
  unfold gateds
  generalize gates x3 = g at h
  generalize sigmoids x3 = s at hs
  pointwise
  rw [h, hs]
  rfl

abbrev ins : FVec Ideal S8192x1024 .f32 := mulf (mixes x0 x1 x2) (gateds x3)

theorem ins_apply (e : Fin 8192) (k : Fin 1024) : (ins x0 x1 x2 x3 (ix2 e k) : EReal) = gatedRow x0 x1 x2 (rightHalf x3) e k := by
  have h := mixes_apply x0 x1 x2 e k
  have hg := gateds_apply x3 e k
  unfold ins
  generalize mixes x0 x1 x2 = a at h
  generalize gateds x3 = g at hg
  pointwise
  rw [h, hg]
  rfl

abbrev weights : FVec Ideal S1024x1024 .f32 := extf .f32 x6 bitsLt_bf16_f32

abbrev outs : FVec Ideal S8192x1024 .f32 := Host.dotGeneral dot_S8192x1024_S1024x1024_S8192x1024_1_0_0_1_n_n none (ins x0 x1 x2 x3) (weights x6)

theorem outs_apply (e : Fin 8192) (k : Fin 1024) : (outs x0 x1 x2 x3 x6 (ix2 e k) : EReal) = outRow x0 x1 x2 (rightHalf x3) x6 e k := by
  have h := ins_apply x0 x1 x2 x3 e
  unfold outs
  generalize ins x0 x1 x2 x3 = a at h
  pointwise
  simp only [h]
  rfl

/-- The mean of every row of a matrix. -/
abbrev means (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))

theorem means_apply (x : FVec Ideal S8192x1024 .f32) (e : Fin 8192) :
    (means x (ix2 e 0) : EReal) = Ideal.div (∑ k : Fin 1024, x (ix2 e k)) (Ideal.ofBits .f32 0x44800000#32) := by
  unfold means
  pointwise

/-- Every column of a matrix the same. -/
abbrev spread (s : FVec Ideal S8192x1 .f32) : FVec Ideal S8192x1024 .f32 := broadcastInDim S8192x1024 ![0, 1] bcast_S8192x1_S8192x1024_0_1 s

/-- The rows scaled by one over their root mean square. -/
abbrev scales : FVec Ideal S8192x1 .f32 :=
  Host.rsqrt (addf (means (mulf (outs x0 x1 x2 x3 x6) (outs x0 x1 x2 x3 x6))) (broadcastInDim S8192x1 ![] bcast_S_S8192x1 (constant S_ .f32 0x358637BD#32)))

theorem scales_apply (e : Fin 8192) : (scales x0 x1 x2 x3 x6 (ix2 e 0) : EReal) = scale (outRow x0 x1 x2 (rightHalf x3) x6 e) := by
  have h := outs_apply x0 x1 x2 x3 x6 e
  unfold scales means
  generalize outs x0 x1 x2 x3 x6 = o at h
  pointwise
  simp only [h]
  rfl

abbrev units : FVec Ideal S8192x1024 .f32 := mulf (outs x0 x1 x2 x3 x6) (spread (scales x0 x1 x2 x3 x6))

theorem units_apply (e : Fin 8192) (k : Fin 1024) : (units x0 x1 x2 x3 x6 (ix2 e k) : EReal) = unitRow (outRow x0 x1 x2 (rightHalf x3) x6 e) k := by
  have h := outs_apply x0 x1 x2 x3 x6 e
  have hs := scales_apply x0 x1 x2 x3 x6 e
  unfold units spread
  generalize outs x0 x1 x2 x3 x6 = o at h
  generalize scales x0 x1 x2 x3 x6 = s at hs
  pointwise
  rw [h, hs]
  rfl

abbrev down : FVec Ideal S8192x1024 .f32 := broadcastInDim S8192x1024 ![0, 1] bcast_S1x1024_S8192x1024_0_1 x7

abbrev errs : FVec Ideal S8192x1024 .f32 := subf (addf x4 (mulf (units x0 x1 x2 x3 x6) (down x7))) x5

theorem errs_apply (e : Fin 8192) (k : Fin 1024) : (errs x0 x1 x2 x3 x4 x5 x6 x7 (ix2 e k) : EReal) = errRow x0 x1 x2 (rightHalf x3) x4 x5 x6 x7 e k := by
  have h := units_apply x0 x1 x2 x3 x6 e
  unfold errs down
  generalize units x0 x1 x2 x3 x6 = u at h
  pointwise
  rw [h]
  rfl

abbrev gradZs : FVec Ideal S8192x1024 .f32 :=
  Host.divf (errs x0 x1 x2 x3 x4 x5 x6 x7) (broadcastInDim S8192x1024 ![] bcast_S_S8192x1024 (constant S_ .f32 0x44800000#32))

theorem gradZs_apply (e : Fin 8192) (k : Fin 1024) : (gradZs x0 x1 x2 x3 x4 x5 x6 x7 (ix2 e k) : EReal) = gradZ x0 x1 x2 (rightHalf x3) x4 x5 x6 x7 e k := by
  have h := errs_apply x0 x1 x2 x3 x4 x5 x6 x7 e
  unfold gradZs
  generalize errs x0 x1 x2 x3 x4 x5 x6 x7 = d at h
  pointwise
  rw [h, div_1024]
  rfl

/-- The gradient of the normalised rows. -/
abbrev gradNs : FVec Ideal S8192x1024 .f32 := mulf (gradZs x0 x1 x2 x3 x4 x5 x6 x7) (down x7)

abbrev gradOuts : FVec Ideal S8192x1024 .f32 :=
  mulf (spread (scales x0 x1 x2 x3 x6)) (subf (gradNs x0 x1 x2 x3 x4 x5 x6 x7)
    (mulf (units x0 x1 x2 x3 x6) (spread (means (mulf (gradNs x0 x1 x2 x3 x4 x5 x6 x7) (units x0 x1 x2 x3 x6))))))

theorem gradOuts_apply (e : Fin 8192) (k : Fin 1024) : (gradOuts x0 x1 x2 x3 x4 x5 x6 x7 (ix2 e k) : EReal) = gradOut x0 x1 x2 (rightHalf x3) x4 x5 x6 x7 e k := by
  have hs := scales_apply x0 x1 x2 x3 x6 e
  have hu := units_apply x0 x1 x2 x3 x6 e
  have hz := gradZs_apply x0 x1 x2 x3 x4 x5 x6 x7 e
  unfold gradOuts gradNs spread means down
  generalize gradZs x0 x1 x2 x3 x4 x5 x6 x7 = z at hz
  generalize units x0 x1 x2 x3 x6 = u at hu
  generalize scales x0 x1 x2 x3 x6 = s at hs
  pointwise
  simp only [hs, hu, hz]
  rfl

abbrev gradIns : FVec Ideal S8192x1024 .f32 :=
  Host.dotGeneral dot_S8192x1024_S1024x1024_S8192x1024_1_0_0_1_n_n none (gradOuts x0 x1 x2 x3 x4 x5 x6 x7)
    (transpose S1024x1024 [1, 0] (weights x6) transposes_S1024x1024_S1024x1024_1_0)

theorem gradIns_apply (e : Fin 8192) (l : Fin 1024) : (gradIns x0 x1 x2 x3 x4 x5 x6 x7 (ix2 e l) : EReal) = gradIn x0 x1 x2 (rightHalf x3) x4 x5 x6 x7 e l := by
  have h := gradOuts_apply x0 x1 x2 x3 x4 x5 x6 x7 e
  unfold gradIns
  generalize gradOuts x0 x1 x2 x3 x4 x5 x6 x7 = o at h
  pointwise
  simp only [h]
  rfl

abbrev outZ : FVec Ideal S8192x1024 .bf16 := truncf .bf16 (gradZs x0 x1 x2 x3 x4 x5 x6 x7) bitsLt_bf16_f32

abbrev outMix : FVec Ideal S8192x1024 .bf16 := truncf .bf16 (mulf (gradIns x0 x1 x2 x3 x4 x5 x6 x7) (gateds x3)) bitsLt_bf16_f32

abbrev outGate : FVec Ideal S8192x1024 .bf16 :=
  truncf .bf16 (mulf (mulf (gradIns x0 x1 x2 x3 x4 x5 x6 x7) (mixes x0 x1 x2))
    (mulf (sigmoids x3) (addf ones (mulf (gates x3) (subf ones (sigmoids x3)))))) bitsLt_bf16_f32

abbrev outW : FVec Ideal S1024x1024 .f32 :=
  Host.dotGeneral dot_S1024x8192_S8192x1024_S1024x1024_1_0_0_1_n_n none (transpose S1024x8192 [1, 0] (ins x0 x1 x2 x3) transposes_S8192x1024_S1024x8192_1_0)
    (gradOuts x0 x1 x2 x3 x4 x5 x6 x7)

abbrev outG : FVec Ideal S1x1024 .f32 :=
  broadcastInDim S1x1024 ![1] bcast_S1024_S1x1024_1 (Host.reduceAdd (mulf (gradZs x0 x1 x2 x3 x4 x5 x6 x7) (units x0 x1 x2 x3 x6))
    (constant S_ .f32 0x00000000#32) reducesTo_S8192x1024_S1024_d0 h_S_)

abbrev outLoss : FVec Ideal S1x128 .f32 :=
  broadcastInDim S1x128 ![] bcast_S_S1x128 (mulf (constant S_ .f32 0x3F000000#32) (Host.reduceAdd
    (Host.divf (Host.reduceAdd (mulf (errs x0 x1 x2 x3 x4 x5 x6 x7) (errs x0 x1 x2 x3 x4 x5 x6 x7)) (constant S_ .f32 0x00000000#32) reducesTo_S8192x1024_S8192_d1 h_S_)
      (broadcastInDim S8192 ![] bcast_S_S8192 (constant S_ .f32 0x44800000#32))) (constant S_ .f32 0x00000000#32) reducesTo_S8192_S_d0 h_S_))

theorem outZ_apply (e : Fin 8192) (k : Fin 1024) : (outZ x0 x1 x2 x3 x4 x5 x6 x7 (ix2 e k) : EReal) = gradZ x0 x1 x2 (rightHalf x3) x4 x5 x6 x7 e k :=
  gradZs_apply x0 x1 x2 x3 x4 x5 x6 x7 e k

theorem outMix_apply (e : Fin 8192) (k : Fin 1024) : (outMix x0 x1 x2 x3 x4 x5 x6 x7 (ix2 e k) : EReal) = gradMix x0 x1 x2 (rightHalf x3) x4 x5 x6 x7 e k := by
  have hi := gradIns_apply x0 x1 x2 x3 x4 x5 x6 x7 e k
  have hg := gateds_apply x3 e k
  unfold outMix
  generalize gradIns x0 x1 x2 x3 x4 x5 x6 x7 = i at hi
  generalize gateds x3 = g at hg
  pointwise
  rw [hi, hg]
  rfl

theorem outGate_apply (e : Fin 8192) (k : Fin 1024) : (outGate x0 x1 x2 x3 x4 x5 x6 x7 (ix2 e k) : EReal) = gradGate x0 x1 x2 (rightHalf x3) x4 x5 x6 x7 e k := by
  have hi := gradIns_apply x0 x1 x2 x3 x4 x5 x6 x7 e k
  have hm := mixes_apply x0 x1 x2 e k
  have hg := gates_apply x3 e k
  have hs := sigmoids_apply x3 e k
  unfold outGate ones
  generalize gradIns x0 x1 x2 x3 x4 x5 x6 x7 = i at hi
  generalize mixes x0 x1 x2 = a at hm
  generalize sigmoids x3 = s at hs
  generalize gates x3 = g at hg
  pointwise
  rw [hi, hm, hg, hs]
  rfl

theorem outW_apply (l k : Fin 1024) : (outW x0 x1 x2 x3 x4 x5 x6 x7 (ix2 l k) : EReal) = ∑ r : Fin 8192, termW x0 x1 x2 (rightHalf x3) x4 x5 x6 x7 r l k := by
  have hi := ins_apply x0 x1 x2 x3
  have ho := gradOuts_apply x0 x1 x2 x3 x4 x5 x6 x7
  unfold outW
  generalize gradOuts x0 x1 x2 x3 x4 x5 x6 x7 = o at ho
  generalize ins x0 x1 x2 x3 = i at hi
  pointwise
  simp only [hi, ho]
  rfl

theorem outG_apply (k : Fin 1024) : (outG x0 x1 x2 x3 x4 x5 x6 x7 (ix2 0 k) : EReal) = ∑ r : Fin 8192, termG x0 x1 x2 (rightHalf x3) x4 x5 x6 x7 r k := by
  have hz := gradZs_apply x0 x1 x2 x3 x4 x5 x6 x7
  have hu := units_apply x0 x1 x2 x3 x6
  unfold outG
  generalize gradZs x0 x1 x2 x3 x4 x5 x6 x7 = z at hz
  generalize units x0 x1 x2 x3 x6 = u at hu
  pointwise
  simp only [hz, hu]
  rfl

theorem outLoss_apply (q : Fin 128) : (outLoss x0 x1 x2 x3 x4 x5 x6 x7 (ix2 0 q) : EReal)
    = ∑ r : Fin 8192, Ideal.ofBits .f32 0x3F000000#32 * lossRow x0 x1 x2 (rightHalf x3) x4 x5 x6 x7 r := by
  have h := errs_apply x0 x1 x2 x3 x4 x5 x6 x7
  unfold outLoss
  generalize errs x0 x1 x2 x3 x4 x5 x6 x7 = d at h
  pointwise
  simp only [h]
  rw [← half_sum]
  rfl

set_option maxHeartbeats 1000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v67) = outZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v68) = outMix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v69) = outGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v54) = outW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v40) = outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v70) = outLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  Value.run m ρ

end Cert.TailProof.Ref

end
-- ==== Proof.TailValues.lean ====
/-
The output projection and loss: the frames, and at exact float values the kernel's results against the reference's.
-/
module

public import proofs.«01_k».proof.Defs
public import proofs.«01_k».proof.Proof.TailBlocks
public import proofs.«01_k».proof.Proof.TailRef

@[expose] public section

set_option maxRecDepth 16384

noncomputable section

namespace Cert.TailProof

open Idealize.ShloMosaic Idealize.ShloMosaic.TcCoe Idealize.SL.Sem

/-- The reference, which declares no semaphore. -/
theorem frame_reference : Cert.quiescent_TailRefIdeal := fun m ρ _ =>
  (θ_run Cert.TailRefIdeal.defs _ _).mono
    (fun _ h => ⟨fun c => (h c).2.2.2.2.2.2, funext fun g => by rcases g with ⟨_, s⟩; rcases s with s | s <;> exact s.elim0⟩)
    (Cert.TailRefIdeal.Value.run (F := Ideal) m ρ)

variable (x0 x1 : FVec Ideal TailRefIdeal.S8192x384 .bf16) (x2 : FVec Ideal TailRefIdeal.S8192x256 .bf16) (x3 : FVec Ideal TailRefIdeal.S8192x2048 .bf16)
  (x4 x5 : FVec Ideal TailRefIdeal.S8192x1024 .f32) (x6 : FVec Ideal TailRefIdeal.S1024x1024 .bf16) (x7 : FVec Ideal TailRefIdeal.S1x1024 .f32)

theorem outZ_eq : Ref.outZ x0 x1 x2 x3 x4 x5 x6 x7 = fun j => gradZ x0 x1 x2 (rightHalf x3) x4 x5 x6 x7 (j 0) (j 1) := funext fun j =>
  (congrArg _ (ix2_eta (n0 := 8192) (n1 := 1024) j).symm).trans (Ref.outZ_apply x0 x1 x2 x3 x4 x5 x6 x7 (j 0) (j 1))

theorem outMix_eq : Ref.outMix x0 x1 x2 x3 x4 x5 x6 x7 = fun j => gradMix x0 x1 x2 (rightHalf x3) x4 x5 x6 x7 (j 0) (j 1) := funext fun j =>
  (congrArg _ (ix2_eta (n0 := 8192) (n1 := 1024) j).symm).trans (Ref.outMix_apply x0 x1 x2 x3 x4 x5 x6 x7 (j 0) (j 1))

theorem outGate_eq : Ref.outGate x0 x1 x2 x3 x4 x5 x6 x7 = fun j => gradGate x0 x1 x2 (rightHalf x3) x4 x5 x6 x7 (j 0) (j 1) := funext fun j =>
  (congrArg _ (ix2_eta (n0 := 8192) (n1 := 1024) j).symm).trans (Ref.outGate_apply x0 x1 x2 x3 x4 x5 x6 x7 (j 0) (j 1))

theorem outW_eq : Ref.outW x0 x1 x2 x3 x4 x5 x6 x7 = fun j => ∑ r : Fin 8192, termW x0 x1 x2 (rightHalf x3) x4 x5 x6 x7 r (j 0) (j 1) := funext fun j =>
  (congrArg _ (ix2_eta (n0 := 1024) (n1 := 1024) j).symm).trans (Ref.outW_apply x0 x1 x2 x3 x4 x5 x6 x7 (j 0) (j 1))

theorem outG_eq : Ref.outG x0 x1 x2 x3 x4 x5 x6 x7 = fun j => ∑ r : Fin 8192, termG x0 x1 x2 (rightHalf x3) x4 x5 x6 x7 r (j 1) := funext fun j =>
  (congrArg _ (only_row (n := 1024) j).symm).trans (Ref.outG_apply x0 x1 x2 x3 x4 x5 x6 x7 (j 1))

theorem outLoss_eq : Ref.outLoss x0 x1 x2 x3 x4 x5 x6 x7
    = fun _ => ∑ r : Fin 8192, Ideal.ofBits .f32 0x3F000000#32 * lossRow x0 x1 x2 (rightHalf x3) x4 x5 x6 x7 r := funext fun j =>
  (congrArg _ (only_row (n := 128) j).symm).trans (Ref.outLoss_apply x0 x1 x2 x3 x4 x5 x6 x7 (j 1))

theorem algebraic : Cert.algebraic_TailIdeal_TailRefIdeal := fun m g m' g' _ hin =>
  ⟨resZ m, resMix m, resGate m, resW m, resG m, resLoss m,
    (θ_run Cert.TailIdeal.defs _ _).mono (fun _ h c => by
      obtain ⟨h8, h9, h10, h11, h12, h13, kept⟩ := h c
      exact ⟨h8.trans (final8 m c), h9.trans (final9 m c), h10.trans (final10 m c), h11.trans (final11 m c), h12.trans (final12 m c),
        h13.trans (final13 m c), kept⟩) (Cert.TailIdeal.Value.run_blocks (F := Ideal) m g),
    (θ_run Cert.TailRefIdeal.defs _ _).mono (fun _ h c => by
      obtain ⟨e0, e1, e2, e3, e4, e5, e6, e7⟩ := hin c
      obtain ⟨hz, hm, hg, hw, hs, hl, kept⟩ := h c
      refine ⟨hz.trans ?_, hm.trans ?_, hg.trans ?_, hw.trans ?_, hs.trans ?_, hl.trans ?_, kept⟩
      · rw [outZ_eq, e0, e1, e2, e3, e4, e5, e6, e7]
      · rw [outMix_eq, e0, e1, e2, e3, e4, e5, e6, e7]
      · rw [outGate_eq, e0, e1, e2, e3, e4, e5, e6, e7]
      · rw [outW_eq, e0, e1, e2, e3, e4, e5, e6, e7]
      · rw [outG_eq, e0, e1, e2, e3, e4, e5, e6, e7]
      · rw [outLoss_eq, e0, e1, e2, e3, e4, e5, e6, e7]) (Ref.run m' g')⟩

end Cert.TailProof

end
-- ==== Proof.AttnRows.lean ====
/-
The attention over the memory, one sequence at a time at exact float values: the weights and what they read out, and the backward pass.
-/
module

public import proofs.«01_k».proof.Proof.BackRows

@[expose] public section

noncomputable section

namespace Cert.AttnProof

open Idealize.ShloMosaic
open Cert.BackProof (row scale unitRow)

/-- Column `d` of head `h`, the head of a column, and slot `s` of head `h` where the heads' slots stand side by side. -/
abbrev hcol (h : Fin 4) (d : Fin 64) : Fin 256 := ⟨h.val * 64 + d.val, by omega⟩

abbrev head (c : Fin 256) : Fin 4 := ⟨c.val / 64, by omega⟩

abbrev slot (h : Fin 4) (s : Fin 256) : Fin 1024 := ⟨h.val * 256 + s.val, by omega⟩

/-- The keys' and the values' columns of the projected memory. -/
abbrev keyCol (c : Fin 256) : Fin 512 := ⟨c.val, by omega⟩

abbrev valCol (c : Fin 256) : Fin 512 := ⟨256 + c.val, by omega⟩

theorem sum_cols (f : Fin 256 → EReal) : ∑ c, f c = ∑ h : Fin 4, ∑ d : Fin 64, f (hcol h d) :=
  (Fin.sum_mul_add_congr fun h d hl => rfl).symm

theorem sum_slots (f : Fin 1024 → EReal) : ∑ r, f r = ∑ h : Fin 4, ∑ s : Fin 256, f (slot h s) :=
  (Fin.sum_mul_add_congr fun h d hl => rfl).symm

/-- The head and the slot of such a column. -/
abbrev headOf (k : Fin 1024) : Fin 4 := ⟨k.val / 256, by omega⟩

abbrev slotOf (k : Fin 1024) : Fin 256 := ⟨k.val % 256, by omega⟩

theorem slot_headOf (k : Fin 1024) : slot (headOf k) (slotOf k) = k := Fin.ext (by show k.val / 256 * 256 + k.val % 256 = k.val; omega)

theorem hcol_head (c : Fin 256) : hcol (head c) ⟨c.val % 64, by omega⟩ = c := Fin.ext (by show c.val / 64 * 64 + c.val % 64 = c.val; omega)

theorem head_hcol (h : Fin 4) (d : Fin 64) : head (hcol h d) = h := Fin.ext (by show (h.val * 64 + d.val) / 64 = h.val; omega)

/-- Of all columns, those of one head. -/
theorem sum_head (h : Fin 4) (f : Fin 256 → EReal) : ∑ c, (if head c = h then f c else 0) = ∑ d : Fin 64, f (hcol h d) := by
  rw [sum_cols, Finset.sum_eq_single h]
  · exact Finset.sum_congr rfl fun d _ => by rw [head_hcol, if_pos rfl]
  · exact fun h' _ hne => Finset.sum_eq_zero fun d _ => by rw [head_hcol, if_neg hne]
  · exact fun hn => absurd (Finset.mem_univ h) hn

/-- Of all heads' slots, those of the head of one column. -/
theorem sum_own (c : Fin 256) (f : Fin 4 → Fin 256 → EReal) : ∑ h : Fin 4, ∑ s : Fin 256, (if head c = h then f h s else 0) = ∑ s : Fin 256, f (head c) s := by
  rw [Finset.sum_eq_single (head c)]
  · exact Finset.sum_congr rfl fun s _ => if_pos rfl
  · exact fun h' _ hne => Finset.sum_eq_zero fun s _ => if_neg fun e => hne e.symm
  · exact fun hn => absurd (Finset.mem_univ _) hn

/-- One head's column picked out of four masked ones. -/
theorem pick (c : Fin 256) (f : Fin 4 → EReal) :
    (if head c = 0 then f 0 else 0) + (if head c = 1 then f 1 else 0) + (if head c = 2 then f 2 else 0) + (if head c = 3 then f 3 else 0) = f (head c) := by
  have : ∀ h : Fin 4, (if h = 0 then f 0 else 0) + (if h = 1 then f 1 else 0) + (if h = 2 then f 2 else 0) + (if h = 3 then f 3 else 0) = f h := by
    intro h
    match h with
    | 0 => simp
    | 1 => simp
    | 2 => simp
    | 3 => simp
  exact this (head c)

/-- The columns of each head, as comparisons of a column's number. -/
theorem mask0 : ∀ c : Fin 256, IntOp.andi (IntOp.cmpi .sge (BitVec.ofNat 32 c.val) 0#32) (IntOp.cmpi .slt (BitVec.ofNat 32 c.val) 64#32)
    = if head c = 0 then 1#1 else 0#1 := by decide +kernel

theorem mask1 : ∀ c : Fin 256, IntOp.andi (IntOp.cmpi .sge (BitVec.ofNat 32 c.val) 64#32) (IntOp.cmpi .slt (BitVec.ofNat 32 c.val) 128#32)
    = if head c = 1 then 1#1 else 0#1 := by decide +kernel

theorem mask2 : ∀ c : Fin 256, IntOp.andi (IntOp.cmpi .sge (BitVec.ofNat 32 c.val) 128#32) (IntOp.cmpi .slt (BitVec.ofNat 32 c.val) 192#32)
    = if head c = 2 then 1#1 else 0#1 := by decide +kernel

theorem mask3 : ∀ c : Fin 256, IntOp.andi (IntOp.cmpi .sge (BitVec.ofNat 32 c.val) 192#32) (IntOp.cmpi .slt (BitVec.ofNat 32 c.val) 256#32)
    = if head c = 3 then 1#1 else 0#1 := by decide +kernel

theorem select_head {p : Prop} [Decidable p] (x y : EReal) : Scalar.select (if p then 1#1 else 0#1) x y = if p then x else y := by
  by_cases h : p
  · rw [if_pos h, if_pos h]; rfl
  · rw [if_neg h, if_neg h]; rfl

/-- A sum over the first two axes. -/
theorem sum_rows (h : (⟨3, ![4, 256, 1024]⟩ : Shape).ReducesTo [0, 1] ⟨1, ![1024]⟩) (v : (⟨3, ![4, 256, 1024]⟩ : Shape).Idx → EReal) (k : Fin 1024) :
    Ideal.hostReduceAdd h v 0 (ix1 k) = ∑ b : Fin 4, ∑ s : Fin 256, v (ix3 b s k) := by
  have e : ∀ (b : Fin 4) (s : Fin 256) (q : Fin 1024), h.drop (ix3 b s q) = ix1 k ↔ q = k := fun b s q =>
    ⟨fun e => Fin.ext (congrArg Fin.val (congrFun e 0)), fun e => by
      subst e
      funext a
      match a with
      | ⟨0, _⟩ => exact Fin.ext rfl⟩
  show 0 + ∑ i ∈ Finset.univ.filter (fun i => h.drop i = ix1 k), v i = _
  rw [zero_add, Finset.sum_filter, sum_idx3]
  simp only [e, Finset.sum_ite_eq', Finset.mem_univ, if_true]

/-- Row `l` of sequence `b`; the sequence of a row, and its place there. -/
abbrev seqAt (b : Fin 4) (l : Fin 2048) : Fin 8192 := ⟨b.val * 2048 + l.val, by omega⟩

abbrev seqOf (r : Fin 8192) : Fin 4 := ⟨r.val / 2048, by omega⟩

abbrev posOf (r : Fin 8192) : Fin 2048 := ⟨r.val % 2048, by omega⟩

theorem seqOf_seqAt (b : Fin 4) (l : Fin 2048) : seqOf (seqAt b l) = b := Fin.ext (by show (b.val * 2048 + l.val) / 2048 = b.val; omega)

theorem posOf_seqAt (b : Fin 4) (l : Fin 2048) : posOf (seqAt b l) = l := Fin.ext (by show (b.val * 2048 + l.val) % 2048 = l.val; omega)

theorem seqAt_seqOf (r : Fin 8192) : seqAt (seqOf r) (posOf r) = r := Fin.ext (by show r.val / 2048 * 2048 + r.val % 2048 = r.val; omega)

/-- The memory's columns of the projection and of the mixers' outputs, and the rows of sequence `b` of a matrix. -/
abbrev projCols (x : (⟨2, ![8192, 2048]⟩ : Shape).Idx → EReal) : (⟨2, ![8192, 256]⟩ : Shape).Idx → EReal :=
  fun j => x (ix2 (j 0) ⟨768 + (j 1).val, by have : (j 1).val < 256 := (j 1).isLt; omega⟩)

abbrev mixCols (x : (⟨2, ![8192, 1024]⟩ : Shape).Idx → EReal) : (⟨2, ![8192, 256]⟩ : Shape).Idx → EReal :=
  fun j => x (ix2 (j 0) ⟨768 + (j 1).val, by have : (j 1).val < 256 := (j 1).isLt; omega⟩)

abbrev seqRows {n : ℕ} (x : (⟨2, ![8192, n]⟩ : Shape).Idx → EReal) (b : Fin 4) : Fin 2048 → Fin n → EReal := fun l k => x (ix2 (seqAt b l) k)

abbrev memAt (x : (⟨3, ![4, 256, 1024]⟩ : Shape).Idx → EReal) (b : Fin 4) : Fin 256 → Fin 1024 → EReal := fun s k => x (ix3 b s k)

section Memory

variable (M : Fin 256 → Fin 1024 → EReal) (g : Fin 1024 → EReal) (W : Fin 1024 → Fin 512 → EReal)

/-- The normalised memory. -/
def memRow (s : Fin 256) (k : Fin 1024) : EReal := unitRow (M s) k * g k

/-- … through its weights. -/
def kvRow (s : Fin 256) (j : Fin 512) : EReal := ∑ k, memRow M g s k * W k j

end Memory

section Weights

variable (q : Fin 256 → EReal) (K : Fin 256 → Fin 256 → EReal)

/-- How a query's row scores against slot `s` of head `h`. -/
def score (h : Fin 4) (s : Fin 256) : EReal := (∑ d, q (hcol h d) * K s (hcol h d)) * Ideal.ofBits .f32 0x3E000000#32

/-- The largest of a head's scores. -/
def top (f : Fin 256 → EReal) : EReal := Finset.univ.fold max (Ideal.ofBits .f32 0xFF800000#32) f

theorem max_top (f : Fin 256 → EReal) : max (Ideal.ofBits .f32 0xFF800000#32) (top f) = top f :=
  max_eq_right ((Finset.le_fold_max _).mpr (Or.inl le_rfl))

/-- The exponential above `m`, and its share of the slots' sum. -/
def above (f m : Fin 256 → EReal) (s : Fin 256) : EReal := Ideal.exp (f s - m s)

def over (f m : Fin 256 → EReal) (s : Fin 256) : EReal := Ideal.div (above f m s) (∑ r, above f m r)

/-- The weights of a head's slots. -/
def soft (f : Fin 256 → EReal) : Fin 256 → EReal := over f fun _ => top f

end Weights

section Forward

variable (q : Fin 256 → EReal) (M : Fin 256 → Fin 1024 → EReal) (g : Fin 1024 → EReal) (W : Fin 1024 → Fin 512 → EReal)

/-- The weight a query's row gives slot `s` of head `h`. -/
abbrev weight (h : Fin 4) (s : Fin 256) : EReal := soft (score q (fun s c => kvRow M g W s (keyCol c)) h) s

/-- What the row reads out of the memory. -/
def attend (c : Fin 256) : EReal := ∑ s, weight q M g W (head c) s * kvRow M g W s (valCol c)

end Forward

section Back

variable (Q D : Fin 2048 → Fin 256 → EReal) (P : Fin 2048 → Fin 1024 → EReal)
  (M : Fin 256 → Fin 1024 → EReal) (g : Fin 1024 → EReal) (W : Fin 1024 → Fin 512 → EReal)

/-- The gradient of the weights. -/
def gradP (l : Fin 2048) (h : Fin 4) (s : Fin 256) : EReal := ∑ d, D l (hcol h d) * kvRow M g W s (valCol (hcol h d))

/-- … of the scores. -/
def gradS (l : Fin 2048) (h : Fin 4) (s : Fin 256) : EReal :=
  P l (slot h s) * (gradP D M g W l h s - ∑ r, gradP D M g W l h r * P l (slot h r)) * Ideal.ofBits .f32 0x3E000000#32

/-- … of the queries. -/
def gradQ (l : Fin 2048) (c : Fin 256) : EReal := ∑ s, gradS D P M g W l (head c) s * kvRow M g W s (keyCol c)

/-- … of the keys, of the values, and of the two together. -/
def gradK (s c : Fin 256) : EReal := ∑ l, gradS D P M g W l (head c) s * Q l c

def gradV (s c : Fin 256) : EReal := ∑ l, P l (slot (head c) s) * D l c

def gradKV (s : Fin 256) (j : Fin 512) : EReal :=
  if h : j.val < 256 then gradK Q D P M g W s ⟨j.val, h⟩ else gradV D P s ⟨j.val - 256, by omega⟩

/-- What the sequence adds to the weights' gradient. -/
def termW (k : Fin 1024) (j : Fin 512) : EReal := ∑ s, memRow M g s k * gradKV Q D P M g W s j

/-- What it adds to the scale's. -/
def termG (k : Fin 1024) : EReal := ∑ s, (∑ j, gradKV Q D P M g W s j * W k j) * unitRow (M s) k

end Back

end Cert.AttnProof

end
-- ==== Proof.AttnBPoint.lean ====
/-
One sequence of the attention's backward pass at exact float values: what the body leaves in the three results' blocks.
-/
module

public import proofs.«01_k».proof.Proof.Gen.AttnBIdeal.Value
public import proofs.«01_k».proof.Proof.AttnRows
public import Idealize.ShloMosaic.Lib.Pipeline.ReadBack

@[expose] public section

set_option maxRecDepth 16384

noncomputable section

namespace Cert.AttnProof.Bwd

open Idealize.ShloMosaic Idealize.SL.Sem
open Cert.AttnBIdeal Cert.AttnBIdeal.Gen Cert.AttnProof
open Cert.BackProof (row scale unitRow)

section Payloads

variable (x0 x1 : Vec Ideal S2048x256 .bf16) (x2 : Vec Ideal S2048x1024 .bf16) (x3 : Vec Ideal S1x256x1024 .f32) (x4 : Vec Ideal S1x1024 .f32)
  (x5 : Vec Ideal S1024x512 .bf16)

/-- The sequence's memory. -/
abbrev mem1 : Fin 256 → Fin 1024 → EReal := fun s k => x3 (ix3 0 s k)

theorem pay2_apply (s : Fin 256) (k : Fin 1024) : (k0_pay2 (F := Ideal) x3 x4 (ix2 s k) : EReal) = memRow (mem1 x3) (row x4 0) s k := by
  unfold k0_pay2
  pointwise
  rfl

theorem pay3_apply (s : Fin 256) (j : Fin 512) : (k0_pay3 (F := Ideal) x3 x4 x5 (ix2 s j) : EReal) = kvRow (mem1 x3) (row x4 0) (row x5) s j := by
  unfold k0_pay3
  pointwise
  simp only [pay2_apply]
  rfl

theorem pay4_apply (s c : Fin 256) : (k0_pay4 (F := Ideal) x3 x4 x5 (ix2 s c) : EReal) = kvRow (mem1 x3) (row x4 0) (row x5) s (keyCol c) := by
  unfold k0_pay4
  pointwise
  rw [pay3_apply]

theorem pay5_apply (s c : Fin 256) : (k0_pay5 (F := Ideal) x3 x4 x5 (ix2 s c) : EReal) = kvRow (mem1 x3) (row x4 0) (row x5) s (valCol c) := by
  unfold k0_pay5
  pointwise
  rw [pay3_apply]

/-- The heads one below the other, each with only its own columns. -/
def heads (f : Fin 256 → Fin 256 → EReal) (h : Fin 4) (s c : Fin 256) : EReal := if head c = h then f s c else 0

def stacked (f : Fin 256 → Fin 256 → EReal) (j : S1024x256.Idx) : EReal :=
  heads f ⟨(j 0).val / 256, by have : (j 0).val < 1024 := (j 0).isLt; omega⟩ ⟨(j 0).val % 256, Nat.mod_lt _ (by omega)⟩ (j 1)

theorem stacked_slot (f : Fin 256 → Fin 256 → EReal) (h : Fin 4) (s c : Fin 256) : stacked f (ix2 (slot h s) c) = heads f h s c := by
  have h0 : ((slot h s).val / 256) = h.val := by show (h.val * 256 + s.val) / 256 = h.val; omega
  have h1 : ((slot h s).val % 256) = s.val := by show (h.val * 256 + s.val) % 256 = s.val; omega
  exact congrArg₂ (fun a b => heads f a b c) (Fin.ext h0) (Fin.ext h1)

/-- One quarter of them, as it is stored. -/
theorem quarter (f : Fin 256 → Fin 256 → EReal) (off : Fin 2 → ℕ) (inb) (h : Fin 4) (h0 : off 0 = h.val * 256) (h1 : off 1 = 0) (v : FVec Ideal S256x256 .bf16)
    (hv : ∀ s c : Fin 256, (v (ix2 s c) : EReal) = heads f h s c) (j : S256x256.Idx) :
    v j = stacked f ((Rect.unit (s := S1024x256) off ![256, 256] inb).emb j) := by
  have hj : (Rect.unit (s := S1024x256) off ![256, 256] inb).emb j = ix2 (slot h (j 0)) (j 1) := by
    funext a
    refine Fin.ext ?_
    match a with
    | ⟨0, _⟩ => show off 0 + 1 * (j 0).val = h.val * 256 + (j 0).val; omega
    | ⟨1, _⟩ => show off 1 + 1 * (j 1).val = (j 1).val; omega
  rw [hj]
  exact (congrArg v (ix2_eta (n0 := 256) (n1 := 256) j).symm).trans ((hv (j 0) (j 1)).trans (stacked_slot f h (j 0) (j 1)).symm)

/-- The keys and the values, as they are stored, last first. -/
abbrev keyPieces : List (View.Piece (Elt Ideal) S1024x256 .bf16) :=
  [⟨Rect.unit ![768, 0] ![256, 256] inb_S1024x256_S256x256_768_0, k0_pay10 (k0_pay4 x3 x4 x5)⟩,
    ⟨Rect.unit ![512, 0] ![256, 256] inb_S1024x256_S256x256_512_0, k0_pay9 (k0_pay4 x3 x4 x5)⟩,
    ⟨Rect.unit ![256, 0] ![256, 256] inb_S1024x256_S256x256_256_0, k0_pay8 (k0_pay4 x3 x4 x5) k0_pay7⟩,
    ⟨Rect.unit ![0, 0] ![256, 256] inb_S1024x256_S256x256_0_0, k0_pay6 x3 x4 x5⟩]

abbrev valPieces : List (View.Piece (Elt Ideal) S1024x256 .bf16) :=
  [⟨Rect.unit ![768, 0] ![256, 256] inb_S1024x256_S256x256_768_0, k0_pay28 (k0_pay16 (k0_pay5 x3 x4 x5))⟩,
    ⟨Rect.unit ![512, 0] ![256, 256] inb_S1024x256_S256x256_512_0, k0_pay15 (k0_pay5 x3 x4 x5)⟩,
    ⟨Rect.unit ![256, 0] ![256, 256] inb_S1024x256_S256x256_256_0, k0_pay14 (k0_pay5 x3 x4 x5)⟩,
    ⟨Rect.unit ![0, 0] ![256, 256] inb_S1024x256_S256x256_0_0, k0_pay13 (k0_pay5 x3 x4 x5) k0_pay11 k0_pay12⟩]

abbrev keys : Vec Ideal S1024x256 .bf16 := stacked fun s c => kvRow (mem1 x3) (row x4 0) (row x5) s (keyCol c)

abbrev vals : Vec Ideal S1024x256 .bf16 := stacked fun s c => kvRow (mem1 x3) (row x4 0) (row x5) s (valCol c)

theorem key_pieces : View.PiecesOf (keys x3 x4 x5) (keyPieces x3 x4 x5) := by
  refine And.intro ?_ (And.intro ?_ (And.intro ?_ (And.intro ?_ trivial)))
  · refine quarter _ ![768, 0] inb_S1024x256_S256x256_768_0 3 rfl rfl _ fun s c => ?_
    unfold k0_pay10
    pointwise
    rw [mask3, select_head, pay4_apply]
    rfl
  · refine quarter _ ![512, 0] inb_S1024x256_S256x256_512_0 2 rfl rfl _ fun s c => ?_
    unfold k0_pay9
    pointwise
    rw [mask2, select_head, pay4_apply]
    rfl
  · refine quarter _ ![256, 0] inb_S1024x256_S256x256_256_0 1 rfl rfl _ fun s c => ?_
    unfold k0_pay8 k0_pay7
    pointwise
    rw [mask1, select_head, pay4_apply]
    rfl
  · refine quarter _ ![0, 0] inb_S1024x256_S256x256_0_0 0 rfl rfl _ fun s c => ?_
    unfold k0_pay6
    pointwise
    rw [mask0, select_head, pay4_apply]
    rfl

theorem val_pieces : View.PiecesOf (vals x3 x4 x5) (valPieces x3 x4 x5) := by
  refine And.intro ?_ (And.intro ?_ (And.intro ?_ (And.intro ?_ trivial)))
  · refine quarter _ ![768, 0] inb_S1024x256_S256x256_768_0 3 rfl rfl _ fun s c => ?_
    unfold k0_pay28 k0_pay16
    pointwise
    rw [mask3, select_head, pay5_apply]
    rfl
  · refine quarter _ ![512, 0] inb_S1024x256_S256x256_512_0 2 rfl rfl _ fun s c => ?_
    unfold k0_pay15
    pointwise
    rw [mask2, select_head, pay5_apply]
    rfl
  · refine quarter _ ![256, 0] inb_S1024x256_S256x256_256_0 1 rfl rfl _ fun s c => ?_
    unfold k0_pay14
    pointwise
    rw [mask1, select_head, pay5_apply]
    rfl
  · refine quarter _ ![0, 0] inb_S1024x256_S256x256_0_0 0 rfl rfl _ fun s c => ?_
    unfold k0_pay13 k0_pay12 k0_pay11
    pointwise
    rw [mask0, select_head, pay5_apply]
    rfl

/-- What is read back of the four quarters. -/
theorem read_keys {sp : Space} (v : View sig .tc sp S1024x256 .bf16) :
    v.readCov (keyPieces x3 x4 x5) (Rect.unit ![0, 0] ![1024, 256] inb_S1024x256_S1024x256_0_0).toLoadRect = keys x3 x4 x5 := by
  have hc : ∀ y, View.canon (keyPieces x3 x4 x5) y = keys x3 x4 x5 y := fun y =>
    (congrFun (congrArg View.canon (List.append_nil _).symm) y).trans
      (View.canon_append_of_piecesOf _ [] _ (key_pieces x3 x4 x5) y (View.cover_of_tiledBy (keyPieces x3 x4 x5) ![256, 256] (by sl_kernel_rfl) y))
  rw [View.readCov_eq_canon_ld _ _ _ (View.cover_of_tiledBy (keyPieces x3 x4 x5) ![256, 256] (by sl_kernel_rfl)), funext hc]
  exact View.ld_unit_zero (by decide) _ _

theorem read_vals {sp : Space} (v : View sig .tc sp S1024x256 .bf16) :
    v.readCov (valPieces x3 x4 x5) (Rect.unit ![0, 0] ![1024, 256] inb_S1024x256_S1024x256_0_0).toLoadRect = vals x3 x4 x5 := by
  have hc : ∀ y, View.canon (valPieces x3 x4 x5) y = vals x3 x4 x5 y := fun y =>
    (congrFun (congrArg View.canon (List.append_nil _).symm) y).trans
      (View.canon_append_of_piecesOf _ [] _ (val_pieces x3 x4 x5) y (View.cover_of_tiledBy (valPieces x3 x4 x5) ![256, 256] (by sl_kernel_rfl) y))
  rw [View.readCov_eq_canon_ld _ _ _ (View.cover_of_tiledBy (valPieces x3 x4 x5) ![256, 256] (by sl_kernel_rfl)), funext hc]
  exact View.ld_unit_zero (by decide) _ _

theorem pay33_apply (l : Fin 2048) (h : Fin 4) (s : Fin 256) :
    (k0_pay33 (F := Ideal) x1 (vals x3 x4 x5) (ix2 l (slot h s)) : EReal) = gradP (row x1) (mem1 x3) (row x4 0) (row x5) l h s := by
  unfold k0_pay33
  pointwise
  simp only [stacked_slot, heads, mul_ite, mul_zero]
  exact sum_head h fun c => x1 (ix2 l c) * kvRow (mem1 x3) (row x4 0) (row x5) s (valCol c)

/-- The scores' gradient of one head from the weights and theirs. -/
def through (p d : Fin 1024 → EReal) (h : Fin 4) (s : Fin 256) : EReal :=
  p (slot h s) * (d (slot h s) - ∑ r, d (slot h r) * p (slot h r)) * Ideal.ofBits .f32 0x3E000000#32

theorem at0 (s : Fin 256) (h) : (⟨s.val, h⟩ : Fin 1024) = slot 0 s := Fin.ext (show s.val = 0 * 256 + s.val by omega)

theorem at1 (s : Fin 256) (h) : (⟨256 + s.val, h⟩ : Fin 1024) = slot 1 s := Fin.ext (show 256 + s.val = 1 * 256 + s.val by omega)

theorem at2 (s : Fin 256) (h) : (⟨512 + s.val, h⟩ : Fin 1024) = slot 2 s := Fin.ext (show 512 + s.val = 2 * 256 + s.val by omega)

theorem at3 (s : Fin 256) (h) : (⟨768 + s.val, h⟩ : Fin 1024) = slot 3 s := Fin.ext (show 768 + s.val = 3 * 256 + s.val by omega)

theorem pay36_split (a b : FVec Ideal S2048x1024 .f32) (u v : FVec Ideal S2048x256 .f32) (l : Fin 2048) (k : Fin 1024) (R : EReal) (hR : R
      = if h : k.val < 256 then u (ix2 l ⟨k.val, h⟩)
        else if h : k.val - 256 < 256 then v (ix2 l ⟨k.val - 256, h⟩) * Ideal.ofBits .f32 0x3E000000#32
        else if h : k.val - 256 - 256 < 256 then through (row a l) (row b l) 2 ⟨k.val - 256 - 256, h⟩
        else through (row a l) (row b l) 3 ⟨k.val - 256 - 256 - 256, by omega⟩) :
    (k0_pay36 (F := Ideal) a b u v (ix2 l k) : EReal) = R := by
  unfold k0_pay36
  pointwise
  rw [hR]
  rfl

theorem pay36_apply (a b : FVec Ideal S2048x1024 .f32) (u v : FVec Ideal S2048x256 .f32) (l : Fin 2048)
    (hu : ∀ s, (u (ix2 l s) : EReal) = through (row a l) (row b l) 0 s)
    (hv : ∀ s, (v (ix2 l s) * Ideal.ofBits .f32 0x3E000000#32 : EReal) = through (row a l) (row b l) 1 s) (h : Fin 4) (s : Fin 256) :
    (k0_pay36 (F := Ideal) a b u v (ix2 l (slot h s)) : EReal) = through (row a l) (row b l) h s := by
  rw [pay36_split a b u v l _ _ rfl]
  match h with
  | 0 =>
    rw [dif_pos (show (slot 0 s).val < 256 by show (0 * 256 + s.val) < 256; omega), hu]
    exact congrArg (through _ _ 0) (Fin.ext (show 0 * 256 + s.val = s.val by omega))
  | 1 =>
    rw [dif_neg (show ¬(slot 1 s).val < 256 by show ¬(1 * 256 + s.val) < 256; omega), dif_pos (show (slot 1 s).val - 256 < 256 by show (1 * 256 + s.val - 256) < 256; omega), hv]
    exact congrArg (through _ _ 1) (Fin.ext (show 1 * 256 + s.val - 256 = s.val by omega))
  | 2 =>
    rw [dif_neg (show ¬(slot 2 s).val < 256 by show ¬(2 * 256 + s.val) < 256; omega), dif_neg (show ¬(slot 2 s).val - 256 < 256 by show ¬(2 * 256 + s.val - 256) < 256; omega),
      dif_pos (show (slot 2 s).val - 256 - 256 < 256 by show (2 * 256 + s.val - 256 - 256) < 256; omega)]
    exact congrArg (through _ _ 2) (Fin.ext (show 2 * 256 + s.val - 256 - 256 = s.val by omega))
  | 3 =>
    rw [dif_neg (show ¬(slot 3 s).val < 256 by show ¬(3 * 256 + s.val) < 256; omega), dif_neg (show ¬(slot 3 s).val - 256 < 256 by show ¬(3 * 256 + s.val - 256) < 256; omega),
      dif_neg (show ¬(slot 3 s).val - 256 - 256 < 256 by show ¬(3 * 256 + s.val - 256 - 256) < 256; omega)]
    exact congrArg (through _ _ 3) (Fin.ext (show 3 * 256 + s.val - 256 - 256 - 256 = s.val by omega))

/-- The gradient of the scores, as the body has it. -/
abbrev dS : FVec Ideal S2048x1024 .bf16 :=
  k0_pay36 (k0_pay32 x2) (k0_pay33 x1 (vals x3 x4 x5)) (k0_pay34 x1 x2 (vals x3 x4 x5)) (k0_pay35 x1 x2 (vals x3 x4 x5))

theorem dS_apply (l : Fin 2048) (h : Fin 4) (s : Fin 256) :
    (dS x1 x2 x3 x4 x5 (ix2 l (slot h s)) : EReal) = gradS (row x1) (row x2) (mem1 x3) (row x4 0) (row x5) l h s := by
  refine (pay36_apply _ _ _ _ l (fun s => ?_) (fun s => ?_) h s).trans ?_
  · unfold k0_pay34
    generalize k0_pay33 x1 (vals x3 x4 x5) = b
    generalize k0_pay32 x2 = a
    pointwise
    simp only [at0]
    rfl
  · unfold k0_pay35
    generalize k0_pay33 x1 (vals x3 x4 x5) = b
    generalize k0_pay32 x2 = a
    pointwise
    simp only [at1]
    rfl
  · unfold through gradS
    simp only [row, pay33_apply]
    rfl

theorem pay37_apply (l : Fin 2048) (c : Fin 256) :
    (k0_pay37 (keys x3 x4 x5) (k0_pay32 x2) (k0_pay33 x1 (vals x3 x4 x5)) (k0_pay34 x1 x2 (vals x3 x4 x5)) (k0_pay35 x1 x2 (vals x3 x4 x5)) (ix2 l c) : EReal)
      = gradQ (row x1) (row x2) (mem1 x3) (row x4 0) (row x5) l c := by
  have h := dS_apply x1 x2 x3 x4 x5 l
  unfold k0_pay37
  unfold dS at h
  generalize k0_pay36 (k0_pay32 x2) (k0_pay33 x1 (vals x3 x4 x5)) (k0_pay34 x1 x2 (vals x3 x4 x5)) (k0_pay35 x1 x2 (vals x3 x4 x5)) = d at h
  pointwise
  rw [sum_slots]
  simp only [h, stacked_slot, heads, mul_ite, mul_zero]
  exact sum_own c fun h s => gradS (row x1) (row x2) (mem1 x3) (row x4 0) (row x5) l h s * kvRow (mem1 x3) (row x4 0) (row x5) s (keyCol c)

/-- The keys' and the values' gradients, every head's rows with all columns, as the body has them. -/
abbrev dK : FVec Ideal S1024x256 .f32 :=
  k0_pay38 x0 (k0_pay32 x2) (k0_pay33 x1 (vals x3 x4 x5)) (k0_pay34 x1 x2 (vals x3 x4 x5)) (k0_pay35 x1 x2 (vals x3 x4 x5)) (k0_pay30 (F := Ideal))

abbrev dV : FVec Ideal S1024x256 .f32 := k0_pay1 (k0_pay39 x1 x2 (k0_pay31 (F := Ideal)))

theorem dK_apply (h : Fin 4) (s c : Fin 256) : (dK x0 x1 x2 x3 x4 x5 (ix2 (slot h s) c) : EReal)
    = ∑ l : Fin 2048, gradS (row x1) (row x2) (mem1 x3) (row x4 0) (row x5) l h s * x0 (ix2 l c) := by
  have hd := fun l => dS_apply x1 x2 x3 x4 x5 l h s
  unfold dK k0_pay38 k0_pay30
  unfold dS at hd
  generalize k0_pay36 (k0_pay32 x2) (k0_pay33 x1 (vals x3 x4 x5)) (k0_pay34 x1 x2 (vals x3 x4 x5)) (k0_pay35 x1 x2 (vals x3 x4 x5)) = d at hd
  generalize slot h s = r at hd
  pointwise
  simp only [hd]

theorem dV_apply (r : Fin 1024) (c : Fin 256) : (dV x1 x2 (ix2 r c) : EReal) = ∑ l : Fin 2048, x2 (ix2 l r) * x1 (ix2 l c) := by
  unfold dV k0_pay1 k0_pay39 k0_pay31
  pointwise

/-- Every head's rows folded to its own columns. -/
theorem folded_left (v : FVec Ideal S1024x256 .f32) (s c : Fin 256) :
    (k0_pay20 (F := Ideal) (k0_pay17 (F := Ideal) v) k0_pay18 (k0_pay19 (F := Ideal) v) (FloatOps.ofBits (F := Ideal) FTy.f32 0#32) (ix2 s c) : EReal) = v (ix2 (slot (head c) s) c) := by
  unfold k0_pay20 k0_pay17 k0_pay18 k0_pay19
  pointwise
  simp only [mask0, mask1, mask2, mask3, select_head, at0, at1, at2, at3]
  exact pick c fun h => v (ix2 (slot h s) c)

theorem folded_right (v : FVec Ideal S1024x256 .f32) (s : Fin 256) (z : FVec Ideal S256x256 .f32) (j : Fin 512) (R : EReal)
    (hR : R = if h : j.val < 256 then z (ix2 s ⟨j.val, h⟩) else v (ix2 (slot (head ⟨j.val - 256, by omega⟩) s) ⟨j.val - 256, by omega⟩)) :
    (k0_pay23 (F := Ideal) z v (k0_pay21 (F := Ideal) v) (iota Kind.tc S1x256 32 [1] iota_S1x256_d1_w32) k0_pay22 (256#32) (ix2 s j) : EReal) = R := by
  unfold k0_pay23 k0_pay21 k0_pay22
  pointwise
  rw [hR]
  refine dite_congr rfl (fun _ => rfl) fun h => ?_
  simp only [at0, at1, at2, at3]
  have hj : j.val - 256 < 256 := by omega
  rw [mask0 ⟨j.val - 256, hj⟩, mask1 ⟨j.val - 256, hj⟩, mask2 ⟨j.val - 256, hj⟩, mask3 ⟨j.val - 256, hj⟩]
  simp only [select_head]
  exact pick ⟨j.val - 256, hj⟩ fun h => v (ix2 (slot h s) ⟨j.val - 256, hj⟩)

/-- The gradient of the projected memory, as the body has it. -/
abbrev dKV : FVec Ideal S256x512 .bf16 :=
  k0_pay23 (F := Ideal) (k0_pay20 (F := Ideal) (k0_pay17 (F := Ideal) (dK x0 x1 x2 x3 x4 x5)) k0_pay18 (k0_pay19 (F := Ideal) (dK x0 x1 x2 x3 x4 x5)) (FloatOps.ofBits (F := Ideal) FTy.f32 0#32))
    (dV x1 x2) (k0_pay21 (F := Ideal) (dV x1 x2)) (iota Kind.tc S1x256 32 [1] iota_S1x256_d1_w32) k0_pay22 (256#32)

theorem dKV_apply (s : Fin 256) (j : Fin 512) : (dKV x0 x1 x2 x3 x4 x5 (ix2 s j) : EReal)
    = gradKV (row x0) (row x1) (row x2) (mem1 x3) (row x4 0) (row x5) s j := by
  refine folded_right (dV x1 x2) s _ j _ ?_
  unfold gradKV
  refine dite_congr rfl (fun h => ?_) fun h => ?_
  · rw [folded_left, dK_apply]
    rfl
  · rw [dV_apply]
    rfl

theorem pay24_apply (X : Vec Ideal S1024x512 .f32) (k : Fin 1024) (j : Fin 512) :
    (k0_pay24 (F := Ideal) (k0_pay20 (F := Ideal) (k0_pay17 (F := Ideal) (dK x0 x1 x2 x3 x4 x5)) k0_pay18 (k0_pay19 (F := Ideal) (dK x0 x1 x2 x3 x4 x5)) (FloatOps.ofBits (F := Ideal) FTy.f32 0#32))
      (dV x1 x2) (k0_pay21 (F := Ideal) (dV x1 x2)) (iota Kind.tc S1x256 32 [1] iota_S1x256_d1_w32) k0_pay22 (256#32) X (k0_pay29 (k0_pay2 x3 x4)) (ix2 k j) : EReal)
      = X (ix2 k j) + termW (row x0) (row x1) (row x2) (mem1 x3) (row x4 0) (row x5) k j := by
  have h := fun s => dKV_apply x0 x1 x2 x3 x4 x5 s j
  unfold k0_pay24 k0_pay29
  unfold dKV at h
  generalize k0_pay23 (F := Ideal) (k0_pay20 (F := Ideal) (k0_pay17 (F := Ideal) (dK x0 x1 x2 x3 x4 x5)) k0_pay18 (k0_pay19 (F := Ideal) (dK x0 x1 x2 x3 x4 x5)) (FloatOps.ofBits (F := Ideal) FTy.f32 0#32))
    (dV x1 x2) (k0_pay21 (F := Ideal) (dV x1 x2)) (iota Kind.tc S1x256 32 [1] iota_S1x256_d1_w32) k0_pay22 (256#32) = d at h
  pointwise
  simp only [h, pay2_apply]
  rfl

theorem pay25_apply (X : Vec Ideal S1x1024 .f32) (k : Fin 1024) :
    (k0_pay25 (F := Ideal) (k0_pay20 (F := Ideal) (k0_pay17 (F := Ideal) (dK x0 x1 x2 x3 x4 x5)) k0_pay18 (k0_pay19 (F := Ideal) (dK x0 x1 x2 x3 x4 x5)) (FloatOps.ofBits (F := Ideal) FTy.f32 0#32))
      (dV x1 x2) (k0_pay21 (F := Ideal) (dV x1 x2)) (iota Kind.tc S1x256 32 [1] iota_S1x256_d1_w32) k0_pay22 (256#32) x3 X x5 (ix2 0 k) : EReal)
      = X (ix2 0 k) + termG (row x0) (row x1) (row x2) (mem1 x3) (row x4 0) (row x5) k := by
  have h := dKV_apply x0 x1 x2 x3 x4 x5
  unfold k0_pay25
  unfold dKV at h
  generalize k0_pay23 (F := Ideal) (k0_pay20 (F := Ideal) (k0_pay17 (F := Ideal) (dK x0 x1 x2 x3 x4 x5)) k0_pay18 (k0_pay19 (F := Ideal) (dK x0 x1 x2 x3 x4 x5)) (FloatOps.ofBits (F := Ideal) FTy.f32 0#32))
    (dV x1 x2) (k0_pay21 (F := Ideal) (dV x1 x2)) (iota Kind.tc S1x256 32 [1] iota_S1x256_d1_w32) k0_pay22 (256#32) = d at h
  pointwise
  simp only [h]
  rfl

end Payloads

section Outs

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x1024 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S2048x256 .bf16) (harg8 : arg8.IsWhole) (arg9 : Memref sig .tc .vmem S1024x512 .f32) (harg9 : arg9.IsWhole) (arg10 : Memref sig .tc .vmem S1x1024 .f32) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S256x1024 .bf16) (harg13 : arg13.IsWhole) (arg14 : Memref sig .tc .vmem S1024x256 .f32) (harg14 : arg14.IsWhole) (arg15 : Memref sig .tc .vmem S1024x256 .f32) (harg15 : arg15.IsWhole)
  (x0 x1 : Vec Ideal S2048x256 .bf16) (x2 : Vec Ideal S2048x1024 .bf16) (x3 : Vec Ideal S1x256x1024 .f32) (x4 : Vec Ideal S1x1024 .f32)
  (x5 : Vec Ideal S1024x512 .bf16) (xo7 : Vec Ideal S1024x512 .f32) (xo8 : Vec Ideal S1x1024 .f32)

theorem out6_A (hc0 : cond0_0 i) (hc1 : cond0_1 i) (hc2 : cond0_2 i) (l : Fin 2048) (q : Fin 256) :
    (out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 (ix2 l q) : EReal)
      = gradQ (row x1) (row x2) (mem1 x3) (row x4 0) (row x5) l q := by
  frame_open
  simp (disch := decide) only [↓ View.readCov_skip, ↓ View.readCov_cons_toLoadRect, ↓ View.readCov_fill]
  frame_out
  rw [read_keys, read_vals]
  exact pay37_apply x1 x2 x3 x4 x5 l q

theorem out6_B (hc0 : ¬cond0_0 i) (hc1 : cond0_1 i) (hc2 : cond0_2 i) (l : Fin 2048) (q : Fin 256) :
    (out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo8 (ix2 l q) : EReal)
      = gradQ (row x1) (row x2) (mem1 x3) (row x4 0) (row x5) l q := by
  frame_open
  simp (disch := decide) only [↓ View.readCov_skip, ↓ View.readCov_cons_toLoadRect, ↓ View.readCov_fill]
  frame_out
  rw [read_keys, read_vals]
  exact pay37_apply x1 x2 x3 x4 x5 l q

theorem out7_A (hc0 : cond0_0 i) (hc1 : cond0_1 i) (hc2 : cond0_2 i) (k : Fin 1024) (j : Fin 512) :
    (out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 (ix2 k j) : EReal)
      = termW (row x0) (row x1) (row x2) (mem1 x3) (row x4 0) (row x5) k j := by
  frame_open
  simp (disch := decide) only [↓ View.readCov_skip, ↓ View.readCov_cons_toLoadRect, ↓ View.readCov_fill]
  frame_out
  rw [read_vals]
  refine (pay24_apply x0 x1 x2 x3 x4 x5 _ k j).trans ?_
  unfold k0_pay26
  pointwise

theorem out7_B (hc0 : ¬cond0_0 i) (hc1 : cond0_1 i) (hc2 : cond0_2 i) (k : Fin 1024) (j : Fin 512) :
    (out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo8 (ix2 k j) : EReal)
      = xo7 (ix2 k j) + termW (row x0) (row x1) (row x2) (mem1 x3) (row x4 0) (row x5) k j := by
  frame_open
  simp (disch := decide) only [↓ View.readCov_skip, ↓ View.readCov_cons_toLoadRect, ↓ View.readCov_fill]
  frame_out
  rw [read_vals]
  exact pay24_apply x0 x1 x2 x3 x4 x5 _ k j

theorem out8_A (hc0 : cond0_0 i) (hc1 : cond0_1 i) (hc2 : cond0_2 i) (k : Fin 1024) :
    (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 (ix2 0 k) : EReal)
      = termG (row x0) (row x1) (row x2) (mem1 x3) (row x4 0) (row x5) k := by
  frame_open
  simp (disch := decide) only [↓ View.readCov_skip, ↓ View.readCov_cons_toLoadRect, ↓ View.readCov_fill]
  frame_out
  rw [read_vals]
  refine (pay25_apply x0 x1 x2 x3 x4 x5 _ k).trans ?_
  unfold k0_pay27
  pointwise

theorem out8_B (hc0 : ¬cond0_0 i) (hc1 : cond0_1 i) (hc2 : cond0_2 i) (k : Fin 1024) :
    (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo8 (ix2 0 k) : EReal)
      = xo8 (ix2 0 k) + termG (row x0) (row x1) (row x2) (mem1 x3) (row x4 0) (row x5) k := by
  frame_open
  simp (disch := decide) only [↓ View.readCov_skip, ↓ View.readCov_cons_toLoadRect, ↓ View.readCov_fill]
  frame_out
  rw [read_vals]
  exact pay25_apply x0 x1 x2 x3 x4 x5 _ k

end Outs

end Cert.AttnProof.Bwd

end
-- ==== Proof.AttnBBlocks.lean ====
/-
The attention's backward pass over the whole grid at exact float values: the call's three result arrays.
-/
module

public import proofs.«01_k».proof.Proof.AttnBPoint

@[expose] public section

set_option maxRecDepth 16384

noncomputable section

namespace Cert.AttnProof.Bwd

open Idealize.ShloMosaic Idealize.ShloMosaic.TcCoe Idealize.SL.Sem
open Cert.AttnBIdeal Cert.AttnBIdeal.Gen Cert.AttnProof
open Cert.BackProof (row)

/-- The sequence of point `t`. -/
abbrev seqT (t : Fin cfg0.N) : Fin 4 := ⟨t.val, t.isLt⟩

/-- The rows of point `t`, and its memory. -/
abbrev tile {n : ℕ} (x : (⟨2, ![8192, n]⟩ : Shape).Idx → EReal) (t : Fin cfg0.N) : (⟨2, ![2048, n]⟩ : Shape).Idx → EReal := fun j => x (ix2 (seqAt (seqT t) (j 0)) (j 1))

abbrev tileMem (x : (⟨3, ![4, 256, 1024]⟩ : Shape).Idx → EReal) (t : Fin cfg0.N) : (⟨3, ![1, 256, 1024]⟩ : Shape).Idx → EReal := fun j => x (ix3 (seqT t) (j 1) (j 2))

theorem idx : ∀ t : Fin cfg0.N, win0_0.index t = ![t.val, 3] ∧ win0_1.index t = ![t.val, 3] ∧ win0_2.index t = ![t.val, 0] ∧ win0_3.index t = ![t.val, 0, 0]
    ∧ win0_4.index t = ![0, 0] ∧ win0_5.index t = ![0, 0] :=
  (by decide +kernel : ∀ t : Fin grid0.N, _)

theorem idx_out : ∀ t : Fin cfg0.N, win0_6.index t = ![t.val, 0] :=
  (by decide +kernel : ∀ t : Fin grid0.N, _)

variable (m : (ℓ : Loc nD τ sig) → Buf (Elt Ideal) ℓ) (c : Dev nD)

section Blocks

variable (t : Fin cfg0.N)

theorem block0 : (iblk m c 0 t : Vec Ideal S2048x256 .bf16) = tile (projCols (m ((c : Thread nD τ).loc main_arg0))) t := by
  blk_ext! [iblk, V, idx t]

theorem block1 : (iblk m c 1 t : Vec Ideal S2048x256 .bf16) = tile (mixCols (m ((c : Thread nD τ).loc main_arg1))) t := by
  blk_ext! [iblk, V, idx t]

theorem block2 : (iblk m c 2 t : Vec Ideal S2048x1024 .bf16) = tile (m ((c : Thread nD τ).loc main_arg2)) t := by
  blk_ext! [iblk, V, idx t]

theorem block3 : (iblk m c 3 t : Vec Ideal S1x256x1024 .f32) = tileMem (m ((c : Thread nD τ).loc main_arg3)) t := by
  blk_ext! [iblk, V, idx t]

theorem block4 : (iblk m c 4 t : Vec Ideal S1x1024 .f32) = m ((c : Thread nD τ).loc main_arg4) := by
  blk_ext! [iblk, V, idx t]

theorem block5 : (iblk m c 5 t : Vec Ideal S1024x512 .bf16) = m ((c : Thread nD τ).loc main_arg5) := by
  blk_ext! [iblk, V, idx t]

end Blocks

/-- What the call computes: a sequence's gradient of the queries, and what it adds to those of the weights and of the scale. -/
abbrev seqQ (b : Fin 4) : Fin 2048 → Fin 256 → EReal :=
  gradQ (seqRows (mixCols (m ((c : Thread nD τ).loc main_arg1))) b) (seqRows (m ((c : Thread nD τ).loc main_arg2)) b) (memAt (m ((c : Thread nD τ).loc main_arg3)) b) (row (m ((c : Thread nD τ).loc main_arg4)) 0) (row (m ((c : Thread nD τ).loc main_arg5)))

abbrev seqW (b : Fin 4) : Fin 1024 → Fin 512 → EReal :=
  termW (seqRows (projCols (m ((c : Thread nD τ).loc main_arg0))) b) (seqRows (mixCols (m ((c : Thread nD τ).loc main_arg1))) b) (seqRows (m ((c : Thread nD τ).loc main_arg2)) b) (memAt (m ((c : Thread nD τ).loc main_arg3)) b) (row (m ((c : Thread nD τ).loc main_arg4)) 0) (row (m ((c : Thread nD τ).loc main_arg5)))

abbrev seqG (b : Fin 4) : Fin 1024 → EReal :=
  termG (seqRows (projCols (m ((c : Thread nD τ).loc main_arg0))) b) (seqRows (mixCols (m ((c : Thread nD τ).loc main_arg1))) b) (seqRows (m ((c : Thread nD τ).loc main_arg2)) b) (memAt (m ((c : Thread nD τ).loc main_arg3)) b) (row (m ((c : Thread nD τ).loc main_arg4)) 0) (row (m ((c : Thread nD τ).loc main_arg5)))

abbrev resQ : Vec Ideal S8192x256 .bf16 := fun j => seqQ m c (seqOf (j 0)) (posOf (j 0)) (j 1)

abbrev resW : Vec Ideal S1024x512 .f32 := fun j => ∑ b : Fin 4, seqW m c b (j 0) (j 1)

abbrev resG : Vec Ideal S1x1024 .f32 := fun j => ∑ b : Fin 4, seqG m c b (j 1)

theorem resQ_at (b : Fin 4) (l : Fin 2048) (q : Fin 256) : (resQ m c (ix2 (seqAt b l) q) : EReal) = seqQ m c b l q :=
  congrArg₂ (fun b' l' => seqQ m c b' l' q) (seqOf_seqAt b l) (posOf_seqAt b l)

/-- After point `t` the queries' block holds what is theirs of the point's rows. -/
theorem point (t : Fin cfg0.N) (l : Fin 2048) (q : Fin 256) :
    ((outsAt0 m c t.val t.isLt).1 (ix2 l q) : EReal) = resQ m c (ix2 (seqAt (seqT t) l) q) := by
  rw [resQ_at]
  by_cases h : t.val % 4 = 0
  · rw [outsAt0_A m c t h]
    dsimp only
    rw [out6_A, block1, block2, block3, block4, block5]
    rfl
  · rw [outsAt0_B m c t h]
    dsimp only
    rw [out6_B, block1, block2, block3, block4, block5]
    rfl

/-- A block of the rows' result, entry by entry: `f` what the block holds, `g` the whole array, `v` where the entry lies in it. -/
theorem entry_eq (f : S2048x256.Idx → EReal) (g : S8192x256.Idx → EReal) (t : Fin cfg0.N) (h : ∀ (e : Fin 2048) (k : Fin 256), f (ix2 e k) = g (ix2 (seqAt (seqT t) e) k))
    (y y' : S2048x256.Idx) (v : S8192x256.Idx) (hy : ∀ a, (y' a).val = (y a).val) (h0 : (v 0).val = t.val * 2048 + (y 0).val) (h1 : (v 1).val = (y 1).val) :
    f y' = g v := by
  have hy' : y' = ix2 (n0 := 2048) (n1 := 256) (y 0) (y 1) := by
    funext a
    match a with
    | ⟨0, _⟩ => exact Fin.ext (hy 0)
    | ⟨1, _⟩ => exact Fin.ext (hy 1)
  have hv : v = ix2 (n0 := 8192) (n1 := 256) (seqAt (seqT t) (y 0)) (y 1) := by
    funext a
    match a with
    | ⟨0, _⟩ => exact Fin.ext h0
    | ⟨1, _⟩ => exact Fin.ext h1
  rw [hy', hv]
  exact h _ _

/-- The point whose block holds a row. -/
abbrev pointOf (i : S8192x256.Idx) : Fin cfg0.N := ⟨(i 0).val / 2048, by have : (i 0).val < 8192 := (i 0).isLt; show _ < 4; omega⟩

theorem pointOf_le (i : S8192x256.Idx) : (pointOf i).val * 2048 ≤ (i 0).val ∧ (i 0).val < (pointOf i).val * 2048 + 2048 := by
  show (i 0).val / 2048 * 2048 ≤ (i 0).val ∧ (i 0).val < (i 0).val / 2048 * 2048 + 2048
  omega

theorem final6 : (dats m 0 c).arrAt 6 cfg0.N = resQ m c := by
  refine (dats m 0 c).arrAt_eq_of_cover 6 (resQ m c) (fun t _ => funext fun y => ?_) fun i => ⟨pointOf i, flush0_6 _, ?_⟩
  · rw [Value.flushed6]
    blk_simp
    exact entry_eq _ (resQ m c) t (fun e k => point m c t e k) y _ _ (fun _ => rfl)
      ((Pipeline.Window.rect_emb_val win0_6 t y (0 : Fin 2)).trans (congrArg (· + _) (congrArg (· * 2048) (congrFun (idx_out t) 0))))
      (Pipeline.Window.rect_emb_val_of_index_zero win0_6 t (1 : Fin 2) (congrFun (idx_out t) 1) y)
  · have : (i 1).val < 256 := (i 1).isLt
    mem_blk [idx_out]
    exact ⟨pointOf_le i, Nat.zero_le _, this⟩

theorem first7 (t : Fin cfg0.N) (h : t.val % 4 = 0) (j : Fin 1024 × Fin 512) : ((outsAt0 m c t.val t.isLt).2.1 (ix2 j.1 j.2) : EReal)
    = 0 + seqW m c (seqT t) j.1 j.2 := by
  rw [outsAt0_A m c t h]
  dsimp only
  rw [out7_A, block0, block1, block2, block3, block4, block5, zero_add]
  rfl

theorem next7 (t : Fin cfg0.N) (h : ¬t.val % 4 = 0) (j : Fin 1024 × Fin 512) : ((outsAt0 m c t.val t.isLt).2.1 (ix2 j.1 j.2) : EReal)
    = (outsAt0 m c (t.val - 1) (Nat.lt_of_le_of_lt (Nat.sub_le _ _) t.isLt)).2.1 (ix2 j.1 j.2) + seqW m c (seqT t) j.1 j.2 := by
  rw [outsAt0_B m c t h]
  dsimp only
  rw [out7_B, block0, block1, block2, block3, block4, block5]
  rfl

theorem first8 (t : Fin cfg0.N) (h : t.val % 4 = 0) (k : Fin 1024) : ((outsAt0 m c t.val t.isLt).2.2 (ix2 0 k) : EReal) = 0 + seqG m c (seqT t) k := by
  rw [outsAt0_A m c t h]
  dsimp only
  rw [out8_A, block0, block1, block2, block3, block4, block5, zero_add]
  rfl

theorem next8 (t : Fin cfg0.N) (h : ¬t.val % 4 = 0) (k : Fin 1024) : ((outsAt0 m c t.val t.isLt).2.2 (ix2 0 k) : EReal)
    = (outsAt0 m c (t.val - 1) (Nat.lt_of_le_of_lt (Nat.sub_le _ _) t.isLt)).2.2 (ix2 0 k) + seqG m c (seqT t) k := by
  rw [outsAt0_B m c t h]
  dsimp only
  rw [out8_B, block0, block1, block2, block3, block4, block5]
  rfl

theorem total7 (j : Fin 1024 × Fin 512) : ((outsAt0 m c t0_3.val t0_3.isLt).2.1 (ix2 j.1 j.2) : EReal) = resW m c (ix2 j.1 j.2) := by
  refine (Pipeline.eq_sum_fin_of_reset_step_apply_last (fun n hn (j : Fin 1024 × Fin 512) => ((outsAt0 m c n hn).2.1 (ix2 j.1 j.2) : EReal)) 4
    (fun _ => 0) _ (first7 m c) (next7 m c) (le_of_eq N_0) t0_3 N_0.symm j).trans ?_
  rw [zero_add]
  rfl

theorem total8 (k : Fin 1024) : ((outsAt0 m c t0_3.val t0_3.isLt).2.2 (ix2 0 k) : EReal) = resG m c (ix2 0 k) := by
  refine (Pipeline.eq_sum_fin_of_reset_step_apply_last (fun n hn (k : Fin 1024) => ((outsAt0 m c n hn).2.2 (ix2 0 k) : EReal)) 4
    (fun _ => 0) _ (first8 m c) (next8 m c) (le_of_eq N_0) t0_3 N_0.symm k).trans ?_
  rw [zero_add]
  rfl

/-- A row of a matrix that has one. -/
theorem only_row {n : ℕ} (j : (⟨2, ![1, n]⟩ : Shape).Idx) : ix2 (0 : Fin 1) (j 1 : Fin n) = j := by
  funext a
  match a with
  | ⟨0, _⟩ => exact Subsingleton.elim (α := Fin 1) _ _
  | ⟨1, _⟩ => rfl

theorem final7 : (dats m 0 c).arrAt 7 cfg0.N = resW m c := by
  refine (dats m 0 c).arrAt_eq_of_after_last 7 t0_3 (by decide +kernel) (resW m c) fun j => ?_
  rw [after0_7]
  blk_simp
  exact (congrArg (outsAt0 m c t0_3.val t0_3.isLt).2.1 (ix2_eta (n0 := 1024) (n1 := 512) j).symm).trans
    ((total7 m c (j 0, j 1)).trans (congrArg (resW m c) (ix2_eta (n0 := 1024) (n1 := 512) j)))

theorem final8 : (dats m 0 c).arrAt 8 cfg0.N = resG m c := by
  refine (dats m 0 c).arrAt_eq_of_after_last 8 t0_3 (by decide +kernel) (resG m c) fun j => ?_
  rw [after0_8]
  blk_simp
  exact (congrArg (outsAt0 m c t0_3.val t0_3.isLt).2.2 (only_row (n := 1024) j).symm).trans ((total8 m c (j 1)).trans (congrArg (resG m c) (only_row (n := 1024) j)))

end Cert.AttnProof.Bwd

end
-- ==== Proof.AttnBRef.lean ====
/-
The reference of the attention's backward pass at exact float values, read one entry at a time.
-/
module

public import proofs.«01_k».proof.Proof.Gen.AttnBRefIdeal.Run
public import proofs.«01_k».proof.Proof.AttnRows
public import Idealize.ShloMosaic.Lib.Pointwise.Reduce

@[expose] public section

set_option maxRecDepth 16384

noncomputable section

namespace Cert.AttnProof.BwdRef

open Idealize.ShloMosaic Idealize.ShloMosaic.TcCoe Idealize.SL.Sem
open Cert.AttnBRefIdeal Cert.AttnBRefIdeal.Gen Cert.AttnProof
open Cert.BackProof (row scale unitRow)

variable (x0 : FVec Ideal S8192x2048 .bf16) (x1 x2 : FVec Ideal S8192x1024 .bf16) (x3 : FVec Ideal S4x256x1024 .f32)
  (x4 : FVec Ideal S1x1024 .f32) (x5 : FVec Ideal S1024x512 .bf16)

abbrev units : FVec Ideal S4x256x1024 .f32 :=
  mulf x3 (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x3 x3) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))

abbrev mems : FVec Ideal S4x256x1024 .f32 :=
  mulf (units x3) (broadcastInDim S4x256x1024 ![0, 1, 2] bcast_S1x1x1024_S4x256x1024_0_1_2 (broadcastInDim S1x1x1024 ![1, 2] bcast_S1x1024_S1x1x1024_1_2 x4))

abbrev kvs : FVec Ideal S4x256x512 .f32 :=
  Host.dotGeneral dot_S4x256x1024_S1024x512_S4x256x512_2_0_01_1_n_n none (mems x3 x4) (extf .f32 x5 bitsLt_bf16_f32)

abbrev keysH : FVec Ideal S4x256x4x64 .f32 :=
  shapeCast S4x256x4x64 (extractStridedSlice S4x256x256 ![0, 0, 0] (kvs x3 x4 x5) slices_S4x256x512_S4x256x256_0_0_0) shapeCasts_S4x256x256_S4x256x4x64

abbrev valsH : FVec Ideal S4x256x4x64 .f32 :=
  shapeCast S4x256x4x64 (extractStridedSlice S4x256x256 ![0, 0, 256] (kvs x3 x4 x5) slices_S4x256x512_S4x256x256_0_0_256) shapeCasts_S4x256x256_S4x256x4x64

abbrev qH : FVec Ideal S4x2048x4x64 .f32 :=
  shapeCast S4x2048x4x64 (extractStridedSlice S8192x256 ![0, 768] (extf .f32 x0 bitsLt_bf16_f32) slices_S8192x2048_S8192x256_0_768) shapeCasts_S8192x256_S4x2048x4x64

abbrev dyH : FVec Ideal S4x2048x4x64 .f32 :=
  shapeCast S4x2048x4x64 (extractStridedSlice S8192x256 ![0, 768] (extf .f32 x1 bitsLt_bf16_f32) slices_S8192x1024_S8192x256_0_768) shapeCasts_S8192x256_S4x2048x4x64

abbrev pH : FVec Ideal S4x2048x4x256 .f32 :=
  shapeCast S4x2048x4x256 (extf .f32 x2 bitsLt_bf16_f32) shapeCasts_S8192x1024_S4x2048x4x256

abbrev dp : FVec Ideal S4x2048x4x256 .f32 :=
  transpose S4x2048x4x256 [0, 3, 1, 2] (Host.dotGeneral dot_S4x256x4x64_S4x2048x4x64_S4x4x256x2048_3_3_1_1_02_02 none (valsH x3 x4 x5) (dyH x1)) transposes_S4x4x256x2048_S4x2048x4x256_0_3_1_2

abbrev ds : FVec Ideal S4x2048x4x256 .f32 :=
  mulf (mulf (pH x2) (subf (dp x1 x3 x4 x5) (broadcastInDim S4x2048x4x256 ![0, 1, 2, 3] bcast_S4x2048x4x1_S4x2048x4x256_0_1_2_3 (broadcastInDim S4x2048x4x1 ![0, 1, 2] bcast_S4x2048x4_S4x2048x4x1_0_1_2 (Host.reduceAdd (mulf (dp x1 x3 x4 x5) (pH x2)) (constant S_ .f32 0x00000000#32) reducesTo_S4x2048x4x256_S4x2048x4_d3 h_S_))))) (broadcastInDim S4x2048x4x256 ![] bcast_S_S4x2048x4x256 (constant S_ .f32 0x3E000000#32))

abbrev dk : FVec Ideal S4x256x256 .f32 :=
  shapeCast S4x256x256 (transpose S4x256x4x64 [0, 3, 1, 2] (Host.dotGeneral dot_S4x2048x4x64_S4x2048x4x256_S4x4x64x256_1_1_3_3_02_02 none (qH x0) (ds x1 x2 x3 x4 x5)) transposes_S4x4x64x256_S4x256x4x64_0_3_1_2) shapeCasts_S4x256x4x64_S4x256x256

abbrev dv : FVec Ideal S4x256x256 .f32 :=
  shapeCast S4x256x256 (transpose S4x256x4x64 [0, 3, 1, 2] (Host.dotGeneral dot_S4x2048x4x64_S4x2048x4x256_S4x4x64x256_1_1_3_3_02_02 none (dyH x1) (pH x2)) transposes_S4x4x64x256_S4x256x4x64_0_3_1_2) shapeCasts_S4x256x4x64_S4x256x256

abbrev dkv : FVec Ideal S4x256x512 .f32 :=
  concatenate S4x256x512 2 [⟨S4x256x256, dk x0 x1 x2 x3 x4 x5⟩, ⟨S4x256x256, dv x1 x2⟩] concatenates_S4x256x256_S4x256x256_S4x256x512_d2

abbrev outQ : FVec Ideal S8192x256 .bf16 :=
  truncf .bf16 (shapeCast S8192x256 (transpose S4x2048x4x64 [0, 3, 1, 2] (Host.dotGeneral dot_S4x256x4x64_S4x2048x4x256_S4x4x64x2048_1_3_3_1_02_02 none (keysH x3 x4 x5) (ds x1 x2 x3 x4 x5)) transposes_S4x4x64x2048_S4x2048x4x64_0_3_1_2) shapeCasts_S4x2048x4x64_S8192x256) bitsLt_bf16_f32

abbrev outW : FVec Ideal S1024x512 .f32 :=
  Host.dotGeneral dot_S4x256x1024_S4x256x512_S1024x512_01_01_2_2_n_n none (mems x3 x4) (dkv x0 x1 x2 x3 x4 x5)

abbrev outG : FVec Ideal S1x1024 .f32 :=
  broadcastInDim S1x1024 ![1] bcast_S1024_S1x1024_1 (Host.reduceAdd (mulf (Host.dotGeneral dot_S4x256x512_S512x1024_S4x256x1024_2_0_01_1_n_n none (dkv x0 x1 x2 x3 x4 x5) (transpose S512x1024 [1, 0] (extf .f32 x5 bitsLt_bf16_f32) transposes_S1024x512_S512x1024_1_0)) (units x3)) (constant S_ .f32 0x00000000#32) reducesTo_S4x256x1024_S1024_d0_1 h_S_)

theorem units_apply (b : Fin 4) (s : Fin 256) (k : Fin 1024) : (units x3 (ix3 b s k) : EReal) = unitRow (memAt x3 b s) k := by
  unfold units
  pointwise
  rfl

theorem mems_apply (b : Fin 4) (s : Fin 256) (k : Fin 1024) : (mems x3 x4 (ix3 b s k) : EReal) = memRow (memAt x3 b) (row x4 0) s k := by
  have h := units_apply x3
  unfold mems
  generalize units x3 = u at h
  pointwise
  rw [h]
  rfl

theorem kvs_apply (b : Fin 4) (s : Fin 256) (j : Fin 512) : (kvs x3 x4 x5 (ix3 b s j) : EReal) = kvRow (memAt x3 b) (row x4 0) (row x5) s j := by
  have h := mems_apply x3 x4
  unfold kvs
  generalize mems x3 x4 = u at h
  pointwise
  simp only [h]
  rfl

theorem keysH_apply (b : Fin 4) (s : Fin 256) (h : Fin 4) (d : Fin 64) :
    (keysH x3 x4 x5 (ix4 b s h d) : EReal) = kvRow (memAt x3 b) (row x4 0) (row x5) s (keyCol (hcol h d)) := by
  have hk := kvs_apply x3 x4 x5
  unfold keysH
  generalize kvs x3 x4 x5 = u at hk
  pointwise
  exact hk _ _ _

theorem valsH_apply (b : Fin 4) (s : Fin 256) (h : Fin 4) (d : Fin 64) :
    (valsH x3 x4 x5 (ix4 b s h d) : EReal) = kvRow (memAt x3 b) (row x4 0) (row x5) s (valCol (hcol h d)) := by
  have hk := kvs_apply x3 x4 x5
  unfold valsH
  generalize kvs x3 x4 x5 = u at hk
  pointwise
  exact hk _ _ _

theorem qH_apply (b : Fin 4) (l : Fin 2048) (h : Fin 4) (d : Fin 64) : (qH x0 (ix4 b l h d) : EReal) = seqRows (projCols x0) b l (hcol h d) := by
  unfold qH
  pointwise
  rfl

theorem dyH_apply (b : Fin 4) (l : Fin 2048) (h : Fin 4) (d : Fin 64) : (dyH x1 (ix4 b l h d) : EReal) = seqRows (mixCols x1) b l (hcol h d) := by
  unfold dyH
  pointwise
  rfl

theorem pH_apply (b : Fin 4) (l : Fin 2048) (h : Fin 4) (s : Fin 256) : (pH x2 (ix4 b l h s) : EReal) = seqRows x2 b l (slot h s) := by
  unfold pH
  pointwise

theorem dp_apply (b : Fin 4) (l : Fin 2048) (h : Fin 4) (s : Fin 256) :
    (dp x1 x3 x4 x5 (ix4 b l h s) : EReal) = gradP (seqRows (mixCols x1) b) (memAt x3 b) (row x4 0) (row x5) l h s := by
  have hv := valsH_apply x3 x4 x5
  have hd := dyH_apply x1
  unfold dp
  generalize valsH x3 x4 x5 = v at hv
  generalize dyH x1 = d at hd
  pointwise
  simp only [hv, hd]
  exact Finset.sum_congr rfl fun _ _ => mul_comm _ _

theorem ds_apply (b : Fin 4) (l : Fin 2048) (h : Fin 4) (s : Fin 256) :
    (ds x1 x2 x3 x4 x5 (ix4 b l h s) : EReal) = gradS (seqRows (mixCols x1) b) (seqRows x2 b) (memAt x3 b) (row x4 0) (row x5) l h s := by
  have hd := dp_apply x1 x3 x4 x5
  have hp := pH_apply x2
  unfold ds
  generalize dp x1 x3 x4 x5 = d at hd
  generalize pH x2 = p at hp
  pointwise
  simp only [hd, hp]
  rfl

theorem dk_apply (b : Fin 4) (s c : Fin 256) : (dk x0 x1 x2 x3 x4 x5 (ix3 b s c) : EReal)
    = gradK (seqRows (projCols x0) b) (seqRows (mixCols x1) b) (seqRows x2 b) (memAt x3 b) (row x4 0) (row x5) s c := by
  have hq := qH_apply x0
  have hs := ds_apply x1 x2 x3 x4 x5
  unfold dk
  generalize qH x0 = q at hq
  generalize ds x1 x2 x3 x4 x5 = d at hs
  pointwise
  refine Finset.sum_congr rfl fun l _ => (mul_comm _ _).trans ?_
  have e := hq b l (head c) ⟨c.val % 64, by omega⟩
  rw [hcol_head] at e
  exact congrArg₂ (fun a b : EReal => a * b) (hs b l (head c) s) e

theorem dv_apply (b : Fin 4) (s c : Fin 256) : (dv x1 x2 (ix3 b s c) : EReal) = gradV (seqRows (mixCols x1) b) (seqRows x2 b) s c := by
  have hd := dyH_apply x1
  have hp := pH_apply x2
  unfold dv
  generalize dyH x1 = d at hd
  generalize pH x2 = p at hp
  pointwise
  refine Finset.sum_congr rfl fun l _ => (mul_comm _ _).trans ?_
  have e := hd b l (head c) ⟨c.val % 64, by omega⟩
  rw [hcol_head] at e
  exact congrArg₂ (fun a b : EReal => a * b) (hp b l (head c) s) e

theorem dkv_apply (b : Fin 4) (s : Fin 256) (j : Fin 512) : (dkv x0 x1 x2 x3 x4 x5 (ix3 b s j) : EReal)
    = gradKV (seqRows (projCols x0) b) (seqRows (mixCols x1) b) (seqRows x2 b) (memAt x3 b) (row x4 0) (row x5) s j := by
  have hk := dk_apply x0 x1 x2 x3 x4 x5
  have hv := dv_apply x1 x2
  unfold dkv
  generalize dk x0 x1 x2 x3 x4 x5 = k at hk
  generalize dv x1 x2 = v at hv
  pointwise
  simp only [hk, hv]
  rfl

theorem outQ_apply (r : Fin 8192) (c : Fin 256) : (outQ x1 x2 x3 x4 x5 (ix2 r c) : EReal)
    = gradQ (seqRows (mixCols x1) (seqOf r)) (seqRows x2 (seqOf r)) (memAt x3 (seqOf r)) (row x4 0) (row x5) (posOf r) c := by
  have hk := keysH_apply x3 x4 x5
  have hs := ds_apply x1 x2 x3 x4 x5
  unfold outQ
  generalize keysH x3 x4 x5 = k at hk
  generalize ds x1 x2 x3 x4 x5 = d at hs
  pointwise
  refine Finset.sum_congr rfl fun l _ => (mul_comm _ _).trans ?_
  have e := hk (seqOf r) l (head c) ⟨c.val % 64, by omega⟩
  rw [hcol_head] at e
  exact congrArg₂ (fun a b : EReal => a * b) (hs (seqOf r) (posOf r) (head c) l) e

theorem outW_apply (k : Fin 1024) (j : Fin 512) : (outW x0 x1 x2 x3 x4 x5 (ix2 k j) : EReal)
    = ∑ b : Fin 4, termW (seqRows (projCols x0) b) (seqRows (mixCols x1) b) (seqRows x2 b) (memAt x3 b) (row x4 0) (row x5) k j := by
  have hm := mems_apply x3 x4
  have hd := dkv_apply x0 x1 x2 x3 x4 x5
  unfold outW
  generalize mems x3 x4 = u at hm
  generalize dkv x0 x1 x2 x3 x4 x5 = d at hd
  pointwise
  simp only [hm, hd]
  rfl

theorem outG_apply (k : Fin 1024) : (outG x0 x1 x2 x3 x4 x5 (ix2 0 k) : EReal)
    = ∑ b : Fin 4, termG (seqRows (projCols x0) b) (seqRows (mixCols x1) b) (seqRows x2 b) (memAt x3 b) (row x4 0) (row x5) k := by
  have hu := units_apply x3
  have hd := dkv_apply x0 x1 x2 x3 x4 x5
  unfold outG
  generalize units x3 = u at hu
  generalize dkv x0 x1 x2 x3 x4 x5 = d at hd
  pointwise
  refine (sum_rows _ _ k).trans ?_
  refine Finset.sum_congr rfl fun b _ => Finset.sum_congr rfl fun s _ => ?_
  pointwise
  simp only [hu, hd]

set_option maxHeartbeats 1000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v53) = outQ (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v46) = outW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v51) = outG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  Value.run m ρ

end Cert.AttnProof.BwdRef

end
-- ==== Proof.AttnBValues.lean ====
/-
The attention's backward pass: the frames, and at exact float values the kernel's results against the reference's.
-/
module

public import proofs.«01_k».proof.Defs
public import proofs.«01_k».proof.Proof.AttnBBlocks
public import proofs.«01_k».proof.Proof.AttnBRef

@[expose] public section

set_option maxRecDepth 16384

noncomputable section

namespace Cert.AttnProof.Bwd

open Idealize.ShloMosaic Idealize.ShloMosaic.TcCoe Idealize.SL.Sem
open Cert.BackProof (row)

/-- The reference, which declares no semaphore. -/
theorem frame_reference : Cert.quiescent_AttnBRefIdeal := fun m ρ _ =>
  (θ_run Cert.AttnBRefIdeal.defs _ _).mono
    (fun _ h => ⟨fun c => (h c).2.2.2, funext fun g => by rcases g with ⟨_, s⟩; rcases s with s | s <;> exact s.elim0⟩)
    (Cert.AttnBRefIdeal.Value.run (F := Ideal) m ρ)

variable (x0 : FVec Ideal AttnBRefIdeal.S8192x2048 .bf16) (x1 x2 : FVec Ideal AttnBRefIdeal.S8192x1024 .bf16) (x3 : FVec Ideal AttnBRefIdeal.S4x256x1024 .f32)
  (x4 : FVec Ideal AttnBRefIdeal.S1x1024 .f32) (x5 : FVec Ideal AttnBRefIdeal.S1024x512 .bf16)

theorem outQ_eq : BwdRef.outQ x1 x2 x3 x4 x5
    = fun j => gradQ (seqRows (mixCols x1) (seqOf (j 0))) (seqRows x2 (seqOf (j 0))) (memAt x3 (seqOf (j 0))) (row x4 0) (row x5) (posOf (j 0)) (j 1) := funext fun j =>
  (congrArg _ (ix2_eta (n0 := 8192) (n1 := 256) j).symm).trans (BwdRef.outQ_apply x1 x2 x3 x4 x5 (j 0) (j 1))

theorem outW_eq : BwdRef.outW x0 x1 x2 x3 x4 x5
    = fun j => ∑ b : Fin 4, termW (seqRows (projCols x0) b) (seqRows (mixCols x1) b) (seqRows x2 b) (memAt x3 b) (row x4 0) (row x5) (j 0) (j 1) := funext fun j =>
  (congrArg _ (ix2_eta (n0 := 1024) (n1 := 512) j).symm).trans (BwdRef.outW_apply x0 x1 x2 x3 x4 x5 (j 0) (j 1))

theorem outG_eq : BwdRef.outG x0 x1 x2 x3 x4 x5
    = fun j => ∑ b : Fin 4, termG (seqRows (projCols x0) b) (seqRows (mixCols x1) b) (seqRows x2 b) (memAt x3 b) (row x4 0) (row x5) (j 1) := funext fun j =>
  (congrArg _ (only_row (n := 1024) j).symm).trans (BwdRef.outG_apply x0 x1 x2 x3 x4 x5 (j 1))

theorem algebraic : Cert.algebraic_AttnBIdeal_AttnBRefIdeal := fun m g m' g' _ hin =>
  ⟨resQ m, resW m, resG m,
    (θ_run Cert.AttnBIdeal.defs _ _).mono (fun _ h c => by
      obtain ⟨h6, h7, h8, kept⟩ := h c
      exact ⟨h6.trans (final6 m c), h7.trans (final7 m c), h8.trans (final8 m c), kept⟩) (Cert.AttnBIdeal.Value.run_blocks (F := Ideal) m g),
    (θ_run Cert.AttnBRefIdeal.defs _ _).mono (fun _ h c => by
      obtain ⟨e0, e1, e2, e3, e4, e5⟩ := hin c
      obtain ⟨hq, hw, hg, kept⟩ := h c
      refine ⟨hq.trans ?_, hw.trans ?_, hg.trans ?_, kept⟩
      · rw [outQ_eq, e1, e2, e3, e4, e5]
      · rw [outW_eq, e0, e1, e2, e3, e4, e5]
      · rw [outG_eq, e0, e1, e2, e3, e4, e5]) (BwdRef.run m' g')⟩

end Cert.AttnProof.Bwd

end
-- ==== Proof.AttnFPoint.lean ====
/-
One sequence of the attention at exact float values: what the body leaves in the blocks of the outputs and of the weights.
-/
module

public import proofs.«01_k».proof.Proof.Gen.AttnFIdeal.Value
public import proofs.«01_k».proof.Proof.AttnBPoint

@[expose] public section

set_option maxRecDepth 16384

noncomputable section

namespace Cert.AttnProof.Fwd

open Idealize.ShloMosaic Idealize.SL.Sem
open Cert.AttnFIdeal Cert.AttnFIdeal.Gen Cert.AttnProof
open Cert.BackProof (row)
open Cert.AttnProof.Bwd (mem1 heads stacked stacked_slot quarter at0 at1 at2 at3)

section Payloads

variable (x0 : Vec Ideal S2048x256 .bf16) (x1 : Vec Ideal S1x256x1024 .f32) (x2 : Vec Ideal S1x1024 .f32) (x3 : Vec Ideal S1024x512 .bf16)

theorem pay3_apply (s : Fin 256) (j : Fin 512) : (k0_pay3 (F := Ideal) x1 x2 x3 (ix2 s j) : EReal) = kvRow (mem1 x1) (row x2 0) (row x3) s j := by
  unfold k0_pay3
  pointwise
  rfl

theorem pay4_apply (s c : Fin 256) : (k0_pay4 (F := Ideal) x1 x2 x3 (ix2 s c) : EReal) = kvRow (mem1 x1) (row x2 0) (row x3) s (keyCol c) := by
  unfold k0_pay4
  pointwise
  rw [pay3_apply]

theorem pay5_apply (s c : Fin 256) : (k0_pay5 (F := Ideal) x1 x2 x3 (ix2 s c) : EReal) = kvRow (mem1 x1) (row x2 0) (row x3) s (valCol c) := by
  unfold k0_pay5
  pointwise
  rw [pay3_apply]

/-- The keys and the values, as they are stored, last first. -/
abbrev keyPieces : List (View.Piece (Elt Ideal) S1024x256 .bf16) :=
  [⟨Rect.unit ![768, 0] ![256, 256] inb_S1024x256_S256x256_768_0, k0_pay10 (k0_pay4 x1 x2 x3)⟩,
    ⟨Rect.unit ![512, 0] ![256, 256] inb_S1024x256_S256x256_512_0, k0_pay9 (k0_pay4 x1 x2 x3)⟩,
    ⟨Rect.unit ![256, 0] ![256, 256] inb_S1024x256_S256x256_256_0, k0_pay8 (k0_pay4 x1 x2 x3) k0_pay7⟩,
    ⟨Rect.unit ![0, 0] ![256, 256] inb_S1024x256_S256x256_0_0, k0_pay6 x1 x2 x3⟩]

abbrev valPieces : List (View.Piece (Elt Ideal) S1024x256 .bf16) :=
  [⟨Rect.unit ![768, 0] ![256, 256] inb_S1024x256_S256x256_768_0, k0_pay17 (k0_pay16 (k0_pay5 x1 x2 x3))⟩,
    ⟨Rect.unit ![512, 0] ![256, 256] inb_S1024x256_S256x256_512_0, k0_pay15 (k0_pay5 x1 x2 x3)⟩,
    ⟨Rect.unit ![256, 0] ![256, 256] inb_S1024x256_S256x256_256_0, k0_pay14 (k0_pay5 x1 x2 x3)⟩,
    ⟨Rect.unit ![0, 0] ![256, 256] inb_S1024x256_S256x256_0_0, k0_pay13 (k0_pay5 x1 x2 x3) k0_pay11 k0_pay12⟩]

abbrev keys : Vec Ideal S1024x256 .bf16 := stacked fun s c => kvRow (mem1 x1) (row x2 0) (row x3) s (keyCol c)

abbrev vals : Vec Ideal S1024x256 .bf16 := stacked fun s c => kvRow (mem1 x1) (row x2 0) (row x3) s (valCol c)

theorem key_pieces : View.PiecesOf (keys x1 x2 x3) (keyPieces x1 x2 x3) := by
  refine And.intro ?_ (And.intro ?_ (And.intro ?_ (And.intro ?_ trivial)))
  · refine quarter _ ![768, 0] inb_S1024x256_S256x256_768_0 3 rfl rfl _ fun s c => ?_
    unfold k0_pay10
    pointwise
    rw [mask3, select_head, pay4_apply]
    rfl
  · refine quarter _ ![512, 0] inb_S1024x256_S256x256_512_0 2 rfl rfl _ fun s c => ?_
    unfold k0_pay9
    pointwise
    rw [mask2, select_head, pay4_apply]
    rfl
  · refine quarter _ ![256, 0] inb_S1024x256_S256x256_256_0 1 rfl rfl _ fun s c => ?_
    unfold k0_pay8 k0_pay7
    pointwise
    rw [mask1, select_head, pay4_apply]
    rfl
  · refine quarter _ ![0, 0] inb_S1024x256_S256x256_0_0 0 rfl rfl _ fun s c => ?_
    unfold k0_pay6
    pointwise
    rw [mask0, select_head, pay4_apply]
    rfl

theorem val_pieces : View.PiecesOf (vals x1 x2 x3) (valPieces x1 x2 x3) := by
  refine And.intro ?_ (And.intro ?_ (And.intro ?_ (And.intro ?_ trivial)))
  · refine quarter _ ![768, 0] inb_S1024x256_S256x256_768_0 3 rfl rfl _ fun s c => ?_
    unfold k0_pay17 k0_pay16
    pointwise
    rw [mask3, select_head, pay5_apply]
    rfl
  · refine quarter _ ![512, 0] inb_S1024x256_S256x256_512_0 2 rfl rfl _ fun s c => ?_
    unfold k0_pay15
    pointwise
    rw [mask2, select_head, pay5_apply]
    rfl
  · refine quarter _ ![256, 0] inb_S1024x256_S256x256_256_0 1 rfl rfl _ fun s c => ?_
    unfold k0_pay14
    pointwise
    rw [mask1, select_head, pay5_apply]
    rfl
  · refine quarter _ ![0, 0] inb_S1024x256_S256x256_0_0 0 rfl rfl _ fun s c => ?_
    unfold k0_pay13 k0_pay12 k0_pay11
    pointwise
    rw [mask0, select_head, pay5_apply]
    rfl

/-- What is read back of the four quarters. -/
theorem read_keys {sp : Space} (v : View sig .tc sp S1024x256 .bf16) :
    v.readCov (keyPieces x1 x2 x3) (Rect.unit ![0, 0] ![1024, 256] inb_S1024x256_S1024x256_0_0).toLoadRect = keys x1 x2 x3 := by
  have hc : ∀ y, View.canon (keyPieces x1 x2 x3) y = keys x1 x2 x3 y := fun y =>
    (congrFun (congrArg View.canon (List.append_nil _).symm) y).trans
      (View.canon_append_of_piecesOf _ [] _ (key_pieces x1 x2 x3) y (View.cover_of_tiledBy (keyPieces x1 x2 x3) ![256, 256] (by sl_kernel_rfl) y))
  rw [View.readCov_eq_canon_ld _ _ _ (View.cover_of_tiledBy (keyPieces x1 x2 x3) ![256, 256] (by sl_kernel_rfl)), funext hc]
  exact View.ld_unit_zero (by decide) _ _

theorem read_vals {sp : Space} (v : View sig .tc sp S1024x256 .bf16) :
    v.readCov (valPieces x1 x2 x3) (Rect.unit ![0, 0] ![1024, 256] inb_S1024x256_S1024x256_0_0).toLoadRect = vals x1 x2 x3 := by
  have hc : ∀ y, View.canon (valPieces x1 x2 x3) y = vals x1 x2 x3 y := fun y =>
    (congrFun (congrArg View.canon (List.append_nil _).symm) y).trans
      (View.canon_append_of_piecesOf _ [] _ (val_pieces x1 x2 x3) y (View.cover_of_tiledBy (valPieces x1 x2 x3) ![256, 256] (by sl_kernel_rfl) y))
  rw [View.readCov_eq_canon_ld _ _ _ (View.cover_of_tiledBy (valPieces x1 x2 x3) ![256, 256] (by sl_kernel_rfl)), funext hc]
  exact View.ld_unit_zero (by decide) _ _

/-- A row's scores against the slots of head `h`, and its weights. -/
abbrev scoreRow (l : Fin 2048) (h : Fin 4) : Fin 256 → EReal :=
  score (row x0 l) (fun s c => kvRow (mem1 x1) (row x2 0) (row x3) s (keyCol c)) h

theorem pay18_apply (l : Fin 2048) (h : Fin 4) (s : Fin 256) :
    (k0_pay18 (F := Ideal) x0 (keys x1 x2 x3) (ix2 l (slot h s)) : EReal) = scoreRow x0 x1 x2 x3 l h s := by
  unfold k0_pay18
  pointwise
  simp only [stacked_slot, heads, mul_ite, mul_zero]
  exact congrArg (· * Ideal.ofBits .f32 0x3E000000#32) (sum_head h fun c => x0 (ix2 l c) * kvRow (mem1 x1) (row x2 0) (row x3) s (keyCol c))

theorem pay19_apply (l : Fin 2048) (s : Fin 256) :
    (k0_pay19 (F := Ideal) x0 (keys x1 x2 x3) (ix2 l s) : EReal) = soft (scoreRow x0 x1 x2 x3 l 0) s := by
  have h := pay18_apply x0 x1 x2 x3 l 0
  unfold k0_pay19
  generalize k0_pay18 (F := Ideal) x0 (keys x1 x2 x3) = b at h
  pointwise
  simp only [at0, h]
  rfl

theorem pay20_apply (l : Fin 2048) (s : Fin 256) :
    (k0_pay20 (F := Ideal) x0 (keys x1 x2 x3) (ix2 l s) : EReal) = soft (scoreRow x0 x1 x2 x3 l 1) s := by
  have h := pay18_apply x0 x1 x2 x3 l 1
  unfold k0_pay20
  generalize k0_pay18 (F := Ideal) x0 (keys x1 x2 x3) = b at h
  pointwise
  simp only [at1, h]
  rfl

theorem pay21_apply (l : Fin 2048) (s : Fin 256) :
    (k0_pay21 (F := Ideal) x0 (keys x1 x2 x3) (ix2 l s) : EReal) = soft (scoreRow x0 x1 x2 x3 l 2) s := by
  have h := pay18_apply x0 x1 x2 x3 l 2
  unfold k0_pay21
  generalize k0_pay18 (F := Ideal) x0 (keys x1 x2 x3) = b at h
  pointwise
  simp only [at2, h]
  rfl

theorem pay22_apply (l : Fin 2048) (s : Fin 256) :
    (k0_pay22 (F := Ideal) x0 (keys x1 x2 x3) (ix2 l s) : EReal) = scoreRow x0 x1 x2 x3 l 3 s := by
  have h := pay18_apply x0 x1 x2 x3 l 3
  unfold k0_pay22
  generalize k0_pay18 (F := Ideal) x0 (keys x1 x2 x3) = b at h
  pointwise
  simp only [at3, h]

theorem pay23_apply (l : Fin 2048) (s : Fin 256) :
    (k0_pay23 (F := Ideal) x0 (keys x1 x2 x3) (ix2 l s) : EReal) = top (scoreRow x0 x1 x2 x3 l 3) := by
  have h := pay22_apply x0 x1 x2 x3 l
  unfold k0_pay23
  generalize k0_pay22 (F := Ideal) x0 (keys x1 x2 x3) = b at h
  pointwise
  simp only [h]
  rfl

theorem pay1_split (u v w a m : FVec Ideal S2048x256 .f32) (l : Fin 2048) (k : Fin 1024) (R : EReal) (hR : R
      = if h : k.val < 256 then u (ix2 l ⟨k.val, h⟩)
        else if h : k.val - 256 < 256 then v (ix2 l ⟨k.val - 256, h⟩)
        else if h : k.val - 256 - 256 < 256 then w (ix2 l ⟨k.val - 256 - 256, h⟩)
        else over (row a l) (row m l) ⟨k.val - 256 - 256 - 256, by omega⟩) :
    (k0_pay1 (F := Ideal) u v w a m (ix2 l k) : EReal) = R := by
  unfold k0_pay1
  pointwise
  rw [hR]
  rfl

/-- The weights, as the body has them. -/
abbrev probs : FVec Ideal S2048x1024 .bf16 :=
  k0_pay1 (k0_pay19 x0 (keys x1 x2 x3)) (k0_pay20 x0 (keys x1 x2 x3)) (k0_pay21 x0 (keys x1 x2 x3)) (k0_pay22 x0 (keys x1 x2 x3)) (k0_pay23 x0 (keys x1 x2 x3))

theorem probs_apply (l : Fin 2048) (h : Fin 4) (s : Fin 256) :
    (probs x0 x1 x2 x3 (ix2 l (slot h s)) : EReal) = soft (scoreRow x0 x1 x2 x3 l h) s := by
  unfold probs
  rw [pay1_split _ _ _ _ _ l _ _ rfl]
  match h with
  | 0 =>
    rw [dif_pos (show (slot 0 s).val < 256 by show (0 * 256 + s.val) < 256; omega), pay19_apply]
    exact congrArg (soft _) (Fin.ext (show 0 * 256 + s.val = s.val by omega))
  | 1 =>
    rw [dif_neg (show ¬(slot 1 s).val < 256 by show ¬(1 * 256 + s.val) < 256; omega), dif_pos (show (slot 1 s).val - 256 < 256 by show (1 * 256 + s.val - 256) < 256; omega), pay20_apply]
    exact congrArg (soft _) (Fin.ext (show 1 * 256 + s.val - 256 = s.val by omega))
  | 2 =>
    rw [dif_neg (show ¬(slot 2 s).val < 256 by show ¬(2 * 256 + s.val) < 256; omega), dif_neg (show ¬(slot 2 s).val - 256 < 256 by show ¬(2 * 256 + s.val - 256) < 256; omega),
      dif_pos (show (slot 2 s).val - 256 - 256 < 256 by show (2 * 256 + s.val - 256 - 256) < 256; omega), pay21_apply]
    exact congrArg (soft _) (Fin.ext (show 2 * 256 + s.val - 256 - 256 = s.val by omega))
  | 3 =>
    rw [dif_neg (show ¬(slot 3 s).val < 256 by show ¬(3 * 256 + s.val) < 256; omega), dif_neg (show ¬(slot 3 s).val - 256 < 256 by show ¬(3 * 256 + s.val - 256) < 256; omega),
      dif_neg (show ¬(slot 3 s).val - 256 - 256 < 256 by show ¬(3 * 256 + s.val - 256 - 256) < 256; omega)]
    rw [show row (k0_pay22 (F := Ideal) x0 (keys x1 x2 x3)) l = scoreRow x0 x1 x2 x3 l 3 from funext fun s => pay22_apply x0 x1 x2 x3 l s,
      show row (k0_pay23 (F := Ideal) x0 (keys x1 x2 x3)) l = (fun _ => top (scoreRow x0 x1 x2 x3 l 3)) from funext fun s => pay23_apply x0 x1 x2 x3 l s]
    exact congrArg (soft _) (Fin.ext (show 3 * 256 + s.val - 256 - 256 - 256 = s.val by omega))

theorem pay2_apply (l : Fin 2048) (c : Fin 256) :
    (k0_pay2 (F := Ideal) (k0_pay19 x0 (keys x1 x2 x3)) (k0_pay20 x0 (keys x1 x2 x3)) (k0_pay21 x0 (keys x1 x2 x3)) (k0_pay22 x0 (keys x1 x2 x3)) (k0_pay23 x0 (keys x1 x2 x3)) (vals x1 x2 x3) (ix2 l c) : EReal)
      = attend (row x0 l) (mem1 x1) (row x2 0) (row x3) c := by
  have h := probs_apply x0 x1 x2 x3 l
  unfold probs at h
  unfold k0_pay2
  generalize k0_pay1 (F := Ideal) (k0_pay19 x0 (keys x1 x2 x3)) (k0_pay20 x0 (keys x1 x2 x3)) (k0_pay21 x0 (keys x1 x2 x3)) (k0_pay22 x0 (keys x1 x2 x3)) (k0_pay23 x0 (keys x1 x2 x3)) = p at h
  pointwise
  refine (sum_slots _).trans ?_
  simp only [h, stacked_slot, heads, mul_ite, mul_zero]
  exact sum_own c fun h s => soft (scoreRow x0 x1 x2 x3 l h) s * kvRow (mem1 x1) (row x2 0) (row x3) s (valCol c)

end Payloads

section Outs

variable (c : Dev nD) (i : grid0.Coords) (arg2 : Memref sig .tc .vmem S2048x256 .bf16) (harg2 : arg2.IsWhole) (arg3 : Memref sig .tc .vmem S1x256x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S2048x256 .bf16) (harg6 : arg6.IsWhole) (arg7 : Memref sig .tc .vmem S2048x1024 .bf16) (harg7 : arg7.IsWhole) (arg8 : Memref sig .tc .vmem S1024x256 .bf16) (harg8 : arg8.IsWhole) (arg9 : Memref sig .tc .vmem S1024x256 .bf16) (harg9 : arg9.IsWhole)
  (x0 : Vec Ideal S2048x256 .bf16) (x1 : Vec Ideal S1x256x1024 .f32) (x2 : Vec Ideal S1x1024 .f32) (x3 : Vec Ideal S1024x512 .bf16)

theorem out4_A (hc0 : cond0_0 i) (l : Fin 2048) (q : Fin 256) :
    (out0_A_4 (F := Ideal) c i arg2 harg2 arg3 harg3 arg4 harg4 arg5 harg5 arg6 harg6 arg7 harg7 arg8 harg8 arg9 harg9 hc0 x0 x1 x2 x3 (ix2 l q) : EReal) = attend (row x0 l) (mem1 x1) (row x2 0) (row x3) q := by
  frame_open
  simp (disch := decide) only [↓ View.readCov_skip, ↓ View.readCov_cons_toLoadRect, ↓ View.readCov_fill]
  frame_out
  rw [read_keys, read_vals]
  exact pay2_apply x0 x1 x2 x3 l q

theorem out5_A (hc0 : cond0_0 i) (l : Fin 2048) (h : Fin 4) (s : Fin 256) :
    (out0_A_5 (F := Ideal) c i arg2 harg2 arg3 harg3 arg4 harg4 arg5 harg5 arg6 harg6 arg7 harg7 arg8 harg8 arg9 harg9 hc0 x0 x1 x2 x3 (ix2 l (slot h s)) : EReal) = soft (scoreRow x0 x1 x2 x3 l h) s := by
  frame_open
  simp (disch := decide) only [↓ View.readCov_skip, ↓ View.readCov_cons_toLoadRect, ↓ View.readCov_fill]
  frame_out
  rw [read_keys]
  exact probs_apply x0 x1 x2 x3 l h s

end Outs

end Cert.AttnProof.Fwd

end
-- ==== Proof.AttnFBlocks.lean ====
/-
The attention over the whole grid at exact float values: the call's two result arrays.
-/
module

public import proofs.«01_k».proof.Proof.AttnFPoint

@[expose] public section

set_option maxRecDepth 16384

noncomputable section

namespace Cert.AttnProof.Fwd

open Idealize.ShloMosaic Idealize.ShloMosaic.TcCoe Idealize.SL.Sem
open Cert.AttnFIdeal Cert.AttnFIdeal.Gen Cert.AttnProof
open Cert.BackProof (row)

/-- The sequence of point `t`, its rows and its memory. -/
abbrev seqT (t : Fin cfg0.N) : Fin 4 := ⟨t.val, t.isLt⟩

abbrev tile {n : ℕ} (x : (⟨2, ![8192, n]⟩ : Shape).Idx → EReal) (t : Fin cfg0.N) : (⟨2, ![2048, n]⟩ : Shape).Idx → EReal := fun j => x (ix2 (seqAt (seqT t) (j 0)) (j 1))

abbrev tileMem (x : (⟨3, ![4, 256, 1024]⟩ : Shape).Idx → EReal) (t : Fin cfg0.N) : (⟨3, ![1, 256, 1024]⟩ : Shape).Idx → EReal := fun j => x (ix3 (seqT t) (j 1) (j 2))

theorem idx : ∀ t : Fin cfg0.N, win0_0.index t = ![t.val, 3] ∧ win0_1.index t = ![t.val, 0, 0] ∧ win0_2.index t = ![0, 0] ∧ win0_3.index t = ![0, 0] :=
  (by decide +kernel : ∀ t : Fin grid0.N, _)

theorem idx_out : ∀ t : Fin cfg0.N, win0_4.index t = ![t.val, 0] ∧ win0_5.index t = ![t.val, 0] :=
  (by decide +kernel : ∀ t : Fin grid0.N, _)

variable (m : (ℓ : Loc nD τ sig) → Buf (Elt Ideal) ℓ) (c : Dev nD)

section Blocks

variable (t : Fin cfg0.N)

theorem block0 : (iblk m c 0 t : Vec Ideal S2048x256 .bf16) = tile (projCols (m ((c : Thread nD τ).loc main_arg0))) t := by
  blk_ext! [iblk, V, idx t]

theorem block1 : (iblk m c 1 t : Vec Ideal S1x256x1024 .f32) = tileMem (m ((c : Thread nD τ).loc main_arg1)) t := by
  blk_ext! [iblk, V, idx t]

theorem block2 : (iblk m c 2 t : Vec Ideal S1x1024 .f32) = m ((c : Thread nD τ).loc main_arg2) := by
  blk_ext! [iblk, V, idx t]

theorem block3 : (iblk m c 3 t : Vec Ideal S1024x512 .bf16) = m ((c : Thread nD τ).loc main_arg3) := by
  blk_ext! [iblk, V, idx t]

end Blocks

/-- What the call computes: a row's output and its weights. -/
abbrev resO : Vec Ideal S8192x256 .bf16 := fun j =>
  attend (row (projCols (m ((c : Thread nD τ).loc main_arg0))) (j 0)) (memAt (m ((c : Thread nD τ).loc main_arg1)) (seqOf (j 0))) (row (m ((c : Thread nD τ).loc main_arg2)) 0) (row (m ((c : Thread nD τ).loc main_arg3))) (j 1)

abbrev resP : Vec Ideal S8192x1024 .bf16 := fun j =>
  weight (row (projCols (m ((c : Thread nD τ).loc main_arg0))) (j 0)) (memAt (m ((c : Thread nD τ).loc main_arg1)) (seqOf (j 0))) (row (m ((c : Thread nD τ).loc main_arg2)) 0) (row (m ((c : Thread nD τ).loc main_arg3))) (headOf (j 1)) (slotOf (j 1))

theorem point4 (t : Fin cfg0.N) (l : Fin 2048) (q : Fin 256) : ((outsAt0 m c t).1 (ix2 l q) : EReal) = resO m c (ix2 (seqAt (seqT t) l) q) := by
  unfold outsAt0
  dsimp only
  rw [out4_A, block0, block1, block2, block3]
  exact congrArg (fun b => attend (row (projCols (m ((c : Thread nD τ).loc main_arg0))) (seqAt (seqT t) l)) (memAt (m ((c : Thread nD τ).loc main_arg1)) b)
    (row (m ((c : Thread nD τ).loc main_arg2)) 0) (row (m ((c : Thread nD τ).loc main_arg3))) q) (seqOf_seqAt (seqT t) l).symm

theorem point5 (t : Fin cfg0.N) (l : Fin 2048) (k : Fin 1024) : ((outsAt0 m c t).2 (ix2 l k) : EReal) = resP m c (ix2 (seqAt (seqT t) l) k) := by
  refine (congrArg (fun k => (outsAt0 m c t).2 (ix2 l k)) (slot_headOf k).symm).trans ?_
  unfold outsAt0
  dsimp only
  rw [out5_A, block0, block1, block2, block3]
  exact congrArg (fun b => weight (row (projCols (m ((c : Thread nD τ).loc main_arg0))) (seqAt (seqT t) l)) (memAt (m ((c : Thread nD τ).loc main_arg1)) b)
    (row (m ((c : Thread nD τ).loc main_arg2)) 0) (row (m ((c : Thread nD τ).loc main_arg3))) (headOf k) (slotOf k)) (seqOf_seqAt (seqT t) l).symm

/-- A block of a result, entry by entry: `f` what the block holds, `g` the whole array, `v` where the entry lies in it. -/
theorem entry_eq {n : ℕ} (f : (⟨2, ![2048, n]⟩ : Shape).Idx → EReal) (g : (⟨2, ![8192, n]⟩ : Shape).Idx → EReal) (t : Fin cfg0.N)
    (h : ∀ (e : Fin 2048) (k : Fin n), f (ix2 e k) = g (ix2 (seqAt (seqT t) e) k))
    (y y' : (⟨2, ![2048, n]⟩ : Shape).Idx) (v : (⟨2, ![8192, n]⟩ : Shape).Idx) (hy : ∀ a, (y' a).val = (y a).val) (h0 : (v 0).val = t.val * 2048 + (y 0).val)
    (h1 : (v 1).val = (y 1).val) : f y' = g v := by
  have hy' : y' = ix2 (n0 := 2048) (n1 := n) (y 0) (y 1) := by
    funext a
    match a with
    | ⟨0, _⟩ => exact Fin.ext (hy 0)
    | ⟨1, _⟩ => exact Fin.ext (hy 1)
  have hv : v = ix2 (n0 := 8192) (n1 := n) (seqAt (seqT t) (y 0)) (y 1) := by
    funext a
    match a with
    | ⟨0, _⟩ => exact Fin.ext h0
    | ⟨1, _⟩ => exact Fin.ext h1
  rw [hy', hv]
  exact h _ _

/-- The point whose block holds a row. -/
abbrev pointOf (i : Fin 8192) : Fin cfg0.N := ⟨i.val / 2048, by show _ < 4; omega⟩

theorem pointOf_le (i : Fin 8192) : (pointOf i).val * 2048 ≤ i.val ∧ i.val < (pointOf i).val * 2048 + 2048 := by
  show i.val / 2048 * 2048 ≤ i.val ∧ i.val < i.val / 2048 * 2048 + 2048
  omega

theorem final4 : (dats m 0 c).arrAt 4 cfg0.N = resO m c := by
  refine (dats m 0 c).arrAt_eq_of_cover 4 (resO m c) (fun t _ => funext fun y => ?_) fun i => ⟨pointOf (i 0), flush0_4 _, ?_⟩
  · rw [Value.flushed4]
    blk_simp
    exact entry_eq (n := 256) _ (resO m c) t (fun e k => point4 m c t e k) y _ _ (fun _ => rfl)
      ((Pipeline.Window.rect_emb_val win0_4 t y (0 : Fin 2)).trans (congrArg (· + _) (congrArg (· * 2048) (congrFun (idx_out t).1 0))))
      (Pipeline.Window.rect_emb_val_of_index_zero win0_4 t (1 : Fin 2) (congrFun (idx_out t).1 1) y)
  · have : (i 1).val < 256 := (i 1).isLt
    mem_blk [idx_out]
    exact ⟨pointOf_le (i 0), Nat.zero_le _, this⟩

theorem final5 : (dats m 0 c).arrAt 5 cfg0.N = resP m c := by
  refine (dats m 0 c).arrAt_eq_of_cover 5 (resP m c) (fun t _ => funext fun y => ?_) fun i => ⟨pointOf (i 0), flush0_5 _, ?_⟩
  · rw [Value.flushed5]
    blk_simp
    exact entry_eq (n := 1024) _ (resP m c) t (fun e k => point5 m c t e k) y _ _ (fun _ => rfl)
      ((Pipeline.Window.rect_emb_val win0_5 t y (0 : Fin 2)).trans (congrArg (· + _) (congrArg (· * 2048) (congrFun (idx_out t).2 0))))
      (Pipeline.Window.rect_emb_val_of_index_zero win0_5 t (1 : Fin 2) (congrFun (idx_out t).2 1) y)
  · have : (i 1).val < 1024 := (i 1).isLt
    mem_blk [idx_out]
    exact ⟨pointOf_le (i 0), Nat.zero_le _, this⟩

end Cert.AttnProof.Fwd

end
-- ==== Proof.AttnFRef.lean ====
/-
The reference of the attention at exact float values, read one entry at a time.
-/
module

public import proofs.«01_k».proof.Proof.Gen.AttnFRefIdeal.Run
public import proofs.«01_k».proof.Proof.AttnRows
public import Idealize.ShloMosaic.Lib.Pointwise.Reduce

@[expose] public section

set_option maxRecDepth 16384

noncomputable section

namespace Cert.AttnProof.FwdRef

open Idealize.ShloMosaic Idealize.ShloMosaic.TcCoe Idealize.SL.Sem
open Cert.AttnFRefIdeal Cert.AttnFRefIdeal.Gen Cert.AttnProof
open Cert.BackProof (row scale unitRow)

variable (x0 : FVec Ideal S8192x2048 .bf16) (x1 : FVec Ideal S4x256x1024 .f32) (x2 : FVec Ideal S1x1024 .f32) (x3 : FVec Ideal S1024x512 .bf16)

abbrev units : FVec Ideal S4x256x1024 .f32 :=
  mulf x1 (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x1 x1) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))

abbrev mems : FVec Ideal S4x256x1024 .f32 :=
  mulf (units x1) (broadcastInDim S4x256x1024 ![0, 1, 2] bcast_S1x1x1024_S4x256x1024_0_1_2 (broadcastInDim S1x1x1024 ![1, 2] bcast_S1x1024_S1x1x1024_1_2 x2))

abbrev kvs : FVec Ideal S4x256x512 .f32 :=
  Host.dotGeneral dot_S4x256x1024_S1024x512_S4x256x512_2_0_01_1_n_n none (mems x1 x2) (extf .f32 x3 bitsLt_bf16_f32)

abbrev keysH : FVec Ideal S4x256x4x64 .f32 :=
  shapeCast S4x256x4x64 (extractStridedSlice S4x256x256 ![0, 0, 0] (kvs x1 x2 x3) slices_S4x256x512_S4x256x256_0_0_0) shapeCasts_S4x256x256_S4x256x4x64

abbrev valsH : FVec Ideal S4x256x4x64 .f32 :=
  shapeCast S4x256x4x64 (extractStridedSlice S4x256x256 ![0, 0, 256] (kvs x1 x2 x3) slices_S4x256x512_S4x256x256_0_0_256) shapeCasts_S4x256x256_S4x256x4x64

abbrev qH : FVec Ideal S4x2048x4x64 .f32 :=
  shapeCast S4x2048x4x64 (extractStridedSlice S8192x256 ![0, 768] (extf .f32 x0 bitsLt_bf16_f32) slices_S8192x2048_S8192x256_0_768) shapeCasts_S8192x256_S4x2048x4x64

abbrev scores : FVec Ideal S4x2048x4x256 .f32 :=
  mulf (transpose S4x2048x4x256 [0, 3, 1, 2] (Host.dotGeneral dot_S4x256x4x64_S4x2048x4x64_S4x4x256x2048_3_3_1_1_02_02 none (keysH x1 x2 x3) (qH x0)) transposes_S4x4x256x2048_S4x2048x4x256_0_3_1_2) (broadcastInDim S4x2048x4x256 ![] bcast_S_S4x2048x4x256 (constant S_ .f32 0x3E000000#32))

abbrev tops : FVec Ideal S4x2048x4 .f32 :=
  maximumf (broadcastInDim S4x2048x4 ![] bcast_S_S4x2048x4 (constant S_ .f32 0xFF800000#32)) (Host.reduce FloatOps.maximumf (scores x0 x1 x2 x3) (constant S_ .f32 0xFF800000#32) reducesTo_S4x2048x4x256_S4x2048x4_d3 h_S_)

abbrev exps : FVec Ideal S4x2048x4x256 .f32 :=
  Host.exp (subf (scores x0 x1 x2 x3) (broadcastInDim S4x2048x4x256 ![0, 1, 2, 3] bcast_S4x2048x4x1_S4x2048x4x256_0_1_2_3 (broadcastInDim S4x2048x4x1 ![0, 1, 2] bcast_S4x2048x4_S4x2048x4x1_0_1_2 (tops x0 x1 x2 x3))))

abbrev softs : FVec Ideal S4x2048x4x256 .f32 :=
  Host.divf (exps x0 x1 x2 x3) (broadcastInDim S4x2048x4x256 ![0, 1, 2, 3] bcast_S4x2048x4x1_S4x2048x4x256_0_1_2_3 (broadcastInDim S4x2048x4x1 ![0, 1, 2] bcast_S4x2048x4_S4x2048x4x1_0_1_2 (Host.reduceAdd (exps x0 x1 x2 x3) (constant S_ .f32 0x00000000#32) reducesTo_S4x2048x4x256_S4x2048x4_d3 h_S_)))

abbrev outO : FVec Ideal S8192x256 .bf16 :=
  truncf .bf16 (shapeCast S8192x256 (transpose S4x2048x4x64 [0, 3, 1, 2] (Host.dotGeneral dot_S4x256x4x64_S4x2048x4x256_S4x4x64x2048_1_3_3_1_02_02 none (valsH x1 x2 x3) (softs x0 x1 x2 x3)) transposes_S4x4x64x2048_S4x2048x4x64_0_3_1_2) shapeCasts_S4x2048x4x64_S8192x256) bitsLt_bf16_f32

abbrev outP : FVec Ideal S8192x1024 .bf16 :=
  truncf .bf16 (shapeCast S8192x1024 (softs x0 x1 x2 x3) shapeCasts_S4x2048x4x256_S8192x1024) bitsLt_bf16_f32

theorem units_apply (b : Fin 4) (s : Fin 256) (k : Fin 1024) : (units x1 (ix3 b s k) : EReal) = unitRow (memAt x1 b s) k := by
  unfold units
  pointwise
  rfl

theorem mems_apply (b : Fin 4) (s : Fin 256) (k : Fin 1024) : (mems x1 x2 (ix3 b s k) : EReal) = memRow (memAt x1 b) (row x2 0) s k := by
  have h := units_apply x1
  unfold mems
  generalize units x1 = u at h
  pointwise
  rw [h]
  rfl

theorem kvs_apply (b : Fin 4) (s : Fin 256) (j : Fin 512) : (kvs x1 x2 x3 (ix3 b s j) : EReal) = kvRow (memAt x1 b) (row x2 0) (row x3) s j := by
  have h := mems_apply x1 x2
  unfold kvs
  generalize mems x1 x2 = u at h
  pointwise
  simp only [h]
  rfl

theorem keysH_apply (b : Fin 4) (s : Fin 256) (h : Fin 4) (d : Fin 64) :
    (keysH x1 x2 x3 (ix4 b s h d) : EReal) = kvRow (memAt x1 b) (row x2 0) (row x3) s (keyCol (hcol h d)) := by
  have hk := kvs_apply x1 x2 x3
  unfold keysH
  generalize kvs x1 x2 x3 = u at hk
  pointwise
  exact hk _ _ _

theorem valsH_apply (b : Fin 4) (s : Fin 256) (h : Fin 4) (d : Fin 64) :
    (valsH x1 x2 x3 (ix4 b s h d) : EReal) = kvRow (memAt x1 b) (row x2 0) (row x3) s (valCol (hcol h d)) := by
  have hk := kvs_apply x1 x2 x3
  unfold valsH
  generalize kvs x1 x2 x3 = u at hk
  pointwise
  exact hk _ _ _

theorem qH_apply (b : Fin 4) (l : Fin 2048) (h : Fin 4) (d : Fin 64) : (qH x0 (ix4 b l h d) : EReal) = seqRows (projCols x0) b l (hcol h d) := by
  unfold qH
  pointwise
  rfl

/-- The scores of a row of a sequence against the slots of head `h`. -/
abbrev scoreAt (b : Fin 4) (l : Fin 2048) (h : Fin 4) : Fin 256 → EReal :=
  score (row (projCols x0) (seqAt b l)) (fun s c => kvRow (memAt x1 b) (row x2 0) (row x3) s (keyCol c)) h

theorem scores_apply (b : Fin 4) (l : Fin 2048) (h : Fin 4) (s : Fin 256) : (scores x0 x1 x2 x3 (ix4 b l h s) : EReal) = scoreAt x0 x1 x2 x3 b l h s := by
  have hk := keysH_apply x1 x2 x3
  have hq := qH_apply x0
  unfold scores
  generalize keysH x1 x2 x3 = k at hk
  generalize qH x0 = q at hq
  pointwise
  simp only [hk, hq]
  exact congrArg (· * Ideal.ofBits .f32 0x3E000000#32) (Finset.sum_congr rfl fun _ _ => mul_comm _ _)

/-- A maximum, and a maximum over the last axis. -/
theorem max_at {n0 n1 n2 : ℕ} (u v : FVec Ideal (⟨3, ![n0, n1, n2]⟩ : Shape) .f32) (j : (⟨3, ![n0, n1, n2]⟩ : Shape).Idx) :
    (maximumf u v j : EReal) = max (u j : EReal) (v j) := rfl

theorem max_last {n0 n1 n2 : ℕ} (h : (⟨4, ![n0, n1, n2, 256]⟩ : Shape).ReducesTo [3] ⟨3, ![n0, n1, n2]⟩) (hu : 0 < (⟨0, ![]⟩ : Shape).numel)
    (v : FVec Ideal (⟨4, ![n0, n1, n2, 256]⟩ : Shape) .f32) (a : Fin n0) (b : Fin n1) (d : Fin n2) :
    (Host.reduce FloatOps.maximumf v (constant (F := Ideal) (⟨0, ![]⟩ : Shape) .f32 0xFF800000#32) h hu (ix3 a b d)) = top fun s => v (ix4 a b d s) := by
  simp only [pointwise]
  rfl

theorem tops_apply (b : Fin 4) (l : Fin 2048) (h : Fin 4) : (tops x0 x1 x2 x3 (ix3 b l h) : EReal) = top (scoreAt x0 x1 x2 x3 b l h) := by
  have hs := scores_apply x0 x1 x2 x3
  unfold tops
  generalize scores x0 x1 x2 x3 = s at hs
  rw [max_at, max_last, show (fun r => s (ix4 b l h r)) = scoreAt x0 x1 x2 x3 b l h from funext fun r => hs b l h r]
  exact max_top _

theorem exps_apply (b : Fin 4) (l : Fin 2048) (h : Fin 4) (s : Fin 256) :
    (exps x0 x1 x2 x3 (ix4 b l h s) : EReal) = above (scoreAt x0 x1 x2 x3 b l h) (fun _ => top (scoreAt x0 x1 x2 x3 b l h)) s := by
  have hs := scores_apply x0 x1 x2 x3
  have ht := tops_apply x0 x1 x2 x3
  unfold exps
  generalize scores x0 x1 x2 x3 = s at hs
  generalize tops x0 x1 x2 x3 = t at ht
  pointwise
  rw [hs, ht]
  rfl

theorem softs_apply (b : Fin 4) (l : Fin 2048) (h : Fin 4) (s : Fin 256) : (softs x0 x1 x2 x3 (ix4 b l h s) : EReal) = soft (scoreAt x0 x1 x2 x3 b l h) s := by
  have he := exps_apply x0 x1 x2 x3
  unfold softs
  generalize exps x0 x1 x2 x3 = e at he
  pointwise
  simp only [he]
  rfl

theorem outO_apply (r : Fin 8192) (c : Fin 256) : (outO x0 x1 x2 x3 (ix2 r c) : EReal)
    = attend (row (projCols x0) r) (memAt x1 (seqOf r)) (row x2 0) (row x3) c := by
  have hv := valsH_apply x1 x2 x3
  have hs := softs_apply x0 x1 x2 x3
  unfold outO
  generalize valsH x1 x2 x3 = v at hv
  generalize softs x0 x1 x2 x3 = d at hs
  pointwise
  refine Finset.sum_congr rfl fun l _ => (mul_comm _ _).trans ?_
  have e := hv (seqOf r) l (head c) ⟨c.val % 64, by omega⟩
  rw [hcol_head] at e
  have e' := hs (seqOf r) (posOf r) (head c) l
  unfold scoreAt at e'
  rw [seqAt_seqOf] at e'
  exact congrArg₂ (fun a b : EReal => a * b) e' e

theorem outP_apply (r : Fin 8192) (k : Fin 1024) : (outP x0 x1 x2 x3 (ix2 r k) : EReal)
    = weight (row (projCols x0) r) (memAt x1 (seqOf r)) (row x2 0) (row x3) (headOf k) (slotOf k) := by
  have hs := softs_apply x0 x1 x2 x3
  unfold outP
  generalize softs x0 x1 x2 x3 = d at hs
  pointwise
  have e' := hs (seqOf r) (posOf r) (headOf k) (slotOf k)
  unfold scoreAt at e'
  rw [seqAt_seqOf] at e'
  exact e'

set_option maxHeartbeats 1000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v40) = outO (m ((c : Thread nD τ).loc main_arg0)) (m ((c : Thread nD τ).loc main_arg1)) (m ((c : Thread nD τ).loc main_arg2)) (m ((c : Thread nD τ).loc main_arg3))
      ∧ r.2.mem ((c : Thread nD τ).loc main_v42) = outP (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Value.run m ρ

end Cert.AttnProof.FwdRef

end
-- ==== Proof.AttnFValues.lean ====
/-
The attention: the frames, and at exact float values the kernel's results against the reference's.
-/
module

public import proofs.«01_k».proof.Defs
public import proofs.«01_k».proof.Proof.AttnFBlocks
public import proofs.«01_k».proof.Proof.AttnFRef

@[expose] public section

set_option maxRecDepth 16384

noncomputable section

namespace Cert.AttnProof.Fwd

open Idealize.ShloMosaic Idealize.ShloMosaic.TcCoe Idealize.SL.Sem
open Cert.BackProof (row)

/-- The reference, which declares no semaphore. -/
theorem frame_reference : Cert.quiescent_AttnFRefIdeal := fun m ρ _ =>
  (θ_run Cert.AttnFRefIdeal.defs _ _).mono
    (fun _ h => ⟨fun c => (h c).2.2, funext fun g => by rcases g with ⟨_, s⟩; rcases s with s | s <;> exact s.elim0⟩)
    (Cert.AttnFRefIdeal.Value.run (F := Ideal) m ρ)

variable (x0 : FVec Ideal AttnFRefIdeal.S8192x2048 .bf16) (x1 : FVec Ideal AttnFRefIdeal.S4x256x1024 .f32) (x2 : FVec Ideal AttnFRefIdeal.S1x1024 .f32)
  (x3 : FVec Ideal AttnFRefIdeal.S1024x512 .bf16)

theorem outO_eq : FwdRef.outO x0 x1 x2 x3
    = fun j => attend (row (projCols x0) (j 0)) (memAt x1 (seqOf (j 0))) (row x2 0) (row x3) (j 1) := funext fun j =>
  (congrArg _ (ix2_eta (n0 := 8192) (n1 := 256) j).symm).trans (FwdRef.outO_apply x0 x1 x2 x3 (j 0) (j 1))

theorem outP_eq : FwdRef.outP x0 x1 x2 x3
    = fun j => weight (row (projCols x0) (j 0)) (memAt x1 (seqOf (j 0))) (row x2 0) (row x3) (headOf (j 1)) (slotOf (j 1)) := funext fun j =>
  (congrArg _ (ix2_eta (n0 := 8192) (n1 := 1024) j).symm).trans (FwdRef.outP_apply x0 x1 x2 x3 (j 0) (j 1))

theorem algebraic : Cert.algebraic_AttnFIdeal_AttnFRefIdeal := fun m g m' g' _ hin =>
  ⟨resO m, resP m,
    (θ_run Cert.AttnFIdeal.defs _ _).mono (fun _ h c => by
      obtain ⟨h4, h5, kept⟩ := h c
      exact ⟨h4.trans (final4 m c), h5.trans (final5 m c), kept⟩) (Cert.AttnFIdeal.Value.run_blocks (F := Ideal) m g),
    (θ_run Cert.AttnFRefIdeal.defs _ _).mono (fun _ h c => by
      obtain ⟨e0, e1, e2, e3⟩ := hin c
      obtain ⟨ho, hp, kept⟩ := h c
      refine ⟨ho.trans ?_, hp.trans ?_, kept⟩
      · rw [outO_eq, e0, e1, e2, e3]
      · rw [outP_eq, e0, e1, e2, e3]) (FwdRef.run m' g')⟩

end Cert.AttnProof.Fwd

end
-- ==== Proof.DiscSteps.lean ====
/-
The discretisation's pullback at exact float values, step by step: its columns' sums and products as the reference takes them.
-/
module

public import proofs.«01_k».proof.DiscRefIdeal
public import proofs.«01_k».proof.Proof.Gen.DiscRefIdeal.Run
public import proofs.«01_k».proof.Proof.AttnRows

@[expose] public section

set_option maxRecDepth 16384

noncomputable section

namespace Cert.DiscProof

open Idealize.ShloMosaic Idealize.ShloMosaic.TcCoe Idealize.SL.Sem
open Cert.DiscRefIdeal Cert.DiscRefIdeal.Gen

/-- A value for every state, and one for every channel and state. -/
abbrev Row := FVec Ideal S1x1536 .f32

abbrev Mat := FVec Ideal S16x1536 .f32

def spread (x : Row) : Mat := broadcastInDim S16x1536 ![0, 1] bcast_S1x1536_S16x1536_0_1 x

def total (x : Mat) : Row := shapeCast S1x1536 (Host.reduceAdd x (constant S_ .f32 0x00000000#32) reducesTo_S16x1536_S1536_d0 h_S_) shapeCasts_S1536_S1x1536

def ones : Row := broadcastInDim S1x1536 ![] bcast_S_S1x1536 (constant S_ .f32 0x3F800000#32)

def same (x : Mat) : Mat := shapeCast S16x1536 x shapeCasts_S16x1536_S16x1536

section Forward

variable (a0 a1 a2 : Row)

def dt : Row := Host.exp a2

def mag : Row := Host.exp (mulf a0 (dt a2))

def cosine : Row := Host.cos (mulf a1 (dt a2))

def sine : Row := Host.sin (mulf a1 (dt a2))

/-- The state's factor less one, its two parts. -/
def stepRe : Row := subf (mulf (mag a0 a2) (cosine a1 a2)) ones

def stepIm : Row := mulf (mag a0 a2) (sine a1 a2)

def size : Row := addf (mulf a0 a0) (mulf a1 a1)

def numRe : Row := addf (mulf (stepRe a0 a1 a2) a0) (mulf (stepIm a0 a1 a2) a1)

def numIm : Row := subf (mulf (stepIm a0 a1 a2) a0) (mulf (stepRe a0 a1 a2) a1)

def gainRe : Row := Host.divf (numRe a0 a1 a2) (size a0 a1)

def gainIm : Row := Host.divf (numIm a0 a1 a2) (size a0 a1)

def invSq : Row := Host.divf ones (mulf (size a0 a1) (size a0 a1))

end Forward

section Backward

variable (a0 a1 a2 : Row) (a3 a4 : Mat) (a5 a6 : Row) (a7 a8 : Mat)

def dGainRe : Row := addf (total (mulf (same a8) a4)) (total (mulf (same a7) a3))

def dGainIm : Row := addf (total (mulf (same a8) a3)) (total (mulf (Host.negf a7) a4))

def dSize : Row :=
  addf (Host.negf (mulf (mulf (dGainIm a3 a4 a7 a8) (invSq a0 a1)) (numIm a0 a1 a2))) (Host.negf (mulf (mulf (dGainRe a3 a4 a7 a8) (invSq a0 a1)) (numRe a0 a1 a2)))

def dNumIm : Row := Host.divf (dGainIm a3 a4 a7 a8) (size a0 a1)

def dNumRe : Row := Host.divf (dGainRe a3 a4 a7 a8) (size a0 a1)

def dStepRe : Row := addf (addf a5 (mulf (Host.negf (dNumIm a0 a1 a3 a4 a7 a8)) a1)) (mulf (dNumRe a0 a1 a3 a4 a7 a8) a0)

def dStepIm : Row := addf (addf a6 (mulf (dNumIm a0 a1 a3 a4 a7 a8) a0)) (mulf (dNumRe a0 a1 a3 a4 a7 a8) a1)

def dAngle : Row :=
  addf (mulf (mulf (mag a0 a2) (dStepIm a0 a1 a3 a4 a6 a7 a8)) (cosine a1 a2)) (mulf (Host.negf (mulf (mag a0 a2) (dStepRe a0 a1 a3 a4 a5 a7 a8))) (sine a1 a2))

def dGrowth : Row :=
  mulf (addf (mulf (dStepIm a0 a1 a3 a4 a6 a7 a8) (sine a1 a2)) (mulf (dStepRe a0 a1 a3 a4 a5 a7 a8) (cosine a1 a2))) (mag a0 a2)

/-- The gradients: of the states' two parts, of every state's log step, and of the input maps' two parts. -/
def outAr : Row :=
  addf (addf (addf (addf (mulf (stepIm a0 a1 a2) (dNumIm a0 a1 a3 a4 a7 a8)) (mulf (stepRe a0 a1 a2) (dNumRe a0 a1 a3 a4 a7 a8)))
    (mulf a0 (dSize a0 a1 a2 a3 a4 a7 a8))) (mulf (dSize a0 a1 a2 a3 a4 a7 a8) a0)) (mulf (dGrowth a0 a1 a2 a3 a4 a5 a6 a7 a8) (dt a2))

def outAi : Row :=
  addf (addf (addf (addf (mulf (stepRe a0 a1 a2) (Host.negf (dNumIm a0 a1 a3 a4 a7 a8))) (mulf (stepIm a0 a1 a2) (dNumRe a0 a1 a3 a4 a7 a8)))
    (mulf a1 (dSize a0 a1 a2 a3 a4 a7 a8))) (mulf (dSize a0 a1 a2 a3 a4 a7 a8) a1)) (mulf (dAngle a0 a1 a2 a3 a4 a5 a6 a7 a8) (dt a2))

def dLog : Row := mulf (addf (mulf a1 (dAngle a0 a1 a2 a3 a4 a5 a6 a7 a8)) (mulf a0 (dGrowth a0 a1 a2 a3 a4 a5 a6 a7 a8))) (dt a2)

def outBr : Mat := addf (mulf (spread (gainIm a0 a1 a2)) (same a8)) (mulf (spread (gainRe a0 a1 a2)) (same a7))

def outBi : Mat := addf (mulf (spread (gainRe a0 a1 a2)) (same a8)) (mulf (spread (gainIm a0 a1 a2)) (Host.negf a7))

end Backward

/-- A group's states summed, the groups one after another, and nothing past them. -/
def byGroup (d : Row) : FVec Ideal S1x128 .f32 :=
  broadcastInDim S1x128 ![1] bcast_S128_S1x128_1 (concatenate S128 0
    [⟨S24, Host.reduceAdd (shapeCast S24x64 d shapeCasts_S1x1536_S24x64) (constant S_ .f32 0x00000000#32) reducesTo_S24x64_S24_d1 h_S_⟩,
      ⟨S104, broadcastInDim S104 ![] bcast_S_S104 (constant S_ .f32 0x00000000#32)⟩] concatenates_S24_S104_S128_d0)

/-- State `n` of group `g`. -/
abbrev stateAt (g : Fin 24) (n : Fin 64) : Fin 1536 := ⟨g.val * 64 + n.val, by omega⟩

/-- A sum over the states, group by group. -/
theorem sum_states (f : Fin 1536 → EReal) : ∑ s, f s = ∑ g : Fin 24, ∑ n : Fin 64, f (stateAt g n) := by
  rw [← Fintype.sum_prod_type']
  refine (Fintype.sum_equiv (finProdFinEquiv (m := 24) (n := 64)) _ _ fun p => ?_).symm
  refine congrArg f (Fin.ext ?_)
  show p.1.val * 64 + p.2.val = p.2.val + 64 * p.1.val
  omega

/-- Of all states, those of one group. -/
theorem sum_group (l : Fin 128) (f : Fin 1536 → EReal) :
    ∑ s : Fin 1536, (if s.val / 64 = l.val then f s else 0) = if h : l.val < 24 then ∑ n : Fin 64, f (stateAt ⟨l.val, h⟩ n) else 0 := by
  have e : ∀ (g : Fin 24) (n : Fin 64), (stateAt g n).val / 64 = g.val := fun g n => by show (g.val * 64 + n.val) / 64 = g.val; omega
  rw [sum_states]
  simp only [e]
  by_cases h : l.val < 24
  · rw [dif_pos h, Finset.sum_eq_single (⟨l.val, h⟩ : Fin 24)]
    · exact Finset.sum_congr rfl fun n _ => if_pos rfl
    · exact fun g _ hne => Finset.sum_eq_zero fun n _ => if_neg fun e' => hne (Fin.ext e')
    · exact fun hn => absurd (Finset.mem_univ _) hn
  · rw [dif_neg h]
    exact Finset.sum_eq_zero fun g _ => Finset.sum_eq_zero fun n _ => if_neg fun (e' : g.val = l.val) => h (by have := g.isLt; omega)

theorem group_apply (d : Row) (g : Fin 24) :
    (Host.reduceAdd (shapeCast S24x64 d shapeCasts_S1x1536_S24x64) (constant S_ .f32 0x00000000#32) reducesTo_S24x64_S24_d1 h_S_ (ix1 g) : EReal)
      = ∑ n : Fin 64, (d (ix2 0 (stateAt g n)) : EReal) := by
  pointwise

theorem byGroup_apply (d : Row) (l : Fin 128) :
    (byGroup d (ix2 0 l) : EReal) = if h : l.val < 24 then ∑ n : Fin 64, (d (ix2 0 (stateAt ⟨l.val, h⟩ n)) : EReal) else 0 := by
  have hg := group_apply d
  unfold byGroup
  generalize Host.reduceAdd (shapeCast S24x64 d shapeCasts_S1x1536_S24x64) (constant S_ .f32 0x00000000#32) reducesTo_S24x64_S24_d1 h_S_ = u at hg
  pointwise
  by_cases h : l.val < 24
  · rw [dif_pos h, dif_pos h]
    exact hg _
  · rw [dif_neg h, dif_neg h]

end Cert.DiscProof

end
-- ==== Proof.PoolRows.lean ====
/-
The pooling's backward pass, one column at a time at exact float values: the sums over the windows a row lies in.
-/
module

public import proofs.«01_k».proof.Proof.BackRows

@[expose] public section

noncomputable section

namespace Cert.PoolProof

open Idealize.ShloMosaic

/-- The window of a column's group. -/
def win (k : Fin 384) : ℕ := if k.val < 96 then 2 else if k.val < 192 then 4 else if k.val < 288 then 8 else 16

/-- How many rows a window that ends at row `t` has. -/
abbrev cnt (w t : ℕ) : EReal := (((min (t + 1) w : ℕ) : ℝ) : EReal)

/-- A column past its end: nothing. -/
def ext (f : Fin 2048 → EReal) (n : ℕ) : EReal := if h : n < 2048 then f ⟨n, h⟩ else 0

theorem ext_of_lt (f : Fin 2048 → EReal) (n : Fin 2048) : ext f n.val = f n := dif_pos n.isLt

theorem ext_of_ge (f : Fin 2048 → EReal) {n : ℕ} (h : 2048 ≤ n) : ext f n = 0 := dif_neg (by omega)

/-- Each row's gradient over the rows of its window. -/
abbrev share (w : ℕ) (d : Fin 2048 → EReal) (t : Fin 2048) : EReal := d t * (cnt w t.val)⁻¹

/-- The gradient of a column of the pooling's input. -/
def pooled (w : ℕ) (d : Fin 2048 → EReal) (l : Fin 2048) : EReal := (∑ i ∈ Finset.range w, ext (share w d) (l.val + i)) - d l

theorem win_le (k : Fin 384) : 2 ≤ win k ∧ win k ≤ 16 := by
  unfold win
  split_ifs <;> omega

theorem cnt_ne {w t : ℕ} (h : 0 < w) : cnt w t ≠ 0 := by
  have : ((min (t + 1) w : ℕ) : ℝ) ≠ 0 := Nat.cast_ne_zero.mpr (by omega)
  exact fun e => this (EReal.coe_eq_zero.mp e)

theorem div_cnt {w t : ℕ} (h : 0 < w) (x : EReal) : Ideal.div x (cnt w t) = x * (cnt w t)⁻¹ := if_neg (cnt_ne h)

/-- A band of a column of the averaging matrix. -/
theorem sum_band (g : ℕ → EReal) (hg : ∀ n, 2048 ≤ n → g n = 0) (s w : ℕ) :
    ∑ t : Fin 2048, (if s ≤ t.val ∧ t.val < s + w then g t.val else 0) = ∑ i ∈ Finset.range w, g (s + i) := by
  rw [Fin.sum_univ_eq_sum_range (fun t => if s ≤ t ∧ t < s + w then g t else 0) 2048]
  have h2 : ∑ i ∈ Finset.range w, g (s + i) = ∑ t ∈ Finset.Ico s (s + w), g t := by
    rw [Finset.sum_Ico_eq_sum_range, Nat.add_sub_cancel_left]
  rw [h2, ← Finset.sum_filter]
  refine Finset.sum_subset (fun t ht => ?_) fun t ht hn => ?_
  · exact Finset.mem_Ico.mpr (Finset.mem_filter.mp ht).2
  · refine hg t (Nat.le_of_not_lt fun hlt => hn ?_)
    exact Finset.mem_filter.mpr ⟨Finset.mem_range.mpr hlt, Finset.mem_Ico.mp ht⟩

/-! ## The numbers of rows as the programs have them -/

theorem toInt_ofNat {n : ℕ} (h : n < 4096) : (BitVec.ofNat 32 n).toInt = n := by
  rw [BitVec.toInt_eq_toNat_of_lt (by rw [BitVec.toNat_ofNat]; omega), BitVec.toNat_ofNat]
  omega

theorem addi_ofNat (a b : ℕ) : IntOp.addi (BitVec.ofNat 32 a) (BitVec.ofNat 32 b) = BitVec.ofNat 32 (a + b) :=
  (BitVec.ofNat_add a b).symm

theorem next_int {t : ℕ} (h : t < 2048) : (FloatOps.sitofp (F := Ideal) FTy.f32 (IntOp.addi (BitVec.ofNat 32 t) 1#32) : EReal) = (((t + 1 : ℕ) : ℝ) : EReal) := by
  rw [addi_ofNat]
  show (((BitVec.ofNat 32 (t + 1)).toInt : ℝ) : EReal) = _
  rw [toInt_ofNat (by omega)]
  push_cast
  rfl

theorem min_next (t w : ℕ) : min (((t + 1 : ℕ) : ℝ) : EReal) ((w : ℝ) : EReal) = cnt w t := by
  unfold cnt
  rw [Nat.cast_min]
  exact (EReal.coe_strictMono.monotone.map_min).symm

theorem cnt_int {t w : ℕ} (h : t < 2048) (hw : w ≤ 16) :
    (FloatOps.sitofp (F := Ideal) FTy.f32 (IntOp.minsi (IntOp.addi (BitVec.ofNat 32 t) 1#32) (BitVec.ofNat 32 w)) : EReal) = cnt w t := by
  rw [addi_ofNat]
  show (((IntOp.minsi (BitVec.ofNat 32 (t + 1)) (BitVec.ofNat 32 w)).toInt : ℝ) : EReal) = _
  have : (IntOp.minsi (BitVec.ofNat 32 (t + 1)) (BitVec.ofNat 32 w)).toInt = ((min (t + 1) w : ℕ) : ℤ) := by
    unfold IntOp.minsi
    split
    · rename_i hs
      have hs' := hs
      simp only [BitVec.slt, BitVec.sle, decide_eq_true_eq, toInt_ofNat (show t + 1 < 4096 by omega), toInt_ofNat (show w < 4096 by omega)] at hs'
      rw [toInt_ofNat (by omega)]
      omega
    · rename_i hs
      have hs' := hs
      simp only [BitVec.slt, BitVec.sle, decide_eq_true_eq, toInt_ofNat (show t + 1 < 4096 by omega), toInt_ofNat (show w < 4096 by omega)] at hs'
      rw [toInt_ofNat (by omega)]
      omega
  rw [this]
  rfl

theorem band_int {s t w : ℕ} (hs : s < 2048) (ht : t < 2048) (hw : w ≤ 16) :
    (FloatOps.uitofp (F := Ideal) FTy.f32 (IntOp.andi (IntOp.cmpi .sle (BitVec.ofNat 32 s) (BitVec.ofNat 32 t))
      (IntOp.cmpi .slt (BitVec.ofNat 32 t) (IntOp.addi (BitVec.ofNat 32 s) (BitVec.ofNat 32 w)))) : EReal) = if s ≤ t ∧ t < s + w then 1 else 0 := by
  rw [addi_ofNat]
  have h1 : IntOp.cmpi .sle (BitVec.ofNat 32 s) (BitVec.ofNat 32 t) = BitVec.ofBool (decide (s ≤ t)) := by
    unfold IntOp.cmpi
    simp [BitVec.sle, toInt_ofNat (show s < 4096 by omega), toInt_ofNat (show t < 4096 by omega)]
  have h2 : IntOp.cmpi .slt (BitVec.ofNat 32 t) (BitVec.ofNat 32 (s + w)) = BitVec.ofBool (decide (t < s + w)) := by
    unfold IntOp.cmpi
    simp only [BitVec.slt, toInt_ofNat (show s + w < 4096 by omega), toInt_ofNat (show t < 4096 by omega), Int.ofNat_lt]
  rw [h1, h2]
  show (((IntOp.andi (BitVec.ofBool (decide (s ≤ t))) (BitVec.ofBool (decide (t < s + w)))).toNat : ℝ) : EReal) = _
  by_cases a : s ≤ t <;> by_cases b : t < s + w <;> simp [a, b, IntOp.andi]

end Cert.PoolProof

end
-- ==== Proof.DiscPoint.lean ====
/-
The kernel of the discretisation's pullback at exact float values: its results are the same steps.
-/
module

public import proofs.«01_k».proof.Proof.Gen.DiscIdeal.Frame
public import proofs.«01_k».proof.Proof.DiscSteps
public import proofs.«01_k».proof.Proof.PoolRows

@[expose] public section

set_option maxRecDepth 16384

noncomputable section

namespace Cert.DiscProof

open Idealize.ShloMosaic Idealize.ShloMosaic.TcCoe Idealize.SL.Sem
open Cert.DiscIdeal Cert.DiscIdeal.Gen
open Cert.AttnProof (select_head)
open Cert.PoolProof (addi_ofNat)

theorem ld_row (x : Vec Ideal S1x1536 .f32) : (View.ld x r0_0 : Vec Ideal S1x1536 .f32) = x := View.ld_unit_zero (S := S1x1536) (by decide) _ x

theorem ld_mat (x : Vec Ideal S16x1536 .f32) : (View.ld x r0_1 : Vec Ideal S16x1536 .f32) = x := View.ld_unit_zero (S := S16x1536) (by decide) _ x

theorem zero_less {S : Shape} (x : FVec Ideal S .f32) : subf (broadcast S (FloatOps.ofBits .f32 0x00000000#32 : Ideal .f32)) x = Host.negf x := by
  funext j
  show ((FloatOps.ofBits .f32 0x00000000#32 : Ideal .f32) : EReal) - (x j : EReal) = -(x j : EReal)
  rw [show (FloatOps.ofBits .f32 0x00000000#32 : Ideal .f32) = 0 from Ideal.ofBits_zero_f32]
  exact zero_sub _

theorem ones_eq : (broadcast S1x1536 (FloatOps.ofBits .f32 0x3F800000#32 : Ideal .f32) : Row) = ones := rfl

theorem spread_eq (x : Row) : (broadcastTo S16x1536 x broadcasts_S1x1536_S16x1536 : Mat) = spread x := by
  funext j
  obtain ⟨c, s, rfl⟩ : ∃ (c : Fin 16) (s : Fin 1536), j = ix2 c s := ⟨j 0, j 1, (ix2_eta (n0 := 16) (n1 := 1536) j).symm⟩
  unfold spread
  pointwise

theorem total_eq (x : Mat) :
    (shapeCast S1x1536 (multiReduction .add [0] S1536 x 0x00000000#32 reduces_S16x1536_S1536 (.inl rfl) rfl) shapeCasts_S1536_S1x1536 : Row) = total x := by
  funext j
  obtain ⟨c, s, rfl⟩ : ∃ (c : Fin 1) (s : Fin 1536), j = ix2 c s := ⟨j 0, j 1, (ix2_eta (n0 := 1) (n1 := 1536) j).symm⟩
  unfold total
  pointwise

section Steps

variable (a0 a1 a2 : Row) (a3 a4 : Mat) (a5 a6 : Row) (a7 a8 : Mat)

theorem pay9_eq : k0_pay9 a0 a1 a2 = stepRe a0 a1 a2 := rfl

theorem pay8_eq : k0_pay8 a0 a1 a2 = stepIm a0 a1 a2 := rfl

theorem pay10_eq : k0_pay10 a0 a1 = size a0 a1 := rfl

theorem pay11_eq : k0_pay11 a0 a1 a2 = numRe a0 a1 a2 := rfl

theorem pay12_eq : k0_pay12 a0 a1 a2 = gainRe a0 a1 a2 := rfl

theorem pay13_eq : k0_pay13 a0 a1 = invSq a0 a1 := rfl

theorem pay14_eq : k0_pay14 a0 a1 a2 = numIm a0 a1 a2 := rfl

theorem pay15_eq : k0_pay15 a0 a1 a2 = gainIm a0 a1 a2 := rfl

theorem pay16_eq : k0_pay16 a0 a1 = invSq a0 a1 := rfl

theorem pay20_eq : k0_pay20 a7 = Host.negf a7 := zero_less a7

theorem pay21_eq (f g : Row) (v : Mat) : k0_pay21 f g a7 v = addf (mulf (spread f) v) (mulf (spread g) (Host.negf a7)) := by
  unfold k0_pay21
  dsimp only
  rw [spread_eq, spread_eq, pay20_eq]

theorem pay22_eq : k0_pay22 a3 a4 a7 a8 = dGainIm a3 a4 a7 a8 := by
  unfold k0_pay22
  dsimp only
  rw [total_eq, total_eq, pay20_eq]
  rfl

theorem pay23_eq (f g : Row) : k0_pay23 f g a7 a8 = addf (mulf (spread g) (same a8)) (mulf (spread f) (same a7)) := by
  unfold k0_pay23
  dsimp only
  rw [spread_eq, spread_eq]
  rfl

theorem pay24_eq : k0_pay24 a3 a4 a7 (same a8) = dGainRe a3 a4 a7 a8 := by
  unfold k0_pay24
  dsimp only
  rw [total_eq, total_eq]
  rfl

theorem pay25_eq : k0_pay25 a3 a4 (size a0 a1) a7 a8 = dNumIm a0 a1 a3 a4 a7 a8 := by
  unfold k0_pay25
  dsimp only
  rw [pay22_eq]
  rfl

theorem pay26_eq : k0_pay26 a3 a4 (size a0 a1) a7 a8 = Host.negf (dNumIm a0 a1 a3 a4 a7 a8) := by
  unfold k0_pay26
  dsimp only
  rw [zero_less, pay25_eq]

theorem pay27_eq : k0_pay27 a1 a3 a4 (size a0 a1) a5 a7 a8 = addf a5 (mulf (Host.negf (dNumIm a0 a1 a3 a4 a7 a8)) a1) := by
  unfold k0_pay27
  dsimp only
  rw [pay26_eq]

theorem pay28_eq : k0_pay28 a3 a4 (stepIm a0 a1 a2) (size a0 a1) a7 a8 = mulf (stepIm a0 a1 a2) (dNumIm a0 a1 a3 a4 a7 a8) := by
  unfold k0_pay28
  dsimp only
  rw [pay25_eq]

theorem pay29_eq : k0_pay29 a3 a4 (numRe a0 a1 a2) (invSq a0 a1) (numIm a0 a1 a2) (invSq a0 a1) a7 a8 (same a8) = dSize a0 a1 a2 a3 a4 a7 a8 := by
  unfold k0_pay29
  dsimp only
  rw [zero_less, zero_less, pay22_eq, pay24_eq]
  rfl

theorem pay30_eq : k0_pay30 a3 a4 (size a0 a1) a7 (same a8) = dNumRe a0 a1 a3 a4 a7 a8 := by
  unfold k0_pay30
  dsimp only
  rw [pay24_eq]
  rfl

theorem pay31_eq : k0_pay31 a3 a4 (stepIm a0 a1 a2) (stepRe a0 a1 a2) (size a0 a1) a7 a8 (same a8)
    = addf (mulf (stepRe a0 a1 a2) (Host.negf (dNumIm a0 a1 a3 a4 a7 a8))) (mulf (stepIm a0 a1 a2) (dNumRe a0 a1 a3 a4 a7 a8)) := by
  unfold k0_pay31
  dsimp only
  rw [pay26_eq, pay30_eq]

theorem pay32_eq : k0_pay32 a0 a1 a3 a4 (size a0 a1) a6 a7 a8 (same a8) = dStepIm a0 a1 a3 a4 a6 a7 a8 := by
  unfold k0_pay32
  dsimp only
  rw [pay25_eq, pay30_eq]
  rfl

theorem pay33_eq : k0_pay33 a3 a4 (stepRe a0 a1 a2) (size a0 a1) a7 (same a8) = mulf (stepRe a0 a1 a2) (dNumRe a0 a1 a3 a4 a7 a8) := by
  unfold k0_pay33
  dsimp only
  rw [pay30_eq]

theorem pay34_eq : k0_pay34 a0 (addf a5 (mulf (Host.negf (dNumIm a0 a1 a3 a4 a7 a8)) a1)) (dNumRe a0 a1 a3 a4 a7 a8) = dStepRe a0 a1 a3 a4 a5 a7 a8 := rfl

theorem pay35_eq : k0_pay35 a0 (mag a0 a2) (sine a1 a2) (cosine a1 a2) (addf a5 (mulf (Host.negf (dNumIm a0 a1 a3 a4 a7 a8)) a1)) (dNumRe a0 a1 a3 a4 a7 a8)
    (dStepIm a0 a1 a3 a4 a6 a7 a8) = dAngle a0 a1 a2 a3 a4 a5 a6 a7 a8 := by
  unfold k0_pay35
  dsimp only
  rw [zero_less, pay34_eq]
  rfl

theorem pay37_eq : k0_pay37 a0 (mag a0 a2) (cosine a1 a2) (sine a1 a2) (addf a5 (mulf (Host.negf (dNumIm a0 a1 a3 a4 a7 a8)) a1)) (dNumRe a0 a1 a3 a4 a7 a8)
    (dStepIm a0 a1 a3 a4 a6 a7 a8) = dGrowth a0 a1 a2 a3 a4 a5 a6 a7 a8 := by
  unfold k0_pay37
  dsimp only
  rw [pay34_eq]
  rfl

/-- The values the kernel keeps. -/
theorem kept40 : k0_pay40 a0 a1 a2 a3 a4 a5 a6 a7 a8 = dt a2 := by
  unfold k0_pay40
  rw [ld_row]
  rfl

theorem kept41 : k0_pay41 a0 a1 a2 a3 a4 a5 a6 a7 a8 = mag a0 a2 := by
  unfold k0_pay41
  rw [ld_row, ld_row]
  rfl

theorem kept42 : k0_pay42 a0 a1 a2 a3 a4 a5 a6 a7 a8 = cosine a1 a2 := by
  unfold k0_pay42
  rw [ld_row, ld_row]
  rfl

theorem kept43 : k0_pay43 a0 a1 a2 a3 a4 a5 a6 a7 a8 = sine a1 a2 := by
  unfold k0_pay43
  rw [ld_row, ld_row]
  rfl

theorem kept44 : k0_pay44 a0 a1 a2 a3 a4 a5 a6 a7 a8 = sine a1 a2 := by
  unfold k0_pay44
  rw [ld_row, ld_row]
  rfl

theorem kept45 : k0_pay45 a0 a1 a2 a3 a4 a5 a6 a7 a8 = cosine a1 a2 := by
  unfold k0_pay45
  rw [ld_row, ld_row]
  rfl

theorem kept46 : k0_pay46 a0 a1 a2 a3 a4 a5 a6 a7 a8 = stepIm a0 a1 a2 := by
  unfold k0_pay46
  rw [ld_row, ld_row, ld_row]
  rfl

theorem kept47 : k0_pay47 a0 a1 a2 a3 a4 a5 a6 a7 a8 = stepRe a0 a1 a2 := by
  unfold k0_pay47
  rw [ld_row, ld_row, ld_row]
  rfl

theorem kept48 : k0_pay48 a0 a1 a2 a3 a4 a5 a6 a7 a8 = size a0 a1 := by
  unfold k0_pay48
  rw [ld_row, ld_row]
  rfl

theorem kept49 : k0_pay49 a0 a1 a2 a3 a4 a5 a6 a7 a8 = gainRe a0 a1 a2 := by
  unfold k0_pay49
  rw [ld_row, ld_row, ld_row]
  rfl

theorem kept50 : k0_pay50 a0 a1 a2 a3 a4 a5 a6 a7 a8 = gainIm a0 a1 a2 := by
  unfold k0_pay50
  rw [ld_row, ld_row, ld_row]
  rfl

theorem kept51 : k0_pay51 a0 a1 a2 a3 a4 a5 a6 a7 a8 = same a8 := by
  unfold k0_pay51
  rw [ld_mat]
  rfl

theorem kept52 : k0_pay52 a0 a1 a2 a3 a4 a5 a6 a7 a8 = addf a5 (mulf (Host.negf (dNumIm a0 a1 a3 a4 a7 a8)) a1) := by
  unfold k0_pay52
  simp only [ld_row, ld_mat]
  rw [kept48, pay27_eq]

theorem kept53 : k0_pay53 a0 a1 a2 a3 a4 a5 a6 a7 a8 = dSize a0 a1 a2 a3 a4 a7 a8 := by
  unfold k0_pay53
  simp only [ld_row, ld_mat]
  rw [kept51, pay11_eq, pay13_eq, pay14_eq, pay16_eq, pay29_eq]

theorem kept54 : k0_pay54 a0 a1 a2 a3 a4 a5 a6 a7 a8 = dNumRe a0 a1 a3 a4 a7 a8 := by
  unfold k0_pay54
  simp only [ld_row, ld_mat]
  rw [kept48, kept51, pay30_eq]

theorem kept55 : k0_pay55 a0 a1 a2 a3 a4 a5 a6 a7 a8 = dStepIm a0 a1 a3 a4 a6 a7 a8 := by
  unfold k0_pay55
  simp only [ld_row, ld_mat]
  rw [kept48, kept51, pay32_eq]

end Steps

theorem toInt_small {n : ℕ} (h : n < 16384) : (BitVec.ofNat 32 n).toInt = n := by
  have e : (BitVec.ofNat 32 n).toNat = n := by rw [BitVec.toNat_ofNat]; omega
  rw [BitVec.toInt_eq_toNat_of_lt (by omega), e]

theorem muli_64 (n : ℕ) : IntOp.muli (BitVec.ofNat 32 n) 64#32 = BitVec.ofNat 32 (n * 64) := (BitVec.ofNat_mul n 64).symm

/-- The states of a lane's group, as comparisons of a state's number. -/
theorem mask_group (s : Fin 1536) (l : Fin 128) :
    IntOp.andi (IntOp.cmpi .sge (BitVec.ofNat 32 s.val) (IntOp.muli (BitVec.ofNat 32 l.val) 64#32))
      (IntOp.cmpi .slt (BitVec.ofNat 32 s.val) (IntOp.muli (IntOp.addi (BitVec.ofNat 32 l.val) 1#32) 64#32))
      = if s.val / 64 = l.val then 1#1 else 0#1 := by
  have hs := s.isLt
  have hl := l.isLt
  rw [addi_ofNat, muli_64, muli_64]
  have h1 : IntOp.cmpi .sge (BitVec.ofNat 32 s.val) (BitVec.ofNat 32 (l.val * 64)) = BitVec.ofBool (decide (l.val * 64 ≤ s.val)) := by
    unfold IntOp.cmpi
    simp only [BitVec.sle, toInt_small (show s.val < 16384 by omega), toInt_small (show l.val * 64 < 16384 by omega), Int.ofNat_le]
  have h2 : IntOp.cmpi .slt (BitVec.ofNat 32 s.val) (BitVec.ofNat 32 ((l.val + 1) * 64)) = BitVec.ofBool (decide (s.val < (l.val + 1) * 64)) := by
    unfold IntOp.cmpi
    simp only [BitVec.slt, toInt_small (show s.val < 16384 by omega), toInt_small (show (l.val + 1) * 64 < 16384 by omega), Int.ofNat_lt]
  rw [h1, h2]
  by_cases a : l.val * 64 ≤ s.val <;> by_cases b : s.val < (l.val + 1) * 64
  · rw [if_pos (by omega)]
    simp [a, b, IntOp.andi]
  all_goals
    rw [if_neg (by omega)]
    simp [a, b, IntOp.andi]

/-- The product with the groups' indicator. -/
theorem groups_eq (d : Row) (w : FVec Ideal S1x128 .f32)
    (h : w = matmul (φ₁ := .f32) (φ₂ := .f32) dot_S1x1536_S1536x128_S1x128_1_0_0_1_n_n (some .fp32) d
      (select (andi (cmpi .sge (iota .tc S1536x128 32 [0] iota_S1536x128_d0_w32) (muli (iota .tc S1536x128 32 [1] iota_S1536x128_d1_w32) (broadcast S1536x128 64#32)))
        (cmpi .slt (iota .tc S1536x128 32 [0] iota_S1536x128_d0_w32)
          (muli (addi (iota .tc S1536x128 32 [1] iota_S1536x128_d1_w32) (broadcast S1536x128 1#32)) (broadcast S1536x128 64#32))))
        (broadcast S1536x128 (FloatOps.ofBits .f32 0x3F800000#32 : Ideal .f32)) (broadcast S1536x128 (FloatOps.ofBits .f32 0x00000000#32 : Ideal .f32)))
      (constant (F := Ideal) S1x128 .f32 0x00000000#32)) : w = byGroup d := by
  subst h
  funext j
  obtain ⟨l, rfl⟩ : ∃ l : Fin 128, j = ix2 0 l := ⟨j 1, by
    conv_lhs => rw [← ix2_eta (n0 := 1) (n1 := 128) j]
    exact congrArg (ix2 · (j 1)) (Subsingleton.elim _ _)⟩
  rw [byGroup_apply]
  pointwise
  simp only [mask_group, select_head]
  exact sum_group l fun s => (d (ix2 0 s) : EReal)

end Cert.DiscProof

end
-- ==== Proof.DiscValues.lean ====
/-
The discretisation's pullback: the frames, and at exact float values the kernel's results against the reference's.
-/
module

public import proofs.«01_k».proof.Defs
public import proofs.«01_k».proof.Proof.DiscPoint
public import proofs.«01_k».proof.Proof.Gen.DiscIdeal.Value
public import proofs.«01_k».proof.Proof.Gen.DiscRefIdeal.Run

@[expose] public section

set_option maxRecDepth 16384

noncomputable section

namespace Cert.DiscProof

open Idealize.ShloMosaic Idealize.ShloMosaic.TcCoe Idealize.SL.Sem

/-- The reference, which declares no semaphore. -/
theorem frame_reference : Cert.quiescent_DiscRefIdeal := fun m ρ _ =>
  (θ_run Cert.DiscRefIdeal.defs _ _).mono
    (fun _ h => ⟨fun c => (h c).2.2.2.2.2, funext fun g => by rcases g with ⟨_, s⟩; rcases s with s | s <;> exact s.elim0⟩)
    (Cert.DiscRefIdeal.Value.run (F := Ideal) m ρ)

section Kernel

open Cert.DiscIdeal Cert.DiscIdeal.Gen

variable (a0 a1 a2 : Row) (a3 a4 : Mat) (a5 a6 : Row) (a7 a8 : Mat)

theorem final9 : Cert.DiscIdeal.Value.G9 (F := Ideal) a0 a1 a2 a3 a4 a5 a6 a7 a8 = outAr a0 a1 a2 a3 a4 a5 a6 a7 a8 := by
  unfold Cert.DiscIdeal.Value.G9
  rw [kept40, kept41, kept42, kept44, kept46, kept47, kept48, kept51, kept52, kept53, kept54, kept55, pay28_eq, pay33_eq]
  unfold k0_pay38
  rw [pay37_eq]
  rfl

theorem final10 : Cert.DiscIdeal.Value.G10 (F := Ideal) a0 a1 a2 a3 a4 a5 a6 a7 a8 = outAi a0 a1 a2 a3 a4 a5 a6 a7 a8 := by
  unfold Cert.DiscIdeal.Value.G10
  rw [kept40, kept41, kept43, kept45, kept46, kept47, kept48, kept51, kept52, kept53, kept54, kept55, pay31_eq]
  unfold k0_pay36
  rw [pay35_eq]
  rfl

theorem final11 : Cert.DiscIdeal.Value.G11 (F := Ideal) a0 a1 a2 a3 a4 a5 a6 a7 a8 = byGroup (dLog a0 a1 a2 a3 a4 a5 a6 a7 a8) := by
  unfold Cert.DiscIdeal.Value.G11
  rw [kept40, kept41, kept42, kept43, kept44, kept45, kept52, kept54, kept55]
  unfold k0_pay39
  rw [pay35_eq, pay37_eq]
  exact groups_eq _ _ rfl

theorem final12 : Cert.DiscIdeal.Value.G12 (F := Ideal) a0 a1 a2 a3 a4 a5 a6 a7 a8 = outBr a0 a1 a2 a7 a8 := by
  unfold Cert.DiscIdeal.Value.G12
  rw [kept49, kept50, pay23_eq]
  rfl

theorem final13 : Cert.DiscIdeal.Value.G13 (F := Ideal) a0 a1 a2 a3 a4 a5 a6 a7 a8 = outBi a0 a1 a2 a7 a8 := by
  unfold Cert.DiscIdeal.Value.G13
  rw [kept49, kept50, kept51, pay21_eq]
  rfl

end Kernel

section Reference

open Cert.DiscRefIdeal

variable (m : (ℓ : Loc nD τ sig) → Buf (Elt Ideal) ℓ) (ρ : Dev nD → PrngReg)

/-- What the reference leaves: the steps above, of its arguments. -/
theorem run : θ_run defs (onTc (τ := τ) (main (F := Ideal))) ⟨m, fun _ => 0, ρ⟩ fun r => ∀ c : Dev nD,
      r.2.mem ((c : Thread nD τ).loc main_v115) = outAr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v111) = outAi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v121) = byGroup (dLog (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c : Thread nD τ).loc main_v62) = outBr (m ((c : Thread nD τ).loc main_arg0)) (m ((c : Thread nD τ).loc main_arg1)) (m ((c : Thread nD τ).loc main_arg2)) (m ((c : Thread nD τ).loc main_arg7)) (m ((c : Thread nD τ).loc main_arg8))
      ∧ r.2.mem ((c : Thread nD τ).loc main_v55) = outBi (m ((c : Thread nD τ).loc main_arg0)) (m ((c : Thread nD τ).loc main_arg1)) (m ((c : Thread nD τ).loc main_arg2)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  Value.run m ρ

end Reference

theorem algebraic : Cert.algebraic_DiscIdeal_DiscRefIdeal := fun m g m' g' _ hin =>
  ⟨fun c => outAr (m ((c.tc : Thread Cert.DiscIdeal.nD Cert.DiscIdeal.τ).loc Cert.DiscIdeal.main_arg0)) (m ((c.tc : Thread Cert.DiscIdeal.nD Cert.DiscIdeal.τ).loc Cert.DiscIdeal.main_arg1)) (m ((c.tc : Thread Cert.DiscIdeal.nD Cert.DiscIdeal.τ).loc Cert.DiscIdeal.main_arg2)) (m ((c.tc : Thread Cert.DiscIdeal.nD Cert.DiscIdeal.τ).loc Cert.DiscIdeal.main_arg3)) (m ((c.tc : Thread Cert.DiscIdeal.nD Cert.DiscIdeal.τ).loc Cert.DiscIdeal.main_arg4)) (m ((c.tc : Thread Cert.DiscIdeal.nD Cert.DiscIdeal.τ).loc Cert.DiscIdeal.main_arg5)) (m ((c.tc : Thread Cert.DiscIdeal.nD Cert.DiscIdeal.τ).loc Cert.DiscIdeal.main_arg6)) (m ((c.tc : Thread Cert.DiscIdeal.nD Cert.DiscIdeal.τ).loc Cert.DiscIdeal.main_arg7)) (m ((c.tc : Thread Cert.DiscIdeal.nD Cert.DiscIdeal.τ).loc Cert.DiscIdeal.main_arg8)),
    fun c => outAi (m ((c.tc : Thread Cert.DiscIdeal.nD Cert.DiscIdeal.τ).loc Cert.DiscIdeal.main_arg0)) (m ((c.tc : Thread Cert.DiscIdeal.nD Cert.DiscIdeal.τ).loc Cert.DiscIdeal.main_arg1)) (m ((c.tc : Thread Cert.DiscIdeal.nD Cert.DiscIdeal.τ).loc Cert.DiscIdeal.main_arg2)) (m ((c.tc : Thread Cert.DiscIdeal.nD Cert.DiscIdeal.τ).loc Cert.DiscIdeal.main_arg3)) (m ((c.tc : Thread Cert.DiscIdeal.nD Cert.DiscIdeal.τ).loc Cert.DiscIdeal.main_arg4)) (m ((c.tc : Thread Cert.DiscIdeal.nD Cert.DiscIdeal.τ).loc Cert.DiscIdeal.main_arg5)) (m ((c.tc : Thread Cert.DiscIdeal.nD Cert.DiscIdeal.τ).loc Cert.DiscIdeal.main_arg6)) (m ((c.tc : Thread Cert.DiscIdeal.nD Cert.DiscIdeal.τ).loc Cert.DiscIdeal.main_arg7)) (m ((c.tc : Thread Cert.DiscIdeal.nD Cert.DiscIdeal.τ).loc Cert.DiscIdeal.main_arg8)),
    fun c => byGroup (dLog (m ((c.tc : Thread Cert.DiscIdeal.nD Cert.DiscIdeal.τ).loc Cert.DiscIdeal.main_arg0)) (m ((c.tc : Thread Cert.DiscIdeal.nD Cert.DiscIdeal.τ).loc Cert.DiscIdeal.main_arg1)) (m ((c.tc : Thread Cert.DiscIdeal.nD Cert.DiscIdeal.τ).loc Cert.DiscIdeal.main_arg2)) (m ((c.tc : Thread Cert.DiscIdeal.nD Cert.DiscIdeal.τ).loc Cert.DiscIdeal.main_arg3)) (m ((c.tc : Thread Cert.DiscIdeal.nD Cert.DiscIdeal.τ).loc Cert.DiscIdeal.main_arg4)) (m ((c.tc : Thread Cert.DiscIdeal.nD Cert.DiscIdeal.τ).loc Cert.DiscIdeal.main_arg5)) (m ((c.tc : Thread Cert.DiscIdeal.nD Cert.DiscIdeal.τ).loc Cert.DiscIdeal.main_arg6)) (m ((c.tc : Thread Cert.DiscIdeal.nD Cert.DiscIdeal.τ).loc Cert.DiscIdeal.main_arg7)) (m ((c.tc : Thread Cert.DiscIdeal.nD Cert.DiscIdeal.τ).loc Cert.DiscIdeal.main_arg8))),
    fun c => outBr (m ((c.tc : Thread Cert.DiscIdeal.nD Cert.DiscIdeal.τ).loc Cert.DiscIdeal.main_arg0)) (m ((c.tc : Thread Cert.DiscIdeal.nD Cert.DiscIdeal.τ).loc Cert.DiscIdeal.main_arg1)) (m ((c.tc : Thread Cert.DiscIdeal.nD Cert.DiscIdeal.τ).loc Cert.DiscIdeal.main_arg2)) (m ((c.tc : Thread Cert.DiscIdeal.nD Cert.DiscIdeal.τ).loc Cert.DiscIdeal.main_arg7)) (m ((c.tc : Thread Cert.DiscIdeal.nD Cert.DiscIdeal.τ).loc Cert.DiscIdeal.main_arg8)),
    fun c => outBi (m ((c.tc : Thread Cert.DiscIdeal.nD Cert.DiscIdeal.τ).loc Cert.DiscIdeal.main_arg0)) (m ((c.tc : Thread Cert.DiscIdeal.nD Cert.DiscIdeal.τ).loc Cert.DiscIdeal.main_arg1)) (m ((c.tc : Thread Cert.DiscIdeal.nD Cert.DiscIdeal.τ).loc Cert.DiscIdeal.main_arg2)) (m ((c.tc : Thread Cert.DiscIdeal.nD Cert.DiscIdeal.τ).loc Cert.DiscIdeal.main_arg7)) (m ((c.tc : Thread Cert.DiscIdeal.nD Cert.DiscIdeal.τ).loc Cert.DiscIdeal.main_arg8)),
    (θ_run Cert.DiscIdeal.defs _ _).mono (fun _ h c => by
      obtain ⟨h0, h1, h2, h3, h4, kept⟩ := h c
      exact ⟨h0.trans (final9 _ _ _ _ _ _ _ _ _), h1.trans (final10 _ _ _ _ _ _ _ _ _), h2.trans (final11 _ _ _ _ _ _ _ _ _),
        h3.trans (final12 _ _ _ _ _ _ _ _ _), h4.trans (final13 _ _ _ _ _ _ _ _ _), kept⟩) (Cert.DiscIdeal.Value.run (F := Ideal) m g),
    (θ_run Cert.DiscRefIdeal.defs _ _).mono (fun _ h c => by
      obtain ⟨e0, e1, e2, e3, e4, e5, e6, e7, e8⟩ := hin c
      obtain ⟨h0, h1, h2, h3, h4, kept⟩ := h c
      refine ⟨h0.trans ?_, h1.trans ?_, h2.trans ?_, h3.trans ?_, h4.trans ?_, kept⟩
      · rw [e0, e1, e2, e3, e4, e5, e6, e7, e8]
      · rw [e0, e1, e2, e3, e4, e5, e6, e7, e8]
      · rw [e0, e1, e2, e3, e4, e5, e6, e7, e8]
      · rw [e0, e1, e2, e7, e8]
      · rw [e0, e1, e2, e7, e8]) (run m' g')⟩

end Cert.DiscProof

end
-- ==== Proof.PoolBPoint.lean ====
/-
One sequence of the pooling's backward pass at exact float values: what the body leaves in the three results' blocks.
-/
module

public import proofs.«01_k».proof.Proof.Gen.PoolBIdeal.Value
public import proofs.«01_k».proof.Proof.PoolRows
public import Idealize.ShloMosaic.Lib.Pipeline.ReadBack

@[expose] public section

set_option maxRecDepth 16384

noncomputable section

namespace Cert.PoolProof

open Idealize.ShloMosaic Idealize.SL.Sem
open Cert.PoolBIdeal Cert.PoolBIdeal.Gen
open Cert.BackProof (row)

/-! ## The rows kept between the passes -/

/-- The first 2048 rows, the sixteen after them, and as many rows from row `n` on. -/
abbrev body : Rect S2064x384 := Rect.unit ![0, 0] ![2048, 384] inb_S2064x384_S2048x384_0_0

abbrev pad : Rect S2064x384 := Rect.unit ![2048, 0] ![16, 384] inb_S2064x384_S16x384_2048_0

/-- A column of rows. -/
abbrev column (f : Vec Ideal S2048x384 .f32) (k : Fin 384) : Fin 2048 → EReal := fun l => f (ix2 l k)

/-- The rows from row `n` on, nothing past the last. -/
def moved (n : ℕ) (f : Vec Ideal S2048x384 .f32) : Vec Ideal S2048x384 .f32 := fun j => ext (column f (j 1)) ((j 0).val + n)

/-- Pieces that leave nothing in the last sixteen rows. -/
def Padded (L : List (View.Piece (Elt Ideal) S2064x384 .f32)) : Prop := ∀ y : S2064x384.Idx, 2048 ≤ (y 0).val → (View.canon L y : EReal) = 0

theorem not_mem_body {y : S2064x384.Idx} (h : 2048 ≤ (y 0).val) : y ∉ body.set := by
  intro hm
  obtain ⟨x, hx⟩ := body.exists_idx_of_mem hm
  have h0 : (y 0).val = 0 + 1 * (x 0).val := by rw [← hx]; rfl
  have h1 : (x 0).val < 2048 := (x 0).isLt
  omega

theorem padded_pad : Padded [⟨pad, k0_pay7 (F := Ideal)⟩] := by
  intro y hy
  have h2 : (y 0).val < 2064 := (y 0).isLt
  have hx : pad.emb (ix2 (⟨(y 0).val - 2048, by omega⟩ : Fin 16) (y 1 : Fin 384)) = y := by
    funext a
    refine Fin.ext ?_
    match a with
    | ⟨0, _⟩ => show 2048 + 1 * ((y 0).val - 2048) = (y 0).val; omega
    | ⟨1, _⟩ => show 0 + 1 * (y 1).val = (y 1).val; omega
  rw [← hx]
  refine (View.canon_cons_emb (Val := Elt Ideal) (e := .f32) pad (k0_pay7 (F := Ideal)) [] _).trans ?_
  generalize (⟨(y 0).val - 2048, _⟩ : Fin 16) = r
  generalize (y 1 : Fin 384) = k
  unfold k0_pay7
  pointwise

theorem padded_body {f : Vec Ideal S2048x384 .f32} {L : List (View.Piece (Elt Ideal) S2064x384 .f32)} (h : Padded L) : Padded (⟨body, f⟩ :: L) := fun y hy =>
  (View.canon_cons_of_not_mem (⟨body, f⟩ : View.Piece (Elt Ideal) S2064x384 .f32) L (not_mem_body hy)).trans (h y hy)

/-- What is read back of them from row `n` on. -/
theorem read_moved {sp : Space} (v : View sig .tc sp S2064x384 .f32) (n : ℕ) (inb) (f : Vec Ideal S2048x384 .f32) (L : List (View.Piece (Elt Ideal) S2064x384 .f32)) (h : Padded L) :
    v.readCov (⟨body, f⟩ :: L) (Rect.unit (s := S2064x384) ![n, 0] ![2048, 384] inb).toLoadRect = moved n f := by
  rw [View.readCov_eq_canon']
  funext j
  have hj : (j 0).val < 2048 := (j 0).isLt
  by_cases hn : (j 0).val + n < 2048
  · have hx : (Rect.unit (s := S2064x384) ![n, 0] ![2048, 384] inb).toLoadRect.idx j = body.emb (ix2 (⟨(j 0).val + n, hn⟩ : Fin 2048) (j 1 : Fin 384)) := by
      funext a
      refine Fin.ext ?_
      match a with
      | ⟨0, _⟩ => show n + 1 * (j 0).val = 0 + 1 * ((j 0).val + n); omega
      | ⟨1, _⟩ => show 0 + 1 * (j 1).val = 0 + 1 * (j 1).val; omega
    rw [hx]
    exact (View.canon_cons_emb body f L _).trans (ext_of_lt (column f (j 1)) ⟨_, hn⟩).symm
  · refine (padded_body h _ ?_).trans (ext_of_ge (column f (j 1)) (Nat.le_of_not_lt hn)).symm
    show 2048 ≤ n + 1 * (j 0).val
    omega

theorem moved_apply (n : ℕ) (f : Vec Ideal S2048x384 .f32) (l : Fin 2048) (k : Fin 384) : (moved n f (ix2 l k) : EReal) = ext (column f k) (l.val + n) := rfl

/-- Sums of `w` rows from each row on, doubled. -/
theorem doubled (f g : Fin 2048 → EReal) (w : ℕ) (hf : ∀ l, f l = ∑ i ∈ Finset.range w, ext g (l.val + i)) (l : Fin 2048) :
    f l + ext f (l.val + w) = ∑ i ∈ Finset.range (w + w), ext g (l.val + i) := by
  have he : ∀ n, ext f n = ∑ i ∈ Finset.range w, ext g (n + i) := fun n => by
    by_cases h : n < 2048
    · exact (ext_of_lt f ⟨n, h⟩).trans (hf ⟨n, h⟩)
    · rw [ext_of_ge f (by omega)]
      exact (Finset.sum_eq_zero fun i _ => ext_of_ge g (by omega)).symm
  rw [hf, he, Finset.sum_range_add]
  exact congrArg _ (Finset.sum_congr rfl fun i _ => by rw [Nat.add_assoc])

/-! ## The passes -/

theorem lit2 : Ideal.ofBits .f32 0x40000000#32 = ((2 : ℕ) : ℝ) := by
  simp [Ideal.ofBits, Ideal.ieee, -EReal.coe_mul]; norm_num

theorem lit4 : Ideal.ofBits .f32 0x40800000#32 = ((4 : ℕ) : ℝ) := by
  simp [Ideal.ofBits, Ideal.ieee, -EReal.coe_mul]; norm_num

theorem lit8 : Ideal.ofBits .f32 0x41000000#32 = ((8 : ℕ) : ℝ) := by
  simp [Ideal.ofBits, Ideal.ieee, -EReal.coe_mul]; norm_num

theorem lit16 : Ideal.ofBits .f32 0x41800000#32 = ((16 : ℕ) : ℝ) := by
  simp [Ideal.ofBits, Ideal.ieee, -EReal.coe_mul]; norm_num

theorem below (n : ℕ) (hn : n < 4096) (k : Fin 384) : IntOp.cmpi .slt (BitVec.ofNat 32 k.val) (BitVec.ofNat 32 n) = BitVec.ofBool (decide (k.val < n)) := by
  unfold IntOp.cmpi
  simp only [BitVec.slt, toInt_ofNat (show k.val < 4096 by omega), toInt_ofNat hn, Int.ofNat_lt]

theorem select_below (p : Prop) [Decidable p] (a b : EReal) : Scalar.select (BitVec.ofBool (decide p)) a b = if p then a else b := by
  by_cases h : p
  · rw [if_pos h]; simp [h]; rfl
  · rw [if_neg h]; simp [h]; rfl

section Payloads

variable (x0 x1 : Vec Ideal S2048x384 .bf16) (x2 : Vec Ideal S384x384 .bf16) (x3 : Vec Ideal S1x384 .f32)

theorem pay8_apply (k : Fin 384) : (k0_pay8 (F := Ideal) (ix2 0 k) : EReal) = ((win k : ℕ) : ℝ) := by
  unfold k0_pay8
  pointwise
  rw [below 96 (by omega), below 192 (by omega), below 288 (by omega)]
  simp only [select_below, lit2, lit4, lit8, lit16]
  unfold win
  split_ifs <;> rfl

/-- The gradient of the pooled rows, a row and a column at a time. -/
def gradD (y : Fin 2048 → Fin 384 → EReal) (s : Fin 384 → EReal) (w : Fin 384 → Fin 384 → EReal) (k : Fin 384) (l : Fin 2048) : EReal :=
  ∑ j : Fin 384, y l j * s j * w k j

theorem pay13_apply (l : Fin 2048) (k : Fin 384) : (k0_pay13 (F := Ideal) x2 (k0_pay9 (F := Ideal) x1) x3 (ix2 l k) : EReal) = gradD (row x1) (row x3 0) (row x2) k l := by
  unfold k0_pay13 k0_pay11 k0_pay9
  pointwise
  rfl

theorem pay14_apply (l : Fin 2048) (k : Fin 384) :
    (k0_pay14 (F := Ideal) (k0_pay8 (F := Ideal)) x2 (k0_pay9 (F := Ideal) x1) x3 (ix2 l k) : EReal) = share (win k) (gradD (row x1) (row x3 0) (row x2) k) l := by
  have h := fun l => pay13_apply x1 x2 x3 l k
  have h8 := pay8_apply k
  have hw := win_le k
  unfold k0_pay14
  generalize k0_pay13 (F := Ideal) x2 (k0_pay9 (F := Ideal) x1) x3 = d at h
  generalize k0_pay8 (F := Ideal) = u at h8
  pointwise
  rw [h8, h]
  split
  · rename_i hl
    rw [next_int l.isLt, min_next, div_cnt (by omega)]
  · rename_i hl
    have hc : cnt (win k) l.val = ((win k : ℕ) : ℝ) := congrArg (fun n : ℕ => ((n : ℝ) : EReal)) (Nat.min_eq_right (by omega))
    rw [h, ← hc, div_cnt (by omega), one_mul]
    have hi : (⟨16 + (l.val - 16), by omega⟩ : Fin 2048) = l := Fin.ext (show 16 + (l.val - 16) = l.val by omega)
    rw [hi]

/-- The sums of two, four and eight rows, as the body has them. -/
abbrev sum2 : Vec Ideal S2048x384 .f32 := k0_pay16 (F := Ideal) (k0_pay8 (F := Ideal)) x2 (k0_pay9 (F := Ideal) x1) x3 (moved 1 (k0_pay15 (F := Ideal) (k0_pay8 (F := Ideal)) x2 (k0_pay9 (F := Ideal) x1) x3))

abbrev sum4 : Vec Ideal S2048x384 .f32 := k0_pay18 (F := Ideal) (k0_pay8 (F := Ideal)) x2 (k0_pay9 (F := Ideal) x1) x3 (moved 1 (k0_pay15 (F := Ideal) (k0_pay8 (F := Ideal)) x2 (k0_pay9 (F := Ideal) x1) x3))
  (moved 2 (k0_pay17 (F := Ideal) (k0_pay8 (F := Ideal)) x2 (k0_pay9 (F := Ideal) x1) x3 (moved 1 (k0_pay15 (F := Ideal) (k0_pay8 (F := Ideal)) x2 (k0_pay9 (F := Ideal) x1) x3))))

abbrev sum8 : Vec Ideal S2048x384 .f32 := k0_pay2 (F := Ideal) (sum4 x1 x2 x3) (moved 4 (k0_pay1 (F := Ideal) (sum4 x1 x2 x3)))

/-- A column's shares. -/
abbrev shares (k : Fin 384) : Fin 2048 → EReal := share (win k) (gradD (row x1) (row x3 0) (row x2) k)

theorem sum2_apply (l : Fin 2048) (k : Fin 384) : (sum2 x1 x2 x3 (ix2 l k) : EReal) = ∑ i ∈ Finset.range 2, ext (shares x1 x2 x3 k) (l.val + i) := by
  have h15 : column (k0_pay15 (F := Ideal) (k0_pay8 (F := Ideal)) x2 (k0_pay9 (F := Ideal) x1) x3) k = shares x1 x2 x3 k := funext fun l => by
    have h := pay14_apply x1 x2 x3 l k
    unfold column k0_pay15
    generalize k0_pay14 (F := Ideal) (k0_pay8 (F := Ideal)) x2 (k0_pay9 (F := Ideal) x1) x3 = d at h
    pointwise
    exact h
  have h := pay14_apply x1 x2 x3 l k
  have hm := moved_apply 1 (k0_pay15 (F := Ideal) (k0_pay8 (F := Ideal)) x2 (k0_pay9 (F := Ideal) x1) x3) l k
  unfold sum2 k0_pay16
  generalize moved 1 (k0_pay15 (F := Ideal) (k0_pay8 (F := Ideal)) x2 (k0_pay9 (F := Ideal) x1) x3) = u at hm
  generalize k0_pay14 (F := Ideal) (k0_pay8 (F := Ideal)) x2 (k0_pay9 (F := Ideal) x1) x3 = d at h
  pointwise
  rw [h, hm, h15]
  exact doubled (shares x1 x2 x3 k) (shares x1 x2 x3 k) 1 (fun l => by rw [Finset.sum_range_one, Nat.add_zero, ext_of_lt]) l

theorem sum4_apply (l : Fin 2048) (k : Fin 384) : (sum4 x1 x2 x3 (ix2 l k) : EReal) = ∑ i ∈ Finset.range 4, ext (shares x1 x2 x3 k) (l.val + i) := by
  have h17 : column (k0_pay17 (F := Ideal) (k0_pay8 (F := Ideal)) x2 (k0_pay9 (F := Ideal) x1) x3 (moved 1 (k0_pay15 (F := Ideal) (k0_pay8 (F := Ideal)) x2 (k0_pay9 (F := Ideal) x1) x3))) k = column (sum2 x1 x2 x3) k := funext fun l => by
    unfold column k0_pay17 sum2
    generalize k0_pay16 (F := Ideal) (k0_pay8 (F := Ideal)) x2 (k0_pay9 (F := Ideal) x1) x3 (moved 1 (k0_pay15 (F := Ideal) (k0_pay8 (F := Ideal)) x2 (k0_pay9 (F := Ideal) x1) x3)) = d
    pointwise
  have hd := doubled (column (sum2 x1 x2 x3) k) (shares x1 x2 x3 k) 2 (fun l => sum2_apply x1 x2 x3 l k) l
  have hm := moved_apply 2 (k0_pay17 (F := Ideal) (k0_pay8 (F := Ideal)) x2 (k0_pay9 (F := Ideal) x1) x3 (moved 1 (k0_pay15 (F := Ideal) (k0_pay8 (F := Ideal)) x2 (k0_pay9 (F := Ideal) x1) x3))) l k
  rw [h17] at hm
  refine Eq.trans ?_ hd
  rw [← hm]
  unfold sum4 k0_pay18
  generalize moved 2 (k0_pay17 (F := Ideal) (k0_pay8 (F := Ideal)) x2 (k0_pay9 (F := Ideal) x1) x3 (moved 1 (k0_pay15 (F := Ideal) (k0_pay8 (F := Ideal)) x2 (k0_pay9 (F := Ideal) x1) x3))) = u
  unfold column sum2
  generalize k0_pay16 (F := Ideal) (k0_pay8 (F := Ideal)) x2 (k0_pay9 (F := Ideal) x1) x3 (moved 1 (k0_pay15 (F := Ideal) (k0_pay8 (F := Ideal)) x2 (k0_pay9 (F := Ideal) x1) x3)) = d
  pointwise

theorem sum8_apply (l : Fin 2048) (k : Fin 384) : (sum8 x1 x2 x3 (ix2 l k) : EReal) = ∑ i ∈ Finset.range 8, ext (shares x1 x2 x3 k) (l.val + i) := by
  have h1 : column (k0_pay1 (F := Ideal) (sum4 x1 x2 x3)) k = column (sum4 x1 x2 x3) k := funext fun l => by
    generalize sum4 x1 x2 x3 = d
    unfold column k0_pay1
    pointwise
  have hd := doubled (column (sum4 x1 x2 x3) k) (shares x1 x2 x3 k) 4 (fun l => sum4_apply x1 x2 x3 l k) l
  have hm := moved_apply 4 (k0_pay1 (F := Ideal) (sum4 x1 x2 x3)) l k
  rw [h1] at hm
  refine Eq.trans ?_ hd
  rw [← hm]
  unfold sum8 k0_pay2
  generalize moved 4 (k0_pay1 (F := Ideal) (sum4 x1 x2 x3)) = u
  generalize sum4 x1 x2 x3 = d
  pointwise

theorem win_eq {k : Fin 384} {n : ℕ} : (((win k : ℕ) : ℝ) : EReal) = ((n : ℕ) : ℝ) ↔ win k = n := by
  rw [EReal.coe_eq_coe_iff, Nat.cast_inj]

theorem pay4_apply (l : Fin 2048) (k : Fin 384) :
    (k0_pay4 (F := Ideal) (k0_pay8 (F := Ideal)) (k0_pay13 (F := Ideal) x2 (k0_pay9 (F := Ideal) x1) x3) (sum2 x1 x2 x3) (sum4 x1 x2 x3) (moved 4 (k0_pay1 (F := Ideal) (sum4 x1 x2 x3)))
      (moved 8 (k0_pay3 (F := Ideal) (sum4 x1 x2 x3) (moved 4 (k0_pay1 (F := Ideal) (sum4 x1 x2 x3))))) (ix2 l k) : EReal)
      = pooled (win k) (gradD (row x1) (row x3 0) (row x2) k) l := by
  have h3 : column (k0_pay3 (F := Ideal) (sum4 x1 x2 x3) (moved 4 (k0_pay1 (F := Ideal) (sum4 x1 x2 x3)))) k = column (sum8 x1 x2 x3) k := funext fun l => by
    unfold column k0_pay3 sum8
    generalize k0_pay2 (F := Ideal) (sum4 x1 x2 x3) (moved 4 (k0_pay1 (F := Ideal) (sum4 x1 x2 x3))) = d
    pointwise
  have hd := doubled (column (sum8 x1 x2 x3) k) (shares x1 x2 x3 k) 8 (fun l => sum8_apply x1 x2 x3 l k) l
  have hm := moved_apply 8 (k0_pay3 (F := Ideal) (sum4 x1 x2 x3) (moved 4 (k0_pay1 (F := Ideal) (sum4 x1 x2 x3)))) l k
  rw [h3, show column (sum8 x1 x2 x3) k l = sum8 x1 x2 x3 (ix2 l k) from rfl] at *
  rw [← hm] at hd
  have h2 := sum2_apply x1 x2 x3 l k
  have h4 := sum4_apply x1 x2 x3 l k
  have h8 := sum8_apply x1 x2 x3 l k
  have hD := pay13_apply x1 x2 x3 l k
  have hu := pay8_apply k
  unfold k0_pay4
  unfold sum8 at h8 hd
  generalize moved 8 (k0_pay3 (F := Ideal) (sum4 x1 x2 x3) (moved 4 (k0_pay1 (F := Ideal) (sum4 x1 x2 x3)))) = v16 at hd
  generalize k0_pay2 (F := Ideal) (sum4 x1 x2 x3) (moved 4 (k0_pay1 (F := Ideal) (sum4 x1 x2 x3))) = v8 at h8 hd
  generalize sum4 x1 x2 x3 = v4 at h4
  generalize sum2 x1 x2 x3 = v2 at h2
  generalize k0_pay13 (F := Ideal) x2 (k0_pay9 (F := Ideal) x1) x3 = d at hD
  generalize k0_pay8 (F := Ideal) = u at hu
  pointwise
  rw [hu, hD, lit2, lit4, lit8]
  simp only [win_eq]
  unfold pooled
  refine congrArg (· - _) ?_
  by_cases e2 : win k = 2
  · rw [if_pos e2, h2]
    exact congrArg (fun w => ∑ i ∈ Finset.range w, ext (shares x1 x2 x3 k) (l.val + i)) e2.symm
  rw [if_neg e2]
  by_cases e4 : win k = 4
  · rw [if_pos e4, h4]
    exact congrArg (fun w => ∑ i ∈ Finset.range w, ext (shares x1 x2 x3 k) (l.val + i)) e4.symm
  rw [if_neg e4]
  by_cases e8 : win k = 8
  · rw [if_pos e8, h8]
    exact congrArg (fun w => ∑ i ∈ Finset.range w, ext (shares x1 x2 x3 k) (l.val + i)) e8.symm
  rw [if_neg e8, hd]
  have e16 : win k = 16 := by
    unfold win at *
    split_ifs at * <;> omega
  exact congrArg (fun w => ∑ i ∈ Finset.range w, ext (shares x1 x2 x3 k) (l.val + i)) e16.symm

/-- What a sequence adds to the weights' gradient and to the scale's. -/
def termW (d y : Fin 2048 → Fin 384 → EReal) (s : Fin 384 → EReal) (k j : Fin 384) : EReal := ∑ l : Fin 2048, d l k * (y l j * s j)

def termS (d y : Fin 2048 → Fin 384 → EReal) (w : Fin 384 → Fin 384 → EReal) (k : Fin 384) : EReal := ∑ l : Fin 2048, y l k * ∑ j : Fin 384, d l j * w j k

theorem pay12_apply (X : Vec Ideal S384x384 .f32) (k j : Fin 384) :
    (k0_pay12 (F := Ideal) x0 (k0_pay9 (F := Ideal) x1) x3 X (ix2 k j) : EReal) = X (ix2 k j) + termW (row x0) (row x1) (row x3 0) k j := by
  unfold k0_pay12 k0_pay11 k0_pay9
  pointwise
  rfl

theorem pay10_apply (X : Vec Ideal S1x384 .f32) (k : Fin 384) :
    (k0_pay10 (F := Ideal) x0 x2 x1 X (ix2 0 k) : EReal) = X (ix2 0 k) + termS (row x0) (row x1) (row x2) k := by
  unfold k0_pay10 k0_pay9
  pointwise
  rfl

end Payloads

section Outs

variable (c : Dev nD) (i : grid0.Coords) (arg1 : Memref sig .tc .vmem S2048x384 .bf16) (harg1 : arg1.IsWhole) (arg2 : Memref sig .tc .vmem S2048x384 .bf16) (harg2 : arg2.IsWhole) (arg3 : Memref sig .tc .vmem S384x384 .bf16) (harg3 : arg3.IsWhole) (arg4 : Memref sig .tc .vmem S1x384 .f32) (harg4 : arg4.IsWhole) (arg5 : Memref sig .tc .vmem S2048x384 .bf16) (harg5 : arg5.IsWhole) (arg6 : Memref sig .tc .vmem S384x384 .f32) (harg6 : arg6.IsWhole) (arg7 : Memref sig .tc .vmem S1x384 .f32) (harg7 : arg7.IsWhole) (arg8 : Memref sig .tc .vmem S2064x384 .f32) (harg8 : arg8.IsWhole)
  (x0 x1 : Vec Ideal S2048x384 .bf16) (x2 : Vec Ideal S384x384 .bf16) (x3 : Vec Ideal S1x384 .f32) (xo5 : Vec Ideal S384x384 .f32) (xo6 : Vec Ideal S1x384 .f32)

theorem out4_A (hc0 : cond0_0 i) (l : Fin 2048) (k : Fin 384) :
    (out0_A_4 (F := Ideal) c i arg1 harg1 arg2 harg2 arg3 harg3 arg4 harg4 arg5 harg5 arg6 harg6 arg7 harg7 arg8 harg8 hc0 x0 x1 x2 x3 (ix2 l k) : EReal)
      = pooled (win k) (gradD (row x1) (row x3 0) (row x2) k) l := by
  frame_open
  frame_out
  simp (disch := first | exact padded_pad | exact padded_body padded_pad | exact padded_body (padded_body padded_pad) | exact padded_body (padded_body (padded_body padded_pad))) only [read_moved]
  exact pay4_apply x1 x2 x3 l k

theorem out4_B (hc0 : ¬cond0_0 i) (l : Fin 2048) (k : Fin 384) :
    (out0_B_4 (F := Ideal) c i arg1 harg1 arg2 harg2 arg3 harg3 arg4 harg4 arg5 harg5 arg6 harg6 arg7 harg7 arg8 harg8 hc0 x0 x1 x2 x3 xo5 xo6 (ix2 l k) : EReal)
      = pooled (win k) (gradD (row x1) (row x3 0) (row x2) k) l := by
  frame_open
  frame_out
  simp (disch := first | exact padded_pad | exact padded_body padded_pad | exact padded_body (padded_body padded_pad) | exact padded_body (padded_body (padded_body padded_pad))) only [read_moved]
  exact pay4_apply x1 x2 x3 l k

theorem out5_A (hc0 : cond0_0 i) (k j : Fin 384) :
    (out0_A_5 (F := Ideal) c i arg1 harg1 arg2 harg2 arg3 harg3 arg4 harg4 arg5 harg5 arg6 harg6 arg7 harg7 arg8 harg8 hc0 x0 x1 x2 x3 (ix2 k j) : EReal)
      = termW (row x0) (row x1) (row x3 0) k j := by
  frame_open
  simp (disch := decide) only [↓ View.readCov_skip, ↓ View.readCov_cons_toLoadRect, ↓ View.readCov_fill]
  frame_out
  refine (pay12_apply x0 x1 x3 _ k j).trans ?_
  unfold k0_pay5
  pointwise

theorem out6_A (hc0 : cond0_0 i) (k : Fin 384) :
    (out0_A_6 (F := Ideal) c i arg1 harg1 arg2 harg2 arg3 harg3 arg4 harg4 arg5 harg5 arg6 harg6 arg7 harg7 arg8 harg8 hc0 x0 x1 x2 x3 (ix2 0 k) : EReal)
      = termS (row x0) (row x1) (row x2) k := by
  frame_open
  simp (disch := decide) only [↓ View.readCov_skip, ↓ View.readCov_cons_toLoadRect, ↓ View.readCov_fill]
  frame_out
  refine (pay10_apply x0 x1 x2 _ k).trans ?_
  unfold k0_pay6
  pointwise

theorem out5_B (hc0 : ¬cond0_0 i) (k j : Fin 384) :
    (out0_B_5 (F := Ideal) c i arg1 harg1 arg2 harg2 arg3 harg3 arg4 harg4 arg5 harg5 arg6 harg6 arg7 harg7 arg8 harg8 hc0 x0 x1 x2 x3 xo5 xo6 (ix2 k j) : EReal)
      = xo5 (ix2 k j) + termW (row x0) (row x1) (row x3 0) k j := by
  frame_open
  simp (disch := decide) only [↓ View.readCov_skip, ↓ View.readCov_cons_toLoadRect, ↓ View.readCov_fill]
  frame_out
  exact pay12_apply x0 x1 x3 _ k j

theorem out6_B (hc0 : ¬cond0_0 i) (k : Fin 384) :
    (out0_B_6 (F := Ideal) c i arg1 harg1 arg2 harg2 arg3 harg3 arg4 harg4 arg5 harg5 arg6 harg6 arg7 harg7 arg8 harg8 hc0 x0 x1 x2 x3 xo5 xo6 (ix2 0 k) : EReal)
      = xo6 (ix2 0 k) + termS (row x0) (row x1) (row x2) k := by
  frame_open
  simp (disch := decide) only [↓ View.readCov_skip, ↓ View.readCov_cons_toLoadRect, ↓ View.readCov_fill]
  frame_out
  exact pay10_apply x0 x1 x2 _ k

end Outs

end Cert.PoolProof

end
-- ==== Proof.PoolBBlocks.lean ====
/-
The pooling's backward pass over the whole grid at exact float values: the call's three result arrays.
-/
module

public import proofs.«01_k».proof.Proof.PoolBPoint
public import proofs.«01_k».proof.Proof.AttnRows

@[expose] public section

set_option maxRecDepth 16384

noncomputable section

namespace Cert.PoolProof

open Idealize.ShloMosaic Idealize.ShloMosaic.TcCoe Idealize.SL.Sem
open Cert.PoolBIdeal Cert.PoolBIdeal.Gen
open Cert.BackProof (row)
open Cert.AttnProof (seqAt seqOf posOf seqRows seqOf_seqAt posOf_seqAt)

/-- The mixers' columns of the pooling. -/
abbrev poolCols (x : (⟨2, ![8192, 1024]⟩ : Shape).Idx → EReal) : (⟨2, ![8192, 384]⟩ : Shape).Idx → EReal := fun j => x (ix2 (j 0) ⟨(j 1).val, Nat.lt_trans (j 1).isLt (by decide)⟩)

/-- The sequence of point `t`. -/
abbrev seqT (t : Fin cfg0.N) : Fin 4 := ⟨t.val, t.isLt⟩

/-- The rows of point `t`. -/
abbrev tile {n : ℕ} (x : (⟨2, ![8192, n]⟩ : Shape).Idx → EReal) (t : Fin cfg0.N) : (⟨2, ![2048, n]⟩ : Shape).Idx → EReal := fun j => x (ix2 (seqAt (seqT t) (j 0)) (j 1))

theorem idx : ∀ t : Fin cfg0.N, win0_0.index t = ![t.val, 0] ∧ win0_1.index t = ![t.val, 0] ∧ win0_2.index t = ![0, 0] ∧ win0_3.index t = ![0, 0] :=
  (by decide +kernel : ∀ t : Fin grid0.N, _)

theorem idx_out : ∀ t : Fin cfg0.N, win0_4.index t = ![t.val, 0] :=
  (by decide +kernel : ∀ t : Fin grid0.N, _)

variable (m : (ℓ : Loc nD τ sig) → Buf (Elt Ideal) ℓ) (c : Dev nD)

section Blocks

variable (t : Fin cfg0.N)

theorem block0 : (iblk m c 0 t : Vec Ideal S2048x384 .bf16) = tile (m ((c : Thread nD τ).loc main_arg0)) t := by
  blk_ext! [iblk, V, idx t]

theorem block1 : (X0_1 m c t : Vec Ideal S2048x384 .bf16) = tile (poolCols (m ((c : Thread nD τ).loc main_arg1))) t := by
  funext j
  unfold X0_1 Pipeline.Window.fill
  rw [dif_pos (moved0_1 t j)]
  refine congrArg (m ((c : Thread nD τ).loc main_arg1)) (funext fun a => Fin.ext ?_)
  match a with
  | ⟨0, _⟩ => exact (Pipeline.Window.rect_emb_val win0_1 t _ (0 : Fin 2)).trans (congrArg (· + _) (congrArg (· * 2048) (congrFun (idx t).2.1 0)))
  | ⟨1, _⟩ => exact Pipeline.Window.rect_emb_val_of_index_zero win0_1 t (1 : Fin 2) (congrFun (idx t).2.1 1) _

theorem block2 : (iblk m c 2 t : Vec Ideal S384x384 .bf16) = m ((c : Thread nD τ).loc main_arg2) := by
  blk_ext! [iblk, V, idx t]

theorem block3 : (iblk m c 3 t : Vec Ideal S1x384 .f32) = m ((c : Thread nD τ).loc main_arg3) := by
  blk_ext! [iblk, V, idx t]

end Blocks

/-- What the call computes: a sequence's gradient of the pooling's input, and what it adds to those of the weights and of the scale. -/
abbrev seqU (b : Fin 4) (l : Fin 2048) (k : Fin 384) : EReal :=
  pooled (win k) (gradD (seqRows (poolCols (m ((c : Thread nD τ).loc main_arg1))) b) (row (m ((c : Thread nD τ).loc main_arg3)) 0) (row (m ((c : Thread nD τ).loc main_arg2))) k) l

abbrev seqW (b : Fin 4) : Fin 384 → Fin 384 → EReal :=
  termW (seqRows (m ((c : Thread nD τ).loc main_arg0)) b) (seqRows (poolCols (m ((c : Thread nD τ).loc main_arg1))) b) (row (m ((c : Thread nD τ).loc main_arg3)) 0)

abbrev seqG (b : Fin 4) : Fin 384 → EReal :=
  termS (seqRows (m ((c : Thread nD τ).loc main_arg0)) b) (seqRows (poolCols (m ((c : Thread nD τ).loc main_arg1))) b) (row (m ((c : Thread nD τ).loc main_arg2)))

abbrev resU : Vec Ideal S8192x384 .bf16 := fun j => seqU m c (seqOf (j 0)) (posOf (j 0)) (j 1)

abbrev resW : Vec Ideal S384x384 .f32 := fun j => ∑ b : Fin 4, seqW m c b (j 0) (j 1)

abbrev resG : Vec Ideal S1x384 .f32 := fun j => ∑ b : Fin 4, seqG m c b (j 1)

theorem resU_at (b : Fin 4) (l : Fin 2048) (q : Fin 384) : (resU m c (ix2 (seqAt b l) q) : EReal) = seqU m c b l q :=
  congrArg₂ (fun b' l' => seqU m c b' l' q) (seqOf_seqAt b l) (posOf_seqAt b l)

/-- After point `t` the input's block holds what is its of the point's rows. -/
theorem point (t : Fin cfg0.N) (l : Fin 2048) (q : Fin 384) :
    ((outsAt0 m c t.val t.isLt).1 (ix2 l q) : EReal) = resU m c (ix2 (seqAt (seqT t) l) q) := by
  rw [resU_at]
  by_cases h : t.val % 4 = 0
  · rw [outsAt0_A m c t h]
    dsimp only
    rw [out4_A, block1, block2, block3]
    rfl
  · rw [outsAt0_B m c t h]
    dsimp only
    rw [out4_B, block1, block2, block3]
    rfl

/-- A block of the rows' result, entry by entry: `f` what the block holds, `g` the whole array, `v` where the entry lies in it. -/
theorem entry_eq (f : S2048x384.Idx → EReal) (g : S8192x384.Idx → EReal) (t : Fin cfg0.N) (h : ∀ (e : Fin 2048) (k : Fin 384), f (ix2 e k) = g (ix2 (seqAt (seqT t) e) k))
    (y y' : S2048x384.Idx) (v : S8192x384.Idx) (hy : ∀ a, (y' a).val = (y a).val) (h0 : (v 0).val = t.val * 2048 + (y 0).val) (h1 : (v 1).val = (y 1).val) :
    f y' = g v := by
  have hy' : y' = ix2 (n0 := 2048) (n1 := 384) (y 0) (y 1) := by
    funext a
    match a with
    | ⟨0, _⟩ => exact Fin.ext (hy 0)
    | ⟨1, _⟩ => exact Fin.ext (hy 1)
  have hv : v = ix2 (n0 := 8192) (n1 := 384) (seqAt (seqT t) (y 0)) (y 1) := by
    funext a
    match a with
    | ⟨0, _⟩ => exact Fin.ext h0
    | ⟨1, _⟩ => exact Fin.ext h1
  rw [hy', hv]
  exact h _ _

/-- The point whose block holds a row. -/
abbrev pointOf (i : S8192x384.Idx) : Fin cfg0.N := ⟨(i 0).val / 2048, by have : (i 0).val < 8192 := (i 0).isLt; show _ < 4; omega⟩

theorem pointOf_le (i : S8192x384.Idx) : (pointOf i).val * 2048 ≤ (i 0).val ∧ (i 0).val < (pointOf i).val * 2048 + 2048 := by
  show (i 0).val / 2048 * 2048 ≤ (i 0).val ∧ (i 0).val < (i 0).val / 2048 * 2048 + 2048
  omega

theorem final4 : (dats m 0 c).arrAt 4 cfg0.N = resU m c := by
  refine (dats m 0 c).arrAt_eq_of_cover 4 (resU m c) (fun t _ => funext fun y => ?_) fun i => ⟨pointOf i, flush0_4 _, ?_⟩
  · rw [Value.flushed4]
    blk_simp
    exact entry_eq _ (resU m c) t (fun e k => point m c t e k) y _ _ (fun _ => rfl)
      ((Pipeline.Window.rect_emb_val win0_4 t y (0 : Fin 2)).trans (congrArg (· + _) (congrArg (· * 2048) (congrFun (idx_out t) 0))))
      (Pipeline.Window.rect_emb_val_of_index_zero win0_4 t (1 : Fin 2) (congrFun (idx_out t) 1) y)
  · have : (i 1).val < 384 := (i 1).isLt
    mem_blk [idx_out]
    exact ⟨pointOf_le i, Nat.zero_le _, this⟩

theorem first5 (t : Fin cfg0.N) (h : t.val % 4 = 0) (j : Fin 384 × Fin 384) : ((outsAt0 m c t.val t.isLt).2.1 (ix2 j.1 j.2) : EReal)
    = 0 + seqW m c (seqT t) j.1 j.2 := by
  rw [outsAt0_A m c t h]
  dsimp only
  rw [out5_A, block0, block1, block3, zero_add]
  rfl

theorem next5 (t : Fin cfg0.N) (h : ¬t.val % 4 = 0) (j : Fin 384 × Fin 384) : ((outsAt0 m c t.val t.isLt).2.1 (ix2 j.1 j.2) : EReal)
    = (outsAt0 m c (t.val - 1) (Nat.lt_of_le_of_lt (Nat.sub_le _ _) t.isLt)).2.1 (ix2 j.1 j.2) + seqW m c (seqT t) j.1 j.2 := by
  rw [outsAt0_B m c t h]
  dsimp only
  rw [out5_B, block0, block1, block3]
  rfl

theorem first6 (t : Fin cfg0.N) (h : t.val % 4 = 0) (k : Fin 384) : ((outsAt0 m c t.val t.isLt).2.2 (ix2 0 k) : EReal) = 0 + seqG m c (seqT t) k := by
  rw [outsAt0_A m c t h]
  dsimp only
  rw [out6_A, block0, block1, block2, zero_add]
  rfl

theorem next6 (t : Fin cfg0.N) (h : ¬t.val % 4 = 0) (k : Fin 384) : ((outsAt0 m c t.val t.isLt).2.2 (ix2 0 k) : EReal)
    = (outsAt0 m c (t.val - 1) (Nat.lt_of_le_of_lt (Nat.sub_le _ _) t.isLt)).2.2 (ix2 0 k) + seqG m c (seqT t) k := by
  rw [outsAt0_B m c t h]
  dsimp only
  rw [out6_B, block0, block1, block2]
  rfl

theorem total5 (j : Fin 384 × Fin 384) : ((outsAt0 m c t0_3.val t0_3.isLt).2.1 (ix2 j.1 j.2) : EReal) = resW m c (ix2 j.1 j.2) := by
  refine (Pipeline.eq_sum_fin_of_reset_step_apply_last (fun n hn (j : Fin 384 × Fin 384) => ((outsAt0 m c n hn).2.1 (ix2 j.1 j.2) : EReal)) 4
    (fun _ => 0) _ (first5 m c) (next5 m c) (le_of_eq N_0) t0_3 N_0.symm j).trans ?_
  rw [zero_add]
  rfl

theorem total6 (k : Fin 384) : ((outsAt0 m c t0_3.val t0_3.isLt).2.2 (ix2 0 k) : EReal) = resG m c (ix2 0 k) := by
  refine (Pipeline.eq_sum_fin_of_reset_step_apply_last (fun n hn (k : Fin 384) => ((outsAt0 m c n hn).2.2 (ix2 0 k) : EReal)) 4
    (fun _ => 0) _ (first6 m c) (next6 m c) (le_of_eq N_0) t0_3 N_0.symm k).trans ?_
  rw [zero_add]
  rfl

/-- A row of a matrix that has one. -/
theorem only_row {n : ℕ} (j : (⟨2, ![1, n]⟩ : Shape).Idx) : ix2 (0 : Fin 1) (j 1 : Fin n) = j := by
  funext a
  match a with
  | ⟨0, _⟩ => exact Subsingleton.elim (α := Fin 1) _ _
  | ⟨1, _⟩ => rfl

theorem final5 : (dats m 0 c).arrAt 5 cfg0.N = resW m c := by
  refine (dats m 0 c).arrAt_eq_of_after_last 5 t0_3 (by decide +kernel) (resW m c) fun j => ?_
  rw [after0_5]
  blk_simp
  exact (congrArg (outsAt0 m c t0_3.val t0_3.isLt).2.1 (ix2_eta (n0 := 384) (n1 := 384) j).symm).trans
    ((total5 m c (j 0, j 1)).trans (congrArg (resW m c) (ix2_eta (n0 := 384) (n1 := 384) j)))

theorem final6 : (dats m 0 c).arrAt 6 cfg0.N = resG m c := by
  refine (dats m 0 c).arrAt_eq_of_after_last 6 t0_3 (by decide +kernel) (resG m c) fun j => ?_
  rw [after0_6]
  blk_simp
  exact (congrArg (outsAt0 m c t0_3.val t0_3.isLt).2.2 (only_row (n := 384) j).symm).trans ((total6 m c (j 1)).trans (congrArg (resG m c) (only_row (n := 384) j)))

end Cert.PoolProof

end
-- ==== Proof.PoolBRef.lean ====
/-
The reference of the pooling's backward pass at exact float values, read one entry at a time.
-/
module

public import proofs.«01_k».proof.Proof.Gen.PoolBRefIdeal.Run
public import proofs.«01_k».proof.Proof.PoolBBlocks
public import Idealize.ShloMosaic.Lib.Pointwise.Reduce

@[expose] public section

set_option maxRecDepth 16384

noncomputable section

namespace Cert.PoolProof.Ref

open Idealize.ShloMosaic Idealize.ShloMosaic.TcCoe Idealize.SL.Sem
open Cert.PoolBRefIdeal Cert.PoolBRefIdeal.Gen Cert.PoolProof
open Cert.BackProof (row)
open Cert.AttnProof (seqAt seqOf posOf seqRows)

variable (x0 : FVec Ideal S8192x384 .bf16) (x1 : FVec Ideal S8192x1024 .bf16) (x2 : FVec Ideal S384x384 .bf16) (x3 : FVec Ideal S1x384 .f32)

abbrev dyo : FVec Ideal S8192x384 .f32 :=
  mulf (extractStridedSlice S8192x384 ![0, 0] (extf .f32 x1 bitsLt_bf16_f32) slices_S8192x1024_S8192x384_0_0) (broadcastInDim S8192x384 ![0, 1] bcast_S1x384_S8192x384_0_1 x3)

abbrev dd : FVec Ideal S4x2048x384 .f32 :=
  shapeCast S4x2048x384 (Host.dotGeneral dot_S8192x384_S384x384_S8192x384_1_0_0_1_n_n none (dyo x1 x3) (transpose S384x384 [1, 0] (extf .f32 x2 bitsLt_bf16_f32) transposes_S384x384_S384x384_1_0)) shapeCasts_S8192x384_S4x2048x384

/-- The averaging matrix of windows of `w` rows, and what it makes of a group's columns. -/
abbrev mean (w : BitVec 32) : FVec Ideal S2048x2048 .f32 :=
  Host.divf (uitofp .f32 (andi (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))) (cmpi .slt (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (addi (broadcastInDim S1x2048 ![1] bcast_S2048_S1x2048_1 (iotaInDim S2048 32 0)) (broadcastInDim S1x2048 ![] bcast_S_S1x2048 (constantI S_ 32 w))))))) (broadcastInDim S2048x2048 ![0, 1] bcast_S2048x1_S2048x2048_0_1 (sitofp .f32 (minsi (addi (broadcastInDim S2048x1 ![0] bcast_S2048_S2048x1_0 (iotaInDim S2048 32 0)) (broadcastInDim S2048x1 ![] bcast_S_S2048x1 (constantI S_ 32 1#32))) (broadcastInDim S2048x1 ![] bcast_S_S2048x1 (constantI S_ 32 w)))))

abbrev group (w : BitVec 32) (p : FVec Ideal S4x2048x96 .f32) : FVec Ideal S4x2048x96 .f32 :=
  subf (transpose S4x2048x96 [0, 2, 1] (Host.dotGeneral dot_S4x2048x96_S2048x2048_S4x96x2048_1_0_02_1_n_n none p (mean w)) transposes_S4x96x2048_S4x2048x96_0_2_1) p

abbrev part0 : FVec Ideal S4x2048x96 .f32 := extractStridedSlice S4x2048x96 ![0, 0, 0] (dd x1 x2 x3) slices_S4x2048x384_S4x2048x96_0_0_0

abbrev part1 : FVec Ideal S4x2048x96 .f32 := extractStridedSlice S4x2048x96 ![0, 0, 96] (dd x1 x2 x3) slices_S4x2048x384_S4x2048x96_0_0_96

abbrev part2 : FVec Ideal S4x2048x96 .f32 := extractStridedSlice S4x2048x96 ![0, 0, 192] (dd x1 x2 x3) slices_S4x2048x384_S4x2048x96_0_0_192

abbrev part3 : FVec Ideal S4x2048x96 .f32 := extractStridedSlice S4x2048x96 ![0, 0, 288] (dd x1 x2 x3) slices_S4x2048x384_S4x2048x96_0_0_288

abbrev outU : FVec Ideal S8192x384 .bf16 :=
  truncf .bf16 (shapeCast S8192x384 (concatenate S4x2048x384 2 [⟨S4x2048x96, group 2#32 (part0 x1 x2 x3)⟩, ⟨S4x2048x96, group 4#32 (part1 x1 x2 x3)⟩, ⟨S4x2048x96, group 8#32 (part2 x1 x2 x3)⟩, ⟨S4x2048x96, group 16#32 (part3 x1 x2 x3)⟩] concatenates_S4x2048x96_S4x2048x96_S4x2048x96_S4x2048x96_S4x2048x384_d2) shapeCasts_S4x2048x384_S8192x384) bitsLt_bf16_f32

abbrev outW : FVec Ideal S384x384 .f32 :=
  Host.dotGeneral dot_S384x8192_S8192x384_S384x384_1_0_0_1_n_n none (transpose S384x8192 [1, 0] (extf .f32 x0 bitsLt_bf16_f32) transposes_S8192x384_S384x8192_1_0) (dyo x1 x3)

abbrev outG : FVec Ideal S1x384 .f32 :=
  broadcastInDim S1x384 ![1] bcast_S384_S1x384_1 (Host.reduceAdd (mulf (extractStridedSlice S8192x384 ![0, 0] (extf .f32 x1 bitsLt_bf16_f32) slices_S8192x1024_S8192x384_0_0) (Host.dotGeneral dot_S8192x384_S384x384_S8192x384_1_0_0_1_n_n none (extf .f32 x0 bitsLt_bf16_f32) (extf .f32 x2 bitsLt_bf16_f32))) (constant S_ .f32 0x00000000#32) reducesTo_S8192x384_S384_d0 h_S_)

theorem dd_apply (b : Fin 4) (l : Fin 2048) (k : Fin 384) : (dd x1 x2 x3 (ix3 b l k) : EReal) = gradD (seqRows (poolCols x1) b) (row x3 0) (row x2) k l := by
  unfold dd dyo
  pointwise
  rfl

theorem mean_apply (w : ℕ) (h0 : 0 < w) (hw : w ≤ 16) (t s : Fin 2048) :
    (mean (BitVec.ofNat 32 w) (ix2 t s) : EReal) = if s.val ≤ t.val ∧ t.val < s.val + w then (cnt w t.val)⁻¹ else 0 := by
  unfold mean
  pointwise
  rw [band_int s.isLt t.isLt hw, cnt_int t.isLt hw, div_cnt h0]
  split_ifs
  · exact one_mul _
  · exact zero_mul _

theorem group_apply (w : ℕ) (h0 : 0 < w) (hw : w ≤ 16) (p : FVec Ideal S4x2048x96 .f32) (b : Fin 4) (l : Fin 2048) (q : Fin 96) :
    (group (BitVec.ofNat 32 w) p (ix3 b l q) : EReal) = pooled w (fun t => p (ix3 b t q)) l := by
  have hm := mean_apply w h0 hw
  unfold group
  generalize mean (BitVec.ofNat 32 w) = u at hm
  pointwise
  simp only [hm, mul_ite, mul_zero]
  refine congrArg (· - _) ?_
  refine Eq.trans (Finset.sum_congr rfl fun t _ => ?_) (sum_band (ext (share w fun t => p (ix3 b t q))) (fun n hn => ext_of_ge _ hn) l.val w)
  rw [ext_of_lt]

theorem pooled_congr {w w' : ℕ} {d d' : Fin 2048 → EReal} {l : Fin 2048} (hw : w = w') (hd : ∀ t, d t = d' t) : pooled w d l = pooled w' d' l := by
  rw [hw, funext hd]

theorem outU_apply (r : Fin 8192) (k : Fin 384) : (outU x1 x2 x3 (ix2 r k) : EReal)
    = pooled (win k) (gradD (seqRows (poolCols x1) (seqOf r)) (row x3 0) (row x2) k) (posOf r) := by
  have h0 := group_apply 2 (by omega) (by omega) (part0 x1 x2 x3)
  have h1 := group_apply 4 (by omega) (by omega) (part1 x1 x2 x3)
  have h2 := group_apply 8 (by omega) (by omega) (part2 x1 x2 x3)
  have h3 := group_apply 16 (by omega) (by omega) (part3 x1 x2 x3)
  have p0 : ∀ b t q, (part0 x1 x2 x3 (ix3 b t q) : EReal) = gradD (seqRows (poolCols x1) b) (row x3 0) (row x2) ⟨q.val, by omega⟩ t := fun b t q => by
    have hd := dd_apply x1 x2 x3
    unfold part0
    generalize dd x1 x2 x3 = d at hd
    pointwise
    exact hd _ _ _
  have p1 : ∀ b t q, (part1 x1 x2 x3 (ix3 b t q) : EReal) = gradD (seqRows (poolCols x1) b) (row x3 0) (row x2) ⟨96 + q.val, by omega⟩ t := fun b t q => by
    have hd := dd_apply x1 x2 x3
    unfold part1
    generalize dd x1 x2 x3 = d at hd
    pointwise
    exact hd _ _ _
  have p2 : ∀ b t q, (part2 x1 x2 x3 (ix3 b t q) : EReal) = gradD (seqRows (poolCols x1) b) (row x3 0) (row x2) ⟨192 + q.val, by omega⟩ t := fun b t q => by
    have hd := dd_apply x1 x2 x3
    unfold part2
    generalize dd x1 x2 x3 = d at hd
    pointwise
    exact hd _ _ _
  have p3 : ∀ b t q, (part3 x1 x2 x3 (ix3 b t q) : EReal) = gradD (seqRows (poolCols x1) b) (row x3 0) (row x2) ⟨288 + q.val, by omega⟩ t := fun b t q => by
    have hd := dd_apply x1 x2 x3
    unfold part3
    generalize dd x1 x2 x3 = d at hd
    pointwise
    exact hd _ _ _
  unfold outU
  generalize part0 x1 x2 x3 = q0 at h0 p0
  generalize part1 x1 x2 x3 = q1 at h1 p1
  generalize part2 x1 x2 x3 = q2 at h2 p2
  generalize part3 x1 x2 x3 = q3 at h3 p3
  generalize group 2#32 q0 = g0 at h0
  generalize group 4#32 q1 = g1 at h1
  generalize group 8#32 q2 = g2 at h2
  generalize group 16#32 q3 = g3 at h3
  pointwise
  by_cases a0 : k.val < 96
  · rw [dif_pos a0, h0]
    exact pooled_congr (if_pos a0).symm fun t => p0 _ _ _
  rw [dif_neg a0]
  by_cases a1 : k.val - 96 < 96
  · rw [dif_pos a1, h1]
    refine pooled_congr (by unfold win; split_ifs <;> omega) fun t => (p1 _ _ _).trans (congrArg (fun k' => gradD _ _ _ k' t) (Fin.ext ?_))
    show 96 + (k.val - 96) = k.val
    omega
  rw [dif_neg a1]
  by_cases a2 : k.val - 96 - 96 < 96
  · rw [dif_pos a2, h2]
    refine pooled_congr (by unfold win; split_ifs <;> omega) fun t => (p2 _ _ _).trans (congrArg (fun k' => gradD _ _ _ k' t) (Fin.ext ?_))
    show 192 + (k.val - 96 - 96) = k.val
    omega
  rw [dif_neg a2]
  · rw [h3]
    refine pooled_congr (by unfold win; split_ifs <;> omega) fun t => (p3 _ _ _).trans (congrArg (fun k' => gradD _ _ _ k' t) (Fin.ext ?_))
    show 288 + (k.val - 96 - 96 - 96) = k.val
    omega

theorem sum_seqs (f : Fin 8192 → EReal) : ∑ r, f r = ∑ b : Fin 4, ∑ l : Fin 2048, f (seqAt b l) :=
  (Fin.sum_mul_add_congr fun b l hl => rfl).symm

theorem outW_apply (k j : Fin 384) : (outW x0 x1 x3 (ix2 k j) : EReal)
    = ∑ b : Fin 4, termW (seqRows x0 b) (seqRows (poolCols x1) b) (row x3 0) k j := by
  unfold outW dyo
  pointwise
  exact sum_seqs _

theorem outG_apply (k : Fin 384) : (outG x0 x1 x2 (ix2 0 k) : EReal)
    = ∑ b : Fin 4, termS (seqRows x0 b) (seqRows (poolCols x1) b) (row x2) k := by
  unfold outG
  pointwise
  exact sum_seqs _

set_option maxHeartbeats 1000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v117) = outU (m ((c : Thread nD τ).loc main_arg1)) (m ((c : Thread nD τ).loc main_arg2)) (m ((c : Thread nD τ).loc main_arg3))
      ∧ r.2.mem ((c : Thread nD τ).loc main_v11) = outW (m ((c : Thread nD τ).loc main_arg0)) (m ((c : Thread nD τ).loc main_arg1)) (m ((c : Thread nD τ).loc main_arg3))
      ∧ r.2.mem ((c : Thread nD τ).loc main_v7) = outG (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Value.run m ρ

end Cert.PoolProof.Ref

end
-- ==== Proof.PoolBValues.lean ====
/-
The pooling's backward pass: the frames, and at exact float values the kernel's results against the reference's.
-/
module

public import proofs.«01_k».proof.Defs
public import proofs.«01_k».proof.Proof.PoolBBlocks
public import proofs.«01_k».proof.Proof.PoolBRef

@[expose] public section

set_option maxRecDepth 16384

noncomputable section

namespace Cert.PoolProof

open Idealize.ShloMosaic Idealize.ShloMosaic.TcCoe Idealize.SL.Sem
open Cert.BackProof (row)
open Cert.AttnProof (seqOf posOf seqRows)

/-- The reference, which declares no semaphore. -/
theorem frame_reference : Cert.quiescent_PoolBRefIdeal := fun m ρ _ =>
  (θ_run Cert.PoolBRefIdeal.defs _ _).mono
    (fun _ h => ⟨fun c => (h c).2.2.2, funext fun g => by rcases g with ⟨_, s⟩; rcases s with s | s <;> exact s.elim0⟩)
    (Cert.PoolBRefIdeal.Value.run (F := Ideal) m ρ)

variable (x0 : FVec Ideal PoolBRefIdeal.S8192x384 .bf16) (x1 : FVec Ideal PoolBRefIdeal.S8192x1024 .bf16) (x2 : FVec Ideal PoolBRefIdeal.S384x384 .bf16)
  (x3 : FVec Ideal PoolBRefIdeal.S1x384 .f32)

theorem outU_eq : Ref.outU x1 x2 x3
    = fun j => pooled (win (j 1)) (gradD (seqRows (poolCols x1) (seqOf (j 0))) (row x3 0) (row x2) (j 1)) (posOf (j 0)) := funext fun j =>
  (congrArg _ (ix2_eta (n0 := 8192) (n1 := 384) j).symm).trans (Ref.outU_apply x1 x2 x3 (j 0) (j 1))

theorem outW_eq : Ref.outW x0 x1 x3
    = fun j => ∑ b : Fin 4, termW (seqRows x0 b) (seqRows (poolCols x1) b) (row x3 0) (j 0) (j 1) := funext fun j =>
  (congrArg _ (ix2_eta (n0 := 384) (n1 := 384) j).symm).trans (Ref.outW_apply x0 x1 x3 (j 0) (j 1))

theorem outG_eq : Ref.outG x0 x1 x2
    = fun j => ∑ b : Fin 4, termS (seqRows x0 b) (seqRows (poolCols x1) b) (row x2) (j 1) := funext fun j =>
  (congrArg _ (only_row (n := 384) j).symm).trans (Ref.outG_apply x0 x1 x2 (j 1))

theorem algebraic : Cert.algebraic_PoolBIdeal_PoolBRefIdeal := fun m g m' g' _ hin =>
  ⟨resU m, resW m, resG m,
    (θ_run Cert.PoolBIdeal.defs _ _).mono (fun _ h c => by
      obtain ⟨h4, h5, h6, kept⟩ := h c
      exact ⟨h4.trans (final4 m c), h5.trans (final5 m c), h6.trans (final6 m c), kept⟩) (Cert.PoolBIdeal.Value.run_blocks (F := Ideal) m g),
    (θ_run Cert.PoolBRefIdeal.defs _ _).mono (fun _ h c => by
      obtain ⟨e0, e1, e2, e3⟩ := hin c
      obtain ⟨hu, hw, hg, kept⟩ := h c
      refine ⟨hu.trans ?_, hw.trans ?_, hg.trans ?_, kept⟩
      · rw [outU_eq, e1, e2, e3]
      · rw [outW_eq, e0, e1, e3]
      · rw [outG_eq, e0, e1, e2]) (Ref.run m' g')⟩

end Cert.PoolProof

end
-- ==== Proof.PoolFPoint.lean ====
/-
One sequence of the pooling at exact float values: what the body leaves in the two results' blocks.
-/
module

public import proofs.«01_k».proof.Proof.Gen.PoolFIdeal.Value
public import proofs.«01_k».proof.Proof.PoolBPoint

@[expose] public section

set_option maxRecDepth 16384

noncomputable section

namespace Cert.PoolProof.Fwd

open Idealize.ShloMosaic Idealize.SL.Sem
open Cert.PoolFIdeal Cert.PoolFIdeal.Gen
open Cert.BackProof (row)

/-! ## Windows that end at a row -/

/-- The row `i` rows before row `l`: nothing before the first. -/
def back (f : Fin 2048 → EReal) (l i : ℕ) : EReal := if i ≤ l then ext f (l - i) else 0

theorem back_zero (f : Fin 2048 → EReal) (l : Fin 2048) : back f l.val 0 = f l := (if_pos (Nat.zero_le _)).trans (ext_of_lt f l)

/-- The mean over a row's window less the row. -/
def averaged (w : ℕ) (u : Fin 2048 → EReal) (l : Fin 2048) : EReal := (∑ i ∈ Finset.range w, back u l.val i) * (cnt w l.val)⁻¹ - u l

/-- Sums of the `w` rows up to each row, doubled. -/
theorem doubled (f g : Fin 2048 → EReal) (w : ℕ) (hf : ∀ l, f l = ∑ i ∈ Finset.range w, back g l.val i) (l : Fin 2048) :
    f l + back f l.val w = ∑ i ∈ Finset.range (w + w), back g l.val i := by
  have he : back f l.val w = ∑ i ∈ Finset.range w, back g l.val (w + i) := by
    by_cases h : w ≤ l.val
    · refine (if_pos h).trans ((ext_of_lt f ⟨l.val - w, by omega⟩).trans ((hf _).trans (Finset.sum_congr rfl fun i _ => ?_)))
      unfold back
      by_cases hi : i ≤ l.val - w
      · rw [if_pos hi, if_pos (by omega), Nat.sub_sub]
      · rw [if_neg hi, if_neg (by omega)]
    · exact (if_neg h).trans (Finset.sum_eq_zero fun i _ => if_neg (by omega)).symm
  rw [hf, he, Finset.sum_range_add]

/-- A band of a row of the averaging matrix. -/
theorem sum_band (u : Fin 2048 → EReal) (l : Fin 2048) (w : ℕ) :
    ∑ s : Fin 2048, (if s.val ≤ l.val ∧ l.val < s.val + w then u s else 0) = ∑ i ∈ Finset.range w, back u l.val i := by
  have h1 : ∀ s : Fin 2048, (if s.val ≤ l.val ∧ l.val < s.val + w then u s else 0) = if s.val ≤ l.val ∧ l.val < s.val + w then ext u s.val else 0 := fun s => by
    rw [ext_of_lt]
  rw [Finset.sum_congr rfl fun s _ => h1 s, Fin.sum_univ_eq_sum_range (fun s => if s ≤ l.val ∧ l.val < s + w then ext u s else 0) 2048]
  unfold back
  rw [← Finset.sum_filter, ← Finset.sum_filter]
  have hl := l.isLt
  refine Finset.sum_nbij' (fun s => l.val - s) (fun i => l.val - i) (fun s hs => ?_) (fun i hi => ?_) (fun s hs => ?_) (fun i hi => ?_) (fun s hs => ?_)
  · have := (Finset.mem_filter.mp hs).2
    exact Finset.mem_filter.mpr ⟨Finset.mem_range.mpr (by omega), Nat.sub_le _ _⟩
  · have h2 := (Finset.mem_filter.mp hi).2
    have h3 := Finset.mem_range.mp (Finset.mem_filter.mp hi).1
    exact Finset.mem_filter.mpr ⟨Finset.mem_range.mpr (by omega), by omega⟩
  · have := (Finset.mem_filter.mp hs).2
    show l.val - (l.val - s) = s
    omega
  · have := (Finset.mem_filter.mp hi).2
    show l.val - (l.val - i) = i
    omega
  · have := (Finset.mem_filter.mp hs).2
    exact congrArg (ext u) (show s = l.val - (l.val - s) by omega)

/-- What the mixer makes of a sequence's rows. -/
def diffs (x : Fin 2048 → Fin 384 → EReal) (l : Fin 2048) (k : Fin 384) : EReal := averaged (win k) (fun t => x t k) l

def mixed (x : Fin 2048 → Fin 384 → EReal) (w : Fin 384 → Fin 384 → EReal) (s : Fin 384 → EReal) (l : Fin 2048) (k : Fin 384) : EReal :=
  (∑ j : Fin 384, diffs x l j * w j k) * s k

/-! ## The rows kept between the passes -/

/-- The first sixteen rows, and the 2048 after them. -/
abbrev pad : Rect S2064x384 := Rect.unit ![0, 0] ![16, 384] inb_S2064x384_S16x384_0_0

abbrev body : Rect S2064x384 := Rect.unit ![16, 0] ![2048, 384] inb_S2064x384_S2048x384_16_0

/-- A column of rows. -/
abbrev column (f : Vec Ideal S2048x384 .f32) (k : Fin 384) : Fin 2048 → EReal := fun l => f (ix2 l k)

/-- The rows `n` rows before, nothing before the first. -/
def moved (n : ℕ) (f : Vec Ideal S2048x384 .f32) : Vec Ideal S2048x384 .f32 := fun j => back (column f (j 1)) (j 0).val n

/-- Pieces that leave nothing in the first sixteen rows. -/
def Padded (L : List (View.Piece (Elt Ideal) S2064x384 .f32)) : Prop := ∀ y : S2064x384.Idx, (y 0).val < 16 → (View.canon L y : EReal) = 0

theorem not_mem_body {y : S2064x384.Idx} (h : (y 0).val < 16) : y ∉ body.set := by
  intro hm
  obtain ⟨x, hx⟩ := body.exists_idx_of_mem hm
  have h0 : (y 0).val = 16 + 1 * (x 0).val := by rw [← hx]; rfl
  omega

theorem padded_pad : Padded [⟨pad, k0_pay2 (F := Ideal)⟩] := by
  intro y hy
  have hx : pad.emb (ix2 (⟨(y 0).val, hy⟩ : Fin 16) (y 1 : Fin 384)) = y := by
    funext a
    refine Fin.ext ?_
    match a with
    | ⟨0, _⟩ => show 0 + 1 * (y 0).val = (y 0).val; omega
    | ⟨1, _⟩ => show 0 + 1 * (y 1).val = (y 1).val; omega
  rw [← hx]
  refine (View.canon_cons_emb (Val := Elt Ideal) (e := .f32) pad (k0_pay2 (F := Ideal)) [] _).trans ?_
  generalize (⟨(y 0).val, _⟩ : Fin 16) = r
  generalize (y 1 : Fin 384) = k
  unfold k0_pay2
  pointwise

theorem padded_body {f : Vec Ideal S2048x384 .f32} {L : List (View.Piece (Elt Ideal) S2064x384 .f32)} (h : Padded L) : Padded (⟨body, f⟩ :: L) := fun y hy =>
  (View.canon_cons_of_not_mem (⟨body, f⟩ : View.Piece (Elt Ideal) S2064x384 .f32) L (not_mem_body hy)).trans (h y hy)

/-- What is read back of them from row `o` on. -/
theorem read_moved {sp : Space} (v : View sig .tc sp S2064x384 .f32) (o : ℕ) (inb) (f : Vec Ideal S2048x384 .f32) (L : List (View.Piece (Elt Ideal) S2064x384 .f32)) (ho : o ≤ 16) (h : Padded L) :
    v.readCov (⟨body, f⟩ :: L) (Rect.unit (s := S2064x384) ![o, 0] ![2048, 384] inb).toLoadRect = moved (16 - o) f := by
  rw [View.readCov_eq_canon']
  funext j
  have hj : (j 0).val < 2048 := (j 0).isLt
  by_cases hn : 16 - o ≤ (j 0).val
  · have hx : (Rect.unit (s := S2064x384) ![o, 0] ![2048, 384] inb).toLoadRect.idx j = body.emb (ix2 (⟨(j 0).val - (16 - o), by omega⟩ : Fin 2048) (j 1 : Fin 384)) := by
      funext a
      refine Fin.ext ?_
      match a with
      | ⟨0, _⟩ => show o + 1 * (j 0).val = 16 + 1 * ((j 0).val - (16 - o)); omega
      | ⟨1, _⟩ => show 0 + 1 * (j 1).val = 0 + 1 * (j 1).val; omega
    rw [hx]
    exact (View.canon_cons_emb body f L _).trans (((if_pos hn).trans (ext_of_lt (column f (j 1)) ⟨_, by omega⟩)).symm)
  · refine (padded_body h _ ?_).trans (if_neg hn).symm
    show o + 1 * (j 0).val < 16
    omega

theorem moved_apply (n : ℕ) (f : Vec Ideal S2048x384 .f32) (l : Fin 2048) (k : Fin 384) : (moved n f (ix2 l k) : EReal) = back (column f k) l.val n := rfl

/-! ## The passes -/

section Payloads

variable (x0 : Vec Ideal S2048x384 .bf16) (x1 : Vec Ideal S384x384 .bf16) (x2 : Vec Ideal S1x384 .f32)

/-- The rows one, two, four and eight before, of the sums of one, two, four and eight rows. -/
abbrev mv1 : Vec Ideal S2048x384 .f32 := moved 1 (k0_pay4 (F := Ideal) x0)

abbrev mv2 : Vec Ideal S2048x384 .f32 := moved 2 (k0_pay6 (F := Ideal) x0 (mv1 x0))

abbrev mv4 : Vec Ideal S2048x384 .f32 := moved 4 (k0_pay8 (F := Ideal) x0 (mv1 x0) (mv2 x0))

abbrev mv8 : Vec Ideal S2048x384 .f32 := moved 8 (k0_pay10 (F := Ideal) x0 (mv1 x0) (mv2 x0) (mv4 x0))

theorem pay3_apply (l : Fin 2048) (k : Fin 384) : (k0_pay3 (F := Ideal) x0 (ix2 l k) : EReal) = row x0 l k := by
  unfold k0_pay3
  pointwise

theorem sum2_apply (l : Fin 2048) (k : Fin 384) : (k0_pay5 (F := Ideal) x0 (mv1 x0) (ix2 l k) : EReal) = ∑ i ∈ Finset.range 2, back (fun t => row x0 t k) l.val i := by
  have hc : column (k0_pay4 (F := Ideal) x0) k = fun t => row x0 t k := funext fun t => by
    have h := pay3_apply x0 t k
    unfold column k0_pay4
    generalize k0_pay3 (F := Ideal) x0 = d at h
    pointwise
    exact h
  have hm := moved_apply 1 (k0_pay4 (F := Ideal) x0) l k
  rw [hc] at hm
  have hd := doubled (fun t => row x0 t k) (fun t => row x0 t k) 1 (fun l => by rw [Finset.sum_range_one, back_zero]) l
  have h := pay3_apply x0 l k
  unfold mv1 k0_pay5
  generalize moved 1 (k0_pay4 (F := Ideal) x0) = u at hm
  generalize k0_pay3 (F := Ideal) x0 = d at h
  pointwise
  rw [h, hm]
  exact hd

/-- One more pass: `g` the sum of a pass and of its rows moved, `f` the pass as it was stored. -/
theorem next_pass (w : ℕ) (u : Fin 2048 → EReal) (k : Fin 384) (p f g : Vec Ideal S2048x384 .f32) (hp : ∀ l, (p (ix2 l k) : EReal) = ∑ i ∈ Finset.range w, back u l.val i)
    (hf : ∀ l, (f (ix2 l k) : EReal) = p (ix2 l k)) (hg : ∀ l, (g (ix2 l k) : EReal) = (p (ix2 l k) : EReal) + moved w f (ix2 l k)) (l : Fin 2048) :
    (g (ix2 l k) : EReal) = ∑ i ∈ Finset.range (w + w), back u l.val i := by
  rw [hg, moved_apply, show column f k = column p k from funext hf]
  exact doubled (column p k) u w hp l

theorem sum4_apply (l : Fin 2048) (k : Fin 384) : (k0_pay7 (F := Ideal) x0 (mv1 x0) (mv2 x0) (ix2 l k) : EReal) = ∑ i ∈ Finset.range 4, back (fun t => row x0 t k) l.val i := by
  refine next_pass 2 (fun t => row x0 t k) k (k0_pay5 (F := Ideal) x0 (mv1 x0)) (k0_pay6 (F := Ideal) x0 (mv1 x0)) _ (fun l => sum2_apply x0 l k) (fun l => ?_) (fun l => ?_) l
  · unfold k0_pay6
    generalize k0_pay5 (F := Ideal) x0 (mv1 x0) = d
    pointwise
  · unfold mv2 k0_pay7
    generalize moved 2 (k0_pay6 (F := Ideal) x0 (mv1 x0)) = u
    generalize k0_pay5 (F := Ideal) x0 (mv1 x0) = d
    pointwise

theorem sum8_apply (l : Fin 2048) (k : Fin 384) : (k0_pay9 (F := Ideal) x0 (mv1 x0) (mv2 x0) (mv4 x0) (ix2 l k) : EReal) = ∑ i ∈ Finset.range 8, back (fun t => row x0 t k) l.val i := by
  refine next_pass 4 (fun t => row x0 t k) k (k0_pay7 (F := Ideal) x0 (mv1 x0) (mv2 x0)) (k0_pay8 (F := Ideal) x0 (mv1 x0) (mv2 x0)) _ (fun l => sum4_apply x0 l k) (fun l => ?_) (fun l => ?_) l
  · unfold k0_pay8
    generalize k0_pay7 (F := Ideal) x0 (mv1 x0) (mv2 x0) = d
    pointwise
  · unfold mv4 k0_pay9
    generalize moved 4 (k0_pay8 (F := Ideal) x0 (mv1 x0) (mv2 x0)) = u
    generalize k0_pay7 (F := Ideal) x0 (mv1 x0) (mv2 x0) = d
    pointwise

theorem sum16_apply (l : Fin 2048) (k : Fin 384) :
    (k0_pay11 (F := Ideal) x0 (mv1 x0) (mv2 x0) (mv4 x0) (mv8 x0) (ix2 l k) : EReal) = ∑ i ∈ Finset.range 16, back (fun t => row x0 t k) l.val i := by
  refine next_pass 8 (fun t => row x0 t k) k (k0_pay9 (F := Ideal) x0 (mv1 x0) (mv2 x0) (mv4 x0)) (k0_pay10 (F := Ideal) x0 (mv1 x0) (mv2 x0) (mv4 x0)) _ (fun l => sum8_apply x0 l k)
    (fun l => ?_) (fun l => ?_) l
  · unfold k0_pay10
    generalize k0_pay9 (F := Ideal) x0 (mv1 x0) (mv2 x0) (mv4 x0) = d
    pointwise
  · unfold mv8 k0_pay11
    generalize moved 8 (k0_pay10 (F := Ideal) x0 (mv1 x0) (mv2 x0) (mv4 x0)) = u
    generalize k0_pay9 (F := Ideal) x0 (mv1 x0) (mv2 x0) (mv4 x0) = d
    pointwise

theorem win_lanes (k : Fin 384) : (if k.val < 96 then (((2 : ℕ) : ℝ) : EReal) else if k.val < 192 then (((4 : ℕ) : ℝ) : EReal) else if k.val < 288 then (((8 : ℕ) : ℝ) : EReal) else (((16 : ℕ) : ℝ) : EReal))
    = ((win k : ℕ) : ℝ) := by
  unfold win
  split_ifs <;> rfl

/-- The differences, as the body has them from the passes. -/
abbrev dif (v5 v10 v15 v20 v25 : Vec Ideal S2048x384 .f32) : Vec Ideal S2048x384 .bf16 :=
  k0_pay14 (F := Ideal) v5 v10 v15 v20 v25 (iota .tc S1x384 32 [1] iota_S1x384_d1_w32) k0_pay12 k0_pay13

/-- The pass of a column's window. -/
theorem dif_apply (v5 v10 v15 v20 v25 : Vec Ideal S2048x384 .f32) (l : Fin 2048) (k : Fin 384) : (dif v5 v10 v15 v20 v25 (ix2 l k) : EReal)
    = (if win k = 2 then (v10 (ix2 l k) : EReal) else if win k = 4 then v15 (ix2 l k) else if win k = 8 then v20 (ix2 l k) else v25 (ix2 l k)) * (cnt (win k) l.val)⁻¹ - v5 (ix2 l k) := by
  have hw := win_le k
  unfold dif k0_pay14 k0_pay12 k0_pay13
  pointwise
  simp only [below 96 (by omega), below 192 (by omega), below 288 (by omega), select_below, lit2, lit4, lit8, lit16, win_lanes, win_eq]
  by_cases hl : l.val < 16
  · rw [dif_pos hl, next_int l.isLt, min_next, div_cnt (by omega)]
  · have hc : cnt (win k) l.val = ((win k : ℕ) : ℝ) := congrArg (fun n : ℕ => ((n : ℝ) : EReal)) (Nat.min_eq_right (by omega))
    have hi : (⟨16 + (l.val - 16), by omega⟩ : Fin 2048) = l := Fin.ext (show 16 + (l.val - 16) = l.val by omega)
    have h1 : Ideal.div 1 (((win k : ℕ) : ℝ) : EReal) = (cnt (win k) l.val)⁻¹ := by
      rw [← hc, div_cnt (by omega)]
      exact one_mul _
    rw [dif_neg hl, h1, hi]

/-- The differences from the block's rows. -/
abbrev difs : Vec Ideal S2048x384 .bf16 :=
  dif (k0_pay3 (F := Ideal) x0) (k0_pay5 (F := Ideal) x0 (mv1 x0)) (k0_pay7 (F := Ideal) x0 (mv1 x0) (mv2 x0)) (k0_pay9 (F := Ideal) x0 (mv1 x0) (mv2 x0) (mv4 x0))
    (k0_pay11 (F := Ideal) x0 (mv1 x0) (mv2 x0) (mv4 x0) (mv8 x0))

theorem difs_apply (l : Fin 2048) (k : Fin 384) : (difs x0 (ix2 l k) : EReal) = diffs (row x0) l k := by
  refine (dif_apply _ _ _ _ _ l k).trans ?_
  rw [pay3_apply, sum2_apply, sum4_apply, sum8_apply, sum16_apply]
  unfold diffs averaged
  refine congrArg (fun z : EReal => z * (cnt (win k) l.val)⁻¹ - row x0 l k) ?_
  by_cases e2 : win k = 2
  · rw [if_pos e2, e2]
  rw [if_neg e2]
  by_cases e4 : win k = 4
  · rw [if_pos e4, e4]
  rw [if_neg e4]
  by_cases e8 : win k = 8
  · rw [if_pos e8, e8]
  rw [if_neg e8]
  have e16 : win k = 16 := by
    unfold win at *
    split_ifs at * <;> omega
  rw [e16]

theorem out_apply (d : Vec Ideal S2048x384 .bf16) (l : Fin 2048) (k : Fin 384) :
    (k0_pay1 (F := Ideal) (matmul (φ₁ := .bf16) (φ₂ := .bf16) dot_S2048x384_S384x384_S2048x384_1_0_0_1_n_n none d x1 (constant (F := Ideal) S2048x384 .f32 0x00000000#32)) x2 (ix2 l k) : EReal)
      = (∑ j : Fin 384, (d (ix2 l j) : EReal) * row x1 j k) * row x2 0 k := by
  unfold k0_pay1
  pointwise

end Payloads

section Outs

variable (c : Dev nD) (i : grid0.Coords) (arg1 : Memref sig .tc .vmem S2048x384 .bf16) (harg1 : arg1.IsWhole) (arg2 : Memref sig .tc .vmem S384x384 .bf16) (harg2 : arg2.IsWhole) (arg3 : Memref sig .tc .vmem S1x384 .f32) (harg3 : arg3.IsWhole) (arg4 : Memref sig .tc .vmem S2048x384 .bf16) (harg4 : arg4.IsWhole) (arg5 : Memref sig .tc .vmem S2048x384 .bf16) (harg5 : arg5.IsWhole) (arg6 : Memref sig .tc .vmem S2064x384 .f32) (harg6 : arg6.IsWhole)
  (x0 : Vec Ideal S2048x384 .bf16) (x1 : Vec Ideal S384x384 .bf16) (x2 : Vec Ideal S1x384 .f32)

theorem out4 (l : Fin 2048) (k : Fin 384) :
    (out0_A_4 (F := Ideal) c i arg1 harg1 arg2 harg2 arg3 harg3 arg4 harg4 arg5 harg5 arg6 harg6 x0 x1 x2 (ix2 l k) : EReal) = diffs (row x0) l k := by
  frame_open
  frame_out
  simp (disch := first | decide | exact padded_pad | exact padded_body padded_pad | exact padded_body (padded_body padded_pad) | exact padded_body (padded_body (padded_body padded_pad))) only [read_moved]
  exact difs_apply x0 l k

theorem out3 (l : Fin 2048) (k : Fin 384) :
    (out0_A_3 (F := Ideal) c i arg1 harg1 arg2 harg2 arg3 harg3 arg4 harg4 arg5 harg5 arg6 harg6 x0 x1 x2 (ix2 l k) : EReal) = mixed (row x0) (row x1) (row x2 0) l k := by
  frame_open
  frame_out
  simp (disch := first | decide | exact padded_pad | exact padded_body padded_pad | exact padded_body (padded_body padded_pad) | exact padded_body (padded_body (padded_body padded_pad))) only [read_moved]
  refine (out_apply x1 x2 (difs x0) l k).trans ?_
  simp only [difs_apply]
  rfl

end Outs

end Cert.PoolProof.Fwd

end
-- ==== Proof.PoolFBlocks.lean ====
/-
The pooling over the whole grid at exact float values: the call's two result arrays.
-/
module

public import proofs.«01_k».proof.Proof.PoolFPoint
public import proofs.«01_k».proof.Proof.PoolBBlocks

@[expose] public section

set_option maxRecDepth 16384

noncomputable section

namespace Cert.PoolProof.Fwd

open Idealize.ShloMosaic Idealize.ShloMosaic.TcCoe Idealize.SL.Sem
open Cert.PoolFIdeal Cert.PoolFIdeal.Gen
open Cert.BackProof (row)
open Cert.AttnProof (seqAt seqOf posOf seqRows seqOf_seqAt posOf_seqAt)

/-- The input projection's columns of the pooling. -/
abbrev valueCols (x : (⟨2, ![8192, 2048]⟩ : Shape).Idx → EReal) : (⟨2, ![8192, 384]⟩ : Shape).Idx → EReal := fun j => x (ix2 (j 0) ⟨(j 1).val, Nat.lt_trans (j 1).isLt (by decide)⟩)

/-- The sequence of point `t`. -/
abbrev seqT (t : Fin cfg0.N) : Fin 4 := ⟨t.val, t.isLt⟩

/-- The rows of point `t`. -/
abbrev tile {n : ℕ} (x : (⟨2, ![8192, n]⟩ : Shape).Idx → EReal) (t : Fin cfg0.N) : (⟨2, ![2048, n]⟩ : Shape).Idx → EReal := fun j => x (ix2 (seqAt (seqT t) (j 0)) (j 1))

theorem idx : ∀ t : Fin cfg0.N, win0_0.index t = ![t.val, 0] ∧ win0_1.index t = ![0, 0] ∧ win0_2.index t = ![0, 0] :=
  (by decide +kernel : ∀ t : Fin grid0.N, _)

theorem idx_out : ∀ t : Fin cfg0.N, win0_3.index t = ![t.val, 0] ∧ win0_4.index t = ![t.val, 0] :=
  (by decide +kernel : ∀ t : Fin grid0.N, _)

variable (m : (ℓ : Loc nD τ sig) → Buf (Elt Ideal) ℓ) (c : Dev nD)

section Blocks

variable (t : Fin cfg0.N)

theorem block0 : (X0_0 m c t : Vec Ideal S2048x384 .bf16) = tile (valueCols (m ((c : Thread nD τ).loc main_arg0))) t := by
  funext j
  unfold X0_0 Pipeline.Window.fill
  rw [dif_pos (moved0_0 t j)]
  refine congrArg (m ((c : Thread nD τ).loc main_arg0)) (funext fun a => Fin.ext ?_)
  match a with
  | ⟨0, _⟩ => exact (Pipeline.Window.rect_emb_val win0_0 t _ (0 : Fin 2)).trans (congrArg (· + _) (congrArg (· * 2048) (congrFun (idx t).1 0)))
  | ⟨1, _⟩ => exact Pipeline.Window.rect_emb_val_of_index_zero win0_0 t (1 : Fin 2) (congrFun (idx t).1 1) _

theorem block1 : (iblk m c 1 t : Vec Ideal S384x384 .bf16) = m ((c : Thread nD τ).loc main_arg1) := by
  blk_ext! [iblk, V, idx t]

theorem block2 : (iblk m c 2 t : Vec Ideal S1x384 .f32) = m ((c : Thread nD τ).loc main_arg2) := by
  blk_ext! [iblk, V, idx t]

end Blocks

/-- What the call computes of a sequence: the mixer's outputs and the differences. -/
abbrev seqY (b : Fin 4) (l : Fin 2048) (k : Fin 384) : EReal :=
  mixed (seqRows (valueCols (m ((c : Thread nD τ).loc main_arg0))) b) (row (m ((c : Thread nD τ).loc main_arg1))) (row (m ((c : Thread nD τ).loc main_arg2)) 0) l k

abbrev seqD (b : Fin 4) (l : Fin 2048) (k : Fin 384) : EReal := diffs (seqRows (valueCols (m ((c : Thread nD τ).loc main_arg0))) b) l k

abbrev resY : Vec Ideal S8192x384 .bf16 := fun j => seqY m c (seqOf (j 0)) (posOf (j 0)) (j 1)

abbrev resD : Vec Ideal S8192x384 .bf16 := fun j => seqD m c (seqOf (j 0)) (posOf (j 0)) (j 1)

theorem pointY (t : Fin cfg0.N) (l : Fin 2048) (q : Fin 384) : ((outsAt0 m c t).1 (ix2 l q) : EReal) = resY m c (ix2 (seqAt (seqT t) l) q) := by
  refine Eq.trans ?_ (congrArg₂ (fun b' l' => seqY m c b' l' q) (seqOf_seqAt (seqT t) l) (posOf_seqAt (seqT t) l)).symm
  unfold outsAt0
  dsimp only
  rw [out3, block0, block1, block2]
  rfl

theorem pointD (t : Fin cfg0.N) (l : Fin 2048) (q : Fin 384) : ((outsAt0 m c t).2 (ix2 l q) : EReal) = resD m c (ix2 (seqAt (seqT t) l) q) := by
  refine Eq.trans ?_ (congrArg₂ (fun b' l' => seqD m c b' l' q) (seqOf_seqAt (seqT t) l) (posOf_seqAt (seqT t) l)).symm
  unfold outsAt0
  dsimp only
  rw [out4, block0]
  rfl

/-- The point whose block holds a row. -/
abbrev pointOf (i : S8192x384.Idx) : Fin cfg0.N := ⟨(i 0).val / 2048, by have : (i 0).val < 8192 := (i 0).isLt; show _ < 4; omega⟩

theorem pointOf_le (i : S8192x384.Idx) : (pointOf i).val * 2048 ≤ (i 0).val ∧ (i 0).val < (pointOf i).val * 2048 + 2048 := by
  show (i 0).val / 2048 * 2048 ≤ (i 0).val ∧ (i 0).val < (i 0).val / 2048 * 2048 + 2048
  omega

theorem final3 : (dats m 0 c).arrAt 3 cfg0.N = resY m c := by
  refine (dats m 0 c).arrAt_eq_of_cover 3 (resY m c) (fun t _ => funext fun y => ?_) fun i => ⟨pointOf i, flush0_3 _, ?_⟩
  · rw [Value.flushed3]
    blk_simp
    exact entry_eq _ (resY m c) t (fun e k => pointY m c t e k) y _ _ (fun _ => rfl)
      ((Pipeline.Window.rect_emb_val win0_3 t y (0 : Fin 2)).trans (congrArg (· + _) (congrArg (· * 2048) (congrFun (idx_out t).1 0))))
      (Pipeline.Window.rect_emb_val_of_index_zero win0_3 t (1 : Fin 2) (congrFun (idx_out t).1 1) y)
  · have : (i 1).val < 384 := (i 1).isLt
    mem_blk [idx_out]
    exact ⟨pointOf_le i, Nat.zero_le _, this⟩

theorem final4 : (dats m 0 c).arrAt 4 cfg0.N = resD m c := by
  refine (dats m 0 c).arrAt_eq_of_cover 4 (resD m c) (fun t _ => funext fun y => ?_) fun i => ⟨pointOf i, flush0_4 _, ?_⟩
  · rw [Value.flushed4]
    blk_simp
    exact entry_eq _ (resD m c) t (fun e k => pointD m c t e k) y _ _ (fun _ => rfl)
      ((Pipeline.Window.rect_emb_val win0_4 t y (0 : Fin 2)).trans (congrArg (· + _) (congrArg (· * 2048) (congrFun (idx_out t).2 0))))
      (Pipeline.Window.rect_emb_val_of_index_zero win0_4 t (1 : Fin 2) (congrFun (idx_out t).2 1) y)
  · have : (i 1).val < 384 := (i 1).isLt
    mem_blk [idx_out]
    exact ⟨pointOf_le i, Nat.zero_le _, this⟩

end Cert.PoolProof.Fwd

end
-- ==== Proof.PoolFRef.lean ====
/-
The reference of the pooling at exact float values, read one entry at a time.
-/
module

public import proofs.«01_k».proof.Proof.Gen.PoolFRefIdeal.Run
public import proofs.«01_k».proof.Proof.PoolFBlocks
public import proofs.«01_k».proof.Proof.PoolBRef

@[expose] public section

set_option maxRecDepth 16384

noncomputable section

namespace Cert.PoolProof.Fwd.Ref

open Idealize.ShloMosaic Idealize.ShloMosaic.TcCoe Idealize.SL.Sem
open Cert.PoolFRefIdeal Cert.PoolFRefIdeal.Gen Cert.PoolProof
open Cert.PoolProof.Ref (mean mean_apply)
open Cert.BackProof (row)
open Cert.AttnProof (seqAt seqOf posOf seqRows)

variable (x0 : FVec Ideal S8192x2048 .bf16) (x1 : FVec Ideal S384x384 .bf16) (x2 : FVec Ideal S1x384 .f32)

abbrev vals : FVec Ideal S4x2048x384 .f32 :=
  shapeCast S4x2048x384 (extractStridedSlice S8192x384 ![0, 0] (extf .f32 x0 bitsLt_bf16_f32) slices_S8192x2048_S8192x384_0_0) shapeCasts_S8192x384_S4x2048x384

/-- A group's columns: their means over windows of `w` rows, less themselves. -/
abbrev group (w : BitVec 32) (p : FVec Ideal S4x2048x96 .f32) : FVec Ideal S4x2048x96 .f32 :=
  subf (transpose S4x2048x96 [0, 2, 1] (Host.dotGeneral dot_S4x2048x96_S2048x2048_S4x96x2048_1_1_02_0_n_n none p (mean w)) transposes_S4x96x2048_S4x2048x96_0_2_1) p

abbrev part0 : FVec Ideal S4x2048x96 .f32 := extractStridedSlice S4x2048x96 ![0, 0, 0] (vals x0) slices_S4x2048x384_S4x2048x96_0_0_0

abbrev part1 : FVec Ideal S4x2048x96 .f32 := extractStridedSlice S4x2048x96 ![0, 0, 96] (vals x0) slices_S4x2048x384_S4x2048x96_0_0_96

abbrev part2 : FVec Ideal S4x2048x96 .f32 := extractStridedSlice S4x2048x96 ![0, 0, 192] (vals x0) slices_S4x2048x384_S4x2048x96_0_0_192

abbrev part3 : FVec Ideal S4x2048x96 .f32 := extractStridedSlice S4x2048x96 ![0, 0, 288] (vals x0) slices_S4x2048x384_S4x2048x96_0_0_288

abbrev dif : FVec Ideal S8192x384 .f32 :=
  shapeCast S8192x384 (concatenate S4x2048x384 2 [⟨S4x2048x96, group 2#32 (part0 x0)⟩, ⟨S4x2048x96, group 4#32 (part1 x0)⟩, ⟨S4x2048x96, group 8#32 (part2 x0)⟩, ⟨S4x2048x96, group 16#32 (part3 x0)⟩] concatenates_S4x2048x96_S4x2048x96_S4x2048x96_S4x2048x96_S4x2048x384_d2) shapeCasts_S4x2048x384_S8192x384

abbrev outD : FVec Ideal S8192x384 .bf16 := truncf .bf16 (dif x0) bitsLt_bf16_f32

abbrev outY : FVec Ideal S8192x384 .bf16 :=
  truncf .bf16 (mulf (Host.dotGeneral dot_S8192x384_S384x384_S8192x384_1_0_0_1_n_n none (dif x0) (extf .f32 x1 bitsLt_bf16_f32)) (broadcastInDim S8192x384 ![0, 1] bcast_S1x384_S8192x384_0_1 x2)) bitsLt_bf16_f32

theorem vals_apply (b : Fin 4) (l : Fin 2048) (k : Fin 384) : (vals x0 (ix3 b l k) : EReal) = seqRows (valueCols x0) b l k := by
  unfold vals
  pointwise
  rfl

/-- A sum of shares is the share of the sum. -/
theorem sum_share {w t : ℕ} (f : Fin 2048 → EReal) : ∑ s, f s * (cnt w t)⁻¹ = (∑ s, f s) * (cnt w t)⁻¹ := by
  have h0 : (0 : EReal) ≤ (cnt w t)⁻¹ := EReal.inv_nonneg_of_nonneg (EReal.coe_nonneg.mpr (Nat.cast_nonneg _))
  have h1 : (cnt w t)⁻¹ ≠ ⊤ := by
    unfold cnt
    rw [← EReal.coe_inv]
    exact EReal.coe_ne_top _
  let g : EReal →+ EReal := { toFun := fun z => z * (cnt w t)⁻¹, map_zero' := zero_mul _, map_add' := fun a b => EReal.right_distrib_of_nonneg_of_ne_top h0 h1 a b }
  exact (map_sum g f Finset.univ).symm

theorem group_apply (w : ℕ) (h0 : 0 < w) (hw : w ≤ 16) (p : FVec Ideal S4x2048x96 .f32) (b : Fin 4) (l : Fin 2048) (q : Fin 96) :
    (group (BitVec.ofNat 32 w) p (ix3 b l q) : EReal) = averaged w (fun t => p (ix3 b t q)) l := by
  have hm := mean_apply w h0 hw l
  unfold group
  generalize mean (BitVec.ofNat 32 w) = u at hm
  pointwise
  simp only [hm]
  unfold averaged
  refine congrArg (· - _) ?_
  rw [← sum_band, ← sum_share]
  refine Finset.sum_congr rfl fun s _ => ?_
  split_ifs
  · rfl
  · rw [mul_zero, zero_mul]

theorem averaged_congr {w w' : ℕ} {u u' : Fin 2048 → EReal} {l : Fin 2048} (hw : w = w') (hu : ∀ t, u t = u' t) : averaged w u l = averaged w' u' l := by
  rw [hw, funext hu]

theorem dif_apply (r : Fin 8192) (k : Fin 384) : (dif x0 (ix2 r k) : EReal) = diffs (seqRows (valueCols x0) (seqOf r)) (posOf r) k := by
  have h0 := group_apply 2 (by omega) (by omega) (part0 x0)
  have h1 := group_apply 4 (by omega) (by omega) (part1 x0)
  have h2 := group_apply 8 (by omega) (by omega) (part2 x0)
  have h3 := group_apply 16 (by omega) (by omega) (part3 x0)
  have hv := vals_apply x0
  have p0 : ∀ b t q, (part0 x0 (ix3 b t q) : EReal) = seqRows (valueCols x0) b t ⟨q.val, by omega⟩ := fun b t q => by
    unfold part0
    generalize vals x0 = d at hv
    pointwise
    exact hv _ _ _
  have p1 : ∀ b t q, (part1 x0 (ix3 b t q) : EReal) = seqRows (valueCols x0) b t ⟨96 + q.val, by omega⟩ := fun b t q => by
    unfold part1
    generalize vals x0 = d at hv
    pointwise
    exact hv _ _ _
  have p2 : ∀ b t q, (part2 x0 (ix3 b t q) : EReal) = seqRows (valueCols x0) b t ⟨192 + q.val, by omega⟩ := fun b t q => by
    unfold part2
    generalize vals x0 = d at hv
    pointwise
    exact hv _ _ _
  have p3 : ∀ b t q, (part3 x0 (ix3 b t q) : EReal) = seqRows (valueCols x0) b t ⟨288 + q.val, by omega⟩ := fun b t q => by
    unfold part3
    generalize vals x0 = d at hv
    pointwise
    exact hv _ _ _
  unfold dif
  generalize part0 x0 = q0 at h0 p0
  generalize part1 x0 = q1 at h1 p1
  generalize part2 x0 = q2 at h2 p2
  generalize part3 x0 = q3 at h3 p3
  generalize group 2#32 q0 = g0 at h0
  generalize group 4#32 q1 = g1 at h1
  generalize group 8#32 q2 = g2 at h2
  generalize group 16#32 q3 = g3 at h3
  pointwise
  by_cases a0 : k.val < 96
  · rw [dif_pos a0, h0]
    exact averaged_congr (if_pos a0).symm fun t => p0 _ _ _
  rw [dif_neg a0]
  by_cases a1 : k.val - 96 < 96
  · rw [dif_pos a1, h1]
    refine averaged_congr (by unfold win; split_ifs <;> omega) fun t => (p1 _ _ _).trans (congrArg (seqRows (valueCols x0) _ t) (Fin.ext ?_))
    show 96 + (k.val - 96) = k.val
    omega
  rw [dif_neg a1]
  by_cases a2 : k.val - 96 - 96 < 96
  · rw [dif_pos a2, h2]
    refine averaged_congr (by unfold win; split_ifs <;> omega) fun t => (p2 _ _ _).trans (congrArg (seqRows (valueCols x0) _ t) (Fin.ext ?_))
    show 192 + (k.val - 96 - 96) = k.val
    omega
  rw [dif_neg a2, h3]
  refine averaged_congr (by unfold win; split_ifs <;> omega) fun t => (p3 _ _ _).trans (congrArg (seqRows (valueCols x0) _ t) (Fin.ext ?_))
  show 288 + (k.val - 96 - 96 - 96) = k.val
  omega

theorem outD_apply (r : Fin 8192) (k : Fin 384) : (outD x0 (ix2 r k) : EReal) = diffs (seqRows (valueCols x0) (seqOf r)) (posOf r) k := by
  have h := dif_apply x0 r k
  unfold outD
  generalize dif x0 = d at h
  pointwise
  exact h

theorem outY_apply (r : Fin 8192) (k : Fin 384) : (outY x0 x1 x2 (ix2 r k) : EReal) = mixed (seqRows (valueCols x0) (seqOf r)) (row x1) (row x2 0) (posOf r) k := by
  have h := dif_apply x0 r
  unfold outY
  generalize dif x0 = d at h
  pointwise
  simp only [h]
  rfl

set_option maxHeartbeats 1000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v109) = outY (m ((c : Thread nD τ).loc main_arg0)) (m ((c : Thread nD τ).loc main_arg1)) (m ((c : Thread nD τ).loc main_arg2))
      ∧ r.2.mem ((c : Thread nD τ).loc main_v110) = outD (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Value.run m ρ

end Cert.PoolProof.Fwd.Ref

end
-- ==== Proof.PoolFValues.lean ====
/-
The pooling: the frames, and at exact float values the kernel's results against the reference's.
-/
module

public import proofs.«01_k».proof.Defs
public import proofs.«01_k».proof.Proof.PoolFBlocks
public import proofs.«01_k».proof.Proof.PoolFRef

@[expose] public section

set_option maxRecDepth 16384

noncomputable section

namespace Cert.PoolProof.Fwd

open Idealize.ShloMosaic Idealize.ShloMosaic.TcCoe Idealize.SL.Sem
open Cert.BackProof (row)
open Cert.AttnProof (seqOf posOf seqRows)

/-- The reference, which declares no semaphore. -/
theorem frame_reference : Cert.quiescent_PoolFRefIdeal := fun m ρ _ =>
  (θ_run Cert.PoolFRefIdeal.defs _ _).mono
    (fun _ h => ⟨fun c => (h c).2.2, funext fun g => by rcases g with ⟨_, s⟩; rcases s with s | s <;> exact s.elim0⟩)
    (Cert.PoolFRefIdeal.Value.run (F := Ideal) m ρ)

variable (x0 : FVec Ideal PoolFRefIdeal.S8192x2048 .bf16) (x1 : FVec Ideal PoolFRefIdeal.S384x384 .bf16) (x2 : FVec Ideal PoolFRefIdeal.S1x384 .f32)

theorem outY_eq : Ref.outY x0 x1 x2
    = fun j => mixed (seqRows (valueCols x0) (seqOf (j 0))) (row x1) (row x2 0) (posOf (j 0)) (j 1) := funext fun j =>
  (congrArg _ (ix2_eta (n0 := 8192) (n1 := 384) j).symm).trans (Ref.outY_apply x0 x1 x2 (j 0) (j 1))

theorem outD_eq : Ref.outD x0 = fun j => diffs (seqRows (valueCols x0) (seqOf (j 0))) (posOf (j 0)) (j 1) := funext fun j =>
  (congrArg _ (ix2_eta (n0 := 8192) (n1 := 384) j).symm).trans (Ref.outD_apply x0 (j 0) (j 1))

theorem algebraic : Cert.algebraic_PoolFIdeal_PoolFRefIdeal := fun m g m' g' _ hin =>
  ⟨resY m, resD m,
    (θ_run Cert.PoolFIdeal.defs _ _).mono (fun _ h c => by
      obtain ⟨h3, h4, kept⟩ := h c
      exact ⟨h3.trans (final3 m c), h4.trans (final4 m c), kept⟩) (Cert.PoolFIdeal.Value.run_blocks (F := Ideal) m g),
    (θ_run Cert.PoolFRefIdeal.defs _ _).mono (fun _ h c => by
      obtain ⟨e0, e1, e2⟩ := hin c
      obtain ⟨hy, hd, kept⟩ := h c
      refine ⟨hy.trans ?_, hd.trans ?_, kept⟩
      · rw [outY_eq, e0, e1, e2]
      · rw [outD_eq, e0]) (Ref.run m' g')⟩

end Cert.PoolProof.Fwd

end
-- ==== Proof.lean ====
/-
The certificate: the three frames, the idealization (no rewrite) and the value claim, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Values
public import proofs.«01_k».proof.Proof.Gen.Back
public import proofs.«01_k».proof.Proof.Gen.Back.Frame
public import proofs.«01_k».proof.Proof.Gen.BackIdeal
public import proofs.«01_k».proof.Proof.Gen.BackIdeal.Frame
public import proofs.«01_k».proof.Proof.Gen.BackIdeal.Value
public import proofs.«01_k».proof.Proof.Gen.BackRefIdeal
public import proofs.«01_k».proof.Proof.Gen.BackRefIdeal.Run
public import proofs.«01_k».proof.Proof.BackValues
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.TailValues
public import proofs.«01_k».proof.Proof.Gen.AttnB
public import proofs.«01_k».proof.Proof.Gen.AttnB.Frame
public import proofs.«01_k».proof.Proof.Gen.AttnBIdeal
public import proofs.«01_k».proof.Proof.Gen.AttnBIdeal.Frame
public import proofs.«01_k».proof.Proof.Gen.AttnBIdeal.Value
public import proofs.«01_k».proof.Proof.Gen.AttnBRefIdeal
public import proofs.«01_k».proof.Proof.Gen.AttnBRefIdeal.Run
public import proofs.«01_k».proof.Proof.AttnBValues
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.AttnFValues
public import proofs.«01_k».proof.Proof.Gen.Disc
public import proofs.«01_k».proof.Proof.Gen.Disc.Frame
public import proofs.«01_k».proof.Proof.Gen.DiscIdeal
public import proofs.«01_k».proof.Proof.Gen.DiscIdeal.Frame
public import proofs.«01_k».proof.Proof.Gen.DiscIdeal.Value
public import proofs.«01_k».proof.Proof.Gen.DiscRefIdeal
public import proofs.«01_k».proof.Proof.Gen.DiscRefIdeal.Run
public import proofs.«01_k».proof.Proof.DiscValues
public import proofs.«01_k».proof.Proof.Gen.PoolB
public import proofs.«01_k».proof.Proof.Gen.PoolB.Frame
public import proofs.«01_k».proof.Proof.Gen.PoolBIdeal
public import proofs.«01_k».proof.Proof.Gen.PoolBIdeal.Frame
public import proofs.«01_k».proof.Proof.Gen.PoolBIdeal.Value
public import proofs.«01_k».proof.Proof.Gen.PoolBRefIdeal
public import proofs.«01_k».proof.Proof.Gen.PoolBRefIdeal.Run
public import proofs.«01_k».proof.Proof.PoolBValues
public import proofs.«01_k».proof.Proof.Gen.PoolF
public import proofs.«01_k».proof.Proof.Gen.PoolF.Frame
public import proofs.«01_k».proof.Proof.Gen.PoolFIdeal
public import proofs.«01_k».proof.Proof.Gen.PoolFIdeal.Frame
public import proofs.«01_k».proof.Proof.Gen.PoolFIdeal.Value
public import proofs.«01_k».proof.Proof.Gen.PoolFRefIdeal
public import proofs.«01_k».proof.Proof.Gen.PoolFRefIdeal.Run
public import proofs.«01_k».proof.Proof.PoolFValues
public import Idealize.ShloMosaic.Adequacy
public import Idealize.ShloMosaic.Init

@[expose] public section

noncomputable section

namespace Cert.Proof

/-- All five claims of the reduction, of the input projection's backward pass, of the output projection with the loss, of the memory
    attention's backward and forward passes and of the pooling's, and of the discretisation's gradients: the kernel runs to an end from any memory, as printed and idealized, and so does the reference,
    each leaving its arguments and its counters as they were; idealizing rewrites nothing; and over the extended reals the kernel's outputs
    are the reference's, in the reduction each device's part of them. -/
theorem claim : Cert.Claim :=
  ⟨Cert.Kernel.Gen.facts, Cert.KernelIdeal.Gen.facts, Cert.ReferenceIdeal.Gen.facts,
    Cert.Back.Gen.facts, Cert.BackIdeal.Gen.facts, Cert.BackRefIdeal.Gen.facts,
    Cert.Tail.Gen.facts, Cert.TailIdeal.Gen.facts, Cert.TailRefIdeal.Gen.facts,
    Cert.AttnB.Gen.facts, Cert.AttnBIdeal.Gen.facts, Cert.AttnBRefIdeal.Gen.facts,
    Cert.AttnF.Gen.facts, Cert.AttnFIdeal.Gen.facts, Cert.AttnFRefIdeal.Gen.facts,
    Cert.PoolB.Gen.facts, Cert.PoolBIdeal.Gen.facts, Cert.PoolBRefIdeal.Gen.facts,
    Cert.PoolF.Gen.facts, Cert.PoolFIdeal.Gen.facts, Cert.PoolFRefIdeal.Gen.facts,
    Cert.Disc.Gen.facts, Cert.DiscIdeal.Gen.facts, Cert.DiscRefIdeal.Gen.facts,
    Cert.ReduceProof.frame_kernel, Cert.ReduceProof.frame_kernelIdeal, Cert.ReduceProof.frame_reference,
    fun m ρ _ => Cert.Back.Gen.frame m ρ, fun m ρ _ => Cert.BackIdeal.Gen.frame m ρ, Cert.BackProof.frame_reference,
    fun m ρ _ => Cert.Tail.Gen.frame m ρ, fun m ρ _ => Cert.TailIdeal.Gen.frame m ρ, Cert.TailProof.frame_reference,
    fun m ρ _ => Cert.AttnB.Gen.frame m ρ, fun m ρ _ => Cert.AttnBIdeal.Gen.frame m ρ, Cert.AttnProof.Bwd.frame_reference,
    fun m ρ _ => Cert.AttnF.Gen.frame m ρ, fun m ρ _ => Cert.AttnFIdeal.Gen.frame m ρ, Cert.AttnProof.Fwd.frame_reference,
    fun m ρ _ => Cert.PoolB.Gen.frame m ρ, fun m ρ _ => Cert.PoolBIdeal.Gen.frame m ρ, Cert.PoolProof.frame_reference,
    fun m ρ _ => Cert.PoolF.Gen.frame m ρ, fun m ρ _ => Cert.PoolFIdeal.Gen.frame m ρ, Cert.PoolProof.Fwd.frame_reference,
    fun m ρ _ => Cert.Disc.Gen.frame m ρ, fun m ρ _ => Cert.DiscIdeal.Gen.frame m ρ, Cert.DiscProof.frame_reference,
    trivial, Cert.ReduceProof.algebraic, trivial, Cert.BackProof.algebraic, trivial, Cert.TailProof.algebraic,
    trivial, Cert.AttnProof.Bwd.algebraic, trivial, Cert.AttnProof.Fwd.algebraic,
    trivial, Cert.PoolProof.algebraic, trivial, Cert.PoolProof.Fwd.algebraic,
    trivial, Cert.DiscProof.algebraic⟩

end Cert.Proof

end
